-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvIdeal_finite_hw [hPre_finite_hw : Cert.Pre_finite_hw.Facts] (m : (ℓ : Loc Cert.QkvIdeal.nD Cert.QkvIdeal.τ Cert.QkvIdeal.sig) → Buf (Elt Ideal) ℓ) : Prop :=
  ∀ c : Dev Cert.QkvIdeal.nD,
    (Cert.Pre_finite_hw.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3))).1 = (fun _ => 1#1)
    ∧ (Cert.Pre_finite_hw.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3))).2 = (fun _ => 1#1)

def Pre_QkvRefIdeal (m : (ℓ : Loc Cert.QkvRefIdeal.nD Cert.QkvRefIdeal.τ Cert.QkvRefIdeal.sig) → Buf (Elt Ideal) ℓ) : Prop :=
  True

def Pre_QkvRefIdeal_finite_hw [hPre_finite_hw : Cert.Pre_finite_hw.Facts] (m : (ℓ : Loc Cert.QkvRefIdeal.nD Cert.QkvRefIdeal.τ Cert.QkvRefIdeal.sig) → Buf (Elt Ideal) ℓ) : Prop :=
  ∀ c : Dev Cert.QkvRefIdeal.nD,
    (Cert.Pre_finite_hw.fn (F := Ideal) (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (m ((c.tc : Thread Cert.QkvRefIdeal.nD Cert.QkvRefIdeal.τ).loc Cert.QkvRefIdeal.main_arg2)) (m ((c.tc : Thread Cert.QkvRefIdeal.nD Cert.QkvRefIdeal.τ).loc Cert.QkvRefIdeal.main_arg3))).1 = (fun _ => 1#1)
    ∧ (Cert.Pre_finite_hw.fn (F := Ideal) (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (m ((c.tc : Thread Cert.QkvRefIdeal.nD Cert.QkvRefIdeal.τ).loc Cert.QkvRefIdeal.main_arg2)) (m ((c.tc : Thread Cert.QkvRefIdeal.nD Cert.QkvRefIdeal.τ).loc Cert.QkvRefIdeal.main_arg3))).2 = (fun _ => 1#1)

def Pre_Ugv (m : (ℓ : Loc Cert.Ugv.nD Cert.Ugv.τ Cert.Ugv.sig) → Buf (Elt Bits) ℓ) : Prop :=
  True

def Pre_UgvIdeal (m : (ℓ : Loc Cert.UgvIdeal.nD Cert.UgvIdeal.τ Cert.UgvIdeal.sig) → Buf (Elt Ideal) ℓ) : Prop :=
  True

def Pre_UgvRefIdeal (m : (ℓ : Loc Cert.UgvRefIdeal.nD Cert.UgvRefIdeal.τ Cert.UgvRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_SharedUp (m : (ℓ : Loc Cert.SharedUp.nD Cert.SharedUp.τ Cert.SharedUp.sig) → Buf (Elt Bits) ℓ) : Prop :=
  True

def Pre_SharedUpIdeal (m : (ℓ : Loc Cert.SharedUpIdeal.nD Cert.SharedUpIdeal.τ Cert.SharedUpIdeal.sig) → Buf (Elt Ideal) ℓ) : Prop :=
  True

def Pre_SharedUpRefIdeal (m : (ℓ : Loc Cert.SharedUpRefIdeal.nD Cert.SharedUpRefIdeal.τ Cert.SharedUpRefIdeal.sig) → Buf (Elt Ideal) ℓ) : Prop :=
  True

def Pre_SharedDown (m : (ℓ : Loc Cert.SharedDown.nD Cert.SharedDown.τ Cert.SharedDown.sig) → Buf (Elt Bits) ℓ) : Prop :=
  True

def Pre_SharedDownIdeal (m : (ℓ : Loc Cert.SharedDownIdeal.nD Cert.SharedDownIdeal.τ Cert.SharedDownIdeal.sig) → Buf (Elt Ideal) ℓ) : Prop :=
  True

def Pre_SharedDownRefIdeal (m : (ℓ : Loc Cert.SharedDownRefIdeal.nD Cert.SharedDownRefIdeal.τ Cert.SharedDownRefIdeal.sig) → Buf (Elt Ideal) ℓ) : Prop :=
  True

def Pre_Adaln (m : (ℓ : Loc Cert.Adaln.nD Cert.Adaln.τ Cert.Adaln.sig) → Buf (Elt Bits) ℓ) : Prop :=
  True

def Pre_AdalnIdeal (m : (ℓ : Loc Cert.AdalnIdeal.nD Cert.AdalnIdeal.τ Cert.AdalnIdeal.sig) → Buf (Elt Ideal) ℓ) : Prop :=
  True

def Pre_AdalnRefIdeal (m : (ℓ : Loc Cert.AdalnRefIdeal.nD Cert.AdalnRefIdeal.τ Cert.AdalnRefIdeal.sig) → Buf (Elt Ideal) ℓ) : Prop :=
  True

def Pre_Modulate (m : (ℓ : Loc Cert.Modulate.nD Cert.Modulate.τ Cert.Modulate.sig) → Buf (Elt Bits) ℓ) : Prop :=
  True

def Pre_ModulateIdeal (m : (ℓ : Loc Cert.ModulateIdeal.nD Cert.ModulateIdeal.τ Cert.ModulateIdeal.sig) → Buf (Elt Ideal) ℓ) : Prop :=
  True

def Pre_ModulateRefIdeal (m : (ℓ : Loc Cert.ModulateRefIdeal.nD Cert.ModulateRefIdeal.τ Cert.ModulateRefIdeal.sig) → Buf (Elt Ideal) ℓ) : Prop :=
  True

def Pre_GmlpPrompt (m : (ℓ : Loc Cert.GmlpPrompt.nD Cert.GmlpPrompt.τ Cert.GmlpPrompt.sig) → Buf (Elt Bits) ℓ) : Prop :=
  True

def Pre_GmlpPromptIdeal (m : (ℓ : Loc Cert.GmlpPromptIdeal.nD Cert.GmlpPromptIdeal.τ Cert.GmlpPromptIdeal.sig) → Buf (Elt Ideal) ℓ) : Prop :=
  True

def Pre_GmlpPromptRefIdeal (m : (ℓ : Loc Cert.GmlpPromptRefIdeal.nD Cert.GmlpPromptRefIdeal.τ Cert.GmlpPromptRefIdeal.sig) → Buf (Elt Ideal) ℓ) : Prop :=
  True

def Pre_GmlpSample (m : (ℓ : Loc Cert.GmlpSample.nD Cert.GmlpSample.τ Cert.GmlpSample.sig) → Buf (Elt Bits) ℓ) : Prop :=
  True

def Pre_GmlpSampleIdeal (m : (ℓ : Loc Cert.GmlpSampleIdeal.nD Cert.GmlpSampleIdeal.τ Cert.GmlpSampleIdeal.sig) → Buf (Elt Ideal) ℓ) : Prop :=
  True

def Pre_GmlpSampleRefIdeal (m : (ℓ : Loc Cert.GmlpSampleRefIdeal.nD Cert.GmlpSampleRefIdeal.τ Cert.GmlpSampleRefIdeal.sig) → Buf (Elt Ideal) ℓ) : Prop :=
  True

def Pre_AttnSample (m : (ℓ : Loc Cert.AttnSample.nD Cert.AttnSample.τ Cert.AttnSample.sig) → Buf (Elt Bits) ℓ) : Prop :=
  True

def Pre_AttnSampleIdeal (m : (ℓ : Loc Cert.AttnSampleIdeal.nD Cert.AttnSampleIdeal.τ Cert.AttnSampleIdeal.sig) → Buf (Elt Ideal) ℓ) : Prop :=
  True

def Pre_AttnSampleIdeal_finite_qkv [hPre_finite_qkv : Cert.Pre_finite_qkv.Facts] (m : (ℓ : Loc Cert.AttnSampleIdeal.nD Cert.AttnSampleIdeal.τ Cert.AttnSampleIdeal.sig) → Buf (Elt Ideal) ℓ) : Prop :=
  ∀ c : Dev Cert.AttnSampleIdeal.nD,
    (Cert.Pre_finite_qkv.fn (F := Ideal) (m ((c.tc : Thread Cert.AttnSampleIdeal.nD Cert.AttnSampleIdeal.τ).loc Cert.AttnSampleIdeal.main_arg0)) (m ((c.tc : Thread Cert.AttnSampleIdeal.nD Cert.AttnSampleIdeal.τ).loc Cert.AttnSampleIdeal.main_arg1)) (m ((c.tc : Thread Cert.AttnSampleIdeal.nD Cert.AttnSampleIdeal.τ).loc Cert.AttnSampleIdeal.main_arg2)) (m ((c.tc : Thread Cert.AttnSampleIdeal.nD Cert.AttnSampleIdeal.τ).loc Cert.AttnSampleIdeal.main_arg3))).1 = (fun _ => 1#1)
    ∧ (Cert.Pre_finite_qkv.fn (F := Ideal) (m ((c.tc : Thread Cert.AttnSampleIdeal.nD Cert.AttnSampleIdeal.τ).loc Cert.AttnSampleIdeal.main_arg0)) (m ((c.tc : Thread Cert.AttnSampleIdeal.nD Cert.AttnSampleIdeal.τ).loc Cert.AttnSampleIdeal.main_arg1)) (m ((c.tc : Thread Cert.AttnSampleIdeal.nD Cert.AttnSampleIdeal.τ).loc Cert.AttnSampleIdeal.main_arg2)) (m ((c.tc : Thread Cert.AttnSampleIdeal.nD Cert.AttnSampleIdeal.τ).loc Cert.AttnSampleIdeal.main_arg3))).2.1 = (fun _ => 1#1)
    ∧ (Cert.Pre_finite_qkv.fn (F := Ideal) (m ((c.tc : Thread Cert.AttnSampleIdeal.nD Cert.AttnSampleIdeal.τ).loc Cert.AttnSampleIdeal.main_arg0)) (m ((c.tc : Thread Cert.AttnSampleIdeal.nD Cert.AttnSampleIdeal.τ).loc Cert.AttnSampleIdeal.main_arg1)) (m ((c.tc : Thread Cert.AttnSampleIdeal.nD Cert.AttnSampleIdeal.τ).loc Cert.AttnSampleIdeal.main_arg2)) (m ((c.tc : Thread Cert.AttnSampleIdeal.nD Cert.AttnSampleIdeal.τ).loc Cert.AttnSampleIdeal.main_arg3))).2.2 = (fun _ => 1#1)

def Pre_AttnSampleRefIdeal (m : (ℓ : Loc Cert.AttnSampleRefIdeal.nD Cert.AttnSampleRefIdeal.τ Cert.AttnSampleRefIdeal.sig) → Buf (Elt Ideal) ℓ) : Prop :=
  True

def Pre_AttnSampleRefIdeal_finite_qkv [hPre_finite_qkv : Cert.Pre_finite_qkv.Facts] (m : (ℓ : Loc Cert.AttnSampleRefIdeal.nD Cert.AttnSampleRefIdeal.τ Cert.AttnSampleRefIdeal.sig) → Buf (Elt Ideal) ℓ) : Prop :=
  ∀ c : Dev Cert.AttnSampleRefIdeal.nD,
    (Cert.Pre_finite_qkv.fn (F := Ideal) (m ((c.tc : Thread Cert.AttnSampleRefIdeal.nD Cert.AttnSampleRefIdeal.τ).loc Cert.AttnSampleRefIdeal.main_arg0)) (m ((c.tc : Thread Cert.AttnSampleRefIdeal.nD Cert.AttnSampleRefIdeal.τ).loc Cert.AttnSampleRefIdeal.main_arg1)) (m ((c.tc : Thread Cert.AttnSampleRefIdeal.nD Cert.AttnSampleRefIdeal.τ).loc Cert.AttnSampleRefIdeal.main_arg2)) (m ((c.tc : Thread Cert.AttnSampleRefIdeal.nD Cert.AttnSampleRefIdeal.τ).loc Cert.AttnSampleRefIdeal.main_arg3))).1 = (fun _ => 1#1)
    ∧ (Cert.Pre_finite_qkv.fn (F := Ideal) (m ((c.tc : Thread Cert.AttnSampleRefIdeal.nD Cert.AttnSampleRefIdeal.τ).loc Cert.AttnSampleRefIdeal.main_arg0)) (m ((c.tc : Thread Cert.AttnSampleRefIdeal.nD Cert.AttnSampleRefIdeal.τ).loc Cert.AttnSampleRefIdeal.main_arg1)) (m ((c.tc : Thread Cert.AttnSampleRefIdeal.nD Cert.AttnSampleRefIdeal.τ).loc Cert.AttnSampleRefIdeal.main_arg2)) (m ((c.tc : Thread Cert.AttnSampleRefIdeal.nD Cert.AttnSampleRefIdeal.τ).loc Cert.AttnSampleRefIdeal.main_arg3))).2.1 = (fun _ => 1#1)
    ∧ (Cert.Pre_finite_qkv.fn (F := Ideal) (m ((c.tc : Thread Cert.AttnSampleRefIdeal.nD Cert.AttnSampleRefIdeal.τ).loc Cert.AttnSampleRefIdeal.main_arg0)) (m ((c.tc : Thread Cert.AttnSampleRefIdeal.nD Cert.AttnSampleRefIdeal.τ).loc Cert.AttnSampleRefIdeal.main_arg1)) (m ((c.tc : Thread Cert.AttnSampleRefIdeal.nD Cert.AttnSampleRefIdeal.τ).loc Cert.AttnSampleRefIdeal.main_arg2)) (m ((c.tc : Thread Cert.AttnSampleRefIdeal.nD Cert.AttnSampleRefIdeal.τ).loc Cert.AttnSampleRefIdeal.main_arg3))).2.2 = (fun _ => 1#1)

def Pre_SampleModulate (m : (ℓ : Loc Cert.SampleModulate.nD Cert.SampleModulate.τ Cert.SampleModulate.sig) → Buf (Elt Bits) ℓ) : Prop :=
  True

def Pre_SampleModulateIdeal (m : (ℓ : Loc Cert.SampleModulateIdeal.nD Cert.SampleModulateIdeal.τ Cert.SampleModulateIdeal.sig) → Buf (Elt Ideal) ℓ) : Prop :=
  True

def Pre_SampleModulateRefIdeal (m : (ℓ : Loc Cert.SampleModulateRefIdeal.nD Cert.SampleModulateRefIdeal.τ Cert.SampleModulateRefIdeal.sig) → Buf (Elt Ideal) ℓ) : Prop :=
  True

def Pre_SampleQkv (m : (ℓ : Loc Cert.SampleQkv.nD Cert.SampleQkv.τ Cert.SampleQkv.sig) → Buf (Elt Bits) ℓ) : Prop :=
  True

def Pre_SampleQkvIdeal (m : (ℓ : Loc Cert.SampleQkvIdeal.nD Cert.SampleQkvIdeal.τ Cert.SampleQkvIdeal.sig) → Buf (Elt Ideal) ℓ) : Prop :=
  True

def Pre_SampleQkvIdeal_finite_hw_sample [hPre_finite_hw_sample : Cert.Pre_finite_hw_sample.Facts] (m : (ℓ : Loc Cert.SampleQkvIdeal.nD Cert.SampleQkvIdeal.τ Cert.SampleQkvIdeal.sig) → Buf (Elt Ideal) ℓ) : Prop :=
  ∀ c : Dev Cert.SampleQkvIdeal.nD,
    (Cert.Pre_finite_hw_sample.fn (F := Ideal) (m ((c.tc : Thread Cert.SampleQkvIdeal.nD Cert.SampleQkvIdeal.τ).loc Cert.SampleQkvIdeal.main_arg0)) (m ((c.tc : Thread Cert.SampleQkvIdeal.nD Cert.SampleQkvIdeal.τ).loc Cert.SampleQkvIdeal.main_arg1)) (m ((c.tc : Thread Cert.SampleQkvIdeal.nD Cert.SampleQkvIdeal.τ).loc Cert.SampleQkvIdeal.main_arg2)) (m ((c.tc : Thread Cert.SampleQkvIdeal.nD Cert.SampleQkvIdeal.τ).loc Cert.SampleQkvIdeal.main_arg3))).1 = (fun _ => 1#1)
    ∧ (Cert.Pre_finite_hw_sample.fn (F := Ideal) (m ((c.tc : Thread Cert.SampleQkvIdeal.nD Cert.SampleQkvIdeal.τ).loc Cert.SampleQkvIdeal.main_arg0)) (m ((c.tc : Thread Cert.SampleQkvIdeal.nD Cert.SampleQkvIdeal.τ).loc Cert.SampleQkvIdeal.main_arg1)) (m ((c.tc : Thread Cert.SampleQkvIdeal.nD Cert.SampleQkvIdeal.τ).loc Cert.SampleQkvIdeal.main_arg2)) (m ((c.tc : Thread Cert.SampleQkvIdeal.nD Cert.SampleQkvIdeal.τ).loc Cert.SampleQkvIdeal.main_arg3))).2 = (fun _ => 1#1)

def Pre_SampleQkvRefIdeal (m : (ℓ : Loc Cert.SampleQkvRefIdeal.nD Cert.SampleQkvRefIdeal.τ Cert.SampleQkvRefIdeal.sig) → Buf (Elt Ideal) ℓ) : Prop :=
  True

def Pre_SampleQkvRefIdeal_finite_hw_sample [hPre_finite_hw_sample : Cert.Pre_finite_hw_sample.Facts] (m : (ℓ : Loc Cert.SampleQkvRefIdeal.nD Cert.SampleQkvRefIdeal.τ Cert.SampleQkvRefIdeal.sig) → Buf (Elt Ideal) ℓ) : Prop :=
  ∀ c : Dev Cert.SampleQkvRefIdeal.nD,
    (Cert.Pre_finite_hw_sample.fn (F := Ideal) (m ((c.tc : Thread Cert.SampleQkvRefIdeal.nD Cert.SampleQkvRefIdeal.τ).loc Cert.SampleQkvRefIdeal.main_arg0)) (m ((c.tc : Thread Cert.SampleQkvRefIdeal.nD Cert.SampleQkvRefIdeal.τ).loc Cert.SampleQkvRefIdeal.main_arg1)) (m ((c.tc : Thread Cert.SampleQkvRefIdeal.nD Cert.SampleQkvRefIdeal.τ).loc Cert.SampleQkvRefIdeal.main_arg2)) (m ((c.tc : Thread Cert.SampleQkvRefIdeal.nD Cert.SampleQkvRefIdeal.τ).loc Cert.SampleQkvRefIdeal.main_arg3))).1 = (fun _ => 1#1)
    ∧ (Cert.Pre_finite_hw_sample.fn (F := Ideal) (m ((c.tc : Thread Cert.SampleQkvRefIdeal.nD Cert.SampleQkvRefIdeal.τ).loc Cert.SampleQkvRefIdeal.main_arg0)) (m ((c.tc : Thread Cert.SampleQkvRefIdeal.nD Cert.SampleQkvRefIdeal.τ).loc Cert.SampleQkvRefIdeal.main_arg1)) (m ((c.tc : Thread Cert.SampleQkvRefIdeal.nD Cert.SampleQkvRefIdeal.τ).loc Cert.SampleQkvRefIdeal.main_arg2)) (m ((c.tc : Thread Cert.SampleQkvRefIdeal.nD Cert.SampleQkvRefIdeal.τ).loc Cert.SampleQkvRefIdeal.main_arg3))).2 = (fun _ => 1#1)

def Pre_SampleUgv (m : (ℓ : Loc Cert.SampleUgv.nD Cert.SampleUgv.τ Cert.SampleUgv.sig) → Buf (Elt Bits) ℓ) : Prop :=
  True

def Pre_SampleUgvIdeal (m : (ℓ : Loc Cert.SampleUgvIdeal.nD Cert.SampleUgvIdeal.τ Cert.SampleUgvIdeal.sig) → Buf (Elt Ideal) ℓ) : Prop :=
  True

def Pre_SampleUgvRefIdeal (m : (ℓ : Loc Cert.SampleUgvRefIdeal.nD Cert.SampleUgvRefIdeal.τ Cert.SampleUgvRefIdeal.sig) → Buf (Elt Ideal) ℓ) : Prop :=
  True

def Pre_FfnNorm (m : (ℓ : Loc Cert.FfnNorm.nD Cert.FfnNorm.τ Cert.FfnNorm.sig) → Buf (Elt Bits) ℓ) : Prop :=
  True

def Pre_FfnNormIdeal (m : (ℓ : Loc Cert.FfnNormIdeal.nD Cert.FfnNormIdeal.τ Cert.FfnNormIdeal.sig) → Buf (Elt Ideal) ℓ) : Prop :=
  True

def Pre_FfnNormIdeal_finite_ffn [hPre_finite_ffn : Cert.Pre_finite_ffn.Facts] (m : (ℓ : Loc Cert.FfnNormIdeal.nD Cert.FfnNormIdeal.τ Cert.FfnNormIdeal.sig) → Buf (Elt Ideal) ℓ) : Prop :=
  ∀ c : Dev Cert.FfnNormIdeal.nD,
    (Cert.Pre_finite_ffn.fn (F := Ideal) (m ((c.tc : Thread Cert.FfnNormIdeal.nD Cert.FfnNormIdeal.τ).loc Cert.FfnNormIdeal.main_arg0)) (m ((c.tc : Thread Cert.FfnNormIdeal.nD Cert.FfnNormIdeal.τ).loc Cert.FfnNormIdeal.main_arg1)) (m ((c.tc : Thread Cert.FfnNormIdeal.nD Cert.FfnNormIdeal.τ).loc Cert.FfnNormIdeal.main_arg2)) (m ((c.tc : Thread Cert.FfnNormIdeal.nD Cert.FfnNormIdeal.τ).loc Cert.FfnNormIdeal.main_arg3))).1 = (fun _ => 1#1)
    ∧ (Cert.Pre_finite_ffn.fn (F := Ideal) (m ((c.tc : Thread Cert.FfnNormIdeal.nD Cert.FfnNormIdeal.τ).loc Cert.FfnNormIdeal.main_arg0)) (m ((c.tc : Thread Cert.FfnNormIdeal.nD Cert.FfnNormIdeal.τ).loc Cert.FfnNormIdeal.main_arg1)) (m ((c.tc : Thread Cert.FfnNormIdeal.nD Cert.FfnNormIdeal.τ).loc Cert.FfnNormIdeal.main_arg2)) (m ((c.tc : Thread Cert.FfnNormIdeal.nD Cert.FfnNormIdeal.τ).loc Cert.FfnNormIdeal.main_arg3))).2.1 = (fun _ => 1#1)
    ∧ (Cert.Pre_finite_ffn.fn (F := Ideal) (m ((c.tc : Thread Cert.FfnNormIdeal.nD Cert.FfnNormIdeal.τ).loc Cert.FfnNormIdeal.main_arg0)) (m ((c.tc : Thread Cert.FfnNormIdeal.nD Cert.FfnNormIdeal.τ).loc Cert.FfnNormIdeal.main_arg1)) (m ((c.tc : Thread Cert.FfnNormIdeal.nD Cert.FfnNormIdeal.τ).loc Cert.FfnNormIdeal.main_arg2)) (m ((c.tc : Thread Cert.FfnNormIdeal.nD Cert.FfnNormIdeal.τ).loc Cert.FfnNormIdeal.main_arg3))).2.2.1 = (fun _ => 1#1)
    ∧ (Cert.Pre_finite_ffn.fn (F := Ideal) (m ((c.tc : Thread Cert.FfnNormIdeal.nD Cert.FfnNormIdeal.τ).loc Cert.FfnNormIdeal.main_arg0)) (m ((c.tc : Thread Cert.FfnNormIdeal.nD Cert.FfnNormIdeal.τ).loc Cert.FfnNormIdeal.main_arg1)) (m ((c.tc : Thread Cert.FfnNormIdeal.nD Cert.FfnNormIdeal.τ).loc Cert.FfnNormIdeal.main_arg2)) (m ((c.tc : Thread Cert.FfnNormIdeal.nD Cert.FfnNormIdeal.τ).loc Cert.FfnNormIdeal.main_arg3))).2.2.2 = (fun _ => 1#1)

def Pre_FfnNormRefIdeal (m : (ℓ : Loc Cert.FfnNormRefIdeal.nD Cert.FfnNormRefIdeal.τ Cert.FfnNormRefIdeal.sig) → Buf (Elt Ideal) ℓ) : Prop :=
  True

def Pre_FfnNormRefIdeal_finite_ffn [hPre_finite_ffn : Cert.Pre_finite_ffn.Facts] (m : (ℓ : Loc Cert.FfnNormRefIdeal.nD Cert.FfnNormRefIdeal.τ Cert.FfnNormRefIdeal.sig) → Buf (Elt Ideal) ℓ) : Prop :=
  ∀ c : Dev Cert.FfnNormRefIdeal.nD,
    (Cert.Pre_finite_ffn.fn (F := Ideal) (m ((c.tc : Thread Cert.FfnNormRefIdeal.nD Cert.FfnNormRefIdeal.τ).loc Cert.FfnNormRefIdeal.main_arg0)) (m ((c.tc : Thread Cert.FfnNormRefIdeal.nD Cert.FfnNormRefIdeal.τ).loc Cert.FfnNormRefIdeal.main_arg1)) (m ((c.tc : Thread Cert.FfnNormRefIdeal.nD Cert.FfnNormRefIdeal.τ).loc Cert.FfnNormRefIdeal.main_arg2)) (m ((c.tc : Thread Cert.FfnNormRefIdeal.nD Cert.FfnNormRefIdeal.τ).loc Cert.FfnNormRefIdeal.main_arg3))).1 = (fun _ => 1#1)
    ∧ (Cert.Pre_finite_ffn.fn (F := Ideal) (m ((c.tc : Thread Cert.FfnNormRefIdeal.nD Cert.FfnNormRefIdeal.τ).loc Cert.FfnNormRefIdeal.main_arg0)) (m ((c.tc : Thread Cert.FfnNormRefIdeal.nD Cert.FfnNormRefIdeal.τ).loc Cert.FfnNormRefIdeal.main_arg1)) (m ((c.tc : Thread Cert.FfnNormRefIdeal.nD Cert.FfnNormRefIdeal.τ).loc Cert.FfnNormRefIdeal.main_arg2)) (m ((c.tc : Thread Cert.FfnNormRefIdeal.nD Cert.FfnNormRefIdeal.τ).loc Cert.FfnNormRefIdeal.main_arg3))).2.1 = (fun _ => 1#1)
    ∧ (Cert.Pre_finite_ffn.fn (F := Ideal) (m ((c.tc : Thread Cert.FfnNormRefIdeal.nD Cert.FfnNormRefIdeal.τ).loc Cert.FfnNormRefIdeal.main_arg0)) (m ((c.tc : Thread Cert.FfnNormRefIdeal.nD Cert.FfnNormRefIdeal.τ).loc Cert.FfnNormRefIdeal.main_arg1)) (m ((c.tc : Thread Cert.FfnNormRefIdeal.nD Cert.FfnNormRefIdeal.τ).loc Cert.FfnNormRefIdeal.main_arg2)) (m ((c.tc : Thread Cert.FfnNormRefIdeal.nD Cert.FfnNormRefIdeal.τ).loc Cert.FfnNormRefIdeal.main_arg3))).2.2.1 = (fun _ => 1#1)
    ∧ (Cert.Pre_finite_ffn.fn (F := Ideal) (m ((c.tc : Thread Cert.FfnNormRefIdeal.nD Cert.FfnNormRefIdeal.τ).loc Cert.FfnNormRefIdeal.main_arg0)) (m ((c.tc : Thread Cert.FfnNormRefIdeal.nD Cert.FfnNormRefIdeal.τ).loc Cert.FfnNormRefIdeal.main_arg1)) (m ((c.tc : Thread Cert.FfnNormRefIdeal.nD Cert.FfnNormRefIdeal.τ).loc Cert.FfnNormRefIdeal.main_arg2)) (m ((c.tc : Thread Cert.FfnNormRefIdeal.nD Cert.FfnNormRefIdeal.τ).loc Cert.FfnNormRefIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ r.2.sem = fun _ => 0)

def quiescent_QkvIdeal_pre_finite_hw [hQkvIdeal : Cert.QkvIdeal.Facts] [hPre_finite_hw : Cert.Pre_finite_hw.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal_finite_hw m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3))
      ∧ r.2.sem = fun _ => 0)

def quiescent_QkvRefIdeal_pre_finite_hw [hQkvRefIdeal : Cert.QkvRefIdeal.Facts] [hPre_finite_hw : Cert.Pre_finite_hw.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal_finite_hw m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3))
      ∧ r.2.sem = fun _ => 0)

def quiescent_Ugv [hUgv : Cert.Ugv.Facts] : Prop :=
  ∀ (m : (ℓ : Loc Cert.Ugv.nD Cert.Ugv.τ Cert.Ugv.sig) → Buf (Elt Bits) ℓ) (g : Dev Cert.Ugv.nD → PrngReg), Pre_Ugv m →
    θ_run (Cert.Ugv.defs (F := Bits)) (onTc (τ := Cert.Ugv.τ) (Cert.Ugv.main (F := Bits))) ⟨m, fun _ => 0, g⟩ (fun r => (∀ c : Dev Cert.Ugv.nD,
      r.2.mem ((c.tc : Thread Cert.Ugv.nD Cert.Ugv.τ).loc Cert.Ugv.main_arg0) = m ((c.tc : Thread Cert.Ugv.nD Cert.Ugv.τ).loc Cert.Ugv.main_arg0)
      ∧ r.2.mem ((c.tc : Thread Cert.Ugv.nD Cert.Ugv.τ).loc Cert.Ugv.main_arg1) = m ((c.tc : Thread Cert.Ugv.nD Cert.Ugv.τ).loc Cert.Ugv.main_arg1))
      ∧ r.2.sem = fun _ => 0)

def quiescent_UgvIdeal [hUgvIdeal : Cert.UgvIdeal.Facts] : Prop :=
  ∀ (m : (ℓ : Loc Cert.UgvIdeal.nD Cert.UgvIdeal.τ Cert.UgvIdeal.sig) → Buf (Elt Ideal) ℓ) (g : Dev Cert.UgvIdeal.nD → PrngReg), Pre_UgvIdeal m →
    θ_run (Cert.UgvIdeal.defs (F := Ideal)) (onTc (τ := Cert.UgvIdeal.τ) (Cert.UgvIdeal.main (F := Ideal))) ⟨m, fun _ => 0, g⟩ (fun r => (∀ c : Dev Cert.UgvIdeal.nD,
      r.2.mem ((c.tc : Thread Cert.UgvIdeal.nD Cert.UgvIdeal.τ).loc Cert.UgvIdeal.main_arg0) = m ((c.tc : Thread Cert.UgvIdeal.nD Cert.UgvIdeal.τ).loc Cert.UgvIdeal.main_arg0)
      ∧ r.2.mem ((c.tc : Thread Cert.UgvIdeal.nD Cert.UgvIdeal.τ).loc Cert.UgvIdeal.main_arg1) = m ((c.tc : Thread Cert.UgvIdeal.nD Cert.UgvIdeal.τ).loc Cert.UgvIdeal.main_arg1))
      ∧ r.2.sem = fun _ => 0)

def quiescent_UgvRefIdeal [hUgvRefIdeal : Cert.UgvRefIdeal.Facts] : Prop :=
  ∀ (m : (ℓ : Loc Cert.UgvRefIdeal.nD Cert.UgvRefIdeal.τ Cert.UgvRefIdeal.sig) → Buf (Elt Ideal) ℓ) (g : Dev Cert.UgvRefIdeal.nD → PrngReg), Pre_UgvRefIdeal m →
    θ_run (Cert.UgvRefIdeal.defs (F := Ideal)) (onTc (τ := Cert.UgvRefIdeal.τ) (Cert.UgvRefIdeal.main (F := Ideal))) ⟨m, fun _ => 0, g⟩ (fun r => (∀ c : Dev Cert.UgvRefIdeal.nD,
      r.2.mem ((c.tc : Thread Cert.UgvRefIdeal.nD Cert.UgvRefIdeal.τ).loc Cert.UgvRefIdeal.main_arg0) = m ((c.tc : Thread Cert.UgvRefIdeal.nD Cert.UgvRefIdeal.τ).loc Cert.UgvRefIdeal.main_arg0)
      ∧ r.2.mem ((c.tc : Thread Cert.UgvRefIdeal.nD Cert.UgvRefIdeal.τ).loc Cert.UgvRefIdeal.main_arg1) = m ((c.tc : Thread Cert.UgvRefIdeal.nD Cert.UgvRefIdeal.τ).loc Cert.UgvRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_SharedUp [hSharedUp : Cert.SharedUp.Facts] : Prop :=
  ∀ (m : (ℓ : Loc Cert.SharedUp.nD Cert.SharedUp.τ Cert.SharedUp.sig) → Buf (Elt Bits) ℓ) (g : Dev Cert.SharedUp.nD → PrngReg), Pre_SharedUp m →
    θ_run (Cert.SharedUp.defs (F := Bits)) (onTc (τ := Cert.SharedUp.τ) (Cert.SharedUp.main (F := Bits))) ⟨m, fun _ => 0, g⟩ (fun r => (∀ c : Dev Cert.SharedUp.nD,
      r.2.mem ((c.tc : Thread Cert.SharedUp.nD Cert.SharedUp.τ).loc Cert.SharedUp.main_arg0) = m ((c.tc : Thread Cert.SharedUp.nD Cert.SharedUp.τ).loc Cert.SharedUp.main_arg0)
      ∧ r.2.mem ((c.tc : Thread Cert.SharedUp.nD Cert.SharedUp.τ).loc Cert.SharedUp.main_arg1) = m ((c.tc : Thread Cert.SharedUp.nD Cert.SharedUp.τ).loc Cert.SharedUp.main_arg1)
      ∧ r.2.mem ((c.tc : Thread Cert.SharedUp.nD Cert.SharedUp.τ).loc Cert.SharedUp.main_arg2) = m ((c.tc : Thread Cert.SharedUp.nD Cert.SharedUp.τ).loc Cert.SharedUp.main_arg2))
      ∧ r.2.sem = fun _ => 0)

def quiescent_SharedUpIdeal [hSharedUpIdeal : Cert.SharedUpIdeal.Facts] : Prop :=
  ∀ (m : (ℓ : Loc Cert.SharedUpIdeal.nD Cert.SharedUpIdeal.τ Cert.SharedUpIdeal.sig) → Buf (Elt Ideal) ℓ) (g : Dev Cert.SharedUpIdeal.nD → PrngReg), Pre_SharedUpIdeal m →
    θ_run (Cert.SharedUpIdeal.defs (F := Ideal)) (onTc (τ := Cert.SharedUpIdeal.τ) (Cert.SharedUpIdeal.main (F := Ideal))) ⟨m, fun _ => 0, g⟩ (fun r => (∀ c : Dev Cert.SharedUpIdeal.nD,
      r.2.mem ((c.tc : Thread Cert.SharedUpIdeal.nD Cert.SharedUpIdeal.τ).loc Cert.SharedUpIdeal.main_arg0) = m ((c.tc : Thread Cert.SharedUpIdeal.nD Cert.SharedUpIdeal.τ).loc Cert.SharedUpIdeal.main_arg0)
      ∧ r.2.mem ((c.tc : Thread Cert.SharedUpIdeal.nD Cert.SharedUpIdeal.τ).loc Cert.SharedUpIdeal.main_arg1) = m ((c.tc : Thread Cert.SharedUpIdeal.nD Cert.SharedUpIdeal.τ).loc Cert.SharedUpIdeal.main_arg1)
      ∧ r.2.mem ((c.tc : Thread Cert.SharedUpIdeal.nD Cert.SharedUpIdeal.τ).loc Cert.SharedUpIdeal.main_arg2) = m ((c.tc : Thread Cert.SharedUpIdeal.nD Cert.SharedUpIdeal.τ).loc Cert.SharedUpIdeal.main_arg2))
      ∧ r.2.sem = fun _ => 0)

def quiescent_SharedUpRefIdeal [hSharedUpRefIdeal : Cert.SharedUpRefIdeal.Facts] : Prop :=
  ∀ (m : (ℓ : Loc Cert.SharedUpRefIdeal.nD Cert.SharedUpRefIdeal.τ Cert.SharedUpRefIdeal.sig) → Buf (Elt Ideal) ℓ) (g : Dev Cert.SharedUpRefIdeal.nD → PrngReg), Pre_SharedUpRefIdeal m →
    θ_run (Cert.SharedUpRefIdeal.defs (F := Ideal)) (onTc (τ := Cert.SharedUpRefIdeal.τ) (Cert.SharedUpRefIdeal.main (F := Ideal))) ⟨m, fun _ => 0, g⟩ (fun r => (∀ c : Dev Cert.SharedUpRefIdeal.nD,
      r.2.mem ((c.tc : Thread Cert.SharedUpRefIdeal.nD Cert.SharedUpRefIdeal.τ).loc Cert.SharedUpRefIdeal.main_arg0) = m ((c.tc : Thread Cert.SharedUpRefIdeal.nD Cert.SharedUpRefIdeal.τ).loc Cert.SharedUpRefIdeal.main_arg0)
      ∧ r.2.mem ((c.tc : Thread Cert.SharedUpRefIdeal.nD Cert.SharedUpRefIdeal.τ).loc Cert.SharedUpRefIdeal.main_arg1) = m ((c.tc : Thread Cert.SharedUpRefIdeal.nD Cert.SharedUpRefIdeal.τ).loc Cert.SharedUpRefIdeal.main_arg1)
      ∧ r.2.mem ((c.tc : Thread Cert.SharedUpRefIdeal.nD Cert.SharedUpRefIdeal.τ).loc Cert.SharedUpRefIdeal.main_arg2) = m ((c.tc : Thread Cert.SharedUpRefIdeal.nD Cert.SharedUpRefIdeal.τ).loc Cert.SharedUpRefIdeal.main_arg2))
      ∧ r.2.sem = fun _ => 0)

def quiescent_SharedDown [hSharedDown : Cert.SharedDown.Facts] : Prop :=
  ∀ (m : (ℓ : Loc Cert.SharedDown.nD Cert.SharedDown.τ Cert.SharedDown.sig) → Buf (Elt Bits) ℓ) (g : Dev Cert.SharedDown.nD → PrngReg), Pre_SharedDown m →
    θ_run (Cert.SharedDown.defs (F := Bits)) (onTc (τ := Cert.SharedDown.τ) (Cert.SharedDown.main (F := Bits))) ⟨m, fun _ => 0, g⟩ (fun r => (∀ c : Dev Cert.SharedDown.nD,
      r.2.mem ((c.tc : Thread Cert.SharedDown.nD Cert.SharedDown.τ).loc Cert.SharedDown.main_arg0) = m ((c.tc : Thread Cert.SharedDown.nD Cert.SharedDown.τ).loc Cert.SharedDown.main_arg0)
      ∧ r.2.mem ((c.tc : Thread Cert.SharedDown.nD Cert.SharedDown.τ).loc Cert.SharedDown.main_arg1) = m ((c.tc : Thread Cert.SharedDown.nD Cert.SharedDown.τ).loc Cert.SharedDown.main_arg1))
      ∧ r.2.sem = fun _ => 0)

def quiescent_SharedDownIdeal [hSharedDownIdeal : Cert.SharedDownIdeal.Facts] : Prop :=
  ∀ (m : (ℓ : Loc Cert.SharedDownIdeal.nD Cert.SharedDownIdeal.τ Cert.SharedDownIdeal.sig) → Buf (Elt Ideal) ℓ) (g : Dev Cert.SharedDownIdeal.nD → PrngReg), Pre_SharedDownIdeal m →
    θ_run (Cert.SharedDownIdeal.defs (F := Ideal)) (onTc (τ := Cert.SharedDownIdeal.τ) (Cert.SharedDownIdeal.main (F := Ideal))) ⟨m, fun _ => 0, g⟩ (fun r => (∀ c : Dev Cert.SharedDownIdeal.nD,
      r.2.mem ((c.tc : Thread Cert.SharedDownIdeal.nD Cert.SharedDownIdeal.τ).loc Cert.SharedDownIdeal.main_arg0) = m ((c.tc : Thread Cert.SharedDownIdeal.nD Cert.SharedDownIdeal.τ).loc Cert.SharedDownIdeal.main_arg0)
      ∧ r.2.mem ((c.tc : Thread Cert.SharedDownIdeal.nD Cert.SharedDownIdeal.τ).loc Cert.SharedDownIdeal.main_arg1) = m ((c.tc : Thread Cert.SharedDownIdeal.nD Cert.SharedDownIdeal.τ).loc Cert.SharedDownIdeal.main_arg1))
      ∧ r.2.sem = fun _ => 0)

def quiescent_SharedDownRefIdeal [hSharedDownRefIdeal : Cert.SharedDownRefIdeal.Facts] : Prop :=
  ∀ (m : (ℓ : Loc Cert.SharedDownRefIdeal.nD Cert.SharedDownRefIdeal.τ Cert.SharedDownRefIdeal.sig) → Buf (Elt Ideal) ℓ) (g : Dev Cert.SharedDownRefIdeal.nD → PrngReg), Pre_SharedDownRefIdeal m →
    θ_run (Cert.SharedDownRefIdeal.defs (F := Ideal)) (onTc (τ := Cert.SharedDownRefIdeal.τ) (Cert.SharedDownRefIdeal.main (F := Ideal))) ⟨m, fun _ => 0, g⟩ (fun r => (∀ c : Dev Cert.SharedDownRefIdeal.nD,
      r.2.mem ((c.tc : Thread Cert.SharedDownRefIdeal.nD Cert.SharedDownRefIdeal.τ).loc Cert.SharedDownRefIdeal.main_arg0) = m ((c.tc : Thread Cert.SharedDownRefIdeal.nD Cert.SharedDownRefIdeal.τ).loc Cert.SharedDownRefIdeal.main_arg0)
      ∧ r.2.mem ((c.tc : Thread Cert.SharedDownRefIdeal.nD Cert.SharedDownRefIdeal.τ).loc Cert.SharedDownRefIdeal.main_arg1) = m ((c.tc : Thread Cert.SharedDownRefIdeal.nD Cert.SharedDownRefIdeal.τ).loc Cert.SharedDownRefIdeal.main_arg1))
      ∧ r.2.sem = fun _ => 0)

def quiescent_Adaln [hAdaln : Cert.Adaln.Facts] : Prop :=
  ∀ (m : (ℓ : Loc Cert.Adaln.nD Cert.Adaln.τ Cert.Adaln.sig) → Buf (Elt Bits) ℓ) (g : Dev Cert.Adaln.nD → PrngReg), Pre_Adaln m →
    θ_run (Cert.Adaln.defs (F := Bits)) (onTc (τ := Cert.Adaln.τ) (Cert.Adaln.main (F := Bits))) ⟨m, fun _ => 0, g⟩ (fun r => (∀ c : Dev Cert.Adaln.nD,
      r.2.mem ((c.tc : Thread Cert.Adaln.nD Cert.Adaln.τ).loc Cert.Adaln.main_arg0) = m ((c.tc : Thread Cert.Adaln.nD Cert.Adaln.τ).loc Cert.Adaln.main_arg0)
      ∧ r.2.mem ((c.tc : Thread Cert.Adaln.nD Cert.Adaln.τ).loc Cert.Adaln.main_arg1) = m ((c.tc : Thread Cert.Adaln.nD Cert.Adaln.τ).loc Cert.Adaln.main_arg1)
      ∧ r.2.mem ((c.tc : Thread Cert.Adaln.nD Cert.Adaln.τ).loc Cert.Adaln.main_arg2) = m ((c.tc : Thread Cert.Adaln.nD Cert.Adaln.τ).loc Cert.Adaln.main_arg2))
      ∧ r.2.sem = fun _ => 0)

def quiescent_AdalnIdeal [hAdalnIdeal : Cert.AdalnIdeal.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ r.2.sem = fun _ => 0)

def quiescent_AdalnRefIdeal [hAdalnRefIdeal : Cert.AdalnRefIdeal.Facts] : Prop :=
  ∀ (m : (ℓ : Loc Cert.AdalnRefIdeal.nD Cert.AdalnRefIdeal.τ Cert.AdalnRefIdeal.sig) → Buf (Elt Ideal) ℓ) (g : Dev Cert.AdalnRefIdeal.nD → PrngReg), Pre_AdalnRefIdeal m →
    θ_run (Cert.AdalnRefIdeal.defs (F := Ideal)) (onTc (τ := Cert.AdalnRefIdeal.τ) (Cert.AdalnRefIdeal.main (F := Ideal))) ⟨m, fun _ => 0, g⟩ (fun r => (∀ c : Dev Cert.AdalnRefIdeal.nD,
      r.2.mem ((c.tc : Thread Cert.AdalnRefIdeal.nD Cert.AdalnRefIdeal.τ).loc Cert.AdalnRefIdeal.main_arg0) = m ((c.tc : Thread Cert.AdalnRefIdeal.nD Cert.AdalnRefIdeal.τ).loc Cert.AdalnRefIdeal.main_arg0)
      ∧ r.2.mem ((c.tc : Thread Cert.AdalnRefIdeal.nD Cert.AdalnRefIdeal.τ).loc Cert.AdalnRefIdeal.main_arg1) = m ((c.tc : Thread Cert.AdalnRefIdeal.nD Cert.AdalnRefIdeal.τ).loc Cert.AdalnRefIdeal.main_arg1)
      ∧ r.2.mem ((c.tc : Thread Cert.AdalnRefIdeal.nD Cert.AdalnRefIdeal.τ).loc Cert.AdalnRefIdeal.main_arg2) = m ((c.tc : Thread Cert.AdalnRefIdeal.nD Cert.AdalnRefIdeal.τ).loc Cert.AdalnRefIdeal.main_arg2))
      ∧ r.2.sem = fun _ => 0)

def quiescent_Modulate [hModulate : Cert.Modulate.Facts] : Prop :=
  ∀ (m : (ℓ : Loc Cert.Modulate.nD Cert.Modulate.τ Cert.Modulate.sig) → Buf (Elt Bits) ℓ) (g : Dev Cert.Modulate.nD → PrngReg), Pre_Modulate m →
    θ_run (Cert.Modulate.defs (F := Bits)) (onTc (τ := Cert.Modulate.τ) (Cert.Modulate.main (F := Bits))) ⟨m, fun _ => 0, g⟩ (fun r => (∀ c : Dev Cert.Modulate.nD,
      r.2.mem ((c.tc : Thread Cert.Modulate.nD Cert.Modulate.τ).loc Cert.Modulate.main_arg0) = m ((c.tc : Thread Cert.Modulate.nD Cert.Modulate.τ).loc Cert.Modulate.main_arg0)
      ∧ r.2.mem ((c.tc : Thread Cert.Modulate.nD Cert.Modulate.τ).loc Cert.Modulate.main_arg1) = m ((c.tc : Thread Cert.Modulate.nD Cert.Modulate.τ).loc Cert.Modulate.main_arg1)
      ∧ r.2.mem ((c.tc : Thread Cert.Modulate.nD Cert.Modulate.τ).loc Cert.Modulate.main_arg2) = m ((c.tc : Thread Cert.Modulate.nD Cert.Modulate.τ).loc Cert.Modulate.main_arg2))
      ∧ r.2.sem = fun _ => 0)

def quiescent_ModulateIdeal [hModulateIdeal : Cert.ModulateIdeal.Facts] : Prop :=
  ∀ (m : (ℓ : Loc Cert.ModulateIdeal.nD Cert.ModulateIdeal.τ Cert.ModulateIdeal.sig) → Buf (Elt Ideal) ℓ) (g : Dev Cert.ModulateIdeal.nD → PrngReg), Pre_ModulateIdeal m →
    θ_run (Cert.ModulateIdeal.defs (F := Ideal)) (onTc (τ := Cert.ModulateIdeal.τ) (Cert.ModulateIdeal.main (F := Ideal))) ⟨m, fun _ => 0, g⟩ (fun r => (∀ c : Dev Cert.ModulateIdeal.nD,
      r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
      ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
      ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2))
      ∧ r.2.sem = fun _ => 0)

def quiescent_ModulateRefIdeal [hModulateRefIdeal : Cert.ModulateRefIdeal.Facts] : Prop :=
  ∀ (m : (ℓ : Loc Cert.ModulateRefIdeal.nD Cert.ModulateRefIdeal.τ Cert.ModulateRefIdeal.sig) → Buf (Elt Ideal) ℓ) (g : Dev Cert.ModulateRefIdeal.nD → PrngReg), Pre_ModulateRefIdeal m →
    θ_run (Cert.ModulateRefIdeal.defs (F := Ideal)) (onTc (τ := Cert.ModulateRefIdeal.τ) (Cert.ModulateRefIdeal.main (F := Ideal))) ⟨m, fun _ => 0, g⟩ (fun r => (∀ c : Dev Cert.ModulateRefIdeal.nD,
      r.2.mem ((c.tc : Thread Cert.ModulateRefIdeal.nD Cert.ModulateRefIdeal.τ).loc Cert.ModulateRefIdeal.main_arg0) = m ((c.tc : Thread Cert.ModulateRefIdeal.nD Cert.ModulateRefIdeal.τ).loc Cert.ModulateRefIdeal.main_arg0)
      ∧ r.2.mem ((c.tc : Thread Cert.ModulateRefIdeal.nD Cert.ModulateRefIdeal.τ).loc Cert.ModulateRefIdeal.main_arg1) = m ((c.tc : Thread Cert.ModulateRefIdeal.nD Cert.ModulateRefIdeal.τ).loc Cert.ModulateRefIdeal.main_arg1)
      ∧ r.2.mem ((c.tc : Thread Cert.ModulateRefIdeal.nD Cert.ModulateRefIdeal.τ).loc Cert.ModulateRefIdeal.main_arg2) = m ((c.tc : Thread Cert.ModulateRefIdeal.nD Cert.ModulateRefIdeal.τ).loc Cert.ModulateRefIdeal.main_arg2))
      ∧ r.2.sem = fun _ => 0)

def quiescent_GmlpPrompt [hGmlpPrompt : Cert.GmlpPrompt.Facts] : Prop :=
  ∀ (m : (ℓ : Loc Cert.GmlpPrompt.nD Cert.GmlpPrompt.τ Cert.GmlpPrompt.sig) → Buf (Elt Bits) ℓ) (g : Dev Cert.GmlpPrompt.nD → PrngReg), Pre_GmlpPrompt m →
    θ_run (Cert.GmlpPrompt.defs (F := Bits)) (onTc (τ := Cert.GmlpPrompt.τ) (Cert.GmlpPrompt.main (F := Bits))) ⟨m, fun _ => 0, g⟩ (fun r => (∀ c : Dev Cert.GmlpPrompt.nD,
      r.2.mem ((c.tc : Thread Cert.GmlpPrompt.nD Cert.GmlpPrompt.τ).loc Cert.GmlpPrompt.main_arg0) = m ((c.tc : Thread Cert.GmlpPrompt.nD Cert.GmlpPrompt.τ).loc Cert.GmlpPrompt.main_arg0)
      ∧ r.2.mem ((c.tc : Thread Cert.GmlpPrompt.nD Cert.GmlpPrompt.τ).loc Cert.GmlpPrompt.main_arg1) = m ((c.tc : Thread Cert.GmlpPrompt.nD Cert.GmlpPrompt.τ).loc Cert.GmlpPrompt.main_arg1)
      ∧ r.2.mem ((c.tc : Thread Cert.GmlpPrompt.nD Cert.GmlpPrompt.τ).loc Cert.GmlpPrompt.main_arg2) = m ((c.tc : Thread Cert.GmlpPrompt.nD Cert.GmlpPrompt.τ).loc Cert.GmlpPrompt.main_arg2)
      ∧ r.2.mem ((c.tc : Thread Cert.GmlpPrompt.nD Cert.GmlpPrompt.τ).loc Cert.GmlpPrompt.main_arg3) = m ((c.tc : Thread Cert.GmlpPrompt.nD Cert.GmlpPrompt.τ).loc Cert.GmlpPrompt.main_arg3)
      ∧ r.2.mem ((c.tc : Thread Cert.GmlpPrompt.nD Cert.GmlpPrompt.τ).loc Cert.GmlpPrompt.main_arg4) = m ((c.tc : Thread Cert.GmlpPrompt.nD Cert.GmlpPrompt.τ).loc Cert.GmlpPrompt.main_arg4))
      ∧ r.2.sem = fun _ => 0)

def quiescent_GmlpPromptIdeal [hGmlpPromptIdeal : Cert.GmlpPromptIdeal.Facts] : Prop :=
  ∀ (m : (ℓ : Loc Cert.GmlpPromptIdeal.nD Cert.GmlpPromptIdeal.τ Cert.GmlpPromptIdeal.sig) → Buf (Elt Ideal) ℓ) (g : Dev Cert.GmlpPromptIdeal.nD → PrngReg), Pre_GmlpPromptIdeal m →
    θ_run (Cert.GmlpPromptIdeal.defs (F := Ideal)) (onTc (τ := Cert.GmlpPromptIdeal.τ) (Cert.GmlpPromptIdeal.main (F := Ideal))) ⟨m, fun _ => 0, g⟩ (fun r => (∀ c : Dev Cert.GmlpPromptIdeal.nD,
      r.2.mem ((c.tc : Thread Cert.GmlpPromptIdeal.nD Cert.GmlpPromptIdeal.τ).loc Cert.GmlpPromptIdeal.main_arg0) = m ((c.tc : Thread Cert.GmlpPromptIdeal.nD Cert.GmlpPromptIdeal.τ).loc Cert.GmlpPromptIdeal.main_arg0)
      ∧ r.2.mem ((c.tc : Thread Cert.GmlpPromptIdeal.nD Cert.GmlpPromptIdeal.τ).loc Cert.GmlpPromptIdeal.main_arg1) = m ((c.tc : Thread Cert.GmlpPromptIdeal.nD Cert.GmlpPromptIdeal.τ).loc Cert.GmlpPromptIdeal.main_arg1)
      ∧ r.2.mem ((c.tc : Thread Cert.GmlpPromptIdeal.nD Cert.GmlpPromptIdeal.τ).loc Cert.GmlpPromptIdeal.main_arg2) = m ((c.tc : Thread Cert.GmlpPromptIdeal.nD Cert.GmlpPromptIdeal.τ).loc Cert.GmlpPromptIdeal.main_arg2)
      ∧ r.2.mem ((c.tc : Thread Cert.GmlpPromptIdeal.nD Cert.GmlpPromptIdeal.τ).loc Cert.GmlpPromptIdeal.main_arg3) = m ((c.tc : Thread Cert.GmlpPromptIdeal.nD Cert.GmlpPromptIdeal.τ).loc Cert.GmlpPromptIdeal.main_arg3)
      ∧ r.2.mem ((c.tc : Thread Cert.GmlpPromptIdeal.nD Cert.GmlpPromptIdeal.τ).loc Cert.GmlpPromptIdeal.main_arg4) = m ((c.tc : Thread Cert.GmlpPromptIdeal.nD Cert.GmlpPromptIdeal.τ).loc Cert.GmlpPromptIdeal.main_arg4))
      ∧ r.2.sem = fun _ => 0)

def quiescent_GmlpPromptRefIdeal [hGmlpPromptRefIdeal : Cert.GmlpPromptRefIdeal.Facts] : Prop :=
  ∀ (m : (ℓ : Loc Cert.GmlpPromptRefIdeal.nD Cert.GmlpPromptRefIdeal.τ Cert.GmlpPromptRefIdeal.sig) → Buf (Elt Ideal) ℓ) (g : Dev Cert.GmlpPromptRefIdeal.nD → PrngReg), Pre_GmlpPromptRefIdeal m →
    θ_run (Cert.GmlpPromptRefIdeal.defs (F := Ideal)) (onTc (τ := Cert.GmlpPromptRefIdeal.τ) (Cert.GmlpPromptRefIdeal.main (F := Ideal))) ⟨m, fun _ => 0, g⟩ (fun r => (∀ c : Dev Cert.GmlpPromptRefIdeal.nD,
      r.2.mem ((c.tc : Thread Cert.GmlpPromptRefIdeal.nD Cert.GmlpPromptRefIdeal.τ).loc Cert.GmlpPromptRefIdeal.main_arg0) = m ((c.tc : Thread Cert.GmlpPromptRefIdeal.nD Cert.GmlpPromptRefIdeal.τ).loc Cert.GmlpPromptRefIdeal.main_arg0)
      ∧ r.2.mem ((c.tc : Thread Cert.GmlpPromptRefIdeal.nD Cert.GmlpPromptRefIdeal.τ).loc Cert.GmlpPromptRefIdeal.main_arg1) = m ((c.tc : Thread Cert.GmlpPromptRefIdeal.nD Cert.GmlpPromptRefIdeal.τ).loc Cert.GmlpPromptRefIdeal.main_arg1)
      ∧ r.2.mem ((c.tc : Thread Cert.GmlpPromptRefIdeal.nD Cert.GmlpPromptRefIdeal.τ).loc Cert.GmlpPromptRefIdeal.main_arg2) = m ((c.tc : Thread Cert.GmlpPromptRefIdeal.nD Cert.GmlpPromptRefIdeal.τ).loc Cert.GmlpPromptRefIdeal.main_arg2)
      ∧ r.2.mem ((c.tc : Thread Cert.GmlpPromptRefIdeal.nD Cert.GmlpPromptRefIdeal.τ).loc Cert.GmlpPromptRefIdeal.main_arg3) = m ((c.tc : Thread Cert.GmlpPromptRefIdeal.nD Cert.GmlpPromptRefIdeal.τ).loc Cert.GmlpPromptRefIdeal.main_arg3)
      ∧ r.2.mem ((c.tc : Thread Cert.GmlpPromptRefIdeal.nD Cert.GmlpPromptRefIdeal.τ).loc Cert.GmlpPromptRefIdeal.main_arg4) = m ((c.tc : Thread Cert.GmlpPromptRefIdeal.nD Cert.GmlpPromptRefIdeal.τ).loc Cert.GmlpPromptRefIdeal.main_arg4))
      ∧ r.2.sem = fun _ => 0)

def quiescent_GmlpSample [hGmlpSample : Cert.GmlpSample.Facts] : Prop :=
  ∀ (m : (ℓ : Loc Cert.GmlpSample.nD Cert.GmlpSample.τ Cert.GmlpSample.sig) → Buf (Elt Bits) ℓ) (g : Dev Cert.GmlpSample.nD → PrngReg), Pre_GmlpSample m →
    θ_run (Cert.GmlpSample.defs (F := Bits)) (onTc (τ := Cert.GmlpSample.τ) (Cert.GmlpSample.main (F := Bits))) ⟨m, fun _ => 0, g⟩ (fun r => (∀ c : Dev Cert.GmlpSample.nD,
      r.2.mem ((c.tc : Thread Cert.GmlpSample.nD Cert.GmlpSample.τ).loc Cert.GmlpSample.main_arg0) = m ((c.tc : Thread Cert.GmlpSample.nD Cert.GmlpSample.τ).loc Cert.GmlpSample.main_arg0)
      ∧ r.2.mem ((c.tc : Thread Cert.GmlpSample.nD Cert.GmlpSample.τ).loc Cert.GmlpSample.main_arg1) = m ((c.tc : Thread Cert.GmlpSample.nD Cert.GmlpSample.τ).loc Cert.GmlpSample.main_arg1)
      ∧ r.2.mem ((c.tc : Thread Cert.GmlpSample.nD Cert.GmlpSample.τ).loc Cert.GmlpSample.main_arg2) = m ((c.tc : Thread Cert.GmlpSample.nD Cert.GmlpSample.τ).loc Cert.GmlpSample.main_arg2)
      ∧ r.2.mem ((c.tc : Thread Cert.GmlpSample.nD Cert.GmlpSample.τ).loc Cert.GmlpSample.main_arg3) = m ((c.tc : Thread Cert.GmlpSample.nD Cert.GmlpSample.τ).loc Cert.GmlpSample.main_arg3)
      ∧ r.2.mem ((c.tc : Thread Cert.GmlpSample.nD Cert.GmlpSample.τ).loc Cert.GmlpSample.main_arg4) = m ((c.tc : Thread Cert.GmlpSample.nD Cert.GmlpSample.τ).loc Cert.GmlpSample.main_arg4))
      ∧ r.2.sem = fun _ => 0)

def quiescent_GmlpSampleIdeal [hGmlpSampleIdeal : Cert.GmlpSampleIdeal.Facts] : Prop :=
  ∀ (m : (ℓ : Loc Cert.GmlpSampleIdeal.nD Cert.GmlpSampleIdeal.τ Cert.GmlpSampleIdeal.sig) → Buf (Elt Ideal) ℓ) (g : Dev Cert.GmlpSampleIdeal.nD → PrngReg), Pre_GmlpSampleIdeal m →
    θ_run (Cert.GmlpSampleIdeal.defs (F := Ideal)) (onTc (τ := Cert.GmlpSampleIdeal.τ) (Cert.GmlpSampleIdeal.main (F := Ideal))) ⟨m, fun _ => 0, g⟩ (fun r => (∀ c : Dev Cert.GmlpSampleIdeal.nD,
      r.2.mem ((c.tc : Thread Cert.GmlpSampleIdeal.nD Cert.GmlpSampleIdeal.τ).loc Cert.GmlpSampleIdeal.main_arg0) = m ((c.tc : Thread Cert.GmlpSampleIdeal.nD Cert.GmlpSampleIdeal.τ).loc Cert.GmlpSampleIdeal.main_arg0)
      ∧ r.2.mem ((c.tc : Thread Cert.GmlpSampleIdeal.nD Cert.GmlpSampleIdeal.τ).loc Cert.GmlpSampleIdeal.main_arg1) = m ((c.tc : Thread Cert.GmlpSampleIdeal.nD Cert.GmlpSampleIdeal.τ).loc Cert.GmlpSampleIdeal.main_arg1)
      ∧ r.2.mem ((c.tc : Thread Cert.GmlpSampleIdeal.nD Cert.GmlpSampleIdeal.τ).loc Cert.GmlpSampleIdeal.main_arg2) = m ((c.tc : Thread Cert.GmlpSampleIdeal.nD Cert.GmlpSampleIdeal.τ).loc Cert.GmlpSampleIdeal.main_arg2)
      ∧ r.2.mem ((c.tc : Thread Cert.GmlpSampleIdeal.nD Cert.GmlpSampleIdeal.τ).loc Cert.GmlpSampleIdeal.main_arg3) = m ((c.tc : Thread Cert.GmlpSampleIdeal.nD Cert.GmlpSampleIdeal.τ).loc Cert.GmlpSampleIdeal.main_arg3)
      ∧ r.2.mem ((c.tc : Thread Cert.GmlpSampleIdeal.nD Cert.GmlpSampleIdeal.τ).loc Cert.GmlpSampleIdeal.main_arg4) = m ((c.tc : Thread Cert.GmlpSampleIdeal.nD Cert.GmlpSampleIdeal.τ).loc Cert.GmlpSampleIdeal.main_arg4))
      ∧ r.2.sem = fun _ => 0)

def quiescent_GmlpSampleRefIdeal [hGmlpSampleRefIdeal : Cert.GmlpSampleRefIdeal.Facts] : Prop :=
  ∀ (m : (ℓ : Loc Cert.GmlpSampleRefIdeal.nD Cert.GmlpSampleRefIdeal.τ Cert.GmlpSampleRefIdeal.sig) → Buf (Elt Ideal) ℓ) (g : Dev Cert.GmlpSampleRefIdeal.nD → PrngReg), Pre_GmlpSampleRefIdeal m →
    θ_run (Cert.GmlpSampleRefIdeal.defs (F := Ideal)) (onTc (τ := Cert.GmlpSampleRefIdeal.τ) (Cert.GmlpSampleRefIdeal.main (F := Ideal))) ⟨m, fun _ => 0, g⟩ (fun r => (∀ c : Dev Cert.GmlpSampleRefIdeal.nD,
      r.2.mem ((c.tc : Thread Cert.GmlpSampleRefIdeal.nD Cert.GmlpSampleRefIdeal.τ).loc Cert.GmlpSampleRefIdeal.main_arg0) = m ((c.tc : Thread Cert.GmlpSampleRefIdeal.nD Cert.GmlpSampleRefIdeal.τ).loc Cert.GmlpSampleRefIdeal.main_arg0)
      ∧ r.2.mem ((c.tc : Thread Cert.GmlpSampleRefIdeal.nD Cert.GmlpSampleRefIdeal.τ).loc Cert.GmlpSampleRefIdeal.main_arg1) = m ((c.tc : Thread Cert.GmlpSampleRefIdeal.nD Cert.GmlpSampleRefIdeal.τ).loc Cert.GmlpSampleRefIdeal.main_arg1)
      ∧ r.2.mem ((c.tc : Thread Cert.GmlpSampleRefIdeal.nD Cert.GmlpSampleRefIdeal.τ).loc Cert.GmlpSampleRefIdeal.main_arg2) = m ((c.tc : Thread Cert.GmlpSampleRefIdeal.nD Cert.GmlpSampleRefIdeal.τ).loc Cert.GmlpSampleRefIdeal.main_arg2)
      ∧ r.2.mem ((c.tc : Thread Cert.GmlpSampleRefIdeal.nD Cert.GmlpSampleRefIdeal.τ).loc Cert.GmlpSampleRefIdeal.main_arg3) = m ((c.tc : Thread Cert.GmlpSampleRefIdeal.nD Cert.GmlpSampleRefIdeal.τ).loc Cert.GmlpSampleRefIdeal.main_arg3)
      ∧ r.2.mem ((c.tc : Thread Cert.GmlpSampleRefIdeal.nD Cert.GmlpSampleRefIdeal.τ).loc Cert.GmlpSampleRefIdeal.main_arg4) = m ((c.tc : Thread Cert.GmlpSampleRefIdeal.nD Cert.GmlpSampleRefIdeal.τ).loc Cert.GmlpSampleRefIdeal.main_arg4))
      ∧ r.2.sem = fun _ => 0)

def quiescent_AttnSample [hAttnSample : Cert.AttnSample.Facts] : Prop :=
  ∀ (m : (ℓ : Loc Cert.AttnSample.nD Cert.AttnSample.τ Cert.AttnSample.sig) → Buf (Elt Bits) ℓ) (g : Dev Cert.AttnSample.nD → PrngReg), Pre_AttnSample m →
    θ_run (Cert.AttnSample.defs (F := Bits)) (onTc (τ := Cert.AttnSample.τ) (Cert.AttnSample.main (F := Bits))) ⟨m, fun _ => 0, g⟩ (fun r => (∀ c : Dev Cert.AttnSample.nD,
      r.2.mem ((c.tc : Thread Cert.AttnSample.nD Cert.AttnSample.τ).loc Cert.AttnSample.main_arg0) = m ((c.tc : Thread Cert.AttnSample.nD Cert.AttnSample.τ).loc Cert.AttnSample.main_arg0)
      ∧ r.2.mem ((c.tc : Thread Cert.AttnSample.nD Cert.AttnSample.τ).loc Cert.AttnSample.main_arg1) = m ((c.tc : Thread Cert.AttnSample.nD Cert.AttnSample.τ).loc Cert.AttnSample.main_arg1)
      ∧ r.2.mem ((c.tc : Thread Cert.AttnSample.nD Cert.AttnSample.τ).loc Cert.AttnSample.main_arg2) = m ((c.tc : Thread Cert.AttnSample.nD Cert.AttnSample.τ).loc Cert.AttnSample.main_arg2)
      ∧ r.2.mem ((c.tc : Thread Cert.AttnSample.nD Cert.AttnSample.τ).loc Cert.AttnSample.main_arg3) = m ((c.tc : Thread Cert.AttnSample.nD Cert.AttnSample.τ).loc Cert.AttnSample.main_arg3))
      ∧ r.2.sem = fun _ => 0)

def quiescent_AttnSampleIdeal [hAttnSampleIdeal : Cert.AttnSampleIdeal.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg), Pre_AttnSampleIdeal m →
    θ_run (Cert.AttnSampleIdeal.defs (F := Ideal)) (onTc (τ := Cert.AttnSampleIdeal.τ) (Cert.AttnSampleIdeal.main (F := Ideal))) ⟨m, fun _ => 0, g⟩ (fun r => (∀ c : Dev Cert.AttnSampleIdeal.nD,
      r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
      ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
      ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2)
      ∧ r.2.mem ((c.tc : Thread Cert.AttnSampleIdeal.nD Cert.AttnSampleIdeal.τ).loc Cert.AttnSampleIdeal.main_arg3) = m ((c.tc : Thread Cert.AttnSampleIdeal.nD Cert.AttnSampleIdeal.τ).loc Cert.AttnSampleIdeal.main_arg3))
      ∧ r.2.sem = fun _ => 0)

def quiescent_AttnSampleIdeal_pre_finite_qkv [hAttnSampleIdeal : Cert.AttnSampleIdeal.Facts] [hPre_finite_qkv : Cert.Pre_finite_qkv.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg), Pre_AttnSampleIdeal_finite_qkv m →
    θ_run (Cert.AttnSampleIdeal.defs (F := Ideal)) (onTc (τ := Cert.AttnSampleIdeal.τ) (Cert.AttnSampleIdeal.main (F := Ideal))) ⟨m, fun _ => 0, g⟩ (fun r => (∀ c : Dev Cert.AttnSampleIdeal.nD,
      r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
      ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
      ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2)
      ∧ r.2.mem ((c.tc : Thread Cert.AttnSampleIdeal.nD Cert.AttnSampleIdeal.τ).loc Cert.AttnSampleIdeal.main_arg3) = m ((c.tc : Thread Cert.AttnSampleIdeal.nD Cert.AttnSampleIdeal.τ).loc Cert.AttnSampleIdeal.main_arg3))
      ∧ r.2.sem = fun _ => 0)

def quiescent_AttnSampleRefIdeal [hAttnSampleRefIdeal : Cert.AttnSampleRefIdeal.Facts] : Prop :=
  ∀ (m : (ℓ : Loc Cert.AttnSampleRefIdeal.nD Cert.AttnSampleRefIdeal.τ Cert.AttnSampleRefIdeal.sig) → Buf (Elt Ideal) ℓ) (g : Dev Cert.AttnSampleRefIdeal.nD → PrngReg), Pre_AttnSampleRefIdeal m →
    θ_run (Cert.AttnSampleRefIdeal.defs (F := Ideal)) (onTc (τ := Cert.AttnSampleRefIdeal.τ) (Cert.AttnSampleRefIdeal.main (F := Ideal))) ⟨m, fun _ => 0, g⟩ (fun r => (∀ c : Dev Cert.AttnSampleRefIdeal.nD,
      r.2.mem ((c.tc : Thread Cert.AttnSampleRefIdeal.nD Cert.AttnSampleRefIdeal.τ).loc Cert.AttnSampleRefIdeal.main_arg0) = m ((c.tc : Thread Cert.AttnSampleRefIdeal.nD Cert.AttnSampleRefIdeal.τ).loc Cert.AttnSampleRefIdeal.main_arg0)
      ∧ r.2.mem ((c.tc : Thread Cert.AttnSampleRefIdeal.nD Cert.AttnSampleRefIdeal.τ).loc Cert.AttnSampleRefIdeal.main_arg1) = m ((c.tc : Thread Cert.AttnSampleRefIdeal.nD Cert.AttnSampleRefIdeal.τ).loc Cert.AttnSampleRefIdeal.main_arg1)
      ∧ r.2.mem ((c.tc : Thread Cert.AttnSampleRefIdeal.nD Cert.AttnSampleRefIdeal.τ).loc Cert.AttnSampleRefIdeal.main_arg2) = m ((c.tc : Thread Cert.AttnSampleRefIdeal.nD Cert.AttnSampleRefIdeal.τ).loc Cert.AttnSampleRefIdeal.main_arg2)
      ∧ r.2.mem ((c.tc : Thread Cert.AttnSampleRefIdeal.nD Cert.AttnSampleRefIdeal.τ).loc Cert.AttnSampleRefIdeal.main_arg3) = m ((c.tc : Thread Cert.AttnSampleRefIdeal.nD Cert.AttnSampleRefIdeal.τ).loc Cert.AttnSampleRefIdeal.main_arg3))
      ∧ r.2.sem = fun _ => 0)

def quiescent_AttnSampleRefIdeal_pre_finite_qkv [hAttnSampleRefIdeal : Cert.AttnSampleRefIdeal.Facts] [hPre_finite_qkv : Cert.Pre_finite_qkv.Facts] : Prop :=
  ∀ (m : (ℓ : Loc Cert.AttnSampleRefIdeal.nD Cert.AttnSampleRefIdeal.τ Cert.AttnSampleRefIdeal.sig) → Buf (Elt Ideal) ℓ) (g : Dev Cert.AttnSampleRefIdeal.nD → PrngReg), Pre_AttnSampleRefIdeal_finite_qkv m →
    θ_run (Cert.AttnSampleRefIdeal.defs (F := Ideal)) (onTc (τ := Cert.AttnSampleRefIdeal.τ) (Cert.AttnSampleRefIdeal.main (F := Ideal))) ⟨m, fun _ => 0, g⟩ (fun r => (∀ c : Dev Cert.AttnSampleRefIdeal.nD,
      r.2.mem ((c.tc : Thread Cert.AttnSampleRefIdeal.nD Cert.AttnSampleRefIdeal.τ).loc Cert.AttnSampleRefIdeal.main_arg0) = m ((c.tc : Thread Cert.AttnSampleRefIdeal.nD Cert.AttnSampleRefIdeal.τ).loc Cert.AttnSampleRefIdeal.main_arg0)
      ∧ r.2.mem ((c.tc : Thread Cert.AttnSampleRefIdeal.nD Cert.AttnSampleRefIdeal.τ).loc Cert.AttnSampleRefIdeal.main_arg1) = m ((c.tc : Thread Cert.AttnSampleRefIdeal.nD Cert.AttnSampleRefIdeal.τ).loc Cert.AttnSampleRefIdeal.main_arg1)
      ∧ r.2.mem ((c.tc : Thread Cert.AttnSampleRefIdeal.nD Cert.AttnSampleRefIdeal.τ).loc Cert.AttnSampleRefIdeal.main_arg2) = m ((c.tc : Thread Cert.AttnSampleRefIdeal.nD Cert.AttnSampleRefIdeal.τ).loc Cert.AttnSampleRefIdeal.main_arg2)
      ∧ r.2.mem ((c.tc : Thread Cert.AttnSampleRefIdeal.nD Cert.AttnSampleRefIdeal.τ).loc Cert.AttnSampleRefIdeal.main_arg3) = m ((c.tc : Thread Cert.AttnSampleRefIdeal.nD Cert.AttnSampleRefIdeal.τ).loc Cert.AttnSampleRefIdeal.main_arg3))
      ∧ r.2.sem = fun _ => 0)

def quiescent_SampleModulate [hSampleModulate : Cert.SampleModulate.Facts] : Prop :=
  ∀ (m : (ℓ : Loc Cert.SampleModulate.nD Cert.SampleModulate.τ Cert.SampleModulate.sig) → Buf (Elt Bits) ℓ) (g : Dev Cert.SampleModulate.nD → PrngReg), Pre_SampleModulate m →
    θ_run (Cert.SampleModulate.defs (F := Bits)) (onTc (τ := Cert.SampleModulate.τ) (Cert.SampleModulate.main (F := Bits))) ⟨m, fun _ => 0, g⟩ (fun r => (∀ c : Dev Cert.SampleModulate.nD,
      r.2.mem ((c.tc : Thread Cert.SampleModulate.nD Cert.SampleModulate.τ).loc Cert.SampleModulate.main_arg0) = m ((c.tc : Thread Cert.SampleModulate.nD Cert.SampleModulate.τ).loc Cert.SampleModulate.main_arg0)
      ∧ r.2.mem ((c.tc : Thread Cert.SampleModulate.nD Cert.SampleModulate.τ).loc Cert.SampleModulate.main_arg1) = m ((c.tc : Thread Cert.SampleModulate.nD Cert.SampleModulate.τ).loc Cert.SampleModulate.main_arg1)
      ∧ r.2.mem ((c.tc : Thread Cert.SampleModulate.nD Cert.SampleModulate.τ).loc Cert.SampleModulate.main_arg2) = m ((c.tc : Thread Cert.SampleModulate.nD Cert.SampleModulate.τ).loc Cert.SampleModulate.main_arg2))
      ∧ r.2.sem = fun _ => 0)

def quiescent_SampleModulateIdeal [hSampleModulateIdeal : Cert.SampleModulateIdeal.Facts] : Prop :=
  ∀ (m : (ℓ : Loc Cert.SampleModulateIdeal.nD Cert.SampleModulateIdeal.τ Cert.SampleModulateIdeal.sig) → Buf (Elt Ideal) ℓ) (g : Dev Cert.SampleModulateIdeal.nD → PrngReg), Pre_SampleModulateIdeal m →
    θ_run (Cert.SampleModulateIdeal.defs (F := Ideal)) (onTc (τ := Cert.SampleModulateIdeal.τ) (Cert.SampleModulateIdeal.main (F := Ideal))) ⟨m, fun _ => 0, g⟩ (fun r => (∀ c : Dev Cert.SampleModulateIdeal.nD,
      r.2.mem ((c.tc : Thread Cert.SampleModulateIdeal.nD Cert.SampleModulateIdeal.τ).loc Cert.SampleModulateIdeal.main_arg0) = m ((c.tc : Thread Cert.SampleModulateIdeal.nD Cert.SampleModulateIdeal.τ).loc Cert.SampleModulateIdeal.main_arg0)
      ∧ r.2.mem ((c.tc : Thread Cert.SampleModulateIdeal.nD Cert.SampleModulateIdeal.τ).loc Cert.SampleModulateIdeal.main_arg1) = m ((c.tc : Thread Cert.SampleModulateIdeal.nD Cert.SampleModulateIdeal.τ).loc Cert.SampleModulateIdeal.main_arg1)
      ∧ r.2.mem ((c.tc : Thread Cert.SampleModulateIdeal.nD Cert.SampleModulateIdeal.τ).loc Cert.SampleModulateIdeal.main_arg2) = m ((c.tc : Thread Cert.SampleModulateIdeal.nD Cert.SampleModulateIdeal.τ).loc Cert.SampleModulateIdeal.main_arg2))
      ∧ r.2.sem = fun _ => 0)

def quiescent_SampleModulateRefIdeal [hSampleModulateRefIdeal : Cert.SampleModulateRefIdeal.Facts] : Prop :=
  ∀ (m : (ℓ : Loc Cert.SampleModulateRefIdeal.nD Cert.SampleModulateRefIdeal.τ Cert.SampleModulateRefIdeal.sig) → Buf (Elt Ideal) ℓ) (g : Dev Cert.SampleModulateRefIdeal.nD → PrngReg), Pre_SampleModulateRefIdeal m →
    θ_run (Cert.SampleModulateRefIdeal.defs (F := Ideal)) (onTc (τ := Cert.SampleModulateRefIdeal.τ) (Cert.SampleModulateRefIdeal.main (F := Ideal))) ⟨m, fun _ => 0, g⟩ (fun r => (∀ c : Dev Cert.SampleModulateRefIdeal.nD,
      r.2.mem ((c.tc : Thread Cert.SampleModulateRefIdeal.nD Cert.SampleModulateRefIdeal.τ).loc Cert.SampleModulateRefIdeal.main_arg0) = m ((c.tc : Thread Cert.SampleModulateRefIdeal.nD Cert.SampleModulateRefIdeal.τ).loc Cert.SampleModulateRefIdeal.main_arg0)
      ∧ r.2.mem ((c.tc : Thread Cert.SampleModulateRefIdeal.nD Cert.SampleModulateRefIdeal.τ).loc Cert.SampleModulateRefIdeal.main_arg1) = m ((c.tc : Thread Cert.SampleModulateRefIdeal.nD Cert.SampleModulateRefIdeal.τ).loc Cert.SampleModulateRefIdeal.main_arg1)
      ∧ r.2.mem ((c.tc : Thread Cert.SampleModulateRefIdeal.nD Cert.SampleModulateRefIdeal.τ).loc Cert.SampleModulateRefIdeal.main_arg2) = m ((c.tc : Thread Cert.SampleModulateRefIdeal.nD Cert.SampleModulateRefIdeal.τ).loc Cert.SampleModulateRefIdeal.main_arg2))
      ∧ r.2.sem = fun _ => 0)

def quiescent_SampleQkv [hSampleQkv : Cert.SampleQkv.Facts] : Prop :=
  ∀ (m : (ℓ : Loc Cert.SampleQkv.nD Cert.SampleQkv.τ Cert.SampleQkv.sig) → Buf (Elt Bits) ℓ) (g : Dev Cert.SampleQkv.nD → PrngReg), Pre_SampleQkv m →
    θ_run (Cert.SampleQkv.defs (F := Bits)) (onTc (τ := Cert.SampleQkv.τ) (Cert.SampleQkv.main (F := Bits))) ⟨m, fun _ => 0, g⟩ (fun r => (∀ c : Dev Cert.SampleQkv.nD,
      r.2.mem ((c.tc : Thread Cert.SampleQkv.nD Cert.SampleQkv.τ).loc Cert.SampleQkv.main_arg0) = m ((c.tc : Thread Cert.SampleQkv.nD Cert.SampleQkv.τ).loc Cert.SampleQkv.main_arg0)
      ∧ r.2.mem ((c.tc : Thread Cert.SampleQkv.nD Cert.SampleQkv.τ).loc Cert.SampleQkv.main_arg1) = m ((c.tc : Thread Cert.SampleQkv.nD Cert.SampleQkv.τ).loc Cert.SampleQkv.main_arg1)
      ∧ r.2.mem ((c.tc : Thread Cert.SampleQkv.nD Cert.SampleQkv.τ).loc Cert.SampleQkv.main_arg2) = m ((c.tc : Thread Cert.SampleQkv.nD Cert.SampleQkv.τ).loc Cert.SampleQkv.main_arg2)
      ∧ r.2.mem ((c.tc : Thread Cert.SampleQkv.nD Cert.SampleQkv.τ).loc Cert.SampleQkv.main_arg3) = m ((c.tc : Thread Cert.SampleQkv.nD Cert.SampleQkv.τ).loc Cert.SampleQkv.main_arg3))
      ∧ r.2.sem = fun _ => 0)

def quiescent_SampleQkvIdeal [hSampleQkvIdeal : Cert.SampleQkvIdeal.Facts] : Prop :=
  ∀ (m : (ℓ : Loc Cert.SampleQkvIdeal.nD Cert.SampleQkvIdeal.τ Cert.SampleQkvIdeal.sig) → Buf (Elt Ideal) ℓ) (g : Dev Cert.SampleQkvIdeal.nD → PrngReg), Pre_SampleQkvIdeal m →
    θ_run (Cert.SampleQkvIdeal.defs (F := Ideal)) (onTc (τ := Cert.SampleQkvIdeal.τ) (Cert.SampleQkvIdeal.main (F := Ideal))) ⟨m, fun _ => 0, g⟩ (fun r => (∀ c : Dev Cert.SampleQkvIdeal.nD,
      r.2.mem ((c.tc : Thread Cert.SampleQkvIdeal.nD Cert.SampleQkvIdeal.τ).loc Cert.SampleQkvIdeal.main_arg0) = m ((c.tc : Thread Cert.SampleQkvIdeal.nD Cert.SampleQkvIdeal.τ).loc Cert.SampleQkvIdeal.main_arg0)
      ∧ r.2.mem ((c.tc : Thread Cert.SampleQkvIdeal.nD Cert.SampleQkvIdeal.τ).loc Cert.SampleQkvIdeal.main_arg1) = m ((c.tc : Thread Cert.SampleQkvIdeal.nD Cert.SampleQkvIdeal.τ).loc Cert.SampleQkvIdeal.main_arg1)
      ∧ r.2.mem ((c.tc : Thread Cert.SampleQkvIdeal.nD Cert.SampleQkvIdeal.τ).loc Cert.SampleQkvIdeal.main_arg2) = m ((c.tc : Thread Cert.SampleQkvIdeal.nD Cert.SampleQkvIdeal.τ).loc Cert.SampleQkvIdeal.main_arg2)
      ∧ r.2.mem ((c.tc : Thread Cert.SampleQkvIdeal.nD Cert.SampleQkvIdeal.τ).loc Cert.SampleQkvIdeal.main_arg3) = m ((c.tc : Thread Cert.SampleQkvIdeal.nD Cert.SampleQkvIdeal.τ).loc Cert.SampleQkvIdeal.main_arg3))
      ∧ r.2.sem = fun _ => 0)

def quiescent_SampleQkvIdeal_pre_finite_hw_sample [hSampleQkvIdeal : Cert.SampleQkvIdeal.Facts] [hPre_finite_hw_sample : Cert.Pre_finite_hw_sample.Facts] : Prop :=
  ∀ (m : (ℓ : Loc Cert.SampleQkvIdeal.nD Cert.SampleQkvIdeal.τ Cert.SampleQkvIdeal.sig) → Buf (Elt Ideal) ℓ) (g : Dev Cert.SampleQkvIdeal.nD → PrngReg), Pre_SampleQkvIdeal_finite_hw_sample m →
    θ_run (Cert.SampleQkvIdeal.defs (F := Ideal)) (onTc (τ := Cert.SampleQkvIdeal.τ) (Cert.SampleQkvIdeal.main (F := Ideal))) ⟨m, fun _ => 0, g⟩ (fun r => (∀ c : Dev Cert.SampleQkvIdeal.nD,
      r.2.mem ((c.tc : Thread Cert.SampleQkvIdeal.nD Cert.SampleQkvIdeal.τ).loc Cert.SampleQkvIdeal.main_arg0) = m ((c.tc : Thread Cert.SampleQkvIdeal.nD Cert.SampleQkvIdeal.τ).loc Cert.SampleQkvIdeal.main_arg0)
      ∧ r.2.mem ((c.tc : Thread Cert.SampleQkvIdeal.nD Cert.SampleQkvIdeal.τ).loc Cert.SampleQkvIdeal.main_arg1) = m ((c.tc : Thread Cert.SampleQkvIdeal.nD Cert.SampleQkvIdeal.τ).loc Cert.SampleQkvIdeal.main_arg1)
      ∧ r.2.mem ((c.tc : Thread Cert.SampleQkvIdeal.nD Cert.SampleQkvIdeal.τ).loc Cert.SampleQkvIdeal.main_arg2) = m ((c.tc : Thread Cert.SampleQkvIdeal.nD Cert.SampleQkvIdeal.τ).loc Cert.SampleQkvIdeal.main_arg2)
      ∧ r.2.mem ((c.tc : Thread Cert.SampleQkvIdeal.nD Cert.SampleQkvIdeal.τ).loc Cert.SampleQkvIdeal.main_arg3) = m ((c.tc : Thread Cert.SampleQkvIdeal.nD Cert.SampleQkvIdeal.τ).loc Cert.SampleQkvIdeal.main_arg3))
      ∧ r.2.sem = fun _ => 0)

def quiescent_SampleQkvRefIdeal [hSampleQkvRefIdeal : Cert.SampleQkvRefIdeal.Facts] : Prop :=
  ∀ (m : (ℓ : Loc Cert.SampleQkvRefIdeal.nD Cert.SampleQkvRefIdeal.τ Cert.SampleQkvRefIdeal.sig) → Buf (Elt Ideal) ℓ) (g : Dev Cert.SampleQkvRefIdeal.nD → PrngReg), Pre_SampleQkvRefIdeal m →
    θ_run (Cert.SampleQkvRefIdeal.defs (F := Ideal)) (onTc (τ := Cert.SampleQkvRefIdeal.τ) (Cert.SampleQkvRefIdeal.main (F := Ideal))) ⟨m, fun _ => 0, g⟩ (fun r => (∀ c : Dev Cert.SampleQkvRefIdeal.nD,
      r.2.mem ((c.tc : Thread Cert.SampleQkvRefIdeal.nD Cert.SampleQkvRefIdeal.τ).loc Cert.SampleQkvRefIdeal.main_arg0) = m ((c.tc : Thread Cert.SampleQkvRefIdeal.nD Cert.SampleQkvRefIdeal.τ).loc Cert.SampleQkvRefIdeal.main_arg0)
      ∧ r.2.mem ((c.tc : Thread Cert.SampleQkvRefIdeal.nD Cert.SampleQkvRefIdeal.τ).loc Cert.SampleQkvRefIdeal.main_arg1) = m ((c.tc : Thread Cert.SampleQkvRefIdeal.nD Cert.SampleQkvRefIdeal.τ).loc Cert.SampleQkvRefIdeal.main_arg1)
      ∧ r.2.mem ((c.tc : Thread Cert.SampleQkvRefIdeal.nD Cert.SampleQkvRefIdeal.τ).loc Cert.SampleQkvRefIdeal.main_arg2) = m ((c.tc : Thread Cert.SampleQkvRefIdeal.nD Cert.SampleQkvRefIdeal.τ).loc Cert.SampleQkvRefIdeal.main_arg2)
      ∧ r.2.mem ((c.tc : Thread Cert.SampleQkvRefIdeal.nD Cert.SampleQkvRefIdeal.τ).loc Cert.SampleQkvRefIdeal.main_arg3) = m ((c.tc : Thread Cert.SampleQkvRefIdeal.nD Cert.SampleQkvRefIdeal.τ).loc Cert.SampleQkvRefIdeal.main_arg3))
      ∧ r.2.sem = fun _ => 0)

def quiescent_SampleQkvRefIdeal_pre_finite_hw_sample [hSampleQkvRefIdeal : Cert.SampleQkvRefIdeal.Facts] [hPre_finite_hw_sample : Cert.Pre_finite_hw_sample.Facts] : Prop :=
  ∀ (m : (ℓ : Loc Cert.SampleQkvRefIdeal.nD Cert.SampleQkvRefIdeal.τ Cert.SampleQkvRefIdeal.sig) → Buf (Elt Ideal) ℓ) (g : Dev Cert.SampleQkvRefIdeal.nD → PrngReg), Pre_SampleQkvRefIdeal_finite_hw_sample m →
    θ_run (Cert.SampleQkvRefIdeal.defs (F := Ideal)) (onTc (τ := Cert.SampleQkvRefIdeal.τ) (Cert.SampleQkvRefIdeal.main (F := Ideal))) ⟨m, fun _ => 0, g⟩ (fun r => (∀ c : Dev Cert.SampleQkvRefIdeal.nD,
      r.2.mem ((c.tc : Thread Cert.SampleQkvRefIdeal.nD Cert.SampleQkvRefIdeal.τ).loc Cert.SampleQkvRefIdeal.main_arg0) = m ((c.tc : Thread Cert.SampleQkvRefIdeal.nD Cert.SampleQkvRefIdeal.τ).loc Cert.SampleQkvRefIdeal.main_arg0)
      ∧ r.2.mem ((c.tc : Thread Cert.SampleQkvRefIdeal.nD Cert.SampleQkvRefIdeal.τ).loc Cert.SampleQkvRefIdeal.main_arg1) = m ((c.tc : Thread Cert.SampleQkvRefIdeal.nD Cert.SampleQkvRefIdeal.τ).loc Cert.SampleQkvRefIdeal.main_arg1)
      ∧ r.2.mem ((c.tc : Thread Cert.SampleQkvRefIdeal.nD Cert.SampleQkvRefIdeal.τ).loc Cert.SampleQkvRefIdeal.main_arg2) = m ((c.tc : Thread Cert.SampleQkvRefIdeal.nD Cert.SampleQkvRefIdeal.τ).loc Cert.SampleQkvRefIdeal.main_arg2)
      ∧ r.2.mem ((c.tc : Thread Cert.SampleQkvRefIdeal.nD Cert.SampleQkvRefIdeal.τ).loc Cert.SampleQkvRefIdeal.main_arg3) = m ((c.tc : Thread Cert.SampleQkvRefIdeal.nD Cert.SampleQkvRefIdeal.τ).loc Cert.SampleQkvRefIdeal.main_arg3))
      ∧ r.2.sem = fun _ => 0)

def quiescent_SampleUgv [hSampleUgv : Cert.SampleUgv.Facts] : Prop :=
  ∀ (m : (ℓ : Loc Cert.SampleUgv.nD Cert.SampleUgv.τ Cert.SampleUgv.sig) → Buf (Elt Bits) ℓ) (g : Dev Cert.SampleUgv.nD → PrngReg), Pre_SampleUgv m →
    θ_run (Cert.SampleUgv.defs (F := Bits)) (onTc (τ := Cert.SampleUgv.τ) (Cert.SampleUgv.main (F := Bits))) ⟨m, fun _ => 0, g⟩ (fun r => (∀ c : Dev Cert.SampleUgv.nD,
      r.2.mem ((c.tc : Thread Cert.SampleUgv.nD Cert.SampleUgv.τ).loc Cert.SampleUgv.main_arg0) = m ((c.tc : Thread Cert.SampleUgv.nD Cert.SampleUgv.τ).loc Cert.SampleUgv.main_arg0)
      ∧ r.2.mem ((c.tc : Thread Cert.SampleUgv.nD Cert.SampleUgv.τ).loc Cert.SampleUgv.main_arg1) = m ((c.tc : Thread Cert.SampleUgv.nD Cert.SampleUgv.τ).loc Cert.SampleUgv.main_arg1))
      ∧ r.2.sem = fun _ => 0)

def quiescent_SampleUgvIdeal [hSampleUgvIdeal : Cert.SampleUgvIdeal.Facts] : Prop :=
  ∀ (m : (ℓ : Loc Cert.SampleUgvIdeal.nD Cert.SampleUgvIdeal.τ Cert.SampleUgvIdeal.sig) → Buf (Elt Ideal) ℓ) (g : Dev Cert.SampleUgvIdeal.nD → PrngReg), Pre_SampleUgvIdeal m →
    θ_run (Cert.SampleUgvIdeal.defs (F := Ideal)) (onTc (τ := Cert.SampleUgvIdeal.τ) (Cert.SampleUgvIdeal.main (F := Ideal))) ⟨m, fun _ => 0, g⟩ (fun r => (∀ c : Dev Cert.SampleUgvIdeal.nD,
      r.2.mem ((c.tc : Thread Cert.SampleUgvIdeal.nD Cert.SampleUgvIdeal.τ).loc Cert.SampleUgvIdeal.main_arg0) = m ((c.tc : Thread Cert.SampleUgvIdeal.nD Cert.SampleUgvIdeal.τ).loc Cert.SampleUgvIdeal.main_arg0)
      ∧ r.2.mem ((c.tc : Thread Cert.SampleUgvIdeal.nD Cert.SampleUgvIdeal.τ).loc Cert.SampleUgvIdeal.main_arg1) = m ((c.tc : Thread Cert.SampleUgvIdeal.nD Cert.SampleUgvIdeal.τ).loc Cert.SampleUgvIdeal.main_arg1))
      ∧ r.2.sem = fun _ => 0)

def quiescent_SampleUgvRefIdeal [hSampleUgvRefIdeal : Cert.SampleUgvRefIdeal.Facts] : Prop :=
  ∀ (m : (ℓ : Loc Cert.SampleUgvRefIdeal.nD Cert.SampleUgvRefIdeal.τ Cert.SampleUgvRefIdeal.sig) → Buf (Elt Ideal) ℓ) (g : Dev Cert.SampleUgvRefIdeal.nD → PrngReg), Pre_SampleUgvRefIdeal m →
    θ_run (Cert.SampleUgvRefIdeal.defs (F := Ideal)) (onTc (τ := Cert.SampleUgvRefIdeal.τ) (Cert.SampleUgvRefIdeal.main (F := Ideal))) ⟨m, fun _ => 0, g⟩ (fun r => (∀ c : Dev Cert.SampleUgvRefIdeal.nD,
      r.2.mem ((c.tc : Thread Cert.SampleUgvRefIdeal.nD Cert.SampleUgvRefIdeal.τ).loc Cert.SampleUgvRefIdeal.main_arg0) = m ((c.tc : Thread Cert.SampleUgvRefIdeal.nD Cert.SampleUgvRefIdeal.τ).loc Cert.SampleUgvRefIdeal.main_arg0)
      ∧ r.2.mem ((c.tc : Thread Cert.SampleUgvRefIdeal.nD Cert.SampleUgvRefIdeal.τ).loc Cert.SampleUgvRefIdeal.main_arg1) = m ((c.tc : Thread Cert.SampleUgvRefIdeal.nD Cert.SampleUgvRefIdeal.τ).loc Cert.SampleUgvRefIdeal.main_arg1))
      ∧ r.2.sem = fun _ => 0)

def quiescent_FfnNorm [hFfnNorm : Cert.FfnNorm.Facts] : Prop :=
  ∀ (m : (ℓ : Loc Cert.FfnNorm.nD Cert.FfnNorm.τ Cert.FfnNorm.sig) → Buf (Elt Bits) ℓ) (g : Dev Cert.FfnNorm.nD → PrngReg), Pre_FfnNorm m →
    θ_run (Cert.FfnNorm.defs (F := Bits)) (onTc (τ := Cert.FfnNorm.τ) (Cert.FfnNorm.main (F := Bits))) ⟨m, fun _ => 0, g⟩ (fun r => (∀ c : Dev Cert.FfnNorm.nD,
      r.2.mem ((c.tc : Thread Cert.FfnNorm.nD Cert.FfnNorm.τ).loc Cert.FfnNorm.main_arg0) = m ((c.tc : Thread Cert.FfnNorm.nD Cert.FfnNorm.τ).loc Cert.FfnNorm.main_arg0)
      ∧ r.2.mem ((c.tc : Thread Cert.FfnNorm.nD Cert.FfnNorm.τ).loc Cert.FfnNorm.main_arg1) = m ((c.tc : Thread Cert.FfnNorm.nD Cert.FfnNorm.τ).loc Cert.FfnNorm.main_arg1)
      ∧ r.2.mem ((c.tc : Thread Cert.FfnNorm.nD Cert.FfnNorm.τ).loc Cert.FfnNorm.main_arg2) = m ((c.tc : Thread Cert.FfnNorm.nD Cert.FfnNorm.τ).loc Cert.FfnNorm.main_arg2)
      ∧ r.2.mem ((c.tc : Thread Cert.FfnNorm.nD Cert.FfnNorm.τ).loc Cert.FfnNorm.main_arg3) = m ((c.tc : Thread Cert.FfnNorm.nD Cert.FfnNorm.τ).loc Cert.FfnNorm.main_arg3))
      ∧ r.2.sem = fun _ => 0)

def quiescent_FfnNormIdeal [hFfnNormIdeal : Cert.FfnNormIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg), Pre_FfnNormIdeal m →
    θ_run (Cert.FfnNormIdeal.defs (F := Ideal)) (onTc (τ := Cert.FfnNormIdeal.τ) (Cert.FfnNormIdeal.main (F := Ideal))) ⟨m, fun _ => 0, g⟩ (fun r => (∀ c : Dev Cert.FfnNormIdeal.nD,
      r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
      ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
      ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2)
      ∧ r.2.mem ((c.tc : Thread Cert.FfnNormIdeal.nD Cert.FfnNormIdeal.τ).loc Cert.FfnNormIdeal.main_arg3) = m ((c.tc : Thread Cert.FfnNormIdeal.nD Cert.FfnNormIdeal.τ).loc Cert.FfnNormIdeal.main_arg3))
      ∧ r.2.sem = fun _ => 0)

def quiescent_FfnNormIdeal_pre_finite_ffn [hFfnNormIdeal : Cert.FfnNormIdeal.Facts] [hPre_finite_ffn : Cert.Pre_finite_ffn.Facts] : Prop :=
  ∀ (m : (ℓ : Loc Cert.FfnNormIdeal.nD Cert.FfnNormIdeal.τ Cert.FfnNormIdeal.sig) → Buf (Elt Ideal) ℓ) (g : Dev Cert.FfnNormIdeal.nD → PrngReg), Pre_FfnNormIdeal_finite_ffn m →
    θ_run (Cert.FfnNormIdeal.defs (F := Ideal)) (onTc (τ := Cert.FfnNormIdeal.τ) (Cert.FfnNormIdeal.main (F := Ideal))) ⟨m, fun _ => 0, g⟩ (fun r => (∀ c : Dev Cert.FfnNormIdeal.nD,
      r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
      ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
      ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2)
      ∧ r.2.mem ((c.tc : Thread Cert.FfnNormIdeal.nD Cert.FfnNormIdeal.τ).loc Cert.FfnNormIdeal.main_arg3) = m ((c.tc : Thread Cert.FfnNormIdeal.nD Cert.FfnNormIdeal.τ).loc Cert.FfnNormIdeal.main_arg3))
      ∧ r.2.sem = fun _ => 0)

def quiescent_FfnNormRefIdeal [hFfnNormRefIdeal : Cert.FfnNormRefIdeal.Facts] : Prop :=
  ∀ (m : (ℓ : Loc Cert.FfnNormRefIdeal.nD Cert.FfnNormRefIdeal.τ Cert.FfnNormRefIdeal.sig) → Buf (Elt Ideal) ℓ) (g : Dev Cert.FfnNormRefIdeal.nD → PrngReg), Pre_FfnNormRefIdeal m →
    θ_run (Cert.FfnNormRefIdeal.defs (F := Ideal)) (onTc (τ := Cert.FfnNormRefIdeal.τ) (Cert.FfnNormRefIdeal.main (F := Ideal))) ⟨m, fun _ => 0, g⟩ (fun r => (∀ c : Dev Cert.FfnNormRefIdeal.nD,
      r.2.mem ((c.tc : Thread Cert.FfnNormRefIdeal.nD Cert.FfnNormRefIdeal.τ).loc Cert.FfnNormRefIdeal.main_arg0) = m ((c.tc : Thread Cert.FfnNormRefIdeal.nD Cert.FfnNormRefIdeal.τ).loc Cert.FfnNormRefIdeal.main_arg0)
      ∧ r.2.mem ((c.tc : Thread Cert.FfnNormRefIdeal.nD Cert.FfnNormRefIdeal.τ).loc Cert.FfnNormRefIdeal.main_arg1) = m ((c.tc : Thread Cert.FfnNormRefIdeal.nD Cert.FfnNormRefIdeal.τ).loc Cert.FfnNormRefIdeal.main_arg1)
      ∧ r.2.mem ((c.tc : Thread Cert.FfnNormRefIdeal.nD Cert.FfnNormRefIdeal.τ).loc Cert.FfnNormRefIdeal.main_arg2) = m ((c.tc : Thread Cert.FfnNormRefIdeal.nD Cert.FfnNormRefIdeal.τ).loc Cert.FfnNormRefIdeal.main_arg2)
      ∧ r.2.mem ((c.tc : Thread Cert.FfnNormRefIdeal.nD Cert.FfnNormRefIdeal.τ).loc Cert.FfnNormRefIdeal.main_arg3) = m ((c.tc : Thread Cert.FfnNormRefIdeal.nD Cert.FfnNormRefIdeal.τ).loc Cert.FfnNormRefIdeal.main_arg3))
      ∧ r.2.sem = fun _ => 0)

def quiescent_FfnNormRefIdeal_pre_finite_ffn [hFfnNormRefIdeal : Cert.FfnNormRefIdeal.Facts] [hPre_finite_ffn : Cert.Pre_finite_ffn.Facts] : Prop :=
  ∀ (m : (ℓ : Loc Cert.FfnNormRefIdeal.nD Cert.FfnNormRefIdeal.τ Cert.FfnNormRefIdeal.sig) → Buf (Elt Ideal) ℓ) (g : Dev Cert.FfnNormRefIdeal.nD → PrngReg), Pre_FfnNormRefIdeal_finite_ffn m →
    θ_run (Cert.FfnNormRefIdeal.defs (F := Ideal)) (onTc (τ := Cert.FfnNormRefIdeal.τ) (Cert.FfnNormRefIdeal.main (F := Ideal))) ⟨m, fun _ => 0, g⟩ (fun r => (∀ c : Dev Cert.FfnNormRefIdeal.nD,
      r.2.mem ((c.tc : Thread Cert.FfnNormRefIdeal.nD Cert.FfnNormRefIdeal.τ).loc Cert.FfnNormRefIdeal.main_arg0) = m ((c.tc : Thread Cert.FfnNormRefIdeal.nD Cert.FfnNormRefIdeal.τ).loc Cert.FfnNormRefIdeal.main_arg0)
      ∧ r.2.mem ((c.tc : Thread Cert.FfnNormRefIdeal.nD Cert.FfnNormRefIdeal.τ).loc Cert.FfnNormRefIdeal.main_arg1) = m ((c.tc : Thread Cert.FfnNormRefIdeal.nD Cert.FfnNormRefIdeal.τ).loc Cert.FfnNormRefIdeal.main_arg1)
      ∧ r.2.mem ((c.tc : Thread Cert.FfnNormRefIdeal.nD Cert.FfnNormRefIdeal.τ).loc Cert.FfnNormRefIdeal.main_arg2) = m ((c.tc : Thread Cert.FfnNormRefIdeal.nD Cert.FfnNormRefIdeal.τ).loc Cert.FfnNormRefIdeal.main_arg2)
      ∧ r.2.mem ((c.tc : Thread Cert.FfnNormRefIdeal.nD Cert.FfnNormRefIdeal.τ).loc Cert.FfnNormRefIdeal.main_arg3) = m ((c.tc : Thread Cert.FfnNormRefIdeal.nD Cert.FfnNormRefIdeal.τ).loc Cert.FfnNormRefIdeal.main_arg3))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Qkv_QkvIdeal : Prop :=
  True

def algebraic_QkvIdeal_QkvRefIdeal_pre_finite_hw [hQkvIdeal : Cert.QkvIdeal.Facts] [hQkvRefIdeal : Cert.QkvRefIdeal.Facts] [hPre_finite_hw : Cert.Pre_finite_hw.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal_finite_hw m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)) →
    ∃ (v0 : (c : Dev Cert.QkvIdeal.nD) → Buf (Elt Ideal) ((c.tc : Thread Cert.QkvIdeal.nD Cert.QkvIdeal.τ).loc Cert.QkvIdeal.main_v21)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v21) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v35) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3))

def preserves_Ugv_UgvIdeal : Prop :=
  True

def algebraic_UgvIdeal_UgvRefIdeal [hUgvIdeal : Cert.UgvIdeal.Facts] [hUgvRefIdeal : Cert.UgvRefIdeal.Facts] : Prop :=
  ∀ (m : (ℓ : Loc Cert.UgvIdeal.nD Cert.UgvIdeal.τ Cert.UgvIdeal.sig) → Buf (Elt Ideal) ℓ) (g : Dev Cert.UgvIdeal.nD → PrngReg)
    (m' : (ℓ : Loc Cert.UgvRefIdeal.nD Cert.UgvRefIdeal.τ Cert.UgvRefIdeal.sig) → Buf (Elt Ideal) ℓ) (g' : Dev Cert.UgvRefIdeal.nD → PrngReg), Pre_UgvIdeal m →
    (∀ c : Dev Cert.UgvIdeal.nD,
      m' ((c.tc : Thread Cert.UgvRefIdeal.nD Cert.UgvRefIdeal.τ).loc Cert.UgvRefIdeal.main_arg0) = m ((c.tc : Thread Cert.UgvIdeal.nD Cert.UgvIdeal.τ).loc Cert.UgvIdeal.main_arg0)
      ∧ m' ((c.tc : Thread Cert.UgvRefIdeal.nD Cert.UgvRefIdeal.τ).loc Cert.UgvRefIdeal.main_arg1) = m ((c.tc : Thread Cert.UgvIdeal.nD Cert.UgvIdeal.τ).loc Cert.UgvIdeal.main_arg1)) →
    ∃ (v0 : (c : Dev Cert.UgvIdeal.nD) → Buf (Elt Ideal) ((c.tc : Thread Cert.UgvIdeal.nD Cert.UgvIdeal.τ).loc Cert.UgvIdeal.main_v0)),
      θ_run (Cert.UgvIdeal.defs (F := Ideal)) (onTc (τ := Cert.UgvIdeal.τ) (Cert.UgvIdeal.main (F := Ideal))) ⟨m, fun _ => 0, g⟩ (fun r => ∀ c : Dev Cert.UgvIdeal.nD,
          r.2.mem ((c.tc : Thread Cert.UgvIdeal.nD Cert.UgvIdeal.τ).loc Cert.UgvIdeal.main_v0) = v0 c
          ∧ r.2.mem ((c.tc : Thread Cert.UgvIdeal.nD Cert.UgvIdeal.τ).loc Cert.UgvIdeal.main_arg0) = m ((c.tc : Thread Cert.UgvIdeal.nD Cert.UgvIdeal.τ).loc Cert.UgvIdeal.main_arg0)
          ∧ r.2.mem ((c.tc : Thread Cert.UgvIdeal.nD Cert.UgvIdeal.τ).loc Cert.UgvIdeal.main_arg1) = m ((c.tc : Thread Cert.UgvIdeal.nD Cert.UgvIdeal.τ).loc Cert.UgvIdeal.main_arg1))
      ∧ θ_run (Cert.UgvRefIdeal.defs (F := Ideal)) (onTc (τ := Cert.UgvRefIdeal.τ) (Cert.UgvRefIdeal.main (F := Ideal))) ⟨m', fun _ => 0, g'⟩ (fun r => ∀ c : Dev Cert.UgvRefIdeal.nD,
          r.2.mem ((c.tc : Thread Cert.UgvRefIdeal.nD Cert.UgvRefIdeal.τ).loc Cert.UgvRefIdeal.main_v10) = v0 c
          ∧ r.2.mem ((c.tc : Thread Cert.UgvRefIdeal.nD Cert.UgvRefIdeal.τ).loc Cert.UgvRefIdeal.main_arg0) = m' ((c.tc : Thread Cert.UgvRefIdeal.nD Cert.UgvRefIdeal.τ).loc Cert.UgvRefIdeal.main_arg0)
          ∧ r.2.mem ((c.tc : Thread Cert.UgvRefIdeal.nD Cert.UgvRefIdeal.τ).loc Cert.UgvRefIdeal.main_arg1) = m' ((c.tc : Thread Cert.UgvRefIdeal.nD Cert.UgvRefIdeal.τ).loc Cert.UgvRefIdeal.main_arg1))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v0)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v9) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v11) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v8) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_SharedUp_SharedUpIdeal : Prop :=
  True

def algebraic_SharedUpIdeal_SharedUpRefIdeal [hSharedUpIdeal : Cert.SharedUpIdeal.Facts] [hSharedUpRefIdeal : Cert.SharedUpRefIdeal.Facts] : Prop :=
  ∀ (m : (ℓ : Loc Cert.SharedUpIdeal.nD Cert.SharedUpIdeal.τ Cert.SharedUpIdeal.sig) → Buf (Elt Ideal) ℓ) (g : Dev Cert.SharedUpIdeal.nD → PrngReg)
    (m' : (ℓ : Loc Cert.SharedUpRefIdeal.nD Cert.SharedUpRefIdeal.τ Cert.SharedUpRefIdeal.sig) → Buf (Elt Ideal) ℓ) (g' : Dev Cert.SharedUpRefIdeal.nD → PrngReg), Pre_SharedUpIdeal m →
    (∀ c : Dev Cert.SharedUpIdeal.nD,
      m' ((c.tc : Thread Cert.SharedUpRefIdeal.nD Cert.SharedUpRefIdeal.τ).loc Cert.SharedUpRefIdeal.main_arg0) = m ((c.tc : Thread Cert.SharedUpIdeal.nD Cert.SharedUpIdeal.τ).loc Cert.SharedUpIdeal.main_arg0)
      ∧ m' ((c.tc : Thread Cert.SharedUpRefIdeal.nD Cert.SharedUpRefIdeal.τ).loc Cert.SharedUpRefIdeal.main_arg1) = m ((c.tc : Thread Cert.SharedUpIdeal.nD Cert.SharedUpIdeal.τ).loc Cert.SharedUpIdeal.main_arg1)
      ∧ m' ((c.tc : Thread Cert.SharedUpRefIdeal.nD Cert.SharedUpRefIdeal.τ).loc Cert.SharedUpRefIdeal.main_arg2) = m ((c.tc : Thread Cert.SharedUpIdeal.nD Cert.SharedUpIdeal.τ).loc Cert.SharedUpIdeal.main_arg2)) →
    ∃ (v0 : (c : Dev Cert.SharedUpIdeal.nD) → Buf (Elt Ideal) ((c.tc : Thread Cert.SharedUpIdeal.nD Cert.SharedUpIdeal.τ).loc Cert.SharedUpIdeal.main_v0)),
      θ_run (Cert.SharedUpIdeal.defs (F := Ideal)) (onTc (τ := Cert.SharedUpIdeal.τ) (Cert.SharedUpIdeal.main (F := Ideal))) ⟨m, fun _ => 0, g⟩ (fun r => ∀ c : Dev Cert.SharedUpIdeal.nD,
          r.2.mem ((c.tc : Thread Cert.SharedUpIdeal.nD Cert.SharedUpIdeal.τ).loc Cert.SharedUpIdeal.main_v0) = v0 c
          ∧ r.2.mem ((c.tc : Thread Cert.SharedUpIdeal.nD Cert.SharedUpIdeal.τ).loc Cert.SharedUpIdeal.main_arg0) = m ((c.tc : Thread Cert.SharedUpIdeal.nD Cert.SharedUpIdeal.τ).loc Cert.SharedUpIdeal.main_arg0)
          ∧ r.2.mem ((c.tc : Thread Cert.SharedUpIdeal.nD Cert.SharedUpIdeal.τ).loc Cert.SharedUpIdeal.main_arg1) = m ((c.tc : Thread Cert.SharedUpIdeal.nD Cert.SharedUpIdeal.τ).loc Cert.SharedUpIdeal.main_arg1)
          ∧ r.2.mem ((c.tc : Thread Cert.SharedUpIdeal.nD Cert.SharedUpIdeal.τ).loc Cert.SharedUpIdeal.main_arg2) = m ((c.tc : Thread Cert.SharedUpIdeal.nD Cert.SharedUpIdeal.τ).loc Cert.SharedUpIdeal.main_arg2))
      ∧ θ_run (Cert.SharedUpRefIdeal.defs (F := Ideal)) (onTc (τ := Cert.SharedUpRefIdeal.τ) (Cert.SharedUpRefIdeal.main (F := Ideal))) ⟨m', fun _ => 0, g'⟩ (fun r => ∀ c : Dev Cert.SharedUpRefIdeal.nD,
          r.2.mem ((c.tc : Thread Cert.SharedUpRefIdeal.nD Cert.SharedUpRefIdeal.τ).loc Cert.SharedUpRefIdeal.main_v5) = v0 c
          ∧ r.2.mem ((c.tc : Thread Cert.SharedUpRefIdeal.nD Cert.SharedUpRefIdeal.τ).loc Cert.SharedUpRefIdeal.main_arg0) = m' ((c.tc : Thread Cert.SharedUpRefIdeal.nD Cert.SharedUpRefIdeal.τ).loc Cert.SharedUpRefIdeal.main_arg0)
          ∧ r.2.mem ((c.tc : Thread Cert.SharedUpRefIdeal.nD Cert.SharedUpRefIdeal.τ).loc Cert.SharedUpRefIdeal.main_arg1) = m' ((c.tc : Thread Cert.SharedUpRefIdeal.nD Cert.SharedUpRefIdeal.τ).loc Cert.SharedUpRefIdeal.main_arg1)
          ∧ r.2.mem ((c.tc : Thread Cert.SharedUpRefIdeal.nD Cert.SharedUpRefIdeal.τ).loc Cert.SharedUpRefIdeal.main_arg2) = m' ((c.tc : Thread Cert.SharedUpRefIdeal.nD Cert.SharedUpRefIdeal.τ).loc Cert.SharedUpRefIdeal.main_arg2))

def preserves_SharedDown_SharedDownIdeal : Prop :=
  True

def algebraic_SharedDownIdeal_SharedDownRefIdeal [hSharedDownIdeal : Cert.SharedDownIdeal.Facts] [hSharedDownRefIdeal : Cert.SharedDownRefIdeal.Facts] : Prop :=
  ∀ (m : (ℓ : Loc Cert.SharedDownIdeal.nD Cert.SharedDownIdeal.τ Cert.SharedDownIdeal.sig) → Buf (Elt Ideal) ℓ) (g : Dev Cert.SharedDownIdeal.nD → PrngReg)
    (m' : (ℓ : Loc Cert.SharedDownRefIdeal.nD Cert.SharedDownRefIdeal.τ Cert.SharedDownRefIdeal.sig) → Buf (Elt Ideal) ℓ) (g' : Dev Cert.SharedDownRefIdeal.nD → PrngReg), Pre_SharedDownIdeal m →
    (∀ c : Dev Cert.SharedDownIdeal.nD,
      m' ((c.tc : Thread Cert.SharedDownRefIdeal.nD Cert.SharedDownRefIdeal.τ).loc Cert.SharedDownRefIdeal.main_arg0) = m ((c.tc : Thread Cert.SharedDownIdeal.nD Cert.SharedDownIdeal.τ).loc Cert.SharedDownIdeal.main_arg0)
      ∧ m' ((c.tc : Thread Cert.SharedDownRefIdeal.nD Cert.SharedDownRefIdeal.τ).loc Cert.SharedDownRefIdeal.main_arg1) = m ((c.tc : Thread Cert.SharedDownIdeal.nD Cert.SharedDownIdeal.τ).loc Cert.SharedDownIdeal.main_arg1)) →
    ∃ (v0 : (c : Dev Cert.SharedDownIdeal.nD) → Buf (Elt Ideal) ((c.tc : Thread Cert.SharedDownIdeal.nD Cert.SharedDownIdeal.τ).loc Cert.SharedDownIdeal.main_v0)),
      θ_run (Cert.SharedDownIdeal.defs (F := Ideal)) (onTc (τ := Cert.SharedDownIdeal.τ) (Cert.SharedDownIdeal.main (F := Ideal))) ⟨m, fun _ => 0, g⟩ (fun r => ∀ c : Dev Cert.SharedDownIdeal.nD,
          r.2.mem ((c.tc : Thread Cert.SharedDownIdeal.nD Cert.SharedDownIdeal.τ).loc Cert.SharedDownIdeal.main_v0) = v0 c
          ∧ r.2.mem ((c.tc : Thread Cert.SharedDownIdeal.nD Cert.SharedDownIdeal.τ).loc Cert.SharedDownIdeal.main_arg0) = m ((c.tc : Thread Cert.SharedDownIdeal.nD Cert.SharedDownIdeal.τ).loc Cert.SharedDownIdeal.main_arg0)
          ∧ r.2.mem ((c.tc : Thread Cert.SharedDownIdeal.nD Cert.SharedDownIdeal.τ).loc Cert.SharedDownIdeal.main_arg1) = m ((c.tc : Thread Cert.SharedDownIdeal.nD Cert.SharedDownIdeal.τ).loc Cert.SharedDownIdeal.main_arg1))
      ∧ θ_run (Cert.SharedDownRefIdeal.defs (F := Ideal)) (onTc (τ := Cert.SharedDownRefIdeal.τ) (Cert.SharedDownRefIdeal.main (F := Ideal))) ⟨m', fun _ => 0, g'⟩ (fun r => ∀ c : Dev Cert.SharedDownRefIdeal.nD,
          r.2.mem ((c.tc : Thread Cert.SharedDownRefIdeal.nD Cert.SharedDownRefIdeal.τ).loc Cert.SharedDownRefIdeal.main_v1) = v0 c
          ∧ r.2.mem ((c.tc : Thread Cert.SharedDownRefIdeal.nD Cert.SharedDownRefIdeal.τ).loc Cert.SharedDownRefIdeal.main_arg0) = m' ((c.tc : Thread Cert.SharedDownRefIdeal.nD Cert.SharedDownRefIdeal.τ).loc Cert.SharedDownRefIdeal.main_arg0)
          ∧ r.2.mem ((c.tc : Thread Cert.SharedDownRefIdeal.nD Cert.SharedDownRefIdeal.τ).loc Cert.SharedDownRefIdeal.main_arg1) = m' ((c.tc : Thread Cert.SharedDownRefIdeal.nD Cert.SharedDownRefIdeal.τ).loc Cert.SharedDownRefIdeal.main_arg1))

def preserves_Adaln_AdalnIdeal : Prop :=
  True

def algebraic_AdalnIdeal_AdalnRefIdeal [hAdalnIdeal : Cert.AdalnIdeal.Facts] [hAdalnRefIdeal : Cert.AdalnRefIdeal.Facts] : Prop :=
  ∀ (m : (ℓ : Loc Cert.AdalnIdeal.nD Cert.AdalnIdeal.τ Cert.AdalnIdeal.sig) → Buf (Elt Ideal) ℓ) (g : Dev Cert.AdalnIdeal.nD → PrngReg)
    (m' : (ℓ : Loc Cert.AdalnRefIdeal.nD Cert.AdalnRefIdeal.τ Cert.AdalnRefIdeal.sig) → Buf (Elt Ideal) ℓ) (g' : Dev Cert.AdalnRefIdeal.nD → PrngReg), Pre_AdalnIdeal m →
    (∀ c : Dev Cert.AdalnIdeal.nD,
      m' ((c.tc : Thread Cert.AdalnRefIdeal.nD Cert.AdalnRefIdeal.τ).loc Cert.AdalnRefIdeal.main_arg0) = m ((c.tc : Thread Cert.AdalnIdeal.nD Cert.AdalnIdeal.τ).loc Cert.AdalnIdeal.main_arg0)
      ∧ m' ((c.tc : Thread Cert.AdalnRefIdeal.nD Cert.AdalnRefIdeal.τ).loc Cert.AdalnRefIdeal.main_arg1) = m ((c.tc : Thread Cert.AdalnIdeal.nD Cert.AdalnIdeal.τ).loc Cert.AdalnIdeal.main_arg1)
      ∧ m' ((c.tc : Thread Cert.AdalnRefIdeal.nD Cert.AdalnRefIdeal.τ).loc Cert.AdalnRefIdeal.main_arg2) = m ((c.tc : Thread Cert.AdalnIdeal.nD Cert.AdalnIdeal.τ).loc Cert.AdalnIdeal.main_arg2)) →
    ∃ (v0 : (c : Dev Cert.AdalnIdeal.nD) → Buf (Elt Ideal) ((c.tc : Thread Cert.AdalnIdeal.nD Cert.AdalnIdeal.τ).loc Cert.AdalnIdeal.main_v1)),
      θ_run (Cert.AdalnIdeal.defs (F := Ideal)) (onTc (τ := Cert.AdalnIdeal.τ) (Cert.AdalnIdeal.main (F := Ideal))) ⟨m, fun _ => 0, g⟩ (fun r => ∀ c : Dev Cert.AdalnIdeal.nD,
          r.2.mem ((c.tc : Thread Cert.AdalnIdeal.nD Cert.AdalnIdeal.τ).loc Cert.AdalnIdeal.main_v1) = v0 c
          ∧ r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
          ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
          ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ θ_run (Cert.AdalnRefIdeal.defs (F := Ideal)) (onTc (τ := Cert.AdalnRefIdeal.τ) (Cert.AdalnRefIdeal.main (F := Ideal))) ⟨m', fun _ => 0, g'⟩ (fun r => ∀ c : Dev Cert.AdalnRefIdeal.nD,
          r.2.mem ((c.tc : Thread Cert.AdalnRefIdeal.nD Cert.AdalnRefIdeal.τ).loc Cert.AdalnRefIdeal.main_v4) = v0 c
          ∧ r.2.mem ((c.tc : Thread Cert.AdalnRefIdeal.nD Cert.AdalnRefIdeal.τ).loc Cert.AdalnRefIdeal.main_arg0) = m' ((c.tc : Thread Cert.AdalnRefIdeal.nD Cert.AdalnRefIdeal.τ).loc Cert.AdalnRefIdeal.main_arg0)
          ∧ r.2.mem ((c.tc : Thread Cert.AdalnRefIdeal.nD Cert.AdalnRefIdeal.τ).loc Cert.AdalnRefIdeal.main_arg1) = m' ((c.tc : Thread Cert.AdalnRefIdeal.nD Cert.AdalnRefIdeal.τ).loc Cert.AdalnRefIdeal.main_arg1)
          ∧ r.2.mem ((c.tc : Thread Cert.AdalnRefIdeal.nD Cert.AdalnRefIdeal.τ).loc Cert.AdalnRefIdeal.main_arg2) = m' ((c.tc : Thread Cert.AdalnRefIdeal.nD Cert.AdalnRefIdeal.τ).loc Cert.AdalnRefIdeal.main_arg2))

def preserves_Modulate_ModulateIdeal : Prop :=
  True

def algebraic_ModulateIdeal_ModulateRefIdeal [hModulateIdeal : Cert.ModulateIdeal.Facts] [hModulateRefIdeal : Cert.ModulateRefIdeal.Facts] : Prop :=
  ∀ (m : (ℓ : Loc Cert.ModulateIdeal.nD Cert.ModulateIdeal.τ Cert.ModulateIdeal.sig) → Buf (Elt Ideal) ℓ) (g : Dev Cert.ModulateIdeal.nD → PrngReg)
    (m' : (ℓ : Loc Cert.ModulateRefIdeal.nD Cert.ModulateRefIdeal.τ Cert.ModulateRefIdeal.sig) → Buf (Elt Ideal) ℓ) (g' : Dev Cert.ModulateRefIdeal.nD → PrngReg), Pre_ModulateIdeal m →
    (∀ c : Dev Cert.ModulateIdeal.nD,
      m' ((c.tc : Thread Cert.ModulateRefIdeal.nD Cert.ModulateRefIdeal.τ).loc Cert.ModulateRefIdeal.main_arg0) = m ((c.tc : Thread Cert.ModulateIdeal.nD Cert.ModulateIdeal.τ).loc Cert.ModulateIdeal.main_arg0)
      ∧ m' ((c.tc : Thread Cert.ModulateRefIdeal.nD Cert.ModulateRefIdeal.τ).loc Cert.ModulateRefIdeal.main_arg1) = m ((c.tc : Thread Cert.ModulateIdeal.nD Cert.ModulateIdeal.τ).loc Cert.ModulateIdeal.main_arg1)
      ∧ m' ((c.tc : Thread Cert.ModulateRefIdeal.nD Cert.ModulateRefIdeal.τ).loc Cert.ModulateRefIdeal.main_arg2) = m ((c.tc : Thread Cert.ModulateIdeal.nD Cert.ModulateIdeal.τ).loc Cert.ModulateIdeal.main_arg2)) →
    ∃ (v0 : (c : Dev Cert.ModulateIdeal.nD) → Buf (Elt Ideal) ((c.tc : Thread Cert.ModulateIdeal.nD Cert.ModulateIdeal.τ).loc Cert.ModulateIdeal.main_v3)),
      θ_run (Cert.ModulateIdeal.defs (F := Ideal)) (onTc (τ := Cert.ModulateIdeal.τ) (Cert.ModulateIdeal.main (F := Ideal))) ⟨m, fun _ => 0, g⟩ (fun r => ∀ c : Dev Cert.ModulateIdeal.nD,
          r.2.mem ((c.tc : Thread Cert.ModulateIdeal.nD Cert.ModulateIdeal.τ).loc Cert.ModulateIdeal.main_v3) = v0 c
          ∧ r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
          ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
          ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2))
      ∧ θ_run (Cert.ModulateRefIdeal.defs (F := Ideal)) (onTc (τ := Cert.ModulateRefIdeal.τ) (Cert.ModulateRefIdeal.main (F := Ideal))) ⟨m', fun _ => 0, g'⟩ (fun r => ∀ c : Dev Cert.ModulateRefIdeal.nD,
          r.2.mem ((c.tc : Thread Cert.ModulateRefIdeal.nD Cert.ModulateRefIdeal.τ).loc Cert.ModulateRefIdeal.main_v24) = v0 c
          ∧ r.2.mem ((c.tc : Thread Cert.ModulateRefIdeal.nD Cert.ModulateRefIdeal.τ).loc Cert.ModulateRefIdeal.main_arg0) = m' ((c.tc : Thread Cert.ModulateRefIdeal.nD Cert.ModulateRefIdeal.τ).loc Cert.ModulateRefIdeal.main_arg0)
          ∧ r.2.mem ((c.tc : Thread Cert.ModulateRefIdeal.nD Cert.ModulateRefIdeal.τ).loc Cert.ModulateRefIdeal.main_arg1) = m' ((c.tc : Thread Cert.ModulateRefIdeal.nD Cert.ModulateRefIdeal.τ).loc Cert.ModulateRefIdeal.main_arg1)
          ∧ r.2.mem ((c.tc : Thread Cert.ModulateRefIdeal.nD Cert.ModulateRefIdeal.τ).loc Cert.ModulateRefIdeal.main_arg2) = m' ((c.tc : Thread Cert.ModulateRefIdeal.nD Cert.ModulateRefIdeal.τ).loc Cert.ModulateRefIdeal.main_arg2))

def preserves_GmlpPrompt_GmlpPromptIdeal : Prop :=
  True

def algebraic_GmlpPromptIdeal_GmlpPromptRefIdeal [hGmlpPromptIdeal : Cert.GmlpPromptIdeal.Facts] [hGmlpPromptRefIdeal : Cert.GmlpPromptRefIdeal.Facts] : Prop :=
  ∀ (m : (ℓ : Loc Cert.GmlpPromptIdeal.nD Cert.GmlpPromptIdeal.τ Cert.GmlpPromptIdeal.sig) → Buf (Elt Ideal) ℓ) (g : Dev Cert.GmlpPromptIdeal.nD → PrngReg)
    (m' : (ℓ : Loc Cert.GmlpPromptRefIdeal.nD Cert.GmlpPromptRefIdeal.τ Cert.GmlpPromptRefIdeal.sig) → Buf (Elt Ideal) ℓ) (g' : Dev Cert.GmlpPromptRefIdeal.nD → PrngReg), Pre_GmlpPromptIdeal m →
    (∀ c : Dev Cert.GmlpPromptIdeal.nD,
      m' ((c.tc : Thread Cert.GmlpPromptRefIdeal.nD Cert.GmlpPromptRefIdeal.τ).loc Cert.GmlpPromptRefIdeal.main_arg0) = m ((c.tc : Thread Cert.GmlpPromptIdeal.nD Cert.GmlpPromptIdeal.τ).loc Cert.GmlpPromptIdeal.main_arg0)
      ∧ m' ((c.tc : Thread Cert.GmlpPromptRefIdeal.nD Cert.GmlpPromptRefIdeal.τ).loc Cert.GmlpPromptRefIdeal.main_arg1) = m ((c.tc : Thread Cert.GmlpPromptIdeal.nD Cert.GmlpPromptIdeal.τ).loc Cert.GmlpPromptIdeal.main_arg1)
      ∧ m' ((c.tc : Thread Cert.GmlpPromptRefIdeal.nD Cert.GmlpPromptRefIdeal.τ).loc Cert.GmlpPromptRefIdeal.main_arg2) = m ((c.tc : Thread Cert.GmlpPromptIdeal.nD Cert.GmlpPromptIdeal.τ).loc Cert.GmlpPromptIdeal.main_arg2)
      ∧ m' ((c.tc : Thread Cert.GmlpPromptRefIdeal.nD Cert.GmlpPromptRefIdeal.τ).loc Cert.GmlpPromptRefIdeal.main_arg3) = m ((c.tc : Thread Cert.GmlpPromptIdeal.nD Cert.GmlpPromptIdeal.τ).loc Cert.GmlpPromptIdeal.main_arg3)
      ∧ m' ((c.tc : Thread Cert.GmlpPromptRefIdeal.nD Cert.GmlpPromptRefIdeal.τ).loc Cert.GmlpPromptRefIdeal.main_arg4) = m ((c.tc : Thread Cert.GmlpPromptIdeal.nD Cert.GmlpPromptIdeal.τ).loc Cert.GmlpPromptIdeal.main_arg4)) →
    ∃ (v0 : (c : Dev Cert.GmlpPromptIdeal.nD) → Buf (Elt Ideal) ((c.tc : Thread Cert.GmlpPromptIdeal.nD Cert.GmlpPromptIdeal.τ).loc Cert.GmlpPromptIdeal.main_v3)),
      θ_run (Cert.GmlpPromptIdeal.defs (F := Ideal)) (onTc (τ := Cert.GmlpPromptIdeal.τ) (Cert.GmlpPromptIdeal.main (F := Ideal))) ⟨m, fun _ => 0, g⟩ (fun r => ∀ c : Dev Cert.GmlpPromptIdeal.nD,
          r.2.mem ((c.tc : Thread Cert.GmlpPromptIdeal.nD Cert.GmlpPromptIdeal.τ).loc Cert.GmlpPromptIdeal.main_v3) = v0 c
          ∧ r.2.mem ((c.tc : Thread Cert.GmlpPromptIdeal.nD Cert.GmlpPromptIdeal.τ).loc Cert.GmlpPromptIdeal.main_arg0) = m ((c.tc : Thread Cert.GmlpPromptIdeal.nD Cert.GmlpPromptIdeal.τ).loc Cert.GmlpPromptIdeal.main_arg0)
          ∧ r.2.mem ((c.tc : Thread Cert.GmlpPromptIdeal.nD Cert.GmlpPromptIdeal.τ).loc Cert.GmlpPromptIdeal.main_arg1) = m ((c.tc : Thread Cert.GmlpPromptIdeal.nD Cert.GmlpPromptIdeal.τ).loc Cert.GmlpPromptIdeal.main_arg1)
          ∧ r.2.mem ((c.tc : Thread Cert.GmlpPromptIdeal.nD Cert.GmlpPromptIdeal.τ).loc Cert.GmlpPromptIdeal.main_arg2) = m ((c.tc : Thread Cert.GmlpPromptIdeal.nD Cert.GmlpPromptIdeal.τ).loc Cert.GmlpPromptIdeal.main_arg2)
          ∧ r.2.mem ((c.tc : Thread Cert.GmlpPromptIdeal.nD Cert.GmlpPromptIdeal.τ).loc Cert.GmlpPromptIdeal.main_arg3) = m ((c.tc : Thread Cert.GmlpPromptIdeal.nD Cert.GmlpPromptIdeal.τ).loc Cert.GmlpPromptIdeal.main_arg3)
          ∧ r.2.mem ((c.tc : Thread Cert.GmlpPromptIdeal.nD Cert.GmlpPromptIdeal.τ).loc Cert.GmlpPromptIdeal.main_arg4) = m ((c.tc : Thread Cert.GmlpPromptIdeal.nD Cert.GmlpPromptIdeal.τ).loc Cert.GmlpPromptIdeal.main_arg4))
      ∧ θ_run (Cert.GmlpPromptRefIdeal.defs (F := Ideal)) (onTc (τ := Cert.GmlpPromptRefIdeal.τ) (Cert.GmlpPromptRefIdeal.main (F := Ideal))) ⟨m', fun _ => 0, g'⟩ (fun r => ∀ c : Dev Cert.GmlpPromptRefIdeal.nD,
          r.2.mem ((c.tc : Thread Cert.GmlpPromptRefIdeal.nD Cert.GmlpPromptRefIdeal.τ).loc Cert.GmlpPromptRefIdeal.main_v42) = v0 c
          ∧ r.2.mem ((c.tc : Thread Cert.GmlpPromptRefIdeal.nD Cert.GmlpPromptRefIdeal.τ).loc Cert.GmlpPromptRefIdeal.main_arg0) = m' ((c.tc : Thread Cert.GmlpPromptRefIdeal.nD Cert.GmlpPromptRefIdeal.τ).loc Cert.GmlpPromptRefIdeal.main_arg0)
          ∧ r.2.mem ((c.tc : Thread Cert.GmlpPromptRefIdeal.nD Cert.GmlpPromptRefIdeal.τ).loc Cert.GmlpPromptRefIdeal.main_arg1) = m' ((c.tc : Thread Cert.GmlpPromptRefIdeal.nD Cert.GmlpPromptRefIdeal.τ).loc Cert.GmlpPromptRefIdeal.main_arg1)
          ∧ r.2.mem ((c.tc : Thread Cert.GmlpPromptRefIdeal.nD Cert.GmlpPromptRefIdeal.τ).loc Cert.GmlpPromptRefIdeal.main_arg2) = m' ((c.tc : Thread Cert.GmlpPromptRefIdeal.nD Cert.GmlpPromptRefIdeal.τ).loc Cert.GmlpPromptRefIdeal.main_arg2)
          ∧ r.2.mem ((c.tc : Thread Cert.GmlpPromptRefIdeal.nD Cert.GmlpPromptRefIdeal.τ).loc Cert.GmlpPromptRefIdeal.main_arg3) = m' ((c.tc : Thread Cert.GmlpPromptRefIdeal.nD Cert.GmlpPromptRefIdeal.τ).loc Cert.GmlpPromptRefIdeal.main_arg3)
          ∧ r.2.mem ((c.tc : Thread Cert.GmlpPromptRefIdeal.nD Cert.GmlpPromptRefIdeal.τ).loc Cert.GmlpPromptRefIdeal.main_arg4) = m' ((c.tc : Thread Cert.GmlpPromptRefIdeal.nD Cert.GmlpPromptRefIdeal.τ).loc Cert.GmlpPromptRefIdeal.main_arg4))

def preserves_GmlpSample_GmlpSampleIdeal : Prop :=
  True

def algebraic_GmlpSampleIdeal_GmlpSampleRefIdeal [hGmlpSampleIdeal : Cert.GmlpSampleIdeal.Facts] [hGmlpSampleRefIdeal : Cert.GmlpSampleRefIdeal.Facts] : Prop :=
  ∀ (m : (ℓ : Loc Cert.GmlpSampleIdeal.nD Cert.GmlpSampleIdeal.τ Cert.GmlpSampleIdeal.sig) → Buf (Elt Ideal) ℓ) (g : Dev Cert.GmlpSampleIdeal.nD → PrngReg)
    (m' : (ℓ : Loc Cert.GmlpSampleRefIdeal.nD Cert.GmlpSampleRefIdeal.τ Cert.GmlpSampleRefIdeal.sig) → Buf (Elt Ideal) ℓ) (g' : Dev Cert.GmlpSampleRefIdeal.nD → PrngReg), Pre_GmlpSampleIdeal m →
    (∀ c : Dev Cert.GmlpSampleIdeal.nD,
      m' ((c.tc : Thread Cert.GmlpSampleRefIdeal.nD Cert.GmlpSampleRefIdeal.τ).loc Cert.GmlpSampleRefIdeal.main_arg0) = m ((c.tc : Thread Cert.GmlpSampleIdeal.nD Cert.GmlpSampleIdeal.τ).loc Cert.GmlpSampleIdeal.main_arg0)
      ∧ m' ((c.tc : Thread Cert.GmlpSampleRefIdeal.nD Cert.GmlpSampleRefIdeal.τ).loc Cert.GmlpSampleRefIdeal.main_arg1) = m ((c.tc : Thread Cert.GmlpSampleIdeal.nD Cert.GmlpSampleIdeal.τ).loc Cert.GmlpSampleIdeal.main_arg1)
      ∧ m' ((c.tc : Thread Cert.GmlpSampleRefIdeal.nD Cert.GmlpSampleRefIdeal.τ).loc Cert.GmlpSampleRefIdeal.main_arg2) = m ((c.tc : Thread Cert.GmlpSampleIdeal.nD Cert.GmlpSampleIdeal.τ).loc Cert.GmlpSampleIdeal.main_arg2)
      ∧ m' ((c.tc : Thread Cert.GmlpSampleRefIdeal.nD Cert.GmlpSampleRefIdeal.τ).loc Cert.GmlpSampleRefIdeal.main_arg3) = m ((c.tc : Thread Cert.GmlpSampleIdeal.nD Cert.GmlpSampleIdeal.τ).loc Cert.GmlpSampleIdeal.main_arg3)
      ∧ m' ((c.tc : Thread Cert.GmlpSampleRefIdeal.nD Cert.GmlpSampleRefIdeal.τ).loc Cert.GmlpSampleRefIdeal.main_arg4) = m ((c.tc : Thread Cert.GmlpSampleIdeal.nD Cert.GmlpSampleIdeal.τ).loc Cert.GmlpSampleIdeal.main_arg4)) →
    ∃ (v0 : (c : Dev Cert.GmlpSampleIdeal.nD) → Buf (Elt Ideal) ((c.tc : Thread Cert.GmlpSampleIdeal.nD Cert.GmlpSampleIdeal.τ).loc Cert.GmlpSampleIdeal.main_v12_0)) (v1 : (c : Dev Cert.GmlpSampleIdeal.nD) → Buf (Elt Ideal) ((c.tc : Thread Cert.GmlpSampleIdeal.nD Cert.GmlpSampleIdeal.τ).loc Cert.GmlpSampleIdeal.main_v12_1)),
      θ_run (Cert.GmlpSampleIdeal.defs (F := Ideal)) (onTc (τ := Cert.GmlpSampleIdeal.τ) (Cert.GmlpSampleIdeal.main (F := Ideal))) ⟨m, fun _ => 0, g⟩ (fun r => ∀ c : Dev Cert.GmlpSampleIdeal.nD,
          r.2.mem ((c.tc : Thread Cert.GmlpSampleIdeal.nD Cert.GmlpSampleIdeal.τ).loc Cert.GmlpSampleIdeal.main_v12_0) = v0 c
          ∧ r.2.mem ((c.tc : Thread Cert.GmlpSampleIdeal.nD Cert.GmlpSampleIdeal.τ).loc Cert.GmlpSampleIdeal.main_v12_1) = v1 c
          ∧ r.2.mem ((c.tc : Thread Cert.GmlpSampleIdeal.nD Cert.GmlpSampleIdeal.τ).loc Cert.GmlpSampleIdeal.main_arg0) = m ((c.tc : Thread Cert.GmlpSampleIdeal.nD Cert.GmlpSampleIdeal.τ).loc Cert.GmlpSampleIdeal.main_arg0)
          ∧ r.2.mem ((c.tc : Thread Cert.GmlpSampleIdeal.nD Cert.GmlpSampleIdeal.τ).loc Cert.GmlpSampleIdeal.main_arg1) = m ((c.tc : Thread Cert.GmlpSampleIdeal.nD Cert.GmlpSampleIdeal.τ).loc Cert.GmlpSampleIdeal.main_arg1)
          ∧ r.2.mem ((c.tc : Thread Cert.GmlpSampleIdeal.nD Cert.GmlpSampleIdeal.τ).loc Cert.GmlpSampleIdeal.main_arg2) = m ((c.tc : Thread Cert.GmlpSampleIdeal.nD Cert.GmlpSampleIdeal.τ).loc Cert.GmlpSampleIdeal.main_arg2)
          ∧ r.2.mem ((c.tc : Thread Cert.GmlpSampleIdeal.nD Cert.GmlpSampleIdeal.τ).loc Cert.GmlpSampleIdeal.main_arg3) = m ((c.tc : Thread Cert.GmlpSampleIdeal.nD Cert.GmlpSampleIdeal.τ).loc Cert.GmlpSampleIdeal.main_arg3)
          ∧ r.2.mem ((c.tc : Thread Cert.GmlpSampleIdeal.nD Cert.GmlpSampleIdeal.τ).loc Cert.GmlpSampleIdeal.main_arg4) = m ((c.tc : Thread Cert.GmlpSampleIdeal.nD Cert.GmlpSampleIdeal.τ).loc Cert.GmlpSampleIdeal.main_arg4))
      ∧ θ_run (Cert.GmlpSampleRefIdeal.defs (F := Ideal)) (onTc (τ := Cert.GmlpSampleRefIdeal.τ) (Cert.GmlpSampleRefIdeal.main (F := Ideal))) ⟨m', fun _ => 0, g'⟩ (fun r => ∀ c : Dev Cert.GmlpSampleRefIdeal.nD,
          r.2.mem ((c.tc : Thread Cert.GmlpSampleRefIdeal.nD Cert.GmlpSampleRefIdeal.τ).loc Cert.GmlpSampleRefIdeal.main_v43) = v0 c
          ∧ r.2.mem ((c.tc : Thread Cert.GmlpSampleRefIdeal.nD Cert.GmlpSampleRefIdeal.τ).loc Cert.GmlpSampleRefIdeal.main_v44) = v1 c
          ∧ r.2.mem ((c.tc : Thread Cert.GmlpSampleRefIdeal.nD Cert.GmlpSampleRefIdeal.τ).loc Cert.GmlpSampleRefIdeal.main_arg0) = m' ((c.tc : Thread Cert.GmlpSampleRefIdeal.nD Cert.GmlpSampleRefIdeal.τ).loc Cert.GmlpSampleRefIdeal.main_arg0)
          ∧ r.2.mem ((c.tc : Thread Cert.GmlpSampleRefIdeal.nD Cert.GmlpSampleRefIdeal.τ).loc Cert.GmlpSampleRefIdeal.main_arg1) = m' ((c.tc : Thread Cert.GmlpSampleRefIdeal.nD Cert.GmlpSampleRefIdeal.τ).loc Cert.GmlpSampleRefIdeal.main_arg1)
          ∧ r.2.mem ((c.tc : Thread Cert.GmlpSampleRefIdeal.nD Cert.GmlpSampleRefIdeal.τ).loc Cert.GmlpSampleRefIdeal.main_arg2) = m' ((c.tc : Thread Cert.GmlpSampleRefIdeal.nD Cert.GmlpSampleRefIdeal.τ).loc Cert.GmlpSampleRefIdeal.main_arg2)
          ∧ r.2.mem ((c.tc : Thread Cert.GmlpSampleRefIdeal.nD Cert.GmlpSampleRefIdeal.τ).loc Cert.GmlpSampleRefIdeal.main_arg3) = m' ((c.tc : Thread Cert.GmlpSampleRefIdeal.nD Cert.GmlpSampleRefIdeal.τ).loc Cert.GmlpSampleRefIdeal.main_arg3)
          ∧ r.2.mem ((c.tc : Thread Cert.GmlpSampleRefIdeal.nD Cert.GmlpSampleRefIdeal.τ).loc Cert.GmlpSampleRefIdeal.main_arg4) = m' ((c.tc : Thread Cert.GmlpSampleRefIdeal.nD Cert.GmlpSampleRefIdeal.τ).loc Cert.GmlpSampleRefIdeal.main_arg4))

def preserves_AttnSample_AttnSampleIdeal : Prop :=
  True

def algebraic_AttnSampleIdeal_AttnSampleRefIdeal_pre_finite_qkv [hAttnSampleIdeal : Cert.AttnSampleIdeal.Facts] [hAttnSampleRefIdeal : Cert.AttnSampleRefIdeal.Facts] [hPre_finite_qkv : Cert.Pre_finite_qkv.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg)
    (m' : (ℓ : Loc Cert.AttnSampleRefIdeal.nD Cert.AttnSampleRefIdeal.τ Cert.AttnSampleRefIdeal.sig) → Buf (Elt Ideal) ℓ) (g' : Dev Cert.AttnSampleRefIdeal.nD → PrngReg), Pre_AttnSampleIdeal_finite_qkv m →
    (∀ c : Dev Cert.AttnSampleIdeal.nD,
      m' ((c.tc : Thread Cert.AttnSampleRefIdeal.nD Cert.AttnSampleRefIdeal.τ).loc Cert.AttnSampleRefIdeal.main_arg0) = m ((c.tc : Thread Cert.AttnSampleIdeal.nD Cert.AttnSampleIdeal.τ).loc Cert.AttnSampleIdeal.main_arg0)
      ∧ m' ((c.tc : Thread Cert.AttnSampleRefIdeal.nD Cert.AttnSampleRefIdeal.τ).loc Cert.AttnSampleRefIdeal.main_arg1) = m ((c.tc : Thread Cert.AttnSampleIdeal.nD Cert.AttnSampleIdeal.τ).loc Cert.AttnSampleIdeal.main_arg1)
      ∧ m' ((c.tc : Thread Cert.AttnSampleRefIdeal.nD Cert.AttnSampleRefIdeal.τ).loc Cert.AttnSampleRefIdeal.main_arg2) = m ((c.tc : Thread Cert.AttnSampleIdeal.nD Cert.AttnSampleIdeal.τ).loc Cert.AttnSampleIdeal.main_arg2)
      ∧ m' ((c.tc : Thread Cert.AttnSampleRefIdeal.nD Cert.AttnSampleRefIdeal.τ).loc Cert.AttnSampleRefIdeal.main_arg3) = m ((c.tc : Thread Cert.AttnSampleIdeal.nD Cert.AttnSampleIdeal.τ).loc Cert.AttnSampleIdeal.main_arg3)) →
    ∃ (v0 : (c : Dev Cert.AttnSampleIdeal.nD) → Buf (Elt Ideal) ((c.tc : Thread Cert.AttnSampleIdeal.nD Cert.AttnSampleIdeal.τ).loc Cert.AttnSampleIdeal.main_v5_0)) (v1 : (c : Dev Cert.AttnSampleIdeal.nD) → Buf (Elt Ideal) ((c.tc : Thread Cert.AttnSampleIdeal.nD Cert.AttnSampleIdeal.τ).loc Cert.AttnSampleIdeal.main_v5_1)) (v2 : (c : Dev Cert.AttnSampleIdeal.nD) → Buf (Elt Ideal) ((c.tc : Thread Cert.AttnSampleIdeal.nD Cert.AttnSampleIdeal.τ).loc Cert.AttnSampleIdeal.main_v5_2)),
      θ_run (Cert.AttnSampleIdeal.defs (F := Ideal)) (onTc (τ := Cert.AttnSampleIdeal.τ) (Cert.AttnSampleIdeal.main (F := Ideal))) ⟨m, fun _ => 0, g⟩ (fun r => ∀ c : Dev Cert.AttnSampleIdeal.nD,
          r.2.mem ((c.tc : Thread Cert.AttnSampleIdeal.nD Cert.AttnSampleIdeal.τ).loc Cert.AttnSampleIdeal.main_v5_0) = v0 c
          ∧ r.2.mem ((c.tc : Thread Cert.AttnSampleIdeal.nD Cert.AttnSampleIdeal.τ).loc Cert.AttnSampleIdeal.main_v5_1) = v1 c
          ∧ r.2.mem ((c.tc : Thread Cert.AttnSampleIdeal.nD Cert.AttnSampleIdeal.τ).loc Cert.AttnSampleIdeal.main_v5_2) = v2 c
          ∧ r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
          ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
          ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2)
          ∧ r.2.mem ((c.tc : Thread Cert.AttnSampleIdeal.nD Cert.AttnSampleIdeal.τ).loc Cert.AttnSampleIdeal.main_arg3) = m ((c.tc : Thread Cert.AttnSampleIdeal.nD Cert.AttnSampleIdeal.τ).loc Cert.AttnSampleIdeal.main_arg3))
      ∧ θ_run (Cert.AttnSampleRefIdeal.defs (F := Ideal)) (onTc (τ := Cert.AttnSampleRefIdeal.τ) (Cert.AttnSampleRefIdeal.main (F := Ideal))) ⟨m', fun _ => 0, g'⟩ (fun r => ∀ c : Dev Cert.AttnSampleRefIdeal.nD,
          r.2.mem ((c.tc : Thread Cert.AttnSampleRefIdeal.nD Cert.AttnSampleRefIdeal.τ).loc Cert.AttnSampleRefIdeal.main_v47) = v0 c
          ∧ r.2.mem ((c.tc : Thread Cert.AttnSampleRefIdeal.nD Cert.AttnSampleRefIdeal.τ).loc Cert.AttnSampleRefIdeal.main_v49) = v1 c
          ∧ r.2.mem ((c.tc : Thread Cert.AttnSampleRefIdeal.nD Cert.AttnSampleRefIdeal.τ).loc Cert.AttnSampleRefIdeal.main_v51) = v2 c
          ∧ r.2.mem ((c.tc : Thread Cert.AttnSampleRefIdeal.nD Cert.AttnSampleRefIdeal.τ).loc Cert.AttnSampleRefIdeal.main_arg0) = m' ((c.tc : Thread Cert.AttnSampleRefIdeal.nD Cert.AttnSampleRefIdeal.τ).loc Cert.AttnSampleRefIdeal.main_arg0)
          ∧ r.2.mem ((c.tc : Thread Cert.AttnSampleRefIdeal.nD Cert.AttnSampleRefIdeal.τ).loc Cert.AttnSampleRefIdeal.main_arg1) = m' ((c.tc : Thread Cert.AttnSampleRefIdeal.nD Cert.AttnSampleRefIdeal.τ).loc Cert.AttnSampleRefIdeal.main_arg1)
          ∧ r.2.mem ((c.tc : Thread Cert.AttnSampleRefIdeal.nD Cert.AttnSampleRefIdeal.τ).loc Cert.AttnSampleRefIdeal.main_arg2) = m' ((c.tc : Thread Cert.AttnSampleRefIdeal.nD Cert.AttnSampleRefIdeal.τ).loc Cert.AttnSampleRefIdeal.main_arg2)
          ∧ r.2.mem ((c.tc : Thread Cert.AttnSampleRefIdeal.nD Cert.AttnSampleRefIdeal.τ).loc Cert.AttnSampleRefIdeal.main_arg3) = m' ((c.tc : Thread Cert.AttnSampleRefIdeal.nD Cert.AttnSampleRefIdeal.τ).loc Cert.AttnSampleRefIdeal.main_arg3))

def preserves_SampleModulate_SampleModulateIdeal : Prop :=
  True

def algebraic_SampleModulateIdeal_SampleModulateRefIdeal [hSampleModulateIdeal : Cert.SampleModulateIdeal.Facts] [hSampleModulateRefIdeal : Cert.SampleModulateRefIdeal.Facts] : Prop :=
  ∀ (m : (ℓ : Loc Cert.SampleModulateIdeal.nD Cert.SampleModulateIdeal.τ Cert.SampleModulateIdeal.sig) → Buf (Elt Ideal) ℓ) (g : Dev Cert.SampleModulateIdeal.nD → PrngReg)
    (m' : (ℓ : Loc Cert.SampleModulateRefIdeal.nD Cert.SampleModulateRefIdeal.τ Cert.SampleModulateRefIdeal.sig) → Buf (Elt Ideal) ℓ) (g' : Dev Cert.SampleModulateRefIdeal.nD → PrngReg), Pre_SampleModulateIdeal m →
    (∀ c : Dev Cert.SampleModulateIdeal.nD,
      m' ((c.tc : Thread Cert.SampleModulateRefIdeal.nD Cert.SampleModulateRefIdeal.τ).loc Cert.SampleModulateRefIdeal.main_arg0) = m ((c.tc : Thread Cert.SampleModulateIdeal.nD Cert.SampleModulateIdeal.τ).loc Cert.SampleModulateIdeal.main_arg0)
      ∧ m' ((c.tc : Thread Cert.SampleModulateRefIdeal.nD Cert.SampleModulateRefIdeal.τ).loc Cert.SampleModulateRefIdeal.main_arg1) = m ((c.tc : Thread Cert.SampleModulateIdeal.nD Cert.SampleModulateIdeal.τ).loc Cert.SampleModulateIdeal.main_arg1)
      ∧ m' ((c.tc : Thread Cert.SampleModulateRefIdeal.nD Cert.SampleModulateRefIdeal.τ).loc Cert.SampleModulateRefIdeal.main_arg2) = m ((c.tc : Thread Cert.SampleModulateIdeal.nD Cert.SampleModulateIdeal.τ).loc Cert.SampleModulateIdeal.main_arg2)) →
    ∃ (v0 : (c : Dev Cert.SampleModulateIdeal.nD) → Buf (Elt Ideal) ((c.tc : Thread Cert.SampleModulateIdeal.nD Cert.SampleModulateIdeal.τ).loc Cert.SampleModulateIdeal.main_v3)),
      θ_run (Cert.SampleModulateIdeal.defs (F := Ideal)) (onTc (τ := Cert.SampleModulateIdeal.τ) (Cert.SampleModulateIdeal.main (F := Ideal))) ⟨m, fun _ => 0, g⟩ (fun r => ∀ c : Dev Cert.SampleModulateIdeal.nD,
          r.2.mem ((c.tc : Thread Cert.SampleModulateIdeal.nD Cert.SampleModulateIdeal.τ).loc Cert.SampleModulateIdeal.main_v3) = v0 c
          ∧ r.2.mem ((c.tc : Thread Cert.SampleModulateIdeal.nD Cert.SampleModulateIdeal.τ).loc Cert.SampleModulateIdeal.main_arg0) = m ((c.tc : Thread Cert.SampleModulateIdeal.nD Cert.SampleModulateIdeal.τ).loc Cert.SampleModulateIdeal.main_arg0)
          ∧ r.2.mem ((c.tc : Thread Cert.SampleModulateIdeal.nD Cert.SampleModulateIdeal.τ).loc Cert.SampleModulateIdeal.main_arg1) = m ((c.tc : Thread Cert.SampleModulateIdeal.nD Cert.SampleModulateIdeal.τ).loc Cert.SampleModulateIdeal.main_arg1)
          ∧ r.2.mem ((c.tc : Thread Cert.SampleModulateIdeal.nD Cert.SampleModulateIdeal.τ).loc Cert.SampleModulateIdeal.main_arg2) = m ((c.tc : Thread Cert.SampleModulateIdeal.nD Cert.SampleModulateIdeal.τ).loc Cert.SampleModulateIdeal.main_arg2))
      ∧ θ_run (Cert.SampleModulateRefIdeal.defs (F := Ideal)) (onTc (τ := Cert.SampleModulateRefIdeal.τ) (Cert.SampleModulateRefIdeal.main (F := Ideal))) ⟨m', fun _ => 0, g'⟩ (fun r => ∀ c : Dev Cert.SampleModulateRefIdeal.nD,
          r.2.mem ((c.tc : Thread Cert.SampleModulateRefIdeal.nD Cert.SampleModulateRefIdeal.τ).loc Cert.SampleModulateRefIdeal.main_v22) = v0 c
          ∧ r.2.mem ((c.tc : Thread Cert.SampleModulateRefIdeal.nD Cert.SampleModulateRefIdeal.τ).loc Cert.SampleModulateRefIdeal.main_arg0) = m' ((c.tc : Thread Cert.SampleModulateRefIdeal.nD Cert.SampleModulateRefIdeal.τ).loc Cert.SampleModulateRefIdeal.main_arg0)
          ∧ r.2.mem ((c.tc : Thread Cert.SampleModulateRefIdeal.nD Cert.SampleModulateRefIdeal.τ).loc Cert.SampleModulateRefIdeal.main_arg1) = m' ((c.tc : Thread Cert.SampleModulateRefIdeal.nD Cert.SampleModulateRefIdeal.τ).loc Cert.SampleModulateRefIdeal.main_arg1)
          ∧ r.2.mem ((c.tc : Thread Cert.SampleModulateRefIdeal.nD Cert.SampleModulateRefIdeal.τ).loc Cert.SampleModulateRefIdeal.main_arg2) = m' ((c.tc : Thread Cert.SampleModulateRefIdeal.nD Cert.SampleModulateRefIdeal.τ).loc Cert.SampleModulateRefIdeal.main_arg2))

def preserves_SampleQkv_SampleQkvIdeal : Prop :=
  True

def algebraic_SampleQkvIdeal_SampleQkvRefIdeal_pre_finite_hw_sample [hSampleQkvIdeal : Cert.SampleQkvIdeal.Facts] [hSampleQkvRefIdeal : Cert.SampleQkvRefIdeal.Facts] [hPre_finite_hw_sample : Cert.Pre_finite_hw_sample.Facts] : Prop :=
  ∀ (m : (ℓ : Loc Cert.SampleQkvIdeal.nD Cert.SampleQkvIdeal.τ Cert.SampleQkvIdeal.sig) → Buf (Elt Ideal) ℓ) (g : Dev Cert.SampleQkvIdeal.nD → PrngReg)
    (m' : (ℓ : Loc Cert.SampleQkvRefIdeal.nD Cert.SampleQkvRefIdeal.τ Cert.SampleQkvRefIdeal.sig) → Buf (Elt Ideal) ℓ) (g' : Dev Cert.SampleQkvRefIdeal.nD → PrngReg), Pre_SampleQkvIdeal_finite_hw_sample m →
    (∀ c : Dev Cert.SampleQkvIdeal.nD,
      m' ((c.tc : Thread Cert.SampleQkvRefIdeal.nD Cert.SampleQkvRefIdeal.τ).loc Cert.SampleQkvRefIdeal.main_arg0) = m ((c.tc : Thread Cert.SampleQkvIdeal.nD Cert.SampleQkvIdeal.τ).loc Cert.SampleQkvIdeal.main_arg0)
      ∧ m' ((c.tc : Thread Cert.SampleQkvRefIdeal.nD Cert.SampleQkvRefIdeal.τ).loc Cert.SampleQkvRefIdeal.main_arg1) = m ((c.tc : Thread Cert.SampleQkvIdeal.nD Cert.SampleQkvIdeal.τ).loc Cert.SampleQkvIdeal.main_arg1)
      ∧ m' ((c.tc : Thread Cert.SampleQkvRefIdeal.nD Cert.SampleQkvRefIdeal.τ).loc Cert.SampleQkvRefIdeal.main_arg2) = m ((c.tc : Thread Cert.SampleQkvIdeal.nD Cert.SampleQkvIdeal.τ).loc Cert.SampleQkvIdeal.main_arg2)
      ∧ m' ((c.tc : Thread Cert.SampleQkvRefIdeal.nD Cert.SampleQkvRefIdeal.τ).loc Cert.SampleQkvRefIdeal.main_arg3) = m ((c.tc : Thread Cert.SampleQkvIdeal.nD Cert.SampleQkvIdeal.τ).loc Cert.SampleQkvIdeal.main_arg3)) →
    ∃ (v0 : (c : Dev Cert.SampleQkvIdeal.nD) → Buf (Elt Ideal) ((c.tc : Thread Cert.SampleQkvIdeal.nD Cert.SampleQkvIdeal.τ).loc Cert.SampleQkvIdeal.main_v21)),
      θ_run (Cert.SampleQkvIdeal.defs (F := Ideal)) (onTc (τ := Cert.SampleQkvIdeal.τ) (Cert.SampleQkvIdeal.main (F := Ideal))) ⟨m, fun _ => 0, g⟩ (fun r => ∀ c : Dev Cert.SampleQkvIdeal.nD,
          r.2.mem ((c.tc : Thread Cert.SampleQkvIdeal.nD Cert.SampleQkvIdeal.τ).loc Cert.SampleQkvIdeal.main_v21) = v0 c
          ∧ r.2.mem ((c.tc : Thread Cert.SampleQkvIdeal.nD Cert.SampleQkvIdeal.τ).loc Cert.SampleQkvIdeal.main_arg0) = m ((c.tc : Thread Cert.SampleQkvIdeal.nD Cert.SampleQkvIdeal.τ).loc Cert.SampleQkvIdeal.main_arg0)
          ∧ r.2.mem ((c.tc : Thread Cert.SampleQkvIdeal.nD Cert.SampleQkvIdeal.τ).loc Cert.SampleQkvIdeal.main_arg1) = m ((c.tc : Thread Cert.SampleQkvIdeal.nD Cert.SampleQkvIdeal.τ).loc Cert.SampleQkvIdeal.main_arg1)
          ∧ r.2.mem ((c.tc : Thread Cert.SampleQkvIdeal.nD Cert.SampleQkvIdeal.τ).loc Cert.SampleQkvIdeal.main_arg2) = m ((c.tc : Thread Cert.SampleQkvIdeal.nD Cert.SampleQkvIdeal.τ).loc Cert.SampleQkvIdeal.main_arg2)
          ∧ r.2.mem ((c.tc : Thread Cert.SampleQkvIdeal.nD Cert.SampleQkvIdeal.τ).loc Cert.SampleQkvIdeal.main_arg3) = m ((c.tc : Thread Cert.SampleQkvIdeal.nD Cert.SampleQkvIdeal.τ).loc Cert.SampleQkvIdeal.main_arg3))
      ∧ θ_run (Cert.SampleQkvRefIdeal.defs (F := Ideal)) (onTc (τ := Cert.SampleQkvRefIdeal.τ) (Cert.SampleQkvRefIdeal.main (F := Ideal))) ⟨m', fun _ => 0, g'⟩ (fun r => ∀ c : Dev Cert.SampleQkvRefIdeal.nD,
          r.2.mem ((c.tc : Thread Cert.SampleQkvRefIdeal.nD Cert.SampleQkvRefIdeal.τ).loc Cert.SampleQkvRefIdeal.main_v35) = v0 c
          ∧ r.2.mem ((c.tc : Thread Cert.SampleQkvRefIdeal.nD Cert.SampleQkvRefIdeal.τ).loc Cert.SampleQkvRefIdeal.main_arg0) = m' ((c.tc : Thread Cert.SampleQkvRefIdeal.nD Cert.SampleQkvRefIdeal.τ).loc Cert.SampleQkvRefIdeal.main_arg0)
          ∧ r.2.mem ((c.tc : Thread Cert.SampleQkvRefIdeal.nD Cert.SampleQkvRefIdeal.τ).loc Cert.SampleQkvRefIdeal.main_arg1) = m' ((c.tc : Thread Cert.SampleQkvRefIdeal.nD Cert.SampleQkvRefIdeal.τ).loc Cert.SampleQkvRefIdeal.main_arg1)
          ∧ r.2.mem ((c.tc : Thread Cert.SampleQkvRefIdeal.nD Cert.SampleQkvRefIdeal.τ).loc Cert.SampleQkvRefIdeal.main_arg2) = m' ((c.tc : Thread Cert.SampleQkvRefIdeal.nD Cert.SampleQkvRefIdeal.τ).loc Cert.SampleQkvRefIdeal.main_arg2)
          ∧ r.2.mem ((c.tc : Thread Cert.SampleQkvRefIdeal.nD Cert.SampleQkvRefIdeal.τ).loc Cert.SampleQkvRefIdeal.main_arg3) = m' ((c.tc : Thread Cert.SampleQkvRefIdeal.nD Cert.SampleQkvRefIdeal.τ).loc Cert.SampleQkvRefIdeal.main_arg3))

def preserves_SampleUgv_SampleUgvIdeal : Prop :=
  True

def algebraic_SampleUgvIdeal_SampleUgvRefIdeal [hSampleUgvIdeal : Cert.SampleUgvIdeal.Facts] [hSampleUgvRefIdeal : Cert.SampleUgvRefIdeal.Facts] : Prop :=
  ∀ (m : (ℓ : Loc Cert.SampleUgvIdeal.nD Cert.SampleUgvIdeal.τ Cert.SampleUgvIdeal.sig) → Buf (Elt Ideal) ℓ) (g : Dev Cert.SampleUgvIdeal.nD → PrngReg)
    (m' : (ℓ : Loc Cert.SampleUgvRefIdeal.nD Cert.SampleUgvRefIdeal.τ Cert.SampleUgvRefIdeal.sig) → Buf (Elt Ideal) ℓ) (g' : Dev Cert.SampleUgvRefIdeal.nD → PrngReg), Pre_SampleUgvIdeal m →
    (∀ c : Dev Cert.SampleUgvIdeal.nD,
      m' ((c.tc : Thread Cert.SampleUgvRefIdeal.nD Cert.SampleUgvRefIdeal.τ).loc Cert.SampleUgvRefIdeal.main_arg0) = m ((c.tc : Thread Cert.SampleUgvIdeal.nD Cert.SampleUgvIdeal.τ).loc Cert.SampleUgvIdeal.main_arg0)
      ∧ m' ((c.tc : Thread Cert.SampleUgvRefIdeal.nD Cert.SampleUgvRefIdeal.τ).loc Cert.SampleUgvRefIdeal.main_arg1) = m ((c.tc : Thread Cert.SampleUgvIdeal.nD Cert.SampleUgvIdeal.τ).loc Cert.SampleUgvIdeal.main_arg1)) →
    ∃ (v0 : (c : Dev Cert.SampleUgvIdeal.nD) → Buf (Elt Ideal) ((c.tc : Thread Cert.SampleUgvIdeal.nD Cert.SampleUgvIdeal.τ).loc Cert.SampleUgvIdeal.main_v0)),
      θ_run (Cert.SampleUgvIdeal.defs (F := Ideal)) (onTc (τ := Cert.SampleUgvIdeal.τ) (Cert.SampleUgvIdeal.main (F := Ideal))) ⟨m, fun _ => 0, g⟩ (fun r => ∀ c : Dev Cert.SampleUgvIdeal.nD,
          r.2.mem ((c.tc : Thread Cert.SampleUgvIdeal.nD Cert.SampleUgvIdeal.τ).loc Cert.SampleUgvIdeal.main_v0) = v0 c
          ∧ r.2.mem ((c.tc : Thread Cert.SampleUgvIdeal.nD Cert.SampleUgvIdeal.τ).loc Cert.SampleUgvIdeal.main_arg0) = m ((c.tc : Thread Cert.SampleUgvIdeal.nD Cert.SampleUgvIdeal.τ).loc Cert.SampleUgvIdeal.main_arg0)
          ∧ r.2.mem ((c.tc : Thread Cert.SampleUgvIdeal.nD Cert.SampleUgvIdeal.τ).loc Cert.SampleUgvIdeal.main_arg1) = m ((c.tc : Thread Cert.SampleUgvIdeal.nD Cert.SampleUgvIdeal.τ).loc Cert.SampleUgvIdeal.main_arg1))
      ∧ θ_run (Cert.SampleUgvRefIdeal.defs (F := Ideal)) (onTc (τ := Cert.SampleUgvRefIdeal.τ) (Cert.SampleUgvRefIdeal.main (F := Ideal))) ⟨m', fun _ => 0, g'⟩ (fun r => ∀ c : Dev Cert.SampleUgvRefIdeal.nD,
          r.2.mem ((c.tc : Thread Cert.SampleUgvRefIdeal.nD Cert.SampleUgvRefIdeal.τ).loc Cert.SampleUgvRefIdeal.main_v9) = v0 c
          ∧ r.2.mem ((c.tc : Thread Cert.SampleUgvRefIdeal.nD Cert.SampleUgvRefIdeal.τ).loc Cert.SampleUgvRefIdeal.main_arg0) = m' ((c.tc : Thread Cert.SampleUgvRefIdeal.nD Cert.SampleUgvRefIdeal.τ).loc Cert.SampleUgvRefIdeal.main_arg0)
          ∧ r.2.mem ((c.tc : Thread Cert.SampleUgvRefIdeal.nD Cert.SampleUgvRefIdeal.τ).loc Cert.SampleUgvRefIdeal.main_arg1) = m' ((c.tc : Thread Cert.SampleUgvRefIdeal.nD Cert.SampleUgvRefIdeal.τ).loc Cert.SampleUgvRefIdeal.main_arg1))

def preserves_FfnNorm_FfnNormIdeal : Prop :=
  IdealRules.bf16_pair.BufferStatement Cert.FfnNormIdeal.S8192x2x2048 Cert.FfnNormIdeal.S8192x1x2048
  ∧ IdealRules.bf16_pair.BufferStatement Cert.FfnNormIdeal.S256x2x2048 Cert.FfnNormIdeal.S256x1x2048
  ∧ IdealRules.bf16_pair.Statement Cert.FfnNormIdeal.S256x2x2048 Cert.FfnNormIdeal.S256x1x2048
  ∧ IdealRules.bf16_pack.Statement Cert.FfnNormIdeal.S256x2048

def algebraic_FfnNormIdeal_FfnNormRefIdeal_pre_finite_ffn [hFfnNormIdeal : Cert.FfnNormIdeal.Facts] [hFfnNormRefIdeal : Cert.FfnNormRefIdeal.Facts] [hPre_finite_ffn : Cert.Pre_finite_ffn.Facts] : Prop :=
  ∀ (m : (ℓ : Loc Cert.FfnNormIdeal.nD Cert.FfnNormIdeal.τ Cert.FfnNormIdeal.sig) → Buf (Elt Ideal) ℓ) (g : Dev Cert.FfnNormIdeal.nD → PrngReg)
    (m' : (ℓ : Loc Cert.FfnNormRefIdeal.nD Cert.FfnNormRefIdeal.τ Cert.FfnNormRefIdeal.sig) → Buf (Elt Ideal) ℓ) (g' : Dev Cert.FfnNormRefIdeal.nD → PrngReg), Pre_FfnNormIdeal_finite_ffn m →
    (∀ c : Dev Cert.FfnNormIdeal.nD,
      m' ((c.tc : Thread Cert.FfnNormRefIdeal.nD Cert.FfnNormRefIdeal.τ).loc Cert.FfnNormRefIdeal.main_arg0) = m ((c.tc : Thread Cert.FfnNormIdeal.nD Cert.FfnNormIdeal.τ).loc Cert.FfnNormIdeal.main_arg0)
      ∧ m' ((c.tc : Thread Cert.FfnNormRefIdeal.nD Cert.FfnNormRefIdeal.τ).loc Cert.FfnNormRefIdeal.main_arg1) = m ((c.tc : Thread Cert.FfnNormIdeal.nD Cert.FfnNormIdeal.τ).loc Cert.FfnNormIdeal.main_arg1)
      ∧ m' ((c.tc : Thread Cert.FfnNormRefIdeal.nD Cert.FfnNormRefIdeal.τ).loc Cert.FfnNormRefIdeal.main_arg2) = m ((c.tc : Thread Cert.FfnNormIdeal.nD Cert.FfnNormIdeal.τ).loc Cert.FfnNormIdeal.main_arg2)
      ∧ m' ((c.tc : Thread Cert.FfnNormRefIdeal.nD Cert.FfnNormRefIdeal.τ).loc Cert.FfnNormRefIdeal.main_arg3) = m ((c.tc : Thread Cert.FfnNormIdeal.nD Cert.FfnNormIdeal.τ).loc Cert.FfnNormIdeal.main_arg3)) →
    ∃ (v0 : (c : Dev Cert.FfnNormIdeal.nD) → Buf (Elt Ideal) ((c.tc : Thread Cert.FfnNormIdeal.nD Cert.FfnNormIdeal.τ).loc Cert.FfnNormIdeal.main_v3_0)) (v1 : (c : Dev Cert.FfnNormIdeal.nD) → Buf (Elt Ideal) ((c.tc : Thread Cert.FfnNormIdeal.nD Cert.FfnNormIdeal.τ).loc Cert.FfnNormIdeal.main_v3_2)),
      θ_run (Cert.FfnNormIdeal.defs (F := Ideal)) (onTc (τ := Cert.FfnNormIdeal.τ) (Cert.FfnNormIdeal.main (F := Ideal))) ⟨m, fun _ => 0, g⟩ (fun r => ∀ c : Dev Cert.FfnNormIdeal.nD,
          r.2.mem ((c.tc : Thread Cert.FfnNormIdeal.nD Cert.FfnNormIdeal.τ).loc Cert.FfnNormIdeal.main_v3_0) = v0 c
          ∧ r.2.mem ((c.tc : Thread Cert.FfnNormIdeal.nD Cert.FfnNormIdeal.τ).loc Cert.FfnNormIdeal.main_v3_2) = v1 c
          ∧ r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
          ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
          ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2)
          ∧ r.2.mem ((c.tc : Thread Cert.FfnNormIdeal.nD Cert.FfnNormIdeal.τ).loc Cert.FfnNormIdeal.main_arg3) = m ((c.tc : Thread Cert.FfnNormIdeal.nD Cert.FfnNormIdeal.τ).loc Cert.FfnNormIdeal.main_arg3))
      ∧ θ_run (Cert.FfnNormRefIdeal.defs (F := Ideal)) (onTc (τ := Cert.FfnNormRefIdeal.τ) (Cert.FfnNormRefIdeal.main (F := Ideal))) ⟨m', fun _ => 0, g'⟩ (fun r => ∀ c : Dev Cert.FfnNormRefIdeal.nD,
          r.2.mem ((c.tc : Thread Cert.FfnNormRefIdeal.nD Cert.FfnNormRefIdeal.τ).loc Cert.FfnNormRefIdeal.main_v25) = v0 c
          ∧ r.2.mem ((c.tc : Thread Cert.FfnNormRefIdeal.nD Cert.FfnNormRefIdeal.τ).loc Cert.FfnNormRefIdeal.main_v27) = v1 c
          ∧ r.2.mem ((c.tc : Thread Cert.FfnNormRefIdeal.nD Cert.FfnNormRefIdeal.τ).loc Cert.FfnNormRefIdeal.main_arg0) = m' ((c.tc : Thread Cert.FfnNormRefIdeal.nD Cert.FfnNormRefIdeal.τ).loc Cert.FfnNormRefIdeal.main_arg0)
          ∧ r.2.mem ((c.tc : Thread Cert.FfnNormRefIdeal.nD Cert.FfnNormRefIdeal.τ).loc Cert.FfnNormRefIdeal.main_arg1) = m' ((c.tc : Thread Cert.FfnNormRefIdeal.nD Cert.FfnNormRefIdeal.τ).loc Cert.FfnNormRefIdeal.main_arg1)
          ∧ r.2.mem ((c.tc : Thread Cert.FfnNormRefIdeal.nD Cert.FfnNormRefIdeal.τ).loc Cert.FfnNormRefIdeal.main_arg2) = m' ((c.tc : Thread Cert.FfnNormRefIdeal.nD Cert.FfnNormRefIdeal.τ).loc Cert.FfnNormRefIdeal.main_arg2)
          ∧ r.2.mem ((c.tc : Thread Cert.FfnNormRefIdeal.nD Cert.FfnNormRefIdeal.τ).loc Cert.FfnNormRefIdeal.main_arg3) = m' ((c.tc : Thread Cert.FfnNormRefIdeal.nD Cert.FfnNormRefIdeal.τ).loc Cert.FfnNormRefIdeal.main_arg3))

def Claim : Prop :=
  ∃ (hKernel : Cert.Kernel.Facts) (hKernelIdeal : Cert.KernelIdeal.Facts) (hReferenceIdeal : Cert.ReferenceIdeal.Facts) (hQkv : Cert.Qkv.Facts) (hQkvIdeal : Cert.QkvIdeal.Facts) (hQkvRefIdeal : Cert.QkvRefIdeal.Facts) (hUgv : Cert.Ugv.Facts) (hUgvIdeal : Cert.UgvIdeal.Facts) (hUgvRefIdeal : Cert.UgvRefIdeal.Facts) (hGates : Cert.Gates.Facts) (hGatesIdeal : Cert.GatesIdeal.Facts) (hGatesRefIdeal : Cert.GatesRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hSharedUp : Cert.SharedUp.Facts) (hSharedUpIdeal : Cert.SharedUpIdeal.Facts) (hSharedUpRefIdeal : Cert.SharedUpRefIdeal.Facts) (hSharedDown : Cert.SharedDown.Facts) (hSharedDownIdeal : Cert.SharedDownIdeal.Facts) (hSharedDownRefIdeal : Cert.SharedDownRefIdeal.Facts) (hAdaln : Cert.Adaln.Facts) (hAdalnIdeal : Cert.AdalnIdeal.Facts) (hAdalnRefIdeal : Cert.AdalnRefIdeal.Facts) (hModulate : Cert.Modulate.Facts) (hModulateIdeal : Cert.ModulateIdeal.Facts) (hModulateRefIdeal : Cert.ModulateRefIdeal.Facts) (hGmlpPrompt : Cert.GmlpPrompt.Facts) (hGmlpPromptIdeal : Cert.GmlpPromptIdeal.Facts) (hGmlpPromptRefIdeal : Cert.GmlpPromptRefIdeal.Facts) (hGmlpSample : Cert.GmlpSample.Facts) (hGmlpSampleIdeal : Cert.GmlpSampleIdeal.Facts) (hGmlpSampleRefIdeal : Cert.GmlpSampleRefIdeal.Facts) (hAttnSample : Cert.AttnSample.Facts) (hAttnSampleIdeal : Cert.AttnSampleIdeal.Facts) (hAttnSampleRefIdeal : Cert.AttnSampleRefIdeal.Facts) (hSampleModulate : Cert.SampleModulate.Facts) (hSampleModulateIdeal : Cert.SampleModulateIdeal.Facts) (hSampleModulateRefIdeal : Cert.SampleModulateRefIdeal.Facts) (hSampleQkv : Cert.SampleQkv.Facts) (hSampleQkvIdeal : Cert.SampleQkvIdeal.Facts) (hSampleQkvRefIdeal : Cert.SampleQkvRefIdeal.Facts) (hSampleUgv : Cert.SampleUgv.Facts) (hSampleUgvIdeal : Cert.SampleUgvIdeal.Facts) (hSampleUgvRefIdeal : Cert.SampleUgvRefIdeal.Facts) (hFfnNorm : Cert.FfnNorm.Facts) (hFfnNormIdeal : Cert.FfnNormIdeal.Facts) (hFfnNormRefIdeal : Cert.FfnNormRefIdeal.Facts) (hPre_finite_qk : Cert.Pre_finite_qk.Facts) (hPre_finite_hw : Cert.Pre_finite_hw.Facts) (hPre_finite_qkv : Cert.Pre_finite_qkv.Facts) (hPre_finite_hw_sample : Cert.Pre_finite_hw_sample.Facts) (hPre_finite_ffn : Cert.Pre_finite_ffn.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Qkv (hQkv := hQkv)
    ∧ quiescent_QkvIdeal (hQkvIdeal := hQkvIdeal)
    ∧ quiescent_QkvIdeal_pre_finite_hw (hQkvIdeal := hQkvIdeal) (hPre_finite_hw := hPre_finite_hw)
    ∧ quiescent_QkvRefIdeal (hQkvRefIdeal := hQkvRefIdeal)
    ∧ quiescent_QkvRefIdeal_pre_finite_hw (hQkvRefIdeal := hQkvRefIdeal) (hPre_finite_hw := hPre_finite_hw)
    ∧ quiescent_Ugv (hUgv := hUgv)
    ∧ quiescent_UgvIdeal (hUgvIdeal := hUgvIdeal)
    ∧ quiescent_UgvRefIdeal (hUgvRefIdeal := hUgvRefIdeal)
    ∧ quiescent_Gates (hGates := hGates)
    ∧ quiescent_GatesIdeal (hGatesIdeal := hGatesIdeal)
    ∧ quiescent_GatesRefIdeal (hGatesRefIdeal := hGatesRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_SharedUp (hSharedUp := hSharedUp)
    ∧ quiescent_SharedUpIdeal (hSharedUpIdeal := hSharedUpIdeal)
    ∧ quiescent_SharedUpRefIdeal (hSharedUpRefIdeal := hSharedUpRefIdeal)
    ∧ quiescent_SharedDown (hSharedDown := hSharedDown)
    ∧ quiescent_SharedDownIdeal (hSharedDownIdeal := hSharedDownIdeal)
    ∧ quiescent_SharedDownRefIdeal (hSharedDownRefIdeal := hSharedDownRefIdeal)
    ∧ quiescent_Adaln (hAdaln := hAdaln)
    ∧ quiescent_AdalnIdeal (hAdalnIdeal := hAdalnIdeal)
    ∧ quiescent_AdalnRefIdeal (hAdalnRefIdeal := hAdalnRefIdeal)
    ∧ quiescent_Modulate (hModulate := hModulate)
    ∧ quiescent_ModulateIdeal (hModulateIdeal := hModulateIdeal)
    ∧ quiescent_ModulateRefIdeal (hModulateRefIdeal := hModulateRefIdeal)
    ∧ quiescent_GmlpPrompt (hGmlpPrompt := hGmlpPrompt)
    ∧ quiescent_GmlpPromptIdeal (hGmlpPromptIdeal := hGmlpPromptIdeal)
    ∧ quiescent_GmlpPromptRefIdeal (hGmlpPromptRefIdeal := hGmlpPromptRefIdeal)
    ∧ quiescent_GmlpSample (hGmlpSample := hGmlpSample)
    ∧ quiescent_GmlpSampleIdeal (hGmlpSampleIdeal := hGmlpSampleIdeal)
    ∧ quiescent_GmlpSampleRefIdeal (hGmlpSampleRefIdeal := hGmlpSampleRefIdeal)
    ∧ quiescent_AttnSample (hAttnSample := hAttnSample)
    ∧ quiescent_AttnSampleIdeal (hAttnSampleIdeal := hAttnSampleIdeal)
    ∧ quiescent_AttnSampleIdeal_pre_finite_qkv (hAttnSampleIdeal := hAttnSampleIdeal) (hPre_finite_qkv := hPre_finite_qkv)
    ∧ quiescent_AttnSampleRefIdeal (hAttnSampleRefIdeal := hAttnSampleRefIdeal)
    ∧ quiescent_AttnSampleRefIdeal_pre_finite_qkv (hAttnSampleRefIdeal := hAttnSampleRefIdeal) (hPre_finite_qkv := hPre_finite_qkv)
    ∧ quiescent_SampleModulate (hSampleModulate := hSampleModulate)
    ∧ quiescent_SampleModulateIdeal (hSampleModulateIdeal := hSampleModulateIdeal)
    ∧ quiescent_SampleModulateRefIdeal (hSampleModulateRefIdeal := hSampleModulateRefIdeal)
    ∧ quiescent_SampleQkv (hSampleQkv := hSampleQkv)
    ∧ quiescent_SampleQkvIdeal (hSampleQkvIdeal := hSampleQkvIdeal)
    ∧ quiescent_SampleQkvIdeal_pre_finite_hw_sample (hSampleQkvIdeal := hSampleQkvIdeal) (hPre_finite_hw_sample := hPre_finite_hw_sample)
    ∧ quiescent_SampleQkvRefIdeal (hSampleQkvRefIdeal := hSampleQkvRefIdeal)
    ∧ quiescent_SampleQkvRefIdeal_pre_finite_hw_sample (hSampleQkvRefIdeal := hSampleQkvRefIdeal) (hPre_finite_hw_sample := hPre_finite_hw_sample)
    ∧ quiescent_SampleUgv (hSampleUgv := hSampleUgv)
    ∧ quiescent_SampleUgvIdeal (hSampleUgvIdeal := hSampleUgvIdeal)
    ∧ quiescent_SampleUgvRefIdeal (hSampleUgvRefIdeal := hSampleUgvRefIdeal)
    ∧ quiescent_FfnNorm (hFfnNorm := hFfnNorm)
    ∧ quiescent_FfnNormIdeal (hFfnNormIdeal := hFfnNormIdeal)
    ∧ quiescent_FfnNormIdeal_pre_finite_ffn (hFfnNormIdeal := hFfnNormIdeal) (hPre_finite_ffn := hPre_finite_ffn)
    ∧ quiescent_FfnNormRefIdeal (hFfnNormRefIdeal := hFfnNormRefIdeal)
    ∧ quiescent_FfnNormRefIdeal_pre_finite_ffn (hFfnNormRefIdeal := hFfnNormRefIdeal) (hPre_finite_ffn := hPre_finite_ffn)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Qkv_QkvIdeal
    ∧ algebraic_QkvIdeal_QkvRefIdeal_pre_finite_hw (hQkvIdeal := hQkvIdeal) (hQkvRefIdeal := hQkvRefIdeal) (hPre_finite_hw := hPre_finite_hw)
    ∧ preserves_Ugv_UgvIdeal
    ∧ algebraic_UgvIdeal_UgvRefIdeal (hUgvIdeal := hUgvIdeal) (hUgvRefIdeal := hUgvRefIdeal)
    ∧ preserves_Gates_GatesIdeal
    ∧ algebraic_GatesIdeal_GatesRefIdeal (hGatesIdeal := hGatesIdeal) (hGatesRefIdeal := hGatesRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_SharedUp_SharedUpIdeal
    ∧ algebraic_SharedUpIdeal_SharedUpRefIdeal (hSharedUpIdeal := hSharedUpIdeal) (hSharedUpRefIdeal := hSharedUpRefIdeal)
    ∧ preserves_SharedDown_SharedDownIdeal
    ∧ algebraic_SharedDownIdeal_SharedDownRefIdeal (hSharedDownIdeal := hSharedDownIdeal) (hSharedDownRefIdeal := hSharedDownRefIdeal)
    ∧ preserves_Adaln_AdalnIdeal
    ∧ algebraic_AdalnIdeal_AdalnRefIdeal (hAdalnIdeal := hAdalnIdeal) (hAdalnRefIdeal := hAdalnRefIdeal)
    ∧ preserves_Modulate_ModulateIdeal
    ∧ algebraic_ModulateIdeal_ModulateRefIdeal (hModulateIdeal := hModulateIdeal) (hModulateRefIdeal := hModulateRefIdeal)
    ∧ preserves_GmlpPrompt_GmlpPromptIdeal
    ∧ algebraic_GmlpPromptIdeal_GmlpPromptRefIdeal (hGmlpPromptIdeal := hGmlpPromptIdeal) (hGmlpPromptRefIdeal := hGmlpPromptRefIdeal)
    ∧ preserves_GmlpSample_GmlpSampleIdeal
    ∧ algebraic_GmlpSampleIdeal_GmlpSampleRefIdeal (hGmlpSampleIdeal := hGmlpSampleIdeal) (hGmlpSampleRefIdeal := hGmlpSampleRefIdeal)
    ∧ preserves_AttnSample_AttnSampleIdeal
    ∧ algebraic_AttnSampleIdeal_AttnSampleRefIdeal_pre_finite_qkv (hAttnSampleIdeal := hAttnSampleIdeal) (hAttnSampleRefIdeal := hAttnSampleRefIdeal) (hPre_finite_qkv := hPre_finite_qkv)
    ∧ preserves_SampleModulate_SampleModulateIdeal
    ∧ algebraic_SampleModulateIdeal_SampleModulateRefIdeal (hSampleModulateIdeal := hSampleModulateIdeal) (hSampleModulateRefIdeal := hSampleModulateRefIdeal)
    ∧ preserves_SampleQkv_SampleQkvIdeal
    ∧ algebraic_SampleQkvIdeal_SampleQkvRefIdeal_pre_finite_hw_sample (hSampleQkvIdeal := hSampleQkvIdeal) (hSampleQkvRefIdeal := hSampleQkvRefIdeal) (hPre_finite_hw_sample := hPre_finite_hw_sample)
    ∧ preserves_SampleUgv_SampleUgvIdeal
    ∧ algebraic_SampleUgvIdeal_SampleUgvRefIdeal (hSampleUgvIdeal := hSampleUgvIdeal) (hSampleUgvRefIdeal := hSampleUgvRefIdeal)
    ∧ preserves_FfnNorm_FfnNormIdeal
    ∧ algebraic_FfnNormIdeal_FfnNormRefIdeal_pre_finite_ffn (hFfnNormIdeal := hFfnNormIdeal) (hFfnNormRefIdeal := hFfnNormRefIdeal) (hPre_finite_ffn := hPre_finite_ffn)
-- ==== Pre_finite_ffn.lean ====
abbrev S8192x4096 : Shape := ⟨2, ![8192, 4096]⟩
abbrev S4096 : Shape := ⟨1, ![4096]⟩
abbrev S4x24576 : Shape := ⟨2, ![4, 24576]⟩
abbrev S4096x64 : Shape := ⟨2, ![4096, 64]⟩
abbrev S_ : Shape := ⟨0, ![]⟩
abbrev S4x8192 : Shape := ⟨2, ![4, 8192]⟩

class Facts : Prop where
  bcast_S_S8192x4096 : S_.BroadcastsInDim S8192x4096 (![] : Fin 0 → Fin S8192x4096.rank)
  bcast_S_S4096 : S_.BroadcastsInDim S4096 (![] : Fin 0 → Fin S4096.rank)
  slices_S4x24576_S4x8192_0_12288 : S4x24576.Slices ![0, 12288] S4x8192
  bcast_S_S4x8192 : S_.BroadcastsInDim S4x8192 (![] : Fin 0 → Fin S4x8192.rank)
  bcast_S_S4096x64 : S_.BroadcastsInDim S4096x64 (![] : Fin 0 → Fin S4096x64.rank)

variable [Facts]

def fn {F : FTy → Type} [FloatOps F] (main_arg0 : FVec F S8192x4096 .f32) (main_arg1 : FVec F S4096 .f32) (main_arg2 : FVec F S4x24576 .f32) (main_arg3 : FVec F S4096x64 .f32) : IVec S8192x4096 1 × IVec S4096 1 × IVec S4x8192 1 × IVec S4096x64 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_v3 : FVec F S4096 .f32 := Host.absf main_arg1
  let main_cst_0 : FVec F S_ .f32 := constant S_ .f32 0x7F800000#32
  let main_v4 : FVec F S4096 .f32 := broadcastInDim S4096 ![] bcast_S_S4096 main_cst_0
  let main_v5 : IVec S4096 1 := cmpf .olt main_v3 main_v4
  let main_v6 : FVec F S4x8192 .f32 := (extractStridedSlice S4x8192 ![0, 12288] · slices_S4x24576_S4x8192_0_12288) main_arg2
  let main_v7 : FVec F S4x8192 .f32 := Host.absf main_v6
  let main_cst_1 : FVec F S_ .f32 := constant S_ .f32 0x7F800000#32
  let main_v8 : FVec F S4x8192 .f32 := broadcastInDim S4x8192 ![] bcast_S_S4x8192 main_cst_1
  let main_v9 : IVec S4x8192 1 := cmpf .olt main_v7 main_v8
  let main_v10 : FVec F S4096x64 .f32 := Host.absf main_arg3
  let main_cst_2 : FVec F S_ .f32 := constant S_ .f32 0x7F800000#32
  let main_v11 : FVec F S4096x64 .f32 := broadcastInDim S4096x64 ![] bcast_S_S4096x64 main_cst_2
  let main_v12 : IVec S4096x64 1 := cmpf .olt main_v10 main_v11
  (main_v2, main_v5, main_v9, main_v12)
-- ==== Pre_finite_hw.lean ====
abbrev S8192x4096 : Shape := ⟨2, ![8192, 4096]⟩
abbrev S4096x14848 : Shape := ⟨2, ![4096, 14848]⟩
abbrev S64 : Shape := ⟨1, ![64]⟩
abbrev S_ : Shape := ⟨0, ![]⟩
abbrev S4096x2304 : Shape := ⟨2, ![4096, 2304]⟩

class Facts : Prop where
  bitsLt_bf16_f32 : FTy.bits .bf16 < FTy.bits .f32
  bcast_S_S8192x4096 : S_.BroadcastsInDim S8192x4096 (![] : Fin 0 → Fin S8192x4096.rank)
  slices_S4096x14848_S4096x2304_0_0 : S4096x14848.Slices ![0, 0] S4096x2304
  bcast_S_S4096x2304 : S_.BroadcastsInDim S4096x2304 (![] : Fin 0 → Fin S4096x2304.rank)

variable [Facts]

def fn {F : FTy → Type} [FloatOps F] (main_arg0 : FVec F S8192x4096 .bf16) (main_arg1 : FVec F S4096x14848 .f32) (main_arg2 : FVec F S64 .f32) (main_arg3 : FVec F S64 .f32) : IVec S8192x4096 1 × IVec S4096x2304 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_v4 : FVec F S4096x2304 .f32 := (extractStridedSlice S4096x2304 ![0, 0] · slices_S4096x14848_S4096x2304_0_0) main_arg1
  let main_v5 : FVec F S4096x2304 .f32 := Host.absf main_v4
  let main_cst_0 : FVec F S_ .f32 := constant S_ .f32 0x7F800000#32
  let main_v6 : FVec F S4096x2304 .f32 := broadcastInDim S4096x2304 ![] bcast_S_S4096x2304 main_cst_0
  let main_v7 : IVec S4096x2304 1 := cmpf .olt main_v5 main_v6
  (main_v3, main_v7)
-- ==== Pre_finite_hw_sample.lean ====
abbrev S128x4096 : Shape := ⟨2, ![128, 4096]⟩
abbrev S4096x14848 : Shape := ⟨2, ![4096, 14848]⟩
abbrev S64 : Shape := ⟨1, ![64]⟩
abbrev S_ : Shape := ⟨0, ![]⟩
abbrev S4096x2304 : Shape := ⟨2, ![4096, 2304]⟩

class Facts : Prop where
  bitsLt_bf16_f32 : FTy.bits .bf16 < FTy.bits .f32
  bcast_S_S128x4096 : S_.BroadcastsInDim S128x4096 (![] : Fin 0 → Fin S128x4096.rank)
  slices_S4096x14848_S4096x2304_0_0 : S4096x14848.Slices ![0, 0] S4096x2304
  bcast_S_S4096x2304 : S_.BroadcastsInDim S4096x2304 (![] : Fin 0 → Fin S4096x2304.rank)

variable [Facts]

def fn {F : FTy → Type} [FloatOps F] (main_arg0 : FVec F S128x4096 .bf16) (main_arg1 : FVec F S4096x14848 .f32) (main_arg2 : FVec F S64 .f32) (main_arg3 : FVec F S64 .f32) : IVec S128x4096 1 × IVec S4096x2304 1 :=
  let main_v0 : FVec F S128x4096 .f32 := (extf .f32 · bitsLt_bf16_f32) main_arg0
  let main_v1 : FVec F S128x4096 .f32 := Host.absf main_v0
  let main_cst : FVec F S_ .f32 := constant S_ .f32 0x7F800000#32
  let main_v2 : FVec F S128x4096 .f32 := broadcastInDim S128x4096 ![] bcast_S_S128x4096 main_cst
  let main_v3 : IVec S128x4096 1 := cmpf .olt main_v1 main_v2
  let main_v4 : FVec F S4096x2304 .f32 := (extractStridedSlice S4096x2304 ![0, 0] · slices_S4096x14848_S4096x2304_0_0) main_arg1
  let main_v5 : FVec F S4096x2304 .f32 := Host.absf main_v4
  let main_cst_0 : FVec F S_ .f32 := constant S_ .f32 0x7F800000#32
  let main_v6 : FVec F S4096x2304 .f32 := broadcastInDim S4096x2304 ![] bcast_S_S4096x2304 main_cst_0
  let main_v7 : IVec S4096x2304 1 := cmpf .olt main_v5 main_v6
  (main_v3, main_v7)
-- ==== Pre_finite_qk.lean ====
abbrev S8192x2560 : Shape := ⟨2, ![8192, 2560]⟩
abbrev S4x8 : Shape := ⟨2, ![4, 8]⟩
abbrev S8192x2304 : Shape := ⟨2, ![8192, 2304]⟩
abbrev S_ : Shape := ⟨0, ![]⟩

class Facts : Prop where
  slices_S8192x2560_S8192x2304_0_0 : S8192x2560.Slices ![0, 0] S8192x2304
  bcast_S_S8192x2304 : S_.BroadcastsInDim S8192x2304 (![] : Fin 0 → Fin S8192x2304.rank)
  bcast_S_S4x8 : S_.BroadcastsInDim S4x8 (![] : Fin 0 → Fin S4x8.rank)

variable [Facts]

def fn {F : FTy → Type} [FloatOps F] (main_arg0 : FVec F S8192x2560 .f32) (main_arg1 : FVec F S4x8 .f32) : IVec S8192x2304 1 × IVec S4x8 1 :=
  let main_v0 : FVec F S8192x2304 .f32 := (extractStridedSlice S8192x2304 ![0, 0] · slices_S8192x2560_S8192x2304_0_0) main_arg0
  let main_v1 : FVec F S8192x2304 .f32 := Host.absf main_v0
  let main_cst : FVec F S_ .f32 := constant S_ .f32 0x7F800000#32
  let main_v2 : FVec F S8192x2304 .f32 := broadcastInDim S8192x2304 ![] bcast_S_S8192x2304 main_cst
  let main_v3 : IVec S8192x2304 1 := cmpf .olt main_v1 main_v2
  let main_v4 : FVec F S4x8 .f32 := Host.absf main_arg1
  let main_cst_0 : FVec F S_ .f32 := constant S_ .f32 0x7F800000#32
  let main_v5 : FVec F S4x8 .f32 := broadcastInDim S4x8 ![] bcast_S_S4x8 main_cst_0
  let main_v6 : IVec S4x8 1 := cmpf .olt main_v4 main_v5
  (main_v3, main_v6)
-- ==== Pre_finite_qkv.lean ====
abbrev S128x2560 : Shape := ⟨2, ![128, 2560]⟩
abbrev S128x128x4x64 : Shape := ⟨4, ![128, 128, 4, 64]⟩
abbrev S4x8 : Shape := ⟨2, ![4, 8]⟩
abbrev S128x2304 : Shape := ⟨2, ![128, 2304]⟩
abbrev S_ : Shape := ⟨0, ![]⟩

class Facts : Prop where
  slices_S128x2560_S128x2304_0_0 : S128x2560.Slices ![0, 0] S128x2304
  bcast_S_S128x2304 : S_.BroadcastsInDim S128x2304 (![] : Fin 0 → Fin S128x2304.rank)
  bcast_S_S128x128x4x64 : S_.BroadcastsInDim S128x128x4x64 (![] : Fin 0 → Fin S128x128x4x64.rank)
  bcast_S_S4x8 : S_.BroadcastsInDim S4x8 (![] : Fin 0 → Fin S4x8.rank)

variable [Facts]

def fn {F : FTy → Type} [FloatOps F] (main_arg0 : FVec F S128x2560 .f32) (main_arg1 : FVec F S128x128x4x64 .f32) (main_arg2 : FVec F S128x128x4x64 .f32) (main_arg3 : FVec F S4x8 .f32) : IVec S128x2304 1 × IVec S128x128x4x64 1 × IVec S4x8 1 :=
  let main_v0 : FVec F S128x2304 .f32 := (extractStridedSlice S128x2304 ![0, 0] · slices_S128x2560_S128x2304_0_0) main_arg0
  let main_v1 : FVec F S128x2304 .f32 := Host.absf main_v0
  let main_cst : FVec F S_ .f32 := constant S_ .f32 0x7F800000#32
  let main_v2 : FVec F S128x2304 .f32 := broadcastInDim S128x2304 ![] bcast_S_S128x2304 main_cst
  let main_v3 : IVec S128x2304 1 := cmpf .olt main_v1 main_v2
  let main_v4 : FVec F S128x128x4x64 .f32 := Host.absf main_arg1
  let main_cst_0 : FVec F S_ .f32 := constant S_ .f32 0x7F800000#32
  let main_v5 : FVec F S128x128x4x64 .f32 := broadcastInDim S128x128x4x64 ![] bcast_S_S128x128x4x64 main_cst_0
  let main_v6 : IVec S128x128x4x64 1 := cmpf .olt main_v4 main_v5
  let main_v7 : FVec F S4x8 .f32 := Host.absf main_arg3
  let main_cst_1 : FVec F S_ .f32 := constant S_ .f32 0x7F800000#32
  let main_v8 : FVec F S4x8 .f32 := broadcastInDim S4x8 ![] bcast_S_S4x8 main_cst_1
  let main_v9 : IVec S4x8 1 := cmpf .olt main_v7 main_v8
  (main_v3, main_v6, main_v9)
-- ==== Kernel.lean ====
abbrev S8192x2560 : Shape := ⟨2, ![8192, 2560]⟩
abbrev S4x8 : Shape := ⟨2, ![4, 8]⟩
abbrev S8192x2048 : Shape := ⟨2, ![8192, 2048]⟩
abbrev S128x2048 : Shape := ⟨2, ![128, 2048]⟩
abbrev S128x256 : Shape := ⟨2, ![128, 256]⟩
abbrev S1024x128 : Shape := ⟨2, ![1024, 128]⟩
abbrev S128x128 : Shape := ⟨2, ![128, 128]⟩
abbrev S128x64 : Shape := ⟨2, ![128, 64]⟩
abbrev S1024x64 : Shape := ⟨2, ![1024, 64]⟩
abbrev S1x1 : Shape := ⟨2, ![1, 1]⟩
abbrev S128x1 : Shape := ⟨2, ![128, 1]⟩
abbrev S1024x1 : Shape := ⟨2, ![1024, 1]⟩
abbrev S1024 : Shape := ⟨1, ![1024]⟩

abbrev nBuf : Space → Nat
  | .hbm => 3
  | .vmem => 12
  | .smem => 1
  | _ => 0

abbrev bufTy : (tb : Table) → Fin (tcTables nBuf tb) → BufTy
  | .hbm, ⟨0, _⟩ => ⟨S8192x2560, .f32⟩
  | .hbm, ⟨1, _⟩ => ⟨S4x8, .f32⟩
  | .hbm, ⟨2, _⟩ => ⟨S8192x2048, .bf16⟩
  | .local _ .vmem, ⟨0, _⟩ => ⟨S128x2048, .f32⟩
  | .local _ .vmem, ⟨1, _⟩ => ⟨S128x2048, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x2048, .bf16⟩
  | .local _ .vmem, ⟨11, _⟩ => ⟨S128x2048, .bf16⟩
  | .local _ .smem, ⟨0, _⟩ => ⟨S4x8, .f32⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let c0_i32 : BitVec 32 := 0#32
  ![v1.toNat, c8_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c8_i32 : BitVec 32 := 8#32
  let c0_i32_0 : BitVec 32 := 0#32
  ![v3.toNat, c8_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c9_i32 : BitVec 32 := 9#32
  let c0_i32 : BitVec 32 := 0#32
  ![v1.toNat, c9_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c9_i32 : BitVec 32 := 9#32
  let c0_i32_0 : BitVec 32 := 0#32
  ![v3.toNat, c9_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S4x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8192x2560 : Shape := ⟨2, ![8192, 2560]⟩
abbrev S4x8 : Shape := ⟨2, ![4, 8]⟩
abbrev S8192x2048 : Shape := ⟨2, ![8192, 2048]⟩
abbrev S4x16x128x4x8x64 : Shape := ⟨6, ![4, 16, 128, 4, 8, 64]⟩
abbrev S8192x256 : Shape := ⟨2, ![8192, 256]⟩
abbrev S4x16x128x4x64 : Shape := ⟨5, ![4, 16, 128, 4, 64]⟩
abbrev S4x1x128x4x64 : Shape := ⟨5, ![4, 1, 128, 4, 64]⟩
abbrev S_ : Shape := ⟨0, ![]⟩
abbrev S4x15x128x4x64 : Shape := ⟨5, ![4, 15, 128, 4, 64]⟩
abbrev S4x16x256x4x64 : Shape := ⟨5, ![4, 16, 256, 4, 64]⟩
abbrev S4x16x4x256x128x8 : Shape := ⟨6, ![4, 16, 4, 256, 128, 8]⟩
abbrev S4x16x4x8x128x256 : Shape := ⟨6, ![4, 16, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x16x1x1x128x256 : Shape := ⟨6, ![1, 16, 1, 1, 128, 256]⟩
abbrev S4x8x1x1 : Shape := ⟨4, ![4, 8, 1, 1]⟩
abbrev S4x16x4x8x128x1 : Shape := ⟨6, ![4, 16, 4, 8, 128, 1]⟩
abbrev S4x16x4x8x128x257 : Shape := ⟨6, ![4, 16, 4, 8, 128, 257]⟩
abbrev S4x16x4x8x128 : Shape := ⟨5, ![4, 16, 4, 8, 128]⟩
abbrev S4x16x4x64x8x128 : Shape := ⟨6, ![4, 16, 4, 64, 8, 128]⟩

abbrev nBuf : Space → Nat
  | .hbm => 86
  | .vmem => 0
  | .smem => 0
  | _ => 0

abbrev bufTy : (tb : Table) → Fin (tcTables nBuf tb) → BufTy
  | .hbm, ⟨0, _⟩ => ⟨S8192x2560, .f32⟩
  | .hbm, ⟨1, _⟩ => ⟨S4x8, .f32⟩
  | .hbm, ⟨2, _⟩ => ⟨S8192x2048, .f32⟩
  | .hbm, ⟨3, _⟩ => ⟨S4x16x128x4x8x64, .f32⟩
  | .hbm, ⟨4, _⟩ => ⟨S8192x256, .f32⟩
  | .hbm, ⟨5, _⟩ => ⟨S4x16x128x4x64, .f32⟩
  | .hbm, ⟨6, _⟩ => ⟨S8192x256, .f32⟩
  | .hbm, ⟨7, _⟩ => ⟨S4x16x128x4x64, .f32⟩
  | .hbm, ⟨8, _⟩ => ⟨S4x1x128x4x64, .f32⟩
  | .hbm, ⟨9, _⟩ => ⟨S_, .f32⟩
  | .hbm, ⟨10, _⟩ => ⟨S4x1x128x4x64, .f32⟩
  | .hbm, ⟨11, _⟩ => ⟨S4x15x128x4x64, .f32⟩
  | .hbm, ⟨12, _⟩ => ⟨S4x16x128x4x64, .f32⟩
  | .hbm, ⟨13, _⟩ => ⟨S4x16x256x4x64, .f32⟩
  | .hbm, ⟨14, _⟩ => ⟨S4x15x128x4x64, .f32⟩
  | .hbm, ⟨15, _⟩ => ⟨S4x16x128x4x64, .f32⟩
  | .hbm, ⟨16, _⟩ => ⟨S4x16x256x4x64, .f32⟩
  | .hbm, ⟨17, _⟩ => ⟨S4x16x4x256x128x8, .f32⟩
  | .hbm, ⟨18, _⟩ => ⟨S4x16x4x8x128x256, .f32⟩
  | .hbm, ⟨19, _⟩ => ⟨S_, .f32⟩
  | .hbm, ⟨20, _⟩ => ⟨S4x16x4x8x128x256, .f32⟩
  | .hbm, ⟨21, _⟩ => ⟨S4x16x4x8x128x256, .f32⟩
  | .hbm, ⟨22, _⟩ => ⟨S128, .i32⟩
  | .hbm, ⟨23, _⟩ => ⟨S128x1, .i32⟩
  | .hbm, ⟨24, _⟩ => ⟨S256, .i32⟩
  | .hbm, ⟨25, _⟩ => ⟨S1x256, .i32⟩
  | .hbm, ⟨26, _⟩ => ⟨S_, .i32⟩
  | .hbm, ⟨27, _⟩ => ⟨S128x1, .i32⟩
  | .hbm, ⟨28, _⟩ => ⟨S128x1, .i32⟩
  | .hbm, ⟨29, _⟩ => ⟨S128x256, .i32⟩
  | .hbm, ⟨30, _⟩ => ⟨S128x256, .i32⟩
  | .hbm, ⟨31, _⟩ => ⟨S128x256, .i32⟩
  | .hbm, ⟨32, _⟩ => ⟨S16, .i32⟩
  | .hbm, ⟨33, _⟩ => ⟨S16x1x1, .i32⟩
  | .hbm, ⟨34, _⟩ => ⟨S_, .i32⟩
  | .hbm, ⟨35, _⟩ => ⟨S16x1x1, .i32⟩
  | .hbm, ⟨36, _⟩ => ⟨S16x1x1, .i32⟩
  | .hbm, ⟨37, _⟩ => ⟨S_, .i32⟩
  | .hbm, ⟨38, _⟩ => ⟨S16x1x1, .i32⟩
  | .hbm, ⟨39, _⟩ => ⟨S16x1x1, .i32⟩
  | .hbm, ⟨40, _⟩ => ⟨S1x1x256, .i32⟩
  | .hbm, ⟨41, _⟩ => ⟨S16x1x256, .i32⟩
  | .hbm, ⟨42, _⟩ => ⟨S16x1x256, .i32⟩
  | .hbm, ⟨43, _⟩ => ⟨S16x1x256, .i32⟩
  | .hbm, ⟨44, _⟩ => ⟨S_, .i32⟩
  | .hbm, ⟨45, _⟩ => ⟨S128x256, .i32⟩
  | .hbm, ⟨46, _⟩ => ⟨S128x256, .i1⟩
  | .hbm, ⟨47, _⟩ => ⟨S_, .i32⟩
  | .hbm, ⟨48, _⟩ => ⟨S128x256, .i32⟩
  | .hbm, ⟨49, _⟩ => ⟨S128x256, .i1⟩
  | .hbm, ⟨50, _⟩ => ⟨S128x256, .i1⟩
  | .hbm, ⟨51, _⟩ => ⟨S_, .i32⟩
  | .hbm, ⟨52, _⟩ => ⟨S16x1x256, .i32⟩
  | .hbm, ⟨53, _⟩ => ⟨S16x1x256, .i1⟩
  | .hbm, ⟨54, _⟩ => ⟨S1x128x256, .i1⟩
  | .hbm, ⟨55, _⟩ => ⟨S16x128x256, .i1⟩
  | .hbm, ⟨56, _⟩ => ⟨S16x128x256, .i1⟩
  | .hbm, ⟨57, _⟩ => ⟨S16x128x256, .i1⟩
  | .hbm, ⟨58, _⟩ => ⟨S1x16x1x1x128x256, .i1⟩
  | .hbm, ⟨59, _⟩ => ⟨S_, .f32⟩
  | .hbm, ⟨60, _⟩ => ⟨S_, .f32⟩
  | .hbm, ⟨61, _⟩ => ⟨S4x16x4x8x128x256, .i1⟩
  | .hbm, ⟨62, _⟩ => ⟨S4x16x4x8x128x256, .f32⟩
  | .hbm, ⟨63, _⟩ => ⟨S4x16x4x8x128x256, .f32⟩
  | .hbm, ⟨64, _⟩ => ⟨S4x8x1x1, .f32⟩
  | .hbm, ⟨65, _⟩ => ⟨S4x16x4x8x128x1, .f32⟩
  | .hbm, ⟨66, _⟩ => ⟨S4x16x4x8x128x257, .f32⟩
  | .hbm, ⟨67, _⟩ => ⟨S_, .f32⟩
  | .hbm, ⟨68, _⟩ => ⟨S4x16x4x8x128, .f32⟩
  | .hbm, ⟨69, _⟩ => ⟨S_, .f32⟩
  | .hbm, ⟨70, _⟩ => ⟨S4x16x4x8x128, .f32⟩
  | .hbm, ⟨71, _⟩ => ⟨S4x16x4x8x128, .f32⟩
  | .hbm, ⟨72, _⟩ => ⟨S4x16x4x8x128x1, .f32⟩
  | .hbm, ⟨73, _⟩ => ⟨S4x16x4x8x128x257, .f32⟩
  | .hbm, ⟨74, _⟩ => ⟨S4x16x4x8x128x257, .f32⟩
  | .hbm, ⟨75, _⟩ => ⟨S4x16x4x8x128x257, .f32⟩
  | .hbm, ⟨76, _⟩ => ⟨S_, .f32⟩
  | .hbm, ⟨77, _⟩ => ⟨S4x16x4x8x128, .f32⟩
  | .hbm, ⟨78, _⟩ => ⟨S4x16x4x8x128x1, .f32⟩
  | .hbm, ⟨79, _⟩ => ⟨S4x16x4x8x128x257, .f32⟩
  | .hbm, ⟨80, _⟩ => ⟨S4x16x4x8x128x257, .f32⟩
  | .hbm, ⟨81, _⟩ => ⟨S4x16x4x8x128x256, .f32⟩
  | .hbm, ⟨82, _⟩ => ⟨S4x16x4x64x8x128, .f32⟩
  | .hbm, ⟨83, _⟩ => ⟨S4x16x128x4x8x64, .f32⟩
  | .hbm, ⟨84, _⟩ => ⟨S8192x2048, .f32⟩
  | .hbm, ⟨85, _⟩ => ⟨S8192x2048, .bf16⟩
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_c : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_c_1 : Ref sig .tc := ⟨.hbm, 34, rfl⟩
abbrev main_v29 : Ref sig .tc := ⟨.hbm, 35, rfl⟩
abbrev main_v30 : Ref sig .tc := ⟨.hbm, 36, rfl⟩
abbrev main_c_2 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_c_3 : Ref sig .tc := ⟨.hbm, 44, rfl⟩
abbrev main_v37 : Ref sig .tc := ⟨.hbm, 45, rfl⟩
abbrev main_v38 : Ref sig .tc := ⟨.hbm, 46, rfl⟩
abbrev main_c_4 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_c_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_6 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_7 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== Qkv.lean ====
abbrev S8192x4096 : Shape := ⟨2, ![8192, 4096]⟩
abbrev S4096x14848 : Shape := ⟨2, ![4096, 14848]⟩
abbrev S64 : Shape := ⟨1, ![64]⟩
abbrev S1x64 : Shape := ⟨2, ![1, 64]⟩
abbrev S32x64 : Shape := ⟨2, ![32, 64]⟩
abbrev S2048 : Shape := ⟨1, ![2048]⟩
abbrev S4x64 : Shape := ⟨2, ![4, 64]⟩
abbrev S256 : Shape := ⟨1, ![256]⟩
abbrev S_ : Shape := ⟨0, ![]⟩
abbrev S2560 : Shape := ⟨1, ![2560]⟩
abbrev S1x2560 : Shape := ⟨2, ![1, 2560]⟩
abbrev S2304 : Shape := ⟨1, ![2304]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S8192x2560 : Shape := ⟨2, ![8192, 2560]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 46
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S4096x14848, .f32⟩
  | .hbm, ⟨2, _⟩ => ⟨S64, .f32⟩
  | .hbm, ⟨3, _⟩ => ⟨S64, .f32⟩
  | .hbm, ⟨4, _⟩ => ⟨S1x64, .f32⟩
  | .hbm, ⟨5, _⟩ => ⟨S32x64, .f32⟩
  | .hbm, ⟨6, _⟩ => ⟨S2048, .f32⟩
  | .hbm, ⟨7, _⟩ => ⟨S1x64, .f32⟩
  | .hbm, ⟨8, _⟩ => ⟨S4x64, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S2560, .f32⟩
  | .hbm, ⟨13, _⟩ => ⟨S1x2560, .f32⟩
  | .hbm, ⟨14, _⟩ => ⟨S_, .f32⟩
  | .hbm, ⟨15, _⟩ => ⟨S2304, .f32⟩
  | .hbm, ⟨16, _⟩ => ⟨S_, .f32⟩
  | .hbm, ⟨17, _⟩ => ⟨S256, .f32⟩
  | .hbm, ⟨18, _⟩ => ⟨S2560, .f32⟩
  | .hbm, ⟨19, _⟩ => ⟨S1x2560, .f32⟩
  | .hbm, ⟨20, _⟩ => ⟨S512, .i32⟩
  | .hbm, ⟨21, _⟩ => ⟨S_, .i32⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S_, .i32⟩
  | .hbm, ⟨27, _⟩ => ⟨S512, .i32⟩
  | .hbm, ⟨28, _⟩ => ⟨S512, .i1⟩
  | .hbm, ⟨29, _⟩ => ⟨S512, .i32⟩
  | .hbm, ⟨30, _⟩ => ⟨S512, .i32⟩
  | .hbm, ⟨31, _⟩ => ⟨S_, .i32⟩
  | .hbm, ⟨32, _⟩ => ⟨S512, .i32⟩
  | .hbm, ⟨33, _⟩ => ⟨S512, .i1⟩
  | .hbm, ⟨34, _⟩ => ⟨S512, .i1⟩
  | .hbm, ⟨35, _⟩ => ⟨S_, .i32⟩
  | .hbm, ⟨36, _⟩ => ⟨S512, .i32⟩
  | .hbm, ⟨37, _⟩ => ⟨S512, .i32⟩
  | .hbm, ⟨38, _⟩ => ⟨S512, .i32⟩
  | .hbm, ⟨39, _⟩ => ⟨S512x1, .i32⟩
  | .hbm, ⟨40, _⟩ => ⟨S1x512, .i32⟩
  | .hbm, ⟨41, _⟩ => ⟨S512x512, .i32⟩
  | .hbm, ⟨42, _⟩ => ⟨S512x512, .i32⟩
  | .hbm, ⟨43, _⟩ => ⟨S512x512, .i1⟩
  | .hbm, ⟨44, _⟩ => ⟨S512x512, .bf16⟩
  | .hbm, ⟨45, _⟩ => ⟨S8192x2560, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S1024x512, .f32⟩
  | .local _ .vmem, ⟨10, _⟩ => ⟨S1024x512, .f32⟩
  | .local _ .vmem, ⟨11, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![5, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QkvRefIdeal.lean ====
abbrev S8192x4096 : Shape := ⟨2, ![8192, 4096]⟩
abbrev S4096x14848 : Shape := ⟨2, ![4096, 14848]⟩
abbrev S64 : Shape := ⟨1, ![64]⟩
abbrev S8192x14848 : Shape := ⟨2, ![8192, 14848]⟩
abbrev S8192x2048 : Shape := ⟨2, ![8192, 2048]⟩
abbrev S8192x32x64 : Shape := ⟨3, ![8192, 32, 64]⟩
abbrev S_ : Shape := ⟨0, ![]⟩
abbrev S8192x32 : Shape := ⟨2, ![8192, 32]⟩
abbrev S8192x32x1 : Shape := ⟨3, ![8192, 32, 1]⟩
abbrev S1x1x64 : Shape := ⟨3, ![1, 1, 64]⟩
abbrev S8192x256 : Shape := ⟨2, ![8192, 256]⟩
abbrev S8192x4x64 : Shape := ⟨3, ![8192, 4, 64]⟩
abbrev S8192x4 : Shape := ⟨2, ![8192, 4]⟩
abbrev S8192x4x1 : Shape := ⟨3, ![8192, 4, 1]⟩
abbrev S8192x2560 : Shape := ⟨2, ![8192, 2560]⟩

abbrev nBuf : Space → Nat
  | .hbm => 46
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x14848, .f32⟩
  | .hbm, ⟨2, _⟩ => ⟨S64, .f32⟩
  | .hbm, ⟨3, _⟩ => ⟨S64, .f32⟩
  | .hbm, ⟨4, _⟩ => ⟨S8192x4096, .f32⟩
  | .hbm, ⟨5, _⟩ => ⟨S8192x14848, .f32⟩
  | .hbm, ⟨6, _⟩ => ⟨S8192x2048, .f32⟩
  | .hbm, ⟨7, _⟩ => ⟨S8192x32x64, .f32⟩
  | .hbm, ⟨8, _⟩ => ⟨S8192x32x64, .f32⟩
  | .hbm, ⟨9, _⟩ => ⟨S_, .f32⟩
  | .hbm, ⟨10, _⟩ => ⟨S8192x32, .f32⟩
  | .hbm, ⟨11, _⟩ => ⟨S8192x32x1, .f32⟩
  | .hbm, ⟨12, _⟩ => ⟨S_, .f32⟩
  | .hbm, ⟨13, _⟩ => ⟨S8192x32x1, .f32⟩
  | .hbm, ⟨14, _⟩ => ⟨S8192x32x1, .f32⟩
  | .hbm, ⟨15, _⟩ => ⟨S_, .f32⟩
  | .hbm, ⟨16, _⟩ => ⟨S8192x32x1, .f32⟩
  | .hbm, ⟨17, _⟩ => ⟨S8192x32x1, .f32⟩
  | .hbm, ⟨18, _⟩ => ⟨S8192x32x1, .f32⟩
  | .hbm, ⟨19, _⟩ => ⟨S8192x32x64, .f32⟩
  | .hbm, ⟨20, _⟩ => ⟨S8192x32x64, .f32⟩
  | .hbm, ⟨21, _⟩ => ⟨S1x1x64, .f32⟩
  | .hbm, ⟨22, _⟩ => ⟨S8192x32x64, .f32⟩
  | .hbm, ⟨23, _⟩ => ⟨S8192x32x64, .f32⟩
  | .hbm, ⟨24, _⟩ => ⟨S8192x256, .f32⟩
  | .hbm, ⟨25, _⟩ => ⟨S8192x4x64, .f32⟩
  | .hbm, ⟨26, _⟩ => ⟨S8192x4x64, .f32⟩
  | .hbm, ⟨27, _⟩ => ⟨S_, .f32⟩
  | .hbm, ⟨28, _⟩ => ⟨S8192x4, .f32⟩
  | .hbm, ⟨29, _⟩ => ⟨S8192x4x1, .f32⟩
  | .hbm, ⟨30, _⟩ => ⟨S_, .f32⟩
  | .hbm, ⟨31, _⟩ => ⟨S8192x4x1, .f32⟩
  | .hbm, ⟨32, _⟩ => ⟨S8192x4x1, .f32⟩
  | .hbm, ⟨33, _⟩ => ⟨S_, .f32⟩
  | .hbm, ⟨34, _⟩ => ⟨S8192x4x1, .f32⟩
  | .hbm, ⟨35, _⟩ => ⟨S8192x4x1, .f32⟩
  | .hbm, ⟨36, _⟩ => ⟨S8192x4x1, .f32⟩
  | .hbm, ⟨37, _⟩ => ⟨S8192x4x64, .f32⟩
  | .hbm, ⟨38, _⟩ => ⟨S8192x4x64, .f32⟩
  | .hbm, ⟨39, _⟩ => ⟨S1x1x64, .f32⟩
  | .hbm, ⟨40, _⟩ => ⟨S8192x4x64, .f32⟩
  | .hbm, ⟨41, _⟩ => ⟨S8192x4x64, .f32⟩
  | .hbm, ⟨42, _⟩ => ⟨S8192x256, .f32⟩
  | .hbm, ⟨43, _⟩ => ⟨S8192x2048, .f32⟩
  | .hbm, ⟨44, _⟩ => ⟨S8192x256, .f32⟩
  | .hbm, ⟨45, _⟩ => ⟨S8192x2560, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Ugv.lean ====
abbrev S8192x4096 : Shape := ⟨2, ![8192, 4096]⟩
abbrev S4096x14848 : Shape := ⟨2, ![4096, 14848]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x14848, .f32⟩
  | .hbm, ⟨2, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .bf16⟩
  | .local _ .vmem, ⟨5, _⟩ => ⟨S1024x512, .bf16⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi arg0 c5_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UgvRefIdeal.lean ====
abbrev S8192x4096 : Shape := ⟨2, ![8192, 4096]⟩
abbrev S4096x14848 : Shape := ⟨2, ![4096, 14848]⟩
abbrev S8192x14848 : Shape := ⟨2, ![8192, 14848]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x14848, .f32⟩
  | .hbm, ⟨2, _⟩ => ⟨S8192x4096, .f32⟩
  | .hbm, ⟨3, _⟩ => ⟨S8192x14848, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Gates.lean ====
abbrev S8192x4096 : Shape := ⟨2, ![8192, 4096]⟩
abbrev S4096x14848 : Shape := ⟨2, ![4096, 14848]⟩
abbrev S8192x8192 : Shape := ⟨2, ![8192, 8192]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x14848, .f32⟩
  | .hbm, ⟨2, _⟩ => ⟨S8192x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .bf16⟩
  | .local _ .vmem, ⟨5, _⟩ => ⟨S1024x512, .bf16⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi arg0 c13_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesRefIdeal.lean ====
abbrev S8192x4096 : Shape := ⟨2, ![8192, 4096]⟩
abbrev S4096x14848 : Shape := ⟨2, ![4096, 14848]⟩
abbrev S8192x14848 : Shape := ⟨2, ![8192, 14848]⟩
abbrev S8192x8192 : Shape := ⟨2, ![8192, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x14848, .f32⟩
  | .hbm, ⟨2, _⟩ => ⟨S8192x4096, .f32⟩
  | .hbm, ⟨3, _⟩ => ⟨S8192x14848, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x8192, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Merge.lean ====
abbrev S8192x2048 : Shape := ⟨2, ![8192, 2048]⟩
abbrev S8192x8192 : Shape := ⟨2, ![8192, 8192]⟩
abbrev S2048x4096 : Shape := ⟨2, ![2048, 4096]⟩
abbrev S8192x4096 : Shape := ⟨2, ![8192, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x8192, .bf16⟩
  | .hbm, ⟨3, _⟩ => ⟨S2048x4096, .f32⟩
  | .hbm, ⟨4, _⟩ => ⟨S2048x4096, .f32⟩
  | .hbm, ⟨5, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S2048x512, .bf16⟩
  | .local _ .vmem, ⟨15, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S8192x2048 : Shape := ⟨2, ![8192, 2048]⟩
abbrev S8192x8192 : Shape := ⟨2, ![8192, 8192]⟩
abbrev S2048x4096 : Shape := ⟨2, ![2048, 4096]⟩
abbrev S8192x4096 : Shape := ⟨2, ![8192, 4096]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x8192, .bf16⟩
  | .hbm, ⟨3, _⟩ => ⟨S2048x4096, .f32⟩
  | .hbm, ⟨4, _⟩ => ⟨S2048x4096, .f32⟩
  | .hbm, ⟨5, _⟩ => ⟨S8192x4096, .bf16⟩
  | .hbm, ⟨6, _⟩ => ⟨S8192x4096, .f32⟩
  | .hbm, ⟨7, _⟩ => ⟨S8192x4096, .bf16⟩
  | .hbm, ⟨8, _⟩ => ⟨S8192x4096, .f32⟩
  | .hbm, ⟨9, _⟩ => ⟨S8192x2048, .f32⟩
  | .hbm, ⟨10, _⟩ => ⟨S8192x4096, .f32⟩
  | .hbm, ⟨11, _⟩ => ⟨S8192x4096, .f32⟩
  | .hbm, ⟨12, _⟩ => ⟨S8192x2048, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== OutProj.lean ====
abbrev S8192x4096 : Shape := ⟨2, ![8192, 4096]⟩
abbrev S4x2048x4096 : Shape := ⟨3, ![4, 2048, 4096]⟩
abbrev S4x24576 : Shape := ⟨2, ![4, 24576]⟩
abbrev S4096x4096 : Shape := ⟨2, ![4096, 4096]⟩
abbrev S4x1x24576 : Shape := ⟨3, ![4, 1, 24576]⟩
abbrev S1024x4096 : Shape := ⟨2, ![1024, 4096]⟩
abbrev S4096x512 : Shape := ⟨2, ![4096, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 7
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S4x2048x4096, .f32⟩
  | .hbm, ⟨2, _⟩ => ⟨S4x24576, .f32⟩
  | .hbm, ⟨3, _⟩ => ⟨S4096x4096, .f32⟩
  | .hbm, ⟨4, _⟩ => ⟨S8192x4096, .f32⟩
  | .hbm, ⟨5, _⟩ => ⟨S4x1x24576, .f32⟩
  | .hbm, ⟨6, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32 : BitVec 32 := 16#32
  let v18 : BitVec 32 := Scalar.addi c16_i32 arg0
  let c0_i32_4 : BitVec 32 := 0#32
  let c0_i32_5 : BitVec 32 := 0#32
  ![v17.toNat, c0_i32_4.toNat, v18.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjRefIdeal.lean ====
abbrev S8192x4096 : Shape := ⟨2, ![8192, 4096]⟩
abbrev S4x2048x4096 : Shape := ⟨3, ![4, 2048, 4096]⟩
abbrev S4x24576 : Shape := ⟨2, ![4, 24576]⟩
abbrev S4096x4096 : Shape := ⟨2, ![4096, 4096]⟩
abbrev S4x4096 : Shape := ⟨2, ![4, 4096]⟩
abbrev S4x1x4096 : Shape := ⟨3, ![4, 1, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x2048x4096, .f32⟩
  | .hbm, ⟨2, _⟩ => ⟨S4x24576, .f32⟩
  | .hbm, ⟨3, _⟩ => ⟨S4096x4096, .f32⟩
  | .hbm, ⟨4, _⟩ => ⟨S4x4096, .f32⟩
  | .hbm, ⟨5, _⟩ => ⟨S4x1x4096, .f32⟩
  | .hbm, ⟨6, _⟩ => ⟨S8192x4096, .f32⟩
  | .hbm, ⟨7, _⟩ => ⟨S8192x4096, .f32⟩
  | .hbm, ⟨8, _⟩ => ⟨S4x2048x4096, .f32⟩
  | .hbm, ⟨9, _⟩ => ⟨S4x2048x4096, .f32⟩
  | .hbm, ⟨10, _⟩ => ⟨S4x2048x4096, .f32⟩
  | .hbm, ⟨11, _⟩ => ⟨S4x2048x4096, .f32⟩
  | .hbm, ⟨12, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== SharedUp.lean ====
abbrev S8320x4096 : Shape := ⟨2, ![8320, 4096]⟩
abbrev S4096x1024 : Shape := ⟨2, ![4096, 1024]⟩
abbrev S8320x1024 : Shape := ⟨2, ![8320, 1024]⟩
abbrev S640x4096 : Shape := ⟨2, ![640, 4096]⟩
abbrev S4096x256 : Shape := ⟨2, ![4096, 256]⟩
abbrev S640x256 : Shape := ⟨2, ![640, 256]⟩

abbrev nBuf : Space → Nat
  | .hbm => 4
  | .vmem => 10
  | .smem => 0
  | _ => 0

abbrev bufTy : (tb : Table) → Fin (tcTables nBuf tb) → BufTy
  | .hbm, ⟨0, _⟩ => ⟨S8320x4096, .bf16⟩
  | .hbm, ⟨1, _⟩ => ⟨S4096x1024, .f32⟩
  | .hbm, ⟨2, _⟩ => ⟨S4096x1024, .f32⟩
  | .hbm, ⟨3, _⟩ => ⟨S8320x1024, .bf16⟩
  | .local _ .vmem, ⟨0, _⟩ => ⟨S640x4096, .bf16⟩
  | .local _ .vmem, ⟨1, _⟩ => ⟨S640x4096, .bf16⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S640x256, .bf16⟩
  | .local _ .vmem, ⟨7, _⟩ => ⟨S640x256, .bf16⟩
  | .local _ .vmem, ⟨8, _⟩ => ⟨S4096x256, .bf16⟩
  | .local _ .vmem, ⟨9, _⟩ => ⟨S4096x256, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S640x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SharedUpRefIdeal.lean ====
abbrev S8320x4096 : Shape := ⟨2, ![8320, 4096]⟩
abbrev S4096x1024 : Shape := ⟨2, ![4096, 1024]⟩
abbrev S8320x1024 : Shape := ⟨2, ![8320, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x1024, .f32⟩
  | .hbm, ⟨2, _⟩ => ⟨S4096x1024, .f32⟩
  | .hbm, ⟨3, _⟩ => ⟨S8320x4096, .f32⟩
  | .hbm, ⟨4, _⟩ => ⟨S8320x1024, .f32⟩
  | .hbm, ⟨5, _⟩ => ⟨S8320x1024, .f32⟩
  | .hbm, ⟨6, _⟩ => ⟨S8320x1024, .f32⟩
  | .hbm, ⟨7, _⟩ => ⟨S_, .f32⟩
  | .hbm, ⟨8, _⟩ => ⟨S8320x1024, .f32⟩
  | .hbm, ⟨9, _⟩ => ⟨S8320x1024, .f32⟩
  | .hbm, ⟨10, _⟩ => ⟨S_, .f32⟩
  | .hbm, ⟨11, _⟩ => ⟨S8320x1024, .f32⟩
  | .hbm, ⟨12, _⟩ => ⟨S8320x1024, .f32⟩
  | .hbm, ⟨13, _⟩ => ⟨S8320x1024, .f32⟩
  | .hbm, ⟨14, _⟩ => ⟨S8320x1024, .f32⟩
  | .hbm, ⟨15, _⟩ => ⟨S8320x1024, .f32⟩
  | .hbm, ⟨16, _⟩ => ⟨S8320x1024, .bf16⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== SharedDown.lean ====
abbrev S8320x1024 : Shape := ⟨2, ![8320, 1024]⟩
abbrev S1024x4096 : Shape := ⟨2, ![1024, 4096]⟩
abbrev S8320x4096 : Shape := ⟨2, ![8320, 4096]⟩
abbrev S640x1024 : Shape := ⟨2, ![640, 1024]⟩
abbrev S1024x512 : Shape := ⟨2, ![1024, 512]⟩
abbrev S640x512 : Shape := ⟨2, ![640, 512]⟩

abbrev nBuf : Space → Nat
  | .hbm => 3
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S1024x4096, .f32⟩
  | .hbm, ⟨2, _⟩ => ⟨S8320x4096, .f32⟩
  | .local _ .vmem, ⟨0, _⟩ => ⟨S640x1024, .bf16⟩
  | .local _ .vmem, ⟨1, _⟩ => ⟨S640x1024, .bf16⟩
  | .local _ .vmem, ⟨2, _⟩ => ⟨S1024x512, .f32⟩
  | .local _ .vmem, ⟨3, _⟩ => ⟨S1024x512, .f32⟩
  | .local _ .vmem, ⟨4, _⟩ => ⟨S640x512, .f32⟩
  | .local _ .vmem, ⟨5, _⟩ => ⟨S640x512, .f32⟩
  | .local _ .vmem, ⟨6, _⟩ => ⟨S1024x512, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SharedDownRefIdeal.lean ====
abbrev S8320x1024 : Shape := ⟨2, ![8320, 1024]⟩
abbrev S1024x4096 : Shape := ⟨2, ![1024, 4096]⟩
abbrev S8320x4096 : Shape := ⟨2, ![8320, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x4096, .f32⟩
  | .hbm, ⟨2, _⟩ => ⟨S8320x1024, .f32⟩
  | .hbm, ⟨3, _⟩ => ⟨S8320x4096, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Adaln.lean ====
abbrev S144x4096 : Shape := ⟨2, ![144, 4096]⟩
abbrev S4096x24576 : Shape := ⟨2, ![4096, 24576]⟩
abbrev S24576 : Shape := ⟨1, ![24576]⟩
abbrev S1x24576 : Shape := ⟨2, ![1, 24576]⟩
abbrev S144x24576 : Shape := ⟨2, ![144, 24576]⟩
abbrev S4096x512 : Shape := ⟨2, ![4096, 512]⟩
abbrev S1x512 : Shape := ⟨2, ![1, 512]⟩
abbrev S144x512 : Shape := ⟨2, ![144, 512]⟩

abbrev nBuf : Space → Nat
  | .hbm => 5
  | .vmem => 8
  | .smem => 0
  | _ => 0

abbrev bufTy : (tb : Table) → Fin (tcTables nBuf tb) → BufTy
  | .hbm, ⟨0, _⟩ => ⟨S144x4096, .f32⟩
  | .hbm, ⟨1, _⟩ => ⟨S4096x24576, .f32⟩
  | .hbm, ⟨2, _⟩ => ⟨S24576, .f32⟩
  | .hbm, ⟨3, _⟩ => ⟨S1x24576, .f32⟩
  | .hbm, ⟨4, _⟩ => ⟨S144x24576, .f32⟩
  | .local _ .vmem, ⟨0, _⟩ => ⟨S144x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S144x512, .f32⟩
  | .local _ .vmem, ⟨6, _⟩ => ⟨S144x512, .f32⟩
  | .local _ .vmem, ⟨7, _⟩ => ⟨S144x4096, .bf16⟩
  | _, _ => ⟨S144x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S144x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S144x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdalnRefIdeal.lean ====
abbrev S144x4096 : Shape := ⟨2, ![144, 4096]⟩
abbrev S4096x24576 : Shape := ⟨2, ![4096, 24576]⟩
abbrev S24576 : Shape := ⟨1, ![24576]⟩
abbrev S_ : Shape := ⟨0, ![]⟩
abbrev S144x24576 : Shape := ⟨2, ![144, 24576]⟩
abbrev S1x24576 : Shape := ⟨2, ![1, 24576]⟩

abbrev nBuf : Space → Nat
  | .hbm => 16
  | .vmem => 0
  | .smem => 0
  | _ => 0

abbrev bufTy : (tb : Table) → Fin (tcTables nBuf tb) → BufTy
  | .hbm, ⟨0, _⟩ => ⟨S144x4096, .f32⟩
  | .hbm, ⟨1, _⟩ => ⟨S4096x24576, .f32⟩
  | .hbm, ⟨2, _⟩ => ⟨S24576, .f32⟩
  | .hbm, ⟨3, _⟩ => ⟨S144x4096, .f32⟩
  | .hbm, ⟨4, _⟩ => ⟨S144x4096, .f32⟩
  | .hbm, ⟨5, _⟩ => ⟨S_, .f32⟩
  | .hbm, ⟨6, _⟩ => ⟨S144x4096, .f32⟩
  | .hbm, ⟨7, _⟩ => ⟨S144x4096, .f32⟩
  | .hbm, ⟨8, _⟩ => ⟨S_, .f32⟩
  | .hbm, ⟨9, _⟩ => ⟨S144x4096, .f32⟩
  | .hbm, ⟨10, _⟩ => ⟨S144x4096, .f32⟩
  | .hbm, ⟨11, _⟩ => ⟨S144x4096, .f32⟩
  | .hbm, ⟨12, _⟩ => ⟨S144x24576, .f32⟩
  | .hbm, ⟨13, _⟩ => ⟨S1x24576, .f32⟩
  | .hbm, ⟨14, _⟩ => ⟨S144x24576, .f32⟩
  | .hbm, ⟨15, _⟩ => ⟨S144x24576, .f32⟩
  | _, _ => ⟨S144x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Modulate.lean ====
abbrev S4x2048x4096 : Shape := ⟨3, ![4, 2048, 4096]⟩
abbrev S4096 : Shape := ⟨1, ![4096]⟩
abbrev S4x24576 : Shape := ⟨2, ![4, 24576]⟩
abbrev S8192x4096 : Shape := ⟨2, ![8192, 4096]⟩
abbrev S4x1x24576 : Shape := ⟨3, ![4, 1, 24576]⟩
abbrev S1x4096 : Shape := ⟨2, ![1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 7
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4x24576, .f32⟩
  | .hbm, ⟨3, _⟩ => ⟨S8192x4096, .f32⟩
  | .hbm, ⟨4, _⟩ => ⟨S4x1x24576, .f32⟩
  | .hbm, ⟨5, _⟩ => ⟨S1x4096, .f32⟩
  | .hbm, ⟨6, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .bf16⟩
  | .local _ .vmem, ⟨8, _⟩ => ⟨S256x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c1_i32_5 : BitVec 32 := 1#32
  let c0_i32_6 : BitVec 32 := 0#32
  ![v17.toNat, c0_i32_4.toNat, c1_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ModulateRefIdeal.lean ====
abbrev S4x2048x4096 : Shape := ⟨3, ![4, 2048, 4096]⟩
abbrev S4096 : Shape := ⟨1, ![4096]⟩
abbrev S4x24576 : Shape := ⟨2, ![4, 24576]⟩
abbrev S4x4096 : Shape := ⟨2, ![4, 4096]⟩
abbrev S4x1x4096 : Shape := ⟨3, ![4, 1, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S8192x4096 : Shape := ⟨2, ![8192, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4x24576, .f32⟩
  | .hbm, ⟨3, _⟩ => ⟨S4x4096, .f32⟩
  | .hbm, ⟨4, _⟩ => ⟨S4x1x4096, .f32⟩
  | .hbm, ⟨5, _⟩ => ⟨S4x4096, .f32⟩
  | .hbm, ⟨6, _⟩ => ⟨S4x1x4096, .f32⟩
  | .hbm, ⟨7, _⟩ => ⟨S4x2048x4096, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x4096, .f32⟩
  | .hbm, ⟨19, _⟩ => ⟨S4x2048x4096, .f32⟩
  | .hbm, ⟨20, _⟩ => ⟨S1x1x4096, .f32⟩
  | .hbm, ⟨21, _⟩ => ⟨S4x2048x4096, .f32⟩
  | .hbm, ⟨22, _⟩ => ⟨S4x2048x4096, .f32⟩
  | .hbm, ⟨23, _⟩ => ⟨S_, .f32⟩
  | .hbm, ⟨24, _⟩ => ⟨S4x1x4096, .f32⟩
  | .hbm, ⟨25, _⟩ => ⟨S4x1x4096, .f32⟩
  | .hbm, ⟨26, _⟩ => ⟨S4x2048x4096, .f32⟩
  | .hbm, ⟨27, _⟩ => ⟨S4x2048x4096, .f32⟩
  | .hbm, ⟨28, _⟩ => ⟨S4x2048x4096, .f32⟩
  | .hbm, ⟨29, _⟩ => ⟨S4x2048x4096, .f32⟩
  | .hbm, ⟨30, _⟩ => ⟨S8192x4096, .f32⟩
  | .hbm, ⟨31, _⟩ => ⟨S8192x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== GmlpPrompt.lean ====
abbrev S8192x4096 : Shape := ⟨2, ![8192, 4096]⟩
abbrev S2048 : Shape := ⟨1, ![2048]⟩
abbrev S8x128x128 : Shape := ⟨3, ![8, 128, 128]⟩
abbrev S8x128 : Shape := ⟨2, ![8, 128]⟩
abbrev S128x8 : Shape := ⟨2, ![128, 8]⟩
abbrev S1x2048 : Shape := ⟨2, ![1, 2048]⟩
abbrev S8192x2048 : Shape := ⟨2, ![8192, 2048]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S128x256 : Shape := ⟨2, ![128, 256]⟩

abbrev nBuf : Space → Nat
  | .hbm => 9
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S2048, .f32⟩
  | .hbm, ⟨2, _⟩ => ⟨S2048, .f32⟩
  | .hbm, ⟨3, _⟩ => ⟨S8x128x128, .f32⟩
  | .hbm, ⟨4, _⟩ => ⟨S8x128, .f32⟩
  | .hbm, ⟨5, _⟩ => ⟨S128x8, .f32⟩
  | .hbm, ⟨6, _⟩ => ⟨S1x2048, .f32⟩
  | .hbm, ⟨7, _⟩ => ⟨S1x2048, .f32⟩
  | .hbm, ⟨8, _⟩ => ⟨S8192x2048, .bf16⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S1x2048, .f32⟩
  | .local _ .vmem, ⟨5, _⟩ => ⟨S1x2048, .f32⟩
  | .local _ .vmem, ⟨6, _⟩ => ⟨S8x128x128, .f32⟩
  | .local _ .vmem, ⟨7, _⟩ => ⟨S128x8, .f32⟩
  | .local _ .vmem, ⟨8, _⟩ => ⟨S128x2048, .bf16⟩
  | .local _ .vmem, ⟨9, _⟩ => ⟨S128x2048, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GmlpPromptRefIdeal.lean ====
abbrev S8192x4096 : Shape := ⟨2, ![8192, 4096]⟩
abbrev S2048 : Shape := ⟨1, ![2048]⟩
abbrev S8x128x128 : Shape := ⟨3, ![8, 128, 128]⟩
abbrev S8x128 : Shape := ⟨2, ![8, 128]⟩
abbrev S4x2048x4096 : Shape := ⟨3, ![4, 2048, 4096]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x16x128x8x256 : Shape := ⟨5, ![4, 16, 128, 8, 256]⟩
abbrev S128x128 : Shape := ⟨2, ![128, 128]⟩
abbrev S8x4x16x256x128 : Shape := ⟨5, ![8, 4, 16, 256, 128]⟩
abbrev S128x8 : Shape := ⟨2, ![128, 8]⟩
abbrev S1x1x128x8x1 : Shape := ⟨5, ![1, 1, 128, 8, 1]⟩
abbrev S8192x2048 : Shape := ⟨2, ![8192, 2048]⟩

abbrev nBuf : Space → Nat
  | .hbm => 68
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2048, .f32⟩
  | .hbm, ⟨2, _⟩ => ⟨S2048, .f32⟩
  | .hbm, ⟨3, _⟩ => ⟨S8x128x128, .f32⟩
  | .hbm, ⟨4, _⟩ => ⟨S8x128, .f32⟩
  | .hbm, ⟨5, _⟩ => ⟨S8192x4096, .f32⟩
  | .hbm, ⟨6, _⟩ => ⟨S4x2048x4096, .f32⟩
  | .hbm, ⟨7, _⟩ => ⟨S4x2048x2048, .f32⟩
  | .hbm, ⟨8, _⟩ => ⟨S4x2048x2048, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x2048, .f32⟩
  | .hbm, ⟨16, _⟩ => ⟨S4x2048x2048, .f32⟩
  | .hbm, ⟨17, _⟩ => ⟨S4x2048x2048, .f32⟩
  | .hbm, ⟨18, _⟩ => ⟨S_, .f32⟩
  | .hbm, ⟨19, _⟩ => ⟨S4x2048, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048x1, .f32⟩
  | .hbm, ⟨28, _⟩ => ⟨S4x2048x1, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S1x1x2048, .f32⟩
  | .hbm, ⟨33, _⟩ => ⟨S4x2048x2048, .f32⟩
  | .hbm, ⟨34, _⟩ => ⟨S4x2048x2048, .f32⟩
  | .hbm, ⟨35, _⟩ => ⟨S1x1x2048, .f32⟩
  | .hbm, ⟨36, _⟩ => ⟨S4x2048x2048, .f32⟩
  | .hbm, ⟨37, _⟩ => ⟨S4x2048x2048, .f32⟩
  | .hbm, ⟨38, _⟩ => ⟨S_, .i32⟩
  | .hbm, ⟨39, _⟩ => ⟨S_, .f32⟩
  | .hbm, ⟨40, _⟩ => ⟨S4x2048x2048, .f32⟩
  | .hbm, ⟨41, _⟩ => ⟨S4x16x128x8x256, .f32⟩
  | .hbm, ⟨42, _⟩ => ⟨S_, .i1⟩
  | .hbm, ⟨43, _⟩ => ⟨S128x128, .i1⟩
  | .hbm, ⟨44, _⟩ => ⟨S128x128, .i32⟩
  | .hbm, ⟨45, _⟩ => ⟨S_, .i32⟩
  | .hbm, ⟨46, _⟩ => ⟨S128x128, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S_, .i1⟩
  | .hbm, ⟨51, _⟩ => ⟨S128x128, .i1⟩
  | .hbm, ⟨52, _⟩ => ⟨S128x128, .i1⟩
  | .hbm, ⟨53, _⟩ => ⟨S_, .i32⟩
  | .hbm, ⟨54, _⟩ => ⟨S_, .f32⟩
  | .hbm, ⟨55, _⟩ => ⟨S8x128x128, .i1⟩
  | .hbm, ⟨56, _⟩ => ⟨S8x128x128, .f32⟩
  | .hbm, ⟨57, _⟩ => ⟨S8x128x128, .f32⟩
  | .hbm, ⟨58, _⟩ => ⟨S8x4x16x256x128, .f32⟩
  | .hbm, ⟨59, _⟩ => ⟨S4x16x128x8x256, .f32⟩
  | .hbm, ⟨60, _⟩ => ⟨S128x8, .f32⟩
  | .hbm, ⟨61, _⟩ => ⟨S1x1x128x8x1, .f32⟩
  | .hbm, ⟨62, _⟩ => ⟨S4x16x128x8x256, .f32⟩
  | .hbm, ⟨63, _⟩ => ⟨S4x16x128x8x256, .f32⟩
  | .hbm, ⟨64, _⟩ => ⟨S4x2048x2048, .f32⟩
  | .hbm, ⟨65, _⟩ => ⟨S4x2048x2048, .f32⟩
  | .hbm, ⟨66, _⟩ => ⟨S8192x2048, .f32⟩
  | .hbm, ⟨67, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c : Ref sig .tc := ⟨.hbm, 38, rfl⟩
abbrev main_call0_v0 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_0 : Ref sig .tc := ⟨.hbm, 50, rfl⟩
abbrev main_call1_v5 : Ref sig .tc := ⟨.hbm, 51, rfl⟩
abbrev main_v31 : Ref sig .tc := ⟨.hbm, 52, rfl⟩
abbrev main_c_5 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== GmlpSample.lean ====
abbrev S128x4096 : Shape := ⟨2, ![128, 4096]⟩
abbrev S2048 : Shape := ⟨1, ![2048]⟩
abbrev S8x128x128 : Shape := ⟨3, ![8, 128, 128]⟩
abbrev S8x128 : Shape := ⟨2, ![8, 128]⟩
abbrev S8x1x1 : Shape := ⟨3, ![8, 1, 1]⟩
abbrev S8 : Shape := ⟨1, ![8]⟩
abbrev S8x256 : Shape := ⟨2, ![8, 256]⟩
abbrev S1x2048 : Shape := ⟨2, ![1, 2048]⟩
abbrev S8x1 : Shape := ⟨2, ![8, 1]⟩
abbrev S128x2048 : Shape := ⟨2, ![128, 2048]⟩
abbrev S128 : Shape := ⟨1, ![128]⟩
abbrev S128x1 : Shape := ⟨2, ![128, 1]⟩

abbrev nBuf : Space → Nat
  | .hbm => 19
  | .vmem => 8
  | .smem => 0
  | _ => 0

abbrev bufTy : (tb : Table) → Fin (tcTables nBuf tb) → BufTy
  | .hbm, ⟨0, _⟩ => ⟨S128x4096, .f32⟩
  | .hbm, ⟨1, _⟩ => ⟨S2048, .f32⟩
  | .hbm, ⟨2, _⟩ => ⟨S2048, .f32⟩
  | .hbm, ⟨3, _⟩ => ⟨S8x128x128, .f32⟩
  | .hbm, ⟨4, _⟩ => ⟨S8x128, .f32⟩
  | .hbm, ⟨5, _⟩ => ⟨S8x1x1, .f32⟩
  | .hbm, ⟨6, _⟩ => ⟨S8, .f32⟩
  | .hbm, ⟨7, _⟩ => ⟨S8x256, .f32⟩
  | .hbm, ⟨8, _⟩ => ⟨S2048, .f32⟩
  | .hbm, ⟨9, _⟩ => ⟨S1x2048, .f32⟩
  | .hbm, ⟨10, _⟩ => ⟨S8x1, .f32⟩
  | .hbm, ⟨11, _⟩ => ⟨S8, .f32⟩
  | .hbm, ⟨12, _⟩ => ⟨S8x256, .f32⟩
  | .hbm, ⟨13, _⟩ => ⟨S2048, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S128x2048, .bf16⟩
  | .hbm, ⟨18, _⟩ => ⟨S128x2048, .f32⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S128x2048, .bf16⟩
  | .local _ .vmem, ⟨7, _⟩ => ⟨S128x2048, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GmlpSampleRefIdeal.lean ====
abbrev S128x4096 : Shape := ⟨2, ![128, 4096]⟩
abbrev S2048 : Shape := ⟨1, ![2048]⟩
abbrev S8x128x128 : Shape := ⟨3, ![8, 128, 128]⟩
abbrev S8x128 : Shape := ⟨2, ![8, 128]⟩
abbrev S128x2048 : Shape := ⟨2, ![128, 2048]⟩
abbrev S128x1x2048 : Shape := ⟨3, ![128, 1, 2048]⟩
abbrev S_ : Shape := ⟨0, ![]⟩
abbrev S128x1 : Shape := ⟨2, ![128, 1]⟩
abbrev S128x1x1 : Shape := ⟨3, ![128, 1, 1]⟩
abbrev S1x1x2048 : Shape := ⟨3, ![1, 1, 2048]⟩
abbrev S128x128x2048 : Shape := ⟨3, ![128, 128, 2048]⟩
abbrev S128x1x128x8x256 : Shape := ⟨5, ![128, 1, 128, 8, 256]⟩
abbrev S128x128 : Shape := ⟨2, ![128, 128]⟩
abbrev S8x128x1x256x128 : Shape := ⟨5, ![8, 128, 1, 256, 128]⟩
abbrev S128x8 : Shape := ⟨2, ![128, 8]⟩
abbrev S1x1x128x8x1 : Shape := ⟨5, ![1, 1, 128, 8, 1]⟩

abbrev nBuf : Space → Nat
  | .hbm => 70
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S2048, .f32⟩
  | .hbm, ⟨2, _⟩ => ⟨S2048, .f32⟩
  | .hbm, ⟨3, _⟩ => ⟨S8x128x128, .f32⟩
  | .hbm, ⟨4, _⟩ => ⟨S8x128, .f32⟩
  | .hbm, ⟨5, _⟩ => ⟨S128x2048, .f32⟩
  | .hbm, ⟨6, _⟩ => ⟨S128x1x2048, .f32⟩
  | .hbm, ⟨7, _⟩ => ⟨S128x2048, .f32⟩
  | .hbm, ⟨8, _⟩ => ⟨S128x1x2048, .f32⟩
  | .hbm, ⟨9, _⟩ => ⟨S_, .f32⟩
  | .hbm, ⟨10, _⟩ => ⟨S128x1, .f32⟩
  | .hbm, ⟨11, _⟩ => ⟨S128x1x1, .f32⟩
  | .hbm, ⟨12, _⟩ => ⟨S_, .f32⟩
  | .hbm, ⟨13, _⟩ => ⟨S128x1x1, .f32⟩
  | .hbm, ⟨14, _⟩ => ⟨S128x1x1, .f32⟩
  | .hbm, ⟨15, _⟩ => ⟨S128x1x2048, .f32⟩
  | .hbm, ⟨16, _⟩ => ⟨S128x1x2048, .f32⟩
  | .hbm, ⟨17, _⟩ => ⟨S128x1x2048, .f32⟩
  | .hbm, ⟨18, _⟩ => ⟨S_, .f32⟩
  | .hbm, ⟨19, _⟩ => ⟨S128x1, .f32⟩
  | .hbm, ⟨20, _⟩ => ⟨S128x1x1, .f32⟩
  | .hbm, ⟨21, _⟩ => ⟨S_, .f32⟩
  | .hbm, ⟨22, _⟩ => ⟨S128x1x1, .f32⟩
  | .hbm, ⟨23, _⟩ => ⟨S128x1x1, .f32⟩
  | .hbm, ⟨24, _⟩ => ⟨S128x1x2048, .f32⟩
  | .hbm, ⟨25, _⟩ => ⟨S128x1x2048, .f32⟩
  | .hbm, ⟨26, _⟩ => ⟨S_, .f32⟩
  | .hbm, ⟨27, _⟩ => ⟨S128x1x1, .f32⟩
  | .hbm, ⟨28, _⟩ => ⟨S128x1x1, .f32⟩
  | .hbm, ⟨29, _⟩ => ⟨S128x1x1, .f32⟩
  | .hbm, ⟨30, _⟩ => ⟨S128x1x2048, .f32⟩
  | .hbm, ⟨31, _⟩ => ⟨S128x1x2048, .f32⟩
  | .hbm, ⟨32, _⟩ => ⟨S1x1x2048, .f32⟩
  | .hbm, ⟨33, _⟩ => ⟨S128x1x2048, .f32⟩
  | .hbm, ⟨34, _⟩ => ⟨S128x1x2048, .f32⟩
  | .hbm, ⟨35, _⟩ => ⟨S1x1x2048, .f32⟩
  | .hbm, ⟨36, _⟩ => ⟨S128x1x2048, .f32⟩
  | .hbm, ⟨37, _⟩ => ⟨S128x1x2048, .f32⟩
  | .hbm, ⟨38, _⟩ => ⟨S_, .i32⟩
  | .hbm, ⟨39, _⟩ => ⟨S_, .f32⟩
  | .hbm, ⟨40, _⟩ => ⟨S128x128x2048, .f32⟩
  | .hbm, ⟨41, _⟩ => ⟨S128x1x128x8x256, .f32⟩
  | .hbm, ⟨42, _⟩ => ⟨S_, .i1⟩
  | .hbm, ⟨43, _⟩ => ⟨S128x128, .i1⟩
  | .hbm, ⟨44, _⟩ => ⟨S128x128, .i32⟩
  | .hbm, ⟨45, _⟩ => ⟨S_, .i32⟩
  | .hbm, ⟨46, _⟩ => ⟨S128x128, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S_, .i1⟩
  | .hbm, ⟨51, _⟩ => ⟨S128x128, .i1⟩
  | .hbm, ⟨52, _⟩ => ⟨S128x128, .i1⟩
  | .hbm, ⟨53, _⟩ => ⟨S_, .i32⟩
  | .hbm, ⟨54, _⟩ => ⟨S_, .f32⟩
  | .hbm, ⟨55, _⟩ => ⟨S8x128x128, .i1⟩
  | .hbm, ⟨56, _⟩ => ⟨S8x128x128, .f32⟩
  | .hbm, ⟨57, _⟩ => ⟨S8x128x128, .f32⟩
  | .hbm, ⟨58, _⟩ => ⟨S8x128x1x256x128, .f32⟩
  | .hbm, ⟨59, _⟩ => ⟨S128x1x128x8x256, .f32⟩
  | .hbm, ⟨60, _⟩ => ⟨S128x8, .f32⟩
  | .hbm, ⟨61, _⟩ => ⟨S1x1x128x8x1, .f32⟩
  | .hbm, ⟨62, _⟩ => ⟨S128x1x128x8x256, .f32⟩
  | .hbm, ⟨63, _⟩ => ⟨S128x1x128x8x256, .f32⟩
  | .hbm, ⟨64, _⟩ => ⟨S128x128x2048, .f32⟩
  | .hbm, ⟨65, _⟩ => ⟨S128x1x2048, .f32⟩
  | .hbm, ⟨66, _⟩ => ⟨S128x1x2048, .f32⟩
  | .hbm, ⟨67, _⟩ => ⟨S128x2048, .f32⟩
  | .hbm, ⟨68, _⟩ => ⟨S128x2048, .bf16⟩
  | .hbm, ⟨69, _⟩ => ⟨S128x2048, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c : Ref sig .tc := ⟨.hbm, 38, rfl⟩
abbrev main_call0_v0 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_0 : Ref sig .tc := ⟨.hbm, 50, rfl⟩
abbrev main_call1_v5 : Ref sig .tc := ⟨.hbm, 51, rfl⟩
abbrev main_v31 : Ref sig .tc := ⟨.hbm, 52, rfl⟩
abbrev main_c_5 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩

abbrev nD : Nat := 1
abbrev τ : Topo := Topo.v7x

variable {F : FTy → Type} [FloatOps F]
-- ==== AttnSample.lean ====
abbrev S128x2560 : Shape := ⟨2, ![128, 2560]⟩
abbrev S128x128x4x64 : Shape := ⟨4, ![128, 128, 4, 64]⟩
abbrev S4x8 : Shape := ⟨2, ![4, 8]⟩
abbrev S128x128x256 : Shape := ⟨3, ![128, 128, 256]⟩
abbrev S128x2048 : Shape := ⟨2, ![128, 2048]⟩
abbrev S128x32x64 : Shape := ⟨3, ![128, 32, 64]⟩
abbrev S32x1 : Shape := ⟨2, ![32, 1]⟩
abbrev S8x32x64 : Shape := ⟨3, ![8, 32, 64]⟩
abbrev S8x256 : Shape := ⟨2, ![8, 256]⟩
abbrev S8x128x256 : Shape := ⟨3, ![8, 128, 256]⟩
abbrev S32x256 : Shape := ⟨2, ![32, 256]⟩
abbrev S128x256 : Shape := ⟨2, ![128, 256]⟩
abbrev S1x32x64 : Shape := ⟨3, ![1, 32, 64]⟩
abbrev S32x64 : Shape := ⟨2, ![32, 64]⟩
abbrev S1x128x256 : Shape := ⟨3, ![1, 128, 256]⟩
abbrev S1x256 : Shape := ⟨2, ![1, 256]⟩
abbrev S32x128 : Shape := ⟨2, ![32, 128]⟩
abbrev S32 : Shape := ⟨1, ![32]⟩

abbrev nBuf : Space → Nat
  | .hbm => 12
  | .vmem => 17
  | .smem => 0
  | _ => 0

abbrev bufTy : (tb : Table) → Fin (tcTables nBuf tb) → BufTy
  | .hbm, ⟨0, _⟩ => ⟨S128x2560, .f32⟩
  | .hbm, ⟨1, _⟩ => ⟨S128x128x4x64, .f32⟩
  | .hbm, ⟨2, _⟩ => ⟨S128x128x4x64, .f32⟩
  | .hbm, ⟨3, _⟩ => ⟨S4x8, .f32⟩
  | .hbm, ⟨4, _⟩ => ⟨S128x128x256, .f32⟩
  | .hbm, ⟨5, _⟩ => ⟨S128x128x256, .f32⟩
  | .hbm, ⟨6, _⟩ => ⟨S128x2048, .f32⟩
  | .hbm, ⟨7, _⟩ => ⟨S128x32x64, .f32⟩
  | .hbm, ⟨8, _⟩ => ⟨S32x1, .f32⟩
  | .hbm, ⟨9, _⟩ => ⟨S128x32x64, .bf16⟩
  | .hbm, ⟨10, _⟩ => ⟨S128x128x256, .f32⟩
  | .hbm, ⟨11, _⟩ => ⟨S128x128x256, .f32⟩
  | .local _ .vmem, ⟨0, _⟩ => ⟨S8x32x64, .f32⟩
  | .local _ .vmem, ⟨1, _⟩ => ⟨S8x32x64, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x128x256, .f32⟩
  | .local _ .vmem, ⟨7, _⟩ => ⟨S8x128x256, .f32⟩
  | .local _ .vmem, ⟨8, _⟩ => ⟨S8x128x256, .f32⟩
  | .local _ .vmem, ⟨9, _⟩ => ⟨S8x128x256, .f32⟩
  | .local _ .vmem, ⟨10, _⟩ => ⟨S32x1, .f32⟩
  | .local _ .vmem, ⟨11, _⟩ => ⟨S8x32x64, .bf16⟩
  | .local _ .vmem, ⟨12, _⟩ => ⟨S8x32x64, .bf16⟩
  | .local _ .vmem, ⟨13, _⟩ => ⟨S8x128x256, .f32⟩
  | .local _ .vmem, ⟨14, _⟩ => ⟨S8x128x256, .f32⟩
  | .local _ .vmem, ⟨15, _⟩ => ⟨S8x128x256, .f32⟩
  | .local _ .vmem, ⟨16, _⟩ => ⟨S8x128x256, .f32⟩
  | _, _ => ⟨S128x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x32x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnSampleRefIdeal.lean ====
abbrev S128x2560 : Shape := ⟨2, ![128, 2560]⟩
abbrev S128x128x4x64 : Shape := ⟨4, ![128, 128, 4, 64]⟩
abbrev S4x8 : Shape := ⟨2, ![4, 8]⟩
abbrev S128x2048 : Shape := ⟨2, ![128, 2048]⟩
abbrev S128x1x4x8x64 : Shape := ⟨5, ![128, 1, 4, 8, 64]⟩
abbrev S128x256 : Shape := ⟨2, ![128, 256]⟩
abbrev S128x1x4x64 : Shape := ⟨4, ![128, 1, 4, 64]⟩
abbrev S128x129x4x64 : Shape := ⟨4, ![128, 129, 4, 64]⟩
abbrev S128 : Shape := ⟨1, ![128]⟩
abbrev S_ : Shape := ⟨0, ![]⟩
abbrev S1 : Shape := ⟨1, ![1]⟩
abbrev S129 : Shape := ⟨1, ![129]⟩
abbrev S1x1 : Shape := ⟨2, ![1, 1]⟩
abbrev S1x129 : Shape := ⟨2, ![1, 129]⟩
abbrev S128x4x129x1x8 : Shape := ⟨5, ![128, 4, 129, 1, 8]⟩
abbrev S128x4x8x1x129 : Shape := ⟨5, ![128, 4, 8, 1, 129]⟩
abbrev S1x1x1x1x129 : Shape := ⟨5, ![1, 1, 1, 1, 129]⟩
abbrev S4x8x1x1 : Shape := ⟨4, ![4, 8, 1, 1]⟩
abbrev S128x4x8x1x1 : Shape := ⟨5, ![128, 4, 8, 1, 1]⟩
abbrev S128x4x8x1x130 : Shape := ⟨5, ![128, 4, 8, 1, 130]⟩
abbrev S128x4x8x1 : Shape := ⟨4, ![128, 4, 8, 1]⟩
abbrev S128x4x64x8x1 : Shape := ⟨5, ![128, 4, 64, 8, 1]⟩
abbrev S128x32x64 : Shape := ⟨3, ![128, 32, 64]⟩
abbrev S128x128x256 : Shape := ⟨3, ![128, 128, 256]⟩

abbrev nBuf : Space → Nat
  | .hbm => 67
  | .vmem => 0
  | .smem => 0
  | _ => 0

abbrev bufTy : (tb : Table) → Fin (tcTables nBuf tb) → BufTy
  | .hbm, ⟨0, _⟩ => ⟨S128x2560, .f32⟩
  | .hbm, ⟨1, _⟩ => ⟨S128x128x4x64, .f32⟩
  | .hbm, ⟨2, _⟩ => ⟨S128x128x4x64, .f32⟩
  | .hbm, ⟨3, _⟩ => ⟨S4x8, .f32⟩
  | .hbm, ⟨4, _⟩ => ⟨S128x2048, .f32⟩
  | .hbm, ⟨5, _⟩ => ⟨S128x1x4x8x64, .f32⟩
  | .hbm, ⟨6, _⟩ => ⟨S128x256, .f32⟩
  | .hbm, ⟨7, _⟩ => ⟨S128x1x4x64, .f32⟩
  | .hbm, ⟨8, _⟩ => ⟨S128x256, .f32⟩
  | .hbm, ⟨9, _⟩ => ⟨S128x1x4x64, .f32⟩
  | .hbm, ⟨10, _⟩ => ⟨S128x129x4x64, .f32⟩
  | .hbm, ⟨11, _⟩ => ⟨S128x129x4x64, .f32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i32⟩
  | .hbm, ⟨16, _⟩ => ⟨S1, .i32⟩
  | .hbm, ⟨17, _⟩ => ⟨S129, .i32⟩
  | .hbm, ⟨18, _⟩ => ⟨S1, .i32⟩
  | .hbm, ⟨19, _⟩ => ⟨S1x1, .i32⟩
  | .hbm, ⟨20, _⟩ => ⟨S1x129, .i32⟩
  | .hbm, ⟨21, _⟩ => ⟨S1x129, .i32⟩
  | .hbm, ⟨22, _⟩ => ⟨S1x129, .i32⟩
  | .hbm, ⟨23, _⟩ => ⟨S_, .i32⟩
  | .hbm, ⟨24, _⟩ => ⟨S1x129, .i32⟩
  | .hbm, ⟨25, _⟩ => ⟨S1x129, .i1⟩
  | .hbm, ⟨26, _⟩ => ⟨S_, .i32⟩
  | .hbm, ⟨27, _⟩ => ⟨S1x129, .i32⟩
  | .hbm, ⟨28, _⟩ => ⟨S1x129, .i1⟩
  | .hbm, ⟨29, _⟩ => ⟨S1x129, .i1⟩
  | .hbm, ⟨30, _⟩ => ⟨S128x4x129x1x8, .f32⟩
  | .hbm, ⟨31, _⟩ => ⟨S128x4x8x1x129, .f32⟩
  | .hbm, ⟨32, _⟩ => ⟨S_, .f32⟩
  | .hbm, ⟨33, _⟩ => ⟨S128x4x8x1x129, .f32⟩
  | .hbm, ⟨34, _⟩ => ⟨S128x4x8x1x129, .f32⟩
  | .hbm, ⟨35, _⟩ => ⟨S1x1x1x1x129, .i1⟩
  | .hbm, ⟨36, _⟩ => ⟨S_, .f32⟩
  | .hbm, ⟨37, _⟩ => ⟨S_, .f32⟩
  | .hbm, ⟨38, _⟩ => ⟨S128x4x8x1x129, .i1⟩
  | .hbm, ⟨39, _⟩ => ⟨S128x4x8x1x129, .f32⟩
  | .hbm, ⟨40, _⟩ => ⟨S128x4x8x1x129, .f32⟩
  | .hbm, ⟨41, _⟩ => ⟨S4x8x1x1, .f32⟩
  | .hbm, ⟨42, _⟩ => ⟨S128x4x8x1x1, .f32⟩
  | .hbm, ⟨43, _⟩ => ⟨S128x4x8x1x130, .f32⟩
  | .hbm, ⟨44, _⟩ => ⟨S_, .f32⟩
  | .hbm, ⟨45, _⟩ => ⟨S128x4x8x1, .f32⟩
  | .hbm, ⟨46, _⟩ => ⟨S_, .f32⟩
  | .hbm, ⟨47, _⟩ => ⟨S128x4x8x1, .f32⟩
  | .hbm, ⟨48, _⟩ => ⟨S128x4x8x1, .f32⟩
  | .hbm, ⟨49, _⟩ => ⟨S128x4x8x1x1, .f32⟩
  | .hbm, ⟨50, _⟩ => ⟨S128x4x8x1x130, .f32⟩
  | .hbm, ⟨51, _⟩ => ⟨S128x4x8x1x130, .f32⟩
  | .hbm, ⟨52, _⟩ => ⟨S128x4x8x1x130, .f32⟩
  | .hbm, ⟨53, _⟩ => ⟨S_, .f32⟩
  | .hbm, ⟨54, _⟩ => ⟨S128x4x8x1, .f32⟩
  | .hbm, ⟨55, _⟩ => ⟨S128x4x8x1x1, .f32⟩
  | .hbm, ⟨56, _⟩ => ⟨S128x4x8x1x130, .f32⟩
  | .hbm, ⟨57, _⟩ => ⟨S128x4x8x1x130, .f32⟩
  | .hbm, ⟨58, _⟩ => ⟨S128x4x8x1x129, .f32⟩
  | .hbm, ⟨59, _⟩ => ⟨S128x4x64x8x1, .f32⟩
  | .hbm, ⟨60, _⟩ => ⟨S128x1x4x8x64, .f32⟩
  | .hbm, ⟨61, _⟩ => ⟨S128x32x64, .f32⟩
  | .hbm, ⟨62, _⟩ => ⟨S128x32x64, .bf16⟩
  | .hbm, ⟨63, _⟩ => ⟨S128x128x4x64, .f32⟩
  | .hbm, ⟨64, _⟩ => ⟨S128x128x256, .f32⟩
  | .hbm, ⟨65, _⟩ => ⟨S128x128x4x64, .f32⟩
  | .hbm, ⟨66, _⟩ => ⟨S128x128x256, .f32⟩
  | _, _ => ⟨S128x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_0 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== SampleModulate.lean ====
abbrev S128x1x4096 : Shape := ⟨3, ![128, 1, 4096]⟩
abbrev S4096 : Shape := ⟨1, ![4096]⟩
abbrev S128x24576 : Shape := ⟨2, ![128, 24576]⟩
abbrev S128x4096 : Shape := ⟨2, ![128, 4096]⟩
abbrev S1x128x24576 : Shape := ⟨3, ![1, 128, 24576]⟩
abbrev S1x4096 : Shape := ⟨2, ![1, 4096]⟩
abbrev S1x128x4096 : Shape := ⟨3, ![1, 128, 4096]⟩
abbrev S128 : Shape := ⟨1, ![128]⟩
abbrev S128x1 : Shape := ⟨2, ![128, 1]⟩

abbrev nBuf : Space → Nat
  | .hbm => 7
  | .vmem => 5
  | .smem => 0
  | _ => 0

abbrev bufTy : (tb : Table) → Fin (tcTables nBuf tb) → BufTy
  | .hbm, ⟨0, _⟩ => ⟨S128x1x4096, .f32⟩
  | .hbm, ⟨1, _⟩ => ⟨S4096, .f32⟩
  | .hbm, ⟨2, _⟩ => ⟨S128x24576, .f32⟩
  | .hbm, ⟨3, _⟩ => ⟨S128x4096, .f32⟩
  | .hbm, ⟨4, _⟩ => ⟨S1x128x24576, .f32⟩
  | .hbm, ⟨5, _⟩ => ⟨S1x4096, .f32⟩
  | .hbm, ⟨6, _⟩ => ⟨S128x4096, .bf16⟩
  | .local _ .vmem, ⟨0, _⟩ => ⟨S128x4096, .f32⟩
  | .local _ .vmem, ⟨1, _⟩ => ⟨S1x4096, .f32⟩
  | .local _ .vmem, ⟨2, _⟩ => ⟨S1x128x4096, .f32⟩
  | .local _ .vmem, ⟨3, _⟩ => ⟨S1x128x4096, .f32⟩
  | .local _ .vmem, ⟨4, _⟩ => ⟨S128x4096, .bf16⟩
  | _, _ => ⟨S128x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== SampleModulateRefIdeal.lean ====
abbrev S128x1x4096 : Shape := ⟨3, ![128, 1, 4096]⟩
abbrev S4096 : Shape := ⟨1, ![4096]⟩
abbrev S128x24576 : Shape := ⟨2, ![128, 24576]⟩
abbrev S128x4096 : Shape := ⟨2, ![128, 4096]⟩
abbrev S_ : Shape := ⟨0, ![]⟩
abbrev S128x1 : Shape := ⟨2, ![128, 1]⟩
abbrev S128x1x1 : Shape := ⟨3, ![128, 1, 1]⟩
abbrev S1x1x4096 : Shape := ⟨3, ![1, 1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S128x1x4096, .f32⟩
  | .hbm, ⟨1, _⟩ => ⟨S4096, .f32⟩
  | .hbm, ⟨2, _⟩ => ⟨S128x24576, .f32⟩
  | .hbm, ⟨3, _⟩ => ⟨S128x4096, .f32⟩
  | .hbm, ⟨4, _⟩ => ⟨S128x1x4096, .f32⟩
  | .hbm, ⟨5, _⟩ => ⟨S128x4096, .f32⟩
  | .hbm, ⟨6, _⟩ => ⟨S128x1x4096, .f32⟩
  | .hbm, ⟨7, _⟩ => ⟨S128x1x4096, .f32⟩
  | .hbm, ⟨8, _⟩ => ⟨S_, .f32⟩
  | .hbm, ⟨9, _⟩ => ⟨S128x1, .f32⟩
  | .hbm, ⟨10, _⟩ => ⟨S128x1x1, .f32⟩
  | .hbm, ⟨11, _⟩ => ⟨S_, .f32⟩
  | .hbm, ⟨12, _⟩ => ⟨S128x1x1, .f32⟩
  | .hbm, ⟨13, _⟩ => ⟨S128x1x1, .f32⟩
  | .hbm, ⟨14, _⟩ => ⟨S_, .f32⟩
  | .hbm, ⟨15, _⟩ => ⟨S128x1x1, .f32⟩
  | .hbm, ⟨16, _⟩ => ⟨S128x1x1, .f32⟩
  | .hbm, ⟨17, _⟩ => ⟨S128x1x1, .f32⟩
  | .hbm, ⟨18, _⟩ => ⟨S128x1x4096, .f32⟩
  | .hbm, ⟨19, _⟩ => ⟨S128x1x4096, .f32⟩
  | .hbm, ⟨20, _⟩ => ⟨S1x1x4096, .f32⟩
  | .hbm, ⟨21, _⟩ => ⟨S128x1x4096, .f32⟩
  | .hbm, ⟨22, _⟩ => ⟨S128x1x4096, .f32⟩
  | .hbm, ⟨23, _⟩ => ⟨S_, .f32⟩
  | .hbm, ⟨24, _⟩ => ⟨S128x1x4096, .f32⟩
  | .hbm, ⟨25, _⟩ => ⟨S128x1x4096, .f32⟩
  | .hbm, ⟨26, _⟩ => ⟨S128x1x4096, .f32⟩
  | .hbm, ⟨27, _⟩ => ⟨S128x1x4096, .f32⟩
  | .hbm, ⟨28, _⟩ => ⟨S128x4096, .f32⟩
  | .hbm, ⟨29, _⟩ => ⟨S128x4096, .bf16⟩
  | _, _ => ⟨S128x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== SampleQkv.lean ====
abbrev S128x4096 : Shape := ⟨2, ![128, 4096]⟩
abbrev S4096x14848 : Shape := ⟨2, ![4096, 14848]⟩
abbrev S64 : Shape := ⟨1, ![64]⟩
abbrev S1x64 : Shape := ⟨2, ![1, 64]⟩
abbrev S32x64 : Shape := ⟨2, ![32, 64]⟩
abbrev S2048 : Shape := ⟨1, ![2048]⟩
abbrev S4x64 : Shape := ⟨2, ![4, 64]⟩
abbrev S256 : Shape := ⟨1, ![256]⟩
abbrev S_ : Shape := ⟨0, ![]⟩
abbrev S2560 : Shape := ⟨1, ![2560]⟩
abbrev S1x2560 : Shape := ⟨2, ![1, 2560]⟩
abbrev S2304 : Shape := ⟨1, ![2304]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S128x2560 : Shape := ⟨2, ![128, 2560]⟩
abbrev S4096x512 : Shape := ⟨2, ![4096, 512]⟩
abbrev S128x512 : Shape := ⟨2, ![128, 512]⟩

abbrev nBuf : Space → Nat
  | .hbm => 46
  | .vmem => 11
  | .smem => 0
  | _ => 0

abbrev bufTy : (tb : Table) → Fin (tcTables nBuf tb) → BufTy
  | .hbm, ⟨0, _⟩ => ⟨S128x4096, .bf16⟩
  | .hbm, ⟨1, _⟩ => ⟨S4096x14848, .f32⟩
  | .hbm, ⟨2, _⟩ => ⟨S64, .f32⟩
  | .hbm, ⟨3, _⟩ => ⟨S64, .f32⟩
  | .hbm, ⟨4, _⟩ => ⟨S1x64, .f32⟩
  | .hbm, ⟨5, _⟩ => ⟨S32x64, .f32⟩
  | .hbm, ⟨6, _⟩ => ⟨S2048, .f32⟩
  | .hbm, ⟨7, _⟩ => ⟨S1x64, .f32⟩
  | .hbm, ⟨8, _⟩ => ⟨S4x64, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S2560, .f32⟩
  | .hbm, ⟨13, _⟩ => ⟨S1x2560, .f32⟩
  | .hbm, ⟨14, _⟩ => ⟨S_, .f32⟩
  | .hbm, ⟨15, _⟩ => ⟨S2304, .f32⟩
  | .hbm, ⟨16, _⟩ => ⟨S_, .f32⟩
  | .hbm, ⟨17, _⟩ => ⟨S256, .f32⟩
  | .hbm, ⟨18, _⟩ => ⟨S2560, .f32⟩
  | .hbm, ⟨19, _⟩ => ⟨S1x2560, .f32⟩
  | .hbm, ⟨20, _⟩ => ⟨S512, .i32⟩
  | .hbm, ⟨21, _⟩ => ⟨S_, .i32⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S_, .i32⟩
  | .hbm, ⟨27, _⟩ => ⟨S512, .i32⟩
  | .hbm, ⟨28, _⟩ => ⟨S512, .i1⟩
  | .hbm, ⟨29, _⟩ => ⟨S512, .i32⟩
  | .hbm, ⟨30, _⟩ => ⟨S512, .i32⟩
  | .hbm, ⟨31, _⟩ => ⟨S_, .i32⟩
  | .hbm, ⟨32, _⟩ => ⟨S512, .i32⟩
  | .hbm, ⟨33, _⟩ => ⟨S512, .i1⟩
  | .hbm, ⟨34, _⟩ => ⟨S512, .i1⟩
  | .hbm, ⟨35, _⟩ => ⟨S_, .i32⟩
  | .hbm, ⟨36, _⟩ => ⟨S512, .i32⟩
  | .hbm, ⟨37, _⟩ => ⟨S512, .i32⟩
  | .hbm, ⟨38, _⟩ => ⟨S512, .i32⟩
  | .hbm, ⟨39, _⟩ => ⟨S512x1, .i32⟩
  | .hbm, ⟨40, _⟩ => ⟨S1x512, .i32⟩
  | .hbm, ⟨41, _⟩ => ⟨S512x512, .i32⟩
  | .hbm, ⟨42, _⟩ => ⟨S512x512, .i32⟩
  | .hbm, ⟨43, _⟩ => ⟨S512x512, .i1⟩
  | .hbm, ⟨44, _⟩ => ⟨S512x512, .bf16⟩
  | .hbm, ⟨45, _⟩ => ⟨S128x2560, .f32⟩
  | .local _ .vmem, ⟨0, _⟩ => ⟨S128x4096, .bf16⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S512x512, .bf16⟩
  | .local _ .vmem, ⟨8, _⟩ => ⟨S128x512, .f32⟩
  | .local _ .vmem, ⟨9, _⟩ => ⟨S128x512, .f32⟩
  | .local _ .vmem, ⟨10, _⟩ => ⟨S4096x512, .bf16⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![5, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SampleQkvRefIdeal.lean ====
abbrev S128x4096 : Shape := ⟨2, ![128, 4096]⟩
abbrev S4096x14848 : Shape := ⟨2, ![4096, 14848]⟩
abbrev S64 : Shape := ⟨1, ![64]⟩
abbrev S128x14848 : Shape := ⟨2, ![128, 14848]⟩
abbrev S128x2048 : Shape := ⟨2, ![128, 2048]⟩
abbrev S128x32x64 : Shape := ⟨3, ![128, 32, 64]⟩
abbrev S_ : Shape := ⟨0, ![]⟩
abbrev S128x32 : Shape := ⟨2, ![128, 32]⟩
abbrev S128x32x1 : Shape := ⟨3, ![128, 32, 1]⟩
abbrev S1x1x64 : Shape := ⟨3, ![1, 1, 64]⟩
abbrev S128x256 : Shape := ⟨2, ![128, 256]⟩
abbrev S128x4x64 : Shape := ⟨3, ![128, 4, 64]⟩
abbrev S128x4 : Shape := ⟨2, ![128, 4]⟩
abbrev S128x4x1 : Shape := ⟨3, ![128, 4, 1]⟩
abbrev S128x2560 : Shape := ⟨2, ![128, 2560]⟩

abbrev nBuf : Space → Nat
  | .hbm => 46
  | .vmem => 0
  | .smem => 0
  | _ => 0

abbrev bufTy : (tb : Table) → Fin (tcTables nBuf tb) → BufTy
  | .hbm, ⟨0, _⟩ => ⟨S128x4096, .bf16⟩
  | .hbm, ⟨1, _⟩ => ⟨S4096x14848, .f32⟩
  | .hbm, ⟨2, _⟩ => ⟨S64, .f32⟩
  | .hbm, ⟨3, _⟩ => ⟨S64, .f32⟩
  | .hbm, ⟨4, _⟩ => ⟨S128x4096, .f32⟩
  | .hbm, ⟨5, _⟩ => ⟨S128x14848, .f32⟩
  | .hbm, ⟨6, _⟩ => ⟨S128x2048, .f32⟩
  | .hbm, ⟨7, _⟩ => ⟨S128x32x64, .f32⟩
  | .hbm, ⟨8, _⟩ => ⟨S128x32x64, .f32⟩
  | .hbm, ⟨9, _⟩ => ⟨S_, .f32⟩
  | .hbm, ⟨10, _⟩ => ⟨S128x32, .f32⟩
  | .hbm, ⟨11, _⟩ => ⟨S128x32x1, .f32⟩
  | .hbm, ⟨12, _⟩ => ⟨S_, .f32⟩
  | .hbm, ⟨13, _⟩ => ⟨S128x32x1, .f32⟩
  | .hbm, ⟨14, _⟩ => ⟨S128x32x1, .f32⟩
  | .hbm, ⟨15, _⟩ => ⟨S_, .f32⟩
  | .hbm, ⟨16, _⟩ => ⟨S128x32x1, .f32⟩
  | .hbm, ⟨17, _⟩ => ⟨S128x32x1, .f32⟩
  | .hbm, ⟨18, _⟩ => ⟨S128x32x1, .f32⟩
  | .hbm, ⟨19, _⟩ => ⟨S128x32x64, .f32⟩
  | .hbm, ⟨20, _⟩ => ⟨S128x32x64, .f32⟩
  | .hbm, ⟨21, _⟩ => ⟨S1x1x64, .f32⟩
  | .hbm, ⟨22, _⟩ => ⟨S128x32x64, .f32⟩
  | .hbm, ⟨23, _⟩ => ⟨S128x32x64, .f32⟩
  | .hbm, ⟨24, _⟩ => ⟨S128x256, .f32⟩
  | .hbm, ⟨25, _⟩ => ⟨S128x4x64, .f32⟩
  | .hbm, ⟨26, _⟩ => ⟨S128x4x64, .f32⟩
  | .hbm, ⟨27, _⟩ => ⟨S_, .f32⟩
  | .hbm, ⟨28, _⟩ => ⟨S128x4, .f32⟩
  | .hbm, ⟨29, _⟩ => ⟨S128x4x1, .f32⟩
  | .hbm, ⟨30, _⟩ => ⟨S_, .f32⟩
  | .hbm, ⟨31, _⟩ => ⟨S128x4x1, .f32⟩
  | .hbm, ⟨32, _⟩ => ⟨S128x4x1, .f32⟩
  | .hbm, ⟨33, _⟩ => ⟨S_, .f32⟩
  | .hbm, ⟨34, _⟩ => ⟨S128x4x1, .f32⟩
  | .hbm, ⟨35, _⟩ => ⟨S128x4x1, .f32⟩
  | .hbm, ⟨36, _⟩ => ⟨S128x4x1, .f32⟩
  | .hbm, ⟨37, _⟩ => ⟨S128x4x64, .f32⟩
  | .hbm, ⟨38, _⟩ => ⟨S128x4x64, .f32⟩
  | .hbm, ⟨39, _⟩ => ⟨S1x1x64, .f32⟩
  | .hbm, ⟨40, _⟩ => ⟨S128x4x64, .f32⟩
  | .hbm, ⟨41, _⟩ => ⟨S128x4x64, .f32⟩
  | .hbm, ⟨42, _⟩ => ⟨S128x256, .f32⟩
  | .hbm, ⟨43, _⟩ => ⟨S128x2048, .f32⟩
  | .hbm, ⟨44, _⟩ => ⟨S128x256, .f32⟩
  | .hbm, ⟨45, _⟩ => ⟨S128x2560, .f32⟩
  | _, _ => ⟨S128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== SampleUgv.lean ====
abbrev S128x4096 : Shape := ⟨2, ![128, 4096]⟩
abbrev S4096x14848 : Shape := ⟨2, ![4096, 14848]⟩
abbrev S4096x512 : Shape := ⟨2, ![4096, 512]⟩
abbrev S128x512 : Shape := ⟨2, ![128, 512]⟩

abbrev nBuf : Space → Nat
  | .hbm => 3
  | .vmem => 6
  | .smem => 0
  | _ => 0

abbrev bufTy : (tb : Table) → Fin (tcTables nBuf tb) → BufTy
  | .hbm, ⟨0, _⟩ => ⟨S128x4096, .bf16⟩
  | .hbm, ⟨1, _⟩ => ⟨S4096x14848, .f32⟩
  | .hbm, ⟨2, _⟩ => ⟨S128x4096, .f32⟩
  | .local _ .vmem, ⟨0, _⟩ => ⟨S128x4096, .bf16⟩
  | .local _ .vmem, ⟨1, _⟩ => ⟨S4096x512, .f32⟩
  | .local _ .vmem, ⟨2, _⟩ => ⟨S4096x512, .f32⟩
  | .local _ .vmem, ⟨3, _⟩ => ⟨S128x512, .f32⟩
  | .local _ .vmem, ⟨4, _⟩ => ⟨S128x512, .f32⟩
  | .local _ .vmem, ⟨5, _⟩ => ⟨S4096x512, .bf16⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi arg0 c5_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SampleUgvRefIdeal.lean ====
abbrev S128x4096 : Shape := ⟨2, ![128, 4096]⟩
abbrev S4096x14848 : Shape := ⟨2, ![4096, 14848]⟩
abbrev S128x14848 : Shape := ⟨2, ![128, 14848]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S128x4096, .bf16⟩
  | .hbm, ⟨1, _⟩ => ⟨S4096x14848, .f32⟩
  | .hbm, ⟨2, _⟩ => ⟨S128x4096, .f32⟩
  | .hbm, ⟨3, _⟩ => ⟨S128x14848, .f32⟩
  | .hbm, ⟨4, _⟩ => ⟨S128x4096, .f32⟩
  | .hbm, ⟨5, _⟩ => ⟨S_, .f32⟩
  | .hbm, ⟨6, _⟩ => ⟨S128x4096, .f32⟩
  | .hbm, ⟨7, _⟩ => ⟨S128x4096, .f32⟩
  | .hbm, ⟨8, _⟩ => ⟨S128x4096, .f32⟩
  | .hbm, ⟨9, _⟩ => ⟨S_, .f32⟩
  | .hbm, ⟨10, _⟩ => ⟨S128x4096, .f32⟩
  | .hbm, ⟨11, _⟩ => ⟨S128x4096, .f32⟩
  | .hbm, ⟨12, _⟩ => ⟨S128x4096, .f32⟩
  | .hbm, ⟨13, _⟩ => ⟨S128x4096, .f32⟩
  | _, _ => ⟨S128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== FfnNorm.lean ====
abbrev S8192x4096 : Shape := ⟨2, ![8192, 4096]⟩
abbrev S4096 : Shape := ⟨1, ![4096]⟩
abbrev S4x24576 : Shape := ⟨2, ![4, 24576]⟩
abbrev S4096x64 : Shape := ⟨2, ![4096, 64]⟩
abbrev S4x1x24576 : Shape := ⟨3, ![4, 1, 24576]⟩
abbrev S64x4096 : Shape := ⟨2, ![64, 4096]⟩
abbrev S1x4096 : Shape := ⟨2, ![1, 4096]⟩
abbrev S8192x2048 : Shape := ⟨2, ![8192, 2048]⟩
abbrev S64x8192 : Shape := ⟨2, ![64, 8192]⟩
abbrev S256x4096 : Shape := ⟨2, ![256, 4096]⟩
abbrev S1x1x4096 : Shape := ⟨3, ![1, 1, 4096]⟩
abbrev S256x2048 : Shape := ⟨2, ![256, 2048]⟩
abbrev S64x256 : Shape := ⟨2, ![64, 256]⟩
abbrev S256 : Shape := ⟨1, ![256]⟩
abbrev S256x1 : Shape := ⟨2, ![256, 1]⟩

abbrev nBuf : Space → Nat
  | .hbm => 10
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4x24576, .f32⟩
  | .hbm, ⟨3, _⟩ => ⟨S4096x64, .f32⟩
  | .hbm, ⟨4, _⟩ => ⟨S4x1x24576, .f32⟩
  | .hbm, ⟨5, _⟩ => ⟨S64x4096, .f32⟩
  | .hbm, ⟨6, _⟩ => ⟨S1x4096, .f32⟩
  | .hbm, ⟨7, _⟩ => ⟨S8192x4096, .bf16⟩
  | .hbm, ⟨8, _⟩ => ⟨S8192x2048, .i32⟩
  | .hbm, ⟨9, _⟩ => ⟨S64x8192, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S64x4096, .f32⟩
  | .local _ .vmem, ⟨8, _⟩ => ⟨S256x4096, .bf16⟩
  | .local _ .vmem, ⟨9, _⟩ => ⟨S256x4096, .bf16⟩
  | .local _ .vmem, ⟨10, _⟩ => ⟨S256x2048, .i32⟩
  | .local _ .vmem, ⟨11, _⟩ => ⟨S256x2048, .i32⟩
  | .local _ .vmem, ⟨12, _⟩ => ⟨S64x256, .f32⟩
  | .local _ .vmem, ⟨13, _⟩ => ⟨S64x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c3_i32 : BitVec 32 := 3#32
  let c0_i32_5 : BitVec 32 := 0#32
  ![v17.toNat, c0_i32_4.toNat, c3_i32.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c4_i32 : BitVec 32 := 4#32
  let c0_i32_5 : BitVec 32 := 0#32
  ![v17.toNat, c0_i32_4.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnNormIdeal.lean ====
abbrev S8192x4096 : Shape := ⟨2, ![8192, 4096]⟩
abbrev S4096 : Shape := ⟨1, ![4096]⟩
abbrev S4x24576 : Shape := ⟨2, ![4, 24576]⟩
abbrev S4096x64 : Shape := ⟨2, ![4096, 64]⟩
abbrev S4x1x24576 : Shape := ⟨3, ![4, 1, 24576]⟩
abbrev S64x4096 : Shape := ⟨2, ![64, 4096]⟩
abbrev S1x4096 : Shape := ⟨2, ![1, 4096]⟩
abbrev S8192x2x2048 : Shape := ⟨3, ![8192, 2, 2048]⟩
abbrev S64x8192 : Shape := ⟨2, ![64, 8192]⟩
abbrev S8192x1x2048 : Shape := ⟨3, ![8192, 1, 2048]⟩
abbrev S8192x2048 : Shape := ⟨2, ![8192, 2048]⟩
abbrev S256x4096 : Shape := ⟨2, ![256, 4096]⟩
abbrev S1x1x4096 : Shape := ⟨3, ![1, 1, 4096]⟩
abbrev S256x2048 : Shape := ⟨2, ![256, 2048]⟩
abbrev S256x2x2048 : Shape := ⟨3, ![256, 2, 2048]⟩
abbrev S256x1x2048 : Shape := ⟨3, ![256, 1, 2048]⟩
abbrev S64x256 : Shape := ⟨2, ![64, 256]⟩
abbrev S256 : Shape := ⟨1, ![256]⟩
abbrev S256x1 : Shape := ⟨2, ![256, 1]⟩

abbrev nBuf : Space → Nat
  | .hbm => 10
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4x24576, .f32⟩
  | .hbm, ⟨3, _⟩ => ⟨S4096x64, .f32⟩
  | .hbm, ⟨4, _⟩ => ⟨S4x1x24576, .f32⟩
  | .hbm, ⟨5, _⟩ => ⟨S64x4096, .f32⟩
  | .hbm, ⟨6, _⟩ => ⟨S1x4096, .f32⟩
  | .hbm, ⟨7, _⟩ => ⟨S8192x4096, .bf16⟩
  | .hbm, ⟨8, _⟩ => ⟨S8192x2x2048, .bf16⟩
  | .hbm, ⟨9, _⟩ => ⟨S64x8192, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S64x4096, .f32⟩
  | .local _ .vmem, ⟨8, _⟩ => ⟨S256x4096, .bf16⟩
  | .local _ .vmem, ⟨9, _⟩ => ⟨S256x4096, .bf16⟩
  | .local _ .vmem, ⟨10, _⟩ => ⟨S256x2x2048, .bf16⟩
  | .local _ .vmem, ⟨11, _⟩ => ⟨S256x2x2048, .bf16⟩
  | .local _ .vmem, ⟨12, _⟩ => ⟨S64x256, .f32⟩
  | .local _ .vmem, ⟨13, _⟩ => ⟨S64x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c3_i32 : BitVec 32 := 3#32
  let c0_i32_5 : BitVec 32 := 0#32
  ![v17.toNat, c0_i32_4.toNat, c3_i32.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c4_i32 : BitVec 32 := 4#32
  let c0_i32_5 : BitVec 32 := 0#32
  ![v17.toNat, c0_i32_4.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnNormRefIdeal.lean ====
abbrev S8192x4096 : Shape := ⟨2, ![8192, 4096]⟩
abbrev S4096 : Shape := ⟨1, ![4096]⟩
abbrev S4x24576 : Shape := ⟨2, ![4, 24576]⟩
abbrev S4096x64 : Shape := ⟨2, ![4096, 64]⟩
abbrev S4x4096 : Shape := ⟨2, ![4, 4096]⟩
abbrev S4x1x4096 : Shape := ⟨3, ![4, 1, 4096]⟩
abbrev S4x2048x4096 : Shape := ⟨3, ![4, 2048, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S8192x64 : Shape := ⟨2, ![8192, 64]⟩
abbrev S64x8192 : Shape := ⟨2, ![64, 8192]⟩

abbrev nBuf : Space → Nat
  | .hbm => 36
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4x24576, .f32⟩
  | .hbm, ⟨3, _⟩ => ⟨S4096x64, .f32⟩
  | .hbm, ⟨4, _⟩ => ⟨S4x4096, .f32⟩
  | .hbm, ⟨5, _⟩ => ⟨S4x1x4096, .f32⟩
  | .hbm, ⟨6, _⟩ => ⟨S4x4096, .f32⟩
  | .hbm, ⟨7, _⟩ => ⟨S4x1x4096, .f32⟩
  | .hbm, ⟨8, _⟩ => ⟨S4x2048x4096, .f32⟩
  | .hbm, ⟨9, _⟩ => ⟨S4x2048x4096, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x4096, .f32⟩
  | .hbm, ⟨21, _⟩ => ⟨S4x2048x4096, .f32⟩
  | .hbm, ⟨22, _⟩ => ⟨S1x1x4096, .f32⟩
  | .hbm, ⟨23, _⟩ => ⟨S4x2048x4096, .f32⟩
  | .hbm, ⟨24, _⟩ => ⟨S4x2048x4096, .f32⟩
  | .hbm, ⟨25, _⟩ => ⟨S_, .f32⟩
  | .hbm, ⟨26, _⟩ => ⟨S4x1x4096, .f32⟩
  | .hbm, ⟨27, _⟩ => ⟨S4x1x4096, .f32⟩
  | .hbm, ⟨28, _⟩ => ⟨S4x2048x4096, .f32⟩
  | .hbm, ⟨29, _⟩ => ⟨S4x2048x4096, .f32⟩
  | .hbm, ⟨30, _⟩ => ⟨S4x2048x4096, .f32⟩
  | .hbm, ⟨31, _⟩ => ⟨S4x2048x4096, .f32⟩
  | .hbm, ⟨32, _⟩ => ⟨S8192x4096, .f32⟩
  | .hbm, ⟨33, _⟩ => ⟨S8192x4096, .bf16⟩
  | .hbm, ⟨34, _⟩ => ⟨S8192x64, .f32⟩
  | .hbm, ⟨35, _⟩ => ⟨S64x8192, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Proof.AttnMath.lean ====
/-
  One element of attention with a sink, two ways. The kernel sums the weighted values and the weights of the current and
  of the previous block apart, adds the sink's weight, and divides once. The reference lays the previous and the current
  keys and the sink side by side, divides every weight by the sum, and then sums the weighted values. The greatest
  logit is the same, and the sum of the weights is a positive real, so dividing by it is multiplying by a real, which
  distributes over a sum of extended reals. Where a previous key's logit is minus infinity its weight is 0, so the value
  beside it is of no account.
-/
module

public import Idealize.ShloMosaic.PureOps.Ideal
public import Idealize.ShloMosaic.Lib.Tactic
public import Idealize.ShloMosaic.Lib.Pointwise

@[expose] public section

noncomputable section

open Idealize.ShloMosaic

namespace Cert.AttnMath

/-- A row's greatest logit, the sink's among them. -/
def top (lc lp : Fin 128 → EReal) (a : EReal) : EReal :=
  max (Finset.fold max ⊥ (fun s => max (lc s) (lp s)) Finset.univ) a

/-- One output element: the values weighted by the exponentials of the logits below the greatest, over the sum of the
    exponentials and the sink's. -/
def outv (lc lp vc vp : Fin 128 → EReal) (a : EReal) : EReal :=
  Ideal.div (∑ s, Ideal.exp (lc s - top lc lp a) * vc s + ∑ s, Ideal.exp (lp s - top lc lp a) * vp s)
    (∑ s, Ideal.exp (lc s - top lc lp a) + ∑ s, Ideal.exp (lp s - top lc lp a) + Ideal.exp (a - top lc lp a))

/-- A sum of extended reals times a real. -/
theorem sum_mul_real {ι : Type} [DecidableEq ι] (S : Finset ι) (f : ι → EReal) (r : ℝ) (hr : 0 ≤ r) :
    (∑ s ∈ S, f s) * (r : EReal) = ∑ s ∈ S, f s * (r : EReal) := by
  induction S using Finset.induction_on with
  | empty => simp
  | insert a S ha ih =>
    rw [Finset.sum_insert ha, Finset.sum_insert ha, EReal.right_distrib_of_nonneg_of_ne_top (by exact_mod_cast hr) (EReal.coe_ne_top r), ih]

/-- A sum of reals, as an extended real. -/
theorem sum_real {ι : Type} [DecidableEq ι] (S : Finset ι) (f : ι → ℝ) : (∑ s ∈ S, (f s : EReal)) = ((∑ s ∈ S, f s : ℝ) : EReal) := by
  induction S using Finset.induction_on with
  | empty => simp
  | insert a S ha ih => rw [Finset.sum_insert ha, Finset.sum_insert ha, EReal.coe_add, ih]

/-- The exponential of a logit less a real: a nonnegative real, and 0 for the logit minus infinity. -/
theorem exp_sub_real {l : EReal} (h : l ≠ ⊤) (M : ℝ) : ∃ r : ℝ, 0 ≤ r ∧ Ideal.exp (l - (M : EReal)) = (r : EReal) := by
  induction l with
  | bot => exact ⟨0, le_refl _, by rw [EReal.bot_sub, Ideal.exp_bot]; rfl⟩
  | coe x => exact ⟨Real.exp (x - M), (Real.exp_pos _).le, by rw [← EReal.coe_sub, Ideal.exp_coe]⟩
  | top => exact absurd rfl h

/-- The greatest of the reference's row of logits is the kernel's. -/
theorem top_eq (lc lp : Fin 128 → EReal) (a : EReal) (L : Fin 257 → EReal) (h1 : ∀ s : Fin 128, L ⟨s.val, by omega⟩ = lp s)
    (h2 : ∀ s : Fin 128, L ⟨128 + s.val, by omega⟩ = lc s) (h3 : L ⟨256, by omega⟩ = a) :
    max ⊥ (Finset.fold max ⊥ L Finset.univ) = top lc lp a := by
  refine eq_of_forall_ge_iff fun c => ?_
  unfold top
  simp only [max_le_iff, Finset.fold_max_le, bot_le, true_and, Finset.mem_univ, forall_true_left]
  constructor
  · intro h
    exact ⟨fun s => ⟨h2 s ▸ h _, h1 s ▸ h _⟩, h3 ▸ h _⟩
  · rintro ⟨h, ha⟩ k
    by_cases hk : k.val < 128
    · have := (h ⟨k.val, hk⟩).2
      rw [← h1] at this; exact this
    · by_cases hk' : k.val < 256
      · have := (h ⟨k.val - 128, by omega⟩).1
        rw [← h2] at this
        have e : (⟨128 + (k.val - 128), by omega⟩ : Fin 257) = k := Fin.ext (by show 128 + (k.val - 128) = k.val; omega)
        rw [e] at this; exact this
      · have e : (⟨256, by omega⟩ : Fin 257) = k := Fin.ext (by show 256 = k.val; omega)
        rw [← h3, e] at ha; exact ha

/-- A sum over 256 places as two over 128. -/
theorem sum_256 (f : Fin 256 → EReal) : ∑ k, f k = ∑ s : Fin 128, f ⟨s.val, by omega⟩ + ∑ s : Fin 128, f ⟨128 + s.val, by omega⟩ :=
  Fin.sum_univ_add (a := 128) (b := 128) f

theorem sum_257 (f : Fin 257 → EReal) :
    ∑ k, f k = ∑ s : Fin 128, f ⟨s.val, by omega⟩ + ∑ s : Fin 128, f ⟨128 + s.val, by omega⟩ + f ⟨256, by omega⟩ := by
  rw [Fin.sum_univ_castSucc, sum_256]
  rfl

/-- The reference's element is the kernel's. -/
theorem ref_outv (lc lp vc vp : Fin 128 → EReal) (a : EReal) (hc : ∀ s, lc s ≠ ⊤) (hp : ∀ s, lp s ≠ ⊤) (ha : ∃ r : ℝ, a = (r : EReal))
    (L : Fin 257 → EReal) (h1 : ∀ s : Fin 128, L ⟨s.val, by omega⟩ = lp s) (h2 : ∀ s : Fin 128, L ⟨128 + s.val, by omega⟩ = lc s)
    (h3 : L ⟨256, by omega⟩ = a) (V : Fin 256 → EReal) (hv1 : ∀ s : Fin 128, lp s ≠ ⊥ → V ⟨s.val, by omega⟩ = vp s)
    (hv2 : ∀ s : Fin 128, V ⟨128 + s.val, by omega⟩ = vc s) (M : EReal) (hM : M = max ⊥ (Finset.fold max ⊥ L Finset.univ)) :
    ∑ k : Fin 256, V k * Ideal.div (Ideal.exp (L ⟨k.val, by omega⟩ - M)) (0 + ∑ k : Fin 257, Ideal.exp (L k - M)) = outv lc lp vc vp a := by
  have hMt : M = top lc lp a := hM.trans (top_eq lc lp a L h1 h2 h3)
  obtain ⟨ar, rfl⟩ := ha
  obtain ⟨m, hm⟩ : ∃ m : ℝ, top lc lp (ar : EReal) = (m : EReal) := by
    have hb : top lc lp (ar : EReal) ≠ ⊥ := by
      intro h
      have : (ar : EReal) ≤ ⊥ := h ▸ le_max_right _ _
      exact EReal.coe_ne_bot ar (le_bot_iff.mp this)
    have ht : top lc lp (ar : EReal) ≠ ⊤ := by
      refine ne_of_lt ?_
      unfold top
      rw [max_lt_iff, Finset.fold_max_lt]
      exact ⟨⟨bot_lt_top, fun s _ => max_lt (lt_top_iff_ne_top.mpr (hc s)) (lt_top_iff_ne_top.mpr (hp s))⟩, EReal.coe_lt_top ar⟩
    exact ⟨_, (EReal.coe_toReal ht hb).symm⟩
  unfold outv
  rw [hMt, hm, sum_256, sum_257]
  simp only [h1, h2, h3]
  choose ec hec0 hec using fun s => exp_sub_real (hc s) m
  choose ep hep0 hep using fun s => exp_sub_real (hp s) m
  have hea : Ideal.exp ((ar : EReal) - (m : EReal)) = ((Real.exp (ar - m) : ℝ) : EReal) := by rw [← EReal.coe_sub, Ideal.exp_coe]
  have hvp : ∀ s, V ⟨s.val, by omega⟩ * (ep s : EReal) = vp s * (ep s : EReal) := by
    intro s
    by_cases h : lp s = ⊥
    · have h0 : (ep s : EReal) = 0 := by rw [← hep s, h, EReal.bot_sub, Ideal.exp_bot]
      rw [h0, mul_zero, mul_zero]
    · rw [hv1 s h]
  simp only [hec, hep, hea, hv2]
  rw [sum_real, sum_real, zero_add, add_comm ((∑ s, ep s : ℝ) : EReal), ← EReal.coe_add, ← EReal.coe_add]
  have hD : 0 < ∑ s, ec s + ∑ s, ep s + Real.exp (ar - m) :=
    add_pos_of_nonneg_of_pos (add_nonneg (Finset.sum_nonneg fun s _ => hec0 s) (Finset.sum_nonneg fun s _ => hep0 s)) (Real.exp_pos _)
  have hD' : 0 ≤ 1 / (∑ s, ec s + ∑ s, ep s + Real.exp (ar - m)) := (one_div_pos.mpr hD).le
  simp only [Ideal.div_coe hD.ne']
  rw [EReal.right_distrib_of_nonneg_of_ne_top (by exact_mod_cast hD') (EReal.coe_ne_top _), sum_mul_real _ _ _ hD', sum_mul_real _ _ _ hD', add_comm]
  congr 1
  · refine Finset.sum_congr rfl fun s _ => ?_
    rw [← mul_assoc, mul_comm (vc s)]
  · refine Finset.sum_congr rfl fun s _ => ?_
    rw [← mul_assoc, hvp s, mul_comm (vp s)]

end Cert.AttnMath
end
-- ==== Proof.AttnBlock.lean ====
/-
  One key head's block of attention at the ideal instance. The four key heads of a block are printed one after the other
  with the same operations; `att` is the text of one of them, and `att_apply` reads an element of it: the masks at an
  index, the eight query heads laid one under the other, the weights of the two blocks and the sink, and the division.
-/
module

public import proofs.«01_k».proof.Proof.AttnMath
public import proofs.«01_k».proof.Proof.Gen.KernelIdeal.Value
public import Idealize.ShloMosaic.Lib.Pipeline.Value
public import Idealize.ShloMosaic.Lib.Pointwise
public import Idealize.ShloMosaic.Lib.Tactic

@[expose] public section

set_option maxRecDepth 16384
noncomputable section
open Idealize.ShloMosaic Idealize.ShloMosaic.TcCoe Idealize.SL.Sem
open Cert.AttnMath (outv top)
namespace Cert.KernelIdeal.Proved
open Cert.KernelIdeal Cert.KernelIdeal.Gen

theorem pay4_apply (r : Fin 1024) (s : Fin 128) : k0_pay4 (ix2 r s) = BitVec.ofNat 32 (r.val % 128) := by
  unfold k0_pay4
  pointwise
  revert r
  decide +kernel

/-- The current block's causal mask, at an index. -/
theorem pay5_apply (r : Fin 1024) (s : Fin 128) : k0_pay5 (ix2 r s) = if s.val ≤ r.val % 128 then 1#1 else 0#1 := by
  unfold k0_pay5
  pointwise
  rw [pay4_apply]
  have h : ∀ a b : Fin 128, IntOp.cmpi CmpIPredicate.sle (BitVec.ofNat 32 a.val) (BitVec.ofNat 32 b.val) = if a.val ≤ b.val then 1#1 else 0#1 := by decide +kernel
  exact h s ⟨r.val % 128, Nat.mod_lt _ (by decide)⟩

/-- The previous block's window mask, at an index: closed at the first block of a sequence. -/
theorem pay6_apply (i : grid0.Coords) (r : Fin 1024) (s : Fin 128) :
    k0_pay6 i (ix2 r s) = if r.val % 128 ≤ s.val ∧ 0 < (i 1).val then 1#1 else 0#1 := by
  unfold k0_pay6
  pointwise
  rw [pay4_apply]
  have h : ∀ a b : Fin 128, IntOp.cmpi CmpIPredicate.sge (BitVec.ofNat 32 a.val) (BitVec.ofNat 32 b.val) = if b.val ≤ a.val then 1#1 else 0#1 := by decide +kernel
  have h' : ∀ a : Fin 16, Scalar.cmpi CmpIPredicate.sgt (BitVec.ofNat 32 a.val) 0#32 = if 0 < a.val then 1#1 else 0#1 := by decide +kernel
  rw [show IntOp.cmpi CmpIPredicate.sge (BitVec.ofNat 32 s.val) (BitVec.ofNat 32 (r.val % 128)) = _ from h s ⟨r.val % 128, Nat.mod_lt _ (by decide)⟩,
    show Scalar.cmpi CmpIPredicate.sgt (BitVec.ofNat 32 (i 1).val) 0#32 = _ from h' (i 1)]
  by_cases h1 : r.val % 128 ≤ s.val <;> by_cases h2 : 0 < (i 1).val <;> simp [h1, h2, IntOp.andi]

/-- The eight query heads of a key head, one under the other, at an index. -/
theorem pay12_apply (q0 q1 q2 q3 q4 q5 q6 q7 : Vec Ideal S128x64 .f32) (g : Fin 8) (p : Fin 128) (k : Fin 64) :
    k0_pay12 (F := Ideal) q0 q1 q2 q3 q4 q5 q6 q7 (ix2 (⟨g.val * 128 + p.val, by omega⟩ : Fin 1024) k)
      = (![q0, q1, q2, q3, q4, q5, q6, q7] : Fin 8 → Vec Ideal S128x64 .f32) g (ix2 p k) := by
  unfold k0_pay12
  pointwise
  fin_cases g
  · rw [dif_pos (show (0 * 128 + p.val) < 128 by omega)]
    exact congrArg (fun r => q0 (ix2 r k)) (Fin.ext (by show 0 * 128 + p.val = p.val; omega))
  · rw [dif_neg (show ¬ (1 * 128 + p.val) < 128 by omega), dif_pos (show (1 * 128 + p.val) - 128 < 128 by omega)]
    exact congrArg (fun r => q1 (ix2 r k)) (Fin.ext (by show 1 * 128 + p.val - 128 = p.val; omega))
  · rw [dif_neg (show ¬ (2 * 128 + p.val) < 128 by omega), dif_neg (show ¬ (2 * 128 + p.val) - 128 < 128 by omega), dif_pos (show (2 * 128 + p.val) - 128 - 128 < 128 by omega)]
    exact congrArg (fun r => q2 (ix2 r k)) (Fin.ext (by show 2 * 128 + p.val - 128 - 128 = p.val; omega))
  · rw [dif_neg (show ¬ (3 * 128 + p.val) < 128 by omega), dif_neg (show ¬ (3 * 128 + p.val) - 128 < 128 by omega), dif_neg (show ¬ (3 * 128 + p.val) - 128 - 128 < 128 by omega), dif_pos (show (3 * 128 + p.val) - 128 - 128 - 128 < 128 by omega)]
    exact congrArg (fun r => q3 (ix2 r k)) (Fin.ext (by show 3 * 128 + p.val - 128 - 128 - 128 = p.val; omega))
  · rw [dif_neg (show ¬ (4 * 128 + p.val) < 128 by omega), dif_neg (show ¬ (4 * 128 + p.val) - 128 < 128 by omega), dif_neg (show ¬ (4 * 128 + p.val) - 128 - 128 < 128 by omega), dif_neg (show ¬ (4 * 128 + p.val) - 128 - 128 - 128 < 128 by omega), dif_pos (show (4 * 128 + p.val) - 128 - 128 - 128 - 128 < 128 by omega)]
    exact congrArg (fun r => q4 (ix2 r k)) (Fin.ext (by show 4 * 128 + p.val - 128 - 128 - 128 - 128 = p.val; omega))
  · rw [dif_neg (show ¬ (5 * 128 + p.val) < 128 by omega), dif_neg (show ¬ (5 * 128 + p.val) - 128 < 128 by omega), dif_neg (show ¬ (5 * 128 + p.val) - 128 - 128 < 128 by omega), dif_neg (show ¬ (5 * 128 + p.val) - 128 - 128 - 128 < 128 by omega), dif_neg (show ¬ (5 * 128 + p.val) - 128 - 128 - 128 - 128 < 128 by omega), dif_pos (show (5 * 128 + p.val) - 128 - 128 - 128 - 128 - 128 < 128 by omega)]
    exact congrArg (fun r => q5 (ix2 r k)) (Fin.ext (by show 5 * 128 + p.val - 128 - 128 - 128 - 128 - 128 = p.val; omega))
  · rw [dif_neg (show ¬ (6 * 128 + p.val) < 128 by omega), dif_neg (show ¬ (6 * 128 + p.val) - 128 < 128 by omega), dif_neg (show ¬ (6 * 128 + p.val) - 128 - 128 < 128 by omega), dif_neg (show ¬ (6 * 128 + p.val) - 128 - 128 - 128 < 128 by omega), dif_neg (show ¬ (6 * 128 + p.val) - 128 - 128 - 128 - 128 < 128 by omega), dif_neg (show ¬ (6 * 128 + p.val) - 128 - 128 - 128 - 128 - 128 < 128 by omega), dif_pos (show (6 * 128 + p.val) - 128 - 128 - 128 - 128 - 128 - 128 < 128 by omega)]
    exact congrArg (fun r => q6 (ix2 r k)) (Fin.ext (by show 6 * 128 + p.val - 128 - 128 - 128 - 128 - 128 - 128 = p.val; omega))
  · rw [dif_neg (show ¬ (7 * 128 + p.val) < 128 by omega), dif_neg (show ¬ (7 * 128 + p.val) - 128 < 128 by omega), dif_neg (show ¬ (7 * 128 + p.val) - 128 - 128 < 128 by omega), dif_neg (show ¬ (7 * 128 + p.val) - 128 - 128 - 128 < 128 by omega), dif_neg (show ¬ (7 * 128 + p.val) - 128 - 128 - 128 - 128 < 128 by omega), dif_neg (show ¬ (7 * 128 + p.val) - 128 - 128 - 128 - 128 - 128 < 128 by omega), dif_neg (show ¬ (7 * 128 + p.val) - 128 - 128 - 128 - 128 - 128 - 128 < 128 by omega)]
    exact congrArg (fun r => q7 (ix2 r k)) (Fin.ext (by show 7 * 128 + p.val - 128 - 128 - 128 - 128 - 128 - 128 - 128 = p.val; omega))

/-- The eight heads' sinks, one under the other, at an index. -/
theorem pay13_apply (a0 a1 a2 a3 a4 a5 a6 a7 : Ideal .f32) (g : Fin 8) (p : Fin 128) (z : Fin 1) :
    k0_pay13 (F := Ideal) a0 a1 a2 a3 a4 a5 a6 a7 (ix2 (⟨g.val * 128 + p.val, by omega⟩ : Fin 1024) z)
      = (![a0, a1, a2, a3, a4, a5, a6, a7] : Fin 8 → Ideal .f32) g := by
  unfold k0_pay13
  pointwise
  fin_cases g
  · rw [dif_pos (show (0 * 128 + p.val) < 128 by omega)]
    rfl
  · rw [dif_neg (show ¬ (1 * 128 + p.val) < 128 by omega), dif_pos (show (1 * 128 + p.val) - 128 < 128 by omega)]
    rfl
  · rw [dif_neg (show ¬ (2 * 128 + p.val) < 128 by omega), dif_neg (show ¬ (2 * 128 + p.val) - 128 < 128 by omega), dif_pos (show (2 * 128 + p.val) - 128 - 128 < 128 by omega)]
    rfl
  · rw [dif_neg (show ¬ (3 * 128 + p.val) < 128 by omega), dif_neg (show ¬ (3 * 128 + p.val) - 128 < 128 by omega), dif_neg (show ¬ (3 * 128 + p.val) - 128 - 128 < 128 by omega), dif_pos (show (3 * 128 + p.val) - 128 - 128 - 128 < 128 by omega)]
    rfl
  · rw [dif_neg (show ¬ (4 * 128 + p.val) < 128 by omega), dif_neg (show ¬ (4 * 128 + p.val) - 128 < 128 by omega), dif_neg (show ¬ (4 * 128 + p.val) - 128 - 128 < 128 by omega), dif_neg (show ¬ (4 * 128 + p.val) - 128 - 128 - 128 < 128 by omega), dif_pos (show (4 * 128 + p.val) - 128 - 128 - 128 - 128 < 128 by omega)]
    rfl
  · rw [dif_neg (show ¬ (5 * 128 + p.val) < 128 by omega), dif_neg (show ¬ (5 * 128 + p.val) - 128 < 128 by omega), dif_neg (show ¬ (5 * 128 + p.val) - 128 - 128 < 128 by omega), dif_neg (show ¬ (5 * 128 + p.val) - 128 - 128 - 128 < 128 by omega), dif_neg (show ¬ (5 * 128 + p.val) - 128 - 128 - 128 - 128 < 128 by omega), dif_pos (show (5 * 128 + p.val) - 128 - 128 - 128 - 128 - 128 < 128 by omega)]
    rfl
  · rw [dif_neg (show ¬ (6 * 128 + p.val) < 128 by omega), dif_neg (show ¬ (6 * 128 + p.val) - 128 < 128 by omega), dif_neg (show ¬ (6 * 128 + p.val) - 128 - 128 < 128 by omega), dif_neg (show ¬ (6 * 128 + p.val) - 128 - 128 - 128 < 128 by omega), dif_neg (show ¬ (6 * 128 + p.val) - 128 - 128 - 128 - 128 < 128 by omega), dif_neg (show ¬ (6 * 128 + p.val) - 128 - 128 - 128 - 128 - 128 < 128 by omega), dif_pos (show (6 * 128 + p.val) - 128 - 128 - 128 - 128 - 128 - 128 < 128 by omega)]
    rfl
  · rw [dif_neg (show ¬ (7 * 128 + p.val) < 128 by omega), dif_neg (show ¬ (7 * 128 + p.val) - 128 < 128 by omega), dif_neg (show ¬ (7 * 128 + p.val) - 128 - 128 < 128 by omega), dif_neg (show ¬ (7 * 128 + p.val) - 128 - 128 - 128 < 128 by omega), dif_neg (show ¬ (7 * 128 + p.val) - 128 - 128 - 128 - 128 < 128 by omega), dif_neg (show ¬ (7 * 128 + p.val) - 128 - 128 - 128 - 128 - 128 < 128 by omega), dif_neg (show ¬ (7 * 128 + p.val) - 128 - 128 - 128 - 128 - 128 - 128 < 128 by omega)]
    rfl

/-- A key head's eight query heads attended: the printed text of the first key head, at any queries, keys, values and sinks. -/
def att (i : grid0.Coords) (kc kp vc vp q0 q1 q2 q3 q4 q5 q6 q7 : Vec Ideal S128x64 .f32) (a0 a1 a2 a3 a4 a5 a6 a7 : Ideal .f32) : FVec Ideal S1024x64 .bf16 :=
  k0_pay16 (k0_pay6 i) k0_pay7 (k0_pay10 vc) (k0_pay11 vp) (k0_pay13 a0 a1 a2 a3 a4 a5 a6 a7) (k0_pay14 k0_pay5 (k0_pay8 kc) q0 q1 q2 q3 q4 q5 q6 q7)
    (k0_pay15 (k0_pay9 kp) q0 q1 q2 q3 q4 q5 q6 q7) (Scalar.ofBits .f32 0x3E000000#32)

/-- `att` at an index: one element of attention with a sink. -/
theorem att_apply (i : grid0.Coords) (kc kp vc vp q0 q1 q2 q3 q4 q5 q6 q7 : Vec Ideal S128x64 .f32) (a0 a1 a2 a3 a4 a5 a6 a7 : Ideal .f32)
    (g : Fin 8) (p : Fin 128) (d : Fin 64) :
    att i kc kp vc vp q0 q1 q2 q3 q4 q5 q6 q7 a0 a1 a2 a3 a4 a5 a6 a7 (ix2 (⟨g.val * 128 + p.val, by omega⟩ : Fin 1024) d)
      = outv (fun s => if s.val ≤ p.val then (∑ k : Fin 64, (![q0, q1, q2, q3, q4, q5, q6, q7] : Fin 8 → Vec Ideal S128x64 .f32) g (ix2 p k) * kc (ix2 s k)) * Ideal.ofBits .f32 0x3E000000#32 else ⊥)
          (fun s => if p.val ≤ s.val ∧ 0 < (i 1).val then (∑ k : Fin 64, (![q0, q1, q2, q3, q4, q5, q6, q7] : Fin 8 → Vec Ideal S128x64 .f32) g (ix2 p k) * kp (ix2 s k)) * Ideal.ofBits .f32 0x3E000000#32 else ⊥)
          (fun s => vc (ix2 s d)) (fun s => vp (ix2 s d)) ((![a0, a1, a2, a3, a4, a5, a6, a7] : Fin 8 → Ideal .f32) g) := by
  have hb : Ideal.ofBits FTy.f32 0xFF800000#32 = ⊥ := by simp [Ideal.ofBits, Ideal.ieee]
  have h1 : Ideal.ofBits FTy.bf16 0x3F80#16 = 1 := Ideal.ofBits_one_bf16
  have hm : (g.val * 128 + p.val) % 128 = p.val := by omega
  have hsel : ∀ (P : Prop) [Decidable P] (x y : EReal), Scalar.select (if P then 1#1 else 0#1) x y = if P then x else y := by
    intro P _ x y; by_cases h : P <;> simp [h, Scalar.select]
  unfold att outv top k0_pay16 k0_pay14 k0_pay15 k0_pay7 k0_pay8 k0_pay9 k0_pay10 k0_pay11
  pointwise
  simp only [pay12_apply, pay13_apply, pay5_apply, pay6_apply, hm, hsel, hb, h1, mul_one]
-- ==== Proof.AttnOut.lean ====
/-
  A block's whole output: the four key heads' texts are `att` at each head's columns and sinks, and the thirty-two stores of
  64 columns each fill the block, so that an element of the block is the element of its own head.
-/
module

public import proofs.«01_k».proof.Proof.AttnBlock
public import Idealize.ShloMosaic.Lib.Pipeline.ReadBack

@[expose] public section
set_option maxRecDepth 16384
noncomputable section
open Idealize.ShloMosaic Idealize.ShloMosaic.TcCoe Idealize.SL.Sem
open Cert.AttnMath (outv top)
namespace Cert.KernelIdeal.Proved
open Cert.KernelIdeal Cert.KernelIdeal.Gen

/-- Sixty-four columns read from a block of queries. -/
theorem ld_q (x : Vec Ideal S128x2048 .f32) (o : ℕ) (ho : o + 64 ≤ 2048) (h) (p : Fin 128) (k : Fin 64) :
    View.ld x (Rect.unit ![0, o] ![128, 64] h : Rect S128x2048) (ix2 p k) = x (ix2 p ⟨o + k.val, by omega⟩) := by
  refine congrArg x (funext fun a => Fin.ext ?_)
  match a with
  | ⟨0, _⟩ => show 0 + 1 * p.val = p.val; omega
  | ⟨1, _⟩ => show o + 1 * k.val = o + k.val; omega

/-- Sixty-four columns read from a block of keys or values. -/
theorem ld_k (x : Vec Ideal S128x256 .f32) (o : ℕ) (ho : o + 64 ≤ 256) (h) (p : Fin 128) (k : Fin 64) :
    View.ld x (Rect.unit ![0, o] ![128, 64] h : Rect S128x256) (ix2 p k) = x (ix2 p ⟨o + k.val, by omega⟩) := by
  refine congrArg x (funext fun a => Fin.ext ?_)
  match a with
  | ⟨0, _⟩ => show 0 + 1 * p.val = p.val; omega
  | ⟨1, _⟩ => show o + 1 * k.val = o + k.val; omega

/-- One sink read. -/
theorem ld_s (x : Vec Ideal S4x8 .f32) (u v : ℕ) (hu : u < 4) (hv : v < 8) (h) (h1) :
    View.ld x (Rect.unit ![u, v] ![1, 1] h : Rect S4x8) (Shape.Idx.first h1) = x (ix2 ⟨u, hu⟩ ⟨v, hv⟩) := by
  refine congrArg x (funext fun a => Fin.ext ?_)
  match a with
  | ⟨0, _⟩ => show u + 1 * 0 = u; omega
  | ⟨1, _⟩ => show v + 1 * 0 = v; omega

/-- The element of a block's output at row `p`, key head `kv`, query head `g` of the key head, and place `d` of the head. -/
def blk (i : grid0.Coords) (x0 : Vec Ideal S4x8 .f32) (x1 : Vec Ideal S128x2048 .f32) (x2 x3 x4 x5 : Vec Ideal S128x256 .f32)
    (kv : Fin 4) (g : Fin 8) (p : Fin 128) (d : Fin 64) : EReal :=
  outv (fun s => if s.val ≤ p.val then (∑ k : Fin 64, x1 (ix2 p ⟨kv.val * 512 + g.val * 64 + k.val, by omega⟩) * x2 (ix2 s ⟨kv.val * 64 + k.val, by omega⟩)) * Ideal.ofBits .f32 0x3E000000#32 else ⊥)
    (fun s => if p.val ≤ s.val ∧ 0 < (i 1).val then (∑ k : Fin 64, x1 (ix2 p ⟨kv.val * 512 + g.val * 64 + k.val, by omega⟩) * x3 (ix2 s ⟨kv.val * 64 + k.val, by omega⟩)) * Ideal.ofBits .f32 0x3E000000#32 else ⊥)
    (fun s => x4 (ix2 s ⟨kv.val * 64 + d.val, by omega⟩)) (fun s => x5 (ix2 s ⟨kv.val * 64 + d.val, by omega⟩)) (x0 (ix2 kv g))

/-- The block's output as one array. -/
def blkArr (i : grid0.Coords) (x0 : Vec Ideal S4x8 .f32) (x1 : Vec Ideal S128x2048 .f32) (x2 x3 x4 x5 : Vec Ideal S128x256 .f32) : Vec Ideal S128x2048 .bf16 := fun y =>
  blk i x0 x1 x2 x3 x4 x5 ⟨(y 1).val / 512, by have : (y 1).val < 2048 := (y 1).isLt; omega⟩ ⟨(y 1).val / 64 % 8, by omega⟩ (y 0) ⟨(y 1).val % 64, by omega⟩

theorem blkArr_at (i : grid0.Coords) (x0 : Vec Ideal S4x8 .f32) (x1 : Vec Ideal S128x2048 .f32) (x2 x3 x4 x5 : Vec Ideal S128x256 .f32)
    (kv : Fin 4) (g : Fin 8) (p : Fin 128) (d : Fin 64) (y : S128x2048.Idx) (h0 : (y 0).val = p.val) (h1 : (y 1).val = kv.val * 512 + g.val * 64 + d.val) :
    blkArr i x0 x1 x2 x3 x4 x5 y = blk i x0 x1 x2 x3 x4 x5 kv g p d := by
  unfold blkArr
  congr 1
  · apply Fin.ext; show (y 1).val / 512 = kv.val; omega
  · apply Fin.ext; show (y 1).val / 64 % 8 = g.val; omega
  · apply Fin.ext; exact h0
  · apply Fin.ext; show (y 1).val % 64 = d.val; omega

/-- Key head 0's attended query heads. -/
def att0 (i : grid0.Coords) (x0 : Vec Ideal S4x8 .f32) (x1 : Vec Ideal S128x2048 .f32) (x2 x3 x4 x5 : Vec Ideal S128x256 .f32) : FVec Ideal S1024x64 .bf16 :=
  att i (View.ld x2 (Rect.unit ![0, 0] ![128, 64] inb_S128x256_S128x64_0_0)) (View.ld x3 (Rect.unit ![0, 0] ![128, 64] inb_S128x256_S128x64_0_0)) (View.ld x4 (Rect.unit ![0, 0] ![128, 64] inb_S128x256_S128x64_0_0)) (View.ld x5 (Rect.unit ![0, 0] ![128, 64] inb_S128x256_S128x64_0_0))
    (View.ld x1 (Rect.unit ![0, 0] ![128, 64] inb_S128x2048_S128x64_0_0)) (View.ld x1 (Rect.unit ![0, 64] ![128, 64] inb_S128x2048_S128x64_0_64)) (View.ld x1 (Rect.unit ![0, 128] ![128, 64] inb_S128x2048_S128x64_0_128)) (View.ld x1 (Rect.unit ![0, 192] ![128, 64] inb_S128x2048_S128x64_0_192)) (View.ld x1 (Rect.unit ![0, 256] ![128, 64] inb_S128x2048_S128x64_0_256)) (View.ld x1 (Rect.unit ![0, 320] ![128, 64] inb_S128x2048_S128x64_0_320)) (View.ld x1 (Rect.unit ![0, 384] ![128, 64] inb_S128x2048_S128x64_0_384)) (View.ld x1 (Rect.unit ![0, 448] ![128, 64] inb_S128x2048_S128x64_0_448))
    (View.ld x0 (Rect.unit ![0, 0] ![1, 1] inb_S4x8_S1x1_0_0) (Shape.Idx.first (by decide))) (View.ld x0 (Rect.unit ![0, 1] ![1, 1] inb_S4x8_S1x1_0_1) (Shape.Idx.first (by decide))) (View.ld x0 (Rect.unit ![0, 2] ![1, 1] inb_S4x8_S1x1_0_2) (Shape.Idx.first (by decide))) (View.ld x0 (Rect.unit ![0, 3] ![1, 1] inb_S4x8_S1x1_0_3) (Shape.Idx.first (by decide))) (View.ld x0 (Rect.unit ![0, 4] ![1, 1] inb_S4x8_S1x1_0_4) (Shape.Idx.first (by decide))) (View.ld x0 (Rect.unit ![0, 5] ![1, 1] inb_S4x8_S1x1_0_5) (Shape.Idx.first (by decide))) (View.ld x0 (Rect.unit ![0, 6] ![1, 1] inb_S4x8_S1x1_0_6) (Shape.Idx.first (by decide))) (View.ld x0 (Rect.unit ![0, 7] ![1, 1] inb_S4x8_S1x1_0_7) (Shape.Idx.first (by decide)))

theorem att0_apply (i : grid0.Coords) (x0 : Vec Ideal S4x8 .f32) (x1 : Vec Ideal S128x2048 .f32) (x2 x3 x4 x5 : Vec Ideal S128x256 .f32) (g : Fin 8) (p : Fin 128) (d : Fin 64) :
    att0 i x0 x1 x2 x3 x4 x5 (ix2 (⟨g.val * 128 + p.val, by omega⟩ : Fin 1024) d) = blk i x0 x1 x2 x3 x4 x5 0 g p d := by
  have hq : ∀ (g : Fin 8) (p : Fin 128) (k : Fin 64), (![(View.ld x1 (Rect.unit ![0, 0] ![128, 64] inb_S128x2048_S128x64_0_0)), (View.ld x1 (Rect.unit ![0, 64] ![128, 64] inb_S128x2048_S128x64_0_64)), (View.ld x1 (Rect.unit ![0, 128] ![128, 64] inb_S128x2048_S128x64_0_128)), (View.ld x1 (Rect.unit ![0, 192] ![128, 64] inb_S128x2048_S128x64_0_192)), (View.ld x1 (Rect.unit ![0, 256] ![128, 64] inb_S128x2048_S128x64_0_256)), (View.ld x1 (Rect.unit ![0, 320] ![128, 64] inb_S128x2048_S128x64_0_320)), (View.ld x1 (Rect.unit ![0, 384] ![128, 64] inb_S128x2048_S128x64_0_384)), (View.ld x1 (Rect.unit ![0, 448] ![128, 64] inb_S128x2048_S128x64_0_448))] : Fin 8 → Vec Ideal S128x64 .f32) g (ix2 p k)
      = x1 (ix2 p ⟨(0 : Fin 4).val * 512 + g.val * 64 + k.val, by have := g.isLt; have := k.isLt; show 0 * 512 + g.val * 64 + k.val < 2048; omega⟩) := by
    intro g p k
    fin_cases g
    · exact ld_q x1 0 (by omega) _ p k
    · exact ld_q x1 64 (by omega) _ p k
    · exact ld_q x1 128 (by omega) _ p k
    · exact ld_q x1 192 (by omega) _ p k
    · exact ld_q x1 256 (by omega) _ p k
    · exact ld_q x1 320 (by omega) _ p k
    · exact ld_q x1 384 (by omega) _ p k
    · exact ld_q x1 448 (by omega) _ p k
  have ha : ∀ g : Fin 8, (![(View.ld x0 (Rect.unit ![0, 0] ![1, 1] inb_S4x8_S1x1_0_0) (Shape.Idx.first (by decide))), (View.ld x0 (Rect.unit ![0, 1] ![1, 1] inb_S4x8_S1x1_0_1) (Shape.Idx.first (by decide))), (View.ld x0 (Rect.unit ![0, 2] ![1, 1] inb_S4x8_S1x1_0_2) (Shape.Idx.first (by decide))), (View.ld x0 (Rect.unit ![0, 3] ![1, 1] inb_S4x8_S1x1_0_3) (Shape.Idx.first (by decide))), (View.ld x0 (Rect.unit ![0, 4] ![1, 1] inb_S4x8_S1x1_0_4) (Shape.Idx.first (by decide))), (View.ld x0 (Rect.unit ![0, 5] ![1, 1] inb_S4x8_S1x1_0_5) (Shape.Idx.first (by decide))), (View.ld x0 (Rect.unit ![0, 6] ![1, 1] inb_S4x8_S1x1_0_6) (Shape.Idx.first (by decide))), (View.ld x0 (Rect.unit ![0, 7] ![1, 1] inb_S4x8_S1x1_0_7) (Shape.Idx.first (by decide)))] : Fin 8 → Ideal .f32) g = x0 (ix2 0 g) := by
    intro g
    fin_cases g
    · exact ld_s x0 0 0 (by omega) (by omega) _ _
    · exact ld_s x0 0 1 (by omega) (by omega) _ _
    · exact ld_s x0 0 2 (by omega) (by omega) _ _
    · exact ld_s x0 0 3 (by omega) (by omega) _ _
    · exact ld_s x0 0 4 (by omega) (by omega) _ _
    · exact ld_s x0 0 5 (by omega) (by omega) _ _
    · exact ld_s x0 0 6 (by omega) (by omega) _ _
    · exact ld_s x0 0 7 (by omega) (by omega) _ _
  have hk2 : ∀ (s : Fin 128) (k : Fin 64), ((View.ld x2 (Rect.unit ![0, 0] ![128, 64] inb_S128x256_S128x64_0_0)) : Vec Ideal S128x64 .f32) (ix2 s k) = x2 (ix2 s ⟨(0 : Fin 4).val * 64 + k.val, by have := k.isLt; show 0 * 64 + k.val < 256; omega⟩) := fun s k => ld_k x2 0 (by omega) _ s k
  have hk3 : ∀ (s : Fin 128) (k : Fin 64), ((View.ld x3 (Rect.unit ![0, 0] ![128, 64] inb_S128x256_S128x64_0_0)) : Vec Ideal S128x64 .f32) (ix2 s k) = x3 (ix2 s ⟨(0 : Fin 4).val * 64 + k.val, by have := k.isLt; show 0 * 64 + k.val < 256; omega⟩) := fun s k => ld_k x3 0 (by omega) _ s k
  have hk4 : ∀ (s : Fin 128) (k : Fin 64), ((View.ld x4 (Rect.unit ![0, 0] ![128, 64] inb_S128x256_S128x64_0_0)) : Vec Ideal S128x64 .f32) (ix2 s k) = x4 (ix2 s ⟨(0 : Fin 4).val * 64 + k.val, by have := k.isLt; show 0 * 64 + k.val < 256; omega⟩) := fun s k => ld_k x4 0 (by omega) _ s k
  have hk5 : ∀ (s : Fin 128) (k : Fin 64), ((View.ld x5 (Rect.unit ![0, 0] ![128, 64] inb_S128x256_S128x64_0_0)) : Vec Ideal S128x64 .f32) (ix2 s k) = x5 (ix2 s ⟨(0 : Fin 4).val * 64 + k.val, by have := k.isLt; show 0 * 64 + k.val < 256; omega⟩) := fun s k => ld_k x5 0 (by omega) _ s k
  refine (att_apply _ _ _ _ _ _ _ _ _ _ _ _ _ _ _ _ _ _ _ _ _ g p d).trans ?_
  unfold blk
  simp only [hk2, hk3, hk4, hk5, hq, ha]

/-- Key head 1's attended query heads. -/
def att1 (i : grid0.Coords) (x0 : Vec Ideal S4x8 .f32) (x1 : Vec Ideal S128x2048 .f32) (x2 x3 x4 x5 : Vec Ideal S128x256 .f32) : FVec Ideal S1024x64 .bf16 :=
  att i (View.ld x2 (Rect.unit ![0, 64] ![128, 64] inb_S128x256_S128x64_0_64)) (View.ld x3 (Rect.unit ![0, 64] ![128, 64] inb_S128x256_S128x64_0_64)) (View.ld x4 (Rect.unit ![0, 64] ![128, 64] inb_S128x256_S128x64_0_64)) (View.ld x5 (Rect.unit ![0, 64] ![128, 64] inb_S128x256_S128x64_0_64))
    (View.ld x1 (Rect.unit ![0, 512] ![128, 64] inb_S128x2048_S128x64_0_512)) (View.ld x1 (Rect.unit ![0, 576] ![128, 64] inb_S128x2048_S128x64_0_576)) (View.ld x1 (Rect.unit ![0, 640] ![128, 64] inb_S128x2048_S128x64_0_640)) (View.ld x1 (Rect.unit ![0, 704] ![128, 64] inb_S128x2048_S128x64_0_704)) (View.ld x1 (Rect.unit ![0, 768] ![128, 64] inb_S128x2048_S128x64_0_768)) (View.ld x1 (Rect.unit ![0, 832] ![128, 64] inb_S128x2048_S128x64_0_832)) (View.ld x1 (Rect.unit ![0, 896] ![128, 64] inb_S128x2048_S128x64_0_896)) (View.ld x1 (Rect.unit ![0, 960] ![128, 64] inb_S128x2048_S128x64_0_960))
    (View.ld x0 (Rect.unit ![1, 0] ![1, 1] inb_S4x8_S1x1_1_0) (Shape.Idx.first (by decide))) (View.ld x0 (Rect.unit ![1, 1] ![1, 1] inb_S4x8_S1x1_1_1) (Shape.Idx.first (by decide))) (View.ld x0 (Rect.unit ![1, 2] ![1, 1] inb_S4x8_S1x1_1_2) (Shape.Idx.first (by decide))) (View.ld x0 (Rect.unit ![1, 3] ![1, 1] inb_S4x8_S1x1_1_3) (Shape.Idx.first (by decide))) (View.ld x0 (Rect.unit ![1, 4] ![1, 1] inb_S4x8_S1x1_1_4) (Shape.Idx.first (by decide))) (View.ld x0 (Rect.unit ![1, 5] ![1, 1] inb_S4x8_S1x1_1_5) (Shape.Idx.first (by decide))) (View.ld x0 (Rect.unit ![1, 6] ![1, 1] inb_S4x8_S1x1_1_6) (Shape.Idx.first (by decide))) (View.ld x0 (Rect.unit ![1, 7] ![1, 1] inb_S4x8_S1x1_1_7) (Shape.Idx.first (by decide)))

theorem att1_apply (i : grid0.Coords) (x0 : Vec Ideal S4x8 .f32) (x1 : Vec Ideal S128x2048 .f32) (x2 x3 x4 x5 : Vec Ideal S128x256 .f32) (g : Fin 8) (p : Fin 128) (d : Fin 64) :
    att1 i x0 x1 x2 x3 x4 x5 (ix2 (⟨g.val * 128 + p.val, by omega⟩ : Fin 1024) d) = blk i x0 x1 x2 x3 x4 x5 1 g p d := by
  have hq : ∀ (g : Fin 8) (p : Fin 128) (k : Fin 64), (![(View.ld x1 (Rect.unit ![0, 512] ![128, 64] inb_S128x2048_S128x64_0_512)), (View.ld x1 (Rect.unit ![0, 576] ![128, 64] inb_S128x2048_S128x64_0_576)), (View.ld x1 (Rect.unit ![0, 640] ![128, 64] inb_S128x2048_S128x64_0_640)), (View.ld x1 (Rect.unit ![0, 704] ![128, 64] inb_S128x2048_S128x64_0_704)), (View.ld x1 (Rect.unit ![0, 768] ![128, 64] inb_S128x2048_S128x64_0_768)), (View.ld x1 (Rect.unit ![0, 832] ![128, 64] inb_S128x2048_S128x64_0_832)), (View.ld x1 (Rect.unit ![0, 896] ![128, 64] inb_S128x2048_S128x64_0_896)), (View.ld x1 (Rect.unit ![0, 960] ![128, 64] inb_S128x2048_S128x64_0_960))] : Fin 8 → Vec Ideal S128x64 .f32) g (ix2 p k)
      = x1 (ix2 p ⟨(1 : Fin 4).val * 512 + g.val * 64 + k.val, by have := g.isLt; have := k.isLt; show 1 * 512 + g.val * 64 + k.val < 2048; omega⟩) := by
    intro g p k
    fin_cases g
    · exact ld_q x1 512 (by omega) _ p k
    · exact ld_q x1 576 (by omega) _ p k
    · exact ld_q x1 640 (by omega) _ p k
    · exact ld_q x1 704 (by omega) _ p k
    · exact ld_q x1 768 (by omega) _ p k
    · exact ld_q x1 832 (by omega) _ p k
    · exact ld_q x1 896 (by omega) _ p k
    · exact ld_q x1 960 (by omega) _ p k
  have ha : ∀ g : Fin 8, (![(View.ld x0 (Rect.unit ![1, 0] ![1, 1] inb_S4x8_S1x1_1_0) (Shape.Idx.first (by decide))), (View.ld x0 (Rect.unit ![1, 1] ![1, 1] inb_S4x8_S1x1_1_1) (Shape.Idx.first (by decide))), (View.ld x0 (Rect.unit ![1, 2] ![1, 1] inb_S4x8_S1x1_1_2) (Shape.Idx.first (by decide))), (View.ld x0 (Rect.unit ![1, 3] ![1, 1] inb_S4x8_S1x1_1_3) (Shape.Idx.first (by decide))), (View.ld x0 (Rect.unit ![1, 4] ![1, 1] inb_S4x8_S1x1_1_4) (Shape.Idx.first (by decide))), (View.ld x0 (Rect.unit ![1, 5] ![1, 1] inb_S4x8_S1x1_1_5) (Shape.Idx.first (by decide))), (View.ld x0 (Rect.unit ![1, 6] ![1, 1] inb_S4x8_S1x1_1_6) (Shape.Idx.first (by decide))), (View.ld x0 (Rect.unit ![1, 7] ![1, 1] inb_S4x8_S1x1_1_7) (Shape.Idx.first (by decide)))] : Fin 8 → Ideal .f32) g = x0 (ix2 1 g) := by
    intro g
    fin_cases g
    · exact ld_s x0 1 0 (by omega) (by omega) _ _
    · exact ld_s x0 1 1 (by omega) (by omega) _ _
    · exact ld_s x0 1 2 (by omega) (by omega) _ _
    · exact ld_s x0 1 3 (by omega) (by omega) _ _
    · exact ld_s x0 1 4 (by omega) (by omega) _ _
    · exact ld_s x0 1 5 (by omega) (by omega) _ _
    · exact ld_s x0 1 6 (by omega) (by omega) _ _
    · exact ld_s x0 1 7 (by omega) (by omega) _ _
  have hk2 : ∀ (s : Fin 128) (k : Fin 64), ((View.ld x2 (Rect.unit ![0, 64] ![128, 64] inb_S128x256_S128x64_0_64)) : Vec Ideal S128x64 .f32) (ix2 s k) = x2 (ix2 s ⟨(1 : Fin 4).val * 64 + k.val, by have := k.isLt; show 1 * 64 + k.val < 256; omega⟩) := fun s k => ld_k x2 64 (by omega) _ s k
  have hk3 : ∀ (s : Fin 128) (k : Fin 64), ((View.ld x3 (Rect.unit ![0, 64] ![128, 64] inb_S128x256_S128x64_0_64)) : Vec Ideal S128x64 .f32) (ix2 s k) = x3 (ix2 s ⟨(1 : Fin 4).val * 64 + k.val, by have := k.isLt; show 1 * 64 + k.val < 256; omega⟩) := fun s k => ld_k x3 64 (by omega) _ s k
  have hk4 : ∀ (s : Fin 128) (k : Fin 64), ((View.ld x4 (Rect.unit ![0, 64] ![128, 64] inb_S128x256_S128x64_0_64)) : Vec Ideal S128x64 .f32) (ix2 s k) = x4 (ix2 s ⟨(1 : Fin 4).val * 64 + k.val, by have := k.isLt; show 1 * 64 + k.val < 256; omega⟩) := fun s k => ld_k x4 64 (by omega) _ s k
  have hk5 : ∀ (s : Fin 128) (k : Fin 64), ((View.ld x5 (Rect.unit ![0, 64] ![128, 64] inb_S128x256_S128x64_0_64)) : Vec Ideal S128x64 .f32) (ix2 s k) = x5 (ix2 s ⟨(1 : Fin 4).val * 64 + k.val, by have := k.isLt; show 1 * 64 + k.val < 256; omega⟩) := fun s k => ld_k x5 64 (by omega) _ s k
  refine (att_apply _ _ _ _ _ _ _ _ _ _ _ _ _ _ _ _ _ _ _ _ _ g p d).trans ?_
  unfold blk
  simp only [hk2, hk3, hk4, hk5, hq, ha]

/-- Key head 2's attended query heads. -/
def att2 (i : grid0.Coords) (x0 : Vec Ideal S4x8 .f32) (x1 : Vec Ideal S128x2048 .f32) (x2 x3 x4 x5 : Vec Ideal S128x256 .f32) : FVec Ideal S1024x64 .bf16 :=
  att i (View.ld x2 (Rect.unit ![0, 128] ![128, 64] inb_S128x256_S128x64_0_128)) (View.ld x3 (Rect.unit ![0, 128] ![128, 64] inb_S128x256_S128x64_0_128)) (View.ld x4 (Rect.unit ![0, 128] ![128, 64] inb_S128x256_S128x64_0_128)) (View.ld x5 (Rect.unit ![0, 128] ![128, 64] inb_S128x256_S128x64_0_128))
    (View.ld x1 (Rect.unit ![0, 1024] ![128, 64] inb_S128x2048_S128x64_0_1024)) (View.ld x1 (Rect.unit ![0, 1088] ![128, 64] inb_S128x2048_S128x64_0_1088)) (View.ld x1 (Rect.unit ![0, 1152] ![128, 64] inb_S128x2048_S128x64_0_1152)) (View.ld x1 (Rect.unit ![0, 1216] ![128, 64] inb_S128x2048_S128x64_0_1216)) (View.ld x1 (Rect.unit ![0, 1280] ![128, 64] inb_S128x2048_S128x64_0_1280)) (View.ld x1 (Rect.unit ![0, 1344] ![128, 64] inb_S128x2048_S128x64_0_1344)) (View.ld x1 (Rect.unit ![0, 1408] ![128, 64] inb_S128x2048_S128x64_0_1408)) (View.ld x1 (Rect.unit ![0, 1472] ![128, 64] inb_S128x2048_S128x64_0_1472))
    (View.ld x0 (Rect.unit ![2, 0] ![1, 1] inb_S4x8_S1x1_2_0) (Shape.Idx.first (by decide))) (View.ld x0 (Rect.unit ![2, 1] ![1, 1] inb_S4x8_S1x1_2_1) (Shape.Idx.first (by decide))) (View.ld x0 (Rect.unit ![2, 2] ![1, 1] inb_S4x8_S1x1_2_2) (Shape.Idx.first (by decide))) (View.ld x0 (Rect.unit ![2, 3] ![1, 1] inb_S4x8_S1x1_2_3) (Shape.Idx.first (by decide))) (View.ld x0 (Rect.unit ![2, 4] ![1, 1] inb_S4x8_S1x1_2_4) (Shape.Idx.first (by decide))) (View.ld x0 (Rect.unit ![2, 5] ![1, 1] inb_S4x8_S1x1_2_5) (Shape.Idx.first (by decide))) (View.ld x0 (Rect.unit ![2, 6] ![1, 1] inb_S4x8_S1x1_2_6) (Shape.Idx.first (by decide))) (View.ld x0 (Rect.unit ![2, 7] ![1, 1] inb_S4x8_S1x1_2_7) (Shape.Idx.first (by decide)))

theorem att2_apply (i : grid0.Coords) (x0 : Vec Ideal S4x8 .f32) (x1 : Vec Ideal S128x2048 .f32) (x2 x3 x4 x5 : Vec Ideal S128x256 .f32) (g : Fin 8) (p : Fin 128) (d : Fin 64) :
    att2 i x0 x1 x2 x3 x4 x5 (ix2 (⟨g.val * 128 + p.val, by omega⟩ : Fin 1024) d) = blk i x0 x1 x2 x3 x4 x5 2 g p d := by
  have hq : ∀ (g : Fin 8) (p : Fin 128) (k : Fin 64), (![(View.ld x1 (Rect.unit ![0, 1024] ![128, 64] inb_S128x2048_S128x64_0_1024)), (View.ld x1 (Rect.unit ![0, 1088] ![128, 64] inb_S128x2048_S128x64_0_1088)), (View.ld x1 (Rect.unit ![0, 1152] ![128, 64] inb_S128x2048_S128x64_0_1152)), (View.ld x1 (Rect.unit ![0, 1216] ![128, 64] inb_S128x2048_S128x64_0_1216)), (View.ld x1 (Rect.unit ![0, 1280] ![128, 64] inb_S128x2048_S128x64_0_1280)), (View.ld x1 (Rect.unit ![0, 1344] ![128, 64] inb_S128x2048_S128x64_0_1344)), (View.ld x1 (Rect.unit ![0, 1408] ![128, 64] inb_S128x2048_S128x64_0_1408)), (View.ld x1 (Rect.unit ![0, 1472] ![128, 64] inb_S128x2048_S128x64_0_1472))] : Fin 8 → Vec Ideal S128x64 .f32) g (ix2 p k)
      = x1 (ix2 p ⟨(2 : Fin 4).val * 512 + g.val * 64 + k.val, by have := g.isLt; have := k.isLt; show 2 * 512 + g.val * 64 + k.val < 2048; omega⟩) := by
    intro g p k
    fin_cases g
    · exact ld_q x1 1024 (by omega) _ p k
    · exact ld_q x1 1088 (by omega) _ p k
    · exact ld_q x1 1152 (by omega) _ p k
    · exact ld_q x1 1216 (by omega) _ p k
    · exact ld_q x1 1280 (by omega) _ p k
    · exact ld_q x1 1344 (by omega) _ p k
    · exact ld_q x1 1408 (by omega) _ p k
    · exact ld_q x1 1472 (by omega) _ p k
  have ha : ∀ g : Fin 8, (![(View.ld x0 (Rect.unit ![2, 0] ![1, 1] inb_S4x8_S1x1_2_0) (Shape.Idx.first (by decide))), (View.ld x0 (Rect.unit ![2, 1] ![1, 1] inb_S4x8_S1x1_2_1) (Shape.Idx.first (by decide))), (View.ld x0 (Rect.unit ![2, 2] ![1, 1] inb_S4x8_S1x1_2_2) (Shape.Idx.first (by decide))), (View.ld x0 (Rect.unit ![2, 3] ![1, 1] inb_S4x8_S1x1_2_3) (Shape.Idx.first (by decide))), (View.ld x0 (Rect.unit ![2, 4] ![1, 1] inb_S4x8_S1x1_2_4) (Shape.Idx.first (by decide))), (View.ld x0 (Rect.unit ![2, 5] ![1, 1] inb_S4x8_S1x1_2_5) (Shape.Idx.first (by decide))), (View.ld x0 (Rect.unit ![2, 6] ![1, 1] inb_S4x8_S1x1_2_6) (Shape.Idx.first (by decide))), (View.ld x0 (Rect.unit ![2, 7] ![1, 1] inb_S4x8_S1x1_2_7) (Shape.Idx.first (by decide)))] : Fin 8 → Ideal .f32) g = x0 (ix2 2 g) := by
    intro g
    fin_cases g
    · exact ld_s x0 2 0 (by omega) (by omega) _ _
    · exact ld_s x0 2 1 (by omega) (by omega) _ _
    · exact ld_s x0 2 2 (by omega) (by omega) _ _
    · exact ld_s x0 2 3 (by omega) (by omega) _ _
    · exact ld_s x0 2 4 (by omega) (by omega) _ _
    · exact ld_s x0 2 5 (by omega) (by omega) _ _
    · exact ld_s x0 2 6 (by omega) (by omega) _ _
    · exact ld_s x0 2 7 (by omega) (by omega) _ _
  have hk2 : ∀ (s : Fin 128) (k : Fin 64), ((View.ld x2 (Rect.unit ![0, 128] ![128, 64] inb_S128x256_S128x64_0_128)) : Vec Ideal S128x64 .f32) (ix2 s k) = x2 (ix2 s ⟨(2 : Fin 4).val * 64 + k.val, by have := k.isLt; show 2 * 64 + k.val < 256; omega⟩) := fun s k => ld_k x2 128 (by omega) _ s k
  have hk3 : ∀ (s : Fin 128) (k : Fin 64), ((View.ld x3 (Rect.unit ![0, 128] ![128, 64] inb_S128x256_S128x64_0_128)) : Vec Ideal S128x64 .f32) (ix2 s k) = x3 (ix2 s ⟨(2 : Fin 4).val * 64 + k.val, by have := k.isLt; show 2 * 64 + k.val < 256; omega⟩) := fun s k => ld_k x3 128 (by omega) _ s k
  have hk4 : ∀ (s : Fin 128) (k : Fin 64), ((View.ld x4 (Rect.unit ![0, 128] ![128, 64] inb_S128x256_S128x64_0_128)) : Vec Ideal S128x64 .f32) (ix2 s k) = x4 (ix2 s ⟨(2 : Fin 4).val * 64 + k.val, by have := k.isLt; show 2 * 64 + k.val < 256; omega⟩) := fun s k => ld_k x4 128 (by omega) _ s k
  have hk5 : ∀ (s : Fin 128) (k : Fin 64), ((View.ld x5 (Rect.unit ![0, 128] ![128, 64] inb_S128x256_S128x64_0_128)) : Vec Ideal S128x64 .f32) (ix2 s k) = x5 (ix2 s ⟨(2 : Fin 4).val * 64 + k.val, by have := k.isLt; show 2 * 64 + k.val < 256; omega⟩) := fun s k => ld_k x5 128 (by omega) _ s k
  refine (att_apply _ _ _ _ _ _ _ _ _ _ _ _ _ _ _ _ _ _ _ _ _ g p d).trans ?_
  unfold blk
  simp only [hk2, hk3, hk4, hk5, hq, ha]

/-- Key head 3's attended query heads. -/
def att3 (i : grid0.Coords) (x0 : Vec Ideal S4x8 .f32) (x1 : Vec Ideal S128x2048 .f32) (x2 x3 x4 x5 : Vec Ideal S128x256 .f32) : FVec Ideal S1024x64 .bf16 :=
  att i (View.ld x2 (Rect.unit ![0, 192] ![128, 64] inb_S128x256_S128x64_0_192)) (View.ld x3 (Rect.unit ![0, 192] ![128, 64] inb_S128x256_S128x64_0_192)) (View.ld x4 (Rect.unit ![0, 192] ![128, 64] inb_S128x256_S128x64_0_192)) (View.ld x5 (Rect.unit ![0, 192] ![128, 64] inb_S128x256_S128x64_0_192))
    (View.ld x1 (Rect.unit ![0, 1536] ![128, 64] inb_S128x2048_S128x64_0_1536)) (View.ld x1 (Rect.unit ![0, 1600] ![128, 64] inb_S128x2048_S128x64_0_1600)) (View.ld x1 (Rect.unit ![0, 1664] ![128, 64] inb_S128x2048_S128x64_0_1664)) (View.ld x1 (Rect.unit ![0, 1728] ![128, 64] inb_S128x2048_S128x64_0_1728)) (View.ld x1 (Rect.unit ![0, 1792] ![128, 64] inb_S128x2048_S128x64_0_1792)) (View.ld x1 (Rect.unit ![0, 1856] ![128, 64] inb_S128x2048_S128x64_0_1856)) (View.ld x1 (Rect.unit ![0, 1920] ![128, 64] inb_S128x2048_S128x64_0_1920)) (View.ld x1 (Rect.unit ![0, 1984] ![128, 64] inb_S128x2048_S128x64_0_1984))
    (View.ld x0 (Rect.unit ![3, 0] ![1, 1] inb_S4x8_S1x1_3_0) (Shape.Idx.first (by decide))) (View.ld x0 (Rect.unit ![3, 1] ![1, 1] inb_S4x8_S1x1_3_1) (Shape.Idx.first (by decide))) (View.ld x0 (Rect.unit ![3, 2] ![1, 1] inb_S4x8_S1x1_3_2) (Shape.Idx.first (by decide))) (View.ld x0 (Rect.unit ![3, 3] ![1, 1] inb_S4x8_S1x1_3_3) (Shape.Idx.first (by decide))) (View.ld x0 (Rect.unit ![3, 4] ![1, 1] inb_S4x8_S1x1_3_4) (Shape.Idx.first (by decide))) (View.ld x0 (Rect.unit ![3, 5] ![1, 1] inb_S4x8_S1x1_3_5) (Shape.Idx.first (by decide))) (View.ld x0 (Rect.unit ![3, 6] ![1, 1] inb_S4x8_S1x1_3_6) (Shape.Idx.first (by decide))) (View.ld x0 (Rect.unit ![3, 7] ![1, 1] inb_S4x8_S1x1_3_7) (Shape.Idx.first (by decide)))

theorem att3_apply (i : grid0.Coords) (x0 : Vec Ideal S4x8 .f32) (x1 : Vec Ideal S128x2048 .f32) (x2 x3 x4 x5 : Vec Ideal S128x256 .f32) (g : Fin 8) (p : Fin 128) (d : Fin 64) :
    att3 i x0 x1 x2 x3 x4 x5 (ix2 (⟨g.val * 128 + p.val, by omega⟩ : Fin 1024) d) = blk i x0 x1 x2 x3 x4 x5 3 g p d := by
  have hq : ∀ (g : Fin 8) (p : Fin 128) (k : Fin 64), (![(View.ld x1 (Rect.unit ![0, 1536] ![128, 64] inb_S128x2048_S128x64_0_1536)), (View.ld x1 (Rect.unit ![0, 1600] ![128, 64] inb_S128x2048_S128x64_0_1600)), (View.ld x1 (Rect.unit ![0, 1664] ![128, 64] inb_S128x2048_S128x64_0_1664)), (View.ld x1 (Rect.unit ![0, 1728] ![128, 64] inb_S128x2048_S128x64_0_1728)), (View.ld x1 (Rect.unit ![0, 1792] ![128, 64] inb_S128x2048_S128x64_0_1792)), (View.ld x1 (Rect.unit ![0, 1856] ![128, 64] inb_S128x2048_S128x64_0_1856)), (View.ld x1 (Rect.unit ![0, 1920] ![128, 64] inb_S128x2048_S128x64_0_1920)), (View.ld x1 (Rect.unit ![0, 1984] ![128, 64] inb_S128x2048_S128x64_0_1984))] : Fin 8 → Vec Ideal S128x64 .f32) g (ix2 p k)
      = x1 (ix2 p ⟨(3 : Fin 4).val * 512 + g.val * 64 + k.val, by have := g.isLt; have := k.isLt; show 3 * 512 + g.val * 64 + k.val < 2048; omega⟩) := by
    intro g p k
    fin_cases g
    · exact ld_q x1 1536 (by omega) _ p k
    · exact ld_q x1 1600 (by omega) _ p k
    · exact ld_q x1 1664 (by omega) _ p k
    · exact ld_q x1 1728 (by omega) _ p k
    · exact ld_q x1 1792 (by omega) _ p k
    · exact ld_q x1 1856 (by omega) _ p k
    · exact ld_q x1 1920 (by omega) _ p k
    · exact ld_q x1 1984 (by omega) _ p k
  have ha : ∀ g : Fin 8, (![(View.ld x0 (Rect.unit ![3, 0] ![1, 1] inb_S4x8_S1x1_3_0) (Shape.Idx.first (by decide))), (View.ld x0 (Rect.unit ![3, 1] ![1, 1] inb_S4x8_S1x1_3_1) (Shape.Idx.first (by decide))), (View.ld x0 (Rect.unit ![3, 2] ![1, 1] inb_S4x8_S1x1_3_2) (Shape.Idx.first (by decide))), (View.ld x0 (Rect.unit ![3, 3] ![1, 1] inb_S4x8_S1x1_3_3) (Shape.Idx.first (by decide))), (View.ld x0 (Rect.unit ![3, 4] ![1, 1] inb_S4x8_S1x1_3_4) (Shape.Idx.first (by decide))), (View.ld x0 (Rect.unit ![3, 5] ![1, 1] inb_S4x8_S1x1_3_5) (Shape.Idx.first (by decide))), (View.ld x0 (Rect.unit ![3, 6] ![1, 1] inb_S4x8_S1x1_3_6) (Shape.Idx.first (by decide))), (View.ld x0 (Rect.unit ![3, 7] ![1, 1] inb_S4x8_S1x1_3_7) (Shape.Idx.first (by decide)))] : Fin 8 → Ideal .f32) g = x0 (ix2 3 g) := by
    intro g
    fin_cases g
    · exact ld_s x0 3 0 (by omega) (by omega) _ _
    · exact ld_s x0 3 1 (by omega) (by omega) _ _
    · exact ld_s x0 3 2 (by omega) (by omega) _ _
    · exact ld_s x0 3 3 (by omega) (by omega) _ _
    · exact ld_s x0 3 4 (by omega) (by omega) _ _
    · exact ld_s x0 3 5 (by omega) (by omega) _ _
    · exact ld_s x0 3 6 (by omega) (by omega) _ _
    · exact ld_s x0 3 7 (by omega) (by omega) _ _
  have hk2 : ∀ (s : Fin 128) (k : Fin 64), ((View.ld x2 (Rect.unit ![0, 192] ![128, 64] inb_S128x256_S128x64_0_192)) : Vec Ideal S128x64 .f32) (ix2 s k) = x2 (ix2 s ⟨(3 : Fin 4).val * 64 + k.val, by have := k.isLt; show 3 * 64 + k.val < 256; omega⟩) := fun s k => ld_k x2 192 (by omega) _ s k
  have hk3 : ∀ (s : Fin 128) (k : Fin 64), ((View.ld x3 (Rect.unit ![0, 192] ![128, 64] inb_S128x256_S128x64_0_192)) : Vec Ideal S128x64 .f32) (ix2 s k) = x3 (ix2 s ⟨(3 : Fin 4).val * 64 + k.val, by have := k.isLt; show 3 * 64 + k.val < 256; omega⟩) := fun s k => ld_k x3 192 (by omega) _ s k
  have hk4 : ∀ (s : Fin 128) (k : Fin 64), ((View.ld x4 (Rect.unit ![0, 192] ![128, 64] inb_S128x256_S128x64_0_192)) : Vec Ideal S128x64 .f32) (ix2 s k) = x4 (ix2 s ⟨(3 : Fin 4).val * 64 + k.val, by have := k.isLt; show 3 * 64 + k.val < 256; omega⟩) := fun s k => ld_k x4 192 (by omega) _ s k
  have hk5 : ∀ (s : Fin 128) (k : Fin 64), ((View.ld x5 (Rect.unit ![0, 192] ![128, 64] inb_S128x256_S128x64_0_192)) : Vec Ideal S128x64 .f32) (ix2 s k) = x5 (ix2 s ⟨(3 : Fin 4).val * 64 + k.val, by have := k.isLt; show 3 * 64 + k.val < 256; omega⟩) := fun s k => ld_k x5 192 (by omega) _ s k
  refine (att_apply _ _ _ _ _ _ _ _ _ _ _ _ _ _ _ _ _ _ _ _ _ g p d).trans ?_
  unfold blk
  simp only [hk2, hk3, hk4, hk5, hq, ha]

/-- One query head's rows cut from a key head's output. -/
theorem rows_apply (P : FVec Ideal S1024x64 .bf16) (g : Fin 8) (o : ℕ) (ho : o = g.val * 128) (h) (x : S128x64.Idx) :
    extractStridedSlice S128x64 ![o, 0] P h x = P (ix2 (⟨g.val * 128 + (x 0).val, by have : (x 0).val < 128 := (x 0).isLt; omega⟩ : Fin 1024) (x 1)) := by
  refine extractStridedSlice_apply _ _ _ _ _ fun a => ?_
  match a with
  | ⟨0, _⟩ => show g.val * 128 + (x 0).val = o + (x 0).val; omega
  | ⟨1, _⟩ => show (x 1).val = 0 + (x 1).val; omega

set_option maxHeartbeats 4000000 in
/-- What a point leaves in the output's buffer: the block's output. -/
theorem out_A (c : Dev nD) (i : grid0.Coords) (arg2 : Memref sig .tc .smem S4x8 .f32) (harg2 : arg2.IsWhole) (arg3 : Memref sig .tc .vmem S128x2048 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x2048 .bf16) (harg8 : arg8.IsWhole)
    (x0 : Vec Ideal S4x8 .f32) (x1 : Vec Ideal S128x2048 .f32) (x2 : Vec Ideal S128x256 .f32) (x3 : Vec Ideal S128x256 .f32) (x4 : Vec Ideal S128x256 .f32) (x5 : Vec Ideal S128x256 .f32) :
    out0_A_6 c i arg2 harg2 arg3 harg3 arg4 harg4 arg5 harg5 arg6 harg6 arg7 harg7 arg8 harg8 x0 x1 x2 x3 x4 x5 = blkArr i x0 x1 x2 x3 x4 x5 := by
  funext y
  have hcov := cover0_A_6 c i arg2 harg2 arg3 harg3 arg4 harg4 arg5 harg5 arg6 harg6 arg7 harg7 arg8 harg8 x0 x1 x2 x3 x4 x5 y
  unfold out0_A_6
  rw [View.read_writes_eq_canon _ _ _ (cover0_A_6 c i arg2 harg2 arg3 harg3 arg4 harg4 arg5 harg5 arg6 harg6 arg7 harg7 arg8 harg8 x0 x1 x2 x3 x4 x5)]
  refine View.canon_apply_of_pieces (blkArr i x0 x1 x2 x3 x4 x5) _ (View.PiecesOf.mem ?_) y hcov
  clear hcov
  unfold kernelRun0_A
  dsimp only
  sl_unfold_words
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · simp only [View.readAt_eq_ld, harg2.read_unread, harg3.read_unread, harg4.read_unread, harg5.read_unread, harg6.read_unread, harg7.read_unread]
    intro (x : S128x64.Idx)
    rw [blkArr_at i x0 x1 x2 x3 x4 x5 3 7 (x 0) (x 1) _ (show 0 + 1 * (x 0).val = (x 0).val by omega) (show 1984 + 1 * (x 1).val = 3 * 512 + 7 * 64 + (x 1).val by omega)]
    refine Eq.trans ?_ (att3_apply i x0 x1 x2 x3 x4 x5 7 (x 0) (x 1))
    refine Eq.trans ?_ (rows_apply (att3 i x0 x1 x2 x3 x4 x5) 7 896 rfl slices_S1024x64_o896_0_S128x64 x)
    rfl
  · simp only [View.readAt_eq_ld, harg2.read_unread, harg3.read_unread, harg4.read_unread, harg5.read_unread, harg6.read_unread, harg7.read_unread]
    intro (x : S128x64.Idx)
    rw [blkArr_at i x0 x1 x2 x3 x4 x5 3 6 (x 0) (x 1) _ (show 0 + 1 * (x 0).val = (x 0).val by omega) (show 1920 + 1 * (x 1).val = 3 * 512 + 6 * 64 + (x 1).val by omega)]
    refine Eq.trans ?_ (att3_apply i x0 x1 x2 x3 x4 x5 6 (x 0) (x 1))
    refine Eq.trans ?_ (rows_apply (att3 i x0 x1 x2 x3 x4 x5) 6 768 rfl slices_S1024x64_o768_0_S128x64 x)
    rfl
  · simp only [View.readAt_eq_ld, harg2.read_unread, harg3.read_unread, harg4.read_unread, harg5.read_unread, harg6.read_unread, harg7.read_unread]
    intro (x : S128x64.Idx)
    rw [blkArr_at i x0 x1 x2 x3 x4 x5 3 5 (x 0) (x 1) _ (show 0 + 1 * (x 0).val = (x 0).val by omega) (show 1856 + 1 * (x 1).val = 3 * 512 + 5 * 64 + (x 1).val by omega)]
    refine Eq.trans ?_ (att3_apply i x0 x1 x2 x3 x4 x5 5 (x 0) (x 1))
    refine Eq.trans ?_ (rows_apply (att3 i x0 x1 x2 x3 x4 x5) 5 640 rfl slices_S1024x64_o640_0_S128x64 x)
    rfl
  · simp only [View.readAt_eq_ld, harg2.read_unread, harg3.read_unread, harg4.read_unread, harg5.read_unread, harg6.read_unread, harg7.read_unread]
    intro (x : S128x64.Idx)
    rw [blkArr_at i x0 x1 x2 x3 x4 x5 3 4 (x 0) (x 1) _ (show 0 + 1 * (x 0).val = (x 0).val by omega) (show 1792 + 1 * (x 1).val = 3 * 512 + 4 * 64 + (x 1).val by omega)]
    refine Eq.trans ?_ (att3_apply i x0 x1 x2 x3 x4 x5 4 (x 0) (x 1))
    refine Eq.trans ?_ (rows_apply (att3 i x0 x1 x2 x3 x4 x5) 4 512 rfl slices_S1024x64_o512_0_S128x64 x)
    rfl
  · simp only [View.readAt_eq_ld, harg2.read_unread, harg3.read_unread, harg4.read_unread, harg5.read_unread, harg6.read_unread, harg7.read_unread]
    intro (x : S128x64.Idx)
    rw [blkArr_at i x0 x1 x2 x3 x4 x5 3 3 (x 0) (x 1) _ (show 0 + 1 * (x 0).val = (x 0).val by omega) (show 1728 + 1 * (x 1).val = 3 * 512 + 3 * 64 + (x 1).val by omega)]
    refine Eq.trans ?_ (att3_apply i x0 x1 x2 x3 x4 x5 3 (x 0) (x 1))
    refine Eq.trans ?_ (rows_apply (att3 i x0 x1 x2 x3 x4 x5) 3 384 rfl slices_S1024x64_o384_0_S128x64 x)
    rfl
  · simp only [View.readAt_eq_ld, harg2.read_unread, harg3.read_unread, harg4.read_unread, harg5.read_unread, harg6.read_unread, harg7.read_unread]
    intro (x : S128x64.Idx)
    rw [blkArr_at i x0 x1 x2 x3 x4 x5 3 2 (x 0) (x 1) _ (show 0 + 1 * (x 0).val = (x 0).val by omega) (show 1664 + 1 * (x 1).val = 3 * 512 + 2 * 64 + (x 1).val by omega)]
    refine Eq.trans ?_ (att3_apply i x0 x1 x2 x3 x4 x5 2 (x 0) (x 1))
    refine Eq.trans ?_ (rows_apply (att3 i x0 x1 x2 x3 x4 x5) 2 256 rfl slices_S1024x64_o256_0_S128x64 x)
    rfl
  · simp only [View.readAt_eq_ld, harg2.read_unread, harg3.read_unread, harg4.read_unread, harg5.read_unread, harg6.read_unread, harg7.read_unread]
    intro (x : S128x64.Idx)
    rw [blkArr_at i x0 x1 x2 x3 x4 x5 3 1 (x 0) (x 1) _ (show 0 + 1 * (x 0).val = (x 0).val by omega) (show 1600 + 1 * (x 1).val = 3 * 512 + 1 * 64 + (x 1).val by omega)]
    refine Eq.trans ?_ (att3_apply i x0 x1 x2 x3 x4 x5 1 (x 0) (x 1))
    refine Eq.trans ?_ (rows_apply (att3 i x0 x1 x2 x3 x4 x5) 1 128 rfl slices_S1024x64_o128_0_S128x64 x)
    rfl
  · simp only [View.readAt_eq_ld, harg2.read_unread, harg3.read_unread, harg4.read_unread, harg5.read_unread, harg6.read_unread, harg7.read_unread]
    intro (x : S128x64.Idx)
    rw [blkArr_at i x0 x1 x2 x3 x4 x5 3 0 (x 0) (x 1) _ (show 0 + 1 * (x 0).val = (x 0).val by omega) (show 1536 + 1 * (x 1).val = 3 * 512 + 0 * 64 + (x 1).val by omega)]
    refine Eq.trans ?_ (att3_apply i x0 x1 x2 x3 x4 x5 0 (x 0) (x 1))
    refine Eq.trans ?_ (rows_apply (att3 i x0 x1 x2 x3 x4 x5) 0 0 rfl slices_S1024x64_o0_0_S128x64 x)
    rfl
  · simp only [View.readAt_eq_ld, harg2.read_unread, harg3.read_unread, harg4.read_unread, harg5.read_unread, harg6.read_unread, harg7.read_unread]
    intro (x : S128x64.Idx)
    rw [blkArr_at i x0 x1 x2 x3 x4 x5 2 7 (x 0) (x 1) _ (show 0 + 1 * (x 0).val = (x 0).val by omega) (show 1472 + 1 * (x 1).val = 2 * 512 + 7 * 64 + (x 1).val by omega)]
    refine Eq.trans ?_ (att2_apply i x0 x1 x2 x3 x4 x5 7 (x 0) (x 1))
    refine Eq.trans ?_ (rows_apply (att2 i x0 x1 x2 x3 x4 x5) 7 896 rfl slices_S1024x64_o896_0_S128x64 x)
    rfl
  · simp only [View.readAt_eq_ld, harg2.read_unread, harg3.read_unread, harg4.read_unread, harg5.read_unread, harg6.read_unread, harg7.read_unread]
    intro (x : S128x64.Idx)
    rw [blkArr_at i x0 x1 x2 x3 x4 x5 2 6 (x 0) (x 1) _ (show 0 + 1 * (x 0).val = (x 0).val by omega) (show 1408 + 1 * (x 1).val = 2 * 512 + 6 * 64 + (x 1).val by omega)]
    refine Eq.trans ?_ (att2_apply i x0 x1 x2 x3 x4 x5 6 (x 0) (x 1))
    refine Eq.trans ?_ (rows_apply (att2 i x0 x1 x2 x3 x4 x5) 6 768 rfl slices_S1024x64_o768_0_S128x64 x)
    rfl
  · simp only [View.readAt_eq_ld, harg2.read_unread, harg3.read_unread, harg4.read_unread, harg5.read_unread, harg6.read_unread, harg7.read_unread]
    intro (x : S128x64.Idx)
    rw [blkArr_at i x0 x1 x2 x3 x4 x5 2 5 (x 0) (x 1) _ (show 0 + 1 * (x 0).val = (x 0).val by omega) (show 1344 + 1 * (x 1).val = 2 * 512 + 5 * 64 + (x 1).val by omega)]
    refine Eq.trans ?_ (att2_apply i x0 x1 x2 x3 x4 x5 5 (x 0) (x 1))
    refine Eq.trans ?_ (rows_apply (att2 i x0 x1 x2 x3 x4 x5) 5 640 rfl slices_S1024x64_o640_0_S128x64 x)
    rfl
  · simp only [View.readAt_eq_ld, harg2.read_unread, harg3.read_unread, harg4.read_unread, harg5.read_unread, harg6.read_unread, harg7.read_unread]
    intro (x : S128x64.Idx)
    rw [blkArr_at i x0 x1 x2 x3 x4 x5 2 4 (x 0) (x 1) _ (show 0 + 1 * (x 0).val = (x 0).val by omega) (show 1280 + 1 * (x 1).val = 2 * 512 + 4 * 64 + (x 1).val by omega)]
    refine Eq.trans ?_ (att2_apply i x0 x1 x2 x3 x4 x5 4 (x 0) (x 1))
    refine Eq.trans ?_ (rows_apply (att2 i x0 x1 x2 x3 x4 x5) 4 512 rfl slices_S1024x64_o512_0_S128x64 x)
    rfl
  · simp only [View.readAt_eq_ld, harg2.read_unread, harg3.read_unread, harg4.read_unread, harg5.read_unread, harg6.read_unread, harg7.read_unread]
    intro (x : S128x64.Idx)
    rw [blkArr_at i x0 x1 x2 x3 x4 x5 2 3 (x 0) (x 1) _ (show 0 + 1 * (x 0).val = (x 0).val by omega) (show 1216 + 1 * (x 1).val = 2 * 512 + 3 * 64 + (x 1).val by omega)]
    refine Eq.trans ?_ (att2_apply i x0 x1 x2 x3 x4 x5 3 (x 0) (x 1))
    refine Eq.trans ?_ (rows_apply (att2 i x0 x1 x2 x3 x4 x5) 3 384 rfl slices_S1024x64_o384_0_S128x64 x)
    rfl
  · simp only [View.readAt_eq_ld, harg2.read_unread, harg3.read_unread, harg4.read_unread, harg5.read_unread, harg6.read_unread, harg7.read_unread]
    intro (x : S128x64.Idx)
    rw [blkArr_at i x0 x1 x2 x3 x4 x5 2 2 (x 0) (x 1) _ (show 0 + 1 * (x 0).val = (x 0).val by omega) (show 1152 + 1 * (x 1).val = 2 * 512 + 2 * 64 + (x 1).val by omega)]
    refine Eq.trans ?_ (att2_apply i x0 x1 x2 x3 x4 x5 2 (x 0) (x 1))
    refine Eq.trans ?_ (rows_apply (att2 i x0 x1 x2 x3 x4 x5) 2 256 rfl slices_S1024x64_o256_0_S128x64 x)
    rfl
  · simp only [View.readAt_eq_ld, harg2.read_unread, harg3.read_unread, harg4.read_unread, harg5.read_unread, harg6.read_unread, harg7.read_unread]
    intro (x : S128x64.Idx)
    rw [blkArr_at i x0 x1 x2 x3 x4 x5 2 1 (x 0) (x 1) _ (show 0 + 1 * (x 0).val = (x 0).val by omega) (show 1088 + 1 * (x 1).val = 2 * 512 + 1 * 64 + (x 1).val by omega)]
    refine Eq.trans ?_ (att2_apply i x0 x1 x2 x3 x4 x5 1 (x 0) (x 1))
    refine Eq.trans ?_ (rows_apply (att2 i x0 x1 x2 x3 x4 x5) 1 128 rfl slices_S1024x64_o128_0_S128x64 x)
    rfl
  · simp only [View.readAt_eq_ld, harg2.read_unread, harg3.read_unread, harg4.read_unread, harg5.read_unread, harg6.read_unread, harg7.read_unread]
    intro (x : S128x64.Idx)
    rw [blkArr_at i x0 x1 x2 x3 x4 x5 2 0 (x 0) (x 1) _ (show 0 + 1 * (x 0).val = (x 0).val by omega) (show 1024 + 1 * (x 1).val = 2 * 512 + 0 * 64 + (x 1).val by omega)]
    refine Eq.trans ?_ (att2_apply i x0 x1 x2 x3 x4 x5 0 (x 0) (x 1))
    refine Eq.trans ?_ (rows_apply (att2 i x0 x1 x2 x3 x4 x5) 0 0 rfl slices_S1024x64_o0_0_S128x64 x)
    rfl
  · simp only [View.readAt_eq_ld, harg2.read_unread, harg3.read_unread, harg4.read_unread, harg5.read_unread, harg6.read_unread, harg7.read_unread]
    intro (x : S128x64.Idx)
    rw [blkArr_at i x0 x1 x2 x3 x4 x5 1 7 (x 0) (x 1) _ (show 0 + 1 * (x 0).val = (x 0).val by omega) (show 960 + 1 * (x 1).val = 1 * 512 + 7 * 64 + (x 1).val by omega)]
    refine Eq.trans ?_ (att1_apply i x0 x1 x2 x3 x4 x5 7 (x 0) (x 1))
    refine Eq.trans ?_ (rows_apply (att1 i x0 x1 x2 x3 x4 x5) 7 896 rfl slices_S1024x64_o896_0_S128x64 x)
    rfl
  · simp only [View.readAt_eq_ld, harg2.read_unread, harg3.read_unread, harg4.read_unread, harg5.read_unread, harg6.read_unread, harg7.read_unread]
    intro (x : S128x64.Idx)
    rw [blkArr_at i x0 x1 x2 x3 x4 x5 1 6 (x 0) (x 1) _ (show 0 + 1 * (x 0).val = (x 0).val by omega) (show 896 + 1 * (x 1).val = 1 * 512 + 6 * 64 + (x 1).val by omega)]
    refine Eq.trans ?_ (att1_apply i x0 x1 x2 x3 x4 x5 6 (x 0) (x 1))
    refine Eq.trans ?_ (rows_apply (att1 i x0 x1 x2 x3 x4 x5) 6 768 rfl slices_S1024x64_o768_0_S128x64 x)
    rfl
  · simp only [View.readAt_eq_ld, harg2.read_unread, harg3.read_unread, harg4.read_unread, harg5.read_unread, harg6.read_unread, harg7.read_unread]
    intro (x : S128x64.Idx)
    rw [blkArr_at i x0 x1 x2 x3 x4 x5 1 5 (x 0) (x 1) _ (show 0 + 1 * (x 0).val = (x 0).val by omega) (show 832 + 1 * (x 1).val = 1 * 512 + 5 * 64 + (x 1).val by omega)]
    refine Eq.trans ?_ (att1_apply i x0 x1 x2 x3 x4 x5 5 (x 0) (x 1))
    refine Eq.trans ?_ (rows_apply (att1 i x0 x1 x2 x3 x4 x5) 5 640 rfl slices_S1024x64_o640_0_S128x64 x)
    rfl
  · simp only [View.readAt_eq_ld, harg2.read_unread, harg3.read_unread, harg4.read_unread, harg5.read_unread, harg6.read_unread, harg7.read_unread]
    intro (x : S128x64.Idx)
    rw [blkArr_at i x0 x1 x2 x3 x4 x5 1 4 (x 0) (x 1) _ (show 0 + 1 * (x 0).val = (x 0).val by omega) (show 768 + 1 * (x 1).val = 1 * 512 + 4 * 64 + (x 1).val by omega)]
    refine Eq.trans ?_ (att1_apply i x0 x1 x2 x3 x4 x5 4 (x 0) (x 1))
    refine Eq.trans ?_ (rows_apply (att1 i x0 x1 x2 x3 x4 x5) 4 512 rfl slices_S1024x64_o512_0_S128x64 x)
    rfl
  · simp only [View.readAt_eq_ld, harg2.read_unread, harg3.read_unread, harg4.read_unread, harg5.read_unread, harg6.read_unread, harg7.read_unread]
    intro (x : S128x64.Idx)
    rw [blkArr_at i x0 x1 x2 x3 x4 x5 1 3 (x 0) (x 1) _ (show 0 + 1 * (x 0).val = (x 0).val by omega) (show 704 + 1 * (x 1).val = 1 * 512 + 3 * 64 + (x 1).val by omega)]
    refine Eq.trans ?_ (att1_apply i x0 x1 x2 x3 x4 x5 3 (x 0) (x 1))
    refine Eq.trans ?_ (rows_apply (att1 i x0 x1 x2 x3 x4 x5) 3 384 rfl slices_S1024x64_o384_0_S128x64 x)
    rfl
  · simp only [View.readAt_eq_ld, harg2.read_unread, harg3.read_unread, harg4.read_unread, harg5.read_unread, harg6.read_unread, harg7.read_unread]
    intro (x : S128x64.Idx)
    rw [blkArr_at i x0 x1 x2 x3 x4 x5 1 2 (x 0) (x 1) _ (show 0 + 1 * (x 0).val = (x 0).val by omega) (show 640 + 1 * (x 1).val = 1 * 512 + 2 * 64 + (x 1).val by omega)]
    refine Eq.trans ?_ (att1_apply i x0 x1 x2 x3 x4 x5 2 (x 0) (x 1))
    refine Eq.trans ?_ (rows_apply (att1 i x0 x1 x2 x3 x4 x5) 2 256 rfl slices_S1024x64_o256_0_S128x64 x)
    rfl
  · simp only [View.readAt_eq_ld, harg2.read_unread, harg3.read_unread, harg4.read_unread, harg5.read_unread, harg6.read_unread, harg7.read_unread]
    intro (x : S128x64.Idx)
    rw [blkArr_at i x0 x1 x2 x3 x4 x5 1 1 (x 0) (x 1) _ (show 0 + 1 * (x 0).val = (x 0).val by omega) (show 576 + 1 * (x 1).val = 1 * 512 + 1 * 64 + (x 1).val by omega)]
    refine Eq.trans ?_ (att1_apply i x0 x1 x2 x3 x4 x5 1 (x 0) (x 1))
    refine Eq.trans ?_ (rows_apply (att1 i x0 x1 x2 x3 x4 x5) 1 128 rfl slices_S1024x64_o128_0_S128x64 x)
    rfl
  · simp only [View.readAt_eq_ld, harg2.read_unread, harg3.read_unread, harg4.read_unread, harg5.read_unread, harg6.read_unread, harg7.read_unread]
    intro (x : S128x64.Idx)
    rw [blkArr_at i x0 x1 x2 x3 x4 x5 1 0 (x 0) (x 1) _ (show 0 + 1 * (x 0).val = (x 0).val by omega) (show 512 + 1 * (x 1).val = 1 * 512 + 0 * 64 + (x 1).val by omega)]
    refine Eq.trans ?_ (att1_apply i x0 x1 x2 x3 x4 x5 0 (x 0) (x 1))
    refine Eq.trans ?_ (rows_apply (att1 i x0 x1 x2 x3 x4 x5) 0 0 rfl slices_S1024x64_o0_0_S128x64 x)
    rfl
  · simp only [View.readAt_eq_ld, harg2.read_unread, harg3.read_unread, harg4.read_unread, harg5.read_unread, harg6.read_unread, harg7.read_unread]
    intro (x : S128x64.Idx)
    rw [blkArr_at i x0 x1 x2 x3 x4 x5 0 7 (x 0) (x 1) _ (show 0 + 1 * (x 0).val = (x 0).val by omega) (show 448 + 1 * (x 1).val = 0 * 512 + 7 * 64 + (x 1).val by omega)]
    refine Eq.trans ?_ (att0_apply i x0 x1 x2 x3 x4 x5 7 (x 0) (x 1))
    refine Eq.trans ?_ (rows_apply (att0 i x0 x1 x2 x3 x4 x5) 7 896 rfl slices_S1024x64_o896_0_S128x64 x)
    rfl
  · simp only [View.readAt_eq_ld, harg2.read_unread, harg3.read_unread, harg4.read_unread, harg5.read_unread, harg6.read_unread, harg7.read_unread]
    intro (x : S128x64.Idx)
    rw [blkArr_at i x0 x1 x2 x3 x4 x5 0 6 (x 0) (x 1) _ (show 0 + 1 * (x 0).val = (x 0).val by omega) (show 384 + 1 * (x 1).val = 0 * 512 + 6 * 64 + (x 1).val by omega)]
    refine Eq.trans ?_ (att0_apply i x0 x1 x2 x3 x4 x5 6 (x 0) (x 1))
    refine Eq.trans ?_ (rows_apply (att0 i x0 x1 x2 x3 x4 x5) 6 768 rfl slices_S1024x64_o768_0_S128x64 x)
    rfl
  · simp only [View.readAt_eq_ld, harg2.read_unread, harg3.read_unread, harg4.read_unread, harg5.read_unread, harg6.read_unread, harg7.read_unread]
    intro (x : S128x64.Idx)
    rw [blkArr_at i x0 x1 x2 x3 x4 x5 0 5 (x 0) (x 1) _ (show 0 + 1 * (x 0).val = (x 0).val by omega) (show 320 + 1 * (x 1).val = 0 * 512 + 5 * 64 + (x 1).val by omega)]
    refine Eq.trans ?_ (att0_apply i x0 x1 x2 x3 x4 x5 5 (x 0) (x 1))
    refine Eq.trans ?_ (rows_apply (att0 i x0 x1 x2 x3 x4 x5) 5 640 rfl slices_S1024x64_o640_0_S128x64 x)
    rfl
  · simp only [View.readAt_eq_ld, harg2.read_unread, harg3.read_unread, harg4.read_unread, harg5.read_unread, harg6.read_unread, harg7.read_unread]
    intro (x : S128x64.Idx)
    rw [blkArr_at i x0 x1 x2 x3 x4 x5 0 4 (x 0) (x 1) _ (show 0 + 1 * (x 0).val = (x 0).val by omega) (show 256 + 1 * (x 1).val = 0 * 512 + 4 * 64 + (x 1).val by omega)]
    refine Eq.trans ?_ (att0_apply i x0 x1 x2 x3 x4 x5 4 (x 0) (x 1))
    refine Eq.trans ?_ (rows_apply (att0 i x0 x1 x2 x3 x4 x5) 4 512 rfl slices_S1024x64_o512_0_S128x64 x)
    rfl
  · simp only [View.readAt_eq_ld, harg2.read_unread, harg3.read_unread, harg4.read_unread, harg5.read_unread, harg6.read_unread, harg7.read_unread]
    intro (x : S128x64.Idx)
    rw [blkArr_at i x0 x1 x2 x3 x4 x5 0 3 (x 0) (x 1) _ (show 0 + 1 * (x 0).val = (x 0).val by omega) (show 192 + 1 * (x 1).val = 0 * 512 + 3 * 64 + (x 1).val by omega)]
    refine Eq.trans ?_ (att0_apply i x0 x1 x2 x3 x4 x5 3 (x 0) (x 1))
    refine Eq.trans ?_ (rows_apply (att0 i x0 x1 x2 x3 x4 x5) 3 384 rfl slices_S1024x64_o384_0_S128x64 x)
    rfl
  · simp only [View.readAt_eq_ld, harg2.read_unread, harg3.read_unread, harg4.read_unread, harg5.read_unread, harg6.read_unread, harg7.read_unread]
    intro (x : S128x64.Idx)
    rw [blkArr_at i x0 x1 x2 x3 x4 x5 0 2 (x 0) (x 1) _ (show 0 + 1 * (x 0).val = (x 0).val by omega) (show 128 + 1 * (x 1).val = 0 * 512 + 2 * 64 + (x 1).val by omega)]
    refine Eq.trans ?_ (att0_apply i x0 x1 x2 x3 x4 x5 2 (x 0) (x 1))
    refine Eq.trans ?_ (rows_apply (att0 i x0 x1 x2 x3 x4 x5) 2 256 rfl slices_S1024x64_o256_0_S128x64 x)
    rfl
  · simp only [View.readAt_eq_ld, harg2.read_unread, harg3.read_unread, harg4.read_unread, harg5.read_unread, harg6.read_unread, harg7.read_unread]
    intro (x : S128x64.Idx)
    rw [blkArr_at i x0 x1 x2 x3 x4 x5 0 1 (x 0) (x 1) _ (show 0 + 1 * (x 0).val = (x 0).val by omega) (show 64 + 1 * (x 1).val = 0 * 512 + 1 * 64 + (x 1).val by omega)]
    refine Eq.trans ?_ (att0_apply i x0 x1 x2 x3 x4 x5 1 (x 0) (x 1))
    refine Eq.trans ?_ (rows_apply (att0 i x0 x1 x2 x3 x4 x5) 1 128 rfl slices_S1024x64_o128_0_S128x64 x)
    rfl
  · simp only [View.readAt_eq_ld, harg2.read_unread, harg3.read_unread, harg4.read_unread, harg5.read_unread, harg6.read_unread, harg7.read_unread]
    intro (x : S128x64.Idx)
    rw [blkArr_at i x0 x1 x2 x3 x4 x5 0 0 (x 0) (x 1) _ (show 0 + 1 * (x 0).val = (x 0).val by omega) (show 0 + 1 * (x 1).val = 0 * 512 + 0 * 64 + (x 1).val by omega)]
    refine Eq.trans ?_ (att0_apply i x0 x1 x2 x3 x4 x5 0 (x 0) (x 1))
    refine Eq.trans ?_ (rows_apply (att0 i x0 x1 x2 x3 x4 x5) 0 0 rfl slices_S1024x64_o0_0_S128x64 x)
    rfl
-- ==== Proof.AttnKer.lean ====
/-
  The attention kernel's result as one function of its two arguments: each grid point writes back its block of 128 rows, read
  from the rows of that block and of the block before, and the blocks cover the array.
-/
module

public import proofs.«01_k».proof.Proof.AttnOut

@[expose] public section
set_option maxRecDepth 16384
noncomputable section
open Idealize.ShloMosaic Idealize.ShloMosaic.TcCoe Idealize.SL.Sem
open Idealize.ShloMosaic.Pipeline (Dat)
open Cert.AttnMath (outv top)
namespace Cert.KernelIdeal.Proved
open Cert.KernelIdeal Cert.KernelIdeal.Gen

variable (m : (ℓ : Loc nD τ sig) → Buf (Elt Ideal) ℓ) (ρ : Dev nD → PrngReg)

/-- The queries, keys and values, side by side. -/
abbrev qArr (c : Dev nD) : Vec Ideal S8192x2560 .f32 := m ((c : Thread nD τ).loc main_arg0)
/-- The sinks, a query head each. -/
abbrev sArr (c : Dev nD) : Vec Ideal S4x8 .f32 := m ((c : Thread nD τ).loc main_arg1)

/-- The block before block `n` in its sequence; the first block of a sequence is its own. -/
def prev (n : Fin 64) : Fin 64 := ⟨if 0 < n.val % 16 then n.val - 1 else n.val, by split <;> omega⟩

/-- Local attention with a sink at row `p` of block `n`, key head `kv`, query head `g` of the key head, and place `d` of the head. -/
def attnAt (Q : Vec Ideal S8192x2560 .f32) (S : Vec Ideal S4x8 .f32) (n : Fin 64) (kv : Fin 4) (g : Fin 8) (p : Fin 128) (d : Fin 64) : EReal :=
  outv (fun s => if s.val ≤ p.val then (∑ k : Fin 64, Q (ix2 ⟨n.val * 128 + p.val, by omega⟩ ⟨kv.val * 512 + g.val * 64 + k.val, by omega⟩)
          * Q (ix2 ⟨n.val * 128 + s.val, by omega⟩ ⟨2048 + (kv.val * 64 + k.val), by omega⟩)) * Ideal.ofBits .f32 0x3E000000#32 else ⊥)
    (fun s => if p.val ≤ s.val ∧ 0 < n.val % 16 then (∑ k : Fin 64, Q (ix2 ⟨n.val * 128 + p.val, by omega⟩ ⟨kv.val * 512 + g.val * 64 + k.val, by omega⟩)
          * Q (ix2 ⟨(prev n).val * 128 + s.val, by omega⟩ ⟨2048 + (kv.val * 64 + k.val), by omega⟩)) * Ideal.ofBits .f32 0x3E000000#32 else ⊥)
    (fun s => Q (ix2 ⟨n.val * 128 + s.val, by omega⟩ ⟨2304 + (kv.val * 64 + d.val), by omega⟩))
    (fun s => Q (ix2 ⟨(prev n).val * 128 + s.val, by omega⟩ ⟨2304 + (kv.val * 64 + d.val), by omega⟩)) (S (ix2 kv g))

/-- The result as one whole array. -/
def attn (Q : Vec Ideal S8192x2560 .f32) (S : Vec Ideal S4x8 .f32) : Vec Ideal S8192x2048 .bf16 := fun y =>
  attnAt Q S ⟨(y 0).val / 128, by have : (y 0).val < 8192 := (y 0).isLt; omega⟩ ⟨(y 1).val / 512, by have : (y 1).val < 2048 := (y 1).isLt; omega⟩
    ⟨(y 1).val / 64 % 8, by omega⟩ ⟨(y 0).val % 128, by omega⟩ ⟨(y 1).val % 64, by omega⟩

theorem tlt (t : Fin cfg0.N) : t.val < 64 := lt_of_lt_of_eq t.isLt (show cfg0.N = 64 from N_0)

/-- A grid point as a block of rows. -/
abbrev bl (t : Fin cfg0.N) : Fin 64 := ⟨t.val, tlt t⟩

/-- Where the windows' blocks lie. -/
theorem idx_facts : ∀ t : Fin cfg0.N, (win0_0.index t (0 : Fin 2) = 0 ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 8)
    ∧ (win0_3.index t (0 : Fin 2) = (if 0 < t.val % 16 then t.val - 1 else t.val) ∧ win0_3.index t (1 : Fin 2) = 8)
    ∧ (win0_4.index t (0 : Fin 2) = t.val ∧ win0_4.index t (1 : Fin 2) = 9)
    ∧ (win0_5.index t (0 : Fin 2) = (if 0 < t.val % 16 then t.val - 1 else t.val) ∧ win0_5.index t (1 : Fin 2) = 9)
    ∧ (win0_6.index t (0 : Fin 2) = t.val ∧ win0_6.index t (1 : Fin 2) = 0)
    ∧ (grid0.coords t 1).val = t.val % 16 :=
  (by decide +kernel : ∀ t : Fin grid0.N, _)

theorem iblk0_apply (c : Dev nD) (t : Fin cfg0.N) (u : Fin 4) (v : Fin 8) : (iblk m c 0 t : Vec Ideal S4x8 .f32) (ix2 u v) = sArr m c (ix2 u v) := by
  obtain ⟨⟨e0, e1⟩, -⟩ := idx_facts t
  show m ((c : Thread nD τ).loc main_arg1) (((cfg0.win 0).blk t).view.emb (ix2 u v)) = _
  congr 1
  funext a; apply Fin.ext
  match a with
  | ⟨0, _⟩ => show win0_0.index t (0 : Fin 2) * 4 + 1 * u.val = u.val; rw [e0]; omega
  | ⟨1, _⟩ => show win0_0.index t (1 : Fin 2) * 8 + 1 * v.val = v.val; rw [e1]; omega

theorem iblk1_apply (c : Dev nD) (t : Fin cfg0.N) (p : Fin 128) (k : Fin 2048) :
    (X0_1 m c t : Vec Ideal S128x2048 .f32) (ix2 p k) = qArr m c (ix2 ⟨t.val * 128 + p.val, by have := tlt t; omega⟩ ⟨k.val, by omega⟩) := by
  obtain ⟨-, ⟨e0, e1⟩, -⟩ := idx_facts t
  unfold X0_1 Pipeline.Window.fill
  rw [dif_pos (moved0_1 t (ix2 p k))]
  unfold iblk
  show m ((c : Thread nD τ).loc main_arg0) (((cfg0.win 1).blk t).view.emb _) = _
  congr 1
  funext a; apply Fin.ext
  match a with
  | ⟨0, _⟩ => show win0_1.index t (0 : Fin 2) * 128 + 1 * p.val = t.val * 128 + p.val; rw [e0]; omega
  | ⟨1, _⟩ => show win0_1.index t (1 : Fin 2) * 2048 + 1 * k.val = k.val; rw [e1]; omega

theorem iblk2_apply (c : Dev nD) (t : Fin cfg0.N) (s : Fin 128) (k : Fin 256) :
    (iblk m c 2 t : Vec Ideal S128x256 .f32) (ix2 s k) = qArr m c (ix2 ⟨t.val * 128 + s.val, by have := tlt t; omega⟩ ⟨2048 + k.val, by omega⟩) := by
  obtain ⟨-, -, ⟨e0, e1⟩, -⟩ := idx_facts t
  show m ((c : Thread nD τ).loc main_arg0) (((cfg0.win 2).blk t).view.emb (ix2 s k)) = _
  congr 1
  funext a; apply Fin.ext
  match a with
  | ⟨0, _⟩ => show win0_2.index t (0 : Fin 2) * 128 + 1 * s.val = t.val * 128 + s.val; rw [e0]; omega
  | ⟨1, _⟩ => show win0_2.index t (1 : Fin 2) * 256 + 1 * k.val = 2048 + k.val; rw [e1]; omega

theorem iblk3_apply (c : Dev nD) (t : Fin cfg0.N) (s : Fin 128) (k : Fin 256) :
    (iblk m c 3 t : Vec Ideal S128x256 .f32) (ix2 s k) = qArr m c (ix2 ⟨(prev (bl t)).val * 128 + s.val, by omega⟩ ⟨2048 + k.val, by omega⟩) := by
  obtain ⟨-, -, -, ⟨e0, e1⟩, -⟩ := idx_facts t
  show m ((c : Thread nD τ).loc main_arg0) (((cfg0.win 3).blk t).view.emb (ix2 s k)) = _
  congr 1
  funext a; apply Fin.ext
  match a with
  | ⟨0, _⟩ => show win0_3.index t (0 : Fin 2) * 128 + 1 * s.val = (if 0 < t.val % 16 then t.val - 1 else t.val) * 128 + s.val; rw [e0]; omega
  | ⟨1, _⟩ => show win0_3.index t (1 : Fin 2) * 256 + 1 * k.val = 2048 + k.val; rw [e1]; omega

theorem iblk4_apply (c : Dev nD) (t : Fin cfg0.N) (s : Fin 128) (k : Fin 256) :
    (iblk m c 4 t : Vec Ideal S128x256 .f32) (ix2 s k) = qArr m c (ix2 ⟨t.val * 128 + s.val, by have := tlt t; omega⟩ ⟨2304 + k.val, by omega⟩) := by
  obtain ⟨-, -, -, -, ⟨e0, e1⟩, -⟩ := idx_facts t
  show m ((c : Thread nD τ).loc main_arg0) (((cfg0.win 4).blk t).view.emb (ix2 s k)) = _
  congr 1
  funext a; apply Fin.ext
  match a with
  | ⟨0, _⟩ => show win0_4.index t (0 : Fin 2) * 128 + 1 * s.val = t.val * 128 + s.val; rw [e0]; omega
  | ⟨1, _⟩ => show win0_4.index t (1 : Fin 2) * 256 + 1 * k.val = 2304 + k.val; rw [e1]; omega

theorem iblk5_apply (c : Dev nD) (t : Fin cfg0.N) (s : Fin 128) (k : Fin 256) :
    (iblk m c 5 t : Vec Ideal S128x256 .f32) (ix2 s k) = qArr m c (ix2 ⟨(prev (bl t)).val * 128 + s.val, by omega⟩ ⟨2304 + k.val, by omega⟩) := by
  obtain ⟨-, -, -, -, -, ⟨e0, e1⟩, -⟩ := idx_facts t
  show m ((c : Thread nD τ).loc main_arg0) (((cfg0.win 5).blk t).view.emb (ix2 s k)) = _
  congr 1
  funext a; apply Fin.ext
  match a with
  | ⟨0, _⟩ => show win0_5.index t (0 : Fin 2) * 128 + 1 * s.val = (if 0 < t.val % 16 then t.val - 1 else t.val) * 128 + s.val; rw [e0]; omega
  | ⟨1, _⟩ => show win0_5.index t (1 : Fin 2) * 256 + 1 * k.val = 2304 + k.val; rw [e1]; omega

/-- What a point leaves in the output's buffer, in terms of the whole arguments. -/
theorem outs_apply (c : Dev nD) (t : Fin cfg0.N) (kv : Fin 4) (g : Fin 8) (p : Fin 128) (d : Fin 64) :
    blk (grid0.coords t) (iblk m c 0 t) (X0_1 m c t) (iblk m c 2 t) (iblk m c 3 t) (iblk m c 4 t) (iblk m c 5 t) kv g p d
      = attnAt (qArr m c) (sArr m c) (bl t) kv g p d := by
  obtain ⟨-, -, -, -, -, -, -, e⟩ := idx_facts t
  unfold blk attnAt
  rw [e]
  simp only [iblk0_apply, iblk1_apply, iblk2_apply, iblk3_apply, iblk4_apply, iblk5_apply]

/-- Point `t` writes back block `t` of the whole array. -/
theorem flushed_eq (c : Dev nD) (t : Fin cfg0.N) (hf : (cfg0.win 6).flush t = true) :
    (dats m 0 c).flushed 6 t = ((cfg0.win 6).blk t).view.read (Elt Ideal) (attn (qArr m c) (sArr m c)) := by
  rw [Value.flushed6_A, out_A]
  funext y
  obtain ⟨p, q, rfl⟩ : ∃ (p : Fin 128) (q : Fin 2048), y = ix2 p q := ⟨y 0, y 1, eq_ix2 y⟩
  obtain ⟨-, -, -, -, -, -, ⟨e0, e1⟩, -⟩ := idx_facts t
  have hi : ((cfg0.win 6).blk t).view.emb (ix2 p q) = (ix2 ⟨t.val * 128 + p.val, by have := tlt t; omega⟩ q : S8192x2048.Idx) := by
    funext a; apply Fin.ext
    match a with
    | ⟨0, _⟩ => show win0_6.index t (0 : Fin 2) * 128 + 1 * p.val = t.val * 128 + p.val; rw [e0]; omega
    | ⟨1, _⟩ => show win0_6.index t (1 : Fin 2) * 2048 + 1 * q.val = q.val; rw [e1]; omega
  show blkArr (grid0.coords t) (iblk m c 0 t) (X0_1 m c t) (iblk m c 2 t) (iblk m c 3 t) (iblk m c 4 t) (iblk m c 5 t) (ix2 p q)
    = attn (qArr m c) (sArr m c) (((cfg0.win 6).blk t).view.emb (ix2 p q))
  rw [hi]
  unfold blkArr attn
  refine (outs_apply m c t _ _ _ _).trans ?_
  congr 1
  · apply Fin.ext; show t.val = (t.val * 128 + p.val) / 128; omega
  · apply Fin.ext; show p.val = (t.val * 128 + p.val) % 128; omega

/-- The points' blocks cover the array: row `r` lies in block `r / 128`. -/
theorem covered (i : S8192x2048.Idx) : ∃ t : Fin cfg0.N, (cfg0.win 6).flush t = true ∧ i ∈ ((cfg0.win 6).blk t).view.set := by
  have h0 : (i 0).val < 8192 := (i 0).isLt
  have h1 : (i 1).val < 2048 := (i 1).isLt
  obtain ⟨t, ht⟩ : ∃ t : Fin cfg0.N, t.val = (i 0).val / 128 := ⟨⟨(i 0).val / 128, lt_of_lt_of_eq (by omega : _ < 64) (show 64 = cfg0.N from N_0.symm)⟩, rfl⟩
  obtain ⟨-, -, -, -, -, -, ⟨e0, e1⟩, -⟩ := idx_facts t
  refine ⟨t, flush0_6 t, ?_⟩
  show i ∈ ((View.whole main_v0).slice (win0_6.rect t)).set
  rw [View.set_slice_whole, Rect.mem_set_unit]
  intro a
  match a with
  | ⟨0, _⟩ => show win0_6.index t (0 : Fin 2) * 128 ≤ (i 0).val ∧ (i 0).val < win0_6.index t (0 : Fin 2) * 128 + 128; omega
  | ⟨1, _⟩ => show win0_6.index t (1 : Fin 2) * 2048 ≤ (i 1).val ∧ (i 1).val < win0_6.index t (1 : Fin 2) * 2048 + 2048; omega

/-- The array after the run. -/
theorem final_o (c : Dev nD) : (dats m 0 c).arrAt 6 cfg0.N = attn (qArr m c) (sArr m c) :=
  (dats m 0 c).arrAt_eq_of_cover 6 _ (fun t hf => flushed_eq m c t hf) fun i => covered i

end Cert.KernelIdeal.Proved
end
-- ==== Proof.AttnMask.lean ====
/-
  The reference's two masks at an index: integer comparisons of the query's row and the key's place in the band of two blocks.
  Together they are the kernel's masks of the current and of the previous block.
-/
module

public import proofs.«01_k».proof.Proof.Gen.ReferenceIdeal.Read
public import Idealize.ShloMosaic.Lib.ValueIdxRank6
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.ReferenceIdeal.Proved

open Cert.ReferenceIdeal Cert.ReferenceIdeal.Gen Cert.ReferenceIdeal.Read

/-- The mask of the pairs within the window: not before the query's row of the block before, and not past the query. -/
theorem v41_at (p : Fin 128) (s : Fin 256) : val_main_v41 (F := Ideal) (ix2 p s) = if p.val ≤ s.val ∧ s.val ≤ p.val + 128 then 1#1 else 0#1 := by
  simp only [val_main_v41_apply, val_main_v40_apply, val_main_v39_apply, val_main_v38_apply, val_main_v37_apply, val_main_v26_apply, val_main_v25_apply,
    val_main_v24_apply, val_main_v23_apply, val_main_v22_apply, val_main_v21_apply, val_main_v20_apply, val_main_v19_apply, val_main_v18_apply,
    val_main_c_apply, val_main_c_3_apply, val_main_c_4_apply]
  revert p s
  decide +kernel

/-- The mask of the keys that the sequence has. -/
theorem v43_at (i : Fin 16) (z : Fin 1) (s : Fin 256) : val_main_v43 (F := Ideal) (ix3 i z s) = if 0 < i.val ∨ 128 ≤ s.val then 1#1 else 0#1 := by
  simp only [val_main_v43_apply, val_main_v42_apply, val_main_v36_apply, val_main_v35_apply, val_main_v34_apply, val_main_v33_apply, val_main_v32_apply,
    val_main_v31_apply, val_main_v30_apply, val_main_v29_apply, val_main_v28_apply, val_main_v27_apply, val_main_v21_apply, val_main_v20_apply,
    val_main_c_1_apply, val_main_c_2_apply, val_main_c_5_apply]
  revert i z s
  decide +kernel

end Cert.ReferenceIdeal.Proved
end
-- ==== Proof.AttnRef.lean ====
/-
  The attention reference's operations read one by one at an index: blocks and heads, the band of the previous and the current
  block, the mask, the logits with the sink at the end of the row, the weights, and the sum over the band.
-/
module

public import proofs.«01_k».proof.Proof.AttnKer
public import proofs.«01_k».proof.Proof.AttnMask
public import proofs.«01_k».proof.Proof.Gen.ReferenceIdeal.Run
public import proofs.«01_k».proof.Proof.Gen.ReferenceIdeal.Read
public import Idealize.ShloMosaic.Lib.ValueIdxRank6
public import Idealize.ShloMosaic.Lib.Pointwise
public import Idealize.ShloMosaic.Lib.Tactic

@[expose] public section

set_option maxRecDepth 16384

noncomputable section

open Idealize.ShloMosaic Idealize.ShloMosaic.TcCoe Idealize.SL.Sem
open Cert.AttnMath (outv top)

namespace Cert.ReferenceIdeal.Proved

open Cert.ReferenceIdeal Cert.ReferenceIdeal.Gen Cert.ReferenceIdeal.Read

variable (x : Vec Ideal S8192x2560 .f32) (sk : Vec Ideal S4x8 .f32)

/-- Row `p` of block `i` of sequence `b`. -/
abbrev row (b : Fin 4) (i : Fin 16) (p : Fin 128) : Fin 8192 := ⟨(b.val * 16 + i.val) * 128 + p.val, by omega⟩

/-- The queries, split into blocks and heads. -/
theorem v1_at (b : Fin 4) (i : Fin 16) (p : Fin 128) (kv : Fin 4) (g : Fin 8) (k : Fin 64) :
    val_main_v1 (F := Ideal) x (ix6 b i p kv g k) = x (ix2 (row b i p) ⟨kv.val * 512 + g.val * 64 + k.val, by omega⟩) := by
  unfold val_main_v1
  refine (shapeCast_apply (val_main_v0 (F := Ideal) x) shapeCasts_S8192x2048_S4x16x128x4x8x64 (ix6 b i p kv g k)
    (ix2 (row b i p) ⟨kv.val * 512 + g.val * 64 + k.val, by omega⟩ : S8192x2048.Idx) (by
      rewrite [Shape.rowMajor_val_two, Shape.rowMajor_val_six]
      show ((b.val * 16 + i.val) * 128 + p.val) * 2048 + (kv.val * 512 + g.val * 64 + k.val)
        = (((((b.val * 16 + i.val) * 128 + p.val) * 4 + kv.val) * 8 + g.val) * 64 + k.val)
      omega)).trans ?_
  rw [val_main_v0_apply]
  refine congrArg x (funext fun a => Fin.ext ?_)
  match a with | ⟨0, _⟩ => rfl | ⟨1, _⟩ => rfl

/-- The keys, split into blocks and heads. -/
theorem v3_at (b : Fin 4) (i : Fin 16) (p : Fin 128) (kv : Fin 4) (k : Fin 64) :
    val_main_v3 (F := Ideal) x (ix5 b i p kv k) = x (ix2 (row b i p) ⟨2048 + (kv.val * 64 + k.val), by omega⟩) := by
  rw [val_main_v3_apply, val_main_v2_apply]
  refine congrArg x (funext fun a => Fin.ext ?_)
  match a with
  | ⟨0, _⟩ => show (((((b.val * 16 + i.val) * 128 + p.val) * 4 + kv.val) * 64 + k.val)) / 256 = (b.val * 16 + i.val) * 128 + p.val; omega
  | ⟨1, _⟩ => show 2048 + (((((b.val * 16 + i.val) * 128 + p.val) * 4 + kv.val) * 64 + k.val)) % 256 = 2048 + (kv.val * 64 + k.val); omega

/-- The values, split into blocks and heads. -/
theorem v5_at (b : Fin 4) (i : Fin 16) (p : Fin 128) (kv : Fin 4) (k : Fin 64) :
    val_main_v5 (F := Ideal) x (ix5 b i p kv k) = x (ix2 (row b i p) ⟨2304 + (kv.val * 64 + k.val), by omega⟩) := by
  rw [val_main_v5_apply, val_main_v4_apply]
  refine congrArg x (funext fun a => Fin.ext ?_)
  match a with
  | ⟨0, _⟩ => show (((((b.val * 16 + i.val) * 128 + p.val) * 4 + kv.val) * 64 + k.val)) / 256 = (b.val * 16 + i.val) * 128 + p.val; omega
  | ⟨1, _⟩ => show 2304 + (((((b.val * 16 + i.val) * 128 + p.val) * 4 + kv.val) * 64 + k.val)) % 256 = 2304 + (kv.val * 64 + k.val); omega

/-- The keys of the block before, where there is one. -/
theorem v9_at (b : Fin 4) (i : Fin 16) (hi : 0 < i.val) (p : Fin 128) (kv : Fin 4) (k : Fin 64) :
    val_main_v9 (F := Ideal) x (ix5 b i p kv k) = x (ix2 (row b ⟨i.val - 1, by omega⟩ p) ⟨2048 + (kv.val * 64 + k.val), by omega⟩) := by
  unfold val_main_v9
  rw [concatenate_pair_apply_right (1 : Fin 5) (val_main_v7 (F := Ideal)) (val_main_v8 (F := Ideal) x) _ (ix5 b i p kv k) rfl rfl
    (ix5 b (⟨i.val - 1, by omega⟩ : Fin 15) p kv k : S4x15x128x4x64.Idx)
    (fun a ha => by match a with | ⟨0, _⟩ => rfl | ⟨1, _⟩ => exact absurd rfl ha | ⟨2, _⟩ => rfl | ⟨3, _⟩ => rfl | ⟨4, _⟩ => rfl)
    (by show i.val - 1 + 1 = i.val; omega)]
  rw [val_main_v8_apply]
  refine Eq.trans ?_ (v3_at x b _ p kv k)
  refine congrArg _ (funext fun a => ?_)
  match a with | ⟨0, _⟩ => rfl | ⟨1, _⟩ => rfl | ⟨2, _⟩ => rfl | ⟨3, _⟩ => rfl | ⟨4, _⟩ => rfl

/-- The values of the block before, where there is one. -/
theorem v12_at (b : Fin 4) (i : Fin 16) (hi : 0 < i.val) (p : Fin 128) (kv : Fin 4) (k : Fin 64) :
    val_main_v12 (F := Ideal) x (ix5 b i p kv k) = x (ix2 (row b ⟨i.val - 1, by omega⟩ p) ⟨2304 + (kv.val * 64 + k.val), by omega⟩) := by
  unfold val_main_v12
  rw [concatenate_pair_apply_right (1 : Fin 5) (val_main_v7 (F := Ideal)) (val_main_v11 (F := Ideal) x) _ (ix5 b i p kv k) rfl rfl
    (ix5 b (⟨i.val - 1, by omega⟩ : Fin 15) p kv k : S4x15x128x4x64.Idx)
    (fun a ha => by match a with | ⟨0, _⟩ => rfl | ⟨1, _⟩ => exact absurd rfl ha | ⟨2, _⟩ => rfl | ⟨3, _⟩ => rfl | ⟨4, _⟩ => rfl)
    (by show i.val - 1 + 1 = i.val; omega)]
  rw [val_main_v11_apply]
  refine Eq.trans ?_ (v5_at x b _ p kv k)
  refine congrArg _ (funext fun a => ?_)
  match a with | ⟨0, _⟩ => rfl | ⟨1, _⟩ => rfl | ⟨2, _⟩ => rfl | ⟨3, _⟩ => rfl | ⟨4, _⟩ => rfl

/-- The band of keys: the block before, then the block. -/
theorem v10_prev (b : Fin 4) (i : Fin 16) (s : Fin 128) (kv : Fin 4) (k : Fin 64) :
    val_main_v10 (F := Ideal) x (ix5 b i (⟨s.val, by omega⟩ : Fin 256) kv k) = val_main_v9 (F := Ideal) x (ix5 b i s kv k) := by
  unfold val_main_v10
  exact concatenate_pair_apply_left (2 : Fin 5) (val_main_v9 (F := Ideal) x) (val_main_v3 (F := Ideal) x) _ (ix5 b i (⟨s.val, by omega⟩ : Fin 256) kv k : S4x16x256x4x64.Idx) rfl (ix5 b i s kv k : S4x16x128x4x64.Idx)
    (fun a => by match a with | ⟨0, _⟩ => rfl | ⟨1, _⟩ => rfl | ⟨2, _⟩ => rfl | ⟨3, _⟩ => rfl | ⟨4, _⟩ => rfl)

theorem v10_cur (b : Fin 4) (i : Fin 16) (s : Fin 128) (kv : Fin 4) (k : Fin 64) :
    val_main_v10 (F := Ideal) x (ix5 b i (⟨128 + s.val, by omega⟩ : Fin 256) kv k) = val_main_v3 (F := Ideal) x (ix5 b i s kv k) := by
  unfold val_main_v10
  exact concatenate_pair_apply_right (2 : Fin 5) (val_main_v9 (F := Ideal) x) (val_main_v3 (F := Ideal) x) _ (ix5 b i (⟨128 + s.val, by omega⟩ : Fin 256) kv k : S4x16x256x4x64.Idx) rfl rfl (ix5 b i s kv k : S4x16x128x4x64.Idx)
    (fun a ha => by match a with | ⟨0, _⟩ => rfl | ⟨1, _⟩ => rfl | ⟨2, _⟩ => exact absurd rfl ha | ⟨3, _⟩ => rfl | ⟨4, _⟩ => rfl)
    (by show s.val + 128 = 128 + s.val; omega)

/-- The band of values: the block before, then the block. -/
theorem v13_prev (b : Fin 4) (i : Fin 16) (s : Fin 128) (kv : Fin 4) (k : Fin 64) :
    val_main_v13 (F := Ideal) x (ix5 b i (⟨s.val, by omega⟩ : Fin 256) kv k) = val_main_v12 (F := Ideal) x (ix5 b i s kv k) := by
  unfold val_main_v13
  exact concatenate_pair_apply_left (2 : Fin 5) (val_main_v12 (F := Ideal) x) (val_main_v5 (F := Ideal) x) _ (ix5 b i (⟨s.val, by omega⟩ : Fin 256) kv k : S4x16x256x4x64.Idx) rfl (ix5 b i s kv k : S4x16x128x4x64.Idx)
    (fun a => by match a with | ⟨0, _⟩ => rfl | ⟨1, _⟩ => rfl | ⟨2, _⟩ => rfl | ⟨3, _⟩ => rfl | ⟨4, _⟩ => rfl)

theorem v13_cur (b : Fin 4) (i : Fin 16) (s : Fin 128) (kv : Fin 4) (k : Fin 64) :
    val_main_v13 (F := Ideal) x (ix5 b i (⟨128 + s.val, by omega⟩ : Fin 256) kv k) = val_main_v5 (F := Ideal) x (ix5 b i s kv k) := by
  unfold val_main_v13
  exact concatenate_pair_apply_right (2 : Fin 5) (val_main_v12 (F := Ideal) x) (val_main_v5 (F := Ideal) x) _ (ix5 b i (⟨128 + s.val, by omega⟩ : Fin 256) kv k : S4x16x256x4x64.Idx) rfl rfl (ix5 b i s kv k : S4x16x128x4x64.Idx)
    (fun a ha => by match a with | ⟨0, _⟩ => rfl | ⟨1, _⟩ => rfl | ⟨2, _⟩ => exact absurd rfl ha | ⟨3, _⟩ => rfl | ⟨4, _⟩ => rfl)
    (by show s.val + 128 = 128 + s.val; omega)

/-- The mask at an index of the logits. -/
theorem mask_at (b : Fin 4) (i : Fin 16) (kv : Fin 4) (g : Fin 8) (p : Fin 128) (s : Fin 256) :
    val_main_call0_v1 (F := Ideal) (ix6 b i kv g p s) = if (p.val ≤ s.val ∧ s.val ≤ p.val + 128) ∧ (0 < i.val ∨ 128 ≤ s.val) then 1#1 else 0#1 := by
  rw [val_main_call0_v1_apply, val_main_v48_apply, val_main_v47_apply, val_main_v45_apply, val_main_v44_apply, val_main_v46_apply]
  have e1 : idx_main_v44 (idx_main_v45 (idx_main_v48 (idx_main_call0_v1 (ix6 b i kv g p s)))) = ix2 p s := funext fun a => by
    match a with | ⟨0, _⟩ => rfl | ⟨1, _⟩ => rfl
  have e2 : idx_main_v46 (idx_main_v48 (idx_main_call0_v1 (ix6 b i kv g p s))) = ix3 i 0 s := funext fun a => by
    match a with | ⟨0, _⟩ => rfl | ⟨1, _⟩ => rfl | ⟨2, _⟩ => rfl
  rw [e1, e2, v41_at, v43_at]
  by_cases h1 : p.val ≤ s.val ∧ s.val ≤ p.val + 128 <;> by_cases h2 : 0 < i.val ∨ 128 ≤ s.val <;> simp only [h1, h2, and_true, and_false, if_true, if_false] <;> rfl

/-- The product of a key and a query, scaled. -/
theorem v17_at (b : Fin 4) (i : Fin 16) (kv : Fin 4) (g : Fin 8) (p : Fin 128) (s : Fin 256) :
    val_main_v17 (F := Ideal) x (ix6 b i kv g p s)
      = (∑ k : Fin 64, x (ix2 (row b i p) ⟨kv.val * 512 + g.val * 64 + k.val, by omega⟩) * val_main_v10 (F := Ideal) x (ix5 b i s kv k)) * Ideal.ofBits .f32 0x3E000000#32 := by
  rw [val_main_v17_apply, val_main_v16_apply, val_main_v15_apply, val_main_v14_apply, val_main_cst_0_apply]
  refine congrArg (· * Ideal.ofBits .f32 0x3E000000#32) (Finset.sum_congr rfl fun k _ => ?_)
  rw [mul_comm, ← v1_at x b i p kv g k]
  refine congrArg₂ (· * ·) (congrArg _ (funext fun a => ?_)) (congrArg _ (funext fun a => ?_))
  · match a with | ⟨0, _⟩ => rfl | ⟨1, _⟩ => rfl | ⟨2, _⟩ => rfl | ⟨3, _⟩ => rfl | ⟨4, _⟩ => rfl | ⟨5, _⟩ => rfl
  · match a with | ⟨0, _⟩ => rfl | ⟨1, _⟩ => rfl | ⟨2, _⟩ => rfl | ⟨3, _⟩ => rfl | ⟨4, _⟩ => rfl

/-- A masked logit. -/
theorem v49_at (b : Fin 4) (i : Fin 16) (kv : Fin 4) (g : Fin 8) (p : Fin 128) (s : Fin 256) :
    val_main_v49 (F := Ideal) x (ix6 b i kv g p s)
      = if (p.val ≤ s.val ∧ s.val ≤ p.val + 128) ∧ (0 < i.val ∨ 128 ≤ s.val) then
          (∑ k : Fin 64, x (ix2 (row b i p) ⟨kv.val * 512 + g.val * 64 + k.val, by omega⟩) * val_main_v10 (F := Ideal) x (ix5 b i s kv k)) * Ideal.ofBits .f32 0x3E000000#32
        else ⊥ := by
  have hb : Ideal.ofBits FTy.f32 0xFF800000#32 = ⊥ := by simp [Ideal.ofBits, Ideal.ieee]
  rw [val_main_v49_apply, mask_at, v17_at, val_main_call0_v2_apply, val_main_call0_v0_apply, val_main_cst_6_apply]
  by_cases h : (p.val ≤ s.val ∧ s.val ≤ p.val + 128) ∧ (0 < i.val ∨ 128 ≤ s.val)
  · rw [if_pos h, if_pos h]; rfl
  · rw [if_neg h, if_neg h]; exact hb

/-- The row of logits with the sink at its end. -/
theorem v52_key (b : Fin 4) (i : Fin 16) (kv : Fin 4) (g : Fin 8) (p : Fin 128) (s : Fin 256) :
    val_main_v52 (F := Ideal) x sk (ix6 b i kv g p (⟨s.val, by omega⟩ : Fin 257)) = val_main_v49 (F := Ideal) x (ix6 b i kv g p s) := by
  unfold val_main_v52
  exact concatenate_pair_apply_left (5 : Fin 6) (val_main_v49 (F := Ideal) x) (val_main_v51 (F := Ideal) sk) _ (ix6 b i kv g p (⟨s.val, by omega⟩ : Fin 257) : S4x16x4x8x128x257.Idx) rfl
    (ix6 b i kv g p s : S4x16x4x8x128x256.Idx)
    (fun a => by match a with | ⟨0, _⟩ => rfl | ⟨1, _⟩ => rfl | ⟨2, _⟩ => rfl | ⟨3, _⟩ => rfl | ⟨4, _⟩ => rfl | ⟨5, _⟩ => rfl)

theorem v52_sink (b : Fin 4) (i : Fin 16) (kv : Fin 4) (g : Fin 8) (p : Fin 128) :
    val_main_v52 (F := Ideal) x sk (ix6 b i kv g p (⟨256, by omega⟩ : Fin 257)) = sk (ix2 kv g) := by
  unfold val_main_v52
  rw [concatenate_pair_apply_right (5 : Fin 6) (val_main_v49 (F := Ideal) x) (val_main_v51 (F := Ideal) sk) _ (ix6 b i kv g p (⟨256, by omega⟩ : Fin 257) : S4x16x4x8x128x257.Idx) rfl rfl
    (ix6 b i kv g p (0 : Fin 1) : S4x16x4x8x128x1.Idx)
    (fun a ha => by match a with | ⟨0, _⟩ => rfl | ⟨1, _⟩ => rfl | ⟨2, _⟩ => rfl | ⟨3, _⟩ => rfl | ⟨4, _⟩ => rfl | ⟨5, _⟩ => exact absurd rfl ha)
    rfl, val_main_v51_apply, val_main_v50_apply]
  refine congrArg sk (funext fun a => ?_)
  match a with | ⟨0, _⟩ => rfl | ⟨1, _⟩ => rfl

/-- The greatest logit of a row. -/
theorem v55_at (b : Fin 4) (i : Fin 16) (kv : Fin 4) (g : Fin 8) (p : Fin 128) :
    val_main_v55 (F := Ideal) x sk (ix5 b i kv g p) = max ⊥ (Finset.fold max ⊥ (fun k : Fin 257 => val_main_v52 (F := Ideal) x sk (ix6 b i kv g p k)) Finset.univ) := by
  have hb : Ideal.ofBits FTy.f32 0xFF800000#32 = ⊥ := by simp [Ideal.ofBits, Ideal.ieee]
  rw [val_main_v55_apply, val_main_v54_apply, val_main_cst_8_apply]
  refine congrArg₂ max hb ?_
  unfold val_main_v53
  refine (Host.reduce_eq_fold_single (FloatOps.maximumf (F := Ideal) (φ := .f32)) (val_main_v52 (F := Ideal) x sk) (val_main_cst_7 (F := Ideal)) reducesTo_S4x16x4x8x128x257_S4x16x4x8x128_d5 (by decide) h_S_ (ix5 b i kv g p)).trans ?_
  rw [val_main_cst_7_apply]
  refine (congrArg₂ (fun (z : EReal) (f : Fin 257 → EReal) => Finset.fold max z f Finset.univ) hb (funext fun k => congrArg (val_main_v52 (F := Ideal) x sk) (funext fun a => ?_)) : _)
  match a with | ⟨0, _⟩ => rfl | ⟨1, _⟩ => rfl | ⟨2, _⟩ => rfl | ⟨3, _⟩ => rfl | ⟨4, _⟩ => rfl | ⟨5, _⟩ => rfl

/-- A weight before the division. -/
theorem v59_at (b : Fin 4) (i : Fin 16) (kv : Fin 4) (g : Fin 8) (p : Fin 128) (k : Fin 257) :
    val_main_v59 (F := Ideal) x sk (ix6 b i kv g p k) = Ideal.exp (val_main_v52 (F := Ideal) x sk (ix6 b i kv g p k) - val_main_v55 (F := Ideal) x sk (ix5 b i kv g p)) := by
  rw [val_main_v59_apply, val_main_v58_apply, val_main_v57_apply, val_main_v56_apply]
  have e : idx_main_v56 (idx_main_v57 (ix6 b i kv g p k)) = ix5 b i kv g p := funext fun a => by
    match a with | ⟨0, _⟩ => rfl | ⟨1, _⟩ => rfl | ⟨2, _⟩ => rfl | ⟨3, _⟩ => rfl | ⟨4, _⟩ => rfl
  rw [e]
  rfl

/-- A weight. -/
theorem v64_at (b : Fin 4) (i : Fin 16) (kv : Fin 4) (g : Fin 8) (p : Fin 128) (k : Fin 256) :
    val_main_v64 (F := Ideal) x sk (ix6 b i kv g p k)
      = Ideal.div (val_main_v59 (F := Ideal) x sk (ix6 b i kv g p (⟨k.val, by omega⟩ : Fin 257))) (0 + ∑ k : Fin 257, val_main_v59 (F := Ideal) x sk (ix6 b i kv g p k)) := by
  rw [val_main_v64_apply, val_main_v63_apply, val_main_v62_apply, val_main_v61_apply, val_main_v60_apply, val_main_cst_9_apply]
  refine congrArg₂ Ideal.div (congrArg _ (funext fun a => ?_)) (congrArg₂ (· + ·) (by show Ideal.ofBits .f32 0#32 = 0; simp [Ideal.ofBits, Ideal.ieee]) (Finset.sum_congr rfl fun k _ => congrArg _ (funext fun a => ?_)))
  · match a with | ⟨0, _⟩ => rfl | ⟨1, _⟩ => rfl | ⟨2, _⟩ => rfl | ⟨3, _⟩ => rfl | ⟨4, _⟩ => rfl | ⟨5, _⟩ => rfl
  · match a with | ⟨0, _⟩ => rfl | ⟨1, _⟩ => rfl | ⟨2, _⟩ => rfl | ⟨3, _⟩ => rfl | ⟨4, _⟩ => rfl | ⟨5, _⟩ => rfl

/-- The result at an index, as the sum over the band. -/
theorem v68_at (b : Fin 4) (i : Fin 16) (kv : Fin 4) (g : Fin 8) (p : Fin 128) (d : Fin 64) :
    val_main_v68 (F := Ideal) x sk (ix2 (row b i p) (⟨kv.val * 512 + g.val * 64 + d.val, by omega⟩ : Fin 2048))
      = ∑ k : Fin 256, val_main_v13 (F := Ideal) x (ix5 b i k kv d) * val_main_v64 (F := Ideal) x sk (ix6 b i kv g p k) := by
  rw [val_main_v68_apply]
  show val_main_v67 (F := Ideal) x sk _ = _
  unfold val_main_v67
  refine (shapeCast_apply (val_main_v66 (F := Ideal) x sk) shapeCasts_S4x16x128x4x8x64_S8192x2048 _ (ix6 b i p kv g d : S4x16x128x4x8x64.Idx) (by
      rewrite [Shape.rowMajor_val_two, Shape.rowMajor_val_six]
      show (((((b.val * 16 + i.val) * 128 + p.val) * 4 + kv.val) * 8 + g.val) * 64 + d.val)
        = ((b.val * 16 + i.val) * 128 + p.val) * 2048 + (kv.val * 512 + g.val * 64 + d.val)
      omega)).trans ?_
  rw [val_main_v66_apply, val_main_v65_apply]
  refine Finset.sum_congr rfl fun k _ => congrArg₂ (· * ·) (congrArg _ (funext fun a => ?_)) (congrArg _ (funext fun a => ?_))
  · match a with | ⟨0, _⟩ => rfl | ⟨1, _⟩ => rfl | ⟨2, _⟩ => rfl | ⟨3, _⟩ => rfl | ⟨4, _⟩ => rfl
  · match a with | ⟨0, _⟩ => rfl | ⟨1, _⟩ => rfl | ⟨2, _⟩ => rfl | ⟨3, _⟩ => rfl | ⟨4, _⟩ => rfl | ⟨5, _⟩ => rfl

end Cert.ReferenceIdeal.Proved
end
-- ==== Proof.AttnValue.lean ====
/-
  Local attention with a sink: the kernel's blocks and the reference's written-out softmax give one array. The
  precondition says that the queries, the keys and the sinks are finite; so every logit is a real or the mask's `-inf`
  (`logit_ne_top`), and the greatest of a row's logits is a real. Each element of the reference's result is then the
  kernel's (`ref_at`), by `Cert.AttnMath.ref_outv`.
-/
module

public import proofs.«01_k».proof.Defs
public import proofs.«01_k».proof.Proof.AttnKer
public import proofs.«01_k».proof.Proof.AttnRef
public import proofs.«01_k».proof.Proof.Gen.Pre_finite_qk

@[expose] public section

set_option maxRecDepth 16384

noncomputable section

open Idealize.ShloMosaic Idealize.ShloMosaic.TcCoe Idealize.SL.Sem
open Cert.AttnMath (outv top)

namespace Cert.ReferenceIdeal.Proved

open Cert.ReferenceIdeal Cert.ReferenceIdeal.Gen Cert.ReferenceIdeal.Read

/-- An extended real whose absolute value lies below infinity is a real. -/
theorem real_of_abs_lt (a : EReal) (h : Ideal.cmp .olt (max a (-a)) (Ideal.ofBits .f32 0x7F800000#32) = 1#1) : ∃ r : ℝ, a = (r : EReal) := by
  have hb : Ideal.ofBits FTy.f32 0x7F800000#32 = ⊤ := by simp [Ideal.ofBits, Ideal.ieee]
  rw [hb] at h
  induction a using EReal.rec with
  | bot => simp [Ideal.cmp] at h
  | top => simp [Ideal.cmp] at h
  | coe r => exact ⟨r, rfl⟩

/-- What the precondition says of the activations: the queries and the keys are reals. -/
theorem x_real (x : Vec Ideal S8192x2560 .f32) (sk : Vec Ideal S4x8 .f32)
    (h : (@Cert.Pre_finite_qk.fn Cert.Pre_finite_qk.Gen.facts Ideal _ x sk).1 = fun _ => 1#1) (r : Fin 8192) (k : Fin 2560) (hk : k.val < 2304) :
    ∃ a : ℝ, x (ix2 r k) = (a : EReal) := by
  have h1 := congrFun h (ix2 r (⟨k.val, hk⟩ : Fin 2304))
  have e : extractStridedSlice (⟨2, ![8192, 2304]⟩ : Shape) ![0, 0] x Cert.Pre_finite_qk.Gen.facts.slices_S8192x2560_S8192x2304_0_0 (ix2 r (⟨k.val, hk⟩ : Fin 2304)) = x (ix2 r k) :=
    extractStridedSlice_apply _ _ _ _ _ (fun a => by match a with | ⟨0, _⟩ => (show r.val = 0 + r.val; omega) | ⟨1, _⟩ => (show k.val = 0 + k.val; omega))
  rw [← e]
  exact real_of_abs_lt _ h1

/-- What the precondition says of the sinks: they are reals. -/
theorem sk_real (x : Vec Ideal S8192x2560 .f32) (sk : Vec Ideal S4x8 .f32)
    (h : (@Cert.Pre_finite_qk.fn Cert.Pre_finite_qk.Gen.facts Ideal _ x sk).2 = fun _ => 1#1) (u : Fin 4) (v : Fin 8) :
    ∃ a : ℝ, sk (ix2 u v) = (a : EReal) :=
  real_of_abs_lt _ (congrFun h (ix2 u v))

/-- A finite sum of reals is a real. -/
theorem sum_reals {n : Nat} (f : Fin n → EReal) (h : ∀ k, ∃ a : ℝ, f k = (a : EReal)) : ∃ a : ℝ, ∑ k, f k = (a : EReal) := by
  choose g hg using h
  refine ⟨∑ k, g k, ?_⟩
  simp only [hg]
  induction (Finset.univ : Finset (Fin n)) using Finset.induction_on with
  | empty => simp
  | insert a S ha ih => rw [Finset.sum_insert ha, Finset.sum_insert ha, ih, EReal.coe_add]

/-- A logit of finite queries and keys is not infinity. -/
theorem logit_ne_top (c : Prop) [Decidable c] (q k : Fin 64 → EReal) (hq : ∀ i, ∃ a : ℝ, q i = (a : EReal)) (hk : ∀ i, ∃ a : ℝ, k i = (a : EReal)) :
    (if c then (∑ i, q i * k i) * Ideal.ofBits .f32 0x3E000000#32 else ⊥ : EReal) ≠ ⊤ := by
  split
  · obtain ⟨s, hs⟩ := sum_reals (fun i => q i * k i) (fun i => by
      obtain ⟨a, ha⟩ := hq i
      obtain ⟨b, hb⟩ := hk i
      exact ⟨a * b, by rw [ha, hb, EReal.coe_mul]⟩)
    have hb : ∃ r : ℝ, Ideal.ofBits FTy.f32 0x3E000000#32 = (r : EReal) := ⟨_, by simp only [Ideal.ofBits, Ideal.ieee]; simp; rfl⟩
    obtain ⟨r, hr⟩ := hb
    rw [hs, hr, ← EReal.coe_mul]
    exact EReal.coe_ne_top _
  · exact bot_ne_top

variable (x : Vec Ideal S8192x2560 .f32) (sk : Vec Ideal S4x8 .f32)

/-- The reference's result at a row of a block, a key head, a query head of it and a place of the head. -/
theorem ref_at (hx : ∀ (r : Fin 8192) (k : Fin 2560), k.val < 2304 → ∃ a : ℝ, x (ix2 r k) = (a : EReal))
    (hs : ∀ (u : Fin 4) (v : Fin 8), ∃ a : ℝ, sk (ix2 u v) = (a : EReal))
    (b : Fin 4) (i : Fin 16) (kv : Fin 4) (g : Fin 8) (p : Fin 128) (d : Fin 64) :
    val_main_v68 (F := Ideal) x sk (ix2 (row b i p) (⟨kv.val * 512 + g.val * 64 + d.val, by omega⟩ : Fin 2048))
      = Cert.KernelIdeal.Proved.attnAt x sk ⟨b.val * 16 + i.val, by omega⟩ kv g p d := by
  have hpv : 0 < i.val → (Cert.KernelIdeal.Proved.prev ⟨b.val * 16 + i.val, by omega⟩).val = b.val * 16 + (i.val - 1) := by
    intro h
    show (if 0 < (b.val * 16 + i.val) % 16 then b.val * 16 + i.val - 1 else b.val * 16 + i.val) = _
    rw [if_pos (by omega)]; omega
  rw [v68_at]
  simp only [v64_at, v59_at]
  unfold Cert.KernelIdeal.Proved.attnAt
  refine Cert.AttnMath.ref_outv _ _ _ _ _
    (fun s => logit_ne_top _ _ _ (fun k => hx _ _ (by show kv.val * 512 + g.val * 64 + k.val < 2304; omega)) (fun k => hx _ _ (by show 2048 + (kv.val * 64 + k.val) < 2304; omega)))
    (fun s => logit_ne_top _ _ _ (fun k => hx _ _ (by show kv.val * 512 + g.val * 64 + k.val < 2304; omega)) (fun k => hx _ _ (by show 2048 + (kv.val * 64 + k.val) < 2304; omega)))
    (hs kv g) (fun k => val_main_v52 (F := Ideal) x sk (ix6 b i kv g p k)) (fun s => ?_) (fun s => ?_) (v52_sink x sk b i kv g p)
    (fun k => val_main_v13 (F := Ideal) x (ix5 b i k kv d)) (fun s hsb => ?_) (fun s => ?_) _ (v55_at x sk b i kv g p)
  · refine (v52_key x sk b i kv g p ⟨s.val, by omega⟩).trans ((v49_at x b i kv g p ⟨s.val, by omega⟩).trans ?_)
    by_cases hc : p.val ≤ s.val ∧ 0 < i.val
    · rw [if_pos ⟨⟨hc.1, by show s.val ≤ p.val + 128; omega⟩, Or.inl hc.2⟩, if_pos ⟨hc.1, by show 0 < (b.val * 16 + i.val) % 16; omega⟩]
      refine congrArg (· * Ideal.ofBits .f32 0x3E000000#32) (Finset.sum_congr rfl fun k _ => congrArg₂ (· * ·) rfl ?_)
      refine (v10_prev x b i s kv k).trans ((v9_at x b i hc.2 s kv k).trans (congrArg x (congrArg (fun r => ix2 r _) (Fin.ext ?_))))
      show (b.val * 16 + (i.val - 1)) * 128 + s.val = (Cert.KernelIdeal.Proved.prev _).val * 128 + s.val
      rw [hpv hc.2]
    · rw [if_neg, if_neg]
      · intro h; exact hc ⟨h.1, by have h2 : 0 < (b.val * 16 + i.val) % 16 := h.2; omega⟩
      · intro h
        have h2 : 0 < i.val ∨ 128 ≤ s.val := h.2
        exact hc ⟨h.1.1, by omega⟩
  · refine (v52_key x sk b i kv g p ⟨128 + s.val, by omega⟩).trans ((v49_at x b i kv g p ⟨128 + s.val, by omega⟩).trans ?_)
    by_cases hc : s.val ≤ p.val
    · rw [if_pos ⟨⟨by show p.val ≤ 128 + s.val; omega, by show 128 + s.val ≤ p.val + 128; omega⟩, Or.inr (by show 128 ≤ 128 + s.val; omega)⟩, if_pos hc]
      refine congrArg (· * Ideal.ofBits .f32 0x3E000000#32) (Finset.sum_congr rfl fun k _ => congrArg₂ (· * ·) rfl ?_)
      exact (v10_cur x b i s kv k).trans (v3_at x b i s kv k)
    · rw [if_neg, if_neg hc]
      intro h
      have h2 : 128 + s.val ≤ p.val + 128 := h.1.2
      exact hc (by omega)
  · have hi : 0 < i.val := by
      by_contra h0
      refine hsb (if_neg fun h => ?_)
      have h2 : 0 < (b.val * 16 + i.val) % 16 := h.2
      omega
    refine (v13_prev x b i s kv d).trans ((v12_at x b i hi s kv d).trans (congrArg x (congrArg (fun r => ix2 r _) (Fin.ext ?_))))
    show (b.val * 16 + (i.val - 1)) * 128 + s.val = (Cert.KernelIdeal.Proved.prev _).val * 128 + s.val
    rw [hpv hi]
  · exact (v13_cur x b i s kv d).trans (v5_at x b i s kv d)

/-- The reference's result is the kernel's array. -/
theorem ref_eq (hx : ∀ (r : Fin 8192) (k : Fin 2560), k.val < 2304 → ∃ a : ℝ, x (ix2 r k) = (a : EReal))
    (hs : ∀ (u : Fin 4) (v : Fin 8), ∃ a : ℝ, sk (ix2 u v) = (a : EReal)) :
    val_main_v68 (F := Ideal) x sk = Cert.KernelIdeal.Proved.attn x sk := by
  funext y
  obtain ⟨r, k, rfl⟩ : ∃ (r : Fin 8192) (k : Fin 2048), y = ix2 r k := ⟨y 0, y 1, eq_ix2 y⟩
  have e : (ix2 r k : S8192x2048.Idx) = ix2 (row (⟨r.val / 2048, by omega⟩ : Fin 4) (⟨r.val / 128 % 16, by omega⟩ : Fin 16) (⟨r.val % 128, by omega⟩ : Fin 128))
      (⟨(⟨k.val / 512, by omega⟩ : Fin 4).val * 512 + (⟨k.val / 64 % 8, by omega⟩ : Fin 8).val * 64 + (⟨k.val % 64, by omega⟩ : Fin 64).val, by show k.val / 512 * 512 + k.val / 64 % 8 * 64 + k.val % 64 < 2048; omega⟩ : Fin 2048) := funext fun a => Fin.ext (by
    match a with
    | ⟨0, _⟩ => show r.val = (r.val / 2048 * 16 + r.val / 128 % 16) * 128 + r.val % 128; omega
    | ⟨1, _⟩ => show k.val = k.val / 512 * 512 + k.val / 64 % 8 * 64 + k.val % 64; omega)
  refine (congrArg (val_main_v68 (F := Ideal) x sk) e).trans ((ref_at x sk hx hs _ _ _ _ _ _).trans ?_)
  show _ = Cert.KernelIdeal.Proved.attnAt x sk _ _ _ _ _
  congr 1
  exact Fin.ext (by show r.val / 2048 * 16 + r.val / 128 % 16 = r.val / 128; omega)

end Cert.ReferenceIdeal.Proved

namespace Cert.AttnClaim

open Idealize.ShloMosaic

/-- From memories that agree on the arguments, with finite queries, keys and sinks, both programs leave one array. -/
theorem algebraic : Cert.algebraic_KernelIdeal_ReferenceIdeal_pre_finite_qk (hKernelIdeal := Cert.KernelIdeal.Gen.facts)
    (hReferenceIdeal := Cert.ReferenceIdeal.Gen.facts) (hPre_finite_qk := Cert.Pre_finite_qk.Gen.facts) :=
  fun m ρ m' ρ' hpre hag =>
    ⟨fun c => Cert.KernelIdeal.Proved.attn (Cert.KernelIdeal.Proved.qArr m c) (Cert.KernelIdeal.Proved.sArr m c),
      (θ_run (Cert.KernelIdeal.defs (F := Ideal)) _ _).mono
        (fun _ h c => ⟨(h c).1.trans (Cert.KernelIdeal.Proved.final_o m c), (h c).2⟩) (Cert.KernelIdeal.Value.run_blocks m ρ),
      (θ_run (Cert.ReferenceIdeal.defs (F := Ideal)) _ _).mono
        (fun _ h c => ⟨by
          refine (h c).1.trans ?_
          rw [Cert.ReferenceIdeal.Read.val_main_v68_eq, (hag c).1, (hag c).2]
          exact Cert.ReferenceIdeal.Proved.ref_eq _ _ (Cert.ReferenceIdeal.Proved.x_real _ _ (hpre c).1) (Cert.ReferenceIdeal.Proved.sk_real _ _ (hpre c).2), (h c).2⟩)
        (Cert.ReferenceIdeal.Value.run m' ρ')⟩

end Cert.AttnClaim
end
-- ==== Proof.QkvHost.lean ====
/-
  What @main of the query, key and value projection prepares before the kernel: the gain of each column (the query gain
  over the query heads, the key gain over the key heads, ones over the values), the flag of each column (one where the
  column belongs to a query or a key head), and the ones of each head (a 512 by 512 matrix, one where row and column lie
  in one head of 64). Each is read here at an index. Also here: a sum over 512 columns weighted by the ones of a head is
  the sum over that head's 64 columns (`head_sum`).
-/
module

public import proofs.«01_k».proof.Proof.Gen.QkvIdeal.Value
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.QkvIdeal.Proved

open Cert.QkvIdeal Cert.QkvIdeal.Gen

variable (m : (ℓ : Loc nD τ sig) → Buf (Elt Ideal) ℓ) (ρ : Dev nD → PrngReg)

/-- The query gain. -/
abbrev gqArr (c : Dev nD) : Vec Ideal S64 .f32 := m ((c : Thread nD τ).loc main_arg2)
/-- The key gain. -/
abbrev gkArr (c : Dev nD) : Vec Ideal S64 .f32 := m ((c : Thread nD τ).loc main_arg3)

/-- The gain of column `j`. -/
def gain (gq gk : Vec Ideal S64 .f32) (j : Fin 2560) : EReal :=
  if j.val < 2048 then gq (ix1 ⟨j.val % 64, by omega⟩) else if j.val < 2304 then gk (ix1 ⟨j.val % 64, by omega⟩) else Ideal.ofBits .f32 0x3F800000#32

/-- The query gain tiled over the query heads. -/
def tq (g : Vec Ideal S64 .f32) : Vec Ideal S2048 .f32 :=
  shapeCast S2048 (broadcastInDim S32x64 ![0, 1] bcast_S1x64_S32x64_0_1 (shapeCast S1x64 g shapeCasts_S64_S1x64)) shapeCasts_S32x64_S2048
/-- The key gain tiled over the key heads. -/
def tk (g : Vec Ideal S64 .f32) : Vec Ideal S256 .f32 :=
  shapeCast S256 (broadcastInDim S4x64 ![0, 1] bcast_S1x64_S4x64_0_1 (shapeCast S1x64 g shapeCasts_S64_S1x64)) shapeCasts_S4x64_S256

theorem tq_apply (g : Vec Ideal S64 .f32) (j : Fin 2048) : tq g (ix1 j) = g (ix1 ⟨j.val % 64, by omega⟩) := by
  unfold tq
  refine (shapeCast_apply _ _ (ix1 j) (ix2 (⟨j.val / 64, by omega⟩ : Fin 32) (⟨j.val % 64, by omega⟩ : Fin 64)) (by
    rewrite [Shape.rowMajor_val_one, Shape.rowMajor_val_two]
    show j.val / 64 * 64 + j.val % 64 = j.val
    omega)).trans ?_
  refine (broadcastInDim_apply _ _ _ _ (ix2 (0 : Fin 1) (⟨j.val % 64, by omega⟩ : Fin 64)) (fun a => by
    match a with | ⟨0, _⟩ => rfl | ⟨1, _⟩ => rfl)).trans ?_
  exact shapeCast_apply _ _ _ _ (by
    rewrite [Shape.rowMajor_val_one, Shape.rowMajor_val_two]
    show j.val % 64 = 0 * 64 + j.val % 64
    omega)

theorem tk_apply (g : Vec Ideal S64 .f32) (j : Fin 256) : tk g (ix1 j) = g (ix1 ⟨j.val % 64, by omega⟩) := by
  unfold tk
  refine (shapeCast_apply _ _ (ix1 j) (ix2 (⟨j.val / 64, by omega⟩ : Fin 4) (⟨j.val % 64, by omega⟩ : Fin 64)) (by
    rewrite [Shape.rowMajor_val_one, Shape.rowMajor_val_two]
    show j.val / 64 * 64 + j.val % 64 = j.val
    omega)).trans ?_
  refine (broadcastInDim_apply _ _ _ _ (ix2 (0 : Fin 1) (⟨j.val % 64, by omega⟩ : Fin 64)) (fun a => by
    match a with | ⟨0, _⟩ => rfl | ⟨1, _⟩ => rfl)).trans ?_
  exact shapeCast_apply _ _ _ _ (by
    rewrite [Shape.rowMajor_val_one, Shape.rowMajor_val_two]
    show j.val % 64 = 0 * 64 + j.val % 64
    omega)

/-- A row of ones. -/
def ones256 : Vec Ideal S256 .f32 := broadcastInDim S256 ![] bcast_S_S256 (constant (F := Ideal) S_ .f32 0x3F800000#32)

/-- The gain row: the tiled query gain, the tiled key gain, ones. -/
def gainRow (gq gk : Vec Ideal S64 .f32) : Vec Ideal S1x2560 .f32 :=
  shapeCast S1x2560 (concatenate S2560 0 [⟨S2048, tq gq⟩, ⟨S256, tk gk⟩, ⟨S256, ones256⟩] concatenates_S2048_S256_S256_S2560_d0) shapeCasts_S2560_S1x2560

/-- The gain row as @main computes it. -/
theorem V_gain_eq (c : Dev nD) : (V m c main_v8 : Vec Ideal S1x2560 .f32) = gainRow (gqArr m c) (gkArr m c) := by
  unfold_abbrev_sides
  simp only [hostOps0, hostOps0_1, hostOps0_2, List.flatten_cons, List.flatten_nil, List.append_nil, List.cons_append, List.nil_append]
  after_results
  rfl

/-- A row of ones over the query and key columns. -/
def ones2304 : Vec Ideal S2304 .f32 := broadcastInDim S2304 ![] bcast_S_S2304 (constant (F := Ideal) S_ .f32 0x3F800000#32)
/-- A row of zeros over the value columns. -/
def zeros256 : Vec Ideal S256 .f32 := broadcastInDim S256 ![] bcast_S_S256 (constant (F := Ideal) S_ .f32 0x00000000#32)

/-- The flag row: ones, then zeros. -/
def flagRow : Vec Ideal S1x2560 .f32 :=
  shapeCast S1x2560 (concatenate S2560 0 [⟨S2304, ones2304⟩, ⟨S256, zeros256⟩] concatenates_S2304_S256_S2560_d0) shapeCasts_S2560_S1x2560

/-- The flag row as @main computes it. -/
theorem V_flag_eq (c : Dev nD) : (V m c main_v12 : Vec Ideal S1x2560 .f32) = flagRow := by
  unfold_abbrev_sides
  simp only [hostOps0, hostOps0_1, hostOps0_2, List.flatten_cons, List.flatten_nil, List.append_nil, List.cons_append, List.nil_append]
  after_results
  rfl

/-- The gain row, at an index. -/
theorem gainRow_apply (gq gk : Vec Ideal S64 .f32) (z : Fin 1) (j : Fin 2560) : gainRow gq gk (ix2 z j) = gain gq gk j := by
  unfold gainRow
  refine (shapeCast_apply _ _ (ix2 z j) (ix1 j) (by
    rewrite [Shape.rowMajor_val_one, Shape.rowMajor_val_two]
    show j.val = z.val * 2560 + j.val
    omega)).trans ?_
  unfold gain
  split
  · rename_i h
    refine (concatenate_apply_piece (0 : Fin 1) ([⟨S2048, tq gq⟩, ⟨S256, tk gk⟩, ⟨S256, ones256⟩] : List ((s : Shape) × (s.Idx → EReal))) _ (ix1 j) 0 (by show 0 < 3; omega) S2048 (tq gq) rfl rfl 0 rfl (ix1 (⟨j.val, h⟩ : Fin 2048))
      (fun b hb => by match b with | ⟨0, _⟩ => exact absurd rfl hb) (by show 0 + j.val = j.val; omega)).trans (tq_apply _ _)
  · rename_i h
    split
    · rename_i h'
      refine (concatenate_apply_piece (0 : Fin 1) ([⟨S2048, tq gq⟩, ⟨S256, tk gk⟩, ⟨S256, ones256⟩] : List ((s : Shape) × (s.Idx → EReal))) _ (ix1 j) 1 (by show 1 < 3; omega) S256 (tk gk) rfl rfl 2048 rfl (ix1 (⟨j.val - 2048, by omega⟩ : Fin 256))
        (fun b hb => by match b with | ⟨0, _⟩ => exact absurd rfl hb) (by show 2048 + (j.val - 2048) = j.val; omega)).trans ((tk_apply _ _).trans ?_)
      exact congrArg (fun k => gk (ix1 k)) (Fin.ext (by show (j.val - 2048) % 64 = j.val % 64; omega))
    · rename_i h'
      exact concatenate_apply_piece (0 : Fin 1) ([⟨S2048, tq gq⟩, ⟨S256, tk gk⟩, ⟨S256, ones256⟩] : List ((s : Shape) × (s.Idx → EReal))) _ (ix1 j) 2 (by show 2 < 3; omega) S256 ones256 rfl rfl 2304 rfl (ix1 (⟨j.val - 2304, by omega⟩ : Fin 256))
        (fun b hb => by match b with | ⟨0, _⟩ => exact absurd rfl hb) (by show 2304 + (j.val - 2304) = j.val; omega)

theorem V_gain (c : Dev nD) (z : Fin 1) (j : Fin 2560) : (V m c main_v8 : Vec Ideal S1x2560 .f32) (ix2 z j) = gain (gqArr m c) (gkArr m c) j := by
  rw [V_gain_eq, gainRow_apply]

/-- The flag row, at an index. -/
theorem flagRow_apply (z : Fin 1) (j : Fin 2560) : flagRow (ix2 z j)
    = if j.val < 2304 then Ideal.ofBits .f32 0x3F800000#32 else Ideal.ofBits .f32 0x00000000#32 := by
  unfold flagRow
  refine (shapeCast_apply _ _ (ix2 z j) (ix1 j) (by
    rewrite [Shape.rowMajor_val_one, Shape.rowMajor_val_two]
    show j.val = z.val * 2560 + j.val
    omega)).trans ?_
  split
  · rename_i h
    exact concatenate_apply_piece (0 : Fin 1) ([⟨S2304, ones2304⟩, ⟨S256, zeros256⟩] : List ((s : Shape) × (s.Idx → EReal))) _ (ix1 j) 0 (by show 0 < 2; omega) S2304 ones2304 rfl rfl 0 rfl (ix1 (⟨j.val, h⟩ : Fin 2304))
      (fun b hb => by match b with | ⟨0, _⟩ => exact absurd rfl hb) (by show 0 + j.val = j.val; omega)
  · rename_i h
    exact concatenate_apply_piece (0 : Fin 1) ([⟨S2304, ones2304⟩, ⟨S256, zeros256⟩] : List ((s : Shape) × (s.Idx → EReal))) _ (ix1 j) 1 (by show 1 < 2; omega) S256 zeros256 rfl rfl 2304 rfl (ix1 (⟨j.val - 2304, by omega⟩ : Fin 256))
      (fun b hb => by match b with | ⟨0, _⟩ => exact absurd rfl hb) (by show 2304 + (j.val - 2304) = j.val; omega)

theorem V_flag (c : Dev nD) (z : Fin 1) (j : Fin 2560) : (V m c main_v12 : Vec Ideal S1x2560 .f32) (ix2 z j)
    = if j.val < 2304 then Ideal.ofBits .f32 0x3F800000#32 else Ideal.ofBits .f32 0x00000000#32 := by
  rw [V_flag_eq, flagRow_apply]

/-- A column's head, as @main's floor division computes it. -/
def hid : IVec S512 32 :=
  let col : IVec S512 32 := iotaInDim S512 32 0
  let w : IVec S_ 32 := constantI S_ 32 64#32
  let q : IVec S512 32 := Host.divsi col (broadcastInDim S512 ![] bcast_S_S512 w)
  select (andi (cmpi .ne (signi col) (broadcastInDim S512 ![] bcast_S_S512 (signi w)))
      (cmpi .ne (Host.remsi col (broadcastInDim S512 ![] bcast_S_S512 w)) (broadcastInDim S512 ![] bcast_S_S512 (constantI S_ 32 0#32))))
    (subi q (broadcastInDim S512 ![] bcast_S_S512 (constantI S_ 32 1#32))) q

/-- The ones of each head. -/
def headOnes : Vec Ideal S512x512 .bf16 :=
  uitofp (F := Ideal) .bf16 (cmpi .eq (broadcastInDim S512x512 ![0, 1] bcast_S512x1_S512x512_0_1 (broadcastInDim S512x1 ![0] bcast_S512_S512x1_0 hid))
        (broadcastInDim S512x512 ![0, 1] bcast_S1x512_S512x512_0_1 (broadcastInDim S1x512 ![1] bcast_S512_S1x512_1 hid)))

/-- The ones of each head as @main computes them. -/
theorem V_ones_eq (c : Dev nD) : (V m c main_v20 : Vec Ideal S512x512 .bf16) = headOnes := by
  unfold_abbrev_sides
  simp only [hostOps0, hostOps0_1, hostOps0_2, List.flatten_cons, List.flatten_nil, List.append_nil, List.cons_append, List.nil_append]
  after_results
  rfl

theorem hid_apply : ∀ j : Fin 512, hid (ix1 j) = BitVec.ofNat 32 (j.val / 64) := by
  decide +kernel

/-- The ones of each head, at an index. -/
theorem headOnes_apply (k q : Fin 512) : headOnes (ix2 k q) = (if k.val / 64 = q.val / 64 then 1 else 0 : EReal) := by
  unfold headOnes
  have e : ∀ a b : Fin 512, (a.val / 64 = b.val / 64) ↔ BitVec.ofNat 32 (a.val / 64) = BitVec.ofNat 32 (b.val / 64) := by
    intro a b
    constructor
    · intro h; rw [h]
    · intro h
      have := congrArg BitVec.toNat h
      simp only [BitVec.toNat_ofNat] at this
      omega
  have hk : (broadcastInDim S512x512 ![0, 1] bcast_S512x1_S512x512_0_1 (broadcastInDim S512x1 ![0] bcast_S512_S512x1_0 hid)) (ix2 k q) = hid (ix1 k) := by
    refine (broadcastInDim_apply _ _ _ _ (ix2 k (0 : Fin 1)) (fun a => by match a with | ⟨0, _⟩ => rfl | ⟨1, _⟩ => rfl)).trans ?_
    exact broadcastInDim_apply _ _ _ _ (ix1 k) (fun a => by match a with | ⟨0, _⟩ => rfl)
  have hq : (broadcastInDim S512x512 ![0, 1] bcast_S1x512_S512x512_0_1 (broadcastInDim S1x512 ![1] bcast_S512_S1x512_1 hid)) (ix2 k q) = hid (ix1 q) := by
    refine (broadcastInDim_apply _ _ _ _ (ix2 (0 : Fin 1) q) (fun a => by match a with | ⟨0, _⟩ => rfl | ⟨1, _⟩ => rfl)).trans ?_
    exact broadcastInDim_apply _ _ _ _ (ix1 q) (fun a => by match a with | ⟨0, _⟩ => rfl)
  show (((BitVec.ofBool (_ == _)).toNat : ℝ) : EReal) = _
  rw [hk, hq, hid_apply, hid_apply]
  by_cases h : k.val / 64 = q.val / 64
  · rw [if_pos h, (e k q).1 h]; simp
  · rw [if_neg h]
    have h' : (BitVec.ofNat 32 (k.val / 64) == BitVec.ofNat 32 (q.val / 64)) = false := beq_eq_false_iff_ne.2 fun hh => h ((e k q).2 hh)
    rw [h']; simp

theorem V_ones (c : Dev nD) (k q : Fin 512) : (V m c main_v20 : Vec Ideal S512x512 .bf16) (ix2 k q) = (if k.val / 64 = q.val / 64 then 1 else 0 : EReal) := by
  rw [V_ones_eq, headOnes_apply]

/-- A sum over 512 columns weighted by the ones of column `q`'s head is the sum over the head. -/
theorem head_sum (f : Fin 512 → EReal) (q : Fin 512) :
    ∑ k : Fin 512, f k * (if k.val / 64 = q.val / 64 then (1 : EReal) else 0) = ∑ d : Fin 64, f ⟨q.val / 64 * 64 + d.val, by omega⟩ := by
  simp only [mul_ite, mul_one, mul_zero]
  rw [← Finset.sum_filter]
  refine Finset.sum_bij' (fun k _ => (⟨k.val % 64, by omega⟩ : Fin 64)) (fun d _ => ⟨q.val / 64 * 64 + d.val, by omega⟩) ?_ ?_ ?_ ?_ ?_
  · intro k _; exact Finset.mem_univ _
  · intro d _; exact Finset.mem_filter.2 ⟨Finset.mem_univ _, by show (q.val / 64 * 64 + d.val) / 64 = q.val / 64; omega⟩
  · intro k hk
    have := (Finset.mem_filter.1 hk).2
    exact Fin.ext (by show q.val / 64 * 64 + k.val % 64 = k.val; omega)
  · intro d _; exact Fin.ext (by show (q.val / 64 * 64 + d.val) % 64 = d.val; omega)
  · intro k hk
    have := (Finset.mem_filter.1 hk).2
    exact congrArg f (Fin.ext (by show k.val = q.val / 64 * 64 + k.val % 64; omega))

end Cert.QkvIdeal.Proved
end
-- ==== Proof.QkvKer.lean ====
/-
  The VALUE of `Qkv.lean` at the ideal instance: the query, key and value columns of the input projection. Every query
  and key head of 64 columns is divided by the root of its mean square and multiplied by its gain; the value columns are
  the product itself. Grid (5 column tiles by 8 row tiles), scratch and proof as in GatesValue.lean. The kernel takes a
  head's sum of squares as a product of the squares with the ones of each head, the squares split into a rounded part
  and a rest; the rest is `z² - z²` here, so 0 where `z` is a real (`ss_eq` in QkvValue.lean), which the precondition says of the
  query and key columns. What @main prepares is read in QkvHost.lean.
-/
module

public import proofs.«01_k».proof.Defs
public import proofs.«01_k».proof.Proof.QkvHost
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.QkvIdeal.Proved

open Cert.QkvIdeal Cert.QkvIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The activations `h`. -/
abbrev hArr (c : Dev nD) : Vec Ideal S8192x4096 .bf16 := m ((c : Thread nD τ).loc main_arg0)
/-- The projection weights. -/
abbrev wArr (c : Dev nD) : Vec Ideal S4096x14848 .f32 := m ((c : Thread nD τ).loc main_arg1)

/-- What a later row tile leaves in the result's buffer: the payload of the row tiles and the scratch contents. -/
theorem out_B (c : Dev nD) (i : grid0.Coords) (a2 : Memref sig .tc .vmem S1024x4096 .bf16) (h2 : a2.IsWhole) (a3 : Memref sig .tc .vmem S4096x512 .f32) (h3 : a3.IsWhole) (a4 : Memref sig .tc .vmem S1x512 .f32) (h4 : a4.IsWhole) (a5 : Memref sig .tc .vmem S1x512 .f32) (h5 : a5.IsWhole) (a6 : Memref sig .tc .vmem S512x512 .bf16) (h6 : a6.IsWhole) (a7 : Memref sig .tc .vmem S1024x512 .f32) (h7 : a7.IsWhole) (a8 : Memref sig .tc .vmem S4096x512 .bf16) (h8 : a8.IsWhole) (hc : ¬cond0_0 i)
    (x0 : Vec Ideal S1024x4096 .bf16) (x1 : Vec Ideal S4096x512 .f32) (x2 : Vec Ideal S1x512 .f32) (x3 : Vec Ideal S1x512 .f32) (x4 : Vec Ideal S512x512 .bf16) (s0 : Vec Ideal S4096x512 .bf16) :
    out0_B_5 c i a2 h2 a3 h3 a4 h4 a5 h5 a6 h6 a7 h7 a8 h8 hc x0 x1 x2 x3 x4 s0 = k0_pay2 x0 s0 x4 x4 x3 x2 := by
  unfold out0_B_5
  rw [View.read_writes_eq_canon _ _ _ (cover0_B_5 c i a2 h2 a3 h3 a4 h4 a5 h5 a6 h6 a7 h7 a8 h8 hc x0 x1 x2 x3 x4 s0)]
  unfold kernelRun0_B
  dsimp only
  sl_unfold_words
  rw [View.canon_unit_zero hz]
  simp only [View.readAt_eq_ld, h2.read_unread, h3.read_unread, h4.read_unread, h5.read_unread, h6.read_unread, h7.read_unread, h8.read_unread, View.ld_unit_zero (S := S1024x4096) hz, View.ld_unit_zero (S := S1024x512) hz, View.ld_unit_zero (S := S1x512) hz, View.ld_unit_zero (S := S4096x512) hz, View.ld_unit_zero (S := S512x512) hz]

/-- The first row tile of a column tile: the weight tiles go to the scratch and are read back. -/
theorem out_A (c : Dev nD) (i : grid0.Coords) (a2 : Memref sig .tc .vmem S1024x4096 .bf16) (h2 : a2.IsWhole) (a3 : Memref sig .tc .vmem S4096x512 .f32) (h3 : a3.IsWhole) (a4 : Memref sig .tc .vmem S1x512 .f32) (h4 : a4.IsWhole) (a5 : Memref sig .tc .vmem S1x512 .f32) (h5 : a5.IsWhole) (a6 : Memref sig .tc .vmem S512x512 .bf16) (h6 : a6.IsWhole) (a7 : Memref sig .tc .vmem S1024x512 .f32) (h7 : a7.IsWhole) (a8 : Memref sig .tc .vmem S4096x512 .bf16) (h8 : a8.IsWhole) (hc : cond0_0 i)
    (x0 : Vec Ideal S1024x4096 .bf16) (x1 : Vec Ideal S4096x512 .f32) (x2 : Vec Ideal S1x512 .f32) (x3 : Vec Ideal S1x512 .f32) (x4 : Vec Ideal S512x512 .bf16) :
    out0_A_5 c i a2 h2 a3 h3 a4 h4 a5 h5 a6 h6 a7 h7 a8 h8 hc x0 x1 x2 x3 x4 = k0_pay2 x0 (k0_pay1 x1) x4 x4 x3 x2 := by
  unfold out0_A_5
  rw [View.read_writes_eq_canon _ _ _ (cover0_A_5 c i a2 h2 a3 h3 a4 h4 a5 h5 a6 h6 a7 h7 a8 h8 hc x0 x1 x2 x3 x4)]
  unfold kernelRun0_A
  dsimp only
  sl_unfold_words
  rw [View.canon_unit_zero hz]
  simp only [View.readCov_unit_zero (S := S4096x512) _ hz]
  simp only [View.readAt_eq_ld, h2.read_unread, h3.read_unread, h4.read_unread, h5.read_unread, h6.read_unread, h7.read_unread, h8.read_unread, View.ld_unit_zero (S := S1024x4096) hz, View.ld_unit_zero (S := S1024x512) hz, View.ld_unit_zero (S := S1x512) hz, View.ld_unit_zero (S := S4096x512) hz, View.ld_unit_zero (S := S512x512) hz]

/-- … and scratch 0 holds the copy of its weight tile. -/
theorem sout0_A (c : Dev nD) (i : grid0.Coords) (a2 : Memref sig .tc .vmem S1024x4096 .bf16) (h2 : a2.IsWhole) (a3 : Memref sig .tc .vmem S4096x512 .f32) (h3 : a3.IsWhole) (a4 : Memref sig .tc .vmem S1x512 .f32) (h4 : a4.IsWhole) (a5 : Memref sig .tc .vmem S1x512 .f32) (h5 : a5.IsWhole) (a6 : Memref sig .tc .vmem S512x512 .bf16) (h6 : a6.IsWhole) (a7 : Memref sig .tc .vmem S1024x512 .f32) (h7 : a7.IsWhole) (a8 : Memref sig .tc .vmem S4096x512 .bf16) (h8 : a8.IsWhole) (hc : cond0_0 i)
    (x0 : Vec Ideal S1024x4096 .bf16) (x1 : Vec Ideal S4096x512 .f32) (x2 : Vec Ideal S1x512 .f32) (x3 : Vec Ideal S1x512 .f32) (x4 : Vec Ideal S512x512 .bf16) :
    sout0_A_0 c i a2 h2 a3 h3 a4 h4 a5 h5 a6 h6 a7 h7 a8 h8 hc x0 x1 x2 x3 x4 = k0_pay1 x1 := by
  unfold sout0_A_0
  rw [View.read_writes_eq_canon _ _ _ (scover0_A_0 c i a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h2.read_unread, h3.read_unread, h4.read_unread, h5.read_unread, h6.read_unread, h7.read_unread, h8.read_unread, View.ld_unit_zero (S := S1024x4096) hz, View.ld_unit_zero (S := S1024x512) hz, View.ld_unit_zero (S := S1x512) hz, View.ld_unit_zero (S := S4096x512) hz, View.ld_unit_zero (S := S512x512) hz]

/-- The copy of a weight tile is the weight tile, whatever the element type's width. -/
theorem pay1_apply (w : Vec Ideal S4096x512 .f32) (j : S4096x512.Idx) : k0_pay1 (F := Ideal) w j = w j := by
  unfold k0_pay1
  idx_vars j
  pointwise

/-- A tile of the result. -/
theorem payload_apply (x : Vec Ideal S1024x4096 .bf16) (s : Vec Ideal S4096x512 .bf16) (b b' : Vec Ideal S512x512 .bf16) (fl gn : Vec Ideal S1x512 .f32) (p : Fin 1024) (q : Fin 512) :
    k0_pay2 (F := Ideal) x s b b' fl gn (ix2 p q)
      = (∑ k : Fin 4096, x (ix2 p k) * s (ix2 k q))
        * (if 0 < fl (ix2 (0 : Fin 1) q) then
            Ideal.rsqrt ((∑ k : Fin 512, ((∑ i : Fin 4096, x (ix2 p i) * s (ix2 i k)) * ∑ i : Fin 4096, x (ix2 p i) * s (ix2 i k)) * b (ix2 k q)
                + ∑ k : Fin 512, ((∑ i : Fin 4096, x (ix2 p i) * s (ix2 i k)) * (∑ i : Fin 4096, x (ix2 p i) * s (ix2 i k)) - (∑ i : Fin 4096, x (ix2 p i) * s (ix2 i k)) * ∑ i : Fin 4096, x (ix2 p i) * s (ix2 i k))
                    * b' (ix2 k q)) * Ideal.ofBits .f32 0x3C800000#32 + Ideal.ofBits .f32 0x358637BD#32)
          else 1)
        * gn (ix2 (0 : Fin 1) q) := by
  unfold k0_pay2
  pointwise

/-- The projection at row `r` and column `j`. -/
def zAt (h : Vec Ideal S8192x4096 .bf16) (w : Vec Ideal S4096x14848 .f32) (r : Fin 8192) (j : Fin 2560) : EReal :=
  ∑ k : Fin 4096, h (ix2 r k) * w (ix2 k ⟨j.val, by omega⟩)

/-- The sum of squares of the head of column `j`, and of what the squares' rounding leaves. -/
def ssAt (h : Vec Ideal S8192x4096 .bf16) (w : Vec Ideal S4096x14848 .f32) (r : Fin 8192) (j : Fin 2560) : EReal :=
  ∑ d : Fin 64, zAt h w r ⟨j.val / 64 * 64 + d.val, by omega⟩ * zAt h w r ⟨j.val / 64 * 64 + d.val, by omega⟩
    + ∑ d : Fin 64, (zAt h w r ⟨j.val / 64 * 64 + d.val, by omega⟩ * zAt h w r ⟨j.val / 64 * 64 + d.val, by omega⟩
        - zAt h w r ⟨j.val / 64 * 64 + d.val, by omega⟩ * zAt h w r ⟨j.val / 64 * 64 + d.val, by omega⟩)

/-- The result as one whole array. -/
def qkv (h : Vec Ideal S8192x4096 .bf16) (w : Vec Ideal S4096x14848 .f32) (gq gk : Vec Ideal S64 .f32) : Vec Ideal S8192x2560 .f32 := fun i =>
  zAt h w (i 0) (i 1) * (if (i 1).val < 2304 then Ideal.rsqrt (ssAt h w (i 0) (i 1) * Ideal.ofBits .f32 0x3C800000#32 + Ideal.ofBits .f32 0x358637BD#32) else 1)
    * gain gq gk (i 1)

/-- A tile of the result, from the projection of its row, the ones of each head, the flag and the gain. -/
theorem tile_eq (h : Vec Ideal S8192x4096 .bf16) (w : Vec Ideal S4096x14848 .f32) (gq gk : Vec Ideal S64 .f32) (r : Fin 8192) (n : Fin 5) (q : Fin 512) :
    zAt h w r ⟨n.val * 512 + q.val, by omega⟩
        * (if (0 : EReal) < (if n.val * 512 + q.val < 2304 then Ideal.ofBits .f32 0x3F800000#32 else Ideal.ofBits .f32 0x00000000#32) then
            Ideal.rsqrt ((∑ k : Fin 512, (zAt h w r ⟨n.val * 512 + k.val, by omega⟩ * zAt h w r ⟨n.val * 512 + k.val, by omega⟩) * (if k.val / 64 = q.val / 64 then (1 : EReal) else 0)
                + ∑ k : Fin 512, (zAt h w r ⟨n.val * 512 + k.val, by omega⟩ * zAt h w r ⟨n.val * 512 + k.val, by omega⟩ - zAt h w r ⟨n.val * 512 + k.val, by omega⟩ * zAt h w r ⟨n.val * 512 + k.val, by omega⟩)
                    * (if k.val / 64 = q.val / 64 then (1 : EReal) else 0)) * Ideal.ofBits .f32 0x3C800000#32 + Ideal.ofBits .f32 0x358637BD#32)
          else 1)
        * gain gq gk ⟨n.val * 512 + q.val, by omega⟩
      = qkv h w gq gk (ix2 r ⟨n.val * 512 + q.val, by omega⟩) := by
  have e : ∀ d : Fin 64, (⟨n.val * 512 + (⟨q.val / 64 * 64 + d.val, by omega⟩ : Fin 512).val, by show n.val * 512 + (q.val / 64 * 64 + d.val) < 2560; omega⟩ : Fin 2560)
      = ⟨(⟨n.val * 512 + q.val, by omega⟩ : Fin 2560).val / 64 * 64 + d.val, by show (n.val * 512 + q.val) / 64 * 64 + d.val < 2560; omega⟩ := fun d =>
    Fin.ext (by show n.val * 512 + (q.val / 64 * 64 + d.val) = (n.val * 512 + q.val) / 64 * 64 + d.val; omega)
  have h1 := head_sum (fun k => zAt h w r ⟨n.val * 512 + k.val, by omega⟩ * zAt h w r ⟨n.val * 512 + k.val, by omega⟩) q
  have h2 := head_sum (fun k => zAt h w r ⟨n.val * 512 + k.val, by omega⟩ * zAt h w r ⟨n.val * 512 + k.val, by omega⟩ - zAt h w r ⟨n.val * 512 + k.val, by omega⟩ * zAt h w r ⟨n.val * 512 + k.val, by omega⟩) q
  dsimp only at h1 h2
  rw [h1, h2]
  have hc : ((0 : EReal) < (if n.val * 512 + q.val < 2304 then Ideal.ofBits .f32 0x3F800000#32 else Ideal.ofBits .f32 0x00000000#32)) ↔ n.val * 512 + q.val < 2304 := by
    have hone : Ideal.ofBits FTy.f32 0x3F800000#32 = 1 := Ideal.ofBits_one_f32
    have hzero : Ideal.ofBits FTy.f32 0x00000000#32 = 0 := by simp [Ideal.ofBits, Ideal.ieee]
    rw [hone, hzero]
    by_cases hp : n.val * 512 + q.val < 2304
    · simp [hp]
    · simp [hp]
  simp only [hc]
  unfold qkv ssAt
  simp only [e]
  rfl

/-- Where the windows' blocks lie: point `t` takes row tile `t % 8` and column tile `t / 8`. -/
theorem idx_facts : ∀ t : Fin cfg0.N, win0_0.index t (0 : Fin 2) = t.val % 8 ∧ win0_0.index t (1 : Fin 2) = 0 ∧ win0_1.index t (0 : Fin 2) = 0 ∧ win0_1.index t (1 : Fin 2) = t.val / 8 ∧ win0_5.index t (0 : Fin 2) = t.val % 8 ∧ win0_5.index t (1 : Fin 2) = t.val / 8 :=
  (by decide +kernel : ∀ t : Fin grid0.N, _)

theorem tdiv (t : Fin cfg0.N) : t.val / 8 < 5 := by
  have h := lt_of_lt_of_eq t.isLt (show cfg0.N = 40 from N_0); omega

theorem tmod (t : Fin cfg0.N) : t.val % 8 < 8 := Nat.mod_lt _ (by decide)

/-- The row of the whole array that row `p` of point `t`'s row tile is. -/
abbrev rowAt (t : Fin cfg0.N) (p : Fin 1024) : Fin 8192 := ⟨t.val % 8 * 1024 + p.val, by have := tmod t; omega⟩
/-- The column of the whole array that column `q` of point `t`'s column tile is. -/
abbrev colAt (t : Fin cfg0.N) (q : Fin 512) : Fin 2560 := ⟨t.val / 8 * 512 + q.val, by have := tdiv t; omega⟩

theorem colAt_congr {t t' : Fin cfg0.N} (h : t.val / 8 = t'.val / 8) (q : Fin 512) : colAt t q = colAt t' q :=
  Fin.ext (by show t.val / 8 * 512 + q.val = t'.val / 8 * 512 + q.val; rw [h])

/-- Input window 0's block at point `t`, at an index. -/
theorem iblk0_apply (c : Dev nD) (t : Fin cfg0.N) (p : Fin 1024) (q : Fin 4096) :
    (iblk m c 0 t : Vec Ideal S1024x4096 .bf16) (ix2 p q) = hArr m c (ix2 (rowAt t p) q) := by
  obtain ⟨e0, e1, -⟩ := idx_facts t
  show V m c main_arg0 (((cfg0.win 0).blk t).view.emb (ix2 p q)) = _
  rw [V_main_arg0]
  show m ((c : Thread nD τ).loc main_arg0) (((cfg0.win 0).blk t).view.emb (ix2 p q)) = _
  congr 1
  funext a; apply Fin.ext
  match a with
  | ⟨0, _⟩ => show win0_0.index t (0 : Fin 2) * 1024 + 1 * p.val = t.val % 8 * 1024 + p.val; rw [e0]; omega
  | ⟨1, _⟩ => show win0_0.index t (1 : Fin 2) * 4096 + 1 * q.val = q.val; rw [e1]; omega

/-- Input window 1's block at point `t`, at an index. -/
theorem iblk1_apply (c : Dev nD) (t : Fin cfg0.N) (p : Fin 4096) (q : Fin 512) :
    (iblk m c 1 t : Vec Ideal S4096x512 .f32) (ix2 p q) = wArr m c (ix2 p (⟨(colAt t q).val, by have := (colAt t q).isLt; omega⟩)) := by
  obtain ⟨-, -, e0, e1, -⟩ := idx_facts t
  show V m c main_arg1 (((cfg0.win 1).blk t).view.emb (ix2 p q)) = _
  rw [V_main_arg1]
  show m ((c : Thread nD τ).loc main_arg1) (((cfg0.win 1).blk t).view.emb (ix2 p q)) = _
  congr 1
  funext a; apply Fin.ext
  match a with
  | ⟨0, _⟩ => show win0_1.index t (0 : Fin 2) * 4096 + 1 * p.val = p.val; rw [e0]; omega
  | ⟨1, _⟩ => show win0_1.index t (1 : Fin 2) * 512 + 1 * q.val = (t.val / 8 * 512 + q.val); rw [e1]; omega

/-- Where the gain's, the flag's, the ones' and the result's blocks lie. -/
theorem idx_facts' : ∀ t : Fin cfg0.N, (win0_2.index t (0 : Fin 2) = 0 ∧ win0_2.index t (1 : Fin 2) = t.val / 8)
    ∧ (win0_3.index t (0 : Fin 2) = 0 ∧ win0_3.index t (1 : Fin 2) = t.val / 8)
    ∧ (win0_4.index t (0 : Fin 2) = 0 ∧ win0_4.index t (1 : Fin 2) = 0) :=
  (by decide +kernel : ∀ t : Fin grid0.N, _)

/-- Input window 2's block at point `t`: the gain of its column tile. -/
theorem iblk2_apply (c : Dev nD) (t : Fin cfg0.N) (z : Fin 1) (q : Fin 512) :
    (iblk m c 2 t : Vec Ideal S1x512 .f32) (ix2 z q) = gain (gqArr m c) (gkArr m c) (colAt t q) := by
  obtain ⟨⟨e0, e1⟩, -⟩ := idx_facts' t
  rw [← V_gain m c z]
  show V m c main_v8 (((cfg0.win 2).blk t).view.emb (ix2 z q)) = _
  congr 1
  funext a; apply Fin.ext
  match a with
  | ⟨0, _⟩ => show win0_2.index t (0 : Fin 2) * 1 + 1 * z.val = z.val; rw [e0]; omega
  | ⟨1, _⟩ => show win0_2.index t (1 : Fin 2) * 512 + 1 * q.val = t.val / 8 * 512 + q.val; rw [e1]; omega

/-- Input window 3's block at point `t`: the flag of its column tile. -/
theorem iblk3_apply (c : Dev nD) (t : Fin cfg0.N) (z : Fin 1) (q : Fin 512) :
    (iblk m c 3 t : Vec Ideal S1x512 .f32) (ix2 z q) = if (colAt t q).val < 2304 then Ideal.ofBits .f32 0x3F800000#32 else Ideal.ofBits .f32 0x00000000#32 := by
  obtain ⟨-, ⟨e0, e1⟩, -⟩ := idx_facts' t
  refine Eq.trans ?_ (V_flag m c z (colAt t q))
  show V m c main_v12 (((cfg0.win 3).blk t).view.emb (ix2 z q)) = _
  congr 1
  funext a; apply Fin.ext
  match a with
  | ⟨0, _⟩ => show win0_3.index t (0 : Fin 2) * 1 + 1 * z.val = z.val; rw [e0]; omega
  | ⟨1, _⟩ => show win0_3.index t (1 : Fin 2) * 512 + 1 * q.val = t.val / 8 * 512 + q.val; rw [e1]; omega

/-- Input window 4's block at every point: the ones of each head. -/
theorem iblk4_apply (c : Dev nD) (t : Fin cfg0.N) (k q : Fin 512) :
    (iblk m c 4 t : Vec Ideal S512x512 .bf16) (ix2 k q) = (if k.val / 64 = q.val / 64 then 1 else 0 : EReal) := by
  obtain ⟨-, -, ⟨e0, e1⟩⟩ := idx_facts' t
  refine Eq.trans ?_ (V_ones m c k q)
  show V m c main_v20 (((cfg0.win 4).blk t).view.emb (ix2 k q)) = _
  congr 1
  funext a; apply Fin.ext
  match a with
  | ⟨0, _⟩ => show win0_4.index t (0 : Fin 2) * 512 + 1 * k.val = k.val; rw [e0]; omega
  | ⟨1, _⟩ => show win0_4.index t (1 : Fin 2) * 512 + 1 * q.val = q.val; rw [e1]; omega

/-- Scratch 0 after every point is the weight tile of that point's column tile. -/
theorem scratch0_eq (c : Dev nD) : ∀ (n : ℕ) (h : n < cfg0.N) (p : Fin 4096) (q : Fin 512),
    (outsAt0 m c n h).2 (ix2 p q) = wArr m c (ix2 p ⟨(colAt ⟨n, h⟩ q).val, by have := (colAt ⟨n, h⟩ q).isLt; omega⟩)
  | n, h, p, q => by
    by_cases h0 : n % 8 = 0
    · rw [outsAt0_A m c ⟨n, h⟩ h0]
      dsimp only
      rw [sout0_A, pay1_apply]
      exact iblk1_apply m c ⟨n, h⟩ p q
    · have hp : n - 1 < n := by omega
      rw [outsAt0_B m c ⟨n, h⟩ h0]
      show (outsAt0 m c (n - 1) _).2 (ix2 p q) = _
      rw [scratch0_eq c (n - 1) (by omega) p q]
      exact congrArg (fun k => wArr m c (ix2 p k)) (Fin.ext (by show (n - 1) / 8 * 512 + q.val = n / 8 * 512 + q.val; omega))
  termination_by n => n

/-- … so also what the point before a later row tile left. -/
theorem scratch0_before (c : Dev nD) (t : Fin cfg0.N) (h0 : ¬t.val % 8 = 0) (hb : t.val - 1 < cfg0.N) (p : Fin 4096) (q : Fin 512) :
    (outsAt0 m c (t.val - 1) hb).2 (ix2 p q) = wArr m c (ix2 p ⟨(colAt t q).val, by have := (colAt t q).isLt; omega⟩) := by
  rw [scratch0_eq]
  exact congrArg (fun k => wArr m c (ix2 p k)) (Fin.ext (by show (t.val - 1) / 8 * 512 + q.val = t.val / 8 * 512 + q.val; omega))

/-- What every point leaves in the result's buffer: its tile of the whole array. -/
theorem outs_apply (c : Dev nD) (t : Fin cfg0.N) (p : Fin 1024) (q : Fin 512) :
    (outsAt0 m c t.val t.isLt).1 (ix2 p q) = qkv (hArr m c) (wArr m c) (gqArr m c) (gkArr m c) (ix2 (rowAt t p) (colAt t q)) := by
  by_cases h0 : t.val % 8 = 0
  · rw [outsAt0_A m c t h0]
    dsimp only
    rw [out_A, payload_apply]
    simp only [pay1_apply, iblk0_apply, iblk1_apply, iblk2_apply, iblk3_apply, iblk4_apply]
    exact tile_eq (hArr m c) (wArr m c) (gqArr m c) (gkArr m c) (rowAt t p) ⟨t.val / 8, tdiv t⟩ q
  · rw [outsAt0_B m c t h0]
    dsimp only
    rw [out_B, payload_apply]
    simp only [scratch0_before m c t h0, iblk0_apply, iblk1_apply, iblk2_apply, iblk3_apply, iblk4_apply]
    exact tile_eq (hArr m c) (wArr m c) (gqArr m c) (gkArr m c) (rowAt t p) ⟨t.val / 8, tdiv t⟩ q

/-- Point `t` writes back block `t` of the whole array. -/
theorem flushed_eq (c : Dev nD) (t : Fin cfg0.N) (hf : (cfg0.win 5).flush t = true) :
    (dats m 0 c).flushed 5 t = ((cfg0.win 5).blk t).view.read (Elt Ideal) (qkv (hArr m c) (wArr m c) (gqArr m c) (gkArr m c)) := by
  rw [Value.flushed5]
  funext y
  obtain ⟨p, q, rfl⟩ : ∃ (p : Fin 1024) (q : Fin 512), y = ix2 p q := ⟨y 0, y 1, eq_ix2 y⟩
  obtain ⟨-, -, -, -, e0, e1⟩ := idx_facts t
  have hi : ((cfg0.win 5).blk t).view.emb (ix2 p q) = (ix2 (rowAt t p) (colAt t q) : S8192x2560.Idx) := by
    funext a; apply Fin.ext
    match a with
    | ⟨0, _⟩ => show win0_5.index t (0 : Fin 2) * 1024 + 1 * p.val = t.val % 8 * 1024 + p.val; rw [e0]; omega
    | ⟨1, _⟩ => show win0_5.index t (1 : Fin 2) * 512 + 1 * q.val = t.val / 8 * 512 + q.val; rw [e1]; omega
  show (outsAt0 m c t.val t.isLt).1 (ix2 p q) = qkv (hArr m c) (wArr m c) (gqArr m c) (gkArr m c) (((cfg0.win 5).blk t).view.emb (ix2 p q))
  rw [hi, outs_apply]

/-- The array after the run. -/
theorem final_o (c : Dev nD) : (dats m 0 c).arrAt 5 cfg0.N = qkv (hArr m c) (wArr m c) (gqArr m c) (gkArr m c) :=
  (dats m 0 c).arrAt_eq_of_cover 5 _ (fun t hf => flushed_eq m c t hf) fun i => (Value.covered_iff5 i).2 (by
    have h0 : (i 0).val < 8192 := (i 0).isLt; have h1 : (i 1).val < 2560 := (i 1).isLt; omega)

end Cert.QkvIdeal.Proved
end
-- ==== Proof.QkvValue.lean ====
/-
  The VALUE of `Qkv.lean` at the ideal instance: the reference's reading, and the equality. The kernel's reading is
  QkvKer.lean's `qkv`. The reference slices the query and key columns out of the projection, divides each head of 64
  columns by the root of its mean square, multiplies by the gain and puts the pieces side by side. The two differ in
  the rest of the squares' rounding, `z² - z²`, which is 0 where `z` is a real; the precondition says so of the query
  and key columns.
-/
module

public import proofs.«01_k».proof.Defs
public import proofs.«01_k».proof.Proof.QkvKer
public import proofs.«01_k».proof.Proof.Gen.Pre_finite_hw
public import proofs.«01_k».proof.Proof.Gen.QkvRefIdeal.Run
public import proofs.«01_k».proof.Proof.Gen.QkvRefIdeal.Read
public import Idealize.ShloMosaic.Lib.Quiescent

@[expose] public section

set_option maxRecDepth 16384

noncomputable section

open Idealize.ShloMosaic Idealize.ShloMosaic.TcCoe Idealize.SL.Sem

namespace Cert.QkvRefIdeal.Proved

open Cert.QkvRefIdeal Cert.QkvRefIdeal.Gen
open Cert.QkvIdeal.Proved (zAt ssAt qkv gain)

/-- What the test `|a| < ∞` says: `a` is a real. -/
theorem real_of_abs_lt (a : EReal) (h : Ideal.cmp .olt (max a (-a)) (Ideal.ofBits .f32 0x7F800000#32) = 1#1) : ∃ r : ℝ, a = (r : EReal) := by
  have ht : Ideal.ofBits FTy.f32 0x7F800000#32 = ⊤ := by simp [Ideal.ofBits, Ideal.ieee]
  rw [ht] at h
  induction a using EReal.rec with
  | bot => exact absurd h (by simp [Ideal.cmp])
  | top => exact absurd h (by simp [Ideal.cmp])
  | coe r => exact ⟨r, rfl⟩

/-- A finite sum of reals is a real. -/
theorem sum_reals {n : Nat} (f : Fin n → EReal) (h : ∀ k, ∃ a : ℝ, f k = (a : EReal)) : ∃ a : ℝ, ∑ k, f k = (a : EReal) := by
  choose g hg using h
  refine ⟨∑ k, g k, ?_⟩
  simp only [hg]
  induction (Finset.univ : Finset (Fin n)) using Finset.induction_on with
  | empty => simp
  | insert a S ha ih => rw [Finset.sum_insert ha, Finset.sum_insert ha, ih, EReal.coe_add]

variable (h : Vec Ideal S8192x4096 .bf16) (w : Vec Ideal S4096x14848 .f32) (gq gk : Vec Ideal S64 .f32)

/-- What the precondition says of the activations: they are reals. -/
theorem h_real (hp : (@Cert.Pre_finite_hw.fn Cert.Pre_finite_hw.Gen.facts Ideal _ h w gq gk).1 = fun _ => 1#1) (r : Fin 8192) (k : Fin 4096) :
    ∃ a : ℝ, h (ix2 r k) = (a : EReal) :=
  real_of_abs_lt _ (congrFun hp (ix2 r k))

/-- What the precondition says of the query and key columns of the weights: they are reals. -/
theorem w_real (hp : (@Cert.Pre_finite_hw.fn Cert.Pre_finite_hw.Gen.facts Ideal _ h w gq gk).2 = fun _ => 1#1) (k : Fin 4096) (j : Fin 14848) (hj : j.val < 2304) :
    ∃ a : ℝ, w (ix2 k j) = (a : EReal) := by
  have h1 := congrFun hp (ix2 k (⟨j.val, hj⟩ : Fin 2304))
  have e : extractStridedSlice (⟨2, ![4096, 2304]⟩ : Shape) ![0, 0] w Cert.Pre_finite_hw.Gen.facts.slices_S4096x14848_S4096x2304_0_0 (ix2 k (⟨j.val, hj⟩ : Fin 2304)) = w (ix2 k j) :=
    extractStridedSlice_apply _ _ _ _ _ (fun a => by match a with | ⟨0, _⟩ => (show k.val = 0 + k.val; omega) | ⟨1, _⟩ => (show j.val = 0 + j.val; omega))
  rw [← e]
  exact real_of_abs_lt _ h1

/-- A query or key column of the projection is a real. -/
theorem z_real (hh : ∀ r k, ∃ a : ℝ, h (ix2 r k) = (a : EReal)) (hw : ∀ k (j : Fin 14848), j.val < 2304 → ∃ a : ℝ, w (ix2 k j) = (a : EReal))
    (r : Fin 8192) (j : Fin 2560) (hj : j.val < 2304) : ∃ a : ℝ, zAt h w r j = (a : EReal) := by
  unfold zAt
  refine sum_reals _ fun k => ?_
  obtain ⟨a, ha⟩ := hh r k
  obtain ⟨b, hb⟩ := hw k ⟨j.val, by omega⟩ hj
  exact ⟨a * b, by rw [ha, hb, EReal.coe_mul]⟩

/-- Nothing is left of a square less itself where the column is a real. -/
theorem ss_eq (hh : ∀ r k, ∃ a : ℝ, h (ix2 r k) = (a : EReal)) (hw : ∀ k (j : Fin 14848), j.val < 2304 → ∃ a : ℝ, w (ix2 k j) = (a : EReal))
    (r : Fin 8192) (j : Fin 2560) (hj : j.val < 2304) :
    ssAt h w r j = ∑ d : Fin 64, zAt h w r ⟨j.val / 64 * 64 + d.val, by omega⟩ * zAt h w r ⟨j.val / 64 * 64 + d.val, by omega⟩ := by
  unfold ssAt
  rw [Finset.sum_eq_zero (s := Finset.univ) (f := fun d : Fin 64 => zAt h w r ⟨j.val / 64 * 64 + d.val, by omega⟩ * zAt h w r ⟨j.val / 64 * 64 + d.val, by omega⟩
        - zAt h w r ⟨j.val / 64 * 64 + d.val, by omega⟩ * zAt h w r ⟨j.val / 64 * 64 + d.val, by omega⟩) (fun d _ => by
      obtain ⟨a, ha⟩ := z_real h w hh hw r ⟨j.val / 64 * 64 + d.val, by omega⟩ (by show j.val / 64 * 64 + d.val < 2304; omega)
      beta_reduce
      rw [ha, ← EReal.coe_mul, ← EReal.coe_sub, sub_self, EReal.coe_zero]), add_zero]

/-- Division by 64 is multiplication by its reciprocal. -/
theorem div_64 (x : EReal) : Ideal.div x (Ideal.ofBits .f32 0x42800000#32) = x * Ideal.ofBits .f32 0x3C800000#32 := by
  have h1 : Ideal.ofBits FTy.f32 0x42800000#32 = ((64 : ℝ) : EReal) := by
    simp [Ideal.ofBits, Ideal.ieee]; rw [← EReal.coe_mul]; norm_num
  have h2 : Ideal.ofBits FTy.f32 0x3C800000#32 = ((1 / 64 : ℝ) : EReal) := by
    simp [Ideal.ofBits, Ideal.ieee]; rw [← EReal.coe_mul]; norm_num
  rw [h1, h2, Ideal.div_coe (by norm_num)]

/-- The projection at a column below 2560. -/
theorem v1_at (r : Fin 8192) (j : Fin 14848) (hj : j.val < 2560) :
    Read.val_main_v1 (F := Ideal) h w (ix2 r j) = zAt h w r ⟨j.val, hj⟩ := by
  rw [Read.val_main_v1_apply]
  unfold zAt
  refine Finset.sum_congr rfl fun k _ => ?_
  rw [Read.val_main_v0_apply]
  rw [show Read.lidx_main_v1 (ix2 r j) k = ix2 r k from funext fun a => by match a with | ⟨0, _⟩ => rfl | ⟨1, _⟩ => rfl,
    show Read.ridx_main_v1 (ix2 r j) k = ix2 k ⟨j.val, by omega⟩ from funext fun a => by match a with | ⟨0, _⟩ => rfl | ⟨1, _⟩ => rfl]
  rfl

/-- The query columns, as heads of 64. -/
theorem v3_at (r : Fin 8192) (a : Fin 32) (d : Fin 64) :
    Read.val_main_v3 (F := Ideal) h w (ix3 r a d) = zAt h w r ⟨a.val * 64 + d.val, by omega⟩ := by
  rw [Read.val_main_v3_apply, Read.val_main_v2_apply]
  rw [show Read.idx_main_v2 (Read.idx_main_v3 (ix3 r a d)) = ix2 r (⟨a.val * 64 + d.val, by omega⟩ : Fin 14848) from funext fun b => Fin.ext (by
    match b with
    | ⟨0, _⟩ => (show ((r.val * 32 + a.val) * 64 + d.val) / 2048 = r.val; omega)
    | ⟨1, _⟩ => (show ((r.val * 32 + a.val) * 64 + d.val) % 2048 = a.val * 64 + d.val; omega))]
  exact v1_at h w r _ (by show a.val * 64 + d.val < 2560; omega)

/-- The key columns, as heads of 64. -/
theorem v18_at (r : Fin 8192) (a : Fin 4) (d : Fin 64) :
    Read.val_main_v18 (F := Ideal) h w (ix3 r a d) = zAt h w r ⟨2048 + (a.val * 64 + d.val), by omega⟩ := by
  rw [Read.val_main_v18_apply, Read.val_main_v17_apply]
  rw [show Read.idx_main_v17 (Read.idx_main_v18 (ix3 r a d)) = ix2 r (⟨2048 + (a.val * 64 + d.val), by omega⟩ : Fin 14848) from funext fun b => Fin.ext (by
    match b with
    | ⟨0, _⟩ => (show ((r.val * 4 + a.val) * 64 + d.val) / 256 = r.val; omega)
    | ⟨1, _⟩ => (show 2048 + ((r.val * 4 + a.val) * 64 + d.val) % 256 = 2048 + (a.val * 64 + d.val); omega))]
  exact v1_at h w r _ (by show 2048 + (a.val * 64 + d.val) < 2560; omega)

/-- A head's normalized value, from the head's projections. -/
def normed (z : Fin 64 → EReal) (g : EReal) (d : Fin 64) : EReal :=
  z d * Ideal.rsqrt ((∑ e, z e * z e) * Ideal.ofBits .f32 0x3C800000#32 + Ideal.ofBits .f32 0x358637BD#32) * g

/-- The query heads of the reference. -/
theorem v16_at (r : Fin 8192) (a : Fin 32) (d : Fin 64) :
    Read.val_main_v16 (F := Ideal) h w gq (ix3 r a d) = normed (fun e => zAt h w r ⟨a.val * 64 + e.val, by omega⟩) (gq (ix1 d)) d := by
  rw [Read.val_main_v16_apply, Read.val_main_v15_apply, Read.val_main_v14_apply, Read.val_main_v13_apply, Read.val_main_v12_apply, Read.val_main_v11_apply,
    Read.val_main_v10_apply, Read.val_main_v9_apply, Read.val_main_cst_1_apply, Read.val_main_v8_apply, Read.val_main_v7_apply, Read.val_main_cst_0_apply,
    Read.val_main_v6_apply, Read.val_main_v5_apply, Read.val_main_cst_apply]
  have e : ∀ k : Fin 64, Read.val_main_v4 (F := Ideal) h w (Read.idx_main_v5 (Read.idx_main_v6 (Read.idx_main_v12 (ix3 r a d))) k)
      = zAt h w r ⟨a.val * 64 + k.val, by omega⟩ * zAt h w r ⟨a.val * 64 + k.val, by omega⟩ := fun k => by
    rw [show Read.idx_main_v5 (Read.idx_main_v6 (Read.idx_main_v12 (ix3 r a d))) k = ix3 r a k from funext fun b => by
      match b with | ⟨0, _⟩ => rfl | ⟨1, _⟩ => rfl | ⟨2, _⟩ => rfl]
    rw [Read.val_main_v4_apply, v3_at]
    rfl
  rw [Finset.sum_congr rfl fun k _ => e k, v3_at]
  rw [show Read.idx_main_v14 (Read.idx_main_v15 (ix3 r a d)) = ix1 d from funext fun b => by match b with | ⟨0, _⟩ => rfl]
  unfold normed
  rw [← div_64]
  show _ * Ideal.rsqrt (Ideal.div (Ideal.ofBits .f32 0x00000000#32 + _) _ + _) * _ = _
  rw [Ideal.ofBits_zero_f32, zero_add]
  rfl

/-- The key heads of the reference. -/
theorem v31_at (r : Fin 8192) (a : Fin 4) (d : Fin 64) :
    Read.val_main_v31 (F := Ideal) h w gk (ix3 r a d) = normed (fun e => zAt h w r ⟨2048 + (a.val * 64 + e.val), by omega⟩) (gk (ix1 d)) d := by
  rw [Read.val_main_v31_apply, Read.val_main_v30_apply, Read.val_main_v29_apply, Read.val_main_v28_apply, Read.val_main_v27_apply, Read.val_main_v26_apply,
    Read.val_main_v25_apply, Read.val_main_v24_apply, Read.val_main_cst_4_apply, Read.val_main_v23_apply, Read.val_main_v22_apply, Read.val_main_cst_3_apply,
    Read.val_main_v21_apply, Read.val_main_v20_apply, Read.val_main_cst_2_apply]
  have e : ∀ k : Fin 64, Read.val_main_v19 (F := Ideal) h w (Read.idx_main_v20 (Read.idx_main_v21 (Read.idx_main_v27 (ix3 r a d))) k)
      = zAt h w r ⟨2048 + (a.val * 64 + k.val), by omega⟩ * zAt h w r ⟨2048 + (a.val * 64 + k.val), by omega⟩ := fun k => by
    rw [show Read.idx_main_v20 (Read.idx_main_v21 (Read.idx_main_v27 (ix3 r a d))) k = ix3 r a k from funext fun b => by
      match b with | ⟨0, _⟩ => rfl | ⟨1, _⟩ => rfl | ⟨2, _⟩ => rfl]
    rw [Read.val_main_v19_apply, v18_at]
    rfl
  rw [Finset.sum_congr rfl fun k _ => e k, v18_at]
  rw [show Read.idx_main_v29 (Read.idx_main_v30 (ix3 r a d)) = ix1 d from funext fun b => by match b with | ⟨0, _⟩ => rfl]
  unfold normed
  rw [← div_64]
  show _ * Ideal.rsqrt (Ideal.div (Ideal.ofBits .f32 0x00000000#32 + _) _ + _) * _ = _
  rw [Ideal.ofBits_zero_f32, zero_add]
  rfl

/-- The pieces the reference puts side by side. -/
abbrev pieces : List ((s : Shape) × (s.Idx → EReal)) :=
  [⟨S8192x2048, Read.val_main_v33 (F := Ideal) h w gq⟩, ⟨S8192x256, Read.val_main_v34 (F := Ideal) h w gk⟩, ⟨S8192x256, Read.val_main_v32 (F := Ideal) h w⟩]

/-- The kernel's function at a query or key column is the head's normalized value. -/
theorem qkv_at (hh : ∀ r k, ∃ a : ℝ, h (ix2 r k) = (a : EReal)) (hw : ∀ k (j : Fin 14848), j.val < 2304 → ∃ a : ℝ, w (ix2 k j) = (a : EReal))
    (r : Fin 8192) (j : Fin 2560) (hj : j.val < 2304) :
    qkv h w gq gk (ix2 r j) = normed (fun e => zAt h w r ⟨j.val / 64 * 64 + e.val, by omega⟩) (gain gq gk j) ⟨j.val % 64, by omega⟩ := by
  show zAt h w r j * (if j.val < 2304 then Ideal.rsqrt (ssAt h w r j * _ + _) else 1) * gain gq gk j = _
  rw [if_pos hj, ss_eq h w hh hw r j hj]
  unfold normed
  have e : (⟨j.val / 64 * 64 + (⟨j.val % 64, by omega⟩ : Fin 64).val, by show j.val / 64 * 64 + j.val % 64 < 2560; omega⟩ : Fin 2560) = j :=
    Fin.ext (by show j.val / 64 * 64 + j.val % 64 = j.val; omega)
  beta_reduce
  rw [e]

/-- The reference's result is the kernel's function, where the activations and the query and key weights are reals. -/
theorem ref_eq (hh : ∀ r k, ∃ a : ℝ, h (ix2 r k) = (a : EReal)) (hw : ∀ k (j : Fin 14848), j.val < 2304 → ∃ a : ℝ, w (ix2 k j) = (a : EReal)) :
    Read.val_main_v35 (F := Ideal) h w gq gk = qkv h w gq gk := by
  funext i
  obtain ⟨r, j, rfl⟩ : ∃ (r : Fin 8192) (j : Fin 2560), i = ix2 r j := ⟨i 0, i 1, eq_ix2 i⟩
  unfold Read.val_main_v35
  rcases Nat.lt_or_ge j.val 2048 with hj | hj
  · refine (concatenate_apply_piece (1 : Fin S8192x2560.rank) (pieces h w gq gk) _ (ix2 r j) 0 (by show 0 < 3; omega)
      S8192x2048 (Read.val_main_v33 (F := Ideal) h w gq) rfl rfl 0 rfl (ix2 r (⟨j.val, hj⟩ : Fin 2048))
      (fun b hb => by match b with | ⟨0, _⟩ => rfl | ⟨1, _⟩ => exact absurd rfl hb) (by show 0 + j.val = j.val; omega)).trans ?_
    rw [Read.val_main_v33_apply]
    rw [show Read.idx_main_v33 (ix2 r (⟨j.val, hj⟩ : Fin 2048)) = ix3 r (⟨j.val / 64, by omega⟩ : Fin 32) (⟨j.val % 64, by omega⟩ : Fin 64) from funext fun b => Fin.ext (by
      match b with
      | ⟨0, _⟩ => (show (r.val * 2048 + j.val) / 2048 = r.val; omega)
      | ⟨1, _⟩ => (show (r.val * 2048 + j.val) / 64 % 32 = j.val / 64; omega)
      | ⟨2, _⟩ => (show (r.val * 2048 + j.val) % 64 = j.val % 64; omega))]
    rw [v16_at, qkv_at h w gq gk hh hw r j (by omega)]
    unfold gain
    rw [if_pos hj]
  · rcases Nat.lt_or_ge j.val 2304 with hk | hk
    · refine (concatenate_apply_piece (1 : Fin S8192x2560.rank) (pieces h w gq gk) _ (ix2 r j) 1 (by show 1 < 3; omega)
        S8192x256 (Read.val_main_v34 (F := Ideal) h w gk) rfl rfl 2048 rfl (ix2 r (⟨j.val - 2048, by omega⟩ : Fin 256))
        (fun b hb => by match b with | ⟨0, _⟩ => rfl | ⟨1, _⟩ => exact absurd rfl hb) (by show 2048 + (j.val - 2048) = j.val; omega)).trans ?_
      rw [Read.val_main_v34_apply]
      rw [show Read.idx_main_v34 (ix2 r (⟨j.val - 2048, by omega⟩ : Fin 256)) = ix3 r (⟨(j.val - 2048) / 64, by omega⟩ : Fin 4) (⟨j.val % 64, by omega⟩ : Fin 64) from funext fun b => Fin.ext (by
        match b with
        | ⟨0, _⟩ => (show (r.val * 256 + (j.val - 2048)) / 256 = r.val; omega)
        | ⟨1, _⟩ => (show (r.val * 256 + (j.val - 2048)) / 64 % 4 = (j.val - 2048) / 64; omega)
        | ⟨2, _⟩ => (show (r.val * 256 + (j.val - 2048)) % 64 = j.val % 64; omega))]
      rw [v31_at, qkv_at h w gq gk hh hw r j hk]
      unfold gain
      rw [if_neg (by omega), if_pos hk]
      have e : (fun e : Fin 64 => zAt h w r ⟨2048 + ((⟨(j.val - 2048) / 64, by omega⟩ : Fin 4).val * 64 + e.val), by show 2048 + ((j.val - 2048) / 64 * 64 + e.val) < 2560; omega⟩)
          = fun e : Fin 64 => zAt h w r ⟨j.val / 64 * 64 + e.val, by omega⟩ :=
        funext fun e => congrArg (zAt h w r) (Fin.ext (by show 2048 + ((j.val - 2048) / 64 * 64 + e.val) = j.val / 64 * 64 + e.val; omega))
      rw [e]
    · refine (concatenate_apply_piece (1 : Fin S8192x2560.rank) (pieces h w gq gk) _ (ix2 r j) 2 (by show 2 < 3; omega)
        S8192x256 (Read.val_main_v32 (F := Ideal) h w) rfl rfl 2304 rfl (ix2 r (⟨j.val - 2304, by omega⟩ : Fin 256))
        (fun b hb => by match b with | ⟨0, _⟩ => rfl | ⟨1, _⟩ => exact absurd rfl hb) (by show 2304 + (j.val - 2304) = j.val; omega)).trans ?_
      rw [Read.val_main_v32_apply]
      rw [show Read.idx_main_v32 (ix2 r (⟨j.val - 2304, by omega⟩ : Fin 256)) = ix2 r (⟨j.val, by omega⟩ : Fin 14848) from funext fun b => Fin.ext (by
        match b with
        | ⟨0, _⟩ => rfl
        | ⟨1, _⟩ => (show 2304 + (j.val - 2304) = j.val; omega))]
      rw [v1_at h w r _ (by show j.val < 2560; omega)]
      show _ = zAt h w r j * (if j.val < 2304 then Ideal.rsqrt (ssAt h w r j * _ + _) else 1) * gain gq gk j
      unfold gain
      rw [if_neg (by omega), if_neg (by omega), if_neg (by omega), mul_one, Ideal.ofBits_one_f32, mul_one]

end Cert.QkvRefIdeal.Proved

namespace Cert.QkvClaim

open Cert.QkvIdeal.Proved (qkv hArr wArr gqArr gkArr)

/-- The kernel's result at the ideal instance is the reference's, at every index. -/
theorem algebraic : Cert.algebraic_QkvIdeal_QkvRefIdeal_pre_finite_hw (hQkvIdeal := Cert.QkvIdeal.Gen.facts) (hQkvRefIdeal := Cert.QkvRefIdeal.Gen.facts) (hPre_finite_hw := Cert.Pre_finite_hw.Gen.facts) :=
  fun m ρ m' ρ' hpre hag =>
    ⟨fun c => qkv (hArr m c) (wArr m c) (gqArr m c) (gkArr m c),
      (θ_run (Cert.QkvIdeal.defs (F := Ideal)) _ _).mono
        (fun _ h c => ⟨(h c).1.trans (Cert.QkvIdeal.Proved.final_o m c), (h c).2⟩) (Cert.QkvIdeal.Value.run_blocks m ρ),
      (θ_run (Cert.QkvRefIdeal.defs (F := Ideal)) _ _).mono
        (fun _ h c => ⟨by
          refine (h c).1.trans ?_
          obtain ⟨g0, g1, g2, g3⟩ := hag c
          rw [g0, g1, g2, g3]
          refine (Cert.QkvRefIdeal.Read.val_main_v35_eq _ _ _ _).trans ?_
          exact Cert.QkvRefIdeal.Proved.ref_eq _ _ _ _ (Cert.QkvRefIdeal.Proved.h_real _ _ _ _ (hpre c).1) (Cert.QkvRefIdeal.Proved.w_real _ _ _ _ (hpre c).2), (h c).2⟩)
        (Cert.QkvRefIdeal.Value.run m' ρ')⟩

end Cert.QkvClaim
end
-- ==== Proof.UgvValue.lean ====
/-
  The VALUE of `Ugv.lean` at the ideal instance: the projection of the gated branch, the GELU (by the error function) of
  the product of the activations and the weight columns 2560 to 6655. Grid, scratch and proof as in GatesValue.lean; the
  function is written by the kernel as `x (erf (x/√2) + 1) / 2` and by the reference as `x/2 · erfc (−x/√2)`, which
  agree at every extended real because the error function is odd (`gelu_eq`).
-/
module

public import proofs.«01_k».proof.Defs
public import proofs.«01_k».proof.Proof.Gen.UgvIdeal.Value
public import proofs.«01_k».proof.Proof.Gen.UgvRefIdeal.Run
public import proofs.«01_k».proof.Proof.Gen.UgvRefIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.UgvIdeal.Proved

open Cert.UgvIdeal Cert.UgvIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The factor under the error function, the single-precision value nearest `1/√2`. -/
abbrev rsqrt2 : EReal := FloatOps.ofBits (F := Ideal) .f32 0x3F3504F3#32
/-- The factor one half. -/
abbrev half : EReal := FloatOps.ofBits (F := Ideal) .f32 0x3F000000#32

/-- The GELU as the kernel writes it. -/
def gelu (x : EReal) : EReal := x * (Ideal.erf (x * rsqrt2) + 1) * half

/-- … and as the reference writes it. -/
theorem gelu_eq (x : EReal) : half * x * Ideal.erfc (-x * rsqrt2) = gelu x := by
  unfold gelu Ideal.erfc
  rw [EReal.neg_mul, Ideal.erf_neg, sub_eq_add_neg, neg_neg, add_comm (1 : EReal), mul_comm half, mul_assoc, mul_assoc, mul_comm half]

/-- The activations `h`. -/
abbrev hArr (c : Dev nD) : Vec Ideal S8192x4096 .bf16 := m ((c : Thread nD τ).loc main_arg0)
/-- The projection weights. -/
abbrev wArr (c : Dev nD) : Vec Ideal S4096x14848 .f32 := m ((c : Thread nD τ).loc main_arg1)

/-- What point `t` leaves in the result's buffer when the scratch holds `w` and the row tile is `x`: the payload. -/
theorem out_B (c : Dev nD) (i : grid0.Coords) (a2 : Memref sig .tc .vmem S1024x4096 .bf16) (h2 : a2.IsWhole)
    (a3 : Memref sig .tc .vmem S4096x512 .f32) (h3 : a3.IsWhole) (a4 : Memref sig .tc .vmem S1024x512 .bf16) (h4 : a4.IsWhole)
    (a5 : Memref sig .tc .vmem S4096x512 .bf16) (h5 : a5.IsWhole) (hc : ¬cond0_0 i) (x : Vec Ideal S1024x4096 .bf16)
    (w : Vec Ideal S4096x512 .f32) (s : Vec Ideal S4096x512 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  sl_unfold_words
  rw [View.canon_unit_zero hz]
  simp only [View.readAt_eq_ld, h2.read_unread, h5.read_unread, View.ld_unit_zero (S := S1024x4096) hz, View.ld_unit_zero (S := S4096x512) hz]

/-- The first row tile of a column tile: the weight tile goes to the scratch and is read back. -/
theorem out_A (c : Dev nD) (i : grid0.Coords) (a2 : Memref sig .tc .vmem S1024x4096 .bf16) (h2 : a2.IsWhole)
    (a3 : Memref sig .tc .vmem S4096x512 .f32) (h3 : a3.IsWhole) (a4 : Memref sig .tc .vmem S1024x512 .bf16) (h4 : a4.IsWhole)
    (a5 : Memref sig .tc .vmem S4096x512 .bf16) (h5 : a5.IsWhole) (hc : cond0_0 i) (x : Vec Ideal S1024x4096 .bf16)
    (w : Vec Ideal S4096x512 .f32) :
    out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero hz, View.readCov_unit_zero (S := S4096x512) _ hz]
  simp only [View.readAt_eq_ld, h2.read_unread, h3.read_unread, View.ld_unit_zero (S := S1024x4096) hz, View.ld_unit_zero (S := S4096x512) hz]

theorem sout_A (c : Dev nD) (i : grid0.Coords) (a2 : Memref sig .tc .vmem S1024x4096 .bf16) (h2 : a2.IsWhole)
    (a3 : Memref sig .tc .vmem S4096x512 .f32) (h3 : a3.IsWhole) (a4 : Memref sig .tc .vmem S1024x512 .bf16) (h4 : a4.IsWhole)
    (a5 : Memref sig .tc .vmem S4096x512 .bf16) (h5 : a5.IsWhole) (hc : cond0_0 i) (x : Vec Ideal S1024x4096 .bf16)
    (w : Vec Ideal S4096x512 .f32) :
    sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero hz]
  simp only [View.readAt_eq_ld, h3.read_unread, View.ld_unit_zero (S := S4096x512) hz]

/-- The copy of the weight tile is the weight tile, whatever the element type's width. -/
theorem pay1_apply (w : Vec Ideal S4096x512 .f32) (j : S4096x512.Idx) : k0_pay1 (F := Ideal) w j = w j := by
  unfold k0_pay1
  idx_vars j
  pointwise

/-- A tile of the result: the GELU of the product. -/
theorem pay2_apply (x : Vec Ideal S1024x4096 .bf16) (s : Vec Ideal S4096x512 .bf16) (p : Fin 1024) (q : Fin 512) :
    k0_pay2 (F := Ideal) x s (ix2 p q) = gelu (∑ k : Fin 4096, x (ix2 p k) * s (ix2 k q)) := by
  unfold k0_pay2 gelu
  pointwise
  rfl

/-- The result as one whole array: entry (row, column) is the GELU of the row of `h` times the column of
    the weights, which begin at column 2560. -/
def ugv (h : Vec Ideal S8192x4096 .bf16) (w : Vec Ideal S4096x14848 .f32) : Vec Ideal S8192x4096 .bf16 := fun i =>
  gelu (∑ k : Fin 4096, h (ix2 (i 0) k) * w (ix2 k ⟨2560 + (i 1).val, by have : (i 1).val < 4096 := (i 1).isLt; omega⟩))

/-- Where the windows' blocks lie: point `t` takes row tile `t % 8` and column tile `t / 8`. -/
theorem idx_facts : ∀ t : Fin cfg0.N, win0_0.index t (0 : Fin 2) = t.val % 8 ∧ win0_0.index t (1 : Fin 2) = 0
    ∧ win0_1.index t (0 : Fin 2) = 0 ∧ win0_1.index t (1 : Fin 2) = 5 + t.val / 8
    ∧ win0_2.index t (0 : Fin 2) = t.val % 8 ∧ win0_2.index t (1 : Fin 2) = t.val / 8 :=
  (by decide +kernel : ∀ t : Fin grid0.N, _)

/-- The row tile of `h` at point `t`, at an index. -/
theorem iblk0_apply (c : Dev nD) (t : Fin cfg0.N) (p : Fin 1024) (k : Fin 4096) :
    (iblk m c 0 t : Vec Ideal S1024x4096 .bf16) (ix2 p k)
      = hArr m c (ix2 ⟨t.val % 8 * 1024 + p.val, by have := Nat.mod_lt t.val (show 0 < 8 by decide); omega⟩ k) := by
  obtain ⟨e0, e1, -⟩ := idx_facts t
  show m ((c : Thread nD τ).loc main_arg0) (((cfg0.win 0).blk t).view.emb (ix2 p k)) = _
  congr 1
  funext a; apply Fin.ext
  match a with
  | ⟨0, _⟩ => show win0_0.index t (0 : Fin 2) * 1024 + 1 * p.val = t.val % 8 * 1024 + p.val; rw [e0]; omega
  | ⟨1, _⟩ => show win0_0.index t (1 : Fin 2) * 4096 + 1 * k.val = k.val; rw [e1]; omega

theorem tdiv (t : Fin cfg0.N) : t.val / 8 < 8 := by
  have h := lt_of_lt_of_eq t.isLt (show cfg0.N = 64 from N_0); omega

/-- The weight tile at point `t`, at an index. -/
theorem iblk1_apply (c : Dev nD) (t : Fin cfg0.N) (k : Fin 4096) (q : Fin 512) :
    (iblk m c 1 t : Vec Ideal S4096x512 .f32) (ix2 k q)
      = wArr m c (ix2 k ⟨2560 + (t.val / 8 * 512 + q.val), by have := tdiv t; omega⟩) := by
  obtain ⟨-, -, e0, e1, -⟩ := idx_facts t
  show m ((c : Thread nD τ).loc main_arg1) (((cfg0.win 1).blk t).view.emb (ix2 k q)) = _
  congr 1
  funext a; apply Fin.ext
  match a with
  | ⟨0, _⟩ => show win0_1.index t (0 : Fin 2) * 4096 + 1 * k.val = k.val; rw [e0]; omega
  | ⟨1, _⟩ => show win0_1.index t (1 : Fin 2) * 512 + 1 * q.val = 2560 + (t.val / 8 * 512 + q.val); rw [e1]; omega

/-- The scratch after every point is the weight tile of that point's column tile: stored at the first row tile, kept at
    the others. -/
theorem scratch_eq (c : Dev nD) : ∀ (n : ℕ) (h : n < cfg0.N) (k : Fin 4096) (q : Fin 512),
    (outsAt0 m c n h).2 (ix2 k q) = wArr m c (ix2 k ⟨2560 + (n / 8 * 512 + q.val), by have := tdiv ⟨n, h⟩; dsimp only at this; omega⟩)
  | n, h, k, q => by
    by_cases h0 : n % 8 = 0
    · rw [outsAt0_A m c ⟨n, h⟩ h0]
      dsimp only
      rw [sout_A, pay1_apply]
      exact iblk1_apply m c ⟨n, h⟩ k q
    · have hp : n - 1 < n := by omega
      rw [outsAt0_B m c ⟨n, h⟩ h0]
      show (outsAt0 m c (n - 1) _).2 (ix2 k q) = _
      rw [scratch_eq c (n - 1) (by omega) k q]
      congr 3
      show 2560 + ((n - 1) / 8 * 512 + q.val) = 2560 + (n / 8 * 512 + q.val)
      have : (n - 1) / 8 = n / 8 := by omega
      rw [this]
  termination_by n => n

/-- What every point leaves in the result's buffer: its tile of the whole array. -/
theorem outs_apply (c : Dev nD) (t : Fin cfg0.N) (p : Fin 1024) (q : Fin 512) :
    (outsAt0 m c t.val t.isLt).1 (ix2 p q)
      = gelu (∑ k : Fin 4096, hArr m c (ix2 ⟨t.val % 8 * 1024 + p.val, by have := Nat.mod_lt t.val (show 0 < 8 by decide); omega⟩ k)
          * wArr m c (ix2 k ⟨2560 + (t.val / 8 * 512 + q.val), by have := tdiv t; omega⟩)) := by
  by_cases h0 : t.val % 8 = 0
  · rw [outsAt0_A m c t h0]
    dsimp only
    rw [out_A, pay2_apply]
    simp only [pay1_apply, iblk0_apply, iblk1_apply]
  · rw [outsAt0_B m c t h0]
    dsimp only
    rw [out_B, pay2_apply]
    have hd : (t.val - 1) / 8 = t.val / 8 := by omega
    simp only [scratch_eq, iblk0_apply, hd]

/-- Point `t` writes back block `t` of the whole array. -/
theorem flushed_eq (c : Dev nD) (t : Fin cfg0.N) (hf : (cfg0.win 2).flush t = true) :
    (dats m 0 c).flushed 2 t = ((cfg0.win 2).blk t).view.read (Elt Ideal) (ugv (hArr m c) (wArr m c)) := by
  rw [Value.flushed2]
  funext y
  obtain ⟨p, q, rfl⟩ : ∃ (p : Fin 1024) (q : Fin 512), y = ix2 p q := ⟨y 0, y 1, eq_ix2 y⟩
  obtain ⟨-, -, -, -, e0, e1⟩ := idx_facts t
  have hi : ((cfg0.win 2).blk t).view.emb (ix2 p q) = (ix2 ⟨t.val % 8 * 1024 + p.val, by have := Nat.mod_lt t.val (show 0 < 8 by decide); omega⟩
      ⟨t.val / 8 * 512 + q.val, by have := tdiv t; omega⟩ : S8192x4096.Idx) := by
    funext a; apply Fin.ext
    match a with
    | ⟨0, _⟩ => show win0_2.index t (0 : Fin 2) * 1024 + 1 * p.val = t.val % 8 * 1024 + p.val; rw [e0]; omega
    | ⟨1, _⟩ => show win0_2.index t (1 : Fin 2) * 512 + 1 * q.val = t.val / 8 * 512 + q.val; rw [e1]; omega
  show (outsAt0 m c t.val t.isLt).1 (ix2 p q) = ugv (hArr m c) (wArr m c) (((cfg0.win 2).blk t).view.emb (ix2 p q))
  rw [hi, outs_apply]
  rfl

/-- The array after the run. -/
theorem final_o (c : Dev nD) : (dats m 0 c).arrAt 2 cfg0.N = ugv (hArr m c) (wArr m c) :=
  (dats m 0 c).arrAt_eq_of_cover 2 _ (fun t hf => flushed_eq m c t hf) fun i => (Value.covered_iff2 i).2 (by
    have h0 : (i 0).val < 8192 := (i 0).isLt; have h1 : (i 1).val < 4096 := (i 1).isLt; omega)

end Cert.UgvIdeal.Proved

namespace Cert.UgvRefIdeal.Proved

open Cert.UgvRefIdeal Cert.UgvRefIdeal.Gen

/-- The reference's result is the same function of the two arguments. -/
theorem ref_eq (h : Vec Ideal S8192x4096 .bf16) (w : Vec Ideal S4096x14848 .f32) :
    Read.val_main_v10 (F := Ideal) h w = Cert.UgvIdeal.Proved.ugv h w := by
  funext i
  obtain ⟨p, q, rfl⟩ : ∃ (p : Fin 8192) (q : Fin 4096), i = ix2 p q := ⟨i 0, i 1, eq_ix2 i⟩
  simp only [Read.val_main_v10_apply, Read.val_main_v9_apply, Read.val_main_v8_apply, Read.val_main_v7_apply, Read.val_main_v6_apply,
    Read.val_main_v5_apply, Read.val_main_v4_apply, Read.val_main_v3_apply, Read.val_main_v2_apply, Read.val_main_v1_apply, Read.val_main_v0_apply,
    Read.val_main_cst_apply, Read.val_main_cst_0_apply]
  unfold Cert.UgvIdeal.Proved.ugv
  have hs : ∀ k : Fin 4096, Read.lidx_main_v1 (Read.idx_main_v2 (ix2 p q)) k = ix2 p k := fun k => funext fun a => by
    match a with | ⟨0, _⟩ => rfl | ⟨1, _⟩ => rfl
  have hw : ∀ k : Fin 4096, Read.ridx_main_v1 (Read.idx_main_v2 (ix2 p q)) k = ix2 k ⟨2560 + q.val, by omega⟩ := fun k => funext fun a => by
    match a with | ⟨0, _⟩ => rfl | ⟨1, _⟩ => rfl
  simp only [hs, hw]
  exact Cert.UgvIdeal.Proved.gelu_eq _

end Cert.UgvRefIdeal.Proved

namespace Cert.UgvClaim

/-- The kernel's result at the ideal instance is the reference's, at every index. -/
theorem algebraic : Cert.algebraic_UgvIdeal_UgvRefIdeal (hUgvIdeal := Cert.UgvIdeal.Gen.facts) (hUgvRefIdeal := Cert.UgvRefIdeal.Gen.facts) :=
  fun m ρ m' ρ' _ hag =>
    ⟨fun c => Cert.UgvIdeal.Proved.ugv (Cert.UgvIdeal.Proved.hArr m c) (Cert.UgvIdeal.Proved.wArr m c),
      (θ_run (Cert.UgvIdeal.defs (F := Ideal)) _ _).mono
        (fun _ h c => ⟨(h c).1.trans (Cert.UgvIdeal.Proved.final_o m c), (h c).2⟩) (Cert.UgvIdeal.Value.run_blocks m ρ),
      (θ_run (Cert.UgvRefIdeal.defs (F := Ideal)) _ _).mono
        (fun _ h c => ⟨by
          refine (h c).1.trans ?_
          rw [Cert.UgvRefIdeal.Read.val_main_v10_eq, Cert.UgvRefIdeal.Proved.ref_eq, (hag c).1, (hag c).2], (h c).2⟩)
        (Cert.UgvRefIdeal.Value.run m' ρ')⟩

end Cert.UgvClaim
end
-- ==== Proof.GatesValue.lean ====
/-
  The VALUE of `Gates.lean` at the ideal instance: the branch gates of the mixing layer. The kernel walks a grid of 16
  column tiles by 8 row tiles; at the first row tile of a column tile it copies the weight tile into a scratch, and at
  every row tile it stores the logistic function of the product of the row tile and the scratch. Shown here: the scratch
  at every point is the weight tile of that point's column tile (`scratch_eq`, by induction on the point), each point
  writes back its tile of one whole array (`flushed_eq`), and the tiles cover the array (`final_o`). The reference's
  result, read at an index, is the same function of the two arguments (`ref_eq`).
-/
module

public import proofs.«01_k».proof.Defs
public import proofs.«01_k».proof.Proof.Gen.GatesIdeal.Value
public import proofs.«01_k».proof.Proof.Gen.GatesRefIdeal.Run
public import proofs.«01_k».proof.Proof.Gen.GatesRefIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GatesIdeal.Proved

open Cert.GatesIdeal Cert.GatesIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The activations `h`. -/
abbrev hArr (c : Dev nD) : Vec Ideal S8192x4096 .bf16 := m ((c : Thread nD τ).loc main_arg0)
/-- The projection weights. -/
abbrev wArr (c : Dev nD) : Vec Ideal S4096x14848 .f32 := m ((c : Thread nD τ).loc main_arg1)

/-- What point `t` leaves in the result's buffer when the scratch holds `w` and the row tile is `x`: the payload. -/
theorem out_B (c : Dev nD) (i : grid0.Coords) (a2 : Memref sig .tc .vmem S1024x4096 .bf16) (h2 : a2.IsWhole)
    (a3 : Memref sig .tc .vmem S4096x512 .f32) (h3 : a3.IsWhole) (a4 : Memref sig .tc .vmem S1024x512 .bf16) (h4 : a4.IsWhole)
    (a5 : Memref sig .tc .vmem S4096x512 .bf16) (h5 : a5.IsWhole) (hc : ¬cond0_0 i) (x : Vec Ideal S1024x4096 .bf16)
    (w : Vec Ideal S4096x512 .f32) (s : Vec Ideal S4096x512 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  sl_unfold_words
  rw [View.canon_unit_zero hz]
  simp only [View.readAt_eq_ld, h2.read_unread, h5.read_unread, View.ld_unit_zero (S := S1024x4096) hz, View.ld_unit_zero (S := S4096x512) hz]

/-- The first row tile of a column tile: the weight tile goes to the scratch and is read back. -/
theorem out_A (c : Dev nD) (i : grid0.Coords) (a2 : Memref sig .tc .vmem S1024x4096 .bf16) (h2 : a2.IsWhole)
    (a3 : Memref sig .tc .vmem S4096x512 .f32) (h3 : a3.IsWhole) (a4 : Memref sig .tc .vmem S1024x512 .bf16) (h4 : a4.IsWhole)
    (a5 : Memref sig .tc .vmem S4096x512 .bf16) (h5 : a5.IsWhole) (hc : cond0_0 i) (x : Vec Ideal S1024x4096 .bf16)
    (w : Vec Ideal S4096x512 .f32) :
    out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero hz, View.readCov_unit_zero (S := S4096x512) _ hz]
  simp only [View.readAt_eq_ld, h2.read_unread, h3.read_unread, View.ld_unit_zero (S := S1024x4096) hz, View.ld_unit_zero (S := S4096x512) hz]

theorem sout_A (c : Dev nD) (i : grid0.Coords) (a2 : Memref sig .tc .vmem S1024x4096 .bf16) (h2 : a2.IsWhole)
    (a3 : Memref sig .tc .vmem S4096x512 .f32) (h3 : a3.IsWhole) (a4 : Memref sig .tc .vmem S1024x512 .bf16) (h4 : a4.IsWhole)
    (a5 : Memref sig .tc .vmem S4096x512 .bf16) (h5 : a5.IsWhole) (hc : cond0_0 i) (x : Vec Ideal S1024x4096 .bf16)
    (w : Vec Ideal S4096x512 .f32) :
    sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero hz]
  simp only [View.readAt_eq_ld, h3.read_unread, View.ld_unit_zero (S := S4096x512) hz]

/-- The copy of the weight tile is the weight tile, whatever the element type's width. -/
theorem pay1_apply (w : Vec Ideal S4096x512 .f32) (j : S4096x512.Idx) : k0_pay1 (F := Ideal) w j = w j := by
  unfold k0_pay1
  idx_vars j
  pointwise

/-- A tile of the result: the logistic function of the product. -/
theorem pay2_apply (x : Vec Ideal S1024x4096 .bf16) (s : Vec Ideal S4096x512 .bf16) (p : Fin 1024) (q : Fin 512) :
    k0_pay2 (F := Ideal) x s (ix2 p q) = Ideal.logistic (∑ k : Fin 4096, x (ix2 p k) * s (ix2 k q)) := by
  unfold k0_pay2
  pointwise

/-- The result as one whole array: entry (row, column) is the logistic function of the row of `h` times the column of
    the gate weights, which begin at column 6656. -/
def gates (h : Vec Ideal S8192x4096 .bf16) (w : Vec Ideal S4096x14848 .f32) : Vec Ideal S8192x8192 .bf16 := fun i =>
  Ideal.logistic (∑ k : Fin 4096, h (ix2 (i 0) k) * w (ix2 k ⟨6656 + (i 1).val, by have : (i 1).val < 8192 := (i 1).isLt; omega⟩))

/-- Where the windows' blocks lie: point `t` takes row tile `t % 8` and column tile `t / 8`. -/
theorem idx_facts : ∀ t : Fin cfg0.N, win0_0.index t (0 : Fin 2) = t.val % 8 ∧ win0_0.index t (1 : Fin 2) = 0
    ∧ win0_1.index t (0 : Fin 2) = 0 ∧ win0_1.index t (1 : Fin 2) = 13 + t.val / 8
    ∧ win0_2.index t (0 : Fin 2) = t.val % 8 ∧ win0_2.index t (1 : Fin 2) = t.val / 8 :=
  (by decide +kernel : ∀ t : Fin grid0.N, _)

/-- The row tile of `h` at point `t`, at an index. -/
theorem iblk0_apply (c : Dev nD) (t : Fin cfg0.N) (p : Fin 1024) (k : Fin 4096) :
    (iblk m c 0 t : Vec Ideal S1024x4096 .bf16) (ix2 p k)
      = hArr m c (ix2 ⟨t.val % 8 * 1024 + p.val, by have := Nat.mod_lt t.val (show 0 < 8 by decide); omega⟩ k) := by
  obtain ⟨e0, e1, -⟩ := idx_facts t
  show m ((c : Thread nD τ).loc main_arg0) (((cfg0.win 0).blk t).view.emb (ix2 p k)) = _
  congr 1
  funext a; apply Fin.ext
  match a with
  | ⟨0, _⟩ => show win0_0.index t (0 : Fin 2) * 1024 + 1 * p.val = t.val % 8 * 1024 + p.val; rw [e0]; omega
  | ⟨1, _⟩ => show win0_0.index t (1 : Fin 2) * 4096 + 1 * k.val = k.val; rw [e1]; omega

theorem tdiv (t : Fin cfg0.N) : t.val / 8 < 16 := by
  have h := lt_of_lt_of_eq t.isLt (show cfg0.N = 128 from N_0); omega

/-- The weight tile at point `t`, at an index. -/
theorem iblk1_apply (c : Dev nD) (t : Fin cfg0.N) (k : Fin 4096) (q : Fin 512) :
    (iblk m c 1 t : Vec Ideal S4096x512 .f32) (ix2 k q)
      = wArr m c (ix2 k ⟨6656 + (t.val / 8 * 512 + q.val), by have := tdiv t; omega⟩) := by
  obtain ⟨-, -, e0, e1, -⟩ := idx_facts t
  show m ((c : Thread nD τ).loc main_arg1) (((cfg0.win 1).blk t).view.emb (ix2 k q)) = _
  congr 1
  funext a; apply Fin.ext
  match a with
  | ⟨0, _⟩ => show win0_1.index t (0 : Fin 2) * 4096 + 1 * k.val = k.val; rw [e0]; omega
  | ⟨1, _⟩ => show win0_1.index t (1 : Fin 2) * 512 + 1 * q.val = 6656 + (t.val / 8 * 512 + q.val); rw [e1]; omega

/-- The scratch after every point is the weight tile of that point's column tile: stored at the first row tile, kept at
    the others. -/
theorem scratch_eq (c : Dev nD) : ∀ (n : ℕ) (h : n < cfg0.N) (k : Fin 4096) (q : Fin 512),
    (outsAt0 m c n h).2 (ix2 k q) = wArr m c (ix2 k ⟨6656 + (n / 8 * 512 + q.val), by have := tdiv ⟨n, h⟩; dsimp only at this; omega⟩)
  | n, h, k, q => by
    by_cases h0 : n % 8 = 0
    · rw [outsAt0_A m c ⟨n, h⟩ h0]
      dsimp only
      rw [sout_A, pay1_apply]
      exact iblk1_apply m c ⟨n, h⟩ k q
    · have hp : n - 1 < n := by omega
      rw [outsAt0_B m c ⟨n, h⟩ h0]
      show (outsAt0 m c (n - 1) _).2 (ix2 k q) = _
      rw [scratch_eq c (n - 1) (by omega) k q]
      congr 3
      show 6656 + ((n - 1) / 8 * 512 + q.val) = 6656 + (n / 8 * 512 + q.val)
      have : (n - 1) / 8 = n / 8 := by omega
      rw [this]
  termination_by n => n

/-- What every point leaves in the result's buffer: its tile of the whole array. -/
theorem outs_apply (c : Dev nD) (t : Fin cfg0.N) (p : Fin 1024) (q : Fin 512) :
    (outsAt0 m c t.val t.isLt).1 (ix2 p q)
      = Ideal.logistic (∑ k : Fin 4096, hArr m c (ix2 ⟨t.val % 8 * 1024 + p.val, by have := Nat.mod_lt t.val (show 0 < 8 by decide); omega⟩ k)
          * wArr m c (ix2 k ⟨6656 + (t.val / 8 * 512 + q.val), by have := tdiv t; omega⟩)) := by
  by_cases h0 : t.val % 8 = 0
  · rw [outsAt0_A m c t h0]
    dsimp only
    rw [out_A, pay2_apply]
    simp only [pay1_apply, iblk0_apply, iblk1_apply]
  · rw [outsAt0_B m c t h0]
    dsimp only
    rw [out_B, pay2_apply]
    have hd : (t.val - 1) / 8 = t.val / 8 := by omega
    simp only [scratch_eq, iblk0_apply, hd]

/-- Point `t` writes back block `t` of the whole array. -/
theorem flushed_eq (c : Dev nD) (t : Fin cfg0.N) (hf : (cfg0.win 2).flush t = true) :
    (dats m 0 c).flushed 2 t = ((cfg0.win 2).blk t).view.read (Elt Ideal) (gates (hArr m c) (wArr m c)) := by
  rw [Value.flushed2]
  funext y
  obtain ⟨p, q, rfl⟩ : ∃ (p : Fin 1024) (q : Fin 512), y = ix2 p q := ⟨y 0, y 1, eq_ix2 y⟩
  obtain ⟨-, -, -, -, e0, e1⟩ := idx_facts t
  have hi : ((cfg0.win 2).blk t).view.emb (ix2 p q) = (ix2 ⟨t.val % 8 * 1024 + p.val, by have := Nat.mod_lt t.val (show 0 < 8 by decide); omega⟩
      ⟨t.val / 8 * 512 + q.val, by have := tdiv t; omega⟩ : S8192x8192.Idx) := by
    funext a; apply Fin.ext
    match a with
    | ⟨0, _⟩ => show win0_2.index t (0 : Fin 2) * 1024 + 1 * p.val = t.val % 8 * 1024 + p.val; rw [e0]; omega
    | ⟨1, _⟩ => show win0_2.index t (1 : Fin 2) * 512 + 1 * q.val = t.val / 8 * 512 + q.val; rw [e1]; omega
  show (outsAt0 m c t.val t.isLt).1 (ix2 p q) = gates (hArr m c) (wArr m c) (((cfg0.win 2).blk t).view.emb (ix2 p q))
  rw [hi, outs_apply]
  rfl

/-- The array after the run. -/
theorem final_o (c : Dev nD) : (dats m 0 c).arrAt 2 cfg0.N = gates (hArr m c) (wArr m c) :=
  (dats m 0 c).arrAt_eq_of_cover 2 _ (fun t hf => flushed_eq m c t hf) fun i => (Value.covered_iff2 i).2 (by
    have h0 : (i 0).val < 8192 := (i 0).isLt; have h1 : (i 1).val < 8192 := (i 1).isLt; omega)

end Cert.GatesIdeal.Proved

namespace Cert.GatesRefIdeal.Proved

open Cert.GatesRefIdeal Cert.GatesRefIdeal.Gen

/-- The reference's result is the same function of the two arguments. -/
theorem ref_eq (h : Vec Ideal S8192x4096 .bf16) (w : Vec Ideal S4096x14848 .f32) :
    Read.val_main_v9 (F := Ideal) h w = Cert.GatesIdeal.Proved.gates h w := by
  funext i
  obtain ⟨p, q, rfl⟩ : ∃ (p : Fin 8192) (q : Fin 8192), i = ix2 p q := ⟨i 0, i 1, eq_ix2 i⟩
  simp only [Read.val_main_v9_apply, Read.val_main_v8_apply, Read.val_main_v7_apply, Read.val_main_v6_apply, Read.val_main_v5_apply,
    Read.val_main_v4_apply, Read.val_main_v3_apply, Read.val_main_v2_apply, Read.val_main_v1_apply, Read.val_main_v0_apply,
    Read.val_main_cst_apply, Read.val_main_cst_0_apply]
  unfold Cert.GatesIdeal.Proved.gates
  have hs : ∀ k : Fin 4096, Read.lidx_main_v1 (Read.idx_main_v2 (ix2 p q)) k = ix2 p k := fun k => funext fun a => by
    match a with | ⟨0, _⟩ => rfl | ⟨1, _⟩ => rfl
  have hw : ∀ k : Fin 4096, Read.ridx_main_v1 (Read.idx_main_v2 (ix2 p q)) k = ix2 k ⟨6656 + q.val, by omega⟩ := fun k => funext fun a => by
    match a with | ⟨0, _⟩ => rfl | ⟨1, _⟩ => rfl
  simp only [hs, hw]
  pointwise
  rfl

end Cert.GatesRefIdeal.Proved

namespace Cert.GatesClaim

/-- The kernel's result at the ideal instance is the reference's, at every index. -/
theorem algebraic : Cert.algebraic_GatesIdeal_GatesRefIdeal (hGatesIdeal := Cert.GatesIdeal.Gen.facts) (hGatesRefIdeal := Cert.GatesRefIdeal.Gen.facts) :=
  fun m ρ m' ρ' _ hag =>
    ⟨fun c => Cert.GatesIdeal.Proved.gates (Cert.GatesIdeal.Proved.hArr m c) (Cert.GatesIdeal.Proved.wArr m c),
      (θ_run (Cert.GatesIdeal.defs (F := Ideal)) _ _).mono
        (fun _ h c => ⟨(h c).1.trans (Cert.GatesIdeal.Proved.final_o m c), (h c).2⟩) (Cert.GatesIdeal.Value.run_blocks m ρ),
      (θ_run (Cert.GatesRefIdeal.defs (F := Ideal)) _ _).mono
        (fun _ h c => ⟨by
          refine (h c).1.trans ?_
          rw [Cert.GatesRefIdeal.Read.val_main_v9_eq, Cert.GatesRefIdeal.Proved.ref_eq, (hag c).1, (hag c).2], (h c).2⟩)
        (Cert.GatesRefIdeal.Value.run m' ρ')⟩

end Cert.GatesClaim
end
-- ==== Proof.MergeValue.lean ====
/-
  The VALUE of `Merge.lean` at the ideal instance: the two branches of the mixing layer brought together, each through its
  own weights and under its own gate: `gate₁ · (o₁ · w₁) + gate₂ · (o₂ · w₂)`, the two gates the two halves of one array.
  Grid (8 column tiles by 8 row tiles), two scratches, proof as in GatesValue.lean.
-/
module

public import proofs.«01_k».proof.Defs
public import proofs.«01_k».proof.Proof.Gen.MergeIdeal.Value
public import proofs.«01_k».proof.Proof.Gen.MergeRefIdeal.Run
public import proofs.«01_k».proof.Proof.Gen.MergeRefIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MergeIdeal.Proved

open Cert.MergeIdeal Cert.MergeIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The attention branch. -/
abbrev oaArr (c : Dev nD) : Vec Ideal S8192x2048 .bf16 := m ((c : Thread nD τ).loc main_arg0)
/-- The gated branch. -/
abbrev ogArr (c : Dev nD) : Vec Ideal S8192x2048 .bf16 := m ((c : Thread nD τ).loc main_arg1)
/-- The gates of the two branches, side by side. -/
abbrev gArr (c : Dev nD) : Vec Ideal S8192x8192 .bf16 := m ((c : Thread nD τ).loc main_arg2)
/-- The weights of the attention branch. -/
abbrev waArr (c : Dev nD) : Vec Ideal S2048x4096 .f32 := m ((c : Thread nD τ).loc main_arg3)
/-- The weights of the gated branch. -/
abbrev wgArr (c : Dev nD) : Vec Ideal S2048x4096 .f32 := m ((c : Thread nD τ).loc main_arg4)

/-- What a later row tile leaves in the result's buffer: the payload of the row tiles and the scratch contents. -/
theorem out_B (c : Dev nD) (i : grid0.Coords) (a2 : Memref sig .tc .vmem S1024x2048 .bf16) (h2 : a2.IsWhole) (a3 : Memref sig .tc .vmem S1024x2048 .bf16) (h3 : a3.IsWhole) (a4 : Memref sig .tc .vmem S2048x512 .f32) (h4 : a4.IsWhole) (a5 : Memref sig .tc .vmem S2048x512 .f32) (h5 : a5.IsWhole) (a6 : Memref sig .tc .vmem S1024x512 .bf16) (h6 : a6.IsWhole) (a7 : Memref sig .tc .vmem S1024x512 .bf16) (h7 : a7.IsWhole) (a8 : Memref sig .tc .vmem S1024x512 .bf16) (h8 : a8.IsWhole) (a9 : Memref sig .tc .vmem S2048x512 .bf16) (h9 : a9.IsWhole) (a10 : Memref sig .tc .vmem S2048x512 .bf16) (h10 : a10.IsWhole) (hc : ¬cond0_0 i)
    (x0 : Vec Ideal S1024x2048 .bf16) (x1 : Vec Ideal S1024x2048 .bf16) (x2 : Vec Ideal S2048x512 .f32) (x3 : Vec Ideal S2048x512 .f32) (x4 : Vec Ideal S1024x512 .bf16) (x5 : Vec Ideal S1024x512 .bf16) (s0 : Vec Ideal S2048x512 .bf16) (s1 : Vec Ideal S2048x512 .bf16) :
    out0_B_6 c i a2 h2 a3 h3 a4 h4 a5 h5 a6 h6 a7 h7 a8 h8 a9 h9 a10 h10 hc x0 x1 x2 x3 x4 x5 s0 s1 = k0_pay3 x0 s0 x1 s1 x4 x5 := by
  unfold out0_B_6
  rw [View.read_writes_eq_canon _ _ _ (cover0_B_6 c i a2 h2 a3 h3 a4 h4 a5 h5 a6 h6 a7 h7 a8 h8 a9 h9 a10 h10 hc x0 x1 x2 x3 x4 x5 s0 s1)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, View.ld_unit_zero (S := S1024x2048) hz, View.ld_unit_zero (S := S1024x512) hz, View.ld_unit_zero (S := S2048x512) hz]

/-- The first row tile of a column tile: the weight tiles go to the scratch and are read back. -/
theorem out_A (c : Dev nD) (i : grid0.Coords) (a2 : Memref sig .tc .vmem S1024x2048 .bf16) (h2 : a2.IsWhole) (a3 : Memref sig .tc .vmem S1024x2048 .bf16) (h3 : a3.IsWhole) (a4 : Memref sig .tc .vmem S2048x512 .f32) (h4 : a4.IsWhole) (a5 : Memref sig .tc .vmem S2048x512 .f32) (h5 : a5.IsWhole) (a6 : Memref sig .tc .vmem S1024x512 .bf16) (h6 : a6.IsWhole) (a7 : Memref sig .tc .vmem S1024x512 .bf16) (h7 : a7.IsWhole) (a8 : Memref sig .tc .vmem S1024x512 .bf16) (h8 : a8.IsWhole) (a9 : Memref sig .tc .vmem S2048x512 .bf16) (h9 : a9.IsWhole) (a10 : Memref sig .tc .vmem S2048x512 .bf16) (h10 : a10.IsWhole) (hc : cond0_0 i)
    (x0 : Vec Ideal S1024x2048 .bf16) (x1 : Vec Ideal S1024x2048 .bf16) (x2 : Vec Ideal S2048x512 .f32) (x3 : Vec Ideal S2048x512 .f32) (x4 : Vec Ideal S1024x512 .bf16) (x5 : Vec Ideal S1024x512 .bf16) :
    out0_A_6 c i a2 h2 a3 h3 a4 h4 a5 h5 a6 h6 a7 h7 a8 h8 a9 h9 a10 h10 hc x0 x1 x2 x3 x4 x5 = k0_pay3 x0 (k0_pay1 x2) x1 (k0_pay2 x3) x4 x5 := by
  unfold out0_A_6
  rw [View.read_writes_eq_canon _ _ _ (cover0_A_6 c i a2 h2 a3 h3 a4 h4 a5 h5 a6 h6 a7 h7 a8 h8 a9 h9 a10 h10 hc x0 x1 x2 x3 x4 x5)]
  unfold kernelRun0_A
  dsimp only
  sl_unfold_words
  rw [View.canon_unit_zero hz]
  simp only [View.readCov_unit_zero (S := S2048x512) _ hz]
  simp only [View.readAt_eq_ld, h2.read_unread, h3.read_unread, h4.read_unread, h5.read_unread, h6.read_unread, h7.read_unread, h8.read_unread, h9.read_unread, h10.read_unread, View.ld_unit_zero (S := S1024x2048) hz, View.ld_unit_zero (S := S1024x512) hz, View.ld_unit_zero (S := S2048x512) hz]

/-- … and scratch 0 holds the copy of its weight tile. -/
theorem sout0_A (c : Dev nD) (i : grid0.Coords) (a2 : Memref sig .tc .vmem S1024x2048 .bf16) (h2 : a2.IsWhole) (a3 : Memref sig .tc .vmem S1024x2048 .bf16) (h3 : a3.IsWhole) (a4 : Memref sig .tc .vmem S2048x512 .f32) (h4 : a4.IsWhole) (a5 : Memref sig .tc .vmem S2048x512 .f32) (h5 : a5.IsWhole) (a6 : Memref sig .tc .vmem S1024x512 .bf16) (h6 : a6.IsWhole) (a7 : Memref sig .tc .vmem S1024x512 .bf16) (h7 : a7.IsWhole) (a8 : Memref sig .tc .vmem S1024x512 .bf16) (h8 : a8.IsWhole) (a9 : Memref sig .tc .vmem S2048x512 .bf16) (h9 : a9.IsWhole) (a10 : Memref sig .tc .vmem S2048x512 .bf16) (h10 : a10.IsWhole) (hc : cond0_0 i)
    (x0 : Vec Ideal S1024x2048 .bf16) (x1 : Vec Ideal S1024x2048 .bf16) (x2 : Vec Ideal S2048x512 .f32) (x3 : Vec Ideal S2048x512 .f32) (x4 : Vec Ideal S1024x512 .bf16) (x5 : Vec Ideal S1024x512 .bf16) :
    sout0_A_0 c i a2 h2 a3 h3 a4 h4 a5 h5 a6 h6 a7 h7 a8 h8 a9 h9 a10 h10 hc x0 x1 x2 x3 x4 x5 = k0_pay1 x2 := by
  unfold sout0_A_0
  rw [View.read_writes_eq_canon _ _ _ (scover0_A_0 c i a2 h2 a3 h3 a4 h4 a5 h5 a6 h6 a7 h7 a8 h8 a9 h9 a10 h10 hc x0 x1 x2 x3 x4 x5)]
  unfold kernelRun0_A
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, View.ld_unit_zero (S := S1024x2048) hz, View.ld_unit_zero (S := S1024x512) hz, View.ld_unit_zero (S := S2048x512) hz]

/-- The copy of a weight tile is the weight tile, whatever the element type's width. -/
theorem pay1_apply (w : Vec Ideal S2048x512 .f32) (j : S2048x512.Idx) : k0_pay1 (F := Ideal) w j = w j := by
  unfold k0_pay1
  idx_vars j
  pointwise

/-- … and scratch 1 holds the copy of its weight tile. -/
theorem sout1_A (c : Dev nD) (i : grid0.Coords) (a2 : Memref sig .tc .vmem S1024x2048 .bf16) (h2 : a2.IsWhole) (a3 : Memref sig .tc .vmem S1024x2048 .bf16) (h3 : a3.IsWhole) (a4 : Memref sig .tc .vmem S2048x512 .f32) (h4 : a4.IsWhole) (a5 : Memref sig .tc .vmem S2048x512 .f32) (h5 : a5.IsWhole) (a6 : Memref sig .tc .vmem S1024x512 .bf16) (h6 : a6.IsWhole) (a7 : Memref sig .tc .vmem S1024x512 .bf16) (h7 : a7.IsWhole) (a8 : Memref sig .tc .vmem S1024x512 .bf16) (h8 : a8.IsWhole) (a9 : Memref sig .tc .vmem S2048x512 .bf16) (h9 : a9.IsWhole) (a10 : Memref sig .tc .vmem S2048x512 .bf16) (h10 : a10.IsWhole) (hc : cond0_0 i)
    (x0 : Vec Ideal S1024x2048 .bf16) (x1 : Vec Ideal S1024x2048 .bf16) (x2 : Vec Ideal S2048x512 .f32) (x3 : Vec Ideal S2048x512 .f32) (x4 : Vec Ideal S1024x512 .bf16) (x5 : Vec Ideal S1024x512 .bf16) :
    sout0_A_1 c i a2 h2 a3 h3 a4 h4 a5 h5 a6 h6 a7 h7 a8 h8 a9 h9 a10 h10 hc x0 x1 x2 x3 x4 x5 = k0_pay2 x3 := by
  unfold sout0_A_1
  rw [View.read_writes_eq_canon _ _ _ (scover0_A_1 c i a2 h2 a3 h3 a4 h4 a5 h5 a6 h6 a7 h7 a8 h8 a9 h9 a10 h10 hc x0 x1 x2 x3 x4 x5)]
  unfold kernelRun0_A
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, View.ld_unit_zero (S := S1024x2048) hz, View.ld_unit_zero (S := S1024x512) hz, View.ld_unit_zero (S := S2048x512) hz]

/-- The copy of a weight tile is the weight tile, whatever the element type's width. -/
theorem pay2_apply (w : Vec Ideal S2048x512 .f32) (j : S2048x512.Idx) : k0_pay2 (F := Ideal) w j = w j := by
  unfold k0_pay2
  idx_vars j
  pointwise

/-- A tile of the result. -/
theorem payload_apply (x : Vec Ideal S1024x2048 .bf16) (s : Vec Ideal S2048x512 .bf16) (x' : Vec Ideal S1024x2048 .bf16) (s' : Vec Ideal S2048x512 .bf16)
    (g g' : Vec Ideal S1024x512 .bf16) (p : Fin 1024) (q : Fin 512) :
    k0_pay3 (F := Ideal) x s x' s' g g' (ix2 p q)
      = g (ix2 p q) * (∑ k : Fin 2048, x (ix2 p k) * s (ix2 k q)) + g' (ix2 p q) * ∑ k : Fin 2048, x' (ix2 p k) * s' (ix2 k q) := by
  unfold k0_pay3
  pointwise

/-- The result as one whole array. -/
def merge (oa og : Vec Ideal S8192x2048 .bf16) (g : Vec Ideal S8192x8192 .bf16) (wa wg : Vec Ideal S2048x4096 .f32) : Vec Ideal S8192x4096 .bf16 := fun i =>
  g (ix2 (i 0) ⟨(i 1).val, by have : (i 1).val < 4096 := (i 1).isLt; omega⟩) * (∑ k : Fin 2048, oa (ix2 (i 0) k) * wa (ix2 k (i 1)))
    + g (ix2 (i 0) ⟨4096 + (i 1).val, by have : (i 1).val < 4096 := (i 1).isLt; omega⟩) * ∑ k : Fin 2048, og (ix2 (i 0) k) * wg (ix2 k (i 1))

/-- Where the windows' blocks lie: point `t` takes row tile `t % 8` and column tile `t / 8`. -/
theorem idx_facts : ∀ t : Fin cfg0.N, win0_0.index t (0 : Fin 2) = t.val % 8 ∧ win0_0.index t (1 : Fin 2) = 0 ∧ win0_1.index t (0 : Fin 2) = t.val % 8 ∧ win0_1.index t (1 : Fin 2) = 0 ∧ win0_2.index t (0 : Fin 2) = 0 ∧ win0_2.index t (1 : Fin 2) = t.val / 8 ∧ win0_3.index t (0 : Fin 2) = 0 ∧ win0_3.index t (1 : Fin 2) = t.val / 8 ∧ win0_4.index t (0 : Fin 2) = t.val % 8 ∧ win0_4.index t (1 : Fin 2) = t.val / 8 ∧ win0_5.index t (0 : Fin 2) = t.val % 8 ∧ win0_5.index t (1 : Fin 2) = 8 + t.val / 8 ∧ win0_6.index t (0 : Fin 2) = t.val % 8 ∧ win0_6.index t (1 : Fin 2) = t.val / 8 :=
  (by decide +kernel : ∀ t : Fin grid0.N, _)

theorem tdiv (t : Fin cfg0.N) : t.val / 8 < 8 := by
  have h := lt_of_lt_of_eq t.isLt (show cfg0.N = 64 from N_0); omega

theorem tmod (t : Fin cfg0.N) : t.val % 8 < 8 := Nat.mod_lt _ (by decide)

/-- The row of the whole array that row `p` of point `t`'s row tile is. -/
abbrev rowAt (t : Fin cfg0.N) (p : Fin 1024) : Fin 8192 := ⟨t.val % 8 * 1024 + p.val, by have := tmod t; omega⟩
/-- The column of the whole array that column `q` of point `t`'s column tile is. -/
abbrev colAt (t : Fin cfg0.N) (q : Fin 512) : Fin 4096 := ⟨t.val / 8 * 512 + q.val, by have := tdiv t; omega⟩

theorem colAt_congr {t t' : Fin cfg0.N} (h : t.val / 8 = t'.val / 8) (q : Fin 512) : colAt t q = colAt t' q :=
  Fin.ext (by show t.val / 8 * 512 + q.val = t'.val / 8 * 512 + q.val; rw [h])

/-- Input window 0's block at point `t`, at an index. -/
theorem iblk0_apply (c : Dev nD) (t : Fin cfg0.N) (p : Fin 1024) (q : Fin 2048) :
    (iblk m c 0 t : Vec Ideal S1024x2048 .bf16) (ix2 p q) = oaArr m c (ix2 (rowAt t p) q) := by
  obtain ⟨e0, e1, -⟩ := idx_facts t
  show m ((c : Thread nD τ).loc main_arg0) (((cfg0.win 0).blk t).view.emb (ix2 p q)) = _
  congr 1
  funext a; apply Fin.ext
  match a with
  | ⟨0, _⟩ => show win0_0.index t (0 : Fin 2) * 1024 + 1 * p.val = t.val % 8 * 1024 + p.val; rw [e0]; omega
  | ⟨1, _⟩ => show win0_0.index t (1 : Fin 2) * 2048 + 1 * q.val = q.val; rw [e1]; omega

/-- Input window 1's block at point `t`, at an index. -/
theorem iblk1_apply (c : Dev nD) (t : Fin cfg0.N) (p : Fin 1024) (q : Fin 2048) :
    (iblk m c 1 t : Vec Ideal S1024x2048 .bf16) (ix2 p q) = ogArr m c (ix2 (rowAt t p) q) := by
  obtain ⟨-, -, e0, e1, -⟩ := idx_facts t
  show m ((c : Thread nD τ).loc main_arg1) (((cfg0.win 1).blk t).view.emb (ix2 p q)) = _
  congr 1
  funext a; apply Fin.ext
  match a with
  | ⟨0, _⟩ => show win0_1.index t (0 : Fin 2) * 1024 + 1 * p.val = t.val % 8 * 1024 + p.val; rw [e0]; omega
  | ⟨1, _⟩ => show win0_1.index t (1 : Fin 2) * 2048 + 1 * q.val = q.val; rw [e1]; omega

/-- Input window 2's block at point `t`, at an index. -/
theorem iblk2_apply (c : Dev nD) (t : Fin cfg0.N) (p : Fin 2048) (q : Fin 512) :
    (iblk m c 2 t : Vec Ideal S2048x512 .f32) (ix2 p q) = waArr m c (ix2 p (colAt t q)) := by
  obtain ⟨-, -, -, -, e0, e1, -⟩ := idx_facts t
  show m ((c : Thread nD τ).loc main_arg3) (((cfg0.win 2).blk t).view.emb (ix2 p q)) = _
  congr 1
  funext a; apply Fin.ext
  match a with
  | ⟨0, _⟩ => show win0_2.index t (0 : Fin 2) * 2048 + 1 * p.val = p.val; rw [e0]; omega
  | ⟨1, _⟩ => show win0_2.index t (1 : Fin 2) * 512 + 1 * q.val = (t.val / 8 * 512 + q.val); rw [e1]; omega

/-- Input window 3's block at point `t`, at an index. -/
theorem iblk3_apply (c : Dev nD) (t : Fin cfg0.N) (p : Fin 2048) (q : Fin 512) :
    (iblk m c 3 t : Vec Ideal S2048x512 .f32) (ix2 p q) = wgArr m c (ix2 p (colAt t q)) := by
  obtain ⟨-, -, -, -, -, -, e0, e1, -⟩ := idx_facts t
  show m ((c : Thread nD τ).loc main_arg4) (((cfg0.win 3).blk t).view.emb (ix2 p q)) = _
  congr 1
  funext a; apply Fin.ext
  match a with
  | ⟨0, _⟩ => show win0_3.index t (0 : Fin 2) * 2048 + 1 * p.val = p.val; rw [e0]; omega
  | ⟨1, _⟩ => show win0_3.index t (1 : Fin 2) * 512 + 1 * q.val = (t.val / 8 * 512 + q.val); rw [e1]; omega

/-- Input window 4's block at point `t`, at an index. -/
theorem iblk4_apply (c : Dev nD) (t : Fin cfg0.N) (p : Fin 1024) (q : Fin 512) :
    (iblk m c 4 t : Vec Ideal S1024x512 .bf16) (ix2 p q) = gArr m c (ix2 (rowAt t p) (⟨(colAt t q).val, by have := (colAt t q).isLt; omega⟩)) := by
  obtain ⟨-, -, -, -, -, -, -, -, e0, e1, -⟩ := idx_facts t
  show m ((c : Thread nD τ).loc main_arg2) (((cfg0.win 4).blk t).view.emb (ix2 p q)) = _
  congr 1
  funext a; apply Fin.ext
  match a with
  | ⟨0, _⟩ => show win0_4.index t (0 : Fin 2) * 1024 + 1 * p.val = t.val % 8 * 1024 + p.val; rw [e0]; omega
  | ⟨1, _⟩ => show win0_4.index t (1 : Fin 2) * 512 + 1 * q.val = (t.val / 8 * 512 + q.val); rw [e1]; omega

/-- Input window 5's block at point `t`, at an index. -/
theorem iblk5_apply (c : Dev nD) (t : Fin cfg0.N) (p : Fin 1024) (q : Fin 512) :
    (iblk m c 5 t : Vec Ideal S1024x512 .bf16) (ix2 p q) = gArr m c (ix2 (rowAt t p) (⟨4096 + (colAt t q).val, by have := (colAt t q).isLt; omega⟩)) := by
  obtain ⟨-, -, -, -, -, -, -, -, -, -, e0, e1, -⟩ := idx_facts t
  show m ((c : Thread nD τ).loc main_arg2) (((cfg0.win 5).blk t).view.emb (ix2 p q)) = _
  congr 1
  funext a; apply Fin.ext
  match a with
  | ⟨0, _⟩ => show win0_5.index t (0 : Fin 2) * 1024 + 1 * p.val = t.val % 8 * 1024 + p.val; rw [e0]; omega
  | ⟨1, _⟩ => show win0_5.index t (1 : Fin 2) * 512 + 1 * q.val = 4096 + (t.val / 8 * 512 + q.val); rw [e1]; omega

/-- Scratch 0 after every point is the weight tile of that point's column tile. -/
theorem scratch0_eq (c : Dev nD) : ∀ (n : ℕ) (h : n < cfg0.N) (p : Fin 2048) (q : Fin 512),
    (outsAt0 m c n h).2.1 (ix2 p q) = waArr m c (ix2 p (colAt ⟨n, h⟩ q))
  | n, h, p, q => by
    by_cases h0 : n % 8 = 0
    · rw [outsAt0_A m c ⟨n, h⟩ h0]
      dsimp only
      rw [sout0_A, pay1_apply]
      exact iblk2_apply m c ⟨n, h⟩ p q
    · have hp : n - 1 < n := by omega
      rw [outsAt0_B m c ⟨n, h⟩ h0]
      show (outsAt0 m c (n - 1) _).2.1 (ix2 p q) = _
      rw [scratch0_eq c (n - 1) (by omega) p q]
      rw [colAt_congr (t' := ⟨n, h⟩) (show (n - 1) / 8 = n / 8 by omega) q]
  termination_by n => n

/-- … so also what the point before a later row tile left. -/
theorem scratch0_before (c : Dev nD) (t : Fin cfg0.N) (h0 : ¬t.val % 8 = 0) (hb : t.val - 1 < cfg0.N) (p : Fin 2048) (q : Fin 512) :
    (outsAt0 m c (t.val - 1) hb).2.1 (ix2 p q) = waArr m c (ix2 p (colAt t q)) := by
  rw [scratch0_eq, colAt_congr (t' := t) (show (t.val - 1) / 8 = t.val / 8 by omega) q]

/-- Scratch 1 after every point is the weight tile of that point's column tile. -/
theorem scratch1_eq (c : Dev nD) : ∀ (n : ℕ) (h : n < cfg0.N) (p : Fin 2048) (q : Fin 512),
    (outsAt0 m c n h).2.2 (ix2 p q) = wgArr m c (ix2 p (colAt ⟨n, h⟩ q))
  | n, h, p, q => by
    by_cases h0 : n % 8 = 0
    · rw [outsAt0_A m c ⟨n, h⟩ h0]
      dsimp only
      rw [sout1_A, pay2_apply]
      exact iblk3_apply m c ⟨n, h⟩ p q
    · have hp : n - 1 < n := by omega
      rw [outsAt0_B m c ⟨n, h⟩ h0]
      show (outsAt0 m c (n - 1) _).2.2 (ix2 p q) = _
      rw [scratch1_eq c (n - 1) (by omega) p q]
      rw [colAt_congr (t' := ⟨n, h⟩) (show (n - 1) / 8 = n / 8 by omega) q]
  termination_by n => n

/-- … so also what the point before a later row tile left. -/
theorem scratch1_before (c : Dev nD) (t : Fin cfg0.N) (h0 : ¬t.val % 8 = 0) (hb : t.val - 1 < cfg0.N) (p : Fin 2048) (q : Fin 512) :
    (outsAt0 m c (t.val - 1) hb).2.2 (ix2 p q) = wgArr m c (ix2 p (colAt t q)) := by
  rw [scratch1_eq, colAt_congr (t' := t) (show (t.val - 1) / 8 = t.val / 8 by omega) q]

/-- What every point leaves in the result's buffer: its tile of the whole array. -/
theorem outs_apply (c : Dev nD) (t : Fin cfg0.N) (p : Fin 1024) (q : Fin 512) :
    (outsAt0 m c t.val t.isLt).1 (ix2 p q) = merge (oaArr m c) (ogArr m c) (gArr m c) (waArr m c) (wgArr m c) (ix2 (rowAt t p) (colAt t q)) := by
  by_cases h0 : t.val % 8 = 0
  · rw [outsAt0_A m c t h0]
    dsimp only
    rw [out_A, payload_apply]
    simp only [pay1_apply, pay2_apply, iblk0_apply, iblk1_apply, iblk2_apply, iblk3_apply, iblk4_apply, iblk5_apply]
    rfl
  · rw [outsAt0_B m c t h0]
    dsimp only
    rw [out_B, payload_apply]
    simp only [scratch0_before m c t h0, scratch1_before m c t h0, iblk0_apply, iblk1_apply, iblk2_apply, iblk3_apply, iblk4_apply, iblk5_apply]
    rfl

/-- Point `t` writes back block `t` of the whole array. -/
theorem flushed_eq (c : Dev nD) (t : Fin cfg0.N) (hf : (cfg0.win 6).flush t = true) :
    (dats m 0 c).flushed 6 t = ((cfg0.win 6).blk t).view.read (Elt Ideal) (merge (oaArr m c) (ogArr m c) (gArr m c) (waArr m c) (wgArr m c)) := by
  rw [Value.flushed6]
  funext y
  obtain ⟨p, q, rfl⟩ : ∃ (p : Fin 1024) (q : Fin 512), y = ix2 p q := ⟨y 0, y 1, eq_ix2 y⟩
  obtain ⟨-, -, -, -, -, -, -, -, -, -, -, -, e0, e1⟩ := idx_facts t
  have hi : ((cfg0.win 6).blk t).view.emb (ix2 p q) = (ix2 (rowAt t p) (colAt t q) : S8192x4096.Idx) := by
    funext a; apply Fin.ext
    match a with
    | ⟨0, _⟩ => show win0_6.index t (0 : Fin 2) * 1024 + 1 * p.val = t.val % 8 * 1024 + p.val; rw [e0]; omega
    | ⟨1, _⟩ => show win0_6.index t (1 : Fin 2) * 512 + 1 * q.val = t.val / 8 * 512 + q.val; rw [e1]; omega
  show (outsAt0 m c t.val t.isLt).1 (ix2 p q) = merge (oaArr m c) (ogArr m c) (gArr m c) (waArr m c) (wgArr m c) (((cfg0.win 6).blk t).view.emb (ix2 p q))
  rw [hi, outs_apply]

/-- The array after the run. -/
theorem final_o (c : Dev nD) : (dats m 0 c).arrAt 6 cfg0.N = merge (oaArr m c) (ogArr m c) (gArr m c) (waArr m c) (wgArr m c) :=
  (dats m 0 c).arrAt_eq_of_cover 6 _ (fun t hf => flushed_eq m c t hf) fun i => (Value.covered_iff6 i).2 (by
    have h0 : (i 0).val < 8192 := (i 0).isLt; have h1 : (i 1).val < 4096 := (i 1).isLt; omega)

end Cert.MergeIdeal.Proved

namespace Cert.MergeRefIdeal.Proved

open Cert.MergeRefIdeal Cert.MergeRefIdeal.Gen

/-- The reference's result is the same function of the arguments. -/
theorem ref_eq (oa og : Vec Ideal S8192x2048 .bf16) (g : Vec Ideal S8192x8192 .bf16) (wa wg : Vec Ideal S2048x4096 .f32) :
    Read.val_main_v11 (F := Ideal) oa og g wa wg = Cert.MergeIdeal.Proved.merge oa og g wa wg := by
  funext i
  obtain ⟨p, q, rfl⟩ : ∃ (p : Fin 8192) (q : Fin 4096), i = ix2 p q := ⟨i 0, i 1, eq_ix2 i⟩
  have hx : ∀ k : Fin 2048, Read.lidx_main_v5 (ix2 p q) k = ix2 p k := fun k => funext fun a => by
    match a with | ⟨0, _⟩ => rfl | ⟨1, _⟩ => rfl
  have hg : ∀ k : Fin 2048, Read.ridx_main_v5 (ix2 p q) k = ix2 k q := fun k => funext fun a => by
    match a with | ⟨0, _⟩ => rfl | ⟨1, _⟩ => rfl
  have hx' : ∀ k : Fin 2048, Read.lidx_main_v8 (ix2 p q) k = ix2 p k := fun k => funext fun a => by
    match a with | ⟨0, _⟩ => rfl | ⟨1, _⟩ => rfl
  have hu : ∀ k : Fin 2048, Read.ridx_main_v8 (ix2 p q) k = ix2 k q := fun k => funext fun a => by
    match a with | ⟨0, _⟩ => rfl | ⟨1, _⟩ => rfl
  have h0 : Read.idx_main_v0 (ix2 p q) = ix2 p ⟨q.val, by omega⟩ := funext fun a => by
    match a with | ⟨0, _⟩ => rfl | ⟨1, _⟩ => rfl
  have h2 : Read.idx_main_v2 (ix2 p q) = ix2 p ⟨4096 + q.val, by omega⟩ := funext fun a => by
    match a with | ⟨0, _⟩ => rfl | ⟨1, _⟩ => rfl
  simp only [Read.val_main_v11_apply, Read.val_main_v10_apply, Read.val_main_v9_apply, Read.val_main_v8_apply, Read.val_main_v7_apply,
    Read.val_main_v6_apply, Read.val_main_v5_apply, Read.val_main_v4_apply, Read.val_main_v3_apply, Read.val_main_v2_apply,
    Read.val_main_v1_apply, Read.val_main_v0_apply, hx, hg, hx', hu, h0, h2]
  rfl

end Cert.MergeRefIdeal.Proved

namespace Cert.MergeClaim

/-- The kernel's result at the ideal instance is the reference's, at every index. -/
theorem algebraic : Cert.algebraic_MergeIdeal_MergeRefIdeal (hMergeIdeal := Cert.MergeIdeal.Gen.facts) (hMergeRefIdeal := Cert.MergeRefIdeal.Gen.facts) :=
  fun m ρ m' ρ' _ hag =>
    ⟨fun c => Cert.MergeIdeal.Proved.merge (Cert.MergeIdeal.Proved.oaArr m c) (Cert.MergeIdeal.Proved.ogArr m c) (Cert.MergeIdeal.Proved.gArr m c) (Cert.MergeIdeal.Proved.waArr m c) (Cert.MergeIdeal.Proved.wgArr m c),
      (θ_run (Cert.MergeIdeal.defs (F := Ideal)) _ _).mono
        (fun _ h c => ⟨(h c).1.trans (Cert.MergeIdeal.Proved.final_o m c), (h c).2⟩) (Cert.MergeIdeal.Value.run_blocks m ρ),
      (θ_run (Cert.MergeRefIdeal.defs (F := Ideal)) _ _).mono
        (fun _ h c => ⟨by
          refine (h c).1.trans ?_
          obtain ⟨g0, g1, g2, g3, g4⟩ := hag c
          rw [Cert.MergeRefIdeal.Read.val_main_v11_eq, Cert.MergeRefIdeal.Proved.ref_eq, g0, g1, g2, g3, g4], (h c).2⟩)
        (Cert.MergeRefIdeal.Value.run m' ρ')⟩

end Cert.MergeClaim
end
-- ==== Proof.OutProjValue.lean ====
/-
  The VALUE of `OutProj.lean` at the ideal instance: the mixing layer's last product, added to the residual under the
  modulation's gate: `x + gate · (merged · w)`, one row per token, the gate that of the token's sequence. Grid (8 column
  tiles by 8 row tiles of 1024 rows, two to a sequence), scratch and proof as in GatesValue.lean; the residual and the
  modulation reach the kernel reshaped, which is read back here (`V_x`, `V_mod`).
-/
module

public import proofs.«01_k».proof.Defs
public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutProjIdeal.Proved

open Cert.OutProjIdeal Cert.OutProjIdeal.Gen

variable (m : (ℓ : Loc nD τ sig) → Buf (Elt Ideal) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-- The merged branches. -/
abbrev mArr (c : Dev nD) : Vec Ideal S8192x4096 .bf16 := m ((c : Thread nD τ).loc main_arg0)
/-- The residual. -/
abbrev xArr (c : Dev nD) : Vec Ideal S4x2048x4096 .f32 := m ((c : Thread nD τ).loc main_arg1)
/-- The modulation. -/
abbrev gArr (c : Dev nD) : Vec Ideal S4x24576 .f32 := m ((c : Thread nD τ).loc main_arg2)
/-- The weights. -/
abbrev wArr (c : Dev nD) : Vec Ideal S4096x4096 .f32 := m ((c : Thread nD τ).loc main_arg3)

/-- What a later row tile leaves in the result's buffer: the payload of the row tiles and the scratch contents. -/
theorem out_B (c : Dev nD) (i : grid0.Coords) (a2 : Memref sig .tc .vmem S1024x4096 .bf16) (h2 : a2.IsWhole) (a3 : Memref sig .tc .vmem S4096x512 .f32) (h3 : a3.IsWhole) (a4 : Memref sig .tc .vmem S1024x512 .f32) (h4 : a4.IsWhole) (a5 : Memref sig .tc .vmem S1x1x512 .f32) (h5 : a5.IsWhole) (a6 : Memref sig .tc .vmem S1024x512 .f32) (h6 : a6.IsWhole) (a7 : Memref sig .tc .vmem S4096x512 .bf16) (h7 : a7.IsWhole) (hc : ¬cond0_0 i)
    (x0 : Vec Ideal S1024x4096 .bf16) (x1 : Vec Ideal S4096x512 .f32) (x2 : Vec Ideal S1024x512 .f32) (x3 : Vec Ideal S1x1x512 .f32) (s0 : Vec Ideal S4096x512 .bf16) :
    out0_B_4 c i a2 h2 a3 h3 a4 h4 a5 h5 a6 h6 a7 h7 hc x0 x1 x2 x3 s0 = k0_pay2 x0 s0 x2 x3 := by
  unfold out0_B_4
  rw [View.read_writes_eq_canon _ _ _ (cover0_B_4 c i a2 h2 a3 h3 a4 h4 a5 h5 a6 h6 a7 h7 hc x0 x1 x2 x3 s0)]
  unfold kernelRun0_B
  dsimp only
  sl_unfold_words
  rw [View.canon_unit_zero hz]
  simp only [View.readAt_eq_ld, h2.read_unread, h3.read_unread, h4.read_unread, h5.read_unread, h6.read_unread, h7.read_unread, View.ld_unit_zero (S := S1024x4096) hz, View.ld_unit_zero (S := S1024x512) hz, View.ld_unit_zero (S := S1x1x512) hz3, View.ld_unit_zero (S := S4096x512) hz]

/-- The first row tile of a column tile: the weight tiles go to the scratch and are read back. -/
theorem out_A (c : Dev nD) (i : grid0.Coords) (a2 : Memref sig .tc .vmem S1024x4096 .bf16) (h2 : a2.IsWhole) (a3 : Memref sig .tc .vmem S4096x512 .f32) (h3 : a3.IsWhole) (a4 : Memref sig .tc .vmem S1024x512 .f32) (h4 : a4.IsWhole) (a5 : Memref sig .tc .vmem S1x1x512 .f32) (h5 : a5.IsWhole) (a6 : Memref sig .tc .vmem S1024x512 .f32) (h6 : a6.IsWhole) (a7 : Memref sig .tc .vmem S4096x512 .bf16) (h7 : a7.IsWhole) (hc : cond0_0 i)
    (x0 : Vec Ideal S1024x4096 .bf16) (x1 : Vec Ideal S4096x512 .f32) (x2 : Vec Ideal S1024x512 .f32) (x3 : Vec Ideal S1x1x512 .f32) :
    out0_A_4 c i a2 h2 a3 h3 a4 h4 a5 h5 a6 h6 a7 h7 hc x0 x1 x2 x3 = k0_pay2 x0 (k0_pay1 x1) x2 x3 := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero hz]
  simp only [View.readCov_unit_zero (S := S4096x512) _ hz]
  simp only [View.readAt_eq_ld, h2.read_unread, h3.read_unread, h4.read_unread, h5.read_unread, h6.read_unread, h7.read_unread, View.ld_unit_zero (S := S1024x4096) hz, View.ld_unit_zero (S := S1024x512) hz, View.ld_unit_zero (S := S1x1x512) hz3, View.ld_unit_zero (S := S4096x512) hz]

/-- … and scratch 0 holds the copy of its weight tile. -/
theorem sout0_A (c : Dev nD) (i : grid0.Coords) (a2 : Memref sig .tc .vmem S1024x4096 .bf16) (h2 : a2.IsWhole) (a3 : Memref sig .tc .vmem S4096x512 .f32) (h3 : a3.IsWhole) (a4 : Memref sig .tc .vmem S1024x512 .f32) (h4 : a4.IsWhole) (a5 : Memref sig .tc .vmem S1x1x512 .f32) (h5 : a5.IsWhole) (a6 : Memref sig .tc .vmem S1024x512 .f32) (h6 : a6.IsWhole) (a7 : Memref sig .tc .vmem S4096x512 .bf16) (h7 : a7.IsWhole) (hc : cond0_0 i)
    (x0 : Vec Ideal S1024x4096 .bf16) (x1 : Vec Ideal S4096x512 .f32) (x2 : Vec Ideal S1024x512 .f32) (x3 : Vec Ideal S1x1x512 .f32) :
    sout0_A_0 c i a2 h2 a3 h3 a4 h4 a5 h5 a6 h6 a7 h7 hc x0 x1 x2 x3 = k0_pay1 x1 := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_unit_zero hz]
  simp only [View.readAt_eq_ld, h2.read_unread, h3.read_unread, h4.read_unread, h5.read_unread, h6.read_unread, h7.read_unread, View.ld_unit_zero (S := S1024x4096) hz, View.ld_unit_zero (S := S1024x512) hz, View.ld_unit_zero (S := S1x1x512) hz3, View.ld_unit_zero (S := S4096x512) hz]

/-- The copy of a weight tile is the weight tile, whatever the element type's width. -/
theorem pay1_apply (w : Vec Ideal S4096x512 .f32) (j : S4096x512.Idx) : k0_pay1 (F := Ideal) w j = w j := by
  unfold k0_pay1
  idx_vars j
  pointwise

/-- A tile of the result. -/
theorem payload_apply (x : Vec Ideal S1024x4096 .bf16) (s : Vec Ideal S4096x512 .bf16) (r : Vec Ideal S1024x512 .f32) (g : Vec Ideal S1x1x512 .f32) (p : Fin 1024) (q : Fin 512) :
    k0_pay2 (F := Ideal) x s r g (ix2 p q)
      = r (ix2 p q) + g (ix3 (0 : Fin 1) (0 : Fin 1) q) * ∑ k : Fin 4096, x (ix2 p k) * s (ix2 k q) := by
  unfold k0_pay2
  pointwise

/-- The result as one whole array. -/
def outp (h : Vec Ideal S8192x4096 .bf16) (x : Vec Ideal S4x2048x4096 .f32) (g : Vec Ideal S4x24576 .f32) (w : Vec Ideal S4096x4096 .f32) : Vec Ideal S8192x4096 .f32 := fun i =>
  x (ix3 ⟨(i 0).val / 2048, by have : (i 0).val < 8192 := (i 0).isLt; omega⟩ ⟨(i 0).val % 2048, Nat.mod_lt _ (by decide)⟩ (i 1))
    + g (ix2 ⟨(i 0).val / 2048, by have : (i 0).val < 8192 := (i 0).isLt; omega⟩ ⟨8192 + (i 1).val, by have : (i 1).val < 4096 := (i 1).isLt; omega⟩)
      * ∑ k : Fin 4096, h (ix2 (i 0) k) * w (ix2 k (i 1))

/-- Where the windows' blocks lie: point `t` takes row tile `t % 8` and column tile `t / 8`. -/
theorem idx_facts : ∀ t : Fin cfg0.N, win0_0.index t (0 : Fin 2) = t.val % 8 ∧ win0_0.index t (1 : Fin 2) = 0 ∧ win0_1.index t (0 : Fin 2) = 0 ∧ win0_1.index t (1 : Fin 2) = t.val / 8 ∧ win0_4.index t (0 : Fin 2) = t.val % 8 ∧ win0_4.index t (1 : Fin 2) = t.val / 8 :=
  (by decide +kernel : ∀ t : Fin grid0.N, _)

theorem tdiv (t : Fin cfg0.N) : t.val / 8 < 8 := by
  have h := lt_of_lt_of_eq t.isLt (show cfg0.N = 64 from N_0); omega

theorem tmod (t : Fin cfg0.N) : t.val % 8 < 8 := Nat.mod_lt _ (by decide)

/-- The row of the whole array that row `p` of point `t`'s row tile is. -/
abbrev rowAt (t : Fin cfg0.N) (p : Fin 1024) : Fin 8192 := ⟨t.val % 8 * 1024 + p.val, by have := tmod t; omega⟩
/-- The column of the whole array that column `q` of point `t`'s column tile is. -/
abbrev colAt (t : Fin cfg0.N) (q : Fin 512) : Fin 4096 := ⟨t.val / 8 * 512 + q.val, by have := tdiv t; omega⟩

theorem colAt_congr {t t' : Fin cfg0.N} (h : t.val / 8 = t'.val / 8) (q : Fin 512) : colAt t q = colAt t' q :=
  Fin.ext (by show t.val / 8 * 512 + q.val = t'.val / 8 * 512 + q.val; rw [h])

/-- Input window 0's block at point `t`, at an index. -/
theorem iblk0_apply (c : Dev nD) (t : Fin cfg0.N) (p : Fin 1024) (q : Fin 4096) :
    (iblk m c 0 t : Vec Ideal S1024x4096 .bf16) (ix2 p q) = mArr m c (ix2 (rowAt t p) q) := by
  obtain ⟨e0, e1, -⟩ := idx_facts t
  show V m c main_arg0 (((cfg0.win 0).blk t).view.emb (ix2 p q)) = _
  rw [V_main_arg0]
  show m ((c : Thread nD τ).loc main_arg0) (((cfg0.win 0).blk t).view.emb (ix2 p q)) = _
  congr 1
  funext a; apply Fin.ext
  match a with
  | ⟨0, _⟩ => show win0_0.index t (0 : Fin 2) * 1024 + 1 * p.val = t.val % 8 * 1024 + p.val; rw [e0]; omega
  | ⟨1, _⟩ => show win0_0.index t (1 : Fin 2) * 4096 + 1 * q.val = q.val; rw [e1]; omega

/-- Input window 1's block at point `t`, at an index. -/
theorem iblk1_apply (c : Dev nD) (t : Fin cfg0.N) (p : Fin 4096) (q : Fin 512) :
    (iblk m c 1 t : Vec Ideal S4096x512 .f32) (ix2 p q) = wArr m c (ix2 p (colAt t q)) := by
  obtain ⟨-, -, e0, e1, -⟩ := idx_facts t
  show V m c main_arg3 (((cfg0.win 1).blk t).view.emb (ix2 p q)) = _
  rw [V_main_arg3]
  show m ((c : Thread nD τ).loc main_arg3) (((cfg0.win 1).blk t).view.emb (ix2 p q)) = _
  congr 1
  funext a; apply Fin.ext
  match a with
  | ⟨0, _⟩ => show win0_1.index t (0 : Fin 2) * 4096 + 1 * p.val = p.val; rw [e0]; omega
  | ⟨1, _⟩ => show win0_1.index t (1 : Fin 2) * 512 + 1 * q.val = (t.val / 8 * 512 + q.val); rw [e1]; omega

/-- Where the residual's and the modulation's blocks lie: the residual's is the result's, the modulation's is the row of the
    sequence the row tile lies in (two row tiles to a sequence), from column tile 16 on. -/
theorem idx_facts' : ∀ t : Fin cfg0.N, win0_2.index t (0 : Fin 2) = t.val % 8 ∧ win0_2.index t (1 : Fin 2) = t.val / 8
    ∧ win0_3.index t (0 : Fin 3) = t.val % 8 / 2 ∧ win0_3.index t (1 : Fin 3) = 0 ∧ win0_3.index t (2 : Fin 3) = 16 + t.val / 8 :=
  (by decide +kernel : ∀ t : Fin grid0.N, _)

/-- The residual, flattened to one row per token before the kernel, at an index. -/
theorem V_x (c : Dev nD) (r : Fin 8192) (q : Fin 4096) :
    (V m c main_v0 : Vec Ideal S8192x4096 .f32) (ix2 r q) = xArr m c (ix3 ⟨r.val / 2048, by omega⟩ ⟨r.val % 2048, Nat.mod_lt _ (by decide)⟩ q) := by
  have h : (V m c main_v0 : Vec Ideal S8192x4096 .f32) = shapeCast S8192x4096 (xArr m c) shapeCasts_S4x2048x4096_S8192x4096 := by
    unfold_abbrev_sides
    after_results
    rfl
  rw [h]
  exact shapeCast_apply _ _ _ _ (by
    rewrite [Shape.rowMajor_val_two, Shape.rowMajor_val_three]
    show (r.val / 2048 * 2048 + r.val % 2048) * 4096 + q.val = r.val * 4096 + q.val
    rw [Nat.div_add_mod'])

/-- Input window 2's block at point `t`, at an index. -/
theorem iblk2_apply (c : Dev nD) (t : Fin cfg0.N) (p : Fin 1024) (q : Fin 512) :
    (iblk m c 2 t : Vec Ideal S1024x512 .f32) (ix2 p q)
      = xArr m c (ix3 ⟨(rowAt t p).val / 2048, by have := (rowAt t p).isLt; omega⟩ ⟨(rowAt t p).val % 2048, Nat.mod_lt _ (by decide)⟩ (colAt t q)) := by
  obtain ⟨e0, e1, -⟩ := idx_facts' t
  rw [← V_x]
  show V m c main_v0 (((cfg0.win 2).blk t).view.emb (ix2 p q)) = _
  congr 1
  funext a; apply Fin.ext
  match a with
  | ⟨0, _⟩ => show win0_2.index t (0 : Fin 2) * 1024 + 1 * p.val = t.val % 8 * 1024 + p.val; rw [e0]; omega
  | ⟨1, _⟩ => show win0_2.index t (1 : Fin 2) * 512 + 1 * q.val = t.val / 8 * 512 + q.val; rw [e1]; omega

/-- The modulation, a middle axis of one put in before the kernel, at an index. -/
theorem V_mod (c : Dev nD) (b : Fin 4) (z : Fin 1) (q : Fin 24576) :
    (V m c main_v1 : Vec Ideal S4x1x24576 .f32) (ix3 b z q) = gArr m c (ix2 b q) := by
  have h : (V m c main_v1 : Vec Ideal S4x1x24576 .f32) = shapeCast S4x1x24576 (gArr m c) shapeCasts_S4x24576_S4x1x24576 := by
    unfold_abbrev_sides
    after_results
    rfl
  rw [h]
  exact shapeCast_apply _ _ _ _ (by
    rewrite [Shape.rowMajor_val_two, Shape.rowMajor_val_three]
    show b.val * 24576 + q.val = (b.val * 1 + z.val) * 24576 + q.val
    omega)

/-- Input window 3's block at point `t`, at an index. -/
theorem iblk3_apply (c : Dev nD) (t : Fin cfg0.N) (z z' : Fin 1) (q : Fin 512) :
    (iblk m c 3 t : Vec Ideal S1x1x512 .f32) (ix3 z z' q)
      = gArr m c (ix2 ⟨t.val % 8 / 2, by have := tmod t; omega⟩ ⟨8192 + (colAt t q).val, by have := (colAt t q).isLt; omega⟩) := by
  obtain ⟨-, -, e0, e1, e2⟩ := idx_facts' t
  rw [← V_mod m c _ 0]
  show V m c main_v1 (((cfg0.win 3).blk t).view.emb (ix3 z z' q)) = _
  congr 1
  funext a; apply Fin.ext
  match a with
  | ⟨0, _⟩ => show win0_3.index t (0 : Fin 3) * 1 + 1 * z.val = t.val % 8 / 2; rw [e0]; omega
  | ⟨1, _⟩ => show win0_3.index t (1 : Fin 3) * 1 + 1 * z'.val = 0; rw [e1]; omega
  | ⟨2, _⟩ => show win0_3.index t (2 : Fin 3) * 512 + 1 * q.val = 8192 + (t.val / 8 * 512 + q.val); rw [e2]; omega

/-- Scratch 0 after every point is the weight tile of that point's column tile. -/
theorem scratch0_eq (c : Dev nD) : ∀ (n : ℕ) (h : n < cfg0.N) (p : Fin 4096) (q : Fin 512),
    (outsAt0 m c n h).2 (ix2 p q) = wArr m c (ix2 p (colAt ⟨n, h⟩ q))
  | n, h, p, q => by
    by_cases h0 : n % 8 = 0
    · rw [outsAt0_A m c ⟨n, h⟩ h0]
      dsimp only
      rw [sout0_A, pay1_apply]
      exact iblk1_apply m c ⟨n, h⟩ p q
    · have hp : n - 1 < n := by omega
      rw [outsAt0_B m c ⟨n, h⟩ h0]
      show (outsAt0 m c (n - 1) _).2 (ix2 p q) = _
      rw [scratch0_eq c (n - 1) (by omega) p q]
      rw [colAt_congr (t' := ⟨n, h⟩) (show (n - 1) / 8 = n / 8 by omega) q]
  termination_by n => n

/-- … so also what the point before a later row tile left. -/
theorem scratch0_before (c : Dev nD) (t : Fin cfg0.N) (h0 : ¬t.val % 8 = 0) (hb : t.val - 1 < cfg0.N) (p : Fin 4096) (q : Fin 512) :
    (outsAt0 m c (t.val - 1) hb).2 (ix2 p q) = wArr m c (ix2 p (colAt t q)) := by
  rw [scratch0_eq, colAt_congr (t' := t) (show (t.val - 1) / 8 = t.val / 8 by omega) q]

/-- A row tile's sequence is that of each of its rows. -/
theorem seq_eq (t : Fin cfg0.N) (p : Fin 1024) : (⟨t.val % 8 / 2, by have := tmod t; omega⟩ : Fin 4) = ⟨(rowAt t p).val / 2048, by have := (rowAt t p).isLt; omega⟩ :=
  Fin.ext (by show t.val % 8 / 2 = (t.val % 8 * 1024 + p.val) / 2048; omega)

/-- What every point leaves in the result's buffer: its tile of the whole array. -/
theorem outs_apply (c : Dev nD) (t : Fin cfg0.N) (p : Fin 1024) (q : Fin 512) :
    (outsAt0 m c t.val t.isLt).1 (ix2 p q) = outp (mArr m c) (xArr m c) (gArr m c) (wArr m c) (ix2 (rowAt t p) (colAt t q)) := by
  by_cases h0 : t.val % 8 = 0
  · rw [outsAt0_A m c t h0]
    dsimp only
    rw [out_A, payload_apply]
    simp only [pay1_apply, iblk0_apply, iblk1_apply, iblk2_apply, iblk3_apply, seq_eq t p]
    rfl
  · rw [outsAt0_B m c t h0]
    dsimp only
    rw [out_B, payload_apply]
    simp only [scratch0_before m c t h0, iblk0_apply, iblk1_apply, iblk2_apply, iblk3_apply, seq_eq t p]
    rfl

/-- Point `t` writes back block `t` of the whole array. -/
theorem flushed_eq (c : Dev nD) (t : Fin cfg0.N) (hf : (cfg0.win 4).flush t = true) :
    (dats m 0 c).flushed 4 t = ((cfg0.win 4).blk t).view.read (Elt Ideal) (outp (mArr m c) (xArr m c) (gArr m c) (wArr m c)) := by
  rw [Value.flushed4]
  funext y
  obtain ⟨p, q, rfl⟩ : ∃ (p : Fin 1024) (q : Fin 512), y = ix2 p q := ⟨y 0, y 1, eq_ix2 y⟩
  obtain ⟨-, -, -, -, e0, e1⟩ := idx_facts t
  have hi : ((cfg0.win 4).blk t).view.emb (ix2 p q) = (ix2 (rowAt t p) (colAt t q) : S8192x4096.Idx) := by
    funext a; apply Fin.ext
    match a with
    | ⟨0, _⟩ => show win0_4.index t (0 : Fin 2) * 1024 + 1 * p.val = t.val % 8 * 1024 + p.val; rw [e0]; omega
    | ⟨1, _⟩ => show win0_4.index t (1 : Fin 2) * 512 + 1 * q.val = t.val / 8 * 512 + q.val; rw [e1]; omega
  show (outsAt0 m c t.val t.isLt).1 (ix2 p q) = outp (mArr m c) (xArr m c) (gArr m c) (wArr m c) (((cfg0.win 4).blk t).view.emb (ix2 p q))
  rw [hi, outs_apply]

/-- The array after the run. -/
theorem final_o (c : Dev nD) : (dats m 0 c).arrAt 4 cfg0.N = outp (mArr m c) (xArr m c) (gArr m c) (wArr m c) :=
  (dats m 0 c).arrAt_eq_of_cover 4 _ (fun t hf => flushed_eq m c t hf) fun i => (Value.covered_iff4 i).2 (by
    have h0 : (i 0).val < 8192 := (i 0).isLt; have h1 : (i 1).val < 4096 := (i 1).isLt; omega)

end Cert.OutProjIdeal.Proved

namespace Cert.OutProjRefIdeal.Proved

open Cert.OutProjRefIdeal Cert.OutProjRefIdeal.Gen

/-- The reference's result is the same function of the arguments. -/
theorem ref_eq (h : Vec Ideal S8192x4096 .bf16) (x : Vec Ideal S4x2048x4096 .f32) (g : Vec Ideal S4x24576 .f32) (w : Vec Ideal S4096x4096 .f32) :
    Read.val_main_v8 (F := Ideal) h x g w = Cert.OutProjIdeal.Proved.outp h x g w := by
  funext i
  obtain ⟨p, q, rfl⟩ : ∃ (p : Fin 8192) (q : Fin 4096), i = ix2 p q := ⟨i 0, i 1, eq_ix2 i⟩
  have h8 : Read.idx_main_v8 (ix2 p q) = ix3 ⟨p.val / 2048, by omega⟩ ⟨p.val % 2048, Nat.mod_lt _ (by decide)⟩ q := funext fun a => Fin.ext (by
    match a with
    | ⟨0, _⟩ => show (p.val * 4096 + q.val) / 8388608 = p.val / 2048; omega
    | ⟨1, _⟩ => show (p.val * 4096 + q.val) / 4096 % 2048 = p.val % 2048; omega
    | ⟨2, _⟩ => show (p.val * 4096 + q.val) % 4096 = q.val; omega)
  have h4 : Read.idx_main_v4 (ix3 ⟨p.val / 2048, by omega⟩ ⟨p.val % 2048, Nat.mod_lt _ (by decide)⟩ q) = ix2 p q := funext fun a => Fin.ext (by
    match a with
    | ⟨0, _⟩ => show ((p.val / 2048 * 2048 + p.val % 2048) * 4096 + q.val) / 4096 = p.val; omega
    | ⟨1, _⟩ => show ((p.val / 2048 * 2048 + p.val % 2048) * 4096 + q.val) % 4096 = q.val; omega)
  have hx : ∀ k : Fin 4096, Read.lidx_main_v3 (ix2 p q) k = ix2 p k := fun k => funext fun a => by
    match a with | ⟨0, _⟩ => rfl | ⟨1, _⟩ => rfl
  have hw : ∀ k : Fin 4096, Read.ridx_main_v3 (ix2 p q) k = ix2 k q := fun k => funext fun a => by
    match a with | ⟨0, _⟩ => rfl | ⟨1, _⟩ => rfl
  have hm : Read.idx_main_v0 (Read.idx_main_v1 (Read.idx_main_v5 (ix3 ⟨p.val / 2048, by omega⟩ ⟨p.val % 2048, Nat.mod_lt _ (by decide)⟩ q)))
      = ix2 ⟨p.val / 2048, by omega⟩ ⟨8192 + q.val, by omega⟩ := funext fun a => by
    match a with | ⟨0, _⟩ => rfl | ⟨1, _⟩ => rfl
  rw [Read.val_main_v8_apply, h8, Read.val_main_v7_apply, Read.val_main_v6_apply, Read.val_main_v5_apply, Read.val_main_v4_apply, h4,
    Read.val_main_v3_apply, Read.val_main_v1_apply, Read.val_main_v0_apply, hm]
  simp only [hx, hw, Read.val_main_v2_apply]
  rfl

end Cert.OutProjRefIdeal.Proved

namespace Cert.OutProjClaim

/-- The kernel's result at the ideal instance is the reference's, at every index. -/
theorem algebraic : Cert.algebraic_OutProjIdeal_OutProjRefIdeal (hOutProjIdeal := Cert.OutProjIdeal.Gen.facts) (hOutProjRefIdeal := Cert.OutProjRefIdeal.Gen.facts) :=
  fun m ρ m' ρ' _ hag =>
    ⟨fun c => Cert.OutProjIdeal.Proved.outp (Cert.OutProjIdeal.Proved.mArr m c) (Cert.OutProjIdeal.Proved.xArr m c) (Cert.OutProjIdeal.Proved.gArr m c) (Cert.OutProjIdeal.Proved.wArr m c),
      (θ_run (Cert.OutProjIdeal.defs (F := Ideal)) _ _).mono
        (fun _ h c => ⟨(h c).1.trans (Cert.OutProjIdeal.Proved.final_o m c), (h c).2⟩) (Cert.OutProjIdeal.Value.run_blocks m ρ),
      (θ_run (Cert.OutProjRefIdeal.defs (F := Ideal)) _ _).mono
        (fun _ h c => ⟨by
          refine (h c).1.trans ?_
          obtain ⟨g0, g1, g2, g3⟩ := hag c
          refine (Cert.OutProjRefIdeal.Read.val_main_v8_eq _ _ _ _).trans ?_
          rw [Cert.OutProjRefIdeal.Proved.ref_eq, g0, g1, g2, g3], (h c).2⟩)
        (Cert.OutProjRefIdeal.Value.run m' ρ')⟩

end Cert.OutProjClaim
end
-- ==== Proof.SharedUpValue.lean ====
/-
  The VALUE of `SharedUp.lean` at the ideal instance: the gated product of the shared expert, `silu (h · gate) · (h · up)`
  over 8320 rows. Grid (4 column tiles by 13 row tiles of 640 rows), two scratches, proof as in GatesValue.lean. The kernel's
  logistic function is the reference's `1 / (1 + e^(−x))`.
-/
module

public import proofs.«01_k».proof.Defs
public import proofs.«01_k».proof.Proof.Gen.SharedUpIdeal.Value
public import proofs.«01_k».proof.Proof.Gen.SharedUpRefIdeal.Run
public import proofs.«01_k».proof.Proof.Gen.SharedUpRefIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SharedUpIdeal.Proved

open Cert.SharedUpIdeal Cert.SharedUpIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The activations. -/
abbrev hArr (c : Dev nD) : Vec Ideal S8320x4096 .bf16 := m ((c : Thread nD τ).loc main_arg0)
/-- The weights of the gate. -/
abbrev gArr (c : Dev nD) : Vec Ideal S4096x1024 .f32 := m ((c : Thread nD τ).loc main_arg1)
/-- The weights of the product the gate multiplies. -/
abbrev uArr (c : Dev nD) : Vec Ideal S4096x1024 .f32 := m ((c : Thread nD τ).loc main_arg2)

/-- What a later row tile leaves in the result's buffer: the payload of the row tiles and the scratch contents. -/
theorem out_B (c : Dev nD) (i : grid0.Coords) (a2 : Memref sig .tc .vmem S640x4096 .bf16) (h2 : a2.IsWhole) (a3 : Memref sig .tc .vmem S4096x256 .f32) (h3 : a3.IsWhole) (a4 : Memref sig .tc .vmem S4096x256 .f32) (h4 : a4.IsWhole) (a5 : Memref sig .tc .vmem S640x256 .bf16) (h5 : a5.IsWhole) (a6 : Memref sig .tc .vmem S4096x256 .bf16) (h6 : a6.IsWhole) (a7 : Memref sig .tc .vmem S4096x256 .bf16) (h7 : a7.IsWhole) (hc : ¬cond0_0 i)
    (x0 : Vec Ideal S640x4096 .bf16) (x1 : Vec Ideal S4096x256 .f32) (x2 : Vec Ideal S4096x256 .f32) (s0 : Vec Ideal S4096x256 .bf16) (s1 : Vec Ideal S4096x256 .bf16) :
    out0_B_3 c i a2 h2 a3 h3 a4 h4 a5 h5 a6 h6 a7 h7 hc x0 x1 x2 s0 s1 = k0_pay3 x0 s0 x0 s1 := by
  unfold out0_B_3
  rw [View.read_writes_eq_canon _ _ _ (cover0_B_3 c i a2 h2 a3 h3 a4 h4 a5 h5 a6 h6 a7 h7 hc x0 x1 x2 s0 s1)]
  unfold kernelRun0_B
  dsimp only
  sl_unfold_words
  rw [View.canon_unit_zero hz]
  simp only [View.readAt_eq_ld, h2.read_unread, h3.read_unread, h4.read_unread, h5.read_unread, h6.read_unread, h7.read_unread, View.ld_unit_zero (S := S4096x256) hz, View.ld_unit_zero (S := S640x256) hz, View.ld_unit_zero (S := S640x4096) hz]

/-- The first row tile of a column tile: the weight tiles go to the scratch and are read back. -/
theorem out_A (c : Dev nD) (i : grid0.Coords) (a2 : Memref sig .tc .vmem S640x4096 .bf16) (h2 : a2.IsWhole) (a3 : Memref sig .tc .vmem S4096x256 .f32) (h3 : a3.IsWhole) (a4 : Memref sig .tc .vmem S4096x256 .f32) (h4 : a4.IsWhole) (a5 : Memref sig .tc .vmem S640x256 .bf16) (h5 : a5.IsWhole) (a6 : Memref sig .tc .vmem S4096x256 .bf16) (h6 : a6.IsWhole) (a7 : Memref sig .tc .vmem S4096x256 .bf16) (h7 : a7.IsWhole) (hc : cond0_0 i)
    (x0 : Vec Ideal S640x4096 .bf16) (x1 : Vec Ideal S4096x256 .f32) (x2 : Vec Ideal S4096x256 .f32) :
    out0_A_3 c i a2 h2 a3 h3 a4 h4 a5 h5 a6 h6 a7 h7 hc x0 x1 x2 = k0_pay3 x0 (k0_pay1 x1) x0 (k0_pay2 x2) := by
  unfold out0_A_3
  rw [View.read_writes_eq_canon _ _ _ (cover0_A_3 c i a2 h2 a3 h3 a4 h4 a5 h5 a6 h6 a7 h7 hc x0 x1 x2)]
  unfold kernelRun0_A
  dsimp only
  sl_unfold_words
  rw [View.canon_unit_zero hz]
  simp only [View.readCov_unit_zero (S := S4096x256) _ hz]
  simp only [View.readAt_eq_ld, h2.read_unread, h3.read_unread, h4.read_unread, h5.read_unread, h6.read_unread, h7.read_unread, View.ld_unit_zero (S := S4096x256) hz, View.ld_unit_zero (S := S640x256) hz, View.ld_unit_zero (S := S640x4096) hz]

/-- … and scratch 0 holds the copy of its weight tile. -/
theorem sout0_A (c : Dev nD) (i : grid0.Coords) (a2 : Memref sig .tc .vmem S640x4096 .bf16) (h2 : a2.IsWhole) (a3 : Memref sig .tc .vmem S4096x256 .f32) (h3 : a3.IsWhole) (a4 : Memref sig .tc .vmem S4096x256 .f32) (h4 : a4.IsWhole) (a5 : Memref sig .tc .vmem S640x256 .bf16) (h5 : a5.IsWhole) (a6 : Memref sig .tc .vmem S4096x256 .bf16) (h6 : a6.IsWhole) (a7 : Memref sig .tc .vmem S4096x256 .bf16) (h7 : a7.IsWhole) (hc : cond0_0 i)
    (x0 : Vec Ideal S640x4096 .bf16) (x1 : Vec Ideal S4096x256 .f32) (x2 : Vec Ideal S4096x256 .f32) :
    sout0_A_0 c i a2 h2 a3 h3 a4 h4 a5 h5 a6 h6 a7 h7 hc x0 x1 x2 = k0_pay1 x1 := by
  unfold sout0_A_0
  rw [View.read_writes_eq_canon _ _ _ (scover0_A_0 c i a2 h2 a3 h3 a4 h4 a5 h5 a6 h6 a7 h7 hc x0 x1 x2)]
  unfold kernelRun0_A
  dsimp only
  sl_unfold_words
  rw [View.canon_unit_zero hz]
  simp only [View.readAt_eq_ld, h2.read_unread, h3.read_unread, h4.read_unread, h5.read_unread, h6.read_unread, h7.read_unread, View.ld_unit_zero (S := S4096x256) hz, View.ld_unit_zero (S := S640x256) hz, View.ld_unit_zero (S := S640x4096) hz]

/-- The copy of a weight tile is the weight tile, whatever the element type's width. -/
theorem pay1_apply (w : Vec Ideal S4096x256 .f32) (j : S4096x256.Idx) : k0_pay1 (F := Ideal) w j = w j := by
  unfold k0_pay1
  idx_vars j
  pointwise

/-- … and scratch 1 holds the copy of its weight tile. -/
theorem sout1_A (c : Dev nD) (i : grid0.Coords) (a2 : Memref sig .tc .vmem S640x4096 .bf16) (h2 : a2.IsWhole) (a3 : Memref sig .tc .vmem S4096x256 .f32) (h3 : a3.IsWhole) (a4 : Memref sig .tc .vmem S4096x256 .f32) (h4 : a4.IsWhole) (a5 : Memref sig .tc .vmem S640x256 .bf16) (h5 : a5.IsWhole) (a6 : Memref sig .tc .vmem S4096x256 .bf16) (h6 : a6.IsWhole) (a7 : Memref sig .tc .vmem S4096x256 .bf16) (h7 : a7.IsWhole) (hc : cond0_0 i)
    (x0 : Vec Ideal S640x4096 .bf16) (x1 : Vec Ideal S4096x256 .f32) (x2 : Vec Ideal S4096x256 .f32) :
    sout0_A_1 c i a2 h2 a3 h3 a4 h4 a5 h5 a6 h6 a7 h7 hc x0 x1 x2 = k0_pay2 x2 := by
  unfold sout0_A_1
  rw [View.read_writes_eq_canon _ _ _ (scover0_A_1 c i a2 h2 a3 h3 a4 h4 a5 h5 a6 h6 a7 h7 hc x0 x1 x2)]
  unfold kernelRun0_A
  dsimp only
  sl_unfold_words
  rw [View.canon_unit_zero hz]
  simp only [View.readAt_eq_ld, h2.read_unread, h3.read_unread, h4.read_unread, h5.read_unread, h6.read_unread, h7.read_unread, View.ld_unit_zero (S := S4096x256) hz, View.ld_unit_zero (S := S640x256) hz, View.ld_unit_zero (S := S640x4096) hz]

/-- The copy of a weight tile is the weight tile, whatever the element type's width. -/
theorem pay2_apply (w : Vec Ideal S4096x256 .f32) (j : S4096x256.Idx) : k0_pay2 (F := Ideal) w j = w j := by
  unfold k0_pay2
  idx_vars j
  pointwise

/-- The function `x · logistic x`. -/
def silu (x : EReal) : EReal := x * Ideal.logistic x

/-- A tile of the result. -/
theorem payload_apply (x : Vec Ideal S640x4096 .bf16) (s : Vec Ideal S4096x256 .bf16) (x' : Vec Ideal S640x4096 .bf16) (s' : Vec Ideal S4096x256 .bf16) (p : Fin 640) (q : Fin 256) :
    k0_pay3 (F := Ideal) x s x' s' (ix2 p q)
      = silu (∑ k : Fin 4096, x (ix2 p k) * s (ix2 k q)) * ∑ k : Fin 4096, x' (ix2 p k) * s' (ix2 k q) := by
  unfold k0_pay3 silu
  pointwise

/-- The result as one whole array. -/
def up (h : Vec Ideal S8320x4096 .bf16) (g u : Vec Ideal S4096x1024 .f32) : Vec Ideal S8320x1024 .bf16 := fun i =>
  silu (∑ k : Fin 4096, h (ix2 (i 0) k) * g (ix2 k (i 1))) * ∑ k : Fin 4096, h (ix2 (i 0) k) * u (ix2 k (i 1))

/-- Where the windows' blocks lie: point `t` takes row tile `t % 13` and column tile `t / 13`. -/
theorem idx_facts : ∀ t : Fin cfg0.N, win0_0.index t (0 : Fin 2) = t.val % 13 ∧ win0_0.index t (1 : Fin 2) = 0 ∧ win0_1.index t (0 : Fin 2) = 0 ∧ win0_1.index t (1 : Fin 2) = t.val / 13 ∧ win0_2.index t (0 : Fin 2) = 0 ∧ win0_2.index t (1 : Fin 2) = t.val / 13 ∧ win0_3.index t (0 : Fin 2) = t.val % 13 ∧ win0_3.index t (1 : Fin 2) = t.val / 13 :=
  (by decide +kernel : ∀ t : Fin grid0.N, _)

theorem tdiv (t : Fin cfg0.N) : t.val / 13 < 4 := by
  have h := lt_of_lt_of_eq t.isLt (show cfg0.N = 52 from N_0); omega

theorem tmod (t : Fin cfg0.N) : t.val % 13 < 13 := Nat.mod_lt _ (by decide)

/-- The row of the whole array that row `p` of point `t`'s row tile is. -/
abbrev rowAt (t : Fin cfg0.N) (p : Fin 640) : Fin 8320 := ⟨t.val % 13 * 640 + p.val, by have := tmod t; omega⟩
/-- The column of the whole array that column `q` of point `t`'s column tile is. -/
abbrev colAt (t : Fin cfg0.N) (q : Fin 256) : Fin 1024 := ⟨t.val / 13 * 256 + q.val, by have := tdiv t; omega⟩

theorem colAt_congr {t t' : Fin cfg0.N} (h : t.val / 13 = t'.val / 13) (q : Fin 256) : colAt t q = colAt t' q :=
  Fin.ext (by show t.val / 13 * 256 + q.val = t'.val / 13 * 256 + q.val; rw [h])

/-- Input window 0's block at point `t`, at an index. -/
theorem iblk0_apply (c : Dev nD) (t : Fin cfg0.N) (p : Fin 640) (q : Fin 4096) :
    (iblk m c 0 t : Vec Ideal S640x4096 .bf16) (ix2 p q) = hArr m c (ix2 (rowAt t p) q) := by
  obtain ⟨e0, e1, -⟩ := idx_facts t
  show m ((c : Thread nD τ).loc main_arg0) (((cfg0.win 0).blk t).view.emb (ix2 p q)) = _
  congr 1
  funext a; apply Fin.ext
  match a with
  | ⟨0, _⟩ => show win0_0.index t (0 : Fin 2) * 640 + 1 * p.val = t.val % 13 * 640 + p.val; rw [e0]; omega
  | ⟨1, _⟩ => show win0_0.index t (1 : Fin 2) * 4096 + 1 * q.val = q.val; rw [e1]; omega

/-- Input window 1's block at point `t`, at an index. -/
theorem iblk1_apply (c : Dev nD) (t : Fin cfg0.N) (p : Fin 4096) (q : Fin 256) :
    (iblk m c 1 t : Vec Ideal S4096x256 .f32) (ix2 p q) = gArr m c (ix2 p (colAt t q)) := by
  obtain ⟨-, -, e0, e1, -⟩ := idx_facts t
  show m ((c : Thread nD τ).loc main_arg1) (((cfg0.win 1).blk t).view.emb (ix2 p q)) = _
  congr 1
  funext a; apply Fin.ext
  match a with
  | ⟨0, _⟩ => show win0_1.index t (0 : Fin 2) * 4096 + 1 * p.val = p.val; rw [e0]; omega
  | ⟨1, _⟩ => show win0_1.index t (1 : Fin 2) * 256 + 1 * q.val = (t.val / 13 * 256 + q.val); rw [e1]; omega

/-- Input window 2's block at point `t`, at an index. -/
theorem iblk2_apply (c : Dev nD) (t : Fin cfg0.N) (p : Fin 4096) (q : Fin 256) :
    (iblk m c 2 t : Vec Ideal S4096x256 .f32) (ix2 p q) = uArr m c (ix2 p (colAt t q)) := by
  obtain ⟨-, -, -, -, e0, e1, -⟩ := idx_facts t
  show m ((c : Thread nD τ).loc main_arg2) (((cfg0.win 2).blk t).view.emb (ix2 p q)) = _
  congr 1
  funext a; apply Fin.ext
  match a with
  | ⟨0, _⟩ => show win0_2.index t (0 : Fin 2) * 4096 + 1 * p.val = p.val; rw [e0]; omega
  | ⟨1, _⟩ => show win0_2.index t (1 : Fin 2) * 256 + 1 * q.val = (t.val / 13 * 256 + q.val); rw [e1]; omega

/-- Scratch 0 after every point is the weight tile of that point's column tile. -/
theorem scratch0_eq (c : Dev nD) : ∀ (n : ℕ) (h : n < cfg0.N) (p : Fin 4096) (q : Fin 256),
    (outsAt0 m c n h).2.1 (ix2 p q) = gArr m c (ix2 p (colAt ⟨n, h⟩ q))
  | n, h, p, q => by
    by_cases h0 : n % 13 = 0
    · rw [outsAt0_A m c ⟨n, h⟩ h0]
      dsimp only
      rw [sout0_A, pay1_apply]
      exact iblk1_apply m c ⟨n, h⟩ p q
    · have hp : n - 1 < n := by omega
      rw [outsAt0_B m c ⟨n, h⟩ h0]
      show (outsAt0 m c (n - 1) _).2.1 (ix2 p q) = _
      rw [scratch0_eq c (n - 1) (by omega) p q]
      rw [colAt_congr (t' := ⟨n, h⟩) (show (n - 1) / 13 = n / 13 by omega) q]
  termination_by n => n

/-- … so also what the point before a later row tile left. -/
theorem scratch0_before (c : Dev nD) (t : Fin cfg0.N) (h0 : ¬t.val % 13 = 0) (hb : t.val - 1 < cfg0.N) (p : Fin 4096) (q : Fin 256) :
    (outsAt0 m c (t.val - 1) hb).2.1 (ix2 p q) = gArr m c (ix2 p (colAt t q)) := by
  rw [scratch0_eq, colAt_congr (t' := t) (show (t.val - 1) / 13 = t.val / 13 by omega) q]

/-- Scratch 1 after every point is the weight tile of that point's column tile. -/
theorem scratch1_eq (c : Dev nD) : ∀ (n : ℕ) (h : n < cfg0.N) (p : Fin 4096) (q : Fin 256),
    (outsAt0 m c n h).2.2 (ix2 p q) = uArr m c (ix2 p (colAt ⟨n, h⟩ q))
  | n, h, p, q => by
    by_cases h0 : n % 13 = 0
    · rw [outsAt0_A m c ⟨n, h⟩ h0]
      dsimp only
      rw [sout1_A, pay2_apply]
      exact iblk2_apply m c ⟨n, h⟩ p q
    · have hp : n - 1 < n := by omega
      rw [outsAt0_B m c ⟨n, h⟩ h0]
      show (outsAt0 m c (n - 1) _).2.2 (ix2 p q) = _
      rw [scratch1_eq c (n - 1) (by omega) p q]
      rw [colAt_congr (t' := ⟨n, h⟩) (show (n - 1) / 13 = n / 13 by omega) q]
  termination_by n => n

/-- … so also what the point before a later row tile left. -/
theorem scratch1_before (c : Dev nD) (t : Fin cfg0.N) (h0 : ¬t.val % 13 = 0) (hb : t.val - 1 < cfg0.N) (p : Fin 4096) (q : Fin 256) :
    (outsAt0 m c (t.val - 1) hb).2.2 (ix2 p q) = uArr m c (ix2 p (colAt t q)) := by
  rw [scratch1_eq, colAt_congr (t' := t) (show (t.val - 1) / 13 = t.val / 13 by omega) q]

/-- What every point leaves in the result's buffer: its tile of the whole array. -/
theorem outs_apply (c : Dev nD) (t : Fin cfg0.N) (p : Fin 640) (q : Fin 256) :
    (outsAt0 m c t.val t.isLt).1 (ix2 p q) = up (hArr m c) (gArr m c) (uArr m c) (ix2 (rowAt t p) (colAt t q)) := by
  by_cases h0 : t.val % 13 = 0
  · rw [outsAt0_A m c t h0]
    dsimp only
    rw [out_A, payload_apply]
    simp only [pay1_apply, pay2_apply, iblk0_apply, iblk1_apply, iblk2_apply]
    rfl
  · rw [outsAt0_B m c t h0]
    dsimp only
    rw [out_B, payload_apply]
    simp only [scratch0_before m c t h0, scratch1_before m c t h0, iblk0_apply, iblk1_apply, iblk2_apply]
    rfl

/-- Point `t` writes back block `t` of the whole array. -/
theorem flushed_eq (c : Dev nD) (t : Fin cfg0.N) (hf : (cfg0.win 3).flush t = true) :
    (dats m 0 c).flushed 3 t = ((cfg0.win 3).blk t).view.read (Elt Ideal) (up (hArr m c) (gArr m c) (uArr m c)) := by
  rw [Value.flushed3]
  funext y
  obtain ⟨p, q, rfl⟩ : ∃ (p : Fin 640) (q : Fin 256), y = ix2 p q := ⟨y 0, y 1, eq_ix2 y⟩
  obtain ⟨-, -, -, -, -, -, e0, e1⟩ := idx_facts t
  have hi : ((cfg0.win 3).blk t).view.emb (ix2 p q) = (ix2 (rowAt t p) (colAt t q) : S8320x1024.Idx) := by
    funext a; apply Fin.ext
    match a with
    | ⟨0, _⟩ => show win0_3.index t (0 : Fin 2) * 640 + 1 * p.val = t.val % 13 * 640 + p.val; rw [e0]; omega
    | ⟨1, _⟩ => show win0_3.index t (1 : Fin 2) * 256 + 1 * q.val = t.val / 13 * 256 + q.val; rw [e1]; omega
  show (outsAt0 m c t.val t.isLt).1 (ix2 p q) = up (hArr m c) (gArr m c) (uArr m c) (((cfg0.win 3).blk t).view.emb (ix2 p q))
  rw [hi, outs_apply]

/-- The array after the run. -/
theorem final_o (c : Dev nD) : (dats m 0 c).arrAt 3 cfg0.N = up (hArr m c) (gArr m c) (uArr m c) :=
  (dats m 0 c).arrAt_eq_of_cover 3 _ (fun t hf => flushed_eq m c t hf) fun i => (Value.covered_iff3 i).2 (by
    have h0 : (i 0).val < 8320 := (i 0).isLt; have h1 : (i 1).val < 1024 := (i 1).isLt; omega)

end Cert.SharedUpIdeal.Proved

namespace Cert.SharedUpRefIdeal.Proved

open Cert.SharedUpRefIdeal Cert.SharedUpRefIdeal.Gen

/-- The reference's result is the same function of the arguments. -/
theorem ref_eq (h : Vec Ideal S8320x4096 .bf16) (g u : Vec Ideal S4096x1024 .f32) :
    Read.val_main_v5 (F := Ideal) h g u = Cert.SharedUpIdeal.Proved.up h g u := by
  funext i
  obtain ⟨p, q, rfl⟩ : ∃ (p : Fin 8320) (q : Fin 1024), i = ix2 p q := ⟨i 0, i 1, eq_ix2 i⟩
  have hx : ∀ k : Fin 4096, Read.lidx_main_v1 (ix2 p q) k = ix2 p k := fun k => funext fun a => by
    match a with | ⟨0, _⟩ => rfl | ⟨1, _⟩ => rfl
  have hg : ∀ k : Fin 4096, Read.ridx_main_v1 (ix2 p q) k = ix2 k q := fun k => funext fun a => by
    match a with | ⟨0, _⟩ => rfl | ⟨1, _⟩ => rfl
  have hx' : ∀ k : Fin 4096, Read.lidx_main_v3 (ix2 p q) k = ix2 p k := fun k => funext fun a => by
    match a with | ⟨0, _⟩ => rfl | ⟨1, _⟩ => rfl
  have hu : ∀ k : Fin 4096, Read.ridx_main_v3 (ix2 p q) k = ix2 k q := fun k => funext fun a => by
    match a with | ⟨0, _⟩ => rfl | ⟨1, _⟩ => rfl
  rw [Read.val_main_v5_apply, Read.val_main_v4_apply, Read.val_main_v3_apply]
  simp only [hx', hu, Read.val_main_v0_apply]
  rw [show Read.val_main_v2 (F := Ideal) h g (ix2 p q) = Cert.SharedUpIdeal.Proved.silu (Read.val_main_v1 (F := Ideal) h g (ix2 p q)) from ?_]
  · rw [Read.val_main_v1_apply]
    simp only [hx, hg, Read.val_main_v0_apply]
    rfl
  · rw [Read.val_main_v2_apply]
    simp only [Read.val_main_call0_v5_apply, Read.val_main_call0_v4_apply, Read.val_main_call0_v3_apply, Read.val_main_call0_v2_apply,
      Read.val_main_call0_v1_apply, Read.val_main_call0_v0_apply, Read.val_main_call0_cst_apply, Read.val_main_call0_cst_0_apply]
    unfold Cert.SharedUpIdeal.Proved.silu
    generalize Read.val_main_v1 (F := Ideal) h g (ix2 p q) = z
    pointwise
    rfl

end Cert.SharedUpRefIdeal.Proved

namespace Cert.SharedUpClaim

/-- The kernel's result at the ideal instance is the reference's, at every index. -/
theorem algebraic : Cert.algebraic_SharedUpIdeal_SharedUpRefIdeal (hSharedUpIdeal := Cert.SharedUpIdeal.Gen.facts) (hSharedUpRefIdeal := Cert.SharedUpRefIdeal.Gen.facts) :=
  fun m ρ m' ρ' _ hag =>
    ⟨fun c => Cert.SharedUpIdeal.Proved.up (Cert.SharedUpIdeal.Proved.hArr m c) (Cert.SharedUpIdeal.Proved.gArr m c) (Cert.SharedUpIdeal.Proved.uArr m c),
      (θ_run (Cert.SharedUpIdeal.defs (F := Ideal)) _ _).mono
        (fun _ h c => ⟨(h c).1.trans (Cert.SharedUpIdeal.Proved.final_o m c), (h c).2⟩) (Cert.SharedUpIdeal.Value.run_blocks m ρ),
      (θ_run (Cert.SharedUpRefIdeal.defs (F := Ideal)) _ _).mono
        (fun _ h c => ⟨by
          refine (h c).1.trans ?_
          obtain ⟨g0, g1, g2⟩ := hag c
          rw [Cert.SharedUpRefIdeal.Read.val_main_v5_eq, Cert.SharedUpRefIdeal.Proved.ref_eq, g0, g1, g2], (h c).2⟩)
        (Cert.SharedUpRefIdeal.Value.run m' ρ')⟩

end Cert.SharedUpClaim
end
-- ==== Proof.SharedDownValue.lean ====
/-
  The VALUE of `SharedDown.lean` at the ideal instance: the second product of the shared expert, 8320 rows by 1024 times
  1024 by 4096. Grid (8 column tiles by 13 row tiles of 640 rows), scratch and proof as in GatesValue.lean; the payload is the
  bare product, stored in single precision.
-/
module

public import proofs.«01_k».proof.Defs
public import proofs.«01_k».proof.Proof.Gen.SharedDownIdeal.Value
public import proofs.«01_k».proof.Proof.Gen.SharedDownRefIdeal.Run
public import proofs.«01_k».proof.Proof.Gen.SharedDownRefIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SharedDownIdeal.Proved

open Cert.SharedDownIdeal Cert.SharedDownIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The activations `h`. -/
abbrev hArr (c : Dev nD) : Vec Ideal S8320x1024 .bf16 := m ((c : Thread nD τ).loc main_arg0)
/-- The projection weights. -/
abbrev wArr (c : Dev nD) : Vec Ideal S1024x4096 .f32 := m ((c : Thread nD τ).loc main_arg1)

/-- What point `t` leaves in the result's buffer when the scratch holds `w` and the row tile is `x`: the payload. -/
theorem out_B (c : Dev nD) (i : grid0.Coords) (a2 : Memref sig .tc .vmem S640x1024 .bf16) (h2 : a2.IsWhole)
    (a3 : Memref sig .tc .vmem S1024x512 .f32) (h3 : a3.IsWhole) (a4 : Memref sig .tc .vmem S640x512 .f32) (h4 : a4.IsWhole)
    (a5 : Memref sig .tc .vmem S1024x512 .bf16) (h5 : a5.IsWhole) (hc : ¬cond0_0 i) (x : Vec Ideal S640x1024 .bf16)
    (w : Vec Ideal S1024x512 .f32) (s : Vec Ideal S1024x512 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  sl_unfold_words
  rw [View.canon_unit_zero hz]
  simp only [View.readAt_eq_ld, h2.read_unread, h5.read_unread, View.ld_unit_zero (S := S640x1024) hz, View.ld_unit_zero (S := S1024x512) hz]

/-- The first row tile of a column tile: the weight tile goes to the scratch and is read back. -/
theorem out_A (c : Dev nD) (i : grid0.Coords) (a2 : Memref sig .tc .vmem S640x1024 .bf16) (h2 : a2.IsWhole)
    (a3 : Memref sig .tc .vmem S1024x512 .f32) (h3 : a3.IsWhole) (a4 : Memref sig .tc .vmem S640x512 .f32) (h4 : a4.IsWhole)
    (a5 : Memref sig .tc .vmem S1024x512 .bf16) (h5 : a5.IsWhole) (hc : cond0_0 i) (x : Vec Ideal S640x1024 .bf16)
    (w : Vec Ideal S1024x512 .f32) :
    out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero hz, View.readCov_unit_zero (S := S1024x512) _ hz]
  simp only [View.readAt_eq_ld, h2.read_unread, h3.read_unread, View.ld_unit_zero (S := S640x1024) hz, View.ld_unit_zero (S := S1024x512) hz]

theorem sout_A (c : Dev nD) (i : grid0.Coords) (a2 : Memref sig .tc .vmem S640x1024 .bf16) (h2 : a2.IsWhole)
    (a3 : Memref sig .tc .vmem S1024x512 .f32) (h3 : a3.IsWhole) (a4 : Memref sig .tc .vmem S640x512 .f32) (h4 : a4.IsWhole)
    (a5 : Memref sig .tc .vmem S1024x512 .bf16) (h5 : a5.IsWhole) (hc : cond0_0 i) (x : Vec Ideal S640x1024 .bf16)
    (w : Vec Ideal S1024x512 .f32) :
    sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero hz]
  simp only [View.readAt_eq_ld, h3.read_unread, View.ld_unit_zero (S := S1024x512) hz]

/-- The copy of the weight tile is the weight tile, whatever the element type's width. -/
theorem pay1_apply (w : Vec Ideal S1024x512 .f32) (j : S1024x512.Idx) : k0_pay1 (F := Ideal) w j = w j := by
  unfold k0_pay1
  idx_vars j
  pointwise

/-- A tile of the result: the product. -/
theorem pay2_apply (x : Vec Ideal S640x1024 .bf16) (s : Vec Ideal S1024x512 .bf16) (p : Fin 640) (q : Fin 512) :
    k0_pay2 (F := Ideal) x s (ix2 p q) = (∑ k : Fin 1024, x (ix2 p k) * s (ix2 k q)) := by
  unfold k0_pay2
  pointwise

/-- The result as one whole array: entry (row, column) is the row of `h` times the column of
    the weights. -/
def down (h : Vec Ideal S8320x1024 .bf16) (w : Vec Ideal S1024x4096 .f32) : Vec Ideal S8320x4096 .f32 := fun i =>
  (∑ k : Fin 1024, h (ix2 (i 0) k) * w (ix2 k ⟨(i 1).val, by exact (i 1).isLt⟩))

/-- Where the windows' blocks lie: point `t` takes row tile `t % 13` and column tile `t / 8`. -/
theorem idx_facts : ∀ t : Fin cfg0.N, win0_0.index t (0 : Fin 2) = t.val % 13 ∧ win0_0.index t (1 : Fin 2) = 0
    ∧ win0_1.index t (0 : Fin 2) = 0 ∧ win0_1.index t (1 : Fin 2) = t.val / 13
    ∧ win0_2.index t (0 : Fin 2) = t.val % 13 ∧ win0_2.index t (1 : Fin 2) = t.val / 13 :=
  (by decide +kernel : ∀ t : Fin grid0.N, _)

/-- The row tile of `h` at point `t`, at an index. -/
theorem iblk0_apply (c : Dev nD) (t : Fin cfg0.N) (p : Fin 640) (k : Fin 1024) :
    (iblk m c 0 t : Vec Ideal S640x1024 .bf16) (ix2 p k)
      = hArr m c (ix2 ⟨t.val % 13 * 640 + p.val, by have := Nat.mod_lt t.val (show 0 < 13 by decide); omega⟩ k) := by
  obtain ⟨e0, e1, -⟩ := idx_facts t
  show m ((c : Thread nD τ).loc main_arg0) (((cfg0.win 0).blk t).view.emb (ix2 p k)) = _
  congr 1
  funext a; apply Fin.ext
  match a with
  | ⟨0, _⟩ => show win0_0.index t (0 : Fin 2) * 640 + 1 * p.val = t.val % 13 * 640 + p.val; rw [e0]; omega
  | ⟨1, _⟩ => show win0_0.index t (1 : Fin 2) * 1024 + 1 * k.val = k.val; rw [e1]; omega

theorem tdiv (t : Fin cfg0.N) : t.val / 13 < 8 := by
  have h := lt_of_lt_of_eq t.isLt (show cfg0.N = 104 from N_0); omega

/-- The weight tile at point `t`, at an index. -/
theorem iblk1_apply (c : Dev nD) (t : Fin cfg0.N) (k : Fin 1024) (q : Fin 512) :
    (iblk m c 1 t : Vec Ideal S1024x512 .f32) (ix2 k q)
      = wArr m c (ix2 k ⟨(t.val / 13 * 512 + q.val), by have := tdiv t; omega⟩) := by
  obtain ⟨-, -, e0, e1, -⟩ := idx_facts t
  show m ((c : Thread nD τ).loc main_arg1) (((cfg0.win 1).blk t).view.emb (ix2 k q)) = _
  congr 1
  funext a; apply Fin.ext
  match a with
  | ⟨0, _⟩ => show win0_1.index t (0 : Fin 2) * 1024 + 1 * k.val = k.val; rw [e0]; omega
  | ⟨1, _⟩ => show win0_1.index t (1 : Fin 2) * 512 + 1 * q.val = (t.val / 13 * 512 + q.val); rw [e1]; omega

/-- The scratch after every point is the weight tile of that point's column tile: stored at the first row tile, kept at
    the others. -/
theorem scratch_eq (c : Dev nD) : ∀ (n : ℕ) (h : n < cfg0.N) (k : Fin 1024) (q : Fin 512),
    (outsAt0 m c n h).2 (ix2 k q) = wArr m c (ix2 k ⟨(n / 13 * 512 + q.val), by have := tdiv ⟨n, h⟩; dsimp only at this; omega⟩)
  | n, h, k, q => by
    by_cases h0 : n % 13 = 0
    · rw [outsAt0_A m c ⟨n, h⟩ h0]
      dsimp only
      rw [sout_A, pay1_apply]
      exact iblk1_apply m c ⟨n, h⟩ k q
    · have hp : n - 1 < n := by omega
      rw [outsAt0_B m c ⟨n, h⟩ h0]
      show (outsAt0 m c (n - 1) _).2 (ix2 k q) = _
      rw [scratch_eq c (n - 1) (by omega) k q]
      congr 3
      show ((n - 1) / 13 * 512 + q.val) = (n / 13 * 512 + q.val)
      have : (n - 1) / 13 = n / 13 := by omega
      rw [this]
  termination_by n => n

/-- What every point leaves in the result's buffer: its tile of the whole array. -/
theorem outs_apply (c : Dev nD) (t : Fin cfg0.N) (p : Fin 640) (q : Fin 512) :
    (outsAt0 m c t.val t.isLt).1 (ix2 p q)
      = (∑ k : Fin 1024, hArr m c (ix2 ⟨t.val % 13 * 640 + p.val, by have := Nat.mod_lt t.val (show 0 < 13 by decide); omega⟩ k)
          * wArr m c (ix2 k ⟨(t.val / 13 * 512 + q.val), by have := tdiv t; omega⟩)) := by
  by_cases h0 : t.val % 13 = 0
  · rw [outsAt0_A m c t h0]
    dsimp only
    rw [out_A, pay2_apply]
    simp only [pay1_apply, iblk0_apply, iblk1_apply]
  · rw [outsAt0_B m c t h0]
    dsimp only
    rw [out_B, pay2_apply]
    have hd : (t.val - 1) / 13 = t.val / 13 := by omega
    simp only [scratch_eq, iblk0_apply, hd]

/-- Point `t` writes back block `t` of the whole array. -/
theorem flushed_eq (c : Dev nD) (t : Fin cfg0.N) (hf : (cfg0.win 2).flush t = true) :
    (dats m 0 c).flushed 2 t = ((cfg0.win 2).blk t).view.read (Elt Ideal) (down (hArr m c) (wArr m c)) := by
  rw [Value.flushed2]
  funext y
  obtain ⟨p, q, rfl⟩ : ∃ (p : Fin 640) (q : Fin 512), y = ix2 p q := ⟨y 0, y 1, eq_ix2 y⟩
  obtain ⟨-, -, -, -, e0, e1⟩ := idx_facts t
  have hi : ((cfg0.win 2).blk t).view.emb (ix2 p q) = (ix2 ⟨t.val % 13 * 640 + p.val, by have := Nat.mod_lt t.val (show 0 < 13 by decide); omega⟩
      ⟨t.val / 13 * 512 + q.val, by have := tdiv t; omega⟩ : S8320x4096.Idx) := by
    funext a; apply Fin.ext
    match a with
    | ⟨0, _⟩ => show win0_2.index t (0 : Fin 2) * 640 + 1 * p.val = t.val % 13 * 640 + p.val; rw [e0]; omega
    | ⟨1, _⟩ => show win0_2.index t (1 : Fin 2) * 512 + 1 * q.val = t.val / 13 * 512 + q.val; rw [e1]; omega
  show (outsAt0 m c t.val t.isLt).1 (ix2 p q) = down (hArr m c) (wArr m c) (((cfg0.win 2).blk t).view.emb (ix2 p q))
  rw [hi, outs_apply]
  rfl

/-- The array after the run. -/
theorem final_o (c : Dev nD) : (dats m 0 c).arrAt 2 cfg0.N = down (hArr m c) (wArr m c) :=
  (dats m 0 c).arrAt_eq_of_cover 2 _ (fun t hf => flushed_eq m c t hf) fun i => (Value.covered_iff2 i).2 (by
    have h0 : (i 0).val < 8320 := (i 0).isLt; have h1 : (i 1).val < 4096 := (i 1).isLt; omega)

end Cert.SharedDownIdeal.Proved

namespace Cert.SharedDownRefIdeal.Proved

open Cert.SharedDownRefIdeal Cert.SharedDownRefIdeal.Gen

/-- The reference's result is the same function of the two arguments. -/
theorem ref_eq (h : Vec Ideal S8320x1024 .bf16) (w : Vec Ideal S1024x4096 .f32) :
    Read.val_main_v1 (F := Ideal) h w = Cert.SharedDownIdeal.Proved.down h w := by
  funext i
  obtain ⟨p, q, rfl⟩ : ∃ (p : Fin 8320) (q : Fin 4096), i = ix2 p q := ⟨i 0, i 1, eq_ix2 i⟩
  simp only [Read.val_main_v1_apply, Read.val_main_v0_apply]
  unfold Cert.SharedDownIdeal.Proved.down
  have hs : ∀ k : Fin 1024, Read.lidx_main_v1 (ix2 p q) k = ix2 p k := fun k => funext fun a => by
    match a with | ⟨0, _⟩ => rfl | ⟨1, _⟩ => rfl
  have hw : ∀ k : Fin 1024, Read.ridx_main_v1 (ix2 p q) k = ix2 k q := fun k => funext fun a => by
    match a with | ⟨0, _⟩ => rfl | ⟨1, _⟩ => rfl
  simp only [hs, hw]
  rfl

end Cert.SharedDownRefIdeal.Proved

namespace Cert.SharedDownClaim

/-- The kernel's result at the ideal instance is the reference's, at every index. -/
theorem algebraic : Cert.algebraic_SharedDownIdeal_SharedDownRefIdeal (hSharedDownIdeal := Cert.SharedDownIdeal.Gen.facts) (hSharedDownRefIdeal := Cert.SharedDownRefIdeal.Gen.facts) :=
  fun m ρ m' ρ' _ hag =>
    ⟨fun c => Cert.SharedDownIdeal.Proved.down (Cert.SharedDownIdeal.Proved.hArr m c) (Cert.SharedDownIdeal.Proved.wArr m c),
      (θ_run (Cert.SharedDownIdeal.defs (F := Ideal)) _ _).mono
        (fun _ h c => ⟨(h c).1.trans (Cert.SharedDownIdeal.Proved.final_o m c), (h c).2⟩) (Cert.SharedDownIdeal.Value.run_blocks m ρ),
      (θ_run (Cert.SharedDownRefIdeal.defs (F := Ideal)) _ _).mono
        (fun _ h c => ⟨by
          refine (h c).1.trans ?_
          rw [Cert.SharedDownRefIdeal.Read.val_main_v1_eq, Cert.SharedDownRefIdeal.Proved.ref_eq, (hag c).1, (hag c).2], (h c).2⟩)
        (Cert.SharedDownRefIdeal.Value.run m' ρ')⟩

end Cert.SharedDownClaim
end
-- ==== Proof.AdalnValue.lean ====
/-
  The VALUE of `Adaln.lean` at the ideal instance: the modulation of every sequence, `silu c · w + b`. Grid of 48 column
  tiles; the first point stores `silu c` in the scratch and every later one reads it there.
-/
module

public import proofs.«01_k».proof.Defs
public import proofs.«01_k».proof.Proof.Gen.AdalnIdeal.Value
public import proofs.«01_k».proof.Proof.Gen.AdalnRefIdeal.Run
public import proofs.«01_k».proof.Proof.Gen.AdalnRefIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdalnIdeal.Proved

open Cert.AdalnIdeal Cert.AdalnIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The conditioning vectors. -/
abbrev cArr (c : Dev nD) : Vec Ideal S144x4096 .f32 := m ((c : Thread nD τ).loc main_arg0)
/-- The projection weights. -/
abbrev wArr (c : Dev nD) : Vec Ideal S4096x24576 .f32 := m ((c : Thread nD τ).loc main_arg1)
/-- The projection bias. -/
abbrev bArr (c : Dev nD) : Vec Ideal S24576 .f32 := m ((c : Thread nD τ).loc main_arg2)

/-- The SiLU of a number. -/
def silu (x : EReal) : EReal := x * Ideal.logistic x

/-- What a later point leaves in the result's buffer: the payload of the scratch and its own tiles. -/
theorem out_B (c : Dev nD) (i : grid0.Coords) (arg1 : Memref sig .tc .vmem S144x4096 .f32) (h1 : arg1.IsWhole) (arg2 : Memref sig .tc .vmem S4096x512 .f32) (h2 : arg2.IsWhole) (arg3 : Memref sig .tc .vmem S1x512 .f32) (h3 : arg3.IsWhole) (arg4 : Memref sig .tc .vmem S144x512 .f32) (h4 : arg4.IsWhole)
    (arg5 : Memref sig .tc .vmem S144x4096 .bf16) (h5 : arg5.IsWhole) (hc : ¬cond0_0 i)
    (x0 : Vec Ideal S144x4096 .f32) (x1 : Vec Ideal S4096x512 .f32) (x2 : Vec Ideal S1x512 .f32) (s : Vec Ideal S144x4096 .bf16) :
    out0_B_3 c i arg1 h1 arg2 h2 arg3 h3 arg4 h4 arg5 h5 hc x0 x1 x2 s = k0_pay2 s x1 x2 := by
  unfold out0_B_3
  rw [View.read_writes_eq_canon _ _ _ (cover0_B_3 c i arg1 h1 arg2 h2 arg3 h3 arg4 h4 arg5 h5 hc x0 x1 x2 s)]
  unfold kernelRun0_B
  dsimp only
  sl_unfold_words
  rw [View.canon_unit_zero hz]
  simp only [View.readAt_eq_ld, h1.read_unread, h2.read_unread, h3.read_unread, h5.read_unread, View.ld_unit_zero (S := S144x4096) hz, View.ld_unit_zero (S := S4096x512) hz, View.ld_unit_zero (S := S1x512) hz]

/-- What the first point leaves there. -/
theorem out_A (c : Dev nD) (i : grid0.Coords) (arg1 : Memref sig .tc .vmem S144x4096 .f32) (h1 : arg1.IsWhole) (arg2 : Memref sig .tc .vmem S4096x512 .f32) (h2 : arg2.IsWhole) (arg3 : Memref sig .tc .vmem S1x512 .f32) (h3 : arg3.IsWhole) (arg4 : Memref sig .tc .vmem S144x512 .f32) (h4 : arg4.IsWhole)
    (arg5 : Memref sig .tc .vmem S144x4096 .bf16) (h5 : arg5.IsWhole) (hc : cond0_0 i)
    (x0 : Vec Ideal S144x4096 .f32) (x1 : Vec Ideal S4096x512 .f32) (x2 : Vec Ideal S1x512 .f32) :
    out0_A_3 c i arg1 h1 arg2 h2 arg3 h3 arg4 h4 arg5 h5 hc x0 x1 x2 = k0_pay2 (k0_pay1 x0) x1 x2 := by
  unfold out0_A_3
  rw [View.read_writes_eq_canon _ _ _ (cover0_A_3 c i arg1 h1 arg2 h2 arg3 h3 arg4 h4 arg5 h5 hc x0 x1 x2)]
  unfold kernelRun0_A
  dsimp only
  sl_unfold_words
  rw [View.canon_unit_zero hz]
  simp only [View.readCov_unit_zero (S := S144x4096) _ hz]
  simp only [View.readAt_eq_ld, h1.read_unread, h2.read_unread, h3.read_unread, h5.read_unread, View.ld_unit_zero (S := S144x4096) hz, View.ld_unit_zero (S := S4096x512) hz, View.ld_unit_zero (S := S1x512) hz]

/-- … and in the scratch. -/
theorem sout_A (c : Dev nD) (i : grid0.Coords) (arg1 : Memref sig .tc .vmem S144x4096 .f32) (h1 : arg1.IsWhole) (arg2 : Memref sig .tc .vmem S4096x512 .f32) (h2 : arg2.IsWhole) (arg3 : Memref sig .tc .vmem S1x512 .f32) (h3 : arg3.IsWhole) (arg4 : Memref sig .tc .vmem S144x512 .f32) (h4 : arg4.IsWhole)
    (arg5 : Memref sig .tc .vmem S144x4096 .bf16) (h5 : arg5.IsWhole) (hc : cond0_0 i)
    (x0 : Vec Ideal S144x4096 .f32) (x1 : Vec Ideal S4096x512 .f32) (x2 : Vec Ideal S1x512 .f32) :
    sout0_A_0 c i arg1 h1 arg2 h2 arg3 h3 arg4 h4 arg5 h5 hc x0 x1 x2 = k0_pay1 x0 := by
  unfold sout0_A_0
  rw [View.read_writes_eq_canon _ _ _ (scover0_A_0 c i arg1 h1 arg2 h2 arg3 h3 arg4 h4 arg5 h5 hc x0 x1 x2)]
  unfold kernelRun0_A
  dsimp only
  sl_unfold_words
  rw [View.canon_unit_zero hz]
  simp only [View.readAt_eq_ld, h1.read_unread, h2.read_unread, h3.read_unread, h5.read_unread, View.ld_unit_zero (S := S144x4096) hz, View.ld_unit_zero (S := S4096x512) hz, View.ld_unit_zero (S := S1x512) hz]

theorem pay1_apply (x : Vec Ideal S144x4096 .f32) (p : Fin 144) (k : Fin 4096) : k0_pay1 (F := Ideal) x (ix2 p k) = silu (x (ix2 p k)) := by
  unfold k0_pay1 silu
  pointwise

theorem pay2_apply (s : Vec Ideal S144x4096 .bf16) (w : Vec Ideal S4096x512 .f32) (b : Vec Ideal S1x512 .f32) (p : Fin 144) (q : Fin 512) :
    k0_pay2 (F := Ideal) s w b (ix2 p q) = (∑ k : Fin 4096, s (ix2 p k) * w (ix2 k q)) + b (ix2 0 q) := by
  unfold k0_pay2
  pointwise

theorem V_b (c : Dev nD) (q : Fin 24576) : (V m c main_v0 : Vec Ideal S1x24576 .f32) (ix2 0 q) = bArr m c (ix1 q) := by
  have e : (V m c main_v0 : Vec Ideal S1x24576 .f32) = shapeCast S1x24576 (bArr m c) shapeCasts_S24576_S1x24576 := by
    unfold_abbrev_sides
    simp only [hostOps0, List.flatten_cons, List.flatten_nil, List.append_nil, List.cons_append, List.nil_append]
    after_results
    rfl
  rw [e]
  exact shapeCast_apply _ _ _ _ (by
    rewrite [Shape.rowMajor_val_one, Shape.rowMajor_val_two]
    show q.val = 0 * 24576 + q.val
    omega)

/-- Where the blocks lie: point `t` takes column tile `t`. -/
theorem idx_facts : ∀ t : Fin cfg0.N, win0_0.index t (0 : Fin 2) = 0 ∧ win0_0.index t (1 : Fin 2) = 0 ∧ win0_1.index t (0 : Fin 2) = 0 ∧ win0_1.index t (1 : Fin 2) = t.val
    ∧ win0_2.index t (0 : Fin 2) = 0 ∧ win0_2.index t (1 : Fin 2) = t.val ∧ win0_3.index t (0 : Fin 2) = 0 ∧ win0_3.index t (1 : Fin 2) = t.val :=
  (by decide +kernel : ∀ t : Fin grid0.N, _)

theorem tlt (t : Fin cfg0.N) : t.val < 48 := lt_of_lt_of_eq t.isLt (show cfg0.N = 48 from N_0)

/-- The column of the whole array that column `q` of tile `t` is. -/
abbrev colAt (t : Fin cfg0.N) (q : Fin 512) : Fin 24576 := ⟨t.val * 512 + q.val, by have := tlt t; omega⟩

theorem iblk0_apply (c : Dev nD) (t : Fin cfg0.N) (p : Fin 144) (k : Fin 4096) :
    (iblk m c 0 t : Vec Ideal S144x4096 .f32) (ix2 p k) = cArr m c (ix2 p k) := by
  obtain ⟨e0, e1, -⟩ := idx_facts t
  show V m c main_arg0 (((cfg0.win 0).blk t).view.emb (ix2 p k)) = _
  rw [V_main_arg0]
  congr 1
  funext a; apply Fin.ext
  match a with
  | ⟨0, _⟩ => show win0_0.index t (0 : Fin 2) * 144 + 1 * p.val = p.val; rw [e0]; omega
  | ⟨1, _⟩ => show win0_0.index t (1 : Fin 2) * 4096 + 1 * k.val = k.val; rw [e1]; omega

theorem iblk1_apply (c : Dev nD) (t : Fin cfg0.N) (k : Fin 4096) (q : Fin 512) :
    (iblk m c 1 t : Vec Ideal S4096x512 .f32) (ix2 k q) = wArr m c (ix2 k (colAt t q)) := by
  obtain ⟨-, -, e0, e1, -⟩ := idx_facts t
  show V m c main_arg1 (((cfg0.win 1).blk t).view.emb (ix2 k q)) = _
  rw [V_main_arg1]
  congr 1
  funext a; apply Fin.ext
  match a with
  | ⟨0, _⟩ => show win0_1.index t (0 : Fin 2) * 4096 + 1 * k.val = k.val; rw [e0]; omega
  | ⟨1, _⟩ => show win0_1.index t (1 : Fin 2) * 512 + 1 * q.val = t.val * 512 + q.val; rw [e1]; omega

theorem iblk2_apply (c : Dev nD) (t : Fin cfg0.N) (q : Fin 512) :
    (iblk m c 2 t : Vec Ideal S1x512 .f32) (ix2 0 q) = bArr m c (ix1 (colAt t q)) := by
  obtain ⟨-, -, -, -, e0, e1, -⟩ := idx_facts t
  refine Eq.trans ?_ (V_b m c (colAt t q))
  show V m c main_v0 (((cfg0.win 2).blk t).view.emb (ix2 0 q)) = _
  congr 1
  funext a; apply Fin.ext
  match a with
  | ⟨0, _⟩ => show win0_2.index t (0 : Fin 2) * 1 + 1 * 0 = 0; rw [e0]
  | ⟨1, _⟩ => show win0_2.index t (1 : Fin 2) * 512 + 1 * q.val = t.val * 512 + q.val; rw [e1]; omega

/-- The scratch after every point: the SiLU of the conditioning vectors. -/
theorem scratch_eq (c : Dev nD) : ∀ (n : ℕ) (h : n < cfg0.N) (p : Fin 144) (k : Fin 4096),
    (outsAt0 m c n h).2 (ix2 p k) = silu (cArr m c (ix2 p k))
  | n, h, p, k => by
    by_cases h0 : n % 48 = 0
    · rw [outsAt0_A m c ⟨n, h⟩ h0]
      dsimp only
      rw [sout_A, pay1_apply, iblk0_apply]
    · have hp : n - 1 < n := by omega
      rw [outsAt0_B m c ⟨n, h⟩ h0]
      show (outsAt0 m c (n - 1) _).2 (ix2 p k) = _
      rw [scratch_eq c (n - 1) (by omega) p k]
  termination_by n => n

/-- The modulation as one whole array. -/
def ada (x : Vec Ideal S144x4096 .f32) (w : Vec Ideal S4096x24576 .f32) (b : Vec Ideal S24576 .f32) : Vec Ideal S144x24576 .f32 := fun i =>
  (∑ k : Fin 4096, silu (x (ix2 (i 0) k)) * w (ix2 k (i 1))) + b (ix1 (i 1))

/-- What every point leaves in the result's buffer: its tile of the whole array. -/
theorem outs_apply (c : Dev nD) (t : Fin cfg0.N) (p : Fin 144) (q : Fin 512) :
    (outsAt0 m c t.val t.isLt).1 (ix2 p q) = ada (cArr m c) (wArr m c) (bArr m c) (ix2 p (colAt t q)) := by
  by_cases h0 : t.val % 48 = 0
  · rw [outsAt0_A m c t h0]
    dsimp only
    rw [out_A, pay2_apply]
    simp only [pay1_apply, iblk0_apply, iblk1_apply, iblk2_apply]
    rfl
  · rw [outsAt0_B m c t h0]
    dsimp only
    rw [out_B, pay2_apply]
    simp only [scratch_eq, iblk1_apply, iblk2_apply]
    rfl

/-- Point `t` writes back tile `t` of the whole array. -/
theorem flushed_eq (c : Dev nD) (t : Fin cfg0.N) (hf : (cfg0.win 3).flush t = true) :
    (dats m 0 c).flushed 3 t = ((cfg0.win 3).blk t).view.read (Elt Ideal) (ada (cArr m c) (wArr m c) (bArr m c)) := by
  rw [Value.flushed3]
  funext y
  obtain ⟨p, q, rfl⟩ : ∃ (p : Fin 144) (q : Fin 512), y = ix2 p q := ⟨y 0, y 1, eq_ix2 y⟩
  obtain ⟨-, -, -, -, -, -, e0, e1⟩ := idx_facts t
  have hi : ((cfg0.win 3).blk t).view.emb (ix2 p q) = (ix2 p (colAt t q) : S144x24576.Idx) := by
    funext a; apply Fin.ext
    match a with
    | ⟨0, _⟩ => show win0_3.index t (0 : Fin 2) * 144 + 1 * p.val = p.val; rw [e0]; omega
    | ⟨1, _⟩ => show win0_3.index t (1 : Fin 2) * 512 + 1 * q.val = t.val * 512 + q.val; rw [e1]; omega
  show (outsAt0 m c t.val t.isLt).1 (ix2 p q) = ada (cArr m c) (wArr m c) (bArr m c) (((cfg0.win 3).blk t).view.emb (ix2 p q))
  rw [hi, outs_apply]

/-- The array after the run. -/
theorem final_o (c : Dev nD) : (dats m 0 c).arrAt 3 cfg0.N = ada (cArr m c) (wArr m c) (bArr m c) :=
  (dats m 0 c).arrAt_eq_of_cover 3 _ (fun t hf => flushed_eq m c t hf) fun i => (Value.covered_iff3 i).2 (by
    have h0 : (i 0).val < 144 := (i 0).isLt; have h1 : (i 1).val < 24576 := (i 1).isLt; omega)

end Cert.AdalnIdeal.Proved

namespace Cert.AdalnRefIdeal.Proved

open Cert.AdalnRefIdeal Cert.AdalnRefIdeal.Gen

theorem o1 : FloatOps.ofBits (F := Ideal) FTy.f32 0x3F800000#32 = (1 : EReal) := Ideal.ofBits_one_f32

/-- The reference's result is the same function of the arguments. -/
theorem ref_eq (x : Vec Ideal S144x4096 .f32) (w : Vec Ideal S4096x24576 .f32) (b : Vec Ideal S24576 .f32) :
    Read.val_main_v4 (F := Ideal) x w b = Cert.AdalnIdeal.Proved.ada x w b := by
  funext i
  obtain ⟨p, q, rfl⟩ : ∃ (p : Fin 144) (q : Fin 24576), i = ix2 p q := ⟨i 0, i 1, eq_ix2 i⟩
  have hl : ∀ k : Fin 4096, Read.lidx_main_v1 (ix2 p q) k = ix2 p k := fun k => funext fun a => by
    match a with | ⟨0, _⟩ => rfl | ⟨1, _⟩ => rfl
  have hr : ∀ k : Fin 4096, Read.ridx_main_v1 (ix2 p q) k = ix2 k q := fun k => funext fun a => by
    match a with | ⟨0, _⟩ => rfl | ⟨1, _⟩ => rfl
  have hb : Read.idx_main_v2 (Read.idx_main_v3 (ix2 p q)) = ix1 q := funext fun a => by match a with | ⟨0, _⟩ => rfl
  simp only [Read.val_main_v4_apply, Read.val_main_v3_apply, Read.val_main_v2_apply, Read.val_main_v1_apply, Read.val_main_v0_apply,
    Read.val_main_call0_v5_apply, Read.val_main_call0_v4_apply, Read.val_main_call0_v3_apply, Read.val_main_call0_v2_apply, Read.val_main_call0_v1_apply, Read.val_main_call0_v0_apply,
    Read.val_main_call0_cst_apply, Read.val_main_call0_cst_0_apply, hl, hr, hb, o1]
  rfl

end Cert.AdalnRefIdeal.Proved

namespace Cert.AdalnClaim

/-- The kernel's result at the ideal instance is the reference's, at every index. -/
theorem algebraic : Cert.algebraic_AdalnIdeal_AdalnRefIdeal (hAdalnIdeal := Cert.AdalnIdeal.Gen.facts) (hAdalnRefIdeal := Cert.AdalnRefIdeal.Gen.facts) :=
  fun m ρ m' ρ' _ hag =>
    ⟨fun c => Cert.AdalnIdeal.Proved.ada (Cert.AdalnIdeal.Proved.cArr m c) (Cert.AdalnIdeal.Proved.wArr m c) (Cert.AdalnIdeal.Proved.bArr m c),
      (θ_run (Cert.AdalnIdeal.defs (F := Ideal)) _ _).mono
        (fun _ h c => ⟨(h c).1.trans (Cert.AdalnIdeal.Proved.final_o m c), (h c).2⟩) (Cert.AdalnIdeal.Value.run_blocks m ρ),
      (θ_run (Cert.AdalnRefIdeal.defs (F := Ideal)) _ _).mono
        (fun _ h c => ⟨by
          refine (h c).1.trans ?_
          obtain ⟨g0, g1, g2⟩ := hag c
          rw [Cert.AdalnRefIdeal.Read.val_main_v4_eq, Cert.AdalnRefIdeal.Proved.ref_eq, g0, g1, g2], (h c).2⟩)
        (Cert.AdalnRefIdeal.Value.run m' ρ')⟩

end Cert.AdalnClaim
end
-- ==== Proof.ModulateValue.lean ====
/-
  The VALUE of `Modulate.lean` at the ideal instance: a token's row divided by the root of its mean square, under its gain,
  then scaled and shifted by the modulation of its sequence. Grid of 32 row tiles, eight per sequence.
-/
module

public import proofs.«01_k».proof.Defs
public import proofs.«01_k».proof.Proof.Gen.ModulateIdeal.Value
public import proofs.«01_k».proof.Proof.Gen.ModulateRefIdeal.Run
public import proofs.«01_k».proof.Proof.Gen.ModulateRefIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ModulateIdeal.Proved

open Cert.ModulateIdeal Cert.ModulateIdeal.Gen

variable (m : (ℓ : Loc nD τ sig) → Buf (Elt Ideal) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-- The width of a row, 4096. -/
abbrev width : EReal := FloatOps.ofBits (F := Ideal) .f32 0x45800000#32
/-- The small number under the root. -/
abbrev eps : EReal := FloatOps.ofBits (F := Ideal) .f32 0x358637BD#32

/-- Column `j` of a row, normalised by its mean square under the gain `g`, scaled by `1 + a` and shifted by `s`. -/
def modCol (row : Fin 4096 → EReal) (j : Fin 4096) (g a s : EReal) : EReal :=
  row j * Ideal.rsqrt (Ideal.div (∑ k : Fin 4096, row k * row k) width + eps) * g * (1 + a) + s

/-- The tokens, a row each, sequence after sequence. -/
abbrev xArr (c : Dev nD) : Vec Ideal S4x2048x4096 .f32 := m ((c : Thread nD τ).loc main_arg0)
/-- The gain of the normalisation. -/
abbrev gArr (c : Dev nD) : Vec Ideal S4096 .f32 := m ((c : Thread nD τ).loc main_arg1)
/-- The modulation of each sequence: shift, scale and four more. -/
abbrev mArr (c : Dev nD) : Vec Ideal S4x24576 .f32 := m ((c : Thread nD τ).loc main_arg2)

/-- A tile of the result, at an index. -/
theorem pay1_apply (x : Vec Ideal S256x4096 .f32) (g : Vec Ideal S1x4096 .f32) (a s : Vec Ideal S1x1x4096 .f32) (p : Fin 256) (q : Fin 4096) :
    k0_pay1 (F := Ideal) x g a s (ix2 p q) = modCol (fun k => x (ix2 p k)) q (g (ix2 0 q)) (a (ix3 0 0 q)) (s (ix3 0 0 q)) := by
  unfold k0_pay1
  pointwise
  rfl

theorem V_x (c : Dev nD) (r : Fin 8192) (q : Fin 4096) :
    (V m c main_v0 : Vec Ideal S8192x4096 .f32) (ix2 r q) = xArr m c (ix3 (⟨r.val / 2048, by omega⟩ : Fin 4) (⟨r.val % 2048, by omega⟩ : Fin 2048) q) := by
  have e : (V m c main_v0 : Vec Ideal S8192x4096 .f32) = shapeCast S8192x4096 (xArr m c) shapeCasts_S4x2048x4096_S8192x4096 := by
    unfold_abbrev_sides
    simp only [hostOps0, List.flatten_cons, List.flatten_nil, List.append_nil, List.cons_append, List.nil_append]
    after_results
    rfl
  rw [e]
  exact shapeCast_apply _ _ _ _ (by
    rewrite [Shape.rowMajor_val_two, Shape.rowMajor_val_three]
    show (r.val / 2048 * 2048 + r.val % 2048) * 4096 + q.val = r.val * 4096 + q.val
    omega)

theorem V_m (c : Dev nD) (b : Fin 4) (q : Fin 24576) :
    (V m c main_v1 : Vec Ideal S4x1x24576 .f32) (ix3 b 0 q) = mArr m c (ix2 b q) := by
  have e : (V m c main_v1 : Vec Ideal S4x1x24576 .f32) = shapeCast S4x1x24576 (mArr m c) shapeCasts_S4x24576_S4x1x24576 := by
    unfold_abbrev_sides
    simp only [hostOps0, List.flatten_cons, List.flatten_nil, List.append_nil, List.cons_append, List.nil_append]
    after_results
    rfl
  rw [e]
  exact shapeCast_apply _ _ _ _ (by
    rewrite [Shape.rowMajor_val_two, Shape.rowMajor_val_three]
    show b.val * 24576 + q.val = (b.val * 1 + 0) * 24576 + q.val
    omega)

theorem V_g (c : Dev nD) (q : Fin 4096) : (V m c main_v2 : Vec Ideal S1x4096 .f32) (ix2 0 q) = gArr m c (ix1 q) := by
  have e : (V m c main_v2 : Vec Ideal S1x4096 .f32) = shapeCast S1x4096 (gArr m c) shapeCasts_S4096_S1x4096 := by
    unfold_abbrev_sides
    simp only [hostOps0, List.flatten_cons, List.flatten_nil, List.append_nil, List.cons_append, List.nil_append]
    after_results
    rfl
  rw [e]
  exact shapeCast_apply _ _ _ _ (by
    rewrite [Shape.rowMajor_val_one, Shape.rowMajor_val_two]
    show q.val = 0 * 4096 + q.val
    omega)

/-- Where the blocks lie: point `t` takes row tile `t`, and the shift and the scale of sequence `t / 8`. -/
theorem idx_facts : ∀ t : Fin cfg0.N, win0_0.index t (0 : Fin 2) = t.val ∧ win0_0.index t (1 : Fin 2) = 0 ∧ win0_1.index t (0 : Fin 2) = 0 ∧ win0_1.index t (1 : Fin 2) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = 0 ∧ win0_3.index t (2 : Fin 3) = 1
    ∧ win0_4.index t (0 : Fin 2) = t.val ∧ win0_4.index t (1 : Fin 2) = 0 :=
  (by decide +kernel : ∀ t : Fin grid0.N, _)

theorem tlt (t : Fin cfg0.N) : t.val < 32 := lt_of_lt_of_eq t.isLt (show cfg0.N = 32 from N_0)

/-- The row of the whole array that row `p` of tile `t` is. -/
abbrev rowAt (t : Fin cfg0.N) (p : Fin 256) : Fin 8192 := ⟨t.val * 256 + p.val, by have := tlt t; omega⟩

theorem iblk0_apply (c : Dev nD) (t : Fin cfg0.N) (p : Fin 256) (q : Fin 4096) :
    (iblk m c 0 t : Vec Ideal S256x4096 .f32) (ix2 p q)
      = xArr m c (ix3 (⟨(rowAt t p).val / 2048, by omega⟩ : Fin 4) (⟨(rowAt t p).val % 2048, by omega⟩ : Fin 2048) q) := by
  obtain ⟨e0, e1, -⟩ := idx_facts t
  refine Eq.trans ?_ (V_x m c (rowAt t p) q)
  show V m c main_v0 (((cfg0.win 0).blk t).view.emb (ix2 p q)) = _
  congr 1
  funext a; apply Fin.ext
  match a with
  | ⟨0, _⟩ => show win0_0.index t (0 : Fin 2) * 256 + 1 * p.val = t.val * 256 + p.val; rw [e0]; omega
  | ⟨1, _⟩ => show win0_0.index t (1 : Fin 2) * 4096 + 1 * q.val = q.val; rw [e1]; omega

theorem iblk1_apply (c : Dev nD) (t : Fin cfg0.N) (q : Fin 4096) :
    (iblk m c 1 t : Vec Ideal S1x4096 .f32) (ix2 0 q) = gArr m c (ix1 q) := by
  obtain ⟨-, -, e0, e1, -⟩ := idx_facts t
  refine Eq.trans ?_ (V_g m c q)
  show V m c main_v2 (((cfg0.win 1).blk t).view.emb (ix2 0 q)) = _
  congr 1
  funext a; apply Fin.ext
  match a with
  | ⟨0, _⟩ => show win0_1.index t (0 : Fin 2) * 1 + 1 * 0 = 0; rw [e0]
  | ⟨1, _⟩ => show win0_1.index t (1 : Fin 2) * 4096 + 1 * q.val = q.val; rw [e1]; omega

/-- The sequence tile `t` belongs to. -/
abbrev seqAt (t : Fin cfg0.N) : Fin 4 := ⟨t.val / 8, by have := tlt t; omega⟩

theorem iblk2_apply (c : Dev nD) (t : Fin cfg0.N) (q : Fin 4096) :
    (iblk m c 2 t : Vec Ideal S1x1x4096 .f32) (ix3 0 0 q) = mArr m c (ix2 (seqAt t) ⟨q.val, by omega⟩) := by
  obtain ⟨-, -, -, -, e0, e1, e2, -⟩ := idx_facts t
  refine Eq.trans ?_ (V_m m c (seqAt t) ⟨q.val, by omega⟩)
  show V m c main_v1 (((cfg0.win 2).blk t).view.emb (ix3 0 0 q)) = _
  congr 1
  funext a; apply Fin.ext
  match a with
  | ⟨0, _⟩ => show win0_2.index t (0 : Fin 3) * 1 + 1 * 0 = t.val / 8; rw [e0]; omega
  | ⟨1, _⟩ => show win0_2.index t (1 : Fin 3) * 1 + 1 * 0 = 0; rw [e1]
  | ⟨2, _⟩ => show win0_2.index t (2 : Fin 3) * 4096 + 1 * q.val = q.val; rw [e2]; omega

theorem iblk3_apply (c : Dev nD) (t : Fin cfg0.N) (q : Fin 4096) :
    (iblk m c 3 t : Vec Ideal S1x1x4096 .f32) (ix3 0 0 q) = mArr m c (ix2 (seqAt t) ⟨4096 + q.val, by omega⟩) := by
  obtain ⟨-, -, -, -, -, -, -, e0, e1, e2, -⟩ := idx_facts t
  refine Eq.trans ?_ (V_m m c (seqAt t) ⟨4096 + q.val, by omega⟩)
  show V m c main_v1 (((cfg0.win 3).blk t).view.emb (ix3 0 0 q)) = _
  congr 1
  funext a; apply Fin.ext
  match a with
  | ⟨0, _⟩ => show win0_3.index t (0 : Fin 3) * 1 + 1 * 0 = t.val / 8; rw [e0]; omega
  | ⟨1, _⟩ => show win0_3.index t (1 : Fin 3) * 1 + 1 * 0 = 0; rw [e1]
  | ⟨2, _⟩ => show win0_3.index t (2 : Fin 3) * 4096 + 1 * q.val = 4096 + q.val; rw [e2]; omega

/-- The result as one whole array. -/
def modulated (x : Vec Ideal S4x2048x4096 .f32) (g : Vec Ideal S4096 .f32) (mo : Vec Ideal S4x24576 .f32) : Vec Ideal S8192x4096 .bf16 := fun i =>
  have h0 : (i 0).val < 8192 := (i 0).isLt
  have h1 : (i 1).val < 4096 := (i 1).isLt
  modCol (fun k => x (ix3 (⟨(i 0).val / 2048, by omega⟩ : Fin 4) (⟨(i 0).val % 2048, by omega⟩ : Fin 2048) k)) (i 1) (g (ix1 (i 1)))
    (mo (ix2 (⟨(i 0).val / 2048, by omega⟩ : Fin 4) ⟨4096 + (i 1).val, by omega⟩)) (mo (ix2 (⟨(i 0).val / 2048, by omega⟩ : Fin 4) ⟨(i 1).val, by omega⟩))

theorem out4_eq (x0 : Vec Ideal S256x4096 .f32) (x1 : Vec Ideal S1x4096 .f32) (x2 x3 : Vec Ideal S1x1x4096 .f32) : out0_4 x0 x1 x2 x3 = k0_pay1 x0 x1 x3 x2 := by
  unfold out0_4
  rw [View.canon_unit_zero hz]
  simp only [View.ld_unit_zero (S := S256x4096) hz, View.ld_unit_zero (S := S1x4096) hz, View.ld_unit_zero (S := S1x1x4096) hz3]

theorem emb4 (t : Fin cfg0.N) (p : Fin 256) (q : Fin 4096) : ((cfg0.win 4).blk t).view.emb (ix2 p q) = (ix2 (rowAt t p) q : S8192x4096.Idx) := by
  obtain ⟨-, -, -, -, -, -, -, -, -, -, e0, e1⟩ := idx_facts t
  funext a; apply Fin.ext
  match a with
  | ⟨0, _⟩ => show win0_4.index t (0 : Fin 2) * 256 + 1 * p.val = t.val * 256 + p.val; rw [e0]; omega
  | ⟨1, _⟩ => show win0_4.index t (1 : Fin 2) * 4096 + 1 * q.val = q.val; rw [e1]; omega

theorem flush4 : ∀ t : Fin cfg0.N, (cfg0.win 4).flush t = true :=
  (by decide +kernel : ∀ t : Fin grid0.N, _)

/-- Point `t` writes back tile `t` of the whole array. -/
theorem flushed_eq (c : Dev nD) (t : Fin cfg0.N) (hf : (cfg0.win 4).flush t = true) :
    (dats m 0 c).flushed 4 t = ((cfg0.win 4).blk t).view.read (Elt Ideal) (modulated (xArr m c) (gArr m c) (mArr m c)) := by
  rw [Value.flushed4]
  funext y
  obtain ⟨p, q, rfl⟩ : ∃ (p : Fin 256) (q : Fin 4096), y = ix2 p q := ⟨y 0, y 1, eq_ix2 y⟩
  show out0_4 (iblk m c 0 t) (iblk m c 1 t) (iblk m c 2 t) (iblk m c 3 t) (ix2 p q)
    = modulated (xArr m c) (gArr m c) (mArr m c) (((cfg0.win 4).blk t).view.emb (ix2 p q))
  rw [emb4, out4_eq, pay1_apply]
  simp only [iblk0_apply, iblk1_apply, iblk2_apply, iblk3_apply]
  have hs : seqAt t = ⟨(rowAt t p).val / 2048, by omega⟩ := Fin.ext (by show t.val / 8 = (t.val * 256 + p.val) / 2048; omega)
  rw [hs]
  rfl

/-- The array after the run. -/
theorem final_o (c : Dev nD) : (dats m 0 c).arrAt 4 cfg0.N = modulated (xArr m c) (gArr m c) (mArr m c) :=
  (dats m 0 c).arrAt_eq_of_cover 4 _ (fun t hf => flushed_eq m c t hf) fun i => by
    have h0 : (i 0).val < 8192 := (i 0).isLt
    have ht : (i 0).val / 256 < cfg0.N := by rw [show cfg0.N = 32 from N_0]; omega
    refine ⟨⟨(i 0).val / 256, ht⟩, flush4 _, ?_⟩
    have := ((cfg0.win 4).blk ⟨(i 0).val / 256, ht⟩).view.emb_mem_set (ix2 (⟨(i 0).val % 256, by omega⟩ : Fin 256) (i 1 : Fin 4096))
    have he : (ix2 (rowAt ⟨(i 0).val / 256, ht⟩ ⟨(i 0).val % 256, by omega⟩) (i 1 : Fin 4096) : S8192x4096.Idx) = i := by
      funext a; apply Fin.ext
      match a with
      | ⟨0, _⟩ => show (i 0).val / 256 * 256 + (i 0).val % 256 = (i 0).val; omega
      | ⟨1, _⟩ => rfl
    exact Eq.mp (congrArg (· ∈ ((cfg0.win 4).blk ⟨(i 0).val / 256, ht⟩).view.set) ((emb4 ⟨(i 0).val / 256, ht⟩ ⟨(i 0).val % 256, by omega⟩ (i 1)).trans he)) this

end Cert.ModulateIdeal.Proved

namespace Cert.ModulateRefIdeal.Proved

open Cert.ModulateRefIdeal Cert.ModulateRefIdeal.Gen

theorem z0 : FloatOps.ofBits (F := Ideal) FTy.f32 0x00000000#32 = (0 : EReal) := Ideal.ofBits_zero_f32
theorem o1 : FloatOps.ofBits (F := Ideal) FTy.f32 0x3F800000#32 = (1 : EReal) := Ideal.ofBits_one_f32

/-- The reference's result is the same function of the arguments. -/
theorem ref_eq (x : Vec Ideal S4x2048x4096 .f32) (g : Vec Ideal S4096 .f32) (mo : Vec Ideal S4x24576 .f32) :
    Read.val_main_v24 (F := Ideal) x g mo = Cert.ModulateIdeal.Proved.modulated x g mo := by
  funext i
  obtain ⟨p, q, rfl⟩ : ∃ (p : Fin 8192) (q : Fin 4096), i = ix2 p q := ⟨i 0, i 1, eq_ix2 i⟩
  have h23 : Read.idx_main_v23 (ix2 p q) = ix3 (⟨p.val / 2048, by omega⟩ : Fin 4) (⟨p.val % 2048, by omega⟩ : Fin 2048) q := funext fun a => Fin.ext (by
    match a with
    | ⟨0, _⟩ => show (p.val * 4096 + q.val) / 8388608 = p.val / 2048; omega
    | ⟨1, _⟩ => show (p.val * 4096 + q.val) / 4096 % 2048 = p.val % 2048; omega
    | ⟨2, _⟩ => show (p.val * 4096 + q.val) % 4096 = q.val; omega)
  have hg : ∀ (b : Fin 4) (r : Fin 2048), Read.idx_main_v14 (Read.idx_main_v15 (ix3 b r q)) = ix1 q := fun b r => funext fun a => by match a with | ⟨0, _⟩ => rfl
  have hs : ∀ (b : Fin 4) (r : Fin 2048), Read.idx_main_v0 (Read.idx_main_v1 (Read.idx_main_v21 (ix3 b r q))) = ix2 b ⟨q.val, by omega⟩ := fun b r => funext fun a => by
    match a with | ⟨0, _⟩ => rfl | ⟨1, _⟩ => rfl
  have ha : ∀ (b : Fin 4) (r : Fin 2048), Read.idx_main_v2 (Read.idx_main_v3 (Read.idx_main_v19 (ix3 b r q))) = ix2 b ⟨4096 + q.val, by omega⟩ := fun b r => funext fun a => by
    match a with | ⟨0, _⟩ => rfl | ⟨1, _⟩ => rfl
  have hx : ∀ (b : Fin 4) (r : Fin 2048) (k : Fin 4096), Read.idx_main_v5 (Read.idx_main_v6 (Read.idx_main_v12 (ix3 b r q))) k = ix3 b r k := fun b r k => funext fun a => by
    match a with | ⟨0, _⟩ => rfl | ⟨1, _⟩ => rfl | ⟨2, _⟩ => rfl
  simp only [Read.val_main_v24_apply, Read.val_main_v23_apply, h23, Read.val_main_v22_apply, Read.val_main_v21_apply, Read.val_main_v20_apply, Read.val_main_v19_apply, Read.val_main_v18_apply,
    Read.val_main_v17_apply, Read.val_main_v16_apply, Read.val_main_v15_apply, Read.val_main_v14_apply, Read.val_main_v13_apply, Read.val_main_v12_apply, Read.val_main_v11_apply, Read.val_main_v10_apply,
    Read.val_main_v9_apply, Read.val_main_v8_apply, Read.val_main_v7_apply, Read.val_main_v6_apply, Read.val_main_v5_apply, Read.val_main_v4_apply, Read.val_main_v3_apply, Read.val_main_v2_apply,
    Read.val_main_v1_apply, Read.val_main_v0_apply, Read.val_main_cst_apply, Read.val_main_cst_0_apply, Read.val_main_cst_1_apply, Read.val_main_cst_2_apply, hg, hs, ha, hx, z0, o1, zero_add]
  rfl

end Cert.ModulateRefIdeal.Proved

namespace Cert.ModulateClaim

/-- The kernel's result at the ideal instance is the reference's, at every index. -/
theorem algebraic : Cert.algebraic_ModulateIdeal_ModulateRefIdeal (hModulateIdeal := Cert.ModulateIdeal.Gen.facts) (hModulateRefIdeal := Cert.ModulateRefIdeal.Gen.facts) :=
  fun m ρ m' ρ' _ hag =>
    ⟨fun c => Cert.ModulateIdeal.Proved.modulated (Cert.ModulateIdeal.Proved.xArr m c) (Cert.ModulateIdeal.Proved.gArr m c) (Cert.ModulateIdeal.Proved.mArr m c),
      (θ_run (Cert.ModulateIdeal.defs (F := Ideal)) _ _).mono
        (fun _ h c => ⟨(h c).1.trans (Cert.ModulateIdeal.Proved.final_o m c), (h c).2⟩) (Cert.ModulateIdeal.Value.run_blocks m ρ),
      (θ_run (Cert.ModulateRefIdeal.defs (F := Ideal)) _ _).mono
        (fun _ h c => ⟨by
          refine (h c).1.trans ?_
          obtain ⟨g0, g1, g2⟩ := hag c
          rw [Cert.ModulateRefIdeal.Read.val_main_v24_eq, Cert.ModulateRefIdeal.Proved.ref_eq, g0, g1, g2], (h c).2⟩)
        (Cert.ModulateRefIdeal.Value.run m' ρ')⟩

end Cert.ModulateClaim
end
-- ==== Proof.GmlpMath.lean ====
/-
  Layer normalisation and the causal mixing of the gated branch, as arithmetic: the value of one column of a normalised row,
  and the sum a causal mask cuts short.
-/
module

public import proofs.«01_k».proof.Defs
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.GmlpMath

/-- The width of a normalised row, 2048. -/
abbrev width : EReal := FloatOps.ofBits (F := Ideal) .f32 0x45000000#32
/-- The small number under the root. -/
abbrev eps : EReal := FloatOps.ofBits (F := Ideal) .f32 0x358637BD#32

/-- The mean of a row. -/
def mean (row : Fin 2048 → EReal) : EReal := Ideal.div (∑ k : Fin 2048, row k) width

/-- The reciprocal of a row's spread. -/
def spread (row : Fin 2048 → EReal) : EReal :=
  Ideal.rsqrt (Ideal.div (∑ k : Fin 2048, (row k - mean row) * (row k - mean row)) width + eps)

/-- Column `j` of a row, normalised, under its gain and its shift. -/
def ln (row : Fin 2048 → EReal) (j : Fin 2048) (g b : EReal) : EReal := (row j - mean row) * spread row * g + b

end Cert.GmlpMath
end
-- ==== Proof.GmlpPromptValue.lean ====
/-
  The VALUE of `GmlpPrompt.lean` at the ideal instance: the gated branch over the prompt. In every chunk of 128 rows the right half of
  the activations is normalised, mixed along the rows by the group's causal weights, shifted, and multiplies the left half.
  Grid of 64 chunks; each point writes its eight groups of 256 columns one after another.
-/
module

public import proofs.«01_k».proof.Defs
public import proofs.«01_k».proof.Proof.GmlpMath
public import proofs.«01_k».proof.Proof.Gen.GmlpPromptIdeal.Value
public import proofs.«01_k».proof.Proof.Gen.GmlpPromptRefIdeal.Run
public import proofs.«01_k».proof.Proof.Gen.GmlpPromptRefIdeal.Read
public import Idealize.ShloMosaic.Lib.Pipeline.Value
public import Idealize.ShloMosaic.Lib.Pointwise
public import Idealize.ShloMosaic.Lib.Tactic
public import Idealize.ShloMosaic.Lib.Quiescent
public import Idealize.ShloMosaic.Lib.KernelVsHost
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GmlpPromptIdeal.Proved

open Cert.GmlpPromptIdeal Cert.GmlpPromptIdeal.Gen
open Cert.GmlpMath (ln)

variable (m : (ℓ : Loc nD τ sig) → Buf (Elt Ideal) ℓ) (ρ : Dev nD → PrngReg)

theorem hz : (![0, 0] : Fin 2 → Nat) = fun _ => 0 := funext fun a => by fin_cases a <;> rfl

/-- The activations of the gated branch, `u` beside `v`. -/
abbrev xArr (c : Dev nD) : Vec Ideal S8192x4096 .bf16 := m ((c : Thread nD τ).loc main_arg0)
/-- The gain of the normalisation. -/
abbrev gArr (c : Dev nD) : Vec Ideal S2048 .f32 := m ((c : Thread nD τ).loc main_arg1)
/-- The shift of the normalisation. -/
abbrev bArr (c : Dev nD) : Vec Ideal S2048 .f32 := m ((c : Thread nD τ).loc main_arg2)
/-- The mixing weights, one square per group. -/
abbrev wArr (c : Dev nD) : Vec Ideal S8x128x128 .f32 := m ((c : Thread nD τ).loc main_arg3)
/-- The mixing bias. -/
abbrev sArr (c : Dev nD) : Vec Ideal S8x128 .f32 := m ((c : Thread nD τ).loc main_arg4)

/-- The normalised tile, at an index. -/
theorem pay2_apply (x : Vec Ideal S128x2048 .bf16) (g b : Vec Ideal S1x2048 .f32) (p : Fin 128) (q : Fin 2048) :
    k0_pay2 (F := Ideal) x g b (ix2 p q) = ln (fun k => x (ix2 p k)) q (g (ix2 0 q)) (b (ix2 0 q)) := by
  unfold k0_pay2
  pointwise
  rfl

/-- The causal mask: row `p` sees the rows up to itself. -/
theorem mask_apply (p s : Fin 128) : k0_pay3 (ix2 p s) = if s.val ≤ p.val then 1#1 else 0#1 := by
  unfold k0_pay3
  pointwise
  revert p s
  show ∀ p s : Fin 128, IntOp.cmpi .sle (BitVec.ofNat 32 s.val) (BitVec.ofNat 32 p.val) = _
  decide +kernel

/-- A mixed column of one group: the masked weights against the column, shifted. -/
def mixed (M : IVec S128x128 1) (w : Vec Ideal S1x128x128 .f32) (b : Vec Ideal S128x1 .f32) (col : Fin 128 → EReal) (p : Fin 128) : EReal :=
  (∑ s : Fin 128, Scalar.select (M (ix2 p s)) (w (ix3 0 p s)) (0 : EReal) * col s) + b (ix2 p 0)

theorem z0 : FloatOps.ofBits (F := Ideal) FTy.f32 0x00000000#32 = (0 : EReal) := Ideal.ofBits_zero_f32

theorem group0_apply (x : Vec Ideal S128x2048 .bf16) (g h : Vec Ideal S1x2048 .f32) (w : Vec Ideal S1x128x128 .f32) (b : Vec Ideal S128x1 .f32) (u : Vec Ideal S128x256 .bf16) (p : Fin 128) (q : Fin 256) :
    k0_pay5 (F := Ideal) (k0_pay4 x g h w b) u (ix2 p q) = u (ix2 p q) * mixed k0_pay3 w b (fun s => (k0_pay2 (F := Ideal) x g h) (ix2 s ⟨0 + q.val, by omega⟩)) p := by
  unfold k0_pay5 k0_pay4 mixed
  pointwise

theorem group1_apply (v : FVec Ideal S128x2048 .f32) (M : IVec S128x128 1) (w : Vec Ideal S1x128x128 .f32) (b : Vec Ideal S128x1 .f32) (u : Vec Ideal S128x256 .bf16) (p : Fin 128) (q : Fin 256) :
    k0_pay6 (F := Ideal) v M w b u (ix2 p q) = u (ix2 p q) * mixed M w b (fun s => v (ix2 s ⟨256 + q.val, by omega⟩)) p := by
  unfold k0_pay6 mixed
  pointwise

theorem group2_apply (v : FVec Ideal S128x2048 .f32) (M : IVec S128x128 1) (w : Vec Ideal S1x128x128 .f32) (b : Vec Ideal S128x1 .f32) (u : Vec Ideal S128x256 .bf16) (p : Fin 128) (q : Fin 256) :
    k0_pay8 (F := Ideal) (k0_pay7 v M w b) u (ix2 p q) = u (ix2 p q) * mixed M w b (fun s => v (ix2 s ⟨512 + q.val, by omega⟩)) p := by
  unfold k0_pay8 k0_pay7 mixed
  pointwise

theorem group3_apply (v : FVec Ideal S128x2048 .f32) (M : IVec S128x128 1) (w : Vec Ideal S1x128x128 .f32) (b : Vec Ideal S128x1 .f32) (u : Vec Ideal S128x256 .bf16) (p : Fin 128) (q : Fin 256) :
    k0_pay9 (F := Ideal) v M w b u (ix2 p q) = u (ix2 p q) * mixed M w b (fun s => v (ix2 s ⟨768 + q.val, by omega⟩)) p := by
  unfold k0_pay9 mixed
  pointwise

theorem group4_apply (v : FVec Ideal S128x2048 .f32) (M : IVec S128x128 1) (w : Vec Ideal S1x128x128 .f32) (b : Vec Ideal S128x1 .f32) (u : Vec Ideal S128x256 .bf16) (p : Fin 128) (q : Fin 256) :
    k0_pay12 (F := Ideal) (k0_pay10 v M w b) (k0_pay11 u) (ix2 p q) = u (ix2 p q) * mixed M w b (fun s => v (ix2 s ⟨1024 + q.val, by omega⟩)) p := by
  unfold k0_pay12 k0_pay10 k0_pay11 mixed
  pointwise

theorem group5_apply (v : FVec Ideal S128x2048 .f32) (M : IVec S128x128 1) (w : Vec Ideal S1x128x128 .f32) (b : Vec Ideal S128x1 .f32) (u : Vec Ideal S128x256 .bf16) (p : Fin 128) (q : Fin 256) :
    k0_pay13 (F := Ideal) v M w b u (ix2 p q) = u (ix2 p q) * mixed M w b (fun s => v (ix2 s ⟨1280 + q.val, by omega⟩)) p := by
  unfold k0_pay13 mixed
  pointwise

theorem group6_apply (v : FVec Ideal S128x2048 .f32) (M : IVec S128x128 1) (w : Vec Ideal S1x128x128 .f32) (b : Vec Ideal S128x1 .f32) (u : Vec Ideal S128x256 .bf16) (p : Fin 128) (q : Fin 256) :
    k0_pay14 (F := Ideal) v M w b u (ix2 p q) = u (ix2 p q) * mixed M w b (fun s => v (ix2 s ⟨1536 + q.val, by omega⟩)) p := by
  unfold k0_pay14 mixed
  pointwise

theorem group7_apply (v : FVec Ideal S128x2048 .f32) (M : IVec S128x128 1) (w : Vec Ideal S1x128x128 .f32) (b : Vec Ideal S128x1 .f32) (u : Vec Ideal S128x256 .bf16) (p : Fin 128) (q : Fin 256) :
    k0_pay1 (F := Ideal) v M w b u (ix2 p q) = u (ix2 p q) * mixed M w b (fun s => v (ix2 s ⟨1792 + q.val, by omega⟩)) p := by
  unfold k0_pay1 mixed
  pointwise

/-- The causal sum: row `p` of a group's weights against a column, over the rows up to `p`. -/
def mix (w col : Fin 128 → EReal) (p : Fin 128) : EReal := ∑ s : Fin 128, (if s.val ≤ p.val then w s else 0) * col s

theorem mixed_eq (w : Vec Ideal S1x128x128 .f32) (b : Vec Ideal S128x1 .f32) (col : Fin 128 → EReal) (p : Fin 128) :
    mixed k0_pay3 w b col p = mix (fun s => w (ix3 0 p s)) col p + b (ix2 p 0) := by
  unfold mixed mix
  refine congrArg (· + _) (Finset.sum_congr rfl fun s _ => ?_)
  rw [mask_apply]
  split
  · rfl
  · rfl

/-- A chunk's gated rows, from its tiles. -/
def blkArr (x0 x1 : Vec Ideal S128x2048 .bf16) (x2 x3 : Vec Ideal S1x2048 .f32) (x4 : Vec Ideal S8x128x128 .f32) (x5 : Vec Ideal S128x8 .f32) : Vec Ideal S128x2048 .bf16 := fun i =>
  have h : (i 1).val < 2048 := (i 1).isLt
  x0 i * (mix (fun s => x4 (ix3 (⟨(i 1).val / 256, by omega⟩ : Fin 8) (i 0) s)) (fun s => ln (fun k => x1 (ix2 s k)) (i 1) (x2 (ix2 0 (i 1))) (x3 (ix2 0 (i 1)))) (i 0)
    + x5 (ix2 (i 0) (⟨(i 1).val / 256, by omega⟩ : Fin 8)))

theorem blkArr_apply (x0 x1 : Vec Ideal S128x2048 .bf16) (x2 x3 : Vec Ideal S1x2048 .f32) (x4 : Vec Ideal S8x128x128 .f32) (x5 : Vec Ideal S128x8 .f32) (p : Fin 128) (q : Fin 2048) :
    blkArr x0 x1 x2 x3 x4 x5 (ix2 p q)
      = x0 (ix2 p q) * (mix (fun s => x4 (ix3 (⟨q.val / 256, by omega⟩ : Fin 8) p s)) (fun s => ln (fun k => x1 (ix2 s k)) q (x2 (ix2 0 q)) (x3 (ix2 0 q))) p
        + x5 (ix2 p (⟨q.val / 256, by omega⟩ : Fin 8))) := rfl

/-- … at column `q` of group `g`. -/
theorem blkArr_at (x0 x1 : Vec Ideal S128x2048 .bf16) (x2 x3 : Vec Ideal S1x2048 .f32) (x4 : Vec Ideal S8x128x128 .f32) (x5 : Vec Ideal S128x8 .f32) (g : Fin 8) (p : Fin 128) (q : Fin 256) :
    blkArr x0 x1 x2 x3 x4 x5 (ix2 p (⟨g.val * 256 + q.val, by omega⟩ : Fin 2048))
      = x0 (ix2 p (⟨g.val * 256 + q.val, by omega⟩ : Fin 2048)) * (mix (fun s => x4 (ix3 g p s)) (fun s => k0_pay2 (F := Ideal) x1 x2 x3 (ix2 s (⟨g.val * 256 + q.val, by omega⟩ : Fin 2048))) p
        + x5 (ix2 p g)) := by
  have hg : (⟨(g.val * 256 + q.val) / 256, by omega⟩ : Fin 8) = g := Fin.ext (by show (g.val * 256 + q.val) / 256 = g.val; omega)
  simp only [pay2_apply]
  show x0 _ * (mix (fun s => x4 (ix3 (⟨(g.val * 256 + q.val) / 256, _⟩ : Fin 8) p s)) _ p + x5 (ix2 p (⟨(g.val * 256 + q.val) / 256, _⟩ : Fin 8))) = _
  rw [hg]
  rfl

/-- One group of the weights. -/
theorem ld_w (x4 : Vec Ideal S8x128x128 .f32) (g : Fin 8) (h) (p s : Fin 128) :
    View.ld x4 (Rect.unit (s := S8x128x128) ![g.val, 0, 0] S1x128x128.size h) (ix3 (0 : Fin 1) p s) = x4 (ix3 g p s) := by
  show x4 _ = x4 _
  congr 1
  funext a; apply Fin.ext
  match a with
  | ⟨0, _⟩ => show g.val + 1 * 0 = g.val; omega
  | ⟨1, _⟩ => show 0 + 1 * p.val = p.val; omega
  | ⟨2, _⟩ => show 0 + 1 * s.val = s.val; omega

/-- One group of the bias. -/
theorem ld_b (x5 : Vec Ideal S128x8 .f32) (g : Fin 8) (h) (p : Fin 128) :
    View.ld x5 (Rect.unit (s := S128x8) ![0, g.val] S128x1.size h) (ix2 p (0 : Fin 1)) = x5 (ix2 p g) := by
  show x5 _ = x5 _
  congr 1
  funext a; apply Fin.ext
  match a with
  | ⟨0, _⟩ => show 0 + 1 * p.val = p.val; omega
  | ⟨1, _⟩ => show g.val + 1 * 0 = g.val; omega

/-- Where a group's columns lie. -/
theorem idx_u (g : Fin 8) (o : ℕ) (ho : o = g.val * 256) (h) (p : Fin 128) (q : Fin 256) :
    (Rect.unit (s := S128x2048) ![0, o] S128x256.size h).emb (ix2 p q) = (ix2 p (⟨g.val * 256 + q.val, by omega⟩ : Fin 2048) : S128x2048.Idx) := by
  subst ho
  funext a; apply Fin.ext
  match a with
  | ⟨0, _⟩ => show 0 + 1 * p.val = p.val; omega
  | ⟨1, _⟩ => show g.val * 256 + 1 * q.val = g.val * 256 + q.val; omega

/-- A group written as the kernel writes it is the chunk's group. -/
theorem piece (x0 x1 : Vec Ideal S128x2048 .bf16) (x2 x3 : Vec Ideal S1x2048 .f32) (x4 : Vec Ideal S8x128x128 .f32) (x5 : Vec Ideal S128x8 .f32) (g : Fin 8) (o : ℕ) (ho : o = g.val * 256) (hw hb hu) (p : Fin 128) (q : Fin 256) (j : Fin 2048) (hj : j.val = o + q.val) :
    View.ld x0 (Rect.unit (s := S128x2048) ![0, o] S128x256.size hu) (ix2 p q)
        * mixed k0_pay3 (View.ld x4 (Rect.unit (s := S8x128x128) ![g.val, 0, 0] S1x128x128.size hw)) (View.ld x5 (Rect.unit (s := S128x8) ![0, g.val] S128x1.size hb))
            (fun s => k0_pay2 (F := Ideal) (View.ld x1 r0_0) (View.ld x2 r0_1) (View.ld x3 r0_1) (ix2 s j)) p
      = blkArr x0 x1 x2 x3 x4 x5 ((Rect.unit (s := S128x2048) ![0, o] S128x256.size hu).emb (ix2 p q)) := by
  have hj' : j = (⟨g.val * 256 + q.val, by omega⟩ : Fin 2048) := Fin.ext (by show j.val = g.val * 256 + q.val; omega)
  show x0 ((Rect.unit (s := S128x2048) ![0, o] S128x256.size hu).emb (ix2 p q)) * _ = _
  rw [idx_u g o ho, blkArr_at, mixed_eq, hj', ld_b]
  simp only [View.ld_unit_zero (S := S128x2048) hz, View.ld_unit_zero (S := S1x2048) hz]
  exact congrArg (fun f => x0 _ * (mix f _ p + _)) (funext fun s => ld_w x4 g hw p s)

/-- What a point leaves in the result's buffer: the chunk's gated rows. -/
theorem out6_eq (x0 x1 : Vec Ideal S128x2048 .bf16) (x2 x3 : Vec Ideal S1x2048 .f32) (x4 : Vec Ideal S8x128x128 .f32) (x5 : Vec Ideal S128x8 .f32) : out0_6 x0 x1 x2 x3 x4 x5 = blkArr x0 x1 x2 x3 x4 x5 := by
  funext y
  unfold out0_6
  refine View.canon_apply_of_pieces (blkArr x0 x1 x2 x3 x4 x5) _ (View.PiecesOf.mem ?_) y (cover0_6 _ _ _ _ _ _ _ _ y)
  unfold k0_pay15 k0_pay16
  refine ⟨?_, ?_, ?_, ?_, ?_, ?_, ?_, ?_, trivial⟩
  · intro (i : S128x256.Idx)
    obtain ⟨p, q, rfl⟩ : ∃ (p : Fin 128) (q : Fin 256), i = ix2 p q := ⟨i 0, i 1, eq_ix2 i⟩
    exact (group7_apply _ _ _ _ _ p q).trans (piece x0 x1 x2 x3 x4 x5 7 1792 rfl _ _ _ p q _ rfl)
  · intro (i : S128x256.Idx)
    obtain ⟨p, q, rfl⟩ : ∃ (p : Fin 128) (q : Fin 256), i = ix2 p q := ⟨i 0, i 1, eq_ix2 i⟩
    exact (group6_apply _ _ _ _ _ p q).trans (piece x0 x1 x2 x3 x4 x5 6 1536 rfl _ _ _ p q _ rfl)
  · intro (i : S128x256.Idx)
    obtain ⟨p, q, rfl⟩ : ∃ (p : Fin 128) (q : Fin 256), i = ix2 p q := ⟨i 0, i 1, eq_ix2 i⟩
    exact (group5_apply _ _ _ _ _ p q).trans (piece x0 x1 x2 x3 x4 x5 5 1280 rfl _ _ _ p q _ rfl)
  · intro (i : S128x256.Idx)
    obtain ⟨p, q, rfl⟩ : ∃ (p : Fin 128) (q : Fin 256), i = ix2 p q := ⟨i 0, i 1, eq_ix2 i⟩
    exact (group4_apply _ _ _ _ _ p q).trans (piece x0 x1 x2 x3 x4 x5 4 1024 rfl _ _ _ p q _ rfl)
  · intro (i : S128x256.Idx)
    obtain ⟨p, q, rfl⟩ : ∃ (p : Fin 128) (q : Fin 256), i = ix2 p q := ⟨i 0, i 1, eq_ix2 i⟩
    exact (group3_apply _ _ _ _ _ p q).trans (piece x0 x1 x2 x3 x4 x5 3 768 rfl _ _ _ p q _ rfl)
  · intro (i : S128x256.Idx)
    obtain ⟨p, q, rfl⟩ : ∃ (p : Fin 128) (q : Fin 256), i = ix2 p q := ⟨i 0, i 1, eq_ix2 i⟩
    exact (group2_apply _ _ _ _ _ p q).trans (piece x0 x1 x2 x3 x4 x5 2 512 rfl _ _ _ p q _ rfl)
  · intro (i : S128x256.Idx)
    obtain ⟨p, q, rfl⟩ : ∃ (p : Fin 128) (q : Fin 256), i = ix2 p q := ⟨i 0, i 1, eq_ix2 i⟩
    exact (group1_apply _ _ _ _ _ p q).trans (piece x0 x1 x2 x3 x4 x5 1 256 rfl _ _ _ p q _ rfl)
  · intro (i : S128x256.Idx)
    obtain ⟨p, q, rfl⟩ : ∃ (p : Fin 128) (q : Fin 256), i = ix2 p q := ⟨i 0, i 1, eq_ix2 i⟩
    exact (group0_apply _ _ _ _ _ _ p q).trans (piece x0 x1 x2 x3 x4 x5 0 0 rfl _ _ _ p q _ rfl)

theorem V_g (c : Dev nD) (q : Fin 2048) : (V m c main_v1 : Vec Ideal S1x2048 .f32) (ix2 0 q) = gArr m c (ix1 q) := by
  have e : (V m c main_v1 : Vec Ideal S1x2048 .f32) = shapeCast S1x2048 (gArr m c) shapeCasts_S2048_S1x2048 := by
    unfold_abbrev_sides
    simp only [hostOps0, List.flatten_cons, List.flatten_nil, List.append_nil, List.cons_append, List.nil_append]
    after_results
    rfl
  rw [e]
  exact shapeCast_apply _ _ _ _ (by
    rewrite [Shape.rowMajor_val_one, Shape.rowMajor_val_two]
    show q.val = 0 * 2048 + q.val
    omega)

theorem V_b (c : Dev nD) (q : Fin 2048) : (V m c main_v2 : Vec Ideal S1x2048 .f32) (ix2 0 q) = bArr m c (ix1 q) := by
  have e : (V m c main_v2 : Vec Ideal S1x2048 .f32) = shapeCast S1x2048 (bArr m c) shapeCasts_S2048_S1x2048 := by
    unfold_abbrev_sides
    simp only [hostOps0, List.flatten_cons, List.flatten_nil, List.append_nil, List.cons_append, List.nil_append]
    after_results
    rfl
  rw [e]
  exact shapeCast_apply _ _ _ _ (by
    rewrite [Shape.rowMajor_val_one, Shape.rowMajor_val_two]
    show q.val = 0 * 2048 + q.val
    omega)

theorem V_s (c : Dev nD) (p : Fin 128) (g : Fin 8) : (V m c main_v0 : Vec Ideal S128x8 .f32) (ix2 p g) = sArr m c (ix2 g p) := by
  have e : (V m c main_v0 : Vec Ideal S128x8 .f32) = transpose S128x8 [1, 0] (sArr m c) transposes_S8x128_S128x8_1_0 := by
    unfold_abbrev_sides
    simp only [hostOps0, List.flatten_cons, List.flatten_nil, List.append_nil, List.cons_append, List.nil_append]
    after_results
  rw [e]
  exact transpose_apply _ _ _ _ _ (fun a => by match a with | ⟨0, _⟩ => rfl | ⟨1, _⟩ => rfl)

/-- Where the blocks lie: point `t` takes chunk `t`, of `u`, of `v` and of the result. -/
theorem idx_facts : ∀ t : Fin cfg0.N, win0_0.index t (0 : Fin 2) = t.val ∧ win0_0.index t (1 : Fin 2) = 0 ∧ win0_1.index t (0 : Fin 2) = t.val ∧ win0_1.index t (1 : Fin 2) = 1
    ∧ win0_2.index t (0 : Fin 2) = 0 ∧ win0_2.index t (1 : Fin 2) = 0 ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0 ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem tlt (t : Fin cfg0.N) : t.val < 64 := lt_of_lt_of_eq t.isLt (show cfg0.N = 64 from N_0)

/-- The row of the whole array that row `p` of chunk `t` is. -/
abbrev rowAt (t : Fin cfg0.N) (p : Fin 128) : Fin 8192 := ⟨t.val * 128 + p.val, by have := tlt t; omega⟩

theorem iblk0_apply (c : Dev nD) (t : Fin cfg0.N) (p : Fin 128) (q : Fin 2048) :
    (iblk m c 0 t : Vec Ideal S128x2048 .bf16) (ix2 p q) = xArr m c (ix2 (rowAt t p) ⟨q.val, by omega⟩) := by
  obtain ⟨e0, e1, -⟩ := idx_facts t
  show V m c main_arg0 (((cfg0.win 0).blk t).view.emb (ix2 p q)) = _
  rw [V_main_arg0]
  congr 1
  funext a; apply Fin.ext
  match a with
  | ⟨0, _⟩ => show win0_0.index t (0 : Fin 2) * 128 + 1 * p.val = t.val * 128 + p.val; rw [e0]; omega
  | ⟨1, _⟩ => show win0_0.index t (1 : Fin 2) * 2048 + 1 * q.val = q.val; rw [e1]; omega

theorem iblk1_apply (c : Dev nD) (t : Fin cfg0.N) (p : Fin 128) (q : Fin 2048) :
    (iblk m c 1 t : Vec Ideal S128x2048 .bf16) (ix2 p q) = xArr m c (ix2 (rowAt t p) ⟨2048 + q.val, by omega⟩) := by
  obtain ⟨-, -, e0, e1, -⟩ := idx_facts t
  show V m c main_arg0 (((cfg0.win 1).blk t).view.emb (ix2 p q)) = _
  rw [V_main_arg0]
  congr 1
  funext a; apply Fin.ext
  match a with
  | ⟨0, _⟩ => show win0_1.index t (0 : Fin 2) * 128 + 1 * p.val = t.val * 128 + p.val; rw [e0]; omega
  | ⟨1, _⟩ => show win0_1.index t (1 : Fin 2) * 2048 + 1 * q.val = 2048 + q.val; rw [e1]; omega

theorem iblk2_apply (c : Dev nD) (t : Fin cfg0.N) (q : Fin 2048) :
    (iblk m c 2 t : Vec Ideal S1x2048 .f32) (ix2 0 q) = gArr m c (ix1 q) := by
  obtain ⟨-, -, -, -, e0, e1, -⟩ := idx_facts t
  refine Eq.trans ?_ (V_g m c q)
  show V m c main_v1 (((cfg0.win 2).blk t).view.emb (ix2 0 q)) = _
  congr 1
  funext a; apply Fin.ext
  match a with
  | ⟨0, _⟩ => show win0_2.index t (0 : Fin 2) * 1 + 1 * 0 = 0; rw [e0]
  | ⟨1, _⟩ => show win0_2.index t (1 : Fin 2) * 2048 + 1 * q.val = q.val; rw [e1]; omega

theorem iblk3_apply (c : Dev nD) (t : Fin cfg0.N) (q : Fin 2048) :
    (iblk m c 3 t : Vec Ideal S1x2048 .f32) (ix2 0 q) = bArr m c (ix1 q) := by
  obtain ⟨-, -, -, -, -, -, e0, e1, -⟩ := idx_facts t
  refine Eq.trans ?_ (V_b m c q)
  show V m c main_v2 (((cfg0.win 3).blk t).view.emb (ix2 0 q)) = _
  congr 1
  funext a; apply Fin.ext
  match a with
  | ⟨0, _⟩ => show win0_3.index t (0 : Fin 2) * 1 + 1 * 0 = 0; rw [e0]
  | ⟨1, _⟩ => show win0_3.index t (1 : Fin 2) * 2048 + 1 * q.val = q.val; rw [e1]; omega

theorem iblk4_apply (c : Dev nD) (t : Fin cfg0.N) (g : Fin 8) (p s : Fin 128) :
    (iblk m c 4 t : Vec Ideal S8x128x128 .f32) (ix3 g p s) = wArr m c (ix3 g p s) := by
  obtain ⟨-, -, -, -, -, -, -, -, e0, e1, e2, -⟩ := idx_facts t
  show V m c main_arg3 (((cfg0.win 4).blk t).view.emb (ix3 g p s)) = _
  rw [V_main_arg3]
  congr 1
  funext a; apply Fin.ext
  match a with
  | ⟨0, _⟩ => show win0_4.index t (0 : Fin 3) * 8 + 1 * g.val = g.val; rw [e0]; omega
  | ⟨1, _⟩ => show win0_4.index t (1 : Fin 3) * 128 + 1 * p.val = p.val; rw [e1]; omega
  | ⟨2, _⟩ => show win0_4.index t (2 : Fin 3) * 128 + 1 * s.val = s.val; rw [e2]; omega

theorem iblk5_apply (c : Dev nD) (t : Fin cfg0.N) (p : Fin 128) (g : Fin 8) :
    (iblk m c 5 t : Vec Ideal S128x8 .f32) (ix2 p g) = sArr m c (ix2 g p) := by
  obtain ⟨-, -, -, -, -, -, -, -, -, -, -, e0, e1, -⟩ := idx_facts t
  refine Eq.trans ?_ (V_s m c p g)
  show V m c main_v0 (((cfg0.win 5).blk t).view.emb (ix2 p g)) = _
  congr 1
  funext a; apply Fin.ext
  match a with
  | ⟨0, _⟩ => show win0_5.index t (0 : Fin 2) * 128 + 1 * p.val = p.val; rw [e0]; omega
  | ⟨1, _⟩ => show win0_5.index t (1 : Fin 2) * 8 + 1 * g.val = g.val; rw [e1]; omega

/-- The gated branch, whole: row `r` is position `r % 128` of chunk `r / 128`. -/
def gated (x : Vec Ideal S8192x4096 .bf16) (g b : Vec Ideal S2048 .f32) (w : Vec Ideal S8x128x128 .f32) (s : Vec Ideal S8x128 .f32) (r : Fin 8192) (j : Fin 2048) : EReal :=
  x (ix2 r ⟨j.val, by omega⟩)
    * (mix (fun k => w (ix3 (⟨j.val / 256, by omega⟩ : Fin 8) (⟨r.val % 128, by omega⟩ : Fin 128) k))
        (fun k => ln (fun l => x (ix2 (⟨r.val / 128 * 128 + k.val, by omega⟩ : Fin 8192) ⟨2048 + l.val, by omega⟩)) j (g (ix1 j)) (b (ix1 j))) (⟨r.val % 128, by omega⟩ : Fin 128)
      + s (ix2 (⟨j.val / 256, by omega⟩ : Fin 8) (⟨r.val % 128, by omega⟩ : Fin 128)))

/-- … as an array. -/
abbrev gatedArr (x : Vec Ideal S8192x4096 .bf16) (g b : Vec Ideal S2048 .f32) (w : Vec Ideal S8x128x128 .f32) (s : Vec Ideal S8x128 .f32) : Vec Ideal S8192x2048 .bf16 :=
  fun i => gated x g b w s (i 0) (i 1)

theorem gated_at (x : Vec Ideal S8192x4096 .bf16) (g b : Vec Ideal S2048 .f32) (w : Vec Ideal S8x128x128 .f32) (s : Vec Ideal S8x128 .f32) (t : Fin cfg0.N) (p : Fin 128) (q : Fin 2048) :
    gated x g b w s (rowAt t p) q = x (ix2 (rowAt t p) ⟨q.val, by omega⟩)
      * (mix (fun k => w (ix3 (⟨q.val / 256, by omega⟩ : Fin 8) p k)) (fun k => ln (fun l => x (ix2 (rowAt t k) ⟨2048 + l.val, by omega⟩)) q (g (ix1 q)) (b (ix1 q))) p
        + s (ix2 (⟨q.val / 256, by omega⟩ : Fin 8) p)) := by
  have ht := tlt t
  have hp : (⟨(t.val * 128 + p.val) % 128, by omega⟩ : Fin 128) = p := Fin.ext (by show (t.val * 128 + p.val) % 128 = p.val; omega)
  have hk : ∀ k : Fin 128, (⟨(t.val * 128 + p.val) / 128 * 128 + k.val, by omega⟩ : Fin 8192) = rowAt t k := fun k =>
    Fin.ext (by show (t.val * 128 + p.val) / 128 * 128 + k.val = t.val * 128 + k.val; omega)
  unfold gated
  simp only [hp, hk]

/-- The result's block, inside the whole result. -/
theorem emb6 (t : Fin cfg0.N) (p : Fin 128) (q : Fin 2048) : ((cfg0.win 6).blk t).view.emb (ix2 p q) = (ix2 (rowAt t p) q : S8192x2048.Idx) := by
  obtain ⟨-, -, -, -, -, -, -, -, -, -, -, -, -, e0, e1⟩ := idx_facts t
  funext a; apply Fin.ext
  match a with
  | ⟨0, _⟩ => show win0_6.index t (0 : Fin 2) * 128 + 1 * p.val = t.val * 128 + p.val; rw [e0]; omega
  | ⟨1, _⟩ => show win0_6.index t (1 : Fin 2) * 2048 + 1 * q.val = q.val; rw [e1]; omega

theorem flush6 : ∀ t : Fin cfg0.N, (cfg0.win 6).flush t = true :=
  (by decide +kernel : ∀ t : Fin grid0.N, _)

theorem flushed6_eq (c : Dev nD) (t : Fin cfg0.N) (hf : (cfg0.win 6).flush t = true) :
    (dats m 0 c).flushed 6 t = ((cfg0.win 6).blk t).view.read (Elt Ideal) (gatedArr (xArr m c) (gArr m c) (bArr m c) (wArr m c) (sArr m c)) := by
  rw [Value.flushed6]
  funext y
  obtain ⟨p, q, rfl⟩ : ∃ (p : Fin 128) (q : Fin 2048), y = ix2 p q := ⟨y 0, y 1, eq_ix2 y⟩
  show out0_6 (iblk m c 0 t) (iblk m c 1 t) (iblk m c 2 t) (iblk m c 3 t) (iblk m c 4 t) (iblk m c 5 t) (ix2 p q)
    = gatedArr (xArr m c) (gArr m c) (bArr m c) (wArr m c) (sArr m c) (((cfg0.win 6).blk t).view.emb (ix2 p q))
  rw [emb6, out6_eq]
  refine Eq.trans ?_ (gated_at (xArr m c) (gArr m c) (bArr m c) (wArr m c) (sArr m c) t p q).symm
  refine (blkArr_apply _ _ _ _ _ _ p q).trans ?_
  simp only [iblk0_apply, iblk1_apply, iblk2_apply, iblk3_apply, iblk4_apply, iblk5_apply]

/-- The result after the run. -/
theorem final6 (c : Dev nD) : (dats m 0 c).arrAt 6 cfg0.N = gatedArr (xArr m c) (gArr m c) (bArr m c) (wArr m c) (sArr m c) :=
  (dats m 0 c).arrAt_eq_of_cover 6 _ (fun t hf => flushed6_eq m c t hf) fun i => by
    have h0 : (i 0).val < 8192 := (i 0).isLt
    let t : Fin cfg0.N := ⟨(i 0).val / 128, by rw [show cfg0.N = 64 from N_0]; omega⟩
    have he : (ix2 (rowAt t ⟨(i 0).val % 128, by omega⟩) (i 1) : S8192x2048.Idx) = i := funext fun a => Fin.ext (by
      match a with
      | ⟨0, _⟩ => show (i 0).val / 128 * 128 + (i 0).val % 128 = (i 0).val; omega
      | ⟨1, _⟩ => rfl)
    have := ((cfg0.win 6).blk t).view.emb_mem_set (ix2 (⟨(i 0).val % 128, by omega⟩ : Fin 128) (i 1))
    exact ⟨t, flush6 t, Eq.mp (congrArg (· ∈ ((cfg0.win 6).blk t).view.set) ((emb6 t _ _).trans he)) this⟩

end Cert.GmlpPromptIdeal.Proved

namespace Cert.GmlpPromptRefIdeal.Proved

open Cert.GmlpPromptRefIdeal Cert.GmlpPromptRefIdeal.Gen
open Cert.GmlpMath (ln)
open Cert.GmlpPromptIdeal.Proved (mix gated gatedArr)

theorem z0 : FloatOps.ofBits (F := Ideal) FTy.f32 0x00000000#32 = (0 : EReal) := Ideal.ofBits_zero_f32

/-- The right half of row `r` of sequence `b`. -/
abbrev vrow (x : Vec Ideal S8192x4096 .bf16) (b : Fin 4) (r : Fin 2048) : Fin 2048 → EReal := fun k =>
  x (ix2 (⟨b.val * 2048 + r.val, by omega⟩ : Fin 8192) ⟨2048 + k.val, by omega⟩)

/-- The reference's normalised half. -/
theorem v27_apply (x : Vec Ideal S8192x4096 .bf16) (g b : Vec Ideal S2048 .f32) (p : Fin 4) (r q : Fin 2048) :
    Read.val_main_v27 (F := Ideal) x g b (ix3 p r q) = ln (vrow x p r) q (g (ix1 q)) (b (ix1 q)) := by
  have hv : ∀ i : S4x2048x2048.Idx, Read.val_main_v3 (F := Ideal) x i = vrow x (i 0) (i 1) (i 2) := fun i => by
    have hx : Read.idx_main_v1 (Read.idx_main_v3 i) = ix2 (⟨(i 0).val * 2048 + (i 1).val, by have h0 : (i 0).val < 4 := (i 0).isLt; have h1 : (i 1).val < 2048 := (i 1).isLt; omega⟩ : Fin 8192)
        (⟨2048 + (i 2).val, by have h2 : (i 2).val < 2048 := (i 2).isLt; omega⟩ : Fin 4096) := funext fun a => Fin.ext (by
      have h2 : (i 2).val < 2048 := (i 2).isLt
      match a with
      | ⟨0, _⟩ => show (((i 0).val * 2048 + (i 1).val) * 4096 + (2048 + (i 2).val)) / 4096 = (i 0).val * 2048 + (i 1).val; omega
      | ⟨1, _⟩ => show (((i 0).val * 2048 + (i 1).val) * 4096 + (2048 + (i 2).val)) % 4096 = 2048 + (i 2).val; omega)
    rw [Read.val_main_v3_apply, Read.val_main_v1_apply, hx]
    rfl
  have hmean : ∀ i : S4x2048x1.Idx, Read.val_main_v7 (F := Ideal) x i = Cert.GmlpMath.mean (vrow x (i 0) (i 1)) := fun i => by
    simp only [Read.val_main_v7_apply, Read.val_main_v6_apply, Read.val_main_v5_apply, Read.val_main_v4_apply,
      Read.val_main_cst_apply, Read.val_main_cst_0_apply, hv, z0, zero_add]
    rfl
  have hdev : ∀ i : S4x2048x2048.Idx, Read.val_main_v9 (F := Ideal) x i = vrow x (i 0) (i 1) (i 2) - Cert.GmlpMath.mean (vrow x (i 0) (i 1)) := fun i => by
    simp only [Read.val_main_v9_apply, Read.val_main_v8_apply, hv, hmean]
    rfl
  have hdev' : ∀ i : S4x2048x2048.Idx, Read.val_main_v16 (F := Ideal) x i = vrow x (i 0) (i 1) (i 2) - Cert.GmlpMath.mean (vrow x (i 0) (i 1)) := fun i => by
    simp only [Read.val_main_v16_apply, Read.val_main_v15_apply, hv, hmean]
    rfl
  have hspread : ∀ i : S4x2048x1.Idx, Read.val_main_v19 (F := Ideal) x i = Cert.GmlpMath.spread (vrow x (i 0) (i 1)) := fun i => by
    simp only [Read.val_main_v19_apply, Read.val_main_v18_apply, Read.val_main_v17_apply, Read.val_main_v14_apply, Read.val_main_v13_apply, Read.val_main_v12_apply, Read.val_main_v11_apply, Read.val_main_v10_apply,
      Read.val_main_cst_1_apply, Read.val_main_cst_2_apply, Read.val_main_cst_3_apply, hdev, z0, zero_add]
    rfl
  have hg : Read.idx_main_v22 (Read.idx_main_v23 (ix3 p r q)) = ix1 q := funext fun a => by match a with | ⟨0, _⟩ => rfl
  have hb : Read.idx_main_v25 (Read.idx_main_v26 (ix3 p r q)) = ix1 q := funext fun a => by match a with | ⟨0, _⟩ => rfl
  simp only [Read.val_main_v27_apply, Read.val_main_v26_apply, Read.val_main_v25_apply, Read.val_main_v24_apply, Read.val_main_v23_apply, Read.val_main_v22_apply,
    Read.val_main_v21_apply, Read.val_main_v20_apply, hdev', hspread]
  rw [hg, hb]
  rfl

/-- The prompt is whole chunks: the padding adds nothing. -/
theorem v28_apply (x : Vec Ideal S8192x4096 .bf16) (g b : Vec Ideal S2048 .f32) (p : Fin 4) (r q : Fin 2048) :
    Read.val_main_v28 (F := Ideal) x g b (ix3 p r q) = ln (vrow x p r) q (g (ix1 q)) (b (ix1 q)) := by
  unfold Read.val_main_v28
  rw [← v27_apply x g b p r q]
  refine pad_apply_of_inside _ _ _ _ _ _ _ _ _ (fun a => ?_)
  match a with
  | ⟨0, _⟩ => show p.val = 0 + p.val * (0 + 1); omega
  | ⟨1, _⟩ => show r.val = 0 + r.val * (0 + 1); omega
  | ⟨2, _⟩ => show q.val = 0 + q.val * (0 + 1); omega

/-- The causal weights. -/
theorem v32_apply (w : Vec Ideal S8x128x128 .f32) (gr : Fin 8) (t s : Fin 128) :
    Read.val_main_v32 (F := Ideal) w (ix3 gr t s) = if s.val ≤ t.val then w (ix3 gr t s) else 0 := by
  have hm : Read.val_main_call2_v1 (F := Ideal) (ix3 gr t s) = if s.val ≤ t.val then 1#1 else 0#1 := by
    simp only [Read.val_main_call2_v1_apply, Read.val_main_v31_apply, Read.val_main_call1_v4_apply, Read.val_main_call1_v2_apply, Read.val_main_call1_v0_apply, Read.val_main_call1_v1_apply,
      Read.val_main_call1_c_apply, Read.val_main_call1_v3_apply, Read.val_main_v30_apply, Read.val_main_c_4_apply, Read.val_main_call1_v5_apply, Read.val_main_call1_c_0_apply]
    revert t s
    show ∀ t s : Fin 128, Scalar.select (IntOp.cmpi .sge (IntOp.addi (BitVec.ofNat 32 t.val) 0#32) (BitVec.ofNat 32 s.val)) 1#1 0#1 = _
    decide +kernel
  rw [Read.val_main_v32_apply, hm, Read.val_main_call2_v2_apply, Read.val_main_call2_v0_apply, Read.val_main_c_5_apply]
  split
  · rfl
  · show FloatOps.sitofp (F := Ideal) .f32 (0#32) = 0
    simp [FloatOps.sitofp]

/-- The reference's result is the same function of the arguments. -/
theorem ref_eq (x : Vec Ideal S8192x4096 .bf16) (g b : Vec Ideal S2048 .f32) (w : Vec Ideal S8x128x128 .f32) (s : Vec Ideal S8x128 .f32) :
    Read.val_main_v42 (F := Ideal) x g b w s = gatedArr x g b w s := by
  funext i
  obtain ⟨r, q, rfl⟩ : ∃ (r : Fin 8192) (q : Fin 2048), i = ix2 r q := ⟨i 0, i 1, eq_ix2 i⟩
  have h41 : Read.idx_main_v41 (ix2 r q) = ix3 (⟨r.val / 2048, by omega⟩ : Fin 4) (⟨r.val % 2048, by omega⟩ : Fin 2048) q := funext fun a => Fin.ext (by
    match a with
    | ⟨0, _⟩ => show (r.val * 2048 + q.val) / 4194304 = r.val / 2048; omega
    | ⟨1, _⟩ => show (r.val * 2048 + q.val) / 2048 % 2048 = r.val % 2048; omega
    | ⟨2, _⟩ => show (r.val * 2048 + q.val) % 2048 = q.val; omega)
  have h39 : Read.idx_main_v39 (ix3 (⟨r.val / 2048, by omega⟩ : Fin 4) (⟨r.val % 2048, by omega⟩ : Fin 2048) q)
      = ix5 (⟨r.val / 2048, by omega⟩ : Fin 4) (⟨r.val % 2048 / 128, by omega⟩ : Fin 16) (⟨r.val % 128, by omega⟩ : Fin 128) (⟨q.val / 256, by omega⟩ : Fin 8) (⟨q.val % 256, by omega⟩ : Fin 256) :=
    funext fun a => Fin.ext (by
      match a with
      | ⟨0, _⟩ => show ((r.val / 2048 * 2048 + r.val % 2048) * 2048 + q.val) / 4194304 = r.val / 2048; omega
      | ⟨1, _⟩ => show ((r.val / 2048 * 2048 + r.val % 2048) * 2048 + q.val) / 262144 % 16 = r.val % 2048 / 128; omega
      | ⟨2, _⟩ => show ((r.val / 2048 * 2048 + r.val % 2048) * 2048 + q.val) / 2048 % 128 = r.val % 128; omega
      | ⟨3, _⟩ => show ((r.val / 2048 * 2048 + r.val % 2048) * 2048 + q.val) / 256 % 8 = q.val / 256; omega
      | ⟨4, _⟩ => show ((r.val / 2048 * 2048 + r.val % 2048) * 2048 + q.val) % 256 = q.val % 256; omega)
  have hl : ∀ k : Fin 128, Read.idx_main_v29 (Read.lidx_main_v33 (Read.idx_main_v34 (ix5 (⟨r.val / 2048, by omega⟩ : Fin 4) (⟨r.val % 2048 / 128, by omega⟩ : Fin 16) (⟨r.val % 128, by omega⟩ : Fin 128) (⟨q.val / 256, by omega⟩ : Fin 8) (⟨q.val % 256, by omega⟩ : Fin 256))) k)
      = ix3 (⟨r.val / 2048, by omega⟩ : Fin 4) (⟨r.val % 2048 / 128 * 128 + k.val, by omega⟩ : Fin 2048) q :=
    fun k => funext fun a => Fin.ext (by
      match a with
      | ⟨0, _⟩ => show ((((r.val / 2048 * 16 + r.val % 2048 / 128) * 128 + k.val) * 8 + q.val / 256) * 256 + q.val % 256) / 4194304 = r.val / 2048; omega
      | ⟨1, _⟩ => show ((((r.val / 2048 * 16 + r.val % 2048 / 128) * 128 + k.val) * 8 + q.val / 256) * 256 + q.val % 256) / 2048 % 2048 = r.val % 2048 / 128 * 128 + k.val; omega
      | ⟨2, _⟩ => show ((((r.val / 2048 * 16 + r.val % 2048 / 128) * 128 + k.val) * 8 + q.val / 256) * 256 + q.val % 256) % 2048 = q.val; omega)
  have hr : ∀ k : Fin 128, Read.ridx_main_v33 (Read.idx_main_v34 (ix5 (⟨r.val / 2048, by omega⟩ : Fin 4) (⟨r.val % 2048 / 128, by omega⟩ : Fin 16) (⟨r.val % 128, by omega⟩ : Fin 128) (⟨q.val / 256, by omega⟩ : Fin 8) (⟨q.val % 256, by omega⟩ : Fin 256))) k
      = ix3 (⟨q.val / 256, by omega⟩ : Fin 8) (⟨r.val % 128, by omega⟩ : Fin 128) k :=
    fun k => funext fun a => by match a with | ⟨0, _⟩ => rfl | ⟨1, _⟩ => rfl | ⟨2, _⟩ => rfl
  have hb : Read.idx_main_v35 (Read.idx_main_v36 (Read.idx_main_v37 (ix5 (⟨r.val / 2048, by omega⟩ : Fin 4) (⟨r.val % 2048 / 128, by omega⟩ : Fin 16) (⟨r.val % 128, by omega⟩ : Fin 128) (⟨q.val / 256, by omega⟩ : Fin 8) (⟨q.val % 256, by omega⟩ : Fin 256))))
      = ix2 (⟨q.val / 256, by omega⟩ : Fin 8) (⟨r.val % 128, by omega⟩ : Fin 128) :=
    funext fun a => by match a with | ⟨0, _⟩ => rfl | ⟨1, _⟩ => rfl
  have hu : Read.idx_main_v1 (Read.idx_main_v2 (ix3 (⟨r.val / 2048, by omega⟩ : Fin 4) (⟨r.val % 2048, by omega⟩ : Fin 2048) q)) = ix2 r (⟨q.val, by omega⟩ : Fin 4096) :=
    funext fun a => Fin.ext (by
      match a with
      | ⟨0, _⟩ => show ((r.val / 2048 * 2048 + r.val % 2048) * 4096 + q.val) / 4096 = r.val; omega
      | ⟨1, _⟩ => show ((r.val / 2048 * 2048 + r.val % 2048) * 4096 + q.val) % 4096 = q.val; omega)
  have hrow : ∀ k : Fin 128, vrow x (⟨r.val / 2048, by omega⟩ : Fin 4) (⟨r.val % 2048 / 128 * 128 + k.val, by omega⟩ : Fin 2048)
      = fun l => x (ix2 (⟨r.val / 128 * 128 + k.val, by omega⟩ : Fin 8192) ⟨2048 + l.val, by omega⟩) := fun k => funext fun l => by
    have : (⟨r.val / 2048 * 2048 + (r.val % 2048 / 128 * 128 + k.val), by omega⟩ : Fin 8192) = ⟨r.val / 128 * 128 + k.val, by omega⟩ :=
      Fin.ext (by show r.val / 2048 * 2048 + (r.val % 2048 / 128 * 128 + k.val) = r.val / 128 * 128 + k.val; omega)
    show x (ix2 (⟨r.val / 2048 * 2048 + (r.val % 2048 / 128 * 128 + k.val), _⟩ : Fin 8192) _) = _
    rw [this]
  rw [Read.val_main_v42_apply, Read.val_main_v41_apply, h41, Read.val_main_v40_apply, Read.val_main_v39_apply, h39, Read.val_main_v38_apply,
    Read.val_main_v37_apply, Read.val_main_v36_apply, Read.val_main_v35_apply, hb, Read.val_main_v34_apply, Read.val_main_v33_apply, Read.val_main_v2_apply, Read.val_main_v1_apply, hu]
  simp only [Read.val_main_v29_apply, hl, hr, v28_apply, v32_apply, hrow]
  show x (ix2 r _) * ((∑ k : Fin 128, _) + s _) = gated x g b w s r q
  unfold gated mix
  refine congrArg (x _ * ·) (congrArg (· + _) (Finset.sum_congr rfl fun k _ => mul_comm _ _))

end Cert.GmlpPromptRefIdeal.Proved

namespace Cert.GmlpPromptClaim

/-- The kernel's result at the ideal instance is the reference's, at every index. -/
theorem algebraic : Cert.algebraic_GmlpPromptIdeal_GmlpPromptRefIdeal (hGmlpPromptIdeal := Cert.GmlpPromptIdeal.Gen.facts) (hGmlpPromptRefIdeal := Cert.GmlpPromptRefIdeal.Gen.facts) :=
  fun m ρ m' ρ' _ hag =>
    ⟨fun c => Cert.GmlpPromptIdeal.Proved.gatedArr (Cert.GmlpPromptIdeal.Proved.xArr m c) (Cert.GmlpPromptIdeal.Proved.gArr m c) (Cert.GmlpPromptIdeal.Proved.bArr m c) (Cert.GmlpPromptIdeal.Proved.wArr m c) (Cert.GmlpPromptIdeal.Proved.sArr m c),
      (θ_run (Cert.GmlpPromptIdeal.defs (F := Ideal)) _ _).mono
        (fun _ h c => ⟨(h c).1.trans (Cert.GmlpPromptIdeal.Proved.final6 m c), (h c).2⟩) (Cert.GmlpPromptIdeal.Value.run_blocks m ρ),
      (θ_run (Cert.GmlpPromptRefIdeal.defs (F := Ideal)) _ _).mono
        (fun _ h c => ⟨by
          refine (h c).1.trans ?_
          obtain ⟨g0, g1, g2, g3, g4⟩ := hag c
          rw [Cert.GmlpPromptRefIdeal.Read.val_main_v42_eq, Cert.GmlpPromptRefIdeal.Proved.ref_eq, g0, g1, g2, g3, g4], (h c).2⟩)
        (Cert.GmlpPromptRefIdeal.Value.run m' ρ')⟩

end Cert.GmlpPromptClaim
end
-- ==== Proof.GmlpSampleValue.lean ====
/-
  The VALUE of `GmlpSample.lean` at the ideal instance: the gated branch of one new token per row. The right half of the
  activations is normalised (the second result); at position 0 of a chunk the causal mixing keeps only the token itself,
  so the first result is `u * (w[g,0,0] * vn + b[g,0])`, `g` the group of the column. One grid point.
-/
module

public import proofs.«01_k».proof.Defs
public import proofs.«01_k».proof.Proof.GmlpMath
public import proofs.«01_k».proof.Proof.Gen.GmlpSampleIdeal.Value
public import proofs.«01_k».proof.Proof.Gen.GmlpSampleRefIdeal.Run
public import proofs.«01_k».proof.Proof.Gen.GmlpSampleRefIdeal.Read
public import Idealize.ShloMosaic.Lib.Pipeline.Value
public import Idealize.ShloMosaic.Lib.Pointwise
public import Idealize.ShloMosaic.Lib.Tactic
public import Idealize.ShloMosaic.Lib.Quiescent
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.GmlpSampleIdeal.Proved

open Cert.GmlpSampleIdeal Cert.GmlpSampleIdeal.Gen
open Cert.GmlpMath (ln)

variable (m : (ℓ : Loc nD τ sig) → Buf (Elt Ideal) ℓ) (ρ : Dev nD → PrngReg)

theorem hz : (![0, 0] : Fin 2 → Nat) = fun _ => 0 := funext fun a => by fin_cases a <;> rfl

/-- The activations of the gated branch, `u` beside `v`. -/
abbrev xArr (c : Dev nD) : Vec Ideal S128x4096 .f32 := m ((c : Thread nD τ).loc main_arg0)
/-- The gain of the normalisation. -/
abbrev gArr (c : Dev nD) : Vec Ideal S2048 .f32 := m ((c : Thread nD τ).loc main_arg1)
/-- The shift of the normalisation. -/
abbrev bArr (c : Dev nD) : Vec Ideal S2048 .f32 := m ((c : Thread nD τ).loc main_arg2)
/-- The mixing weights, one square per group. -/
abbrev wArr (c : Dev nD) : Vec Ideal S8x128x128 .f32 := m ((c : Thread nD τ).loc main_arg3)
/-- The mixing bias. -/
abbrev sArr (c : Dev nD) : Vec Ideal S8x128 .f32 := m ((c : Thread nD τ).loc main_arg4)

/-- The normalised tile, at an index. -/
theorem pay1_apply (x : Vec Ideal S128x2048 .f32) (g b : Vec Ideal S1x2048 .f32) (p : Fin 128) (q : Fin 2048) :
    k0_pay1 (F := Ideal) x g b (ix2 p q) = ln (fun k => x (ix2 p k)) q (g (ix2 0 q)) (b (ix2 0 q)) := by
  unfold k0_pay1
  pointwise
  rfl

/-- The gated tile, at an index. -/
theorem pay2_apply (x : Vec Ideal S128x2048 .f32) (g b : Vec Ideal S1x2048 .f32) (u : Vec Ideal S128x2048 .f32) (w s : Vec Ideal S1x2048 .f32)
    (p : Fin 128) (q : Fin 2048) :
    k0_pay2 (F := Ideal) x g b u w s (ix2 p q)
      = u (ix2 p q) * (w (ix2 0 q) * ln (fun k => x (ix2 p k)) q (g (ix2 0 q)) (b (ix2 0 q)) + s (ix2 0 q)) := by
  unfold k0_pay2
  pointwise
  rw [pay1_apply]

theorem V_g (c : Dev nD) (q : Fin 2048) : (V m c main_v10 : Vec Ideal S1x2048 .f32) (ix2 0 q) = gArr m c (ix1 q) := by
  have e : (V m c main_v10 : Vec Ideal S1x2048 .f32) = shapeCast S1x2048 (gArr m c) shapeCasts_S2048_S1x2048 := by
    unfold_abbrev_sides
    simp only [hostOps0, List.flatten_cons, List.flatten_nil, List.append_nil, List.cons_append, List.nil_append]
    after_results
    rfl
  rw [e]
  exact shapeCast_apply _ _ _ _ (by
    rewrite [Shape.rowMajor_val_one, Shape.rowMajor_val_two]
    show q.val = 0 * 2048 + q.val
    omega)

theorem V_b (c : Dev nD) (q : Fin 2048) : (V m c main_v11 : Vec Ideal S1x2048 .f32) (ix2 0 q) = bArr m c (ix1 q) := by
  have e : (V m c main_v11 : Vec Ideal S1x2048 .f32) = shapeCast S1x2048 (bArr m c) shapeCasts_S2048_S1x2048 := by
    unfold_abbrev_sides
    simp only [hostOps0, List.flatten_cons, List.flatten_nil, List.append_nil, List.cons_append, List.nil_append]
    after_results
    rfl
  rw [e]
  exact shapeCast_apply _ _ _ _ (by
    rewrite [Shape.rowMajor_val_one, Shape.rowMajor_val_two]
    show q.val = 0 * 2048 + q.val
    omega)

/-- One number per group, spread over the group's columns. -/
theorem spread_apply (y : Vec Ideal S8 .f32) (q : Fin 2048) :
    shapeCast S1x2048 (shapeCast S2048 (broadcastInDim S8x256 ![0] bcast_S8_S8x256_0 y) shapeCasts_S8x256_S2048) shapeCasts_S2048_S1x2048 (ix2 0 q)
      = y (ix1 ⟨q.val / 256, by omega⟩) := by
  refine (shapeCast_apply _ _ _ (ix1 q) (by
    rewrite [Shape.rowMajor_val_one, Shape.rowMajor_val_two]
    show q.val = 0 * 2048 + q.val
    omega)).trans ?_
  refine (shapeCast_apply _ _ (ix1 q) (ix2 (⟨q.val / 256, by omega⟩ : Fin 8) (⟨q.val % 256, by omega⟩ : Fin 256)) (by
    rewrite [Shape.rowMajor_val_one, Shape.rowMajor_val_two]
    show q.val / 256 * 256 + q.val % 256 = q.val
    omega)).trans ?_
  exact broadcastInDim_apply _ _ _ _ _ (fun a => by match a with | ⟨0, _⟩ => rfl)

theorem V_w (c : Dev nD) (q : Fin 2048) :
    (V m c main_v4 : Vec Ideal S1x2048 .f32) (ix2 0 q) = wArr m c (ix3 (⟨q.val / 256, by omega⟩ : Fin 8) (0 : Fin 128) (0 : Fin 128)) := by
  have e : (V m c main_v4 : Vec Ideal S1x2048 .f32) = shapeCast S1x2048 (shapeCast S2048 (broadcastInDim S8x256 ![0] bcast_S8_S8x256_0
      (shapeCast S8 (extractStridedSlice S8x1x1 ![0, 0, 0] (wArr m c) slices_S8x128x128_S8x1x1_0_0_0) shapeCasts_S8x1x1_S8)) shapeCasts_S8x256_S2048) shapeCasts_S2048_S1x2048 := by
    unfold_abbrev_sides
    simp only [hostOps0, List.flatten_cons, List.flatten_nil, List.append_nil, List.cons_append, List.nil_append]
    after_results
    rfl
  rw [e, spread_apply]
  refine (shapeCast_apply _ _ _ (ix3 (⟨q.val / 256, by omega⟩ : Fin 8) (0 : Fin 1) (0 : Fin 1)) (by
    rewrite [Shape.rowMajor_val_one, Shape.rowMajor_val_three]
    show (q.val / 256 * 1 + 0) * 1 + 0 = q.val / 256
    omega)).trans ?_
  exact extractStridedSlice_apply _ _ _ _ _ (fun a => by
    match a with | ⟨0, _⟩ => exact (Nat.zero_add _).symm | ⟨1, _⟩ => rfl | ⟨2, _⟩ => rfl)

theorem V_s (c : Dev nD) (q : Fin 2048) :
    (V m c main_v9 : Vec Ideal S1x2048 .f32) (ix2 0 q) = sArr m c (ix2 (⟨q.val / 256, by omega⟩ : Fin 8) (0 : Fin 128)) := by
  have e : (V m c main_v9 : Vec Ideal S1x2048 .f32) = shapeCast S1x2048 (shapeCast S2048 (broadcastInDim S8x256 ![0] bcast_S8_S8x256_0
      (shapeCast S8 (extractStridedSlice S8x1 ![0, 0] (sArr m c) slices_S8x128_S8x1_0_0) shapeCasts_S8x1_S8)) shapeCasts_S8x256_S2048) shapeCasts_S2048_S1x2048 := by
    unfold_abbrev_sides
    simp only [hostOps0, List.flatten_cons, List.flatten_nil, List.append_nil, List.cons_append, List.nil_append]
    after_results
    rfl
  rw [e, spread_apply]
  refine (shapeCast_apply _ _ _ (ix2 (⟨q.val / 256, by omega⟩ : Fin 8) (0 : Fin 1)) (by
    rewrite [Shape.rowMajor_val_one, Shape.rowMajor_val_two]
    show q.val / 256 * 1 + 0 = q.val / 256
    omega)).trans ?_
  exact extractStridedSlice_apply _ _ _ _ _ (fun a => by
    match a with | ⟨0, _⟩ => exact (Nat.zero_add _).symm | ⟨1, _⟩ => rfl)

/-- Every block lies at the origin but the one of `v`, which starts at column 2048. -/
theorem idx_facts : ∀ t : Fin cfg0.N, win0_0.index t (0 : Fin 2) = 0 ∧ win0_0.index t (1 : Fin 2) = 0 ∧ win0_1.index t (0 : Fin 2) = 0 ∧ win0_1.index t (1 : Fin 2) = 1
    ∧ win0_2.index t (0 : Fin 2) = 0 ∧ win0_2.index t (1 : Fin 2) = 0 ∧ win0_3.index t (0 : Fin 2) = 0 ∧ win0_3.index t (1 : Fin 2) = 0
    ∧ win0_4.index t (0 : Fin 2) = 0 ∧ win0_4.index t (1 : Fin 2) = 0 ∧ win0_5.index t (0 : Fin 2) = 0 ∧ win0_5.index t (1 : Fin 2) = 0
    ∧ win0_6.index t (0 : Fin 2) = 0 ∧ win0_6.index t (1 : Fin 2) = 0 ∧ win0_7.index t (0 : Fin 2) = 0 ∧ win0_7.index t (1 : Fin 2) = 0 :=
  (by decide +kernel : ∀ t : Fin grid0.N, _)

theorem iblk0_apply (c : Dev nD) (t : Fin cfg0.N) (p : Fin 128) (q : Fin 2048) :
    (iblk m c 0 t : Vec Ideal S128x2048 .f32) (ix2 p q) = xArr m c (ix2 p ⟨q.val, by omega⟩) := by
  obtain ⟨e0, e1, -⟩ := idx_facts t
  show V m c main_arg0 (((cfg0.win 0).blk t).view.emb (ix2 p q)) = _
  rw [V_main_arg0]
  congr 1
  funext a; apply Fin.ext
  match a with
  | ⟨0, _⟩ => show win0_0.index t (0 : Fin 2) * 128 + 1 * p.val = p.val; rw [e0]; omega
  | ⟨1, _⟩ => show win0_0.index t (1 : Fin 2) * 2048 + 1 * q.val = q.val; rw [e1]; omega

theorem iblk1_apply (c : Dev nD) (t : Fin cfg0.N) (p : Fin 128) (q : Fin 2048) :
    (iblk m c 1 t : Vec Ideal S128x2048 .f32) (ix2 p q) = xArr m c (ix2 p ⟨2048 + q.val, by omega⟩) := by
  obtain ⟨-, -, e0, e1, -⟩ := idx_facts t
  show V m c main_arg0 (((cfg0.win 1).blk t).view.emb (ix2 p q)) = _
  rw [V_main_arg0]
  congr 1
  funext a; apply Fin.ext
  match a with
  | ⟨0, _⟩ => show win0_1.index t (0 : Fin 2) * 128 + 1 * p.val = p.val; rw [e0]; omega
  | ⟨1, _⟩ => show win0_1.index t (1 : Fin 2) * 2048 + 1 * q.val = 2048 + q.val; rw [e1]; omega

theorem iblk2_apply (c : Dev nD) (t : Fin cfg0.N) (q : Fin 2048) :
    (iblk m c 2 t : Vec Ideal S1x2048 .f32) (ix2 0 q) = gArr m c (ix1 q) := by
  obtain ⟨-, -, -, -, e0, e1, -⟩ := idx_facts t
  refine Eq.trans ?_ (V_g m c q)
  show V m c main_v10 (((cfg0.win 2).blk t).view.emb (ix2 0 q)) = _
  congr 1
  funext a; apply Fin.ext
  match a with
  | ⟨0, _⟩ => show win0_2.index t (0 : Fin 2) * 1 + 1 * 0 = 0; rw [e0]
  | ⟨1, _⟩ => show win0_2.index t (1 : Fin 2) * 2048 + 1 * q.val = q.val; rw [e1]; omega

theorem iblk3_apply (c : Dev nD) (t : Fin cfg0.N) (q : Fin 2048) :
    (iblk m c 3 t : Vec Ideal S1x2048 .f32) (ix2 0 q) = bArr m c (ix1 q) := by
  obtain ⟨-, -, -, -, -, -, e0, e1, -⟩ := idx_facts t
  refine Eq.trans ?_ (V_b m c q)
  show V m c main_v11 (((cfg0.win 3).blk t).view.emb (ix2 0 q)) = _
  congr 1
  funext a; apply Fin.ext
  match a with
  | ⟨0, _⟩ => show win0_3.index t (0 : Fin 2) * 1 + 1 * 0 = 0; rw [e0]
  | ⟨1, _⟩ => show win0_3.index t (1 : Fin 2) * 2048 + 1 * q.val = q.val; rw [e1]; omega

theorem iblk4_apply (c : Dev nD) (t : Fin cfg0.N) (q : Fin 2048) :
    (iblk m c 4 t : Vec Ideal S1x2048 .f32) (ix2 0 q) = wArr m c (ix3 (⟨q.val / 256, by omega⟩ : Fin 8) (0 : Fin 128) (0 : Fin 128)) := by
  obtain ⟨-, -, -, -, -, -, -, -, e0, e1, -⟩ := idx_facts t
  refine Eq.trans ?_ (V_w m c q)
  show V m c main_v4 (((cfg0.win 4).blk t).view.emb (ix2 0 q)) = _
  congr 1
  funext a; apply Fin.ext
  match a with
  | ⟨0, _⟩ => show win0_4.index t (0 : Fin 2) * 1 + 1 * 0 = 0; rw [e0]
  | ⟨1, _⟩ => show win0_4.index t (1 : Fin 2) * 2048 + 1 * q.val = q.val; rw [e1]; omega

theorem iblk5_apply (c : Dev nD) (t : Fin cfg0.N) (q : Fin 2048) :
    (iblk m c 5 t : Vec Ideal S1x2048 .f32) (ix2 0 q) = sArr m c (ix2 (⟨q.val / 256, by omega⟩ : Fin 8) (0 : Fin 128)) := by
  obtain ⟨-, -, -, -, -, -, -, -, -, -, e0, e1, -⟩ := idx_facts t
  refine Eq.trans ?_ (V_s m c q)
  show V m c main_v9 (((cfg0.win 5).blk t).view.emb (ix2 0 q)) = _
  congr 1
  funext a; apply Fin.ext
  match a with
  | ⟨0, _⟩ => show win0_5.index t (0 : Fin 2) * 1 + 1 * 0 = 0; rw [e0]
  | ⟨1, _⟩ => show win0_5.index t (1 : Fin 2) * 2048 + 1 * q.val = q.val; rw [e1]; omega

/-- The one grid point. -/
abbrev t0 : Fin cfg0.N := ⟨0, by rw [show cfg0.N = 1 from N_0]; decide⟩

/-- The normalised half, whole. -/
def vn (x : Vec Ideal S128x4096 .f32) (g b : Vec Ideal S2048 .f32) : Vec Ideal S128x2048 .f32 := fun i =>
  ln (fun k => x (ix2 (i 0) ⟨2048 + k.val, by omega⟩)) (i 1) (g (ix1 (i 1))) (b (ix1 (i 1)))

/-- The gated half, whole. -/
def gated (x : Vec Ideal S128x4096 .f32) (g b : Vec Ideal S2048 .f32) (w : Vec Ideal S8x128x128 .f32) (s : Vec Ideal S8x128 .f32) : Vec Ideal S128x2048 .bf16 := fun i =>
  have h : (i 1).val < 2048 := (i 1).isLt
  x (ix2 (i 0) ⟨(i 1).val, by omega⟩)
    * (w (ix3 (⟨(i 1).val / 256, by omega⟩ : Fin 8) (0 : Fin 128) (0 : Fin 128)) * vn x g b i + s (ix2 (⟨(i 1).val / 256, by omega⟩ : Fin 8) (0 : Fin 128)))

theorem out6_eq (x0 x1 : Vec Ideal S128x2048 .f32) (x2 x3 x4 x5 : Vec Ideal S1x2048 .f32) : out0_6 x0 x1 x2 x3 x4 x5 = k0_pay2 x1 x2 x3 x0 x4 x5 := by
  unfold out0_6
  rw [View.canon_unit_zero hz]
  simp only [View.ld_unit_zero (S := S128x2048) hz, View.ld_unit_zero (S := S1x2048) hz]

theorem out7_eq (x0 x1 : Vec Ideal S128x2048 .f32) (x2 x3 x4 x5 : Vec Ideal S1x2048 .f32) : out0_7 x0 x1 x2 x3 x4 x5 = k0_pay1 x1 x2 x3 := by
  unfold out0_7
  rw [View.canon_unit_zero hz]
  simp only [View.ld_unit_zero (S := S128x2048) hz, View.ld_unit_zero (S := S1x2048) hz]

/-- The result's block is the whole result. -/
theorem emb6 (t : Fin cfg0.N) (i : S128x2048.Idx) : ((cfg0.win 6).blk t).view.emb i = i := by
  obtain ⟨-, -, -, -, -, -, -, -, -, -, -, -, e0, e1, -⟩ := idx_facts t
  funext a; apply Fin.ext
  match a with
  | ⟨0, _⟩ => show win0_6.index t (0 : Fin 2) * 128 + 1 * (i 0).val = (i 0).val; rw [e0]; omega
  | ⟨1, _⟩ => show win0_6.index t (1 : Fin 2) * 2048 + 1 * (i 1).val = (i 1).val; rw [e1]; omega

theorem flush6 : ∀ t : Fin cfg0.N, (cfg0.win 6).flush t = true :=
  (by decide +kernel : ∀ t : Fin grid0.N, _)

theorem flushed6_eq (c : Dev nD) (t : Fin cfg0.N) (hf : (cfg0.win 6).flush t = true) :
    (dats m 0 c).flushed 6 t = ((cfg0.win 6).blk t).view.read (Elt Ideal) (gated (xArr m c) (gArr m c) (bArr m c) (wArr m c) (sArr m c)) := by
  rw [Value.flushed6]
  funext y
  obtain ⟨p, q, rfl⟩ : ∃ (p : Fin 128) (q : Fin 2048), y = ix2 p q := ⟨y 0, y 1, eq_ix2 y⟩
  show out0_6 (iblk m c 0 t) (iblk m c 1 t) (iblk m c 2 t) (iblk m c 3 t) (iblk m c 4 t) (iblk m c 5 t) (ix2 p q)
    = gated (xArr m c) (gArr m c) (bArr m c) (wArr m c) (sArr m c) (((cfg0.win 6).blk t).view.emb (ix2 p q))
  rw [emb6, out6_eq, pay2_apply]
  simp only [iblk0_apply, iblk1_apply, iblk2_apply, iblk3_apply, iblk4_apply, iblk5_apply]
  rfl

/-- The result's block is the whole result. -/
theorem emb7 (t : Fin cfg0.N) (i : S128x2048.Idx) : ((cfg0.win 7).blk t).view.emb i = i := by
  obtain ⟨-, -, -, -, -, -, -, -, -, -, -, -, -, -, e0, e1⟩ := idx_facts t
  funext a; apply Fin.ext
  match a with
  | ⟨0, _⟩ => show win0_7.index t (0 : Fin 2) * 128 + 1 * (i 0).val = (i 0).val; rw [e0]; omega
  | ⟨1, _⟩ => show win0_7.index t (1 : Fin 2) * 2048 + 1 * (i 1).val = (i 1).val; rw [e1]; omega

theorem flush7 : ∀ t : Fin cfg0.N, (cfg0.win 7).flush t = true :=
  (by decide +kernel : ∀ t : Fin grid0.N, _)

theorem flushed7_eq (c : Dev nD) (t : Fin cfg0.N) (hf : (cfg0.win 7).flush t = true) :
    (dats m 0 c).flushed 7 t = ((cfg0.win 7).blk t).view.read (Elt Ideal) (vn (xArr m c) (gArr m c) (bArr m c)) := by
  rw [Value.flushed7]
  funext y
  obtain ⟨p, q, rfl⟩ : ∃ (p : Fin 128) (q : Fin 2048), y = ix2 p q := ⟨y 0, y 1, eq_ix2 y⟩
  show out0_7 (iblk m c 0 t) (iblk m c 1 t) (iblk m c 2 t) (iblk m c 3 t) (iblk m c 4 t) (iblk m c 5 t) (ix2 p q)
    = vn (xArr m c) (gArr m c) (bArr m c) (((cfg0.win 7).blk t).view.emb (ix2 p q))
  rw [emb7, out7_eq, pay1_apply]
  simp only [iblk1_apply, iblk2_apply, iblk3_apply]
  rfl

/-- The first result after the run. -/
theorem final6 (c : Dev nD) : (dats m 0 c).arrAt 6 cfg0.N = gated (xArr m c) (gArr m c) (bArr m c) (wArr m c) (sArr m c) :=
  (dats m 0 c).arrAt_eq_of_cover 6 _ (fun t hf => flushed6_eq m c t hf) fun i => ⟨t0, flush6 t0, by
    have := ((cfg0.win 6).blk t0).view.emb_mem_set i
    rwa [emb6] at this⟩

/-- The second result after the run. -/
theorem final7 (c : Dev nD) : (dats m 0 c).arrAt 7 cfg0.N = vn (xArr m c) (gArr m c) (bArr m c) :=
  (dats m 0 c).arrAt_eq_of_cover 7 _ (fun t hf => flushed7_eq m c t hf) fun i => ⟨t0, flush7 t0, by
    have := ((cfg0.win 7).blk t0).view.emb_mem_set i
    rwa [emb7] at this⟩

end Cert.GmlpSampleIdeal.Proved

namespace Cert.GmlpSampleRefIdeal.Proved

open Cert.GmlpSampleRefIdeal Cert.GmlpSampleRefIdeal.Gen
open Cert.GmlpMath (ln)

theorem z0 : FloatOps.ofBits (F := Ideal) FTy.f32 0x00000000#32 = (0 : EReal) := Ideal.ofBits_zero_f32

/-- The reference's normalised half, before its last reshape. -/
theorem v27_apply (x : Vec Ideal S128x4096 .f32) (g b : Vec Ideal S2048 .f32) (p : Fin 128) (z : Fin 1) (q : Fin 2048) :
    Read.val_main_v27 (F := Ideal) x g b (ix3 p z q) = Cert.GmlpSampleIdeal.Proved.vn x g b (ix2 p q) := by
  have hmean : ∀ i : S128x1x1.Idx, Read.val_main_v7 (F := Ideal) x i = Cert.GmlpMath.mean (fun k => x (ix2 (i 0) ⟨2048 + k.val, by omega⟩)) := fun i => by
    have hx : ∀ k : Fin 2048, Read.idx_main_v2 (Read.idx_main_v3 (Read.idx_main_v4 (Read.idx_main_v5 i) k)) = ix2 (i 0) ⟨2048 + k.val, by omega⟩ := fun k =>
      funext fun a => by match a with | ⟨0, _⟩ => rfl | ⟨1, _⟩ => rfl
    simp only [Read.val_main_v7_apply, Read.val_main_v6_apply, Read.val_main_v5_apply, Read.val_main_v4_apply, Read.val_main_v3_apply, Read.val_main_v2_apply,
      Read.val_main_cst_apply, Read.val_main_cst_0_apply, hx, z0, zero_add]
    rfl
  have hdev : ∀ i : S128x1x2048.Idx, Read.val_main_v9 (F := Ideal) x i
      = x (ix2 (i 0) ⟨2048 + (i 2).val, by have : (i 2).val < 2048 := (i 2).isLt; omega⟩) - Cert.GmlpMath.mean (fun k => x (ix2 (i 0) ⟨2048 + k.val, by omega⟩)) := fun i => by
    have hx : Read.idx_main_v2 (Read.idx_main_v3 i) = ix2 (i 0) ⟨2048 + (i 2).val, by have : (i 2).val < 2048 := (i 2).isLt; omega⟩ :=
      funext fun a => by match a with | ⟨0, _⟩ => rfl | ⟨1, _⟩ => rfl
    simp only [Read.val_main_v9_apply, Read.val_main_v8_apply, Read.val_main_v3_apply, Read.val_main_v2_apply, hx, hmean]
    rfl
  have hdev' : ∀ i : S128x1x2048.Idx, Read.val_main_v16 (F := Ideal) x i
      = x (ix2 (i 0) ⟨2048 + (i 2).val, by have : (i 2).val < 2048 := (i 2).isLt; omega⟩) - Cert.GmlpMath.mean (fun k => x (ix2 (i 0) ⟨2048 + k.val, by omega⟩)) := fun i => by
    have hx : Read.idx_main_v2 (Read.idx_main_v3 i) = ix2 (i 0) ⟨2048 + (i 2).val, by have : (i 2).val < 2048 := (i 2).isLt; omega⟩ :=
      funext fun a => by match a with | ⟨0, _⟩ => rfl | ⟨1, _⟩ => rfl
    simp only [Read.val_main_v16_apply, Read.val_main_v15_apply, Read.val_main_v3_apply, Read.val_main_v2_apply, hx, hmean]
    rfl
  have hspread : ∀ i : S128x1x1.Idx, Read.val_main_v19 (F := Ideal) x i = Cert.GmlpMath.spread (fun k => x (ix2 (i 0) ⟨2048 + k.val, by omega⟩)) := fun i => by
    simp only [Read.val_main_v19_apply, Read.val_main_v18_apply, Read.val_main_v17_apply, Read.val_main_v14_apply, Read.val_main_v13_apply, Read.val_main_v12_apply, Read.val_main_v11_apply, Read.val_main_v10_apply,
      Read.val_main_cst_1_apply, Read.val_main_cst_2_apply, Read.val_main_cst_3_apply, hdev, z0, zero_add]
    rfl
  simp only [Read.val_main_v27_apply, Read.val_main_v26_apply, Read.val_main_v25_apply, Read.val_main_v24_apply, Read.val_main_v23_apply, Read.val_main_v22_apply,
    Read.val_main_v21_apply, Read.val_main_v20_apply, hdev', hspread]
  have hg : Read.idx_main_v22 (Read.idx_main_v23 (ix3 p z q)) = ix1 q := funext fun a => by match a with | ⟨0, _⟩ => rfl
  have hb : Read.idx_main_v25 (Read.idx_main_v26 (ix3 p z q)) = ix1 q := funext fun a => by match a with | ⟨0, _⟩ => rfl
  rw [hg, hb]
  rfl

theorem v44_eq (x : Vec Ideal S128x4096 .f32) (g b : Vec Ideal S2048 .f32) :
    Read.val_main_v44 (F := Ideal) x g b = Cert.GmlpSampleIdeal.Proved.vn x g b := by
  funext i
  obtain ⟨p, q, rfl⟩ : ∃ (p : Fin 128) (q : Fin 2048), i = ix2 p q := ⟨i 0, i 1, eq_ix2 i⟩
  have h : Read.idx_main_v44 (ix2 p q) = ix3 p (0 : Fin 1) q := funext fun a => Fin.ext (by
    match a with
    | ⟨0, _⟩ => show (p.val * 2048 + q.val) / 2048 = p.val; omega
    | ⟨1, _⟩ => rfl
    | ⟨2, _⟩ => show (p.val * 2048 + q.val) % 2048 = q.val; omega)
  rw [Read.val_main_v44_apply, h, v27_apply]

/-- The padded chunk: the token at position 0, zeros after it. -/
theorem v28_apply (x : Vec Ideal S128x4096 .f32) (g b : Vec Ideal S2048 .f32) (p : Fin 128) (t : Fin 128) (q : Fin 2048) :
    Read.val_main_v28 (F := Ideal) x g b (ix3 p t q) = if t.val = 0 then Cert.GmlpSampleIdeal.Proved.vn x g b (ix2 p q) else 0 := by
  unfold Read.val_main_v28
  split
  · rename_i h
    rw [← v27_apply x g b p 0 q]
    refine pad_apply_of_inside _ _ _ _ _ _ _ _ _ (fun a => ?_)
    match a with
    | ⟨0, _⟩ => show p.val = 0 + p.val * (0 + 1); omega
    | ⟨1, _⟩ => show t.val = 0 + 0 * (0 + 1); omega
    | ⟨2, _⟩ => show q.val = 0 + q.val * (0 + 1); omega
  · rename_i h
    refine (pad_apply_of_not_inside _ _ _ _ _ _ _ _ (1 : Fin 3) (fun hh => h ?_)).trans ?_
    · have := hh.2.2
      change (t.val - 0) / (0 + 1) < 1 at this
      omega
    · rw [Read.val_main_call0_v0_apply, Read.val_main_c_apply]
      simp [FloatOps.sitofp]

/-- The causal weights, at the first row of a group's square. -/
theorem v32_apply (w : Vec Ideal S8x128x128 .f32) (gr : Fin 8) (s : Fin 128) :
    Read.val_main_v32 (F := Ideal) w (ix3 gr (0 : Fin 128) s) = if s.val = 0 then w (ix3 gr (0 : Fin 128) s) else 0 := by
  have hm : Read.val_main_call2_v1 (F := Ideal) (ix3 gr (0 : Fin 128) s) = if s.val = 0 then 1#1 else 0#1 := by
    simp only [Read.val_main_call2_v1_apply, Read.val_main_v31_apply, Read.val_main_call1_v4_apply, Read.val_main_call1_v2_apply, Read.val_main_call1_v0_apply, Read.val_main_call1_v1_apply,
      Read.val_main_call1_c_apply, Read.val_main_call1_v3_apply, Read.val_main_v30_apply, Read.val_main_c_4_apply, Read.val_main_call1_v5_apply, Read.val_main_call1_c_0_apply]
    revert s
    show ∀ s : Fin 128, Scalar.select (IntOp.cmpi .sge (IntOp.addi (BitVec.ofNat 32 0) 0#32) (BitVec.ofNat 32 s.val)) 1#1 0#1 = _
    decide +kernel
  rw [Read.val_main_v32_apply, hm, Read.val_main_call2_v2_apply, Read.val_main_call2_v0_apply, Read.val_main_c_5_apply]
  split
  · rfl
  · show FloatOps.sitofp (F := Ideal) .f32 (0#32) = 0
    simp [FloatOps.sitofp]

theorem v43_eq (x : Vec Ideal S128x4096 .f32) (g b : Vec Ideal S2048 .f32) (w : Vec Ideal S8x128x128 .f32) (s : Vec Ideal S8x128 .f32) :
    Read.val_main_v43 (F := Ideal) x g b w s = Cert.GmlpSampleIdeal.Proved.gated x g b w s := by
  funext i
  obtain ⟨p, q, rfl⟩ : ∃ (p : Fin 128) (q : Fin 2048), i = ix2 p q := ⟨i 0, i 1, eq_ix2 i⟩
  have h42 : Read.idx_main_v42 (ix2 p q) = ix3 p (0 : Fin 1) q := funext fun a => Fin.ext (by
    match a with
    | ⟨0, _⟩ => show (p.val * 2048 + q.val) / 2048 = p.val; omega
    | ⟨1, _⟩ => rfl
    | ⟨2, _⟩ => show (p.val * 2048 + q.val) % 2048 = q.val; omega)
  have h39 : Read.idx_main_v39 (Read.idx_main_v40 (ix3 p (0 : Fin 1) q)) = ix5 p (0 : Fin 1) (0 : Fin 128) (⟨q.val / 256, by omega⟩ : Fin 8) (⟨q.val % 256, by omega⟩ : Fin 256) :=
    funext fun a => Fin.ext (by
      match a with
      | ⟨0, _⟩ => show ((p.val * 128 + 0) * 2048 + q.val) / 262144 = p.val; omega
      | ⟨1, _⟩ => rfl
      | ⟨2, _⟩ => show ((p.val * 128 + 0) * 2048 + q.val) / 2048 % 128 = 0; omega
      | ⟨3, _⟩ => show ((p.val * 128 + 0) * 2048 + q.val) / 256 % 8 = q.val / 256; omega
      | ⟨4, _⟩ => show ((p.val * 128 + 0) * 2048 + q.val) % 256 = q.val % 256; omega)
  have hl : ∀ k : Fin 128, Read.idx_main_v29 (Read.lidx_main_v33 (Read.idx_main_v34 (ix5 p (0 : Fin 1) (0 : Fin 128) (⟨q.val / 256, by omega⟩ : Fin 8) (⟨q.val % 256, by omega⟩ : Fin 256))) k) = ix3 p k q :=
    fun k => funext fun a => Fin.ext (by
      match a with
      | ⟨0, _⟩ => show ((((p.val * 1 + 0) * 128 + k.val) * 8 + q.val / 256) * 256 + q.val % 256) / 262144 = p.val; omega
      | ⟨1, _⟩ => show ((((p.val * 1 + 0) * 128 + k.val) * 8 + q.val / 256) * 256 + q.val % 256) / 2048 % 128 = k.val; omega
      | ⟨2, _⟩ => show ((((p.val * 1 + 0) * 128 + k.val) * 8 + q.val / 256) * 256 + q.val % 256) % 2048 = q.val; omega)
  have hr : ∀ k : Fin 128, Read.ridx_main_v33 (Read.idx_main_v34 (ix5 p (0 : Fin 1) (0 : Fin 128) (⟨q.val / 256, by omega⟩ : Fin 8) (⟨q.val % 256, by omega⟩ : Fin 256))) k = ix3 (⟨q.val / 256, by omega⟩ : Fin 8) (0 : Fin 128) k :=
    fun k => funext fun a => by match a with | ⟨0, _⟩ => rfl | ⟨1, _⟩ => rfl | ⟨2, _⟩ => rfl
  have hb : Read.idx_main_v35 (Read.idx_main_v36 (Read.idx_main_v37 (ix5 p (0 : Fin 1) (0 : Fin 128) (⟨q.val / 256, by omega⟩ : Fin 8) (⟨q.val % 256, by omega⟩ : Fin 256)))) = ix2 (⟨q.val / 256, by omega⟩ : Fin 8) (0 : Fin 128) :=
    funext fun a => by match a with | ⟨0, _⟩ => rfl | ⟨1, _⟩ => rfl
  have hu : Read.idx_main_v0 (Read.idx_main_v1 (ix3 p (0 : Fin 1) q)) = ix2 p ⟨q.val, by omega⟩ :=
    funext fun a => by match a with | ⟨0, _⟩ => rfl | ⟨1, _⟩ => rfl
  simp only [Read.val_main_v43_apply, Read.val_main_v42_apply, h42, Read.val_main_v41_apply, Read.val_main_v40_apply, Read.val_main_v39_apply, h39, Read.val_main_v38_apply,
    Read.val_main_v37_apply, Read.val_main_v36_apply, Read.val_main_v35_apply, hb, Read.val_main_v34_apply, Read.val_main_v33_apply, Read.val_main_v29_apply, hl, hr, Read.val_main_v1_apply, Read.val_main_v0_apply, hu,
    v28_apply, v32_apply]
  rw [Finset.sum_eq_single (0 : Fin 128) (fun k _ hk => by
    rw [if_neg (show ¬k.val = 0 from fun h => hk (Fin.ext h)), if_neg (show ¬k.val = 0 from fun h => hk (Fin.ext h)), mul_zero]) (fun h => absurd (Finset.mem_univ _) h)]
  rw [if_pos (show (0 : Fin 128).val = 0 from rfl), if_pos (show (0 : Fin 128).val = 0 from rfl), mul_comm (Cert.GmlpSampleIdeal.Proved.vn x g b (ix2 p q))]
  rfl

end Cert.GmlpSampleRefIdeal.Proved

namespace Cert.GmlpSampleClaim

/-- The kernel's two results at the ideal instance are the reference's, at every index. -/
theorem algebraic : Cert.algebraic_GmlpSampleIdeal_GmlpSampleRefIdeal (hGmlpSampleIdeal := Cert.GmlpSampleIdeal.Gen.facts) (hGmlpSampleRefIdeal := Cert.GmlpSampleRefIdeal.Gen.facts) :=
  fun m ρ m' ρ' _ hag =>
    ⟨fun c => Cert.GmlpSampleIdeal.Proved.gated (Cert.GmlpSampleIdeal.Proved.xArr m c) (Cert.GmlpSampleIdeal.Proved.gArr m c) (Cert.GmlpSampleIdeal.Proved.bArr m c) (Cert.GmlpSampleIdeal.Proved.wArr m c) (Cert.GmlpSampleIdeal.Proved.sArr m c),
      fun c => Cert.GmlpSampleIdeal.Proved.vn (Cert.GmlpSampleIdeal.Proved.xArr m c) (Cert.GmlpSampleIdeal.Proved.gArr m c) (Cert.GmlpSampleIdeal.Proved.bArr m c),
      (θ_run (Cert.GmlpSampleIdeal.defs (F := Ideal)) _ _).mono
        (fun _ h c => ⟨(h c).1.trans (Cert.GmlpSampleIdeal.Proved.final6 m c), (h c).2.1.trans (Cert.GmlpSampleIdeal.Proved.final7 m c), (h c).2.2⟩) (Cert.GmlpSampleIdeal.Value.run_blocks m ρ),
      (θ_run (Cert.GmlpSampleRefIdeal.defs (F := Ideal)) _ _).mono
        (fun _ h c => ⟨by
          refine (h c).1.trans ?_
          obtain ⟨g0, g1, g2, g3, g4⟩ := hag c
          rw [Cert.GmlpSampleRefIdeal.Read.val_main_v43_eq, Cert.GmlpSampleRefIdeal.Proved.v43_eq, g0, g1, g2, g3, g4], by
          refine (h c).2.1.trans ?_
          obtain ⟨g0, g1, g2, g3, g4⟩ := hag c
          refine (Cert.GmlpSampleRefIdeal.Read.val_main_v44_eq _ _ _).trans ?_
          rw [Cert.GmlpSampleRefIdeal.Proved.v44_eq, g0, g1, g2], (h c).2.2⟩)
        (Cert.GmlpSampleRefIdeal.Value.run m' ρ')⟩

end Cert.GmlpSampleClaim
end
-- ==== Proof.SampleMath.lean ====
/-
  One element of attention of a new token over 128 cached keys, its own key and a sink, two ways. The kernel sums the
  weighted cached values, adds the new value's part, and divides once by the sum of the weights and the sink's. The
  reference lays the cached keys, the new key and the sink side by side and divides every weight first. The sum of the
  weights is a positive real, so dividing by it distributes over a sum of extended reals.
-/
module

public import proofs.«01_k».proof.Proof.AttnMath

@[expose] public section

noncomputable section

open Idealize.ShloMosaic
open Cert.AttnMath (sum_mul_real sum_real exp_sub_real)

namespace Cert.SampleMath

/-- A row's greatest logit, the new key's and the sink's among them. -/
def top (l : Fin 128 → EReal) (n a : EReal) : EReal := max (max (Finset.fold max ⊥ l Finset.univ) n) a

/-- One output element. -/
def outv (l v : Fin 128 → EReal) (n w a : EReal) : EReal :=
  Ideal.div (∑ s, Ideal.exp (l s - top l n a) * v s + Ideal.exp (n - top l n a) * w)
    (∑ s, Ideal.exp (l s - top l n a) + Ideal.exp (n - top l n a) + Ideal.exp (a - top l n a))

theorem sum_129 (f : Fin 129 → EReal) : ∑ k, f k = ∑ s : Fin 128, f ⟨s.val, by omega⟩ + f ⟨128, by omega⟩ := by
  rw [Fin.sum_univ_castSucc]
  rfl

theorem sum_130 (f : Fin 130 → EReal) : ∑ k, f k = ∑ s : Fin 128, f ⟨s.val, by omega⟩ + f ⟨128, by omega⟩ + f ⟨129, by omega⟩ := by
  rw [Fin.sum_univ_castSucc, sum_129]
  rfl

/-- The greatest of the reference's row of logits is the kernel's. -/
theorem top_eq (l : Fin 128 → EReal) (n a : EReal) (L : Fin 130 → EReal) (h1 : ∀ s : Fin 128, L ⟨s.val, by omega⟩ = l s)
    (h2 : L ⟨128, by omega⟩ = n) (h3 : L ⟨129, by omega⟩ = a) :
    max ⊥ (Finset.fold max ⊥ L Finset.univ) = top l n a := by
  refine eq_of_forall_ge_iff fun c => ?_
  unfold top
  simp only [max_le_iff, Finset.fold_max_le, bot_le, true_and, Finset.mem_univ, forall_true_left]
  constructor
  · intro h
    exact ⟨⟨fun s => h1 s ▸ h _, h2 ▸ h _⟩, h3 ▸ h _⟩
  · rintro ⟨⟨h, hn⟩, ha⟩ k
    by_cases hk : k.val < 128
    · have := h ⟨k.val, hk⟩
      rw [← h1] at this; exact this
    · by_cases hk' : k.val = 128
      · have e : (⟨128, by omega⟩ : Fin 130) = k := Fin.ext hk'.symm
        rw [← h2, e] at hn; exact hn
      · have e : (⟨129, by omega⟩ : Fin 130) = k := Fin.ext (by show 129 = k.val; omega)
        rw [← h3, e] at ha; exact ha

/-- The reference's element is the kernel's. -/
theorem ref_outv (l v : Fin 128 → EReal) (n w a : EReal) (hl : ∀ s, l s ≠ ⊤) (hn : n ≠ ⊤) (ha : ∃ r : ℝ, a = (r : EReal))
    (L : Fin 130 → EReal) (h1 : ∀ s : Fin 128, L ⟨s.val, by omega⟩ = l s) (h2 : L ⟨128, by omega⟩ = n) (h3 : L ⟨129, by omega⟩ = a)
    (V : Fin 129 → EReal) (hv1 : ∀ s : Fin 128, V ⟨s.val, by omega⟩ = v s) (hv2 : V ⟨128, by omega⟩ = w)
    (M : EReal) (hM : M = max ⊥ (Finset.fold max ⊥ L Finset.univ)) :
    ∑ k : Fin 129, V k * Ideal.div (Ideal.exp (L ⟨k.val, by omega⟩ - M)) (0 + ∑ k : Fin 130, Ideal.exp (L k - M)) = outv l v n w a := by
  have hMt : M = top l n a := hM.trans (top_eq l n a L h1 h2 h3)
  obtain ⟨ar, rfl⟩ := ha
  obtain ⟨m, hm⟩ : ∃ m : ℝ, top l n (ar : EReal) = (m : EReal) := by
    have hb : top l n (ar : EReal) ≠ ⊥ := by
      intro h
      have : (ar : EReal) ≤ ⊥ := h ▸ le_max_right _ _
      exact EReal.coe_ne_bot ar (le_bot_iff.mp this)
    have ht : top l n (ar : EReal) ≠ ⊤ := by
      refine ne_of_lt ?_
      unfold top
      rw [max_lt_iff, max_lt_iff, Finset.fold_max_lt]
      exact ⟨⟨⟨bot_lt_top, fun s _ => lt_top_iff_ne_top.mpr (hl s)⟩, lt_top_iff_ne_top.mpr hn⟩, EReal.coe_lt_top ar⟩
    exact ⟨_, (EReal.coe_toReal ht hb).symm⟩
  unfold outv
  rw [hMt, hm, sum_129, sum_130]
  simp only [h1, h2, h3, hv1, hv2]
  choose e he0 he using fun s => exp_sub_real (hl s) m
  obtain ⟨en, hen0, hen⟩ := exp_sub_real hn m
  have hea : Ideal.exp ((ar : EReal) - (m : EReal)) = ((Real.exp (ar - m) : ℝ) : EReal) := by rw [← EReal.coe_sub, Ideal.exp_coe]
  simp only [he, hen, hea]
  rw [sum_real, zero_add, ← EReal.coe_add, ← EReal.coe_add]
  have hD : 0 < ∑ s, e s + en + Real.exp (ar - m) :=
    add_pos_of_nonneg_of_pos (add_nonneg (Finset.sum_nonneg fun s _ => he0 s) hen0) (Real.exp_pos _)
  have hD' : 0 ≤ 1 / (∑ s, e s + en + Real.exp (ar - m)) := (one_div_pos.mpr hD).le
  simp only [Ideal.div_coe hD.ne']
  rw [EReal.right_distrib_of_nonneg_of_ne_top (by exact_mod_cast hD') (EReal.coe_ne_top _), sum_mul_real _ _ _ hD']
  congr 1
  · refine Finset.sum_congr rfl fun s _ => ?_
    rw [← mul_assoc, mul_comm (v s)]
  · rw [← mul_assoc, mul_comm w]

end Cert.SampleMath
end
-- ==== Proof.AttnSampleKer.lean ====
/-
  The kernel of `AttnSample.lean` at the ideal instance, one row of the batch: the queries laid on the block diagonal, the
  logits of the cached keys and of the new key, the weights and the division, the columns of a head's own group summed,
  and the caches rolled by one.
-/
module

public import proofs.«01_k».proof.Defs
public import proofs.«01_k».proof.Proof.SampleMath
public import proofs.«01_k».proof.Proof.Gen.AttnSampleIdeal.Value
public import Idealize.ShloMosaic.Lib.Pipeline.Value
public import Idealize.ShloMosaic.Lib.Pipeline.ReadBack
public import Idealize.ShloMosaic.Lib.Pointwise
public import Idealize.ShloMosaic.Lib.Tactic
public import Idealize.ShloMosaic.Lib.KernelVsHost

@[expose] public section

set_option maxRecDepth 16384

noncomputable section

open Idealize.ShloMosaic Idealize.ShloMosaic.TcCoe Idealize.SL.Sem

namespace Cert.AttnSampleIdeal.Proved

open Cert.AttnSampleIdeal Cert.AttnSampleIdeal.Gen

/-- Which columns belong to a head's group. -/
abbrev own : IVec S32x256 1 := k0_pay8 k0_pay4 k0_pay5 k0_pay6 k0_pay7

theorem own_apply (h : Fin 32) (l : Fin 256) : own (ix2 h l) = if h.val / 8 = l.val / 64 then 1#1 else 0#1 := by
  unfold own k0_pay8 k0_pay4 k0_pay5 k0_pay6 k0_pay7
  pointwise
  revert h l
  decide +kernel

theorem pay19_apply (w : IVec S32x256 1) (q : Vec Ideal S1x32x64 .f32) (h : Fin 32) (l : Fin 256) :
    k0_pay19 (F := Ideal) w q (ix2 h l) = Scalar.select (w (ix2 h l)) (q (ix3 0 h ⟨l.val % 64, by omega⟩)) 0 := by
  unfold k0_pay19
  pointwise
  congr 1
  split
  · exact congrArg (fun j => q (ix3 0 h j)) (Fin.ext (by show l.val = l.val % 64; omega))
  · split
    · exact congrArg (fun j => q (ix3 0 h j)) (Fin.ext (by show l.val - 64 = l.val % 64; omega))
    · split
      · exact congrArg (fun j => q (ix3 0 h j)) (Fin.ext (by show l.val - 64 - 64 = l.val % 64; omega))
      · exact congrArg (fun j => q (ix3 0 h j)) (Fin.ext (by show l.val - 64 - 64 - 64 = l.val % 64; omega))

theorem pay22_apply (w : IVec S32x256 1) (q : Vec Ideal S1x32x64 .f32) (k : Vec Ideal S1x128x256 .f32) (h : Fin 32) (s : Fin 128) :
    k0_pay22 (F := Ideal) w q k (ix2 h s) = (∑ l : Fin 256, k0_pay19 (F := Ideal) w q (ix2 h l) * k (ix3 0 s l)) * Ideal.ofBits .f32 0x3E000000#32 := by
  unfold k0_pay22 k0_pay20
  pointwise

theorem pay23_apply (w : IVec S32x256 1) (q : Vec Ideal S1x32x64 .f32) (k : Vec Ideal S1x256 .f32) (h : Fin 32) :
    k0_pay23 (F := Ideal) w q k (ix2 h 0) = (∑ l : Fin 256, k0_pay19 (F := Ideal) w q (ix2 h l) * k (ix2 0 l)) * Ideal.ofBits .f32 0x3E000000#32 := by
  unfold k0_pay23
  pointwise

/-- A column of a head's group. -/
abbrev col (h : Fin 32) (d : Fin 64) : Fin 256 := ⟨h.val / 8 * 64 + d.val, by omega⟩

/-- A sum over the columns that belong to a head's group. -/
theorem sum_own (h : Fin 32) (f : Fin 256 → EReal) : (∑ l : Fin 256, if h.val / 8 = l.val / 64 then f l else 0) = ∑ d : Fin 64, f (col h d) := by
  rw [← (finProdFinEquiv (m := 4) (n := 64)).sum_comp, Fintype.sum_prod_type]
  rw [Finset.sum_eq_single (⟨h.val / 8, by omega⟩ : Fin 4)]
  · refine Finset.sum_congr rfl fun d _ => ?_
    have e : (finProdFinEquiv ((⟨h.val / 8, by omega⟩ : Fin 4), d) : Fin (4 * 64)) = col h d := Fin.ext (by show d.val + 64 * (h.val / 8) = h.val / 8 * 64 + d.val; omega)
    rw [e, if_pos (by show h.val / 8 = (h.val / 8 * 64 + d.val) / 64; omega)]
  · intro j _ hj
    refine Finset.sum_eq_zero fun d _ => if_neg fun hh => hj (Fin.ext ?_)
    change h.val / 8 = (d.val + 64 * j.val) / 64 at hh
    show j.val = h.val / 8
    omega
  · intro hh
    exact absurd (Finset.mem_univ _) hh

/-- A head's product with the keys' columns, its query laid on the block diagonal. -/
theorem diag_sum (q : Vec Ideal S1x32x64 .f32) (h : Fin 32) (f : Fin 256 → EReal) :
    (∑ l : Fin 256, k0_pay19 (F := Ideal) own q (ix2 h l) * f l) = ∑ d : Fin 64, q (ix3 0 h d) * f (col h d) := by
  refine Eq.trans (Finset.sum_congr rfl fun l _ => ?_) ((sum_own h (fun l => q (ix3 0 h ⟨l.val % 64, by omega⟩) * f l)).trans ?_)
  · rw [pay19_apply, own_apply]
    by_cases hl : h.val / 8 = l.val / 64
    · rw [if_pos hl, if_pos hl]; rfl
    · rw [if_neg hl, if_neg hl]; exact zero_mul _
  · refine Finset.sum_congr rfl fun d _ => congrArg (fun j => q (ix3 0 h j) * f (col h d)) (Fin.ext ?_)
    show (h.val / 8 * 64 + d.val) % 64 = d.val
    omega

theorem pay25_apply (a : FVec Ideal S32x1 .f32) (v : Vec Ideal S1x128x256 .f32) (nv : Vec Ideal S1x256 .f32) (L : FVec Ideal S32x128 .f32)
    (n : FVec Ideal S32x1 .f32) (h : Fin 32) (d : Fin 64) :
    k0_pay25 (F := Ideal) own a (k0_pay21 v) nv L n (multiReduction .maximumf [1] S32 L 0xFF800000#32 reduces_S32x128_S32 (.inl rfl) rfl) (ix3 0 h d)
      = Cert.SampleMath.outv (fun s => L (ix2 h s)) (fun s => v (ix3 0 s (col h d))) (n (ix2 h 0)) (nv (ix2 0 (col h d))) (a (ix2 h 0)) := by
  have hb : Ideal.ofBits FTy.f32 0xFF800000#32 = ⊥ := by simp [Ideal.ofBits, Ideal.ieee]
  have key : ∀ r : Fin 256 → EReal,
      Scalar.select (own (ix2 h ⟨d.val, by omega⟩)) (r ⟨d.val, by omega⟩) 0 + Scalar.select (own (ix2 h ⟨64 + d.val, by omega⟩)) (r ⟨64 + d.val, by omega⟩) 0
        + Scalar.select (own (ix2 h ⟨128 + d.val, by omega⟩)) (r ⟨128 + d.val, by omega⟩) 0 + Scalar.select (own (ix2 h ⟨192 + d.val, by omega⟩)) (r ⟨192 + d.val, by omega⟩) 0
        = r (col h d) := by
    intro r
    rw [own_apply, own_apply, own_apply, own_apply]
    have e : h.val / 8 = 0 ∨ h.val / 8 = 1 ∨ h.val / 8 = 2 ∨ h.val / 8 = 3 := by omega
    have p0 : d.val / 64 = 0 := by omega
    have p1 : (64 + d.val) / 64 = 1 := by omega
    have p2 : (128 + d.val) / 64 = 2 := by omega
    have p3 : (192 + d.val) / 64 = 3 := by omega
    rcases e with e | e | e | e
    · have hc : col h d = ⟨d.val, by omega⟩ := Fin.ext (by show h.val / 8 * 64 + d.val = d.val; omega)
      rw [hc]; simp [e, p0, p1, p2, p3, Scalar.select]
    · have hc : col h d = ⟨64 + d.val, by omega⟩ := Fin.ext (by show h.val / 8 * 64 + d.val = 64 + d.val; omega)
      rw [hc]; simp [e, p0, p1, p2, p3, Scalar.select]
    · have hc : col h d = ⟨128 + d.val, by omega⟩ := Fin.ext (by show h.val / 8 * 64 + d.val = 128 + d.val; omega)
      rw [hc]; simp [e, p0, p1, p2, p3, Scalar.select]
    · have hc : col h d = ⟨192 + d.val, by omega⟩ := Fin.ext (by show h.val / 8 * 64 + d.val = 192 + d.val; omega)
      rw [hc]; simp [e, p0, p1, p2, p3, Scalar.select]
  unfold k0_pay25 k0_pay21
  pointwise
  rw [hb]
  exact key (fun c => Cert.SampleMath.outv (fun s => L (ix2 h s)) (fun s => v (ix3 0 s c)) (n (ix2 h 0)) (nv (ix2 0 c)) (a (ix2 h 0)))

/-- One row of the batch: the attention of every head. -/
def att (a : FVec Ideal S32x1 .f32) (q : Vec Ideal S1x32x64 .f32) (nk nv : Vec Ideal S1x256 .f32) (k v : Vec Ideal S1x128x256 .f32) : FVec Ideal S1x32x64 .bf16 :=
  k0_pay25 (F := Ideal) own (k0_pay9 a) (k0_pay21 v) nv (k0_pay22 own q k) (k0_pay23 own q nk) (k0_pay24 own q k)

theorem att_apply (a : FVec Ideal S32x1 .f32) (q : Vec Ideal S1x32x64 .f32) (nk nv : Vec Ideal S1x256 .f32) (k v : Vec Ideal S1x128x256 .f32) (h : Fin 32) (d : Fin 64) :
    att a q nk nv k v (ix3 0 h d)
      = Cert.SampleMath.outv (fun s => (∑ e : Fin 64, q (ix3 0 h e) * k (ix3 0 s (col h e))) * Ideal.ofBits .f32 0x3E000000#32)
          (fun s => v (ix3 0 s (col h d))) ((∑ e : Fin 64, q (ix3 0 h e) * nk (ix2 0 (col h e))) * Ideal.ofBits .f32 0x3E000000#32) (nv (ix2 0 (col h d))) (a (ix2 h 0)) := by
  have h9 : k0_pay9 (F := Ideal) a (ix2 h 0) = a (ix2 h 0) := by
    unfold k0_pay9
    pointwise
  unfold att k0_pay24
  rw [pay25_apply, h9, pay23_apply, diag_sum]
  refine congrArg (fun f => Cert.SampleMath.outv f _ _ _ _) (funext fun s => ?_)
  rw [pay22_apply, diag_sum]

theorem pay17_apply (k : Vec Ideal S1x128x256 .f32) (nk : Vec Ideal S1x256 .f32) (s : Fin 128) (l : Fin 256) :
    k0_pay17 (F := Ideal) (iota .tc S128x256 32 [0] iota_S128x256_d0_w32) (k0_pay11 k) nk (ix3 0 s l)
      = if s.val = 127 then nk (ix2 0 l) else k (ix3 0 ⟨(s.val + 1) % 128, by omega⟩ l) := by
  unfold k0_pay17 k0_pay11
  pointwise
  have h : (s.val + 128 - 127) % 128 = (s.val + 1) % 128 := by congr 1
  simp only [h]
  have hc : IntOp.cmpi CmpIPredicate.eq (BitVec.ofNat 32 s.val) 127#32 = if s.val = 127 then 1#1 else 0#1 := by
    clear h
    revert s
    decide +kernel
  rw [hc]
  split <;> rfl

/-- One row of the batch: the cache moved on by one. -/
abbrev rolled (k : Vec Ideal S1x128x256 .f32) (nk : Vec Ideal S1x256 .f32) : FVec Ideal S1x128x256 .f32 :=
  k0_pay17 (F := Ideal) (iota .tc S128x256 32 [0] iota_S128x256_d0_w32) (k0_pay11 k) nk

theorem rolled_apply (k : Vec Ideal S1x128x256 .f32) (nk : Vec Ideal S1x256 .f32) (s : Fin 128) (l : Fin 256) :
    rolled k nk (ix3 0 s l) = if s.val = 127 then nk (ix2 0 l) else k (ix3 0 ⟨(s.val + 1) % 128, by omega⟩ l) := pay17_apply k nk s l

end Cert.AttnSampleIdeal.Proved
end
-- ==== Proof.AttnSampleOut.lean ====
/-
  The VALUE of `AttnSample.lean` at the ideal instance: attention of one new token per row over its 128 cached keys, its own
  key and a sink per head, and the two caches moved on by one. A grid point takes eight rows of the batch, one after
  another. The queries of a head are laid on its own group's columns of a row of 256, zeros elsewhere, so one product
  with the keys' 256 columns gives every head's logits; of the weighted values only the group's own columns are kept.
-/
module

public import proofs.«01_k».proof.Proof.AttnSampleKer
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Cert.SampleMath (outv)

namespace Cert.AttnSampleIdeal.Proved

open Cert.AttnSampleIdeal Cert.AttnSampleIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The new tokens' queries, keys and values. -/
abbrev xArr (c : Dev nD) : Vec Ideal S128x2560 .f32 := m ((c : Thread nD τ).loc main_arg0)
/-- The cached keys. -/
abbrev kArr (c : Dev nD) : Vec Ideal S128x128x4x64 .f32 := m ((c : Thread nD τ).loc main_arg1)
/-- The cached values. -/
abbrev vArr (c : Dev nD) : Vec Ideal S128x128x4x64 .f32 := m ((c : Thread nD τ).loc main_arg2)
/-- The sinks. -/
abbrev sArr (c : Dev nD) : Vec Ideal S4x8 .f32 := m ((c : Thread nD τ).loc main_arg3)

/-! ## A block's results -/

/-- The attention of a block of eight rows. -/
def attBlk (x0 : Vec Ideal S8x32x64 .f32) (x1 x2 : Vec Ideal S8x256 .f32) (x3 x4 : Vec Ideal S8x128x256 .f32) (x5 : Vec Ideal S32x1 .f32)
    (b : Fin 8) (h : Fin 32) (d : Fin 64) : EReal :=
  outv (fun s => (∑ e : Fin 64, x0 (ix3 b h e) * x3 (ix3 b s (col h e))) * Ideal.ofBits .f32 0x3E000000#32)
    (fun s => x4 (ix3 b s (col h d))) ((∑ e : Fin 64, x0 (ix3 b h e) * x1 (ix2 b (col h e))) * Ideal.ofBits .f32 0x3E000000#32)
    (x2 (ix2 b (col h d))) (x5 (ix2 h 0))

def attArr (x0 : Vec Ideal S8x32x64 .f32) (x1 x2 : Vec Ideal S8x256 .f32) (x3 x4 : Vec Ideal S8x128x256 .f32) (x5 : Vec Ideal S32x1 .f32) : Vec Ideal S8x32x64 .bf16 :=
  fun y => attBlk x0 x1 x2 x3 x4 x5 (y 0) (y 1) (y 2)

/-- The moved cache of a block of eight rows. -/
def movBlk (k : Vec Ideal S8x128x256 .f32) (nk : Vec Ideal S8x256 .f32) (b : Fin 8) (s : Fin 128) (l : Fin 256) : EReal :=
  if s.val = 127 then nk (ix2 b l) else k (ix3 b ⟨(s.val + 1) % 128, by omega⟩ l)

def movArr (k : Vec Ideal S8x128x256 .f32) (nk : Vec Ideal S8x256 .f32) : Vec Ideal S8x128x256 .f32 := fun y => movBlk k nk (y 0) (y 1) (y 2)

theorem ld_q (x : Vec Ideal S8x32x64 .f32) (b : Fin 8) (hi) (h : Fin 32) (d : Fin 64) :
    View.ld x (Rect.unit (s := S8x32x64) ![b.val, 0, 0] S1x32x64.size hi) (ix3 (0 : Fin 1) h d) = x (ix3 b h d) := by
  show x _ = x _
  congr 1
  funext a; apply Fin.ext
  match a with
  | ⟨0, _⟩ => show b.val + 1 * 0 = b.val; omega
  | ⟨1, _⟩ => show 0 + 1 * h.val = h.val; omega
  | ⟨2, _⟩ => show 0 + 1 * d.val = d.val; omega

theorem ld_c (x : Vec Ideal S8x128x256 .f32) (b : Fin 8) (hi) (s : Fin 128) (l : Fin 256) :
    View.ld x (Rect.unit (s := S8x128x256) ![b.val, 0, 0] S1x128x256.size hi) (ix3 (0 : Fin 1) s l) = x (ix3 b s l) := by
  show x _ = x _
  congr 1
  funext a; apply Fin.ext
  match a with
  | ⟨0, _⟩ => show b.val + 1 * 0 = b.val; omega
  | ⟨1, _⟩ => show 0 + 1 * s.val = s.val; omega
  | ⟨2, _⟩ => show 0 + 1 * l.val = l.val; omega

theorem ld_n (x : Vec Ideal S8x256 .f32) (b : Fin 8) (hi) (l : Fin 256) :
    View.ld x (Rect.unit (s := S8x256) ![b.val, 0] S1x256.size hi) (ix2 (0 : Fin 1) l) = x (ix2 b l) := by
  show x _ = x _
  congr 1
  funext a; apply Fin.ext
  match a with
  | ⟨0, _⟩ => show b.val + 1 * 0 = b.val; omega
  | ⟨1, _⟩ => show 0 + 1 * l.val = l.val; omega

theorem ld_s (x : Vec Ideal S32x1 .f32) (hi) (h : Fin 32) :
    View.ld x (Rect.unit (s := S32x1) ![0, 0] S32x1.size hi) (ix2 h (0 : Fin 1)) = x (ix2 h (0 : Fin 1)) := by
  show x _ = x _
  congr 1
  funext a; apply Fin.ext
  match a with
  | ⟨0, _⟩ => show 0 + 1 * h.val = h.val; omega
  | ⟨1, _⟩ => show 0 + 1 * 0 = 0; omega

/-- One row of the block's attention. -/
theorem att_piece (x0 : Vec Ideal S8x32x64 .f32) (x1 x2 : Vec Ideal S8x256 .f32) (x3 x4 : Vec Ideal S8x128x256 .f32) (x5 : Vec Ideal S32x1 .f32)
    (b : Fin 8) (h0 hq hn hc) (h : Fin 32) (d : Fin 64) :
    att (View.ld x5 (Rect.unit (s := S32x1) ![0, 0] S32x1.size h0)) (View.ld x0 (Rect.unit (s := S8x32x64) ![b.val, 0, 0] S1x32x64.size hq))
        (View.ld x1 (Rect.unit (s := S8x256) ![b.val, 0] S1x256.size hn)) (View.ld x2 (Rect.unit (s := S8x256) ![b.val, 0] S1x256.size hn))
        (View.ld x3 (Rect.unit (s := S8x128x256) ![b.val, 0, 0] S1x128x256.size hc)) (View.ld x4 (Rect.unit (s := S8x128x256) ![b.val, 0, 0] S1x128x256.size hc)) (ix3 (0 : Fin 1) h d)
      = attArr x0 x1 x2 x3 x4 x5 ((Rect.unit (s := S8x32x64) ![b.val, 0, 0] S1x32x64.size hq).emb (ix3 (0 : Fin 1) h d)) := by
  have e : (Rect.unit (s := S8x32x64) ![b.val, 0, 0] S1x32x64.size hq).emb (ix3 (0 : Fin 1) h d) = (ix3 b h d : S8x32x64.Idx) := by
    funext a; apply Fin.ext
    match a with
    | ⟨0, _⟩ => show b.val + 1 * 0 = b.val; omega
    | ⟨1, _⟩ => show 0 + 1 * h.val = h.val; omega
    | ⟨2, _⟩ => show 0 + 1 * d.val = d.val; omega
  rw [e, att_apply]
  show _ = attBlk x0 x1 x2 x3 x4 x5 b h d
  unfold attBlk
  congr 1
  · funext s
    exact congrArg (fun f => Finset.sum Finset.univ f * Ideal.ofBits .f32 0x3E000000#32) (funext fun e => congrArg₂ (fun p q : EReal => p * q) (ld_q ..) (ld_c ..))
  · funext s
    exact ld_c ..
  · exact congrArg (fun f => Finset.sum Finset.univ f * Ideal.ofBits .f32 0x3E000000#32) (funext fun e => congrArg₂ (fun p q : EReal => p * q) (ld_q ..) (ld_n ..))
  · exact ld_n ..
  · exact ld_s ..

/-- One row of the block's moved cache. -/
theorem mov_piece (k : Vec Ideal S8x128x256 .f32) (nk : Vec Ideal S8x256 .f32) (b : Fin 8) (hn hc) (s : Fin 128) (l : Fin 256) :
    rolled (View.ld k (Rect.unit (s := S8x128x256) ![b.val, 0, 0] S1x128x256.size hc)) (View.ld nk (Rect.unit (s := S8x256) ![b.val, 0] S1x256.size hn)) (ix3 (0 : Fin 1) s l)
      = movArr k nk ((Rect.unit (s := S8x128x256) ![b.val, 0, 0] S1x128x256.size hc).emb (ix3 (0 : Fin 1) s l)) := by
  have e : (Rect.unit (s := S8x128x256) ![b.val, 0, 0] S1x128x256.size hc).emb (ix3 (0 : Fin 1) s l) = (ix3 b s l : S8x128x256.Idx) := by
    funext a; apply Fin.ext
    match a with
    | ⟨0, _⟩ => show b.val + 1 * 0 = b.val; omega
    | ⟨1, _⟩ => show 0 + 1 * s.val = s.val; omega
    | ⟨2, _⟩ => show 0 + 1 * l.val = l.val; omega
  rw [e, rolled_apply]
  show _ = movBlk k nk b s l
  unfold movBlk
  rw [ld_n, ld_c]

theorem ix1_32 (i : S1x32x64.Idx) : ∃ (h : Fin 32) (d : Fin 64), i = ix3 (0 : Fin 1) h d :=
  ⟨i 1, i 2, (eq_ix3 i).trans (congrArg (fun z : Fin 1 => ix3 z (i 1) (i 2)) (Fin.ext (by have : (i 0).val < 1 := (i 0).isLt; show (i 0).val = 0; omega)))⟩

theorem ix1_128 (i : S1x128x256.Idx) : ∃ (s : Fin 128) (l : Fin 256), i = ix3 (0 : Fin 1) s l :=
  ⟨i 1, i 2, (eq_ix3 i).trans (congrArg (fun z : Fin 1 => ix3 z (i 1) (i 2)) (Fin.ext (by have : (i 0).val < 1 := (i 0).isLt; show (i 0).val = 0; omega)))⟩

set_option maxHeartbeats 1000000 in
/-- What a point leaves in the first result's buffer. -/
theorem out6_eq (x0 : Vec Ideal S8x32x64 .f32) (x1 x2 : Vec Ideal S8x256 .f32) (x3 x4 : Vec Ideal S8x128x256 .f32) (x5 : Vec Ideal S32x1 .f32) :
    out0_6 (F := Ideal) x0 x1 x2 x3 x4 x5 = attArr x0 x1 x2 x3 x4 x5 := by
  funext y
  unfold out0_6
  refine View.canon_apply_of_pieces (attArr x0 x1 x2 x3 x4 x5) _ (View.PiecesOf.mem ?_) y (cover0_6 _ _ _ _ _ _ _ _ y)
  refine ⟨?_, ?_, ?_, ?_, ?_, ?_, ?_, ?_, trivial⟩
  · intro (i : S1x32x64.Idx)
    obtain ⟨h, d, rfl⟩ := ix1_32 i
    exact att_piece x0 x1 x2 x3 x4 x5 7 _ _ _ _ h d
  · intro (i : S1x32x64.Idx)
    obtain ⟨h, d, rfl⟩ := ix1_32 i
    exact att_piece x0 x1 x2 x3 x4 x5 6 _ _ _ _ h d
  · intro (i : S1x32x64.Idx)
    obtain ⟨h, d, rfl⟩ := ix1_32 i
    exact att_piece x0 x1 x2 x3 x4 x5 5 _ _ _ _ h d
  · intro (i : S1x32x64.Idx)
    obtain ⟨h, d, rfl⟩ := ix1_32 i
    exact att_piece x0 x1 x2 x3 x4 x5 4 _ _ _ _ h d
  · intro (i : S1x32x64.Idx)
    obtain ⟨h, d, rfl⟩ := ix1_32 i
    exact att_piece x0 x1 x2 x3 x4 x5 3 _ _ _ _ h d
  · intro (i : S1x32x64.Idx)
    obtain ⟨h, d, rfl⟩ := ix1_32 i
    exact att_piece x0 x1 x2 x3 x4 x5 2 _ _ _ _ h d
  · intro (i : S1x32x64.Idx)
    obtain ⟨h, d, rfl⟩ := ix1_32 i
    exact att_piece x0 x1 x2 x3 x4 x5 1 _ _ _ _ h d
  · intro (i : S1x32x64.Idx)
    obtain ⟨h, d, rfl⟩ := ix1_32 i
    exact att_piece x0 x1 x2 x3 x4 x5 0 _ _ _ _ h d

/-- What a point leaves in a moved cache's buffer. -/
theorem out7_eq (x0 : Vec Ideal S8x32x64 .f32) (x1 x2 : Vec Ideal S8x256 .f32) (x3 x4 : Vec Ideal S8x128x256 .f32) (x5 : Vec Ideal S32x1 .f32) :
    out0_7 (F := Ideal) x0 x1 x2 x3 x4 x5 = movArr x3 x1 := by
  funext y
  unfold out0_7
  refine View.canon_apply_of_pieces (movArr x3 x1) _ (View.PiecesOf.mem ?_) y (cover0_7 _ _ _ _ _ _ _ _ y)
  refine ⟨?_, ?_, ?_, ?_, ?_, ?_, ?_, ?_, trivial⟩
  · intro (i : S1x128x256.Idx)
    obtain ⟨s, l, rfl⟩ := ix1_128 i
    exact mov_piece x3 x1 7 _ _ s l
  · intro (i : S1x128x256.Idx)
    obtain ⟨s, l, rfl⟩ := ix1_128 i
    exact mov_piece x3 x1 6 _ _ s l
  · intro (i : S1x128x256.Idx)
    obtain ⟨s, l, rfl⟩ := ix1_128 i
    exact mov_piece x3 x1 5 _ _ s l
  · intro (i : S1x128x256.Idx)
    obtain ⟨s, l, rfl⟩ := ix1_128 i
    exact mov_piece x3 x1 4 _ _ s l
  · intro (i : S1x128x256.Idx)
    obtain ⟨s, l, rfl⟩ := ix1_128 i
    exact mov_piece x3 x1 3 _ _ s l
  · intro (i : S1x128x256.Idx)
    obtain ⟨s, l, rfl⟩ := ix1_128 i
    exact mov_piece x3 x1 2 _ _ s l
  · intro (i : S1x128x256.Idx)
    obtain ⟨s, l, rfl⟩ := ix1_128 i
    exact mov_piece x3 x1 1 _ _ s l
  · intro (i : S1x128x256.Idx)
    obtain ⟨s, l, rfl⟩ := ix1_128 i
    exact mov_piece x3 x1 0 _ _ s l

/-- What a point leaves in a moved cache's buffer. -/
theorem out8_eq (x0 : Vec Ideal S8x32x64 .f32) (x1 x2 : Vec Ideal S8x256 .f32) (x3 x4 : Vec Ideal S8x128x256 .f32) (x5 : Vec Ideal S32x1 .f32) :
    out0_8 (F := Ideal) x0 x1 x2 x3 x4 x5 = movArr x4 x2 := by
  funext y
  unfold out0_8
  refine View.canon_apply_of_pieces (movArr x4 x2) _ (View.PiecesOf.mem ?_) y (cover0_8 _ _ _ _ _ _ _ _ y)
  refine ⟨?_, ?_, ?_, ?_, ?_, ?_, ?_, ?_, trivial⟩
  · intro (i : S1x128x256.Idx)
    obtain ⟨s, l, rfl⟩ := ix1_128 i
    exact mov_piece x4 x2 7 _ _ s l
  · intro (i : S1x128x256.Idx)
    obtain ⟨s, l, rfl⟩ := ix1_128 i
    exact mov_piece x4 x2 6 _ _ s l
  · intro (i : S1x128x256.Idx)
    obtain ⟨s, l, rfl⟩ := ix1_128 i
    exact mov_piece x4 x2 5 _ _ s l
  · intro (i : S1x128x256.Idx)
    obtain ⟨s, l, rfl⟩ := ix1_128 i
    exact mov_piece x4 x2 4 _ _ s l
  · intro (i : S1x128x256.Idx)
    obtain ⟨s, l, rfl⟩ := ix1_128 i
    exact mov_piece x4 x2 3 _ _ s l
  · intro (i : S1x128x256.Idx)
    obtain ⟨s, l, rfl⟩ := ix1_128 i
    exact mov_piece x4 x2 2 _ _ s l
  · intro (i : S1x128x256.Idx)
    obtain ⟨s, l, rfl⟩ := ix1_128 i
    exact mov_piece x4 x2 1 _ _ s l
  · intro (i : S1x128x256.Idx)
    obtain ⟨s, l, rfl⟩ := ix1_128 i
    exact mov_piece x4 x2 0 _ _ s l

/-! ## The results, whole -/

variable (x : Vec Ideal S128x2560 .f32) (kc vc : Vec Ideal S128x128x4x64 .f32) (sk : Vec Ideal S4x8 .f32)

/-- The attention of a row of the batch, at a head and a place of the head: over the cached keys, the new key, the sink. -/
def attnAt (b : Fin 128) (h : Fin 32) (d : Fin 64) : EReal :=
  outv (fun s : Fin 128 => (∑ e : Fin 64, x (ix2 b ⟨h.val * 64 + e.val, by omega⟩) * kc (ix4 b s (⟨h.val / 8, by omega⟩ : Fin 4) e)) * Ideal.ofBits .f32 0x3E000000#32)
    (fun s : Fin 128 => vc (ix4 b s (⟨h.val / 8, by omega⟩ : Fin 4) d))
    ((∑ e : Fin 64, x (ix2 b ⟨h.val * 64 + e.val, by omega⟩) * x (ix2 b ⟨2048 + (h.val / 8 * 64 + e.val), by omega⟩)) * Ideal.ofBits .f32 0x3E000000#32)
    (x (ix2 b ⟨2304 + (h.val / 8 * 64 + d.val), by omega⟩)) (sk (ix2 (⟨h.val / 8, by omega⟩ : Fin 4) (⟨h.val % 8, by omega⟩ : Fin 8)))

def attn : Vec Ideal S128x32x64 .bf16 := fun i => attnAt x kc vc sk (i 0) (i 1) (i 2)

/-- A cache moved on by one: the oldest token gone, the new one, read from column `o` on, last. -/
def movedAt (o : Nat) (ho : o ≤ 2304) (b : Fin 128) (s : Fin 128) (l : Fin 256) : EReal :=
  if s.val = 127 then x (ix2 b ⟨o + l.val, by omega⟩) else kc (ix4 b (⟨(s.val + 1) % 128, by omega⟩ : Fin 128) (⟨l.val / 64, by omega⟩ : Fin 4) (⟨l.val % 64, by omega⟩ : Fin 64))

def moved (o : Nat) (ho : o ≤ 2304) : Vec Ideal S128x128x256 .f32 := fun i => movedAt x kc o ho (i 0) (i 1) (i 2)

/-! ## The windows' arrays -/

theorem V_q (c : Dev nD) (b : Fin 128) (h : Fin 32) (e : Fin 64) :
    (V m c main_v3 : Vec Ideal S128x32x64 .f32) (ix3 b h e) = xArr m c (ix2 b ⟨h.val * 64 + e.val, by omega⟩) := by
  have h0 : (V m c main_v3 : Vec Ideal S128x32x64 .f32)
      = shapeCast S128x32x64 (extractStridedSlice S128x2048 ![0, 0] (xArr m c) slices_S128x2560_S128x2048_0_0) shapeCasts_S128x2048_S128x32x64 := by
    unfold_abbrev_sides
    simp only [hostOps0, List.flatten_cons, List.flatten_nil, List.append_nil, List.cons_append, List.nil_append]
    after_results
    rfl
  rw [h0]
  refine (shapeCast_apply _ _ _ (ix2 b (⟨h.val * 64 + e.val, by omega⟩ : Fin 2048)) (by
    rewrite [Shape.rowMajor_val_two, Shape.rowMajor_val_three]
    show b.val * 2048 + (h.val * 64 + e.val) = (b.val * 32 + h.val) * 64 + e.val
    omega)).trans ?_
  exact extractStridedSlice_apply _ _ _ _ _ (fun a => by
    match a with | ⟨0, _⟩ => exact (Nat.zero_add _).symm | ⟨1, _⟩ => exact (Nat.zero_add _).symm)

theorem cache_cast (y : Vec Ideal S128x128x4x64 .f32) (b s : Fin 128) (l : Fin 256) :
    shapeCast S128x128x256 y shapeCasts_S128x128x4x64_S128x128x256 (ix3 b s l) = y (ix4 b s (⟨l.val / 64, by omega⟩ : Fin 4) (⟨l.val % 64, by omega⟩ : Fin 64)) :=
  shapeCast_apply _ _ _ (ix4 b s (⟨l.val / 64, by omega⟩ : Fin 4) (⟨l.val % 64, by omega⟩ : Fin 64)) (by
    rewrite [Shape.rowMajor_val_three, Shape.rowMajor_val_four]
    show ((b.val * 128 + s.val) * 4 + l.val / 64) * 64 + l.val % 64 = (b.val * 128 + s.val) * 256 + l.val
    omega)

theorem V_k (c : Dev nD) (b s : Fin 128) (l : Fin 256) :
    (V m c main_v0 : Vec Ideal S128x128x256 .f32) (ix3 b s l) = kArr m c (ix4 b s (⟨l.val / 64, by omega⟩ : Fin 4) (⟨l.val % 64, by omega⟩ : Fin 64)) := by
  have h0 : (V m c main_v0 : Vec Ideal S128x128x256 .f32) = shapeCast S128x128x256 (kArr m c) shapeCasts_S128x128x4x64_S128x128x256 := by
    unfold_abbrev_sides
    simp only [hostOps0, List.flatten_cons, List.flatten_nil, List.append_nil, List.cons_append, List.nil_append]
    after_results
    rfl
  rw [h0]
  exact cache_cast _ b s l

theorem V_v (c : Dev nD) (b s : Fin 128) (l : Fin 256) :
    (V m c main_v1 : Vec Ideal S128x128x256 .f32) (ix3 b s l) = vArr m c (ix4 b s (⟨l.val / 64, by omega⟩ : Fin 4) (⟨l.val % 64, by omega⟩ : Fin 64)) := by
  have h0 : (V m c main_v1 : Vec Ideal S128x128x256 .f32) = shapeCast S128x128x256 (vArr m c) shapeCasts_S128x128x4x64_S128x128x256 := by
    unfold_abbrev_sides
    simp only [hostOps0, List.flatten_cons, List.flatten_nil, List.append_nil, List.cons_append, List.nil_append]
    after_results
    rfl
  rw [h0]
  exact cache_cast _ b s l

theorem V_s (c : Dev nD) (h : Fin 32) :
    (V m c main_v4 : Vec Ideal S32x1 .f32) (ix2 h 0) = sArr m c (ix2 (⟨h.val / 8, by omega⟩ : Fin 4) (⟨h.val % 8, by omega⟩ : Fin 8)) := by
  have h0 : (V m c main_v4 : Vec Ideal S32x1 .f32) = shapeCast S32x1 (sArr m c) shapeCasts_S4x8_S32x1 := by
    unfold_abbrev_sides
    simp only [hostOps0, List.flatten_cons, List.flatten_nil, List.append_nil, List.cons_append, List.nil_append]
    after_results
    rfl
  rw [h0]
  exact shapeCast_apply _ _ _ (ix2 (⟨h.val / 8, by omega⟩ : Fin 4) (⟨h.val % 8, by omega⟩ : Fin 8)) (by
    rewrite [Shape.rowMajor_val_two, Shape.rowMajor_val_two]
    show h.val / 8 * 8 + h.val % 8 = h.val * 1 + 0
    omega)

theorem idx_facts : ∀ t : Fin cfg0.N, (win0_0.index t (0 : Fin 3) = t.val ∧ win0_0.index t (1 : Fin 3) = 0 ∧ win0_0.index t (2 : Fin 3) = 0)
    ∧ (win0_1.index t (0 : Fin 2) = t.val ∧ win0_1.index t (1 : Fin 2) = 8) ∧ (win0_2.index t (0 : Fin 2) = t.val ∧ win0_2.index t (1 : Fin 2) = 9)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0)
    ∧ (win0_8.index t (0 : Fin 3) = t.val ∧ win0_8.index t (1 : Fin 3) = 0 ∧ win0_8.index t (2 : Fin 3) = 0) :=
  (by decide +kernel : ∀ t : Fin grid0.N, _)

/-- A row of the batch, from the grid point and the row in its block. -/
abbrev row (t : Fin cfg0.N) (b : Fin 8) : Fin 128 :=
  ⟨t.val * 8 + b.val, by have h : t.val < 16 := lt_of_lt_of_eq t.isLt (show cfg0.N = 16 from N_0); omega⟩

theorem iblk0_apply (c : Dev nD) (t : Fin cfg0.N) (b : Fin 8) (h : Fin 32) (e : Fin 64) :
    (iblk m c 0 t : Vec Ideal S8x32x64 .f32) (ix3 b h e) = xArr m c (ix2 (row t b) ⟨h.val * 64 + e.val, by omega⟩) := by
  obtain ⟨⟨e0, e1, e2⟩, -⟩ := idx_facts t
  refine Eq.trans ?_ (V_q m c (row t b) h e)
  show V m c main_v3 (((cfg0.win 0).blk t).view.emb (ix3 b h e)) = _
  congr 1
  funext a; apply Fin.ext
  match a with
  | ⟨0, _⟩ => show win0_0.index t (0 : Fin 3) * 8 + 1 * b.val = t.val * 8 + b.val; rw [e0]; omega
  | ⟨1, _⟩ => show win0_0.index t (1 : Fin 3) * 32 + 1 * h.val = h.val; rw [e1]; omega
  | ⟨2, _⟩ => show win0_0.index t (2 : Fin 3) * 64 + 1 * e.val = e.val; rw [e2]; omega

theorem iblk1_apply (c : Dev nD) (t : Fin cfg0.N) (b : Fin 8) (l : Fin 256) :
    (iblk m c 1 t : Vec Ideal S8x256 .f32) (ix2 b l) = xArr m c (ix2 (row t b) ⟨2048 + l.val, by omega⟩) := by
  obtain ⟨-, ⟨e0, e1⟩, -⟩ := idx_facts t
  show V m c main_arg0 (((cfg0.win 1).blk t).view.emb (ix2 b l)) = _
  rw [V_main_arg0]
  congr 1
  funext a; apply Fin.ext
  match a with
  | ⟨0, _⟩ => show win0_1.index t (0 : Fin 2) * 8 + 1 * b.val = t.val * 8 + b.val; rw [e0]; omega
  | ⟨1, _⟩ => show win0_1.index t (1 : Fin 2) * 256 + 1 * l.val = 2048 + l.val; rw [e1]; omega

theorem iblk2_apply (c : Dev nD) (t : Fin cfg0.N) (b : Fin 8) (l : Fin 256) :
    (iblk m c 2 t : Vec Ideal S8x256 .f32) (ix2 b l) = xArr m c (ix2 (row t b) ⟨2304 + l.val, by omega⟩) := by
  obtain ⟨-, -, ⟨e0, e1⟩, -⟩ := idx_facts t
  show V m c main_arg0 (((cfg0.win 2).blk t).view.emb (ix2 b l)) = _
  rw [V_main_arg0]
  congr 1
  funext a; apply Fin.ext
  match a with
  | ⟨0, _⟩ => show win0_2.index t (0 : Fin 2) * 8 + 1 * b.val = t.val * 8 + b.val; rw [e0]; omega
  | ⟨1, _⟩ => show win0_2.index t (1 : Fin 2) * 256 + 1 * l.val = 2304 + l.val; rw [e1]; omega

theorem iblk3_apply (c : Dev nD) (t : Fin cfg0.N) (b : Fin 8) (s : Fin 128) (l : Fin 256) :
    (iblk m c 3 t : Vec Ideal S8x128x256 .f32) (ix3 b s l) = kArr m c (ix4 (row t b) s (⟨l.val / 64, by omega⟩ : Fin 4) (⟨l.val % 64, by omega⟩ : Fin 64)) := by
  obtain ⟨-, -, -, ⟨e0, e1, e2⟩, -⟩ := idx_facts t
  refine Eq.trans ?_ (V_k m c (row t b) s l)
  show V m c main_v0 (((cfg0.win 3).blk t).view.emb (ix3 b s l)) = _
  congr 1
  funext a; apply Fin.ext
  match a with
  | ⟨0, _⟩ => show win0_3.index t (0 : Fin 3) * 8 + 1 * b.val = t.val * 8 + b.val; rw [e0]; omega
  | ⟨1, _⟩ => show win0_3.index t (1 : Fin 3) * 128 + 1 * s.val = s.val; rw [e1]; omega
  | ⟨2, _⟩ => show win0_3.index t (2 : Fin 3) * 256 + 1 * l.val = l.val; rw [e2]; omega

theorem iblk4_apply (c : Dev nD) (t : Fin cfg0.N) (b : Fin 8) (s : Fin 128) (l : Fin 256) :
    (iblk m c 4 t : Vec Ideal S8x128x256 .f32) (ix3 b s l) = vArr m c (ix4 (row t b) s (⟨l.val / 64, by omega⟩ : Fin 4) (⟨l.val % 64, by omega⟩ : Fin 64)) := by
  obtain ⟨-, -, -, -, ⟨e0, e1, e2⟩, -⟩ := idx_facts t
  refine Eq.trans ?_ (V_v m c (row t b) s l)
  show V m c main_v1 (((cfg0.win 4).blk t).view.emb (ix3 b s l)) = _
  congr 1
  funext a; apply Fin.ext
  match a with
  | ⟨0, _⟩ => show win0_4.index t (0 : Fin 3) * 8 + 1 * b.val = t.val * 8 + b.val; rw [e0]; omega
  | ⟨1, _⟩ => show win0_4.index t (1 : Fin 3) * 128 + 1 * s.val = s.val; rw [e1]; omega
  | ⟨2, _⟩ => show win0_4.index t (2 : Fin 3) * 256 + 1 * l.val = l.val; rw [e2]; omega

theorem iblk5_apply (c : Dev nD) (t : Fin cfg0.N) (h : Fin 32) :
    (iblk m c 5 t : Vec Ideal S32x1 .f32) (ix2 h 0) = sArr m c (ix2 (⟨h.val / 8, by omega⟩ : Fin 4) (⟨h.val % 8, by omega⟩ : Fin 8)) := by
  obtain ⟨-, -, -, -, -, ⟨e0, e1⟩, -⟩ := idx_facts t
  refine Eq.trans ?_ (V_s m c h)
  show V m c main_v4 (((cfg0.win 5).blk t).view.emb (ix2 h 0)) = _
  congr 1
  funext a; apply Fin.ext
  match a with
  | ⟨0, _⟩ => show win0_5.index t (0 : Fin 2) * 32 + 1 * h.val = h.val; rw [e0]; omega
  | ⟨1, _⟩ => show win0_5.index t (1 : Fin 2) * 1 + 1 * 0 = 0; rw [e1]

/-! ## The results after the run -/

theorem grp_div (h : Fin 32) (e : Fin 64) : (⟨(col h e).val / 64, by have := (col h e).isLt; omega⟩ : Fin 4) = ⟨h.val / 8, by omega⟩ :=
  Fin.ext (by show (h.val / 8 * 64 + e.val) / 64 = h.val / 8; omega)

theorem grp_mod (h : Fin 32) (e : Fin 64) : (⟨(col h e).val % 64, by omega⟩ : Fin 64) = e :=
  Fin.ext (by show (h.val / 8 * 64 + e.val) % 64 = e.val; omega)

/-- The rows of a point's block of result 0. -/
theorem emb6 (t : Fin cfg0.N) (b : Fin 8) (p : Fin 32) (q : Fin 64) :
    ((cfg0.win 6).blk t).view.emb (ix3 b p q : S8x32x64.Idx) = (ix3 (row t b) p q : S128x32x64.Idx) := by
  obtain ⟨-, -, -, -, -, -, ⟨e0, e1, e2⟩, -⟩ := idx_facts t
  funext a; apply Fin.ext
  match a with
  | ⟨0, _⟩ => show win0_6.index t (0 : Fin 3) * 8 + 1 * b.val = t.val * 8 + b.val; rw [e0]; omega
  | ⟨1, _⟩ => show win0_6.index t (1 : Fin 3) * 32 + 1 * p.val = p.val; rw [e1]; omega
  | ⟨2, _⟩ => show win0_6.index t (2 : Fin 3) * 64 + 1 * q.val = q.val; rw [e2]; omega

theorem flush6 : ∀ t : Fin cfg0.N, (cfg0.win 6).flush t = true :=
  (by decide +kernel : ∀ t : Fin grid0.N, _)

theorem flushed6_eq (c : Dev nD) (t : Fin cfg0.N) (hf : (cfg0.win 6).flush t = true) :
    (dats m 0 c).flushed 6 t = ((cfg0.win 6).blk t).view.read (Elt Ideal) (attn (xArr m c) (kArr m c) (vArr m c) (sArr m c)) := by
  rw [Value.flushed6]
  funext y
  obtain ⟨b, p, q, rfl⟩ : ∃ (b : Fin 8) (p : Fin 32) (q : Fin 64), y = ix3 b p q := ⟨y 0, y 1, y 2, eq_ix3 y⟩
  show out0_6 (iblk m c 0 t) (iblk m c 1 t) (iblk m c 2 t) (iblk m c 3 t) (iblk m c 4 t) (iblk m c 5 t) (ix3 b p q)
    = (attn (xArr m c) (kArr m c) (vArr m c) (sArr m c) : Vec Ideal S128x32x64 _) (((cfg0.win 6).blk t).view.emb (ix3 b p q))
  rw [emb6, out6_eq]
  show attBlk (iblk m c 0 t) (iblk m c 1 t) (iblk m c 2 t) (iblk m c 3 t) (iblk m c 4 t) (iblk m c 5 t) b p q
    = attnAt (xArr m c) (kArr m c) (vArr m c) (sArr m c) (row t b) p q
  unfold attBlk attnAt
  congr 1
  · funext s
    exact congrArg (fun f => Finset.sum Finset.univ f * Ideal.ofBits .f32 0x3E000000#32) (funext fun e => congrArg₂ (fun u w : EReal => u * w)
      (iblk0_apply m c t b p e) ((iblk3_apply m c t b s (col p e)).trans (by rw [grp_div, grp_mod])))
  · funext s
    exact (iblk4_apply m c t b s (col p q)).trans (by rw [grp_div, grp_mod])
  · exact congrArg (fun f => Finset.sum Finset.univ f * Ideal.ofBits .f32 0x3E000000#32) (funext fun e => congrArg₂ (fun u w : EReal => u * w)
      (iblk0_apply m c t b p e) (iblk1_apply m c t b (col p e)))
  · exact iblk2_apply m c t b (col p q)
  · exact iblk5_apply m c t p

/-- Result 0 after the run. -/
theorem final6 (c : Dev nD) : (dats m 0 c).arrAt 6 cfg0.N = attn (xArr m c) (kArr m c) (vArr m c) (sArr m c) :=
  (dats m 0 c).arrAt_eq_of_cover 6 _ (fun t hf => flushed6_eq m c t hf) fun i => by
    have h0 : (i (0 : Fin 3)).val < 128 := (i 0).isLt
    obtain ⟨t, b, e⟩ : ∃ (t : Fin cfg0.N) (b : Fin 8), (ix3 (row t b) (i 1) (i 2) : S128x32x64.Idx) = i :=
      ⟨⟨(i (0 : Fin 3)).val / 8, by rw [show cfg0.N = 16 from N_0]; omega⟩, ⟨(i (0 : Fin 3)).val % 8, by omega⟩, funext fun a => by
        match a with
        | ⟨0, _⟩ => exact Fin.ext (by show (i (0 : Fin 3)).val / 8 * 8 + (i (0 : Fin 3)).val % 8 = (i (0 : Fin 3)).val; omega)
        | ⟨1, _⟩ => rfl
        | ⟨2, _⟩ => rfl⟩
    have := ((cfg0.win 6).blk t).view.emb_mem_set (ix3 b (i 1) (i 2) : S8x32x64.Idx)
    exact ⟨t, flush6 t, Eq.mp (congrArg (· ∈ ((cfg0.win 6).blk t).view.set) ((emb6 t _ _ _).trans e)) this⟩

/-- The rows of a point's block of result 1. -/
theorem emb7 (t : Fin cfg0.N) (b : Fin 8) (p : Fin 128) (q : Fin 256) :
    ((cfg0.win 7).blk t).view.emb (ix3 b p q : S8x128x256.Idx) = (ix3 (row t b) p q : S128x128x256.Idx) := by
  obtain ⟨-, -, -, -, -, -, -, ⟨e0, e1, e2⟩, -⟩ := idx_facts t
  funext a; apply Fin.ext
  match a with
  | ⟨0, _⟩ => show win0_7.index t (0 : Fin 3) * 8 + 1 * b.val = t.val * 8 + b.val; rw [e0]; omega
  | ⟨1, _⟩ => show win0_7.index t (1 : Fin 3) * 128 + 1 * p.val = p.val; rw [e1]; omega
  | ⟨2, _⟩ => show win0_7.index t (2 : Fin 3) * 256 + 1 * q.val = q.val; rw [e2]; omega

theorem flush7 : ∀ t : Fin cfg0.N, (cfg0.win 7).flush t = true :=
  (by decide +kernel : ∀ t : Fin grid0.N, _)

theorem flushed7_eq (c : Dev nD) (t : Fin cfg0.N) (hf : (cfg0.win 7).flush t = true) :
    (dats m 0 c).flushed 7 t = ((cfg0.win 7).blk t).view.read (Elt Ideal) (moved (xArr m c) (kArr m c) 2048 (by omega)) := by
  rw [Value.flushed7]
  funext y
  obtain ⟨b, p, q, rfl⟩ : ∃ (b : Fin 8) (p : Fin 128) (q : Fin 256), y = ix3 b p q := ⟨y 0, y 1, y 2, eq_ix3 y⟩
  show out0_7 (iblk m c 0 t) (iblk m c 1 t) (iblk m c 2 t) (iblk m c 3 t) (iblk m c 4 t) (iblk m c 5 t) (ix3 b p q)
    = (moved (xArr m c) (kArr m c) 2048 (by omega) : Vec Ideal S128x128x256 _) (((cfg0.win 7).blk t).view.emb (ix3 b p q))
  rw [emb7, out7_eq]
  show movBlk (iblk m c 3 t) (iblk m c 1 t) b p q = movedAt (xArr m c) (kArr m c) 2048 _ (row t b) p q
  unfold movBlk movedAt
  rw [show (iblk m c 1 t : Vec Ideal S8x256 .f32) (ix2 b q) = _ from iblk1_apply m c t b q,
    show (iblk m c 3 t : Vec Ideal S8x128x256 .f32) (ix3 b ⟨(p.val + 1) % 128, _⟩ q) = _ from iblk3_apply m c t b _ q]

/-- Result 1 after the run. -/
theorem final7 (c : Dev nD) : (dats m 0 c).arrAt 7 cfg0.N = moved (xArr m c) (kArr m c) 2048 (by omega) :=
  (dats m 0 c).arrAt_eq_of_cover 7 _ (fun t hf => flushed7_eq m c t hf) fun i => by
    have h0 : (i (0 : Fin 3)).val < 128 := (i 0).isLt
    obtain ⟨t, b, e⟩ : ∃ (t : Fin cfg0.N) (b : Fin 8), (ix3 (row t b) (i 1) (i 2) : S128x128x256.Idx) = i :=
      ⟨⟨(i (0 : Fin 3)).val / 8, by rw [show cfg0.N = 16 from N_0]; omega⟩, ⟨(i (0 : Fin 3)).val % 8, by omega⟩, funext fun a => by
        match a with
        | ⟨0, _⟩ => exact Fin.ext (by show (i (0 : Fin 3)).val / 8 * 8 + (i (0 : Fin 3)).val % 8 = (i (0 : Fin 3)).val; omega)
        | ⟨1, _⟩ => rfl
        | ⟨2, _⟩ => rfl⟩
    have := ((cfg0.win 7).blk t).view.emb_mem_set (ix3 b (i 1) (i 2) : S8x128x256.Idx)
    exact ⟨t, flush7 t, Eq.mp (congrArg (· ∈ ((cfg0.win 7).blk t).view.set) ((emb7 t _ _ _).trans e)) this⟩

/-- The rows of a point's block of result 2. -/
theorem emb8 (t : Fin cfg0.N) (b : Fin 8) (p : Fin 128) (q : Fin 256) :
    ((cfg0.win 8).blk t).view.emb (ix3 b p q : S8x128x256.Idx) = (ix3 (row t b) p q : S128x128x256.Idx) := by
  obtain ⟨-, -, -, -, -, -, -, -, ⟨e0, e1, e2⟩⟩ := idx_facts t
  funext a; apply Fin.ext
  match a with
  | ⟨0, _⟩ => show win0_8.index t (0 : Fin 3) * 8 + 1 * b.val = t.val * 8 + b.val; rw [e0]; omega
  | ⟨1, _⟩ => show win0_8.index t (1 : Fin 3) * 128 + 1 * p.val = p.val; rw [e1]; omega
  | ⟨2, _⟩ => show win0_8.index t (2 : Fin 3) * 256 + 1 * q.val = q.val; rw [e2]; omega

theorem flush8 : ∀ t : Fin cfg0.N, (cfg0.win 8).flush t = true :=
  (by decide +kernel : ∀ t : Fin grid0.N, _)

theorem flushed8_eq (c : Dev nD) (t : Fin cfg0.N) (hf : (cfg0.win 8).flush t = true) :
    (dats m 0 c).flushed 8 t = ((cfg0.win 8).blk t).view.read (Elt Ideal) (moved (xArr m c) (vArr m c) 2304 (by omega)) := by
  rw [Value.flushed8]
  funext y
  obtain ⟨b, p, q, rfl⟩ : ∃ (b : Fin 8) (p : Fin 128) (q : Fin 256), y = ix3 b p q := ⟨y 0, y 1, y 2, eq_ix3 y⟩
  show out0_8 (iblk m c 0 t) (iblk m c 1 t) (iblk m c 2 t) (iblk m c 3 t) (iblk m c 4 t) (iblk m c 5 t) (ix3 b p q)
    = (moved (xArr m c) (vArr m c) 2304 (by omega) : Vec Ideal S128x128x256 _) (((cfg0.win 8).blk t).view.emb (ix3 b p q))
  rw [emb8, out8_eq]
  show movBlk (iblk m c 4 t) (iblk m c 2 t) b p q = movedAt (xArr m c) (vArr m c) 2304 _ (row t b) p q
  unfold movBlk movedAt
  rw [show (iblk m c 2 t : Vec Ideal S8x256 .f32) (ix2 b q) = _ from iblk2_apply m c t b q,
    show (iblk m c 4 t : Vec Ideal S8x128x256 .f32) (ix3 b ⟨(p.val + 1) % 128, _⟩ q) = _ from iblk4_apply m c t b _ q]

/-- Result 2 after the run. -/
theorem final8 (c : Dev nD) : (dats m 0 c).arrAt 8 cfg0.N = moved (xArr m c) (vArr m c) 2304 (by omega) :=
  (dats m 0 c).arrAt_eq_of_cover 8 _ (fun t hf => flushed8_eq m c t hf) fun i => by
    have h0 : (i (0 : Fin 3)).val < 128 := (i 0).isLt
    obtain ⟨t, b, e⟩ : ∃ (t : Fin cfg0.N) (b : Fin 8), (ix3 (row t b) (i 1) (i 2) : S128x128x256.Idx) = i :=
      ⟨⟨(i (0 : Fin 3)).val / 8, by rw [show cfg0.N = 16 from N_0]; omega⟩, ⟨(i (0 : Fin 3)).val % 8, by omega⟩, funext fun a => by
        match a with
        | ⟨0, _⟩ => exact Fin.ext (by show (i (0 : Fin 3)).val / 8 * 8 + (i (0 : Fin 3)).val % 8 = (i (0 : Fin 3)).val; omega)
        | ⟨1, _⟩ => rfl
        | ⟨2, _⟩ => rfl⟩
    have := ((cfg0.win 8).blk t).view.emb_mem_set (ix3 b (i 1) (i 2) : S8x128x256.Idx)
    exact ⟨t, flush8 t, Eq.mp (congrArg (· ∈ ((cfg0.win 8).blk t).view.set) ((emb8 t _ _ _).trans e)) this⟩

end Cert.AttnSampleIdeal.Proved
end
-- ==== Proof.AttnSampleRef.lean ====
/-
  The single-token attention reference's operations read one by one at an index: the cache with the new token after it, the mask,
  which lets every key through, the logits with the sink at the end of the row, the weights, and the sum over the keys.
-/
module

public import proofs.«01_k».proof.Proof.AttnSampleOut
public import proofs.«01_k».proof.Proof.Gen.AttnSampleRefIdeal.Run
public import proofs.«01_k».proof.Proof.Gen.AttnSampleRefIdeal.Read
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.AttnSampleRefIdeal.Proved

open Cert.AttnSampleRefIdeal Cert.AttnSampleRefIdeal.Gen Cert.AttnSampleRefIdeal.Read

variable (x : Vec Ideal S128x2560 .f32) (kc vc : Vec Ideal S128x128x4x64 .f32) (sk : Vec Ideal S4x8 .f32)

/-- The queries, split into heads. -/
theorem v1_at (b : Fin 128) (z : Fin 1) (u : Fin 4) (g : Fin 8) (e : Fin 64) :
    val_main_v1 (F := Ideal) x (ix5 b z u g e) = x (ix2 b ⟨u.val * 512 + g.val * 64 + e.val, by omega⟩) := by
  rw [val_main_v1_apply, val_main_v0_apply]
  refine congrArg x (funext fun a => Fin.ext ?_)
  match a with
  | ⟨0, _⟩ => show ((((b.val * 1 + z.val) * 4 + u.val) * 8 + g.val) * 64 + e.val) / 2048 = b.val; omega
  | ⟨1, _⟩ => show ((((b.val * 1 + z.val) * 4 + u.val) * 8 + g.val) * 64 + e.val) % 2048 = u.val * 512 + g.val * 64 + e.val; omega

/-- The new key, split into heads. -/
theorem v3_at (b : Fin 128) (z : Fin 1) (u : Fin 4) (e : Fin 64) :
    val_main_v3 (F := Ideal) x (ix4 b z u e) = x (ix2 b ⟨2048 + (u.val * 64 + e.val), by omega⟩) := by
  rw [val_main_v3_apply, val_main_v2_apply]
  refine congrArg x (funext fun a => Fin.ext ?_)
  match a with
  | ⟨0, _⟩ => show (((b.val * 1 + z.val) * 4 + u.val) * 64 + e.val) / 256 = b.val; omega
  | ⟨1, _⟩ => show 2048 + (((b.val * 1 + z.val) * 4 + u.val) * 64 + e.val) % 256 = 2048 + (u.val * 64 + e.val); omega

/-- The new value, split into heads. -/
theorem v5_at (b : Fin 128) (z : Fin 1) (u : Fin 4) (e : Fin 64) :
    val_main_v5 (F := Ideal) x (ix4 b z u e) = x (ix2 b ⟨2304 + (u.val * 64 + e.val), by omega⟩) := by
  rw [val_main_v5_apply, val_main_v4_apply]
  refine congrArg x (funext fun a => Fin.ext ?_)
  match a with
  | ⟨0, _⟩ => show (((b.val * 1 + z.val) * 4 + u.val) * 64 + e.val) / 256 = b.val; omega
  | ⟨1, _⟩ => show 2304 + (((b.val * 1 + z.val) * 4 + u.val) * 64 + e.val) % 256 = 2304 + (u.val * 64 + e.val); omega

/-- The keys: the cache, then the new one. -/
theorem v6_old (b : Fin 128) (s : Fin 128) (u : Fin 4) (e : Fin 64) :
    val_main_v6 (F := Ideal) x kc (ix4 b (⟨s.val, by omega⟩ : Fin 129) u e) = kc (ix4 b s u e) := by
  unfold val_main_v6
  exact concatenate_pair_apply_left (1 : Fin 4) kc (val_main_v3 (F := Ideal) x) _ (ix4 b (⟨s.val, by omega⟩ : Fin 129) u e : S128x129x4x64.Idx) rfl (ix4 b s u e : S128x128x4x64.Idx)
    (fun a => by match a with | ⟨0, _⟩ => rfl | ⟨1, _⟩ => rfl | ⟨2, _⟩ => rfl | ⟨3, _⟩ => rfl)

theorem v6_new (b : Fin 128) (u : Fin 4) (e : Fin 64) :
    val_main_v6 (F := Ideal) x kc (ix4 b (⟨128, by omega⟩ : Fin 129) u e) = x (ix2 b ⟨2048 + (u.val * 64 + e.val), by omega⟩) := by
  unfold val_main_v6
  exact (concatenate_pair_apply_right (1 : Fin 4) kc (val_main_v3 (F := Ideal) x) _ (ix4 b (⟨128, by omega⟩ : Fin 129) u e : S128x129x4x64.Idx) rfl rfl (ix4 b (0 : Fin 1) u e : S128x1x4x64.Idx)
    (fun a ha => by match a with | ⟨0, _⟩ => rfl | ⟨1, _⟩ => exact absurd rfl ha | ⟨2, _⟩ => rfl | ⟨3, _⟩ => rfl) rfl).trans (v3_at x b 0 u e)

/-- The values: the cache, then the new one. -/
theorem v7_old (b : Fin 128) (s : Fin 128) (u : Fin 4) (e : Fin 64) :
    val_main_v7 (F := Ideal) x vc (ix4 b (⟨s.val, by omega⟩ : Fin 129) u e) = vc (ix4 b s u e) := by
  unfold val_main_v7
  exact concatenate_pair_apply_left (1 : Fin 4) vc (val_main_v5 (F := Ideal) x) _ (ix4 b (⟨s.val, by omega⟩ : Fin 129) u e : S128x129x4x64.Idx) rfl (ix4 b s u e : S128x128x4x64.Idx)
    (fun a => by match a with | ⟨0, _⟩ => rfl | ⟨1, _⟩ => rfl | ⟨2, _⟩ => rfl | ⟨3, _⟩ => rfl)

theorem v7_new (b : Fin 128) (u : Fin 4) (e : Fin 64) :
    val_main_v7 (F := Ideal) x vc (ix4 b (⟨128, by omega⟩ : Fin 129) u e) = x (ix2 b ⟨2304 + (u.val * 64 + e.val), by omega⟩) := by
  unfold val_main_v7
  exact (concatenate_pair_apply_right (1 : Fin 4) vc (val_main_v5 (F := Ideal) x) _ (ix4 b (⟨128, by omega⟩ : Fin 129) u e : S128x129x4x64.Idx) rfl rfl (ix4 b (0 : Fin 1) u e : S128x1x4x64.Idx)
    (fun a ha => by match a with | ⟨0, _⟩ => rfl | ⟨1, _⟩ => exact absurd rfl ha | ⟨2, _⟩ => rfl | ⟨3, _⟩ => rfl) rfl).trans (v5_at x b 0 u e)

/-- The keys' positions. -/
theorem v12_old (s : Fin 128) : val_main_v12 (F := Ideal) (ix1 (⟨s.val, by omega⟩ : Fin 129)) = IntOp.addi 4294967168#32 (BitVec.ofNat 32 s.val) := by
  unfold val_main_v12
  refine (concatenate_pair_apply_left (0 : Fin 1) (val_main_v10 (F := Ideal)) (val_main_v11 (F := Ideal)) _ (ix1 (⟨s.val, by omega⟩ : Fin 129) : S129.Idx) rfl (ix1 s : S128.Idx)
    (fun a => by match a with | ⟨0, _⟩ => rfl)).trans ?_
  rw [val_main_v10_apply, val_main_v9_apply, val_main_c_apply, val_main_v8_apply]
  rfl

theorem v12_new : val_main_v12 (F := Ideal) (ix1 (⟨128, by omega⟩ : Fin 129)) = 0#32 := by
  unfold val_main_v12
  refine (concatenate_pair_apply_right (0 : Fin 1) (val_main_v10 (F := Ideal)) (val_main_v11 (F := Ideal)) _ (ix1 (⟨128, by omega⟩ : Fin 129) : S129.Idx) rfl rfl (ix1 (0 : Fin 1) : S1.Idx)
    (fun a ha => by match a with | ⟨0, _⟩ => exact absurd rfl ha) rfl).trans ?_
  rw [val_main_v11_apply]
  rfl

/-- The mask lets every key through. -/
theorem mask_at (b : Fin 128) (u : Fin 4) (g : Fin 8) (z : Fin 1) (k : Fin 129) : val_main_call0_v1 (F := Ideal) (ix5 b u g z k) = 1#1 := by
  have e : idx_main_v15 (idx_main_v27 (idx_main_call0_v1 (ix5 b u g z k))) = ix1 k := funext fun a => by match a with | ⟨0, _⟩ => rfl
  rw [val_main_call0_v1_apply, val_main_v27_apply, val_main_v22_apply, val_main_v21_apply, val_main_v19_apply, val_main_v20_apply, val_main_c_1_apply, val_main_v18_apply, val_main_c_0_apply,
    val_main_v17_apply, val_main_v16_apply, val_main_v14_apply, val_main_v13_apply, val_main_v15_apply, e]
  by_cases h : k.val < 128
  · have hk : k = (⟨(⟨k.val, h⟩ : Fin 128).val, by omega⟩ : Fin 129) := rfl
    rw [hk, v12_old]
    exact (by decide +kernel : ∀ s : Fin 128, IntOp.andi (IntOp.cmpi .sge (IntOp.subi (BitVec.ofNat 32 0) (IntOp.addi 4294967168#32 (BitVec.ofNat 32 s.val))) 0#32)
      (IntOp.cmpi .sle (IntOp.subi (BitVec.ofNat 32 0) (IntOp.addi 4294967168#32 (BitVec.ofNat 32 s.val))) 128#32) = 1#1) ⟨k.val, h⟩
  · have hk : k = (⟨128, by omega⟩ : Fin 129) := Fin.ext (by have := k.isLt; show k.val = 128; omega)
    rw [hk, v12_new]
    show IntOp.andi (IntOp.cmpi .sge (IntOp.subi (BitVec.ofNat 32 0) 0#32) 0#32) (IntOp.cmpi .sle (IntOp.subi (BitVec.ofNat 32 0) 0#32) 128#32) = 1#1
    decide +kernel

/-- A logit. -/
theorem v28_at (b : Fin 128) (u : Fin 4) (g : Fin 8) (k : Fin 129) :
    val_main_v28 (F := Ideal) x kc (ix5 b u g (0 : Fin 1) k)
      = (∑ e : Fin 64, x (ix2 b ⟨u.val * 512 + g.val * 64 + e.val, by omega⟩) * val_main_v6 (F := Ideal) x kc (ix4 b k u e)) * Ideal.ofBits .f32 0x3E000000#32 := by
  rw [val_main_v28_apply, mask_at, val_main_v26_apply, val_main_v25_apply, val_main_v24_apply, val_main_v23_apply, val_main_cst_apply]
  show (∑ e : Fin 64, _) * _ = _
  refine congrArg (· * Ideal.ofBits .f32 0x3E000000#32) (Finset.sum_congr rfl fun e _ => ?_)
  rw [mul_comm, ← v1_at x b 0 u g e]
  refine congrArg₂ (· * ·) (congrArg _ (funext fun a => ?_)) (congrArg _ (funext fun a => ?_))
  · match a with | ⟨0, _⟩ => rfl | ⟨1, _⟩ => rfl | ⟨2, _⟩ => rfl | ⟨3, _⟩ => rfl | ⟨4, _⟩ => rfl
  · match a with | ⟨0, _⟩ => rfl | ⟨1, _⟩ => rfl | ⟨2, _⟩ => rfl | ⟨3, _⟩ => rfl

/-- The row of logits with the sink at its end. -/
theorem v31_key (b : Fin 128) (u : Fin 4) (g : Fin 8) (k : Fin 129) :
    val_main_v31 (F := Ideal) x kc sk (ix5 b u g (0 : Fin 1) (⟨k.val, by omega⟩ : Fin 130)) = val_main_v28 (F := Ideal) x kc (ix5 b u g (0 : Fin 1) k) := by
  unfold val_main_v31
  exact concatenate_pair_apply_left (4 : Fin 5) (val_main_v28 (F := Ideal) x kc) (val_main_v30 (F := Ideal) sk) _ (ix5 b u g (0 : Fin 1) (⟨k.val, by omega⟩ : Fin 130) : S128x4x8x1x130.Idx) rfl
    (ix5 b u g (0 : Fin 1) k : S128x4x8x1x129.Idx)
    (fun a => by match a with | ⟨0, _⟩ => rfl | ⟨1, _⟩ => rfl | ⟨2, _⟩ => rfl | ⟨3, _⟩ => rfl | ⟨4, _⟩ => rfl)

theorem v31_sink (b : Fin 128) (u : Fin 4) (g : Fin 8) :
    val_main_v31 (F := Ideal) x kc sk (ix5 b u g (0 : Fin 1) (⟨129, by omega⟩ : Fin 130)) = sk (ix2 u g) := by
  unfold val_main_v31
  rw [concatenate_pair_apply_right (4 : Fin 5) (val_main_v28 (F := Ideal) x kc) (val_main_v30 (F := Ideal) sk) _ (ix5 b u g (0 : Fin 1) (⟨129, by omega⟩ : Fin 130) : S128x4x8x1x130.Idx) rfl rfl
    (ix5 b u g (0 : Fin 1) (0 : Fin 1) : S128x4x8x1x1.Idx)
    (fun a ha => by match a with | ⟨0, _⟩ => rfl | ⟨1, _⟩ => rfl | ⟨2, _⟩ => rfl | ⟨3, _⟩ => rfl | ⟨4, _⟩ => exact absurd rfl ha)
    rfl, val_main_v30_apply, val_main_v29_apply]
  refine congrArg sk (funext fun a => ?_)
  match a with | ⟨0, _⟩ => rfl | ⟨1, _⟩ => rfl

/-- The greatest logit of a row. -/
theorem v34_at (b : Fin 128) (u : Fin 4) (g : Fin 8) :
    val_main_v34 (F := Ideal) x kc sk (ix4 b u g (0 : Fin 1))
      = max ⊥ (Finset.fold max ⊥ (fun k : Fin 130 => val_main_v31 (F := Ideal) x kc sk (ix5 b u g (0 : Fin 1) k)) Finset.univ) := by
  have hb : Ideal.ofBits FTy.f32 0xFF800000#32 = ⊥ := by simp [Ideal.ofBits, Ideal.ieee]
  rw [val_main_v34_apply, val_main_v33_apply, val_main_cst_4_apply]
  refine congrArg₂ max hb ?_
  unfold val_main_v32
  refine (Host.reduce_eq_fold_single (FloatOps.maximumf (F := Ideal) (φ := .f32)) (val_main_v31 (F := Ideal) x kc sk) (val_main_cst_3 (F := Ideal)) reducesTo_S128x4x8x1x130_S128x4x8x1_d4 (by decide) h_S_ (ix4 b u g (0 : Fin 1))).trans ?_
  rw [val_main_cst_3_apply]
  refine (congrArg₂ (fun (z : EReal) (f : Fin 130 → EReal) => Finset.fold max z f Finset.univ) hb (funext fun k => congrArg (val_main_v31 (F := Ideal) x kc sk) (funext fun a => ?_)) : _)
  match a with | ⟨0, _⟩ => rfl | ⟨1, _⟩ => rfl | ⟨2, _⟩ => rfl | ⟨3, _⟩ => rfl | ⟨4, _⟩ => rfl

/-- A weight before the division. -/
theorem v38_at (b : Fin 128) (u : Fin 4) (g : Fin 8) (k : Fin 130) :
    val_main_v38 (F := Ideal) x kc sk (ix5 b u g (0 : Fin 1) k)
      = Ideal.exp (val_main_v31 (F := Ideal) x kc sk (ix5 b u g (0 : Fin 1) k) - val_main_v34 (F := Ideal) x kc sk (ix4 b u g (0 : Fin 1))) := by
  rw [val_main_v38_apply, val_main_v37_apply, val_main_v36_apply, val_main_v35_apply]
  have e : idx_main_v35 (idx_main_v36 (ix5 b u g (0 : Fin 1) k)) = ix4 b u g (0 : Fin 1) := funext fun a => by
    match a with | ⟨0, _⟩ => rfl | ⟨1, _⟩ => rfl | ⟨2, _⟩ => rfl | ⟨3, _⟩ => rfl
  rw [e]
  rfl

/-- A weight. -/
theorem v43_at (b : Fin 128) (u : Fin 4) (g : Fin 8) (k : Fin 129) :
    val_main_v43 (F := Ideal) x kc sk (ix5 b u g (0 : Fin 1) k)
      = Ideal.div (val_main_v38 (F := Ideal) x kc sk (ix5 b u g (0 : Fin 1) (⟨k.val, by omega⟩ : Fin 130))) (0 + ∑ k : Fin 130, val_main_v38 (F := Ideal) x kc sk (ix5 b u g (0 : Fin 1) k)) := by
  rw [val_main_v43_apply, val_main_v42_apply, val_main_v41_apply, val_main_v40_apply, val_main_v39_apply, val_main_cst_5_apply]
  refine congrArg₂ Ideal.div (congrArg _ (funext fun a => ?_)) (congrArg₂ (· + ·) (by show Ideal.ofBits .f32 0#32 = 0; simp [Ideal.ofBits, Ideal.ieee]) (Finset.sum_congr rfl fun k _ => congrArg _ (funext fun a => ?_)))
  · match a with | ⟨0, _⟩ => rfl | ⟨1, _⟩ => rfl | ⟨2, _⟩ => rfl | ⟨3, _⟩ => rfl | ⟨4, _⟩ => rfl
  · match a with | ⟨0, _⟩ => rfl | ⟨1, _⟩ => rfl | ⟨2, _⟩ => rfl | ⟨3, _⟩ => rfl | ⟨4, _⟩ => rfl

/-- The first result at an index, as the sum over the keys. -/
theorem v47_at (b : Fin 128) (h : Fin 32) (d : Fin 64) :
    val_main_v47 (F := Ideal) x kc vc sk (ix3 b h d)
      = ∑ k : Fin 129, val_main_v7 (F := Ideal) x vc (ix4 b k (⟨h.val / 8, by omega⟩ : Fin 4) d)
          * val_main_v43 (F := Ideal) x kc sk (ix5 b (⟨h.val / 8, by omega⟩ : Fin 4) (⟨h.val % 8, by omega⟩ : Fin 8) (0 : Fin 1) k) := by
  rw [val_main_v47_apply]
  show val_main_v46 (F := Ideal) x kc vc sk _ = _
  have e : idx_main_v46 (ix3 b h d) = ix5 b (0 : Fin 1) (⟨h.val / 8, by omega⟩ : Fin 4) (⟨h.val % 8, by omega⟩ : Fin 8) d := funext fun a => Fin.ext (by
    match a with
    | ⟨0, _⟩ => show ((b.val * 32 + h.val) * 64 + d.val) / 2048 = b.val; omega
    | ⟨1, _⟩ => rfl
    | ⟨2, _⟩ => show ((b.val * 32 + h.val) * 64 + d.val) / 512 % 4 = h.val / 8; omega
    | ⟨3, _⟩ => show ((b.val * 32 + h.val) * 64 + d.val) / 64 % 8 = h.val % 8; omega
    | ⟨4, _⟩ => show ((b.val * 32 + h.val) * 64 + d.val) % 64 = d.val; omega)
  rw [val_main_v46_apply, e, val_main_v45_apply, val_main_v44_apply]
  refine Finset.sum_congr rfl fun k _ => congrArg₂ (· * ·) (congrArg _ (funext fun a => ?_)) (congrArg _ (funext fun a => ?_))
  · match a with | ⟨0, _⟩ => rfl | ⟨1, _⟩ => rfl | ⟨2, _⟩ => rfl | ⟨3, _⟩ => rfl
  · match a with | ⟨0, _⟩ => rfl | ⟨1, _⟩ => rfl | ⟨2, _⟩ => rfl | ⟨3, _⟩ => rfl | ⟨4, _⟩ => rfl

open Cert.AttnSampleIdeal.Proved (moved movedAt)

/-- The moved cache of keys. -/
theorem v49_eq : val_main_v49 (F := Ideal) x kc = moved x kc 2048 (by omega) := by
  funext i
  obtain ⟨b, s, l, rfl⟩ : ∃ (b s : Fin 128) (l : Fin 256), i = ix3 b s l := ⟨i 0, i 1, i 2, eq_ix3 i⟩
  have e : idx_main_v48 (idx_main_v49 (ix3 b s l)) = ix4 b (⟨1 + s.val, by omega⟩ : Fin 129) (⟨l.val / 64, by omega⟩ : Fin 4) (⟨l.val % 64, by omega⟩ : Fin 64) := funext fun a => Fin.ext (by
    match a with
    | ⟨0, _⟩ => show ((b.val * 128 + s.val) * 256 + l.val) / 32768 = b.val; omega
    | ⟨1, _⟩ => show 1 + ((b.val * 128 + s.val) * 256 + l.val) / 256 % 128 = 1 + s.val; omega
    | ⟨2, _⟩ => show ((b.val * 128 + s.val) * 256 + l.val) / 64 % 4 = l.val / 64; omega
    | ⟨3, _⟩ => show ((b.val * 128 + s.val) * 256 + l.val) % 64 = l.val % 64; omega)
  rw [val_main_v49_apply, val_main_v48_apply, e]
  show _ = movedAt x kc 2048 _ b s l
  unfold movedAt
  split
  · rename_i h
    refine (congrArg (fun k : Fin 129 => val_main_v6 (F := Ideal) x kc (ix4 b k (⟨l.val / 64, by omega⟩ : Fin 4) (⟨l.val % 64, by omega⟩ : Fin 64))) (Fin.ext (by show 1 + s.val = 128; omega))).trans ((v6_new x kc b _ _).trans ?_)
    exact congrArg x (congrArg (ix2 b) (Fin.ext (by show 2048 + (l.val / 64 * 64 + l.val % 64) = 2048 + l.val; omega)))
  · rename_i h
    refine (congrArg (fun k : Fin 129 => val_main_v6 (F := Ideal) x kc (ix4 b k (⟨l.val / 64, by omega⟩ : Fin 4) (⟨l.val % 64, by omega⟩ : Fin 64))) (Fin.ext (by show 1 + s.val = (s.val + 1) % 128; omega))).trans
      (v6_old x kc b ⟨(s.val + 1) % 128, by omega⟩ _ _)

/-- The moved cache of values. -/
theorem v51_eq : val_main_v51 (F := Ideal) x vc = moved x vc 2304 (by omega) := by
  funext i
  obtain ⟨b, s, l, rfl⟩ : ∃ (b s : Fin 128) (l : Fin 256), i = ix3 b s l := ⟨i 0, i 1, i 2, eq_ix3 i⟩
  have e : idx_main_v50 (idx_main_v51 (ix3 b s l)) = ix4 b (⟨1 + s.val, by omega⟩ : Fin 129) (⟨l.val / 64, by omega⟩ : Fin 4) (⟨l.val % 64, by omega⟩ : Fin 64) := funext fun a => Fin.ext (by
    match a with
    | ⟨0, _⟩ => show ((b.val * 128 + s.val) * 256 + l.val) / 32768 = b.val; omega
    | ⟨1, _⟩ => show 1 + ((b.val * 128 + s.val) * 256 + l.val) / 256 % 128 = 1 + s.val; omega
    | ⟨2, _⟩ => show ((b.val * 128 + s.val) * 256 + l.val) / 64 % 4 = l.val / 64; omega
    | ⟨3, _⟩ => show ((b.val * 128 + s.val) * 256 + l.val) % 64 = l.val % 64; omega)
  rw [val_main_v51_apply, val_main_v50_apply, e]
  show _ = movedAt x vc 2304 _ b s l
  unfold movedAt
  split
  · rename_i h
    refine (congrArg (fun k : Fin 129 => val_main_v7 (F := Ideal) x vc (ix4 b k (⟨l.val / 64, by omega⟩ : Fin 4) (⟨l.val % 64, by omega⟩ : Fin 64))) (Fin.ext (by show 1 + s.val = 128; omega))).trans ((v7_new x vc b _ _).trans ?_)
    exact congrArg x (congrArg (ix2 b) (Fin.ext (by show 2304 + (l.val / 64 * 64 + l.val % 64) = 2304 + l.val; omega)))
  · rename_i h
    refine (congrArg (fun k : Fin 129 => val_main_v7 (F := Ideal) x vc (ix4 b k (⟨l.val / 64, by omega⟩ : Fin 4) (⟨l.val % 64, by omega⟩ : Fin 64))) (Fin.ext (by show 1 + s.val = (s.val + 1) % 128; omega))).trans
      (v7_old x vc b ⟨(s.val + 1) % 128, by omega⟩ _ _)

end Cert.AttnSampleRefIdeal.Proved
end
-- ==== Proof.AttnSampleValue.lean ====
/-
  Attention of one new token per row: the kernel's blocks and the reference's written-out softmax give one array, and the
  two caches moved on are the reference's. The precondition says that the queries, the new and the cached keys and the
  sinks are finite; so every logit is a real, and so is the greatest of a row's. Each element of the reference's result is then
  the kernel's (`ref_at`), by `Cert.SampleMath.ref_outv`.
-/
module

public import proofs.«01_k».proof.Defs
public import proofs.«01_k».proof.Proof.AttnSampleRef
public import proofs.«01_k».proof.Proof.AttnValue
public import proofs.«01_k».proof.Proof.Gen.Pre_finite_qkv

@[expose] public section

set_option maxRecDepth 16384

noncomputable section

open Idealize.ShloMosaic Idealize.ShloMosaic.TcCoe Idealize.SL.Sem

namespace Cert.AttnSampleRefIdeal.Proved

open Cert.AttnSampleRefIdeal Cert.AttnSampleRefIdeal.Gen Cert.AttnSampleRefIdeal.Read
open Cert.ReferenceIdeal.Proved (real_of_abs_lt logit_ne_top)
open Cert.AttnSampleIdeal.Proved (attn attnAt)

variable (x : Vec Ideal S128x2560 .f32) (kc vc : Vec Ideal S128x128x4x64 .f32) (sk : Vec Ideal S4x8 .f32)

/-- What the precondition says of the activations: the queries and the new keys are reals. -/
theorem x_real (h : (@Cert.Pre_finite_qkv.fn Cert.Pre_finite_qkv.Gen.facts Ideal _ x kc vc sk).1 = fun _ => 1#1) (r : Fin 128) (k : Fin 2560) (hk : k.val < 2304) :
    ∃ a : ℝ, x (ix2 r k) = (a : EReal) := by
  have h1 := congrFun h (ix2 r (⟨k.val, hk⟩ : Fin 2304))
  have e : extractStridedSlice (⟨2, ![128, 2304]⟩ : Shape) ![0, 0] x Cert.Pre_finite_qkv.Gen.facts.slices_S128x2560_S128x2304_0_0 (ix2 r (⟨k.val, hk⟩ : Fin 2304)) = x (ix2 r k) :=
    extractStridedSlice_apply _ _ _ _ _ (fun a => by match a with | ⟨0, _⟩ => (show r.val = 0 + r.val; omega) | ⟨1, _⟩ => (show k.val = 0 + k.val; omega))
  rw [← e]
  exact real_of_abs_lt _ h1

/-- What the precondition says of the cached keys: they are reals. -/
theorem kc_real (h : (@Cert.Pre_finite_qkv.fn Cert.Pre_finite_qkv.Gen.facts Ideal _ x kc vc sk).2.1 = fun _ => 1#1) (i : S128x128x4x64.Idx) :
    ∃ a : ℝ, kc i = (a : EReal) :=
  real_of_abs_lt _ (congrFun h i)

/-- What the precondition says of the sinks: they are reals. -/
theorem sk_real (h : (@Cert.Pre_finite_qkv.fn Cert.Pre_finite_qkv.Gen.facts Ideal _ x kc vc sk).2.2 = fun _ => 1#1) (i : S4x8.Idx) :
    ∃ a : ℝ, sk i = (a : EReal) :=
  real_of_abs_lt _ (congrFun h i)

/-- A logit of finite queries and keys is not infinity. -/
theorem logit_real (q k : Fin 64 → EReal) (hq : ∀ i, ∃ a : ℝ, q i = (a : EReal)) (hk : ∀ i, ∃ a : ℝ, k i = (a : EReal)) :
    (∑ i, q i * k i) * Ideal.ofBits .f32 0x3E000000#32 ≠ (⊤ : EReal) := by
  have h := logit_ne_top True q k hq hk
  rwa [if_pos trivial] at h

/-- The reference's first result at an index. -/
theorem ref_at (hx : ∀ (r : Fin 128) (k : Fin 2560), k.val < 2304 → ∃ a : ℝ, x (ix2 r k) = (a : EReal)) (hk : ∀ i, ∃ a : ℝ, kc i = (a : EReal))
    (hs : ∀ i, ∃ a : ℝ, sk i = (a : EReal)) (b : Fin 128) (h : Fin 32) (d : Fin 64) :
    val_main_v47 (F := Ideal) x kc vc sk (ix3 b h d) = attnAt x kc vc sk b h d := by
  rw [v47_at]
  simp only [v43_at, v38_at]
  unfold attnAt
  have hq : ∀ e : Fin 64, (⟨(⟨h.val / 8, by omega⟩ : Fin 4).val * 512 + (⟨h.val % 8, by omega⟩ : Fin 8).val * 64 + e.val, by show h.val / 8 * 512 + h.val % 8 * 64 + e.val < 2560; omega⟩ : Fin 2560)
      = ⟨h.val * 64 + e.val, by omega⟩ := fun e => Fin.ext (by show h.val / 8 * 512 + h.val % 8 * 64 + e.val = h.val * 64 + e.val; omega)
  refine Cert.SampleMath.ref_outv _ _ _ _ _
    (fun s => logit_real _ _ (fun e => hx _ _ (by show h.val * 64 + e.val < 2304; omega)) (fun e => hk _))
    (logit_real _ _ (fun e => hx _ _ (by show h.val * 64 + e.val < 2304; omega)) (fun e => hx _ _ (by show 2048 + (h.val / 8 * 64 + e.val) < 2304; omega)))
    (hs _) (fun k => val_main_v31 (F := Ideal) x kc sk (ix5 b (⟨h.val / 8, by omega⟩ : Fin 4) (⟨h.val % 8, by omega⟩ : Fin 8) (0 : Fin 1) k)) (fun s => ?_) ?_
    (v31_sink x kc sk b _ _) (fun k => val_main_v7 (F := Ideal) x vc (ix4 b k (⟨h.val / 8, by omega⟩ : Fin 4) d)) (fun s => v7_old x vc b s _ d) (v7_new x vc b _ d) _ (v34_at x kc sk b _ _)
  · refine (v31_key x kc sk b _ _ ⟨s.val, by omega⟩).trans ((v28_at x kc b _ _ _).trans ?_)
    refine congrArg (· * Ideal.ofBits .f32 0x3E000000#32) (Finset.sum_congr rfl fun e _ => congrArg₂ (· * ·) (congrArg (fun k => x (ix2 b k)) (hq e)) (v6_old x kc b s _ e))
  · refine (v31_key x kc sk b _ _ ⟨128, by omega⟩).trans ((v28_at x kc b _ _ _).trans ?_)
    refine congrArg (· * Ideal.ofBits .f32 0x3E000000#32) (Finset.sum_congr rfl fun e _ => congrArg₂ (· * ·) (congrArg (fun k => x (ix2 b k)) (hq e)) (v6_new x kc b _ e))

/-- The reference's first result is the kernel's array. -/
theorem ref_eq (hx : ∀ (r : Fin 128) (k : Fin 2560), k.val < 2304 → ∃ a : ℝ, x (ix2 r k) = (a : EReal)) (hk : ∀ i, ∃ a : ℝ, kc i = (a : EReal))
    (hs : ∀ i, ∃ a : ℝ, sk i = (a : EReal)) : val_main_v47 (F := Ideal) x kc vc sk = attn x kc vc sk := by
  funext i
  obtain ⟨b, h, d, rfl⟩ : ∃ (b : Fin 128) (h : Fin 32) (d : Fin 64), i = ix3 b h d := ⟨i 0, i 1, i 2, eq_ix3 i⟩
  exact ref_at x kc vc sk hx hk hs b h d

end Cert.AttnSampleRefIdeal.Proved

namespace Cert.AttnSampleClaim

open Cert.AttnSampleIdeal.Proved (xArr kArr vArr sArr attn moved)

/-- From memories that agree on the arguments, with finite queries, keys and sinks, both programs leave one attention and the
same two caches. -/
theorem algebraic : Cert.algebraic_AttnSampleIdeal_AttnSampleRefIdeal_pre_finite_qkv (hAttnSampleIdeal := Cert.AttnSampleIdeal.Gen.facts)
    (hAttnSampleRefIdeal := Cert.AttnSampleRefIdeal.Gen.facts) (hPre_finite_qkv := Cert.Pre_finite_qkv.Gen.facts) :=
  fun m ρ m' ρ' hpre hag =>
    ⟨fun c => attn (xArr m c) (kArr m c) (vArr m c) (sArr m c),
      fun c => moved (xArr m c) (kArr m c) 2048 (by omega),
      fun c => moved (xArr m c) (vArr m c) 2304 (by omega),
      (θ_run (Cert.AttnSampleIdeal.defs (F := Ideal)) _ _).mono
        (fun _ h c => ⟨(h c).1.trans (Cert.AttnSampleIdeal.Proved.final6 m c), (h c).2.1.trans (Cert.AttnSampleIdeal.Proved.final7 m c),
          (h c).2.2.1.trans (Cert.AttnSampleIdeal.Proved.final8 m c), (h c).2.2.2⟩) (Cert.AttnSampleIdeal.Value.run_blocks m ρ),
      (θ_run (Cert.AttnSampleRefIdeal.defs (F := Ideal)) _ _).mono
        (fun _ h c => ⟨by
          refine (h c).1.trans ?_
          obtain ⟨g0, g1, g2, g3⟩ := hag c
          rw [Cert.AttnSampleRefIdeal.Read.val_main_v47_eq, g0, g1, g2, g3]
          exact Cert.AttnSampleRefIdeal.Proved.ref_eq _ _ _ _ (Cert.AttnSampleRefIdeal.Proved.x_real _ _ _ _ (hpre c).1) (Cert.AttnSampleRefIdeal.Proved.kc_real _ _ _ _ (hpre c).2.1)
            (Cert.AttnSampleRefIdeal.Proved.sk_real _ _ _ _ (hpre c).2.2), by
          refine (h c).2.1.trans ?_
          obtain ⟨g0, g1, g2, g3⟩ := hag c
          refine (Cert.AttnSampleRefIdeal.Read.val_main_v49_eq _ _).trans ?_
          rw [Cert.AttnSampleRefIdeal.Proved.v49_eq, g0, g1], by
          refine (h c).2.2.1.trans ?_
          obtain ⟨g0, g1, g2, g3⟩ := hag c
          refine (Cert.AttnSampleRefIdeal.Read.val_main_v51_eq _ _).trans ?_
          rw [Cert.AttnSampleRefIdeal.Proved.v51_eq, g0, g2], (h c).2.2.2⟩)
        (Cert.AttnSampleRefIdeal.Value.run m' ρ')⟩

end Cert.AttnSampleClaim
end
-- ==== Proof.SampleModulateValue.lean ====
/-
  The VALUE of `SampleModulate.lean` at the ideal instance: the normalisation and the modulation of the 128 rows of the
  sample's tokens, each row under its own modulation. One grid point holds everything; a row's value is ModulateValue.lean's
  `modCol`.
-/
module

public import proofs.«01_k».proof.Defs
public import proofs.«01_k».proof.Proof.ModulateValue
public import proofs.«01_k».proof.Proof.Gen.SampleModulateIdeal.Value
public import proofs.«01_k».proof.Proof.Gen.SampleModulateRefIdeal.Run
public import proofs.«01_k».proof.Proof.Gen.SampleModulateRefIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SampleModulateIdeal.Proved

open Cert.SampleModulateIdeal Cert.SampleModulateIdeal.Gen
open Cert.ModulateIdeal.Proved (modCol)

variable (m : (ℓ : Loc nD τ sig) → Buf (Elt Ideal) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-- The tokens, a row each, one token to a row. -/
abbrev xArr (c : Dev nD) : Vec Ideal S128x1x4096 .f32 := m ((c : Thread nD τ).loc main_arg0)
/-- The gain of the normalisation. -/
abbrev gArr (c : Dev nD) : Vec Ideal S4096 .f32 := m ((c : Thread nD τ).loc main_arg1)
/-- The modulation of each row: shift, scale and four more. -/
abbrev mArr (c : Dev nD) : Vec Ideal S128x24576 .f32 := m ((c : Thread nD τ).loc main_arg2)

/-- The result's rows, from the rows of the tokens, the gain, the scale and the shift. -/
theorem pay1_apply (x : Vec Ideal S128x4096 .f32) (g : Vec Ideal S1x4096 .f32) (a s : Vec Ideal S1x128x4096 .f32) (p : Fin 128) (q : Fin 4096) :
    k0_pay1 (F := Ideal) x g a s (ix2 p q) = modCol (fun k => x (ix2 p k)) q (g (ix2 0 q)) (a (ix3 0 p q)) (s (ix3 0 p q)) := by
  unfold k0_pay1
  pointwise
  rfl

theorem V_x (c : Dev nD) (r : Fin 128) (q : Fin 4096) : (V m c main_v0 : Vec Ideal S128x4096 .f32) (ix2 r q) = xArr m c (ix3 r 0 q) := by
  have e : (V m c main_v0 : Vec Ideal S128x4096 .f32) = shapeCast S128x4096 (xArr m c) shapeCasts_S128x1x4096_S128x4096 := by
    unfold_abbrev_sides
    simp only [hostOps0, List.flatten_cons, List.flatten_nil, List.append_nil, List.cons_append, List.nil_append]
    after_results
    rfl
  rw [e]
  exact shapeCast_apply _ _ _ _ (by
    rewrite [Shape.rowMajor_val_two, Shape.rowMajor_val_three]
    show (r.val * 1 + 0) * 4096 + q.val = r.val * 4096 + q.val
    omega)

theorem V_m (c : Dev nD) (b : Fin 128) (q : Fin 24576) : (V m c main_v1 : Vec Ideal S1x128x24576 .f32) (ix3 0 b q) = mArr m c (ix2 b q) := by
  have e : (V m c main_v1 : Vec Ideal S1x128x24576 .f32) = shapeCast S1x128x24576 (mArr m c) shapeCasts_S128x24576_S1x128x24576 := by
    unfold_abbrev_sides
    simp only [hostOps0, List.flatten_cons, List.flatten_nil, List.append_nil, List.cons_append, List.nil_append]
    after_results
    rfl
  rw [e]
  exact shapeCast_apply _ _ _ _ (by
    rewrite [Shape.rowMajor_val_two, Shape.rowMajor_val_three]
    show b.val * 24576 + q.val = (0 * 128 + b.val) * 24576 + q.val
    omega)

theorem V_g (c : Dev nD) (q : Fin 4096) : (V m c main_v2 : Vec Ideal S1x4096 .f32) (ix2 0 q) = gArr m c (ix1 q) := by
  have e : (V m c main_v2 : Vec Ideal S1x4096 .f32) = shapeCast S1x4096 (gArr m c) shapeCasts_S4096_S1x4096 := by
    unfold_abbrev_sides
    simp only [hostOps0, List.flatten_cons, List.flatten_nil, List.append_nil, List.cons_append, List.nil_append]
    after_results
    rfl
  rw [e]
  exact shapeCast_apply _ _ _ _ (by
    rewrite [Shape.rowMajor_val_one, Shape.rowMajor_val_two]
    show q.val = 0 * 4096 + q.val
    omega)

/-- Where the blocks lie: the one point takes every row, and the first two chunks of the modulation. -/
theorem idx_facts : ∀ t : Fin cfg0.N, win0_0.index t (0 : Fin 2) = 0 ∧ win0_0.index t (1 : Fin 2) = 0 ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 1
    ∧ win0_4.index t (0 : Fin 2) = 0 ∧ win0_4.index t (1 : Fin 2) = 0 ∧ (cfg0.win 4).flush t = true :=
  (by decide +kernel : ∀ t : Fin grid0.N, _)

theorem iblk0_apply (c : Dev nD) (t : Fin cfg0.N) (p : Fin 128) (q : Fin 4096) :
    (iblk m c 0 t : Vec Ideal S128x4096 .f32) (ix2 p q) = xArr m c (ix3 p 0 q) := by
  obtain ⟨e0, e1, -⟩ := idx_facts t
  refine Eq.trans ?_ (V_x m c p q)
  show V m c main_v0 (((cfg0.win 0).blk t).view.emb (ix2 p q)) = _
  congr 1
  funext a; apply Fin.ext
  match a with
  | ⟨0, _⟩ => show win0_0.index t (0 : Fin 2) * 128 + 1 * p.val = p.val; rw [e0]; omega
  | ⟨1, _⟩ => show win0_0.index t (1 : Fin 2) * 4096 + 1 * q.val = q.val; rw [e1]; omega

theorem iblk1_apply (c : Dev nD) (t : Fin cfg0.N) (q : Fin 4096) :
    (iblk m c 1 t : Vec Ideal S1x4096 .f32) (ix2 0 q) = gArr m c (ix1 q) := by
  obtain ⟨-, -, e0, e1, -⟩ := idx_facts t
  refine Eq.trans ?_ (V_g m c q)
  show V m c main_v2 (((cfg0.win 1).blk t).view.emb (ix2 0 q)) = _
  congr 1
  funext a; apply Fin.ext
  match a with
  | ⟨0, _⟩ => show win0_1.index t (0 : Fin 2) * 1 + 1 * 0 = 0; rw [e0]
  | ⟨1, _⟩ => show win0_1.index t (1 : Fin 2) * 4096 + 1 * q.val = q.val; rw [e1]; omega

theorem iblk2_apply (c : Dev nD) (t : Fin cfg0.N) (p : Fin 128) (q : Fin 4096) :
    (iblk m c 2 t : Vec Ideal S1x128x4096 .f32) (ix3 0 p q) = mArr m c (ix2 p ⟨q.val, by omega⟩) := by
  obtain ⟨-, -, -, -, e0, e1, e2, -⟩ := idx_facts t
  refine Eq.trans ?_ (V_m m c p ⟨q.val, by omega⟩)
  show V m c main_v1 (((cfg0.win 2).blk t).view.emb (ix3 0 p q)) = _
  congr 1
  funext a; apply Fin.ext
  match a with
  | ⟨0, _⟩ => show win0_2.index t (0 : Fin 3) * 1 + 1 * 0 = 0; rw [e0]
  | ⟨1, _⟩ => show win0_2.index t (1 : Fin 3) * 128 + 1 * p.val = p.val; rw [e1]; omega
  | ⟨2, _⟩ => show win0_2.index t (2 : Fin 3) * 4096 + 1 * q.val = q.val; rw [e2]; omega

theorem iblk3_apply (c : Dev nD) (t : Fin cfg0.N) (p : Fin 128) (q : Fin 4096) :
    (iblk m c 3 t : Vec Ideal S1x128x4096 .f32) (ix3 0 p q) = mArr m c (ix2 p ⟨4096 + q.val, by omega⟩) := by
  obtain ⟨-, -, -, -, -, -, -, e0, e1, e2, -⟩ := idx_facts t
  refine Eq.trans ?_ (V_m m c p ⟨4096 + q.val, by omega⟩)
  show V m c main_v1 (((cfg0.win 3).blk t).view.emb (ix3 0 p q)) = _
  congr 1
  funext a; apply Fin.ext
  match a with
  | ⟨0, _⟩ => show win0_3.index t (0 : Fin 3) * 1 + 1 * 0 = 0; rw [e0]
  | ⟨1, _⟩ => show win0_3.index t (1 : Fin 3) * 128 + 1 * p.val = p.val; rw [e1]; omega
  | ⟨2, _⟩ => show win0_3.index t (2 : Fin 3) * 4096 + 1 * q.val = 4096 + q.val; rw [e2]; omega

/-- The result as one whole array. -/
def modulated (x : Vec Ideal S128x1x4096 .f32) (g : Vec Ideal S4096 .f32) (mo : Vec Ideal S128x24576 .f32) : Vec Ideal S128x4096 .bf16 := fun i =>
  have h1 : (i 1).val < 4096 := (i 1).isLt
  modCol (fun k => x (ix3 (i 0) 0 k)) (i 1) (g (ix1 (i 1))) (mo (ix2 (i 0) ⟨4096 + (i 1).val, by omega⟩)) (mo (ix2 (i 0) ⟨(i 1).val, by omega⟩))

theorem out4_eq (x0 : Vec Ideal S128x4096 .f32) (x1 : Vec Ideal S1x4096 .f32) (x2 x3 : Vec Ideal S1x128x4096 .f32) : out0_4 x0 x1 x2 x3 = k0_pay1 x0 x1 x3 x2 := by
  unfold out0_4
  rw [View.canon_unit_zero hz]
  simp only [View.ld_unit_zero (S := S128x4096) hz, View.ld_unit_zero (S := S1x4096) hz, View.ld_unit_zero (S := S1x128x4096) hz3]

theorem emb4 (t : Fin cfg0.N) (p : Fin 128) (q : Fin 4096) : ((cfg0.win 4).blk t).view.emb (ix2 p q) = (ix2 p q : S128x4096.Idx) := by
  obtain ⟨-, -, -, -, -, -, -, -, -, -, e0, e1, -⟩ := idx_facts t
  funext a; apply Fin.ext
  match a with
  | ⟨0, _⟩ => show win0_4.index t (0 : Fin 2) * 128 + 1 * p.val = p.val; rw [e0]; omega
  | ⟨1, _⟩ => show win0_4.index t (1 : Fin 2) * 4096 + 1 * q.val = q.val; rw [e1]; omega

/-- What the one point writes back is the whole array. -/
theorem flushed_eq (c : Dev nD) (t : Fin cfg0.N) (hf : (cfg0.win 4).flush t = true) :
    (dats m 0 c).flushed 4 t = ((cfg0.win 4).blk t).view.read (Elt Ideal) (modulated (xArr m c) (gArr m c) (mArr m c)) := by
  rw [Value.flushed4]
  funext y
  obtain ⟨p, q, rfl⟩ : ∃ (p : Fin 128) (q : Fin 4096), y = ix2 p q := ⟨y 0, y 1, eq_ix2 y⟩
  show out0_4 (iblk m c 0 t) (iblk m c 1 t) (iblk m c 2 t) (iblk m c 3 t) (ix2 p q)
    = modulated (xArr m c) (gArr m c) (mArr m c) (((cfg0.win 4).blk t).view.emb (ix2 p q))
  rw [emb4, out4_eq, pay1_apply]
  simp only [iblk0_apply, iblk1_apply, iblk2_apply, iblk3_apply]
  rfl

/-- The array after the run. -/
theorem final_o (c : Dev nD) : (dats m 0 c).arrAt 4 cfg0.N = modulated (xArr m c) (gArr m c) (mArr m c) :=
  (dats m 0 c).arrAt_eq_of_cover 4 _ (fun t hf => flushed_eq m c t hf) fun i => by
    have ht : 0 < cfg0.N := by rw [show cfg0.N = 1 from N_0]; omega
    refine ⟨⟨0, ht⟩, (idx_facts ⟨0, ht⟩).2.2.2.2.2.2.2.2.2.2.2.2, ?_⟩
    have := ((cfg0.win 4).blk ⟨0, ht⟩).view.emb_mem_set (ix2 (i 0 : Fin 128) (i 1 : Fin 4096))
    exact Eq.mp (congrArg (· ∈ ((cfg0.win 4).blk ⟨0, ht⟩).view.set) ((emb4 ⟨0, ht⟩ (i 0) (i 1)).trans (eq_ix2 i).symm)) this

end Cert.SampleModulateIdeal.Proved

namespace Cert.SampleModulateRefIdeal.Proved

open Cert.SampleModulateRefIdeal Cert.SampleModulateRefIdeal.Gen
open Cert.ModulateRefIdeal.Proved (z0 o1)

/-- The reference's result is the same function of the arguments. -/
theorem ref_eq (x : Vec Ideal S128x1x4096 .f32) (g : Vec Ideal S4096 .f32) (mo : Vec Ideal S128x24576 .f32) :
    Read.val_main_v22 (F := Ideal) x g mo = Cert.SampleModulateIdeal.Proved.modulated x g mo := by
  funext i
  obtain ⟨p, q, rfl⟩ : ∃ (p : Fin 128) (q : Fin 4096), i = ix2 p q := ⟨i 0, i 1, eq_ix2 i⟩
  have hr : Read.idx_main_v21 (ix2 p q) = ix3 p 0 q := funext fun a => Fin.ext (by
    match a with
    | ⟨0, _⟩ => show (p.val * 4096 + q.val) / 4096 = p.val; omega
    | ⟨1, _⟩ => rfl
    | ⟨2, _⟩ => show (p.val * 4096 + q.val) % 4096 = q.val; omega)
  have hg : Read.idx_main_v14 (Read.idx_main_v15 (ix3 p 0 q)) = ix1 q := funext fun a => by match a with | ⟨0, _⟩ => rfl
  have hs : Read.idx_main_v0 (Read.idx_main_v1 (ix3 p 0 q)) = ix2 p ⟨q.val, by omega⟩ := funext fun a => by
    match a with | ⟨0, _⟩ => rfl | ⟨1, _⟩ => rfl
  have ha : Read.idx_main_v2 (Read.idx_main_v3 (ix3 p 0 q)) = ix2 p ⟨4096 + q.val, by omega⟩ := funext fun a => by
    match a with | ⟨0, _⟩ => rfl | ⟨1, _⟩ => rfl
  have hx : ∀ k : Fin 4096, Read.idx_main_v5 (Read.idx_main_v6 (Read.idx_main_v12 (ix3 p 0 q))) k = ix3 p 0 k := fun k => funext fun a => by
    match a with | ⟨0, _⟩ => rfl | ⟨1, _⟩ => rfl | ⟨2, _⟩ => rfl
  simp only [Read.val_main_v22_apply, Read.val_main_v21_apply, Read.val_main_v20_apply, Read.val_main_v19_apply, Read.val_main_v18_apply, Read.val_main_v17_apply, Read.val_main_v16_apply, Read.val_main_v15_apply, Read.val_main_v14_apply, Read.val_main_v13_apply, Read.val_main_v12_apply, Read.val_main_v11_apply, Read.val_main_v10_apply, Read.val_main_v9_apply, Read.val_main_v8_apply, Read.val_main_v7_apply, Read.val_main_v6_apply, Read.val_main_v5_apply, Read.val_main_v4_apply, Read.val_main_v3_apply, Read.val_main_v2_apply, Read.val_main_v1_apply, Read.val_main_v0_apply, Read.val_main_cst_apply, Read.val_main_cst_0_apply, Read.val_main_cst_1_apply, Read.val_main_cst_2_apply, hr, hg, hs, ha, hx, z0, o1, zero_add]
  rfl

end Cert.SampleModulateRefIdeal.Proved

namespace Cert.SampleModulateClaim

/-- The kernel's result at the ideal instance is the reference's, at every index. -/
theorem algebraic : Cert.algebraic_SampleModulateIdeal_SampleModulateRefIdeal (hSampleModulateIdeal := Cert.SampleModulateIdeal.Gen.facts) (hSampleModulateRefIdeal := Cert.SampleModulateRefIdeal.Gen.facts) :=
  fun m ρ m' ρ' _ hag =>
    ⟨fun c => Cert.SampleModulateIdeal.Proved.modulated (Cert.SampleModulateIdeal.Proved.xArr m c) (Cert.SampleModulateIdeal.Proved.gArr m c) (Cert.SampleModulateIdeal.Proved.mArr m c),
      (θ_run (Cert.SampleModulateIdeal.defs (F := Ideal)) _ _).mono
        (fun _ h c => ⟨(h c).1.trans (Cert.SampleModulateIdeal.Proved.final_o m c), (h c).2⟩) (Cert.SampleModulateIdeal.Value.run_blocks m ρ),
      (θ_run (Cert.SampleModulateRefIdeal.defs (F := Ideal)) _ _).mono
        (fun _ h c => ⟨by
          refine (h c).1.trans ?_
          obtain ⟨g0, g1, g2⟩ := hag c
          rw [Cert.SampleModulateRefIdeal.Read.val_main_v22_eq, Cert.SampleModulateRefIdeal.Proved.ref_eq, g0, g1, g2], (h c).2⟩)
        (Cert.SampleModulateRefIdeal.Value.run m' ρ')⟩

end Cert.SampleModulateClaim
end
-- ==== Proof.SampleQkvKer.lean ====
/-
  The VALUE of `SampleQkv.lean` at the ideal instance, the kernel's side: the query, key and value columns of the input
  projection again, of the 128 rows of the sample's tokens. Grid of 5 column tiles by one row tile, so the weight tile is
  copied to the scratch and read back at every point. A row of the result depends on its own row of activations alone, so
  the result is QkvKer.lean's function of the rows set as rows of a prompt-sized array (`rows`), at the first 128 rows; the
  gain, the flag and the ones of each head are QkvHost.lean's.
-/
module

public import proofs.«01_k».proof.Proof.QkvKer
public import proofs.«01_k».proof.Proof.Gen.SampleQkvIdeal.Value
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.SampleQkvIdeal.Proved

open Cert.SampleQkvIdeal Cert.SampleQkvIdeal.Gen
open Cert.QkvIdeal.Proved (gain gainRow gainRow_apply flagRow flagRow_apply headOnes headOnes_apply zAt tile_eq)

variable (m : (ℓ : Loc nD τ sig) → Buf (Elt Ideal) ℓ) (ρ : Dev nD → PrngReg)

theorem hz : (![0, 0] : Fin 2 → Nat) = fun _ => 0 := funext fun a => by fin_cases a <;> rfl

/-- The activations `h`. -/
abbrev hArr (c : Dev nD) : Vec Ideal S128x4096 .bf16 := m ((c : Thread nD τ).loc main_arg0)
/-- The projection weights. -/
abbrev wArr (c : Dev nD) : Vec Ideal S4096x14848 .f32 := m ((c : Thread nD τ).loc main_arg1)
/-- The query gain. -/
abbrev gqArr (c : Dev nD) : Vec Ideal S64 .f32 := m ((c : Thread nD τ).loc main_arg2)
/-- The key gain. -/
abbrev gkArr (c : Dev nD) : Vec Ideal S64 .f32 := m ((c : Thread nD τ).loc main_arg3)

/-- The gain row as @main computes it. -/
theorem V_gain (c : Dev nD) (z : Fin 1) (j : Fin 2560) : (V m c main_v8 : Vec Ideal S1x2560 .f32) (ix2 z j) = gain (gqArr m c) (gkArr m c) j := by
  have e : (V m c main_v8 : Vec Ideal S1x2560 .f32) = gainRow (gqArr m c) (gkArr m c) := by
    unfold_abbrev_sides
    simp only [hostOps0, hostOps0_1, hostOps0_2, List.flatten_cons, List.flatten_nil, List.append_nil, List.cons_append, List.nil_append]
    after_results
    rfl
  rw [e, gainRow_apply]

/-- The flag row as @main computes it. -/
theorem V_flag (c : Dev nD) (z : Fin 1) (j : Fin 2560) : (V m c main_v12 : Vec Ideal S1x2560 .f32) (ix2 z j)
    = if j.val < 2304 then Ideal.ofBits .f32 0x3F800000#32 else Ideal.ofBits .f32 0x00000000#32 := by
  have e : (V m c main_v12 : Vec Ideal S1x2560 .f32) = flagRow := by
    unfold_abbrev_sides
    simp only [hostOps0, hostOps0_1, hostOps0_2, List.flatten_cons, List.flatten_nil, List.append_nil, List.cons_append, List.nil_append]
    after_results
    rfl
  rw [e, flagRow_apply]

/-- The ones of each head as @main computes them. -/
theorem V_ones (c : Dev nD) (k q : Fin 512) : (V m c main_v20 : Vec Ideal S512x512 .bf16) (ix2 k q) = (if k.val / 64 = q.val / 64 then 1 else 0 : EReal) := by
  have e : (V m c main_v20 : Vec Ideal S512x512 .bf16) = headOnes := by
    unfold_abbrev_sides
    simp only [hostOps0, hostOps0_1, hostOps0_2, List.flatten_cons, List.flatten_nil, List.append_nil, List.cons_append, List.nil_append]
    after_results
    rfl
  rw [e, headOnes_apply]

/-- What a point leaves in the result's buffer: the weight tile goes to the scratch and is read back. -/
theorem out_A (c : Dev nD) (i : grid0.Coords) (a2 : Memref sig .tc .vmem S128x4096 .bf16) (h2 : a2.IsWhole) (a3 : Memref sig .tc .vmem S4096x512 .f32) (h3 : a3.IsWhole) (a4 : Memref sig .tc .vmem S1x512 .f32) (h4 : a4.IsWhole) (a5 : Memref sig .tc .vmem S1x512 .f32) (h5 : a5.IsWhole) (a6 : Memref sig .tc .vmem S512x512 .bf16) (h6 : a6.IsWhole) (a7 : Memref sig .tc .vmem S128x512 .f32) (h7 : a7.IsWhole) (a8 : Memref sig .tc .vmem S4096x512 .bf16) (h8 : a8.IsWhole) (hc : cond0_0 i)
    (x0 : Vec Ideal S128x4096 .bf16) (x1 : Vec Ideal S4096x512 .f32) (x2 : Vec Ideal S1x512 .f32) (x3 : Vec Ideal S1x512 .f32) (x4 : Vec Ideal S512x512 .bf16) :
    out0_A_5 c i a2 h2 a3 h3 a4 h4 a5 h5 a6 h6 a7 h7 a8 h8 hc x0 x1 x2 x3 x4 = k0_pay2 x0 (k0_pay1 x1) x4 x4 x3 x2 := by
  unfold out0_A_5
  rw [View.read_writes_eq_canon _ _ _ (cover0_A_5 c i a2 h2 a3 h3 a4 h4 a5 h5 a6 h6 a7 h7 a8 h8 hc x0 x1 x2 x3 x4)]
  unfold kernelRun0_A
  dsimp only
  sl_unfold_words
  rw [View.canon_unit_zero hz]
  simp only [View.readCov_unit_zero (S := S4096x512) _ hz]
  simp only [View.readAt_eq_ld, h2.read_unread, h3.read_unread, h4.read_unread, h5.read_unread, h6.read_unread, h7.read_unread, h8.read_unread, View.ld_unit_zero (S := S128x4096) hz, View.ld_unit_zero (S := S128x512) hz, View.ld_unit_zero (S := S1x512) hz, View.ld_unit_zero (S := S4096x512) hz, View.ld_unit_zero (S := S512x512) hz]

/-- The copy of a weight tile is the weight tile, whatever the element type's width. -/
theorem pay1_apply (w : Vec Ideal S4096x512 .f32) (j : S4096x512.Idx) : k0_pay1 (F := Ideal) w j = w j := by
  unfold k0_pay1
  idx_vars j
  pointwise

/-- A tile of the result. -/
theorem payload_apply (x : Vec Ideal S128x4096 .bf16) (s : Vec Ideal S4096x512 .bf16) (b b' : Vec Ideal S512x512 .bf16) (fl gn : Vec Ideal S1x512 .f32) (p : Fin 128) (q : Fin 512) :
    k0_pay2 (F := Ideal) x s b b' fl gn (ix2 p q)
      = (∑ k : Fin 4096, x (ix2 p k) * s (ix2 k q))
        * (if 0 < fl (ix2 (0 : Fin 1) q) then
            Ideal.rsqrt ((∑ k : Fin 512, ((∑ i : Fin 4096, x (ix2 p i) * s (ix2 i k)) * ∑ i : Fin 4096, x (ix2 p i) * s (ix2 i k)) * b (ix2 k q)
                + ∑ k : Fin 512, ((∑ i : Fin 4096, x (ix2 p i) * s (ix2 i k)) * (∑ i : Fin 4096, x (ix2 p i) * s (ix2 i k)) - (∑ i : Fin 4096, x (ix2 p i) * s (ix2 i k)) * ∑ i : Fin 4096, x (ix2 p i) * s (ix2 i k))
                    * b' (ix2 k q)) * Ideal.ofBits .f32 0x3C800000#32 + Ideal.ofBits .f32 0x358637BD#32)
          else 1)
        * gn (ix2 (0 : Fin 1) q) := by
  unfold k0_pay2
  pointwise

/-- The 128 rows set as the rows of a prompt-sized array, over and over. -/
def rows (h : Vec Ideal S128x4096 .bf16) : Vec Ideal Cert.QkvIdeal.S8192x4096 .bf16 := fun i => h (ix2 ⟨(i 0).val % 128, by omega⟩ (i 1))

/-- The row of the prompt-sized array that row `r` is. -/
abbrev up (r : Fin 128) : Fin 8192 := ⟨r.val, by omega⟩

theorem rows_apply (h : Vec Ideal S128x4096 .bf16) (r : Fin 128) (k : Fin 4096) : rows h (ix2 (up r) k) = h (ix2 r k) := by
  unfold rows
  exact congrArg (fun r => h (ix2 r k)) (Fin.ext (Nat.mod_eq_of_lt r.isLt))

/-- The result as one whole array. -/
def qkv (h : Vec Ideal S128x4096 .bf16) (w : Vec Ideal S4096x14848 .f32) (gq gk : Vec Ideal S64 .f32) : Vec Ideal S128x2560 .f32 := fun i =>
  Cert.QkvIdeal.Proved.qkv (rows h) w gq gk (ix2 (up (i 0)) (i 1))

/-- Where the windows' blocks lie: point `t` takes every row and column tile `t`. -/
theorem idx_facts : ∀ t : Fin cfg0.N, win0_0.index t (0 : Fin 2) = 0 ∧ win0_0.index t (1 : Fin 2) = 0 ∧ win0_1.index t (0 : Fin 2) = 0 ∧ win0_1.index t (1 : Fin 2) = t.val
    ∧ win0_5.index t (0 : Fin 2) = 0 ∧ win0_5.index t (1 : Fin 2) = t.val ∧ (cfg0.win 5).flush t = true :=
  (by decide +kernel : ∀ t : Fin grid0.N, _)

theorem tlt (t : Fin cfg0.N) : t.val < 5 := lt_of_lt_of_eq t.isLt (show cfg0.N = 5 from N_0)

/-- The column of the whole array that column `q` of point `t`'s column tile is. -/
abbrev colAt (t : Fin cfg0.N) (q : Fin 512) : Fin 2560 := ⟨t.val * 512 + q.val, by have := tlt t; omega⟩

/-- Input window 0's block at every point: the rows. -/
theorem iblk0_apply (c : Dev nD) (t : Fin cfg0.N) (p : Fin 128) (q : Fin 4096) :
    (iblk m c 0 t : Vec Ideal S128x4096 .bf16) (ix2 p q) = rows (hArr m c) (ix2 (up p) q) := by
  obtain ⟨e0, e1, -⟩ := idx_facts t
  rw [rows_apply]
  show V m c main_arg0 (((cfg0.win 0).blk t).view.emb (ix2 p q)) = _
  rw [V_main_arg0]
  show m ((c : Thread nD τ).loc main_arg0) (((cfg0.win 0).blk t).view.emb (ix2 p q)) = _
  congr 1
  funext a; apply Fin.ext
  match a with
  | ⟨0, _⟩ => show win0_0.index t (0 : Fin 2) * 128 + 1 * p.val = p.val; rw [e0]; omega
  | ⟨1, _⟩ => show win0_0.index t (1 : Fin 2) * 4096 + 1 * q.val = q.val; rw [e1]; omega

/-- Input window 1's block at point `t`, at an index. -/
theorem iblk1_apply (c : Dev nD) (t : Fin cfg0.N) (p : Fin 4096) (q : Fin 512) :
    (iblk m c 1 t : Vec Ideal S4096x512 .f32) (ix2 p q) = wArr m c (ix2 p (⟨(colAt t q).val, by have := (colAt t q).isLt; omega⟩)) := by
  obtain ⟨-, -, e0, e1, -⟩ := idx_facts t
  show V m c main_arg1 (((cfg0.win 1).blk t).view.emb (ix2 p q)) = _
  rw [V_main_arg1]
  show m ((c : Thread nD τ).loc main_arg1) (((cfg0.win 1).blk t).view.emb (ix2 p q)) = _
  congr 1
  funext a; apply Fin.ext
  match a with
  | ⟨0, _⟩ => show win0_1.index t (0 : Fin 2) * 4096 + 1 * p.val = p.val; rw [e0]; omega
  | ⟨1, _⟩ => show win0_1.index t (1 : Fin 2) * 512 + 1 * q.val = (t.val * 512 + q.val); rw [e1]; omega

/-- Where the gain's, the flag's, the ones' and the result's blocks lie. -/
theorem idx_facts' : ∀ t : Fin cfg0.N, (win0_2.index t (0 : Fin 2) = 0 ∧ win0_2.index t (1 : Fin 2) = t.val)
    ∧ (win0_3.index t (0 : Fin 2) = 0 ∧ win0_3.index t (1 : Fin 2) = t.val)
    ∧ (win0_4.index t (0 : Fin 2) = 0 ∧ win0_4.index t (1 : Fin 2) = 0) :=
  (by decide +kernel : ∀ t : Fin grid0.N, _)

/-- Input window 2's block at point `t`: the gain of its column tile. -/
theorem iblk2_apply (c : Dev nD) (t : Fin cfg0.N) (z : Fin 1) (q : Fin 512) :
    (iblk m c 2 t : Vec Ideal S1x512 .f32) (ix2 z q) = gain (gqArr m c) (gkArr m c) (colAt t q) := by
  obtain ⟨⟨e0, e1⟩, -⟩ := idx_facts' t
  rw [← V_gain m c z]
  show V m c main_v8 (((cfg0.win 2).blk t).view.emb (ix2 z q)) = _
  congr 1
  funext a; apply Fin.ext
  match a with
  | ⟨0, _⟩ => show win0_2.index t (0 : Fin 2) * 1 + 1 * z.val = z.val; rw [e0]; omega
  | ⟨1, _⟩ => show win0_2.index t (1 : Fin 2) * 512 + 1 * q.val = t.val * 512 + q.val; rw [e1]; omega

/-- Input window 3's block at point `t`: the flag of its column tile. -/
theorem iblk3_apply (c : Dev nD) (t : Fin cfg0.N) (z : Fin 1) (q : Fin 512) :
    (iblk m c 3 t : Vec Ideal S1x512 .f32) (ix2 z q) = if (colAt t q).val < 2304 then Ideal.ofBits .f32 0x3F800000#32 else Ideal.ofBits .f32 0x00000000#32 := by
  obtain ⟨-, ⟨e0, e1⟩, -⟩ := idx_facts' t
  refine Eq.trans ?_ (V_flag m c z (colAt t q))
  show V m c main_v12 (((cfg0.win 3).blk t).view.emb (ix2 z q)) = _
  congr 1
  funext a; apply Fin.ext
  match a with
  | ⟨0, _⟩ => show win0_3.index t (0 : Fin 2) * 1 + 1 * z.val = z.val; rw [e0]; omega
  | ⟨1, _⟩ => show win0_3.index t (1 : Fin 2) * 512 + 1 * q.val = t.val * 512 + q.val; rw [e1]; omega

/-- Input window 4's block at every point: the ones of each head. -/
theorem iblk4_apply (c : Dev nD) (t : Fin cfg0.N) (k q : Fin 512) :
    (iblk m c 4 t : Vec Ideal S512x512 .bf16) (ix2 k q) = (if k.val / 64 = q.val / 64 then 1 else 0 : EReal) := by
  obtain ⟨-, -, ⟨e0, e1⟩⟩ := idx_facts' t
  refine Eq.trans ?_ (V_ones m c k q)
  show V m c main_v20 (((cfg0.win 4).blk t).view.emb (ix2 k q)) = _
  congr 1
  funext a; apply Fin.ext
  match a with
  | ⟨0, _⟩ => show win0_4.index t (0 : Fin 2) * 512 + 1 * k.val = k.val; rw [e0]; omega
  | ⟨1, _⟩ => show win0_4.index t (1 : Fin 2) * 512 + 1 * q.val = q.val; rw [e1]; omega

/-- What every point leaves in the result's buffer: its tile of the whole array. -/
theorem outs_apply (c : Dev nD) (t : Fin cfg0.N) (p : Fin 128) (q : Fin 512) :
    outsAt0 m c t (ix2 p q) = qkv (hArr m c) (wArr m c) (gqArr m c) (gkArr m c) (ix2 p (colAt t q)) := by
  unfold outsAt0
  rw [out_A, payload_apply]
  simp only [pay1_apply, iblk0_apply, iblk1_apply, iblk2_apply, iblk3_apply, iblk4_apply]
  exact tile_eq (rows (hArr m c)) (wArr m c) (gqArr m c) (gkArr m c) (up p) ⟨t.val, tlt t⟩ q

theorem emb5 (t : Fin cfg0.N) (p : Fin 128) (q : Fin 512) : ((cfg0.win 5).blk t).view.emb (ix2 p q) = (ix2 p (colAt t q) : S128x2560.Idx) := by
  obtain ⟨-, -, -, -, e0, e1, -⟩ := idx_facts t
  funext a; apply Fin.ext
  match a with
  | ⟨0, _⟩ => show win0_5.index t (0 : Fin 2) * 128 + 1 * p.val = p.val; rw [e0]; omega
  | ⟨1, _⟩ => show win0_5.index t (1 : Fin 2) * 512 + 1 * q.val = t.val * 512 + q.val; rw [e1]; omega

/-- Point `t` writes back block `t` of the whole array. -/
theorem flushed_eq (c : Dev nD) (t : Fin cfg0.N) (hf : (cfg0.win 5).flush t = true) :
    (dats m 0 c).flushed 5 t = ((cfg0.win 5).blk t).view.read (Elt Ideal) (qkv (hArr m c) (wArr m c) (gqArr m c) (gkArr m c)) := by
  rw [Value.flushed5]
  funext y
  obtain ⟨p, q, rfl⟩ : ∃ (p : Fin 128) (q : Fin 512), y = ix2 p q := ⟨y 0, y 1, eq_ix2 y⟩
  show outsAt0 m c t (ix2 p q) = qkv (hArr m c) (wArr m c) (gqArr m c) (gkArr m c) (((cfg0.win 5).blk t).view.emb (ix2 p q))
  rw [emb5, outs_apply]

/-- The array after the run. -/
theorem final_o (c : Dev nD) : (dats m 0 c).arrAt 5 cfg0.N = qkv (hArr m c) (wArr m c) (gqArr m c) (gkArr m c) :=
  (dats m 0 c).arrAt_eq_of_cover 5 _ (fun t hf => flushed_eq m c t hf) fun i => by
    have h1 : (i 1).val < 2560 := (i 1).isLt
    have ht : (i 1).val / 512 < cfg0.N := by rw [show cfg0.N = 5 from N_0]; omega
    refine ⟨⟨(i 1).val / 512, ht⟩, (idx_facts _).2.2.2.2.2.2, ?_⟩
    have := ((cfg0.win 5).blk ⟨(i 1).val / 512, ht⟩).view.emb_mem_set (ix2 (i 0 : Fin 128) (⟨(i 1).val % 512, by omega⟩ : Fin 512))
    have he : (ix2 (i 0 : Fin 128) (colAt ⟨(i 1).val / 512, ht⟩ ⟨(i 1).val % 512, by omega⟩) : S128x2560.Idx) = i := by
      funext a; apply Fin.ext
      match a with
      | ⟨0, _⟩ => rfl
      | ⟨1, _⟩ => show (i 1).val / 512 * 512 + (i 1).val % 512 = (i 1).val; omega
    exact Eq.mp (congrArg (· ∈ ((cfg0.win 5).blk ⟨(i 1).val / 512, ht⟩).view.set) ((emb5 ⟨(i 1).val / 512, ht⟩ (i 0) ⟨(i 1).val % 512, by omega⟩).trans he)) this

end Cert.SampleQkvIdeal.Proved
end
-- ==== Proof.SampleQkvValue.lean ====
/-
  The VALUE of `SampleQkv.lean` at the ideal instance: the reference's reading, and the equality. The kernel's reading is
  SampleQkvKer.lean's `qkv`, which is the prompt's function of the 128 rows set as rows of a prompt-sized array; so what
  QkvValue.lean proves of that function serves here, and only the reference's own steps are read again.
-/
module

public import proofs.«01_k».proof.Defs
public import proofs.«01_k».proof.Proof.SampleQkvKer
public import proofs.«01_k».proof.Proof.QkvValue
public import proofs.«01_k».proof.Proof.Gen.Pre_finite_hw_sample
public import proofs.«01_k».proof.Proof.Gen.SampleQkvRefIdeal.Run
public import proofs.«01_k».proof.Proof.Gen.SampleQkvRefIdeal.Read
public import Idealize.ShloMosaic.Lib.Quiescent

@[expose] public section

set_option maxRecDepth 16384

noncomputable section

open Idealize.ShloMosaic Idealize.ShloMosaic.TcCoe Idealize.SL.Sem

namespace Cert.SampleQkvRefIdeal.Proved

open Cert.SampleQkvRefIdeal Cert.SampleQkvRefIdeal.Gen
open Cert.QkvIdeal.Proved (zAt ssAt gain)
open Cert.QkvRefIdeal.Proved (real_of_abs_lt div_64 normed qkv_at)
open Cert.SampleQkvIdeal.Proved (qkv rows rows_apply up)

variable (h : Vec Ideal S128x4096 .bf16) (w : Vec Ideal S4096x14848 .f32) (gq gk : Vec Ideal S64 .f32)

/-- What the precondition says of the activations: they are reals. -/
theorem h_real (hp : (@Cert.Pre_finite_hw_sample.fn Cert.Pre_finite_hw_sample.Gen.facts Ideal _ h w gq gk).1 = fun _ => 1#1) (r : Fin 128) (k : Fin 4096) :
    ∃ a : ℝ, h (ix2 r k) = (a : EReal) :=
  real_of_abs_lt _ (congrFun hp (ix2 r k))

/-- What the precondition says of the query and key columns of the weights: they are reals. -/
theorem w_real (hp : (@Cert.Pre_finite_hw_sample.fn Cert.Pre_finite_hw_sample.Gen.facts Ideal _ h w gq gk).2 = fun _ => 1#1) (k : Fin 4096) (j : Fin 14848) (hj : j.val < 2304) :
    ∃ a : ℝ, w (ix2 k j) = (a : EReal) := by
  have h1 := congrFun hp (ix2 k (⟨j.val, hj⟩ : Fin 2304))
  have e : extractStridedSlice (⟨2, ![4096, 2304]⟩ : Shape) ![0, 0] w Cert.Pre_finite_hw_sample.Gen.facts.slices_S4096x14848_S4096x2304_0_0 (ix2 k (⟨j.val, hj⟩ : Fin 2304)) = w (ix2 k j) :=
    extractStridedSlice_apply _ _ _ _ _ (fun a => by match a with | ⟨0, _⟩ => (show k.val = 0 + k.val; omega) | ⟨1, _⟩ => (show j.val = 0 + j.val; omega))
  rw [← e]
  exact real_of_abs_lt _ h1

/-- … so are the rows of the prompt-sized array. -/
theorem rows_real (hh : ∀ r k, ∃ a : ℝ, h (ix2 r k) = (a : EReal)) (r : Fin 8192) (k : Fin 4096) : ∃ a : ℝ, rows h (ix2 r k) = (a : EReal) :=
  hh _ _

/-- The projection at a column below 2560. -/
theorem v1_at (r : Fin 128) (j : Fin 14848) (hj : j.val < 2560) :
    Read.val_main_v1 (F := Ideal) h w (ix2 r j) = zAt (rows h) w (up r) ⟨j.val, hj⟩ := by
  rw [Read.val_main_v1_apply]
  unfold zAt
  refine Finset.sum_congr rfl fun k _ => ?_
  rw [Read.val_main_v0_apply]
  rw [rows_apply, show Read.lidx_main_v1 (ix2 r j) k = ix2 r k from funext fun a => by match a with | ⟨0, _⟩ => rfl | ⟨1, _⟩ => rfl,
    show Read.ridx_main_v1 (ix2 r j) k = ix2 k ⟨j.val, by omega⟩ from funext fun a => by match a with | ⟨0, _⟩ => rfl | ⟨1, _⟩ => rfl]
  rfl

/-- The query columns, as heads of 64. -/
theorem v3_at (r : Fin 128) (a : Fin 32) (d : Fin 64) :
    Read.val_main_v3 (F := Ideal) h w (ix3 r a d) = zAt (rows h) w (up r) ⟨a.val * 64 + d.val, by omega⟩ := by
  rw [Read.val_main_v3_apply, Read.val_main_v2_apply]
  rw [show Read.idx_main_v2 (Read.idx_main_v3 (ix3 r a d)) = ix2 r (⟨a.val * 64 + d.val, by omega⟩ : Fin 14848) from funext fun b => Fin.ext (by
    match b with
    | ⟨0, _⟩ => (show ((r.val * 32 + a.val) * 64 + d.val) / 2048 = r.val; omega)
    | ⟨1, _⟩ => (show ((r.val * 32 + a.val) * 64 + d.val) % 2048 = a.val * 64 + d.val; omega))]
  exact v1_at h w r _ (by show a.val * 64 + d.val < 2560; omega)

/-- The key columns, as heads of 64. -/
theorem v18_at (r : Fin 128) (a : Fin 4) (d : Fin 64) :
    Read.val_main_v18 (F := Ideal) h w (ix3 r a d) = zAt (rows h) w (up r) ⟨2048 + (a.val * 64 + d.val), by omega⟩ := by
  rw [Read.val_main_v18_apply, Read.val_main_v17_apply]
  rw [show Read.idx_main_v17 (Read.idx_main_v18 (ix3 r a d)) = ix2 r (⟨2048 + (a.val * 64 + d.val), by omega⟩ : Fin 14848) from funext fun b => Fin.ext (by
    match b with
    | ⟨0, _⟩ => (show ((r.val * 4 + a.val) * 64 + d.val) / 256 = r.val; omega)
    | ⟨1, _⟩ => (show 2048 + ((r.val * 4 + a.val) * 64 + d.val) % 256 = 2048 + (a.val * 64 + d.val); omega))]
  exact v1_at h w r _ (by show 2048 + (a.val * 64 + d.val) < 2560; omega)

/-- The query heads of the reference. -/
theorem v16_at (r : Fin 128) (a : Fin 32) (d : Fin 64) :
    Read.val_main_v16 (F := Ideal) h w gq (ix3 r a d) = normed (fun e => zAt (rows h) w (up r) ⟨a.val * 64 + e.val, by omega⟩) (gq (ix1 d)) d := by
  rw [Read.val_main_v16_apply, Read.val_main_v15_apply, Read.val_main_v14_apply, Read.val_main_v13_apply, Read.val_main_v12_apply, Read.val_main_v11_apply,
    Read.val_main_v10_apply, Read.val_main_v9_apply, Read.val_main_cst_1_apply, Read.val_main_v8_apply, Read.val_main_v7_apply, Read.val_main_cst_0_apply,
    Read.val_main_v6_apply, Read.val_main_v5_apply, Read.val_main_cst_apply]
  have e : ∀ k : Fin 64, Read.val_main_v4 (F := Ideal) h w (Read.idx_main_v5 (Read.idx_main_v6 (Read.idx_main_v12 (ix3 r a d))) k)
      = zAt (rows h) w (up r) ⟨a.val * 64 + k.val, by omega⟩ * zAt (rows h) w (up r) ⟨a.val * 64 + k.val, by omega⟩ := fun k => by
    rw [show Read.idx_main_v5 (Read.idx_main_v6 (Read.idx_main_v12 (ix3 r a d))) k = ix3 r a k from funext fun b => by
      match b with | ⟨0, _⟩ => rfl | ⟨1, _⟩ => rfl | ⟨2, _⟩ => rfl]
    rw [Read.val_main_v4_apply, v3_at]
    rfl
  rw [Finset.sum_congr rfl fun k _ => e k, v3_at]
  rw [show Read.idx_main_v14 (Read.idx_main_v15 (ix3 r a d)) = ix1 d from funext fun b => by match b with | ⟨0, _⟩ => rfl]
  unfold normed
  rw [← div_64]
  show _ * Ideal.rsqrt (Ideal.div (Ideal.ofBits .f32 0x00000000#32 + _) _ + _) * _ = _
  rw [Ideal.ofBits_zero_f32, zero_add]
  rfl

/-- The key heads of the reference. -/
theorem v31_at (r : Fin 128) (a : Fin 4) (d : Fin 64) :
    Read.val_main_v31 (F := Ideal) h w gk (ix3 r a d) = normed (fun e => zAt (rows h) w (up r) ⟨2048 + (a.val * 64 + e.val), by omega⟩) (gk (ix1 d)) d := by
  rw [Read.val_main_v31_apply, Read.val_main_v30_apply, Read.val_main_v29_apply, Read.val_main_v28_apply, Read.val_main_v27_apply, Read.val_main_v26_apply,
    Read.val_main_v25_apply, Read.val_main_v24_apply, Read.val_main_cst_4_apply, Read.val_main_v23_apply, Read.val_main_v22_apply, Read.val_main_cst_3_apply,
    Read.val_main_v21_apply, Read.val_main_v20_apply, Read.val_main_cst_2_apply]
  have e : ∀ k : Fin 64, Read.val_main_v19 (F := Ideal) h w (Read.idx_main_v20 (Read.idx_main_v21 (Read.idx_main_v27 (ix3 r a d))) k)
      = zAt (rows h) w (up r) ⟨2048 + (a.val * 64 + k.val), by omega⟩ * zAt (rows h) w (up r) ⟨2048 + (a.val * 64 + k.val), by omega⟩ := fun k => by
    rw [show Read.idx_main_v20 (Read.idx_main_v21 (Read.idx_main_v27 (ix3 r a d))) k = ix3 r a k from funext fun b => by
      match b with | ⟨0, _⟩ => rfl | ⟨1, _⟩ => rfl | ⟨2, _⟩ => rfl]
    rw [Read.val_main_v19_apply, v18_at]
    rfl
  rw [Finset.sum_congr rfl fun k _ => e k, v18_at]
  rw [show Read.idx_main_v29 (Read.idx_main_v30 (ix3 r a d)) = ix1 d from funext fun b => by match b with | ⟨0, _⟩ => rfl]
  unfold normed
  rw [← div_64]
  show _ * Ideal.rsqrt (Ideal.div (Ideal.ofBits .f32 0x00000000#32 + _) _ + _) * _ = _
  rw [Ideal.ofBits_zero_f32, zero_add]
  rfl

/-- The pieces the reference puts side by side. -/
abbrev pieces : List ((s : Shape) × (s.Idx → EReal)) :=
  [⟨S128x2048, Read.val_main_v33 (F := Ideal) h w gq⟩, ⟨S128x256, Read.val_main_v34 (F := Ideal) h w gk⟩, ⟨S128x256, Read.val_main_v32 (F := Ideal) h w⟩]

/-- The reference's result is the kernel's function, where the activations and the query and key weights are reals. -/
theorem ref_eq (hh : ∀ r k, ∃ a : ℝ, h (ix2 r k) = (a : EReal)) (hw : ∀ k (j : Fin 14848), j.val < 2304 → ∃ a : ℝ, w (ix2 k j) = (a : EReal)) :
    Read.val_main_v35 (F := Ideal) h w gq gk = qkv h w gq gk := by
  funext i
  obtain ⟨r, j, rfl⟩ : ∃ (r : Fin 128) (j : Fin 2560), i = ix2 r j := ⟨i 0, i 1, eq_ix2 i⟩
  show _ = Cert.QkvIdeal.Proved.qkv (rows h) w gq gk (ix2 (up r) j)
  unfold Read.val_main_v35
  rcases Nat.lt_or_ge j.val 2048 with hj | hj
  · refine (concatenate_apply_piece (1 : Fin S128x2560.rank) (pieces h w gq gk) _ (ix2 r j) 0 (by show 0 < 3; omega)
      S128x2048 (Read.val_main_v33 (F := Ideal) h w gq) rfl rfl 0 rfl (ix2 r (⟨j.val, hj⟩ : Fin 2048))
      (fun b hb => by match b with | ⟨0, _⟩ => rfl | ⟨1, _⟩ => exact absurd rfl hb) (by show 0 + j.val = j.val; omega)).trans ?_
    rw [Read.val_main_v33_apply]
    rw [show Read.idx_main_v33 (ix2 r (⟨j.val, hj⟩ : Fin 2048)) = ix3 r (⟨j.val / 64, by omega⟩ : Fin 32) (⟨j.val % 64, by omega⟩ : Fin 64) from funext fun b => Fin.ext (by
      match b with
      | ⟨0, _⟩ => (show (r.val * 2048 + j.val) / 2048 = r.val; omega)
      | ⟨1, _⟩ => (show (r.val * 2048 + j.val) / 64 % 32 = j.val / 64; omega)
      | ⟨2, _⟩ => (show (r.val * 2048 + j.val) % 64 = j.val % 64; omega))]
    rw [v16_at, qkv_at (rows h) w gq gk (rows_real h hh) hw (up r) j (by omega)]
    unfold gain
    rw [if_pos hj]
  · rcases Nat.lt_or_ge j.val 2304 with hk | hk
    · refine (concatenate_apply_piece (1 : Fin S128x2560.rank) (pieces h w gq gk) _ (ix2 r j) 1 (by show 1 < 3; omega)
        S128x256 (Read.val_main_v34 (F := Ideal) h w gk) rfl rfl 2048 rfl (ix2 r (⟨j.val - 2048, by omega⟩ : Fin 256))
        (fun b hb => by match b with | ⟨0, _⟩ => rfl | ⟨1, _⟩ => exact absurd rfl hb) (by show 2048 + (j.val - 2048) = j.val; omega)).trans ?_
      rw [Read.val_main_v34_apply]
      rw [show Read.idx_main_v34 (ix2 r (⟨j.val - 2048, by omega⟩ : Fin 256)) = ix3 r (⟨(j.val - 2048) / 64, by omega⟩ : Fin 4) (⟨j.val % 64, by omega⟩ : Fin 64) from funext fun b => Fin.ext (by
        match b with
        | ⟨0, _⟩ => (show (r.val * 256 + (j.val - 2048)) / 256 = r.val; omega)
        | ⟨1, _⟩ => (show (r.val * 256 + (j.val - 2048)) / 64 % 4 = (j.val - 2048) / 64; omega)
        | ⟨2, _⟩ => (show (r.val * 256 + (j.val - 2048)) % 64 = j.val % 64; omega))]
      rw [v31_at, qkv_at (rows h) w gq gk (rows_real h hh) hw (up r) j hk]
      unfold gain
      rw [if_neg (by omega), if_pos hk]
      have e : (fun e : Fin 64 => zAt (rows h) w (up r) ⟨2048 + ((⟨(j.val - 2048) / 64, by omega⟩ : Fin 4).val * 64 + e.val), by show 2048 + ((j.val - 2048) / 64 * 64 + e.val) < 2560; omega⟩)
          = fun e : Fin 64 => zAt (rows h) w (up r) ⟨j.val / 64 * 64 + e.val, by omega⟩ :=
        funext fun e => congrArg (zAt (rows h) w (up r)) (Fin.ext (by show 2048 + ((j.val - 2048) / 64 * 64 + e.val) = j.val / 64 * 64 + e.val; omega))
      rw [e]
    · refine (concatenate_apply_piece (1 : Fin S128x2560.rank) (pieces h w gq gk) _ (ix2 r j) 2 (by show 2 < 3; omega)
        S128x256 (Read.val_main_v32 (F := Ideal) h w) rfl rfl 2304 rfl (ix2 r (⟨j.val - 2304, by omega⟩ : Fin 256))
        (fun b hb => by match b with | ⟨0, _⟩ => rfl | ⟨1, _⟩ => exact absurd rfl hb) (by show 2304 + (j.val - 2304) = j.val; omega)).trans ?_
      rw [Read.val_main_v32_apply]
      rw [show Read.idx_main_v32 (ix2 r (⟨j.val - 2304, by omega⟩ : Fin 256)) = ix2 r (⟨j.val, by omega⟩ : Fin 14848) from funext fun b => Fin.ext (by
        match b with
        | ⟨0, _⟩ => rfl
        | ⟨1, _⟩ => (show 2304 + (j.val - 2304) = j.val; omega))]
      rw [v1_at h w r _ (by show j.val < 2560; omega)]
      show _ = zAt (rows h) w (up r) j * (if j.val < 2304 then Ideal.rsqrt (ssAt (rows h) w (up r) j * _ + _) else 1) * gain gq gk j
      unfold gain
      rw [if_neg (by omega), if_neg (by omega), if_neg (by omega), mul_one, Ideal.ofBits_one_f32, mul_one]

end Cert.SampleQkvRefIdeal.Proved

namespace Cert.SampleQkvClaim

open Cert.SampleQkvIdeal.Proved (qkv hArr wArr gqArr gkArr)

/-- The kernel's result at the ideal instance is the reference's, at every index. -/
theorem algebraic : Cert.algebraic_SampleQkvIdeal_SampleQkvRefIdeal_pre_finite_hw_sample (hSampleQkvIdeal := Cert.SampleQkvIdeal.Gen.facts) (hSampleQkvRefIdeal := Cert.SampleQkvRefIdeal.Gen.facts) (hPre_finite_hw_sample := Cert.Pre_finite_hw_sample.Gen.facts) :=
  fun m ρ m' ρ' hpre hag =>
    ⟨fun c => qkv (hArr m c) (wArr m c) (gqArr m c) (gkArr m c),
      (θ_run (Cert.SampleQkvIdeal.defs (F := Ideal)) _ _).mono
        (fun _ h c => ⟨(h c).1.trans (Cert.SampleQkvIdeal.Proved.final_o m c), (h c).2⟩) (Cert.SampleQkvIdeal.Value.run_blocks m ρ),
      (θ_run (Cert.SampleQkvRefIdeal.defs (F := Ideal)) _ _).mono
        (fun _ h c => ⟨by
          refine (h c).1.trans ?_
          obtain ⟨g0, g1, g2, g3⟩ := hag c
          rw [g0, g1, g2, g3]
          refine (Cert.SampleQkvRefIdeal.Read.val_main_v35_eq _ _ _ _).trans ?_
          exact Cert.SampleQkvRefIdeal.Proved.ref_eq _ _ _ _ (Cert.SampleQkvRefIdeal.Proved.h_real _ _ _ _ (hpre c).1) (Cert.SampleQkvRefIdeal.Proved.w_real _ _ _ _ (hpre c).2), (h c).2⟩)
        (Cert.SampleQkvRefIdeal.Value.run m' ρ')⟩

end Cert.SampleQkvClaim
end
-- ==== Proof.SampleUgvValue.lean ====
/-
  The VALUE of `SampleUgv.lean` at the ideal instance: the gated branch's projection again, of the 128 rows of the sample's
  tokens. Grid of 8 column tiles by one row tile, so the weight tile is copied to the scratch and read back at every point.
  The result keeps single precision, and the function is UgvValue.lean's `gelu`.
-/
module

public import proofs.«01_k».proof.Defs
public import proofs.«01_k».proof.Proof.UgvValue
public import proofs.«01_k».proof.Proof.Gen.SampleUgvIdeal.Value
public import proofs.«01_k».proof.Proof.Gen.SampleUgvRefIdeal.Run
public import proofs.«01_k».proof.Proof.Gen.SampleUgvRefIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SampleUgvIdeal.Proved

open Cert.SampleUgvIdeal Cert.SampleUgvIdeal.Gen
open Cert.UgvIdeal.Proved (gelu)

variable (m : (ℓ : Loc nD τ sig) → Buf (Elt Ideal) ℓ) (ρ : Dev nD → PrngReg)

theorem hz : (![0, 0] : Fin 2 → Nat) = fun _ => 0 := funext fun a => by fin_cases a <;> rfl

/-- The activations `h`. -/
abbrev hArr (c : Dev nD) : Vec Ideal S128x4096 .bf16 := m ((c : Thread nD τ).loc main_arg0)
/-- The projection weights. -/
abbrev wArr (c : Dev nD) : Vec Ideal S4096x14848 .f32 := m ((c : Thread nD τ).loc main_arg1)

/-- What a point leaves in the result's buffer: the weight tile goes to the scratch and is read back. -/
theorem out_A (c : Dev nD) (i : grid0.Coords) (a2 : Memref sig .tc .vmem S128x4096 .bf16) (h2 : a2.IsWhole)
    (a3 : Memref sig .tc .vmem S4096x512 .f32) (h3 : a3.IsWhole) (a4 : Memref sig .tc .vmem S128x512 .f32) (h4 : a4.IsWhole)
    (a5 : Memref sig .tc .vmem S4096x512 .bf16) (h5 : a5.IsWhole) (hc : cond0_0 i) (x : Vec Ideal S128x4096 .bf16)
    (w : Vec Ideal S4096x512 .f32) :
    out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero hz, View.readCov_unit_zero (S := S4096x512) _ hz]
  simp only [View.readAt_eq_ld, h2.read_unread, h3.read_unread, View.ld_unit_zero (S := S128x4096) hz, View.ld_unit_zero (S := S4096x512) hz]

/-- The copy of the weight tile is the weight tile, whatever the element type's width. -/
theorem pay1_apply (w : Vec Ideal S4096x512 .f32) (j : S4096x512.Idx) : k0_pay1 (F := Ideal) w j = w j := by
  unfold k0_pay1
  idx_vars j
  pointwise

/-- A tile of the result: the GELU of the product. -/
theorem pay2_apply (x : Vec Ideal S128x4096 .bf16) (s : Vec Ideal S4096x512 .bf16) (p : Fin 128) (q : Fin 512) :
    k0_pay2 (F := Ideal) x s (ix2 p q) = gelu (∑ k : Fin 4096, x (ix2 p k) * s (ix2 k q)) := by
  unfold k0_pay2 gelu
  pointwise
  rfl

/-- The result as one whole array: entry (row, column) is the GELU of the row of `h` times the column of
    the weights, which begin at column 2560. -/
def ugv (h : Vec Ideal S128x4096 .bf16) (w : Vec Ideal S4096x14848 .f32) : Vec Ideal S128x4096 .f32 := fun i =>
  gelu (∑ k : Fin 4096, h (ix2 (i 0) k) * w (ix2 k ⟨2560 + (i 1).val, by have : (i 1).val < 4096 := (i 1).isLt; omega⟩))

/-- Where the windows' blocks lie: point `t` takes column tile `t`. -/
theorem idx_facts : ∀ t : Fin cfg0.N, win0_0.index t (0 : Fin 2) = 0 ∧ win0_0.index t (1 : Fin 2) = 0
    ∧ win0_1.index t (0 : Fin 2) = 0 ∧ win0_1.index t (1 : Fin 2) = 5 + t.val
    ∧ win0_2.index t (0 : Fin 2) = 0 ∧ win0_2.index t (1 : Fin 2) = t.val :=
  (by decide +kernel : ∀ t : Fin grid0.N, _)

/-- The row tile of `h` at point `t`, at an index. -/
theorem iblk0_apply (c : Dev nD) (t : Fin cfg0.N) (p : Fin 128) (k : Fin 4096) :
    (iblk m c 0 t : Vec Ideal S128x4096 .bf16) (ix2 p k)
      = hArr m c (ix2 p k) := by
  obtain ⟨e0, e1, -⟩ := idx_facts t
  show m ((c : Thread nD τ).loc main_arg0) (((cfg0.win 0).blk t).view.emb (ix2 p k)) = _
  congr 1
  funext a; apply Fin.ext
  match a with
  | ⟨0, _⟩ => show win0_0.index t (0 : Fin 2) * 128 + 1 * p.val = p.val; rw [e0]; omega
  | ⟨1, _⟩ => show win0_0.index t (1 : Fin 2) * 4096 + 1 * k.val = k.val; rw [e1]; omega

theorem tlt (t : Fin cfg0.N) : t.val < 8 := by
  have h := lt_of_lt_of_eq t.isLt (show cfg0.N = 8 from N_0); omega

/-- The weight tile at point `t`, at an index. -/
theorem iblk1_apply (c : Dev nD) (t : Fin cfg0.N) (k : Fin 4096) (q : Fin 512) :
    (iblk m c 1 t : Vec Ideal S4096x512 .f32) (ix2 k q)
      = wArr m c (ix2 k ⟨2560 + (t.val * 512 + q.val), by have := tlt t; omega⟩) := by
  obtain ⟨-, -, e0, e1, -⟩ := idx_facts t
  show m ((c : Thread nD τ).loc main_arg1) (((cfg0.win 1).blk t).view.emb (ix2 k q)) = _
  congr 1
  funext a; apply Fin.ext
  match a with
  | ⟨0, _⟩ => show win0_1.index t (0 : Fin 2) * 4096 + 1 * k.val = k.val; rw [e0]; omega
  | ⟨1, _⟩ => show win0_1.index t (1 : Fin 2) * 512 + 1 * q.val = 2560 + (t.val * 512 + q.val); rw [e1]; omega

/-- What every point leaves in the result's buffer: its tile of the whole array. -/
theorem outs_apply (c : Dev nD) (t : Fin cfg0.N) (p : Fin 128) (q : Fin 512) :
    outsAt0 m c t (ix2 p q) = gelu (∑ k : Fin 4096, hArr m c (ix2 p k) * wArr m c (ix2 k ⟨2560 + (t.val * 512 + q.val), by have := tlt t; omega⟩)) := by
  unfold outsAt0
  rw [out_A, pay2_apply]
  simp only [pay1_apply, iblk0_apply, iblk1_apply]

theorem emb2 (t : Fin cfg0.N) (p : Fin 128) (q : Fin 512) :
    ((cfg0.win 2).blk t).view.emb (ix2 p q) = (ix2 p ⟨t.val * 512 + q.val, by have := tlt t; omega⟩ : S128x4096.Idx) := by
  obtain ⟨-, -, -, -, e0, e1⟩ := idx_facts t
  funext a; apply Fin.ext
  match a with
  | ⟨0, _⟩ => show win0_2.index t (0 : Fin 2) * 128 + 1 * p.val = p.val; rw [e0]; omega
  | ⟨1, _⟩ => show win0_2.index t (1 : Fin 2) * 512 + 1 * q.val = t.val * 512 + q.val; rw [e1]; omega

theorem flush2 : ∀ t : Fin cfg0.N, (cfg0.win 2).flush t = true :=
  (by decide +kernel : ∀ t : Fin grid0.N, _)

/-- Point `t` writes back block `t` of the whole array. -/
theorem flushed_eq (c : Dev nD) (t : Fin cfg0.N) (hf : (cfg0.win 2).flush t = true) :
    (dats m 0 c).flushed 2 t = ((cfg0.win 2).blk t).view.read (Elt Ideal) (ugv (hArr m c) (wArr m c)) := by
  rw [Value.flushed2]
  funext y
  obtain ⟨p, q, rfl⟩ : ∃ (p : Fin 128) (q : Fin 512), y = ix2 p q := ⟨y 0, y 1, eq_ix2 y⟩
  show outsAt0 m c t (ix2 p q) = ugv (hArr m c) (wArr m c) (((cfg0.win 2).blk t).view.emb (ix2 p q))
  rw [emb2, outs_apply]
  rfl

/-- The array after the run. -/
theorem final_o (c : Dev nD) : (dats m 0 c).arrAt 2 cfg0.N = ugv (hArr m c) (wArr m c) :=
  (dats m 0 c).arrAt_eq_of_cover 2 _ (fun t hf => flushed_eq m c t hf) fun i => by
    have h1 : (i 1).val < 4096 := (i 1).isLt
    have ht : (i 1).val / 512 < cfg0.N := by rw [show cfg0.N = 8 from N_0]; omega
    refine ⟨⟨(i 1).val / 512, ht⟩, flush2 _, ?_⟩
    have := ((cfg0.win 2).blk ⟨(i 1).val / 512, ht⟩).view.emb_mem_set (ix2 (i 0 : Fin 128) (⟨(i 1).val % 512, by omega⟩ : Fin 512))
    have he : (ix2 (i 0 : Fin 128) ⟨(i 1).val / 512 * 512 + (i 1).val % 512, by omega⟩ : S128x4096.Idx) = i := by
      funext a; apply Fin.ext
      match a with
      | ⟨0, _⟩ => rfl
      | ⟨1, _⟩ => show (i 1).val / 512 * 512 + (i 1).val % 512 = (i 1).val; omega
    exact Eq.mp (congrArg (· ∈ ((cfg0.win 2).blk ⟨(i 1).val / 512, ht⟩).view.set) ((emb2 ⟨(i 1).val / 512, ht⟩ (i 0) ⟨(i 1).val % 512, by omega⟩).trans he)) this

end Cert.SampleUgvIdeal.Proved

namespace Cert.SampleUgvRefIdeal.Proved

open Cert.SampleUgvRefIdeal Cert.SampleUgvRefIdeal.Gen

/-- The reference's result is the same function of the two arguments. -/
theorem ref_eq (h : Vec Ideal S128x4096 .bf16) (w : Vec Ideal S4096x14848 .f32) :
    Read.val_main_v9 (F := Ideal) h w = Cert.SampleUgvIdeal.Proved.ugv h w := by
  funext i
  obtain ⟨p, q, rfl⟩ : ∃ (p : Fin 128) (q : Fin 4096), i = ix2 p q := ⟨i 0, i 1, eq_ix2 i⟩
  simp only [Read.val_main_v9_apply, Read.val_main_v8_apply, Read.val_main_v7_apply, Read.val_main_v6_apply,
    Read.val_main_v5_apply, Read.val_main_v4_apply, Read.val_main_v3_apply, Read.val_main_v2_apply, Read.val_main_v1_apply, Read.val_main_v0_apply,
    Read.val_main_cst_apply, Read.val_main_cst_0_apply]
  unfold Cert.SampleUgvIdeal.Proved.ugv
  have hs : ∀ k : Fin 4096, Read.lidx_main_v1 (Read.idx_main_v2 (ix2 p q)) k = ix2 p k := fun k => funext fun a => by
    match a with | ⟨0, _⟩ => rfl | ⟨1, _⟩ => rfl
  have hw : ∀ k : Fin 4096, Read.ridx_main_v1 (Read.idx_main_v2 (ix2 p q)) k = ix2 k ⟨2560 + q.val, by omega⟩ := fun k => funext fun a => by
    match a with | ⟨0, _⟩ => rfl | ⟨1, _⟩ => rfl
  simp only [hs, hw]
  exact Cert.UgvIdeal.Proved.gelu_eq _

end Cert.SampleUgvRefIdeal.Proved

namespace Cert.SampleUgvClaim

/-- The kernel's result at the ideal instance is the reference's, at every index. -/
theorem algebraic : Cert.algebraic_SampleUgvIdeal_SampleUgvRefIdeal (hSampleUgvIdeal := Cert.SampleUgvIdeal.Gen.facts) (hSampleUgvRefIdeal := Cert.SampleUgvRefIdeal.Gen.facts) :=
  fun m ρ m' ρ' _ hag =>
    ⟨fun c => Cert.SampleUgvIdeal.Proved.ugv (Cert.SampleUgvIdeal.Proved.hArr m c) (Cert.SampleUgvIdeal.Proved.wArr m c),
      (θ_run (Cert.SampleUgvIdeal.defs (F := Ideal)) _ _).mono
        (fun _ h c => ⟨(h c).1.trans (Cert.SampleUgvIdeal.Proved.final_o m c), (h c).2⟩) (Cert.SampleUgvIdeal.Value.run_blocks m ρ),
      (θ_run (Cert.SampleUgvRefIdeal.defs (F := Ideal)) _ _).mono
        (fun _ h c => ⟨by
          refine (h c).1.trans ?_
          rw [Cert.SampleUgvRefIdeal.Read.val_main_v9_eq, Cert.SampleUgvRefIdeal.Proved.ref_eq, (hag c).1, (hag c).2], (h c).2⟩)
        (Cert.SampleUgvRefIdeal.Value.run m' ρ')⟩

end Cert.SampleUgvClaim
end
-- ==== Proof.FfnNormValue.lean ====
/-
  The VALUE of `FfnNorm.lean` at the ideal instance: the normalised and modulated row of a token, and the product of that row
  with every column of the router's weights. The kernel splits both factors of the product in a high and a low part; over the
  extended reals the low part is the difference of a number with itself, nothing of a real number, which is why the claim
  asks that the arguments be finite. Grid of 32 row tiles, eight per sequence.
-/
module

public import proofs.«01_k».proof.Defs
public import proofs.«01_k».proof.Proof.ModulateValue
public import proofs.«01_k».proof.Proof.QkvValue
public import proofs.«01_k».proof.Proof.Gen.Pre_finite_ffn
public import proofs.«01_k».proof.Proof.Gen.FfnNormIdeal.Value
public import proofs.«01_k».proof.Proof.Gen.FfnNormRefIdeal.Run
public import proofs.«01_k».proof.Proof.Gen.FfnNormRefIdeal.Read
public import Idealize.ShloMosaic.Lib.Pipeline.Value
public import Idealize.ShloMosaic.Lib.Pointwise
public import Idealize.ShloMosaic.Lib.Tactic
public import Idealize.ShloMosaic.Lib.Quiescent
public import Idealize.ShloMosaic.Lib.Bf16Pair
public import Idealize.ShloMosaic.Lib.Bf16PairInverse

@[expose] public section

set_option maxRecDepth 16384

noncomputable section

open Idealize.ShloMosaic Idealize.ShloMosaic.TcCoe Idealize.SL.Sem
open Idealize.ShloMosaic.Pipeline (Dat)

namespace Cert.FfnNormIdeal.Proved

open Cert.FfnNormIdeal Cert.FfnNormIdeal.Gen
open Cert.ModulateIdeal.Proved (modCol width eps hz hz3)
open Cert.QkvRefIdeal.Proved (sum_reals)

/-- The number under the root is a real and positive. -/
theorem eps_pos : ∃ e : ℝ, 0 < e ∧ eps = (e : EReal) := by
  refine ⟨(8796093 / 8796093022208 : ℝ), by norm_num, ?_⟩
  show Ideal.ofBits FTy.f32 0x358637BD#32 = _
  simp [Ideal.ofBits, Ideal.ieee]; rw [← EReal.coe_mul]; norm_num

/-- The width is the real 4096. -/
theorem width_eq : width = ((4096 : ℝ) : EReal) := by
  show Ideal.ofBits FTy.f32 0x45800000#32 = _
  simp [Ideal.ofBits, Ideal.ieee]; rw [← EReal.coe_mul]; norm_num

/-- A sum of squares of reals is a real, and not negative. -/
theorem squares_real (g : Fin 4096 → ℝ) : ∃ s : ℝ, 0 ≤ s ∧ ∑ k : Fin 4096, (g k : EReal) * (g k : EReal) = (s : EReal) := by
  refine ⟨∑ k, g k * g k, Finset.sum_nonneg fun k _ => mul_self_nonneg _, ?_⟩
  simp only [← EReal.coe_mul]
  induction (Finset.univ : Finset (Fin 4096)) using Finset.induction_on with
  | empty => simp
  | insert a S ha ih => rw [Finset.sum_insert ha, Finset.sum_insert ha, ih, EReal.coe_add]

/-- A modulated row of reals is a row of reals: the number under the root is positive. -/
theorem modCol_real (row : Fin 4096 → EReal) (j : Fin 4096) (g a s : EReal) (hr : ∀ k, ∃ x : ℝ, row k = (x : EReal))
    (hg : ∃ x : ℝ, g = (x : EReal)) (ha : ∃ x : ℝ, a = (x : EReal)) (hs : ∃ x : ℝ, s = (x : EReal)) :
    ∃ x : ℝ, modCol row j g a s = (x : EReal) := by
  choose f hf using hr
  obtain ⟨g', rfl⟩ := hg
  obtain ⟨a', rfl⟩ := ha
  obtain ⟨s', rfl⟩ := hs
  obtain ⟨e, he, hee⟩ := eps_pos
  obtain ⟨q, hq, hqe⟩ := squares_real f
  have hpos : 0 < q * (1 / 4096) + e := by positivity
  refine ⟨f j * (Real.sqrt (q * (1 / 4096) + e))⁻¹ * g' * (1 + a') + s', ?_⟩
  unfold modCol
  simp only [hf]
  rw [hqe, width_eq, Ideal.div_coe (by norm_num : (4096 : ℝ) ≠ 0), hee, ← EReal.coe_mul, ← EReal.coe_add, Ideal.rsqrt_coe,
    if_neg (not_lt.2 hpos.le), if_neg hpos.ne']
  simp only [EReal.coe_add, EReal.coe_mul, EReal.coe_one]

/-- What the two low parts add to a product of reals: nothing. -/
theorem split_eq (w h : Fin 4096 → EReal) (hw : ∀ k, ∃ x : ℝ, w k = (x : EReal)) (hh : ∀ k, ∃ x : ℝ, h k = (x : EReal)) :
    (∑ k, w k * h k) + (∑ k, w k * (h k - h k)) + (∑ k, (w k - w k) * h k) = ∑ k, h k * w k := by
  have z : ∀ a : EReal, (∃ x : ℝ, a = (x : EReal)) → a - a = 0 := by
    rintro _ ⟨x, rfl⟩
    rw [← EReal.coe_sub, sub_self, EReal.coe_zero]
  simp only [fun k => z _ (hw k), fun k => z _ (hh k), mul_zero, zero_mul, Finset.sum_const_zero, add_zero]
  exact Finset.sum_congr rfl fun k _ => mul_comm _ _

variable (m : (ℓ : Loc nD τ sig) → Buf (Elt Ideal) ℓ) (ρ : Dev nD → PrngReg)

/-- The tokens, a row each, sequence after sequence. -/
abbrev xArr (c : Dev nD) : Vec Ideal S8192x4096 .f32 := m ((c : Thread nD τ).loc main_arg0)
/-- The gain of the normalisation. -/
abbrev gArr (c : Dev nD) : Vec Ideal S4096 .f32 := m ((c : Thread nD τ).loc main_arg1)
/-- The modulation of each sequence; the fourth part is the shift, the fifth the scale. -/
abbrev mArr (c : Dev nD) : Vec Ideal S4x24576 .f32 := m ((c : Thread nD τ).loc main_arg2)
/-- The router's weights, a column to an expert. -/
abbrev wArr (c : Dev nD) : Vec Ideal S4096x64 .f32 := m ((c : Thread nD τ).loc main_arg3)

/-- The normalised and modulated rows of a tile, before their format is changed. -/
theorem pay2_apply (x : Vec Ideal S256x4096 .f32) (g : Vec Ideal S1x4096 .f32) (a s : Vec Ideal S1x1x4096 .f32) (p : Fin 256) (q : Fin 4096) :
    k0_pay2 (F := Ideal) x g a s (ix2 p q) = modCol (fun k => x (ix2 p k)) q (g (ix2 0 q)) (a (ix3 0 0 q)) (s (ix3 0 0 q)) := by
  unfold k0_pay2
  pointwise
  rfl

/-- The rows as they are stored. -/
theorem pay3_apply (x : Vec Ideal S256x4096 .f32) (g : Vec Ideal S1x4096 .f32) (a s : Vec Ideal S1x1x4096 .f32) (p : Fin 256) (q : Fin 4096) :
    k0_pay3 (F := Ideal) x g a s (ix2 p q) = modCol (fun k => x (ix2 p k)) q (g (ix2 0 q)) (a (ix3 0 0 q)) (s (ix3 0 0 q)) :=
  pay2_apply x g a s p q

/-- The logits of a tile, in the three products the kernel adds. -/
theorem pay1_apply (v : Vec Ideal S256x4096 .f32) (w : Vec Ideal S64x4096 .f32) (e : Fin 64) (p : Fin 256) :
    k0_pay1 (F := Ideal) v w (ix2 e p) = (∑ k : Fin 4096, w (ix2 e k) * v (ix2 p k)) + (∑ k : Fin 4096, w (ix2 e k) * (v (ix2 p k) - v (ix2 p k)))
      + ∑ k : Fin 4096, (w (ix2 e k) - w (ix2 e k)) * v (ix2 p k) := by
  unfold k0_pay1
  pointwise

theorem V_x (c : Dev nD) (r : Fin 8192) (q : Fin 4096) : (V m c main_arg0 : Vec Ideal S8192x4096 .f32) (ix2 r q) = xArr m c (ix2 r q) := by
  have e : (V m c main_arg0 : Vec Ideal S8192x4096 .f32) = xArr m c := by
    unfold_abbrev_sides
    simp only [hostOps0, List.flatten_cons, List.flatten_nil, List.append_nil, List.cons_append, List.nil_append]
    after_results
  rw [e]

theorem V_m (c : Dev nD) (b : Fin 4) (q : Fin 24576) :
    (V m c main_v0 : Vec Ideal S4x1x24576 .f32) (ix3 b 0 q) = mArr m c (ix2 b q) := by
  have e : (V m c main_v0 : Vec Ideal S4x1x24576 .f32) = shapeCast S4x1x24576 (mArr m c) shapeCasts_S4x24576_S4x1x24576 := by
    unfold_abbrev_sides
    simp only [hostOps0, List.flatten_cons, List.flatten_nil, List.append_nil, List.cons_append, List.nil_append]
    after_results
    rfl
  rw [e]
  exact shapeCast_apply _ _ _ _ (by
    rewrite [Shape.rowMajor_val_two, Shape.rowMajor_val_three]
    show b.val * 24576 + q.val = (b.val * 1 + 0) * 24576 + q.val
    omega)

theorem V_g (c : Dev nD) (q : Fin 4096) : (V m c main_v2 : Vec Ideal S1x4096 .f32) (ix2 0 q) = gArr m c (ix1 q) := by
  have e : (V m c main_v2 : Vec Ideal S1x4096 .f32) = shapeCast S1x4096 (gArr m c) shapeCasts_S4096_S1x4096 := by
    unfold_abbrev_sides
    simp only [hostOps0, List.flatten_cons, List.flatten_nil, List.append_nil, List.cons_append, List.nil_append]
    after_results
    rfl
  rw [e]
  exact shapeCast_apply _ _ _ _ (by
    rewrite [Shape.rowMajor_val_one, Shape.rowMajor_val_two]
    show q.val = 0 * 4096 + q.val
    omega)

theorem V_w (c : Dev nD) (e : Fin 64) (k : Fin 4096) : (V m c main_v1 : Vec Ideal S64x4096 .f32) (ix2 e k) = wArr m c (ix2 k e) := by
  have h : (V m c main_v1 : Vec Ideal S64x4096 .f32) = transpose S64x4096 [1, 0] (wArr m c) transposes_S4096x64_S64x4096_1_0 := by
    unfold_abbrev_sides
    simp only [hostOps0, List.flatten_cons, List.flatten_nil, List.append_nil, List.cons_append, List.nil_append]
    after_results
  rw [h]
  exact transpose_apply [1, 0] _ _ _ _ (fun b => match b with | ⟨0, _⟩ => rfl | ⟨1, _⟩ => rfl)

/-- Where the blocks lie: point `t` takes row tile `t`, the shift and the scale of sequence `t / 8`, and all the router's weights. -/
theorem idx_facts : ∀ t : Fin cfg0.N, win0_0.index t (0 : Fin 2) = t.val ∧ win0_0.index t (1 : Fin 2) = 0 ∧ win0_1.index t (0 : Fin 2) = 0 ∧ win0_1.index t (1 : Fin 2) = 0
    ∧ win0_2.index t (0 : Fin 3) = t.val / 8 ∧ win0_2.index t (1 : Fin 3) = 0 ∧ win0_2.index t (2 : Fin 3) = 3
    ∧ win0_3.index t (0 : Fin 3) = t.val / 8 ∧ win0_3.index t (1 : Fin 3) = 0 ∧ win0_3.index t (2 : Fin 3) = 4
    ∧ win0_4.index t (0 : Fin 2) = 0 ∧ win0_4.index t (1 : Fin 2) = 0
    ∧ win0_5.index t (0 : Fin 2) = t.val ∧ win0_5.index t (1 : Fin 2) = 0
    ∧ win0_7.index t (0 : Fin 2) = 0 ∧ win0_7.index t (1 : Fin 2) = t.val :=
  (by decide +kernel : ∀ t : Fin grid0.N, _)

theorem tlt (t : Fin cfg0.N) : t.val < 32 := lt_of_lt_of_eq t.isLt (show cfg0.N = 32 from N_0)

/-- The row of the whole array that row `p` of tile `t` is. -/
abbrev rowAt (t : Fin cfg0.N) (p : Fin 256) : Fin 8192 := ⟨t.val * 256 + p.val, by have := tlt t; omega⟩
/-- The sequence a row belongs to. -/
abbrev seqOf (r : Fin 8192) : Fin 4 := ⟨r.val / 2048, by omega⟩

theorem seq_rowAt (t : Fin cfg0.N) (p : Fin 256) : t.val / 8 = (seqOf (rowAt t p)).val := by
  show t.val / 8 = (t.val * 256 + p.val) / 2048
  omega

theorem iblk0_apply (c : Dev nD) (t : Fin cfg0.N) (p : Fin 256) (q : Fin 4096) :
    (iblk m c 0 t : Vec Ideal S256x4096 .f32) (ix2 p q) = xArr m c (ix2 (rowAt t p) q) := by
  obtain ⟨e0, e1, -⟩ := idx_facts t
  refine Eq.trans ?_ (V_x m c (rowAt t p) q)
  show V m c main_arg0 (((cfg0.win 0).blk t).view.emb (ix2 p q)) = _
  congr 1
  funext a; apply Fin.ext
  match a with
  | ⟨0, _⟩ => show win0_0.index t (0 : Fin 2) * 256 + 1 * p.val = t.val * 256 + p.val; rw [e0]; omega
  | ⟨1, _⟩ => show win0_0.index t (1 : Fin 2) * 4096 + 1 * q.val = q.val; rw [e1]; omega

theorem iblk1_apply (c : Dev nD) (t : Fin cfg0.N) (q : Fin 4096) :
    (iblk m c 1 t : Vec Ideal S1x4096 .f32) (ix2 0 q) = gArr m c (ix1 q) := by
  obtain ⟨-, -, e0, e1, -⟩ := idx_facts t
  refine Eq.trans ?_ (V_g m c q)
  show V m c main_v2 (((cfg0.win 1).blk t).view.emb (ix2 0 q)) = _
  congr 1
  funext a; apply Fin.ext
  match a with
  | ⟨0, _⟩ => show win0_1.index t (0 : Fin 2) * 1 + 1 * 0 = 0; rw [e0]
  | ⟨1, _⟩ => show win0_1.index t (1 : Fin 2) * 4096 + 1 * q.val = q.val; rw [e1]; omega

theorem iblk2_apply (c : Dev nD) (t : Fin cfg0.N) (p : Fin 256) (q : Fin 4096) :
    (iblk m c 2 t : Vec Ideal S1x1x4096 .f32) (ix3 0 0 q) = mArr m c (ix2 (seqOf (rowAt t p)) ⟨12288 + q.val, by omega⟩) := by
  obtain ⟨-, -, -, -, e0, e1, e2, -⟩ := idx_facts t
  refine Eq.trans ?_ (V_m m c (seqOf (rowAt t p)) ⟨12288 + q.val, by omega⟩)
  show V m c main_v0 (((cfg0.win 2).blk t).view.emb (ix3 0 0 q)) = _
  congr 1
  funext a; apply Fin.ext
  match a with
  | ⟨0, _⟩ => show win0_2.index t (0 : Fin 3) * 1 + 1 * 0 = (seqOf (rowAt t p)).val; rw [e0, ← seq_rowAt]; omega
  | ⟨1, _⟩ => show win0_2.index t (1 : Fin 3) * 1 + 1 * 0 = 0; rw [e1]
  | ⟨2, _⟩ => show win0_2.index t (2 : Fin 3) * 4096 + 1 * q.val = 12288 + q.val; rw [e2]; omega

theorem iblk3_apply (c : Dev nD) (t : Fin cfg0.N) (p : Fin 256) (q : Fin 4096) :
    (iblk m c 3 t : Vec Ideal S1x1x4096 .f32) (ix3 0 0 q) = mArr m c (ix2 (seqOf (rowAt t p)) ⟨16384 + q.val, by omega⟩) := by
  obtain ⟨-, -, -, -, -, -, -, e0, e1, e2, -⟩ := idx_facts t
  refine Eq.trans ?_ (V_m m c (seqOf (rowAt t p)) ⟨16384 + q.val, by omega⟩)
  show V m c main_v0 (((cfg0.win 3).blk t).view.emb (ix3 0 0 q)) = _
  congr 1
  funext a; apply Fin.ext
  match a with
  | ⟨0, _⟩ => show win0_3.index t (0 : Fin 3) * 1 + 1 * 0 = (seqOf (rowAt t p)).val; rw [e0, ← seq_rowAt]; omega
  | ⟨1, _⟩ => show win0_3.index t (1 : Fin 3) * 1 + 1 * 0 = 0; rw [e1]
  | ⟨2, _⟩ => show win0_3.index t (2 : Fin 3) * 4096 + 1 * q.val = 16384 + q.val; rw [e2]; omega

theorem iblk4_apply (c : Dev nD) (t : Fin cfg0.N) (e : Fin 64) (k : Fin 4096) :
    (iblk m c 4 t : Vec Ideal S64x4096 .f32) (ix2 e k) = wArr m c (ix2 k e) := by
  obtain ⟨-, -, -, -, -, -, -, -, -, -, e0, e1, -⟩ := idx_facts t
  refine Eq.trans ?_ (V_w m c e k)
  show V m c main_v1 (((cfg0.win 4).blk t).view.emb (ix2 e k)) = _
  congr 1
  funext a; apply Fin.ext
  match a with
  | ⟨0, _⟩ => show win0_4.index t (0 : Fin 2) * 64 + 1 * e.val = e.val; rw [e0]; omega
  | ⟨1, _⟩ => show win0_4.index t (1 : Fin 2) * 4096 + 1 * k.val = k.val; rw [e1]; omega

/-- Column `q` of the normalised and modulated row `r`. -/
def hAt (x : Vec Ideal S8192x4096 .f32) (g : Vec Ideal S4096 .f32) (mo : Vec Ideal S4x24576 .f32) (r : Fin 8192) (q : Fin 4096) : EReal :=
  modCol (fun k => x (ix2 r k)) q (g (ix1 q)) (mo (ix2 (seqOf r) ⟨16384 + q.val, by omega⟩)) (mo (ix2 (seqOf r) ⟨12288 + q.val, by omega⟩))

/-- The first result as one whole array. -/
def normed (x : Vec Ideal S8192x4096 .f32) (g : Vec Ideal S4096 .f32) (mo : Vec Ideal S4x24576 .f32) : Vec Ideal S8192x4096 .bf16 := fun i =>
  hAt x g mo (i 0) (i 1)

/-- The second result as one whole array: an expert's logit of every token. -/
def logits (x : Vec Ideal S8192x4096 .f32) (g : Vec Ideal S4096 .f32) (mo : Vec Ideal S4x24576 .f32) (w : Vec Ideal S4096x64 .f32) : Vec Ideal S64x8192 .f32 := fun i =>
  ∑ k : Fin 4096, hAt x g mo (i 1) k * w (ix2 k (i 0 : Fin 64))

theorem out5_eq (x0 : Vec Ideal S256x4096 .f32) (x1 : Vec Ideal S1x4096 .f32) (x2 x3 : Vec Ideal S1x1x4096 .f32) (x4 : Vec Ideal S64x4096 .f32) :
    out0_5 x0 x1 x2 x3 x4 = k0_pay3 x0 x1 x3 x2 := by
  unfold out0_5
  rw [View.canon_unit_zero hz]
  simp only [View.ld_unit_zero (S := S256x4096) hz, View.ld_unit_zero (S := S1x4096) hz, View.ld_unit_zero (S := S1x1x4096) hz3]

theorem out7_eq (x0 : Vec Ideal S256x4096 .f32) (x1 : Vec Ideal S1x4096 .f32) (x2 x3 : Vec Ideal S1x1x4096 .f32) (x4 : Vec Ideal S64x4096 .f32) :
    out0_7 x0 x1 x2 x3 x4 = k0_pay1 (k0_pay2 x0 x1 x3 x2) x4 := by
  unfold out0_7
  rw [View.canon_unit_zero hz]
  simp only [View.ld_unit_zero (S := S256x4096) hz, View.ld_unit_zero (S := S1x4096) hz, View.ld_unit_zero (S := S1x1x4096) hz3, View.ld_unit_zero (S := S64x4096) hz]

theorem emb5 (t : Fin cfg0.N) (p : Fin 256) (q : Fin 4096) : ((cfg0.win 5).blk t).view.emb (ix2 p q) = (ix2 (rowAt t p) q : S8192x4096.Idx) := by
  obtain ⟨-, -, -, -, -, -, -, -, -, -, -, -, e0, e1, -⟩ := idx_facts t
  funext a; apply Fin.ext
  match a with
  | ⟨0, _⟩ => show win0_5.index t (0 : Fin 2) * 256 + 1 * p.val = t.val * 256 + p.val; rw [e0]; omega
  | ⟨1, _⟩ => show win0_5.index t (1 : Fin 2) * 4096 + 1 * q.val = q.val; rw [e1]; omega

theorem emb7 (t : Fin cfg0.N) (e : Fin 64) (p : Fin 256) : ((cfg0.win 7).blk t).view.emb (ix2 e p) = (ix2 e (rowAt t p) : S64x8192.Idx) := by
  obtain ⟨-, -, -, -, -, -, -, -, -, -, -, -, -, -, e0, e1⟩ := idx_facts t
  funext a; apply Fin.ext
  match a with
  | ⟨0, _⟩ => show win0_7.index t (0 : Fin 2) * 64 + 1 * e.val = e.val; rw [e0]; omega
  | ⟨1, _⟩ => show win0_7.index t (1 : Fin 2) * 256 + 1 * p.val = t.val * 256 + p.val; rw [e1]; omega

theorem flush5 : ∀ t : Fin cfg0.N, (cfg0.win 5).flush t = true :=
  (by decide +kernel : ∀ t : Fin grid0.N, _)
theorem flush7 : ∀ t : Fin cfg0.N, (cfg0.win 7).flush t = true :=
  (by decide +kernel : ∀ t : Fin grid0.N, _)

/-- The rows a point works out are those of its tile. -/
theorem tile_row (c : Dev nD) (t : Fin cfg0.N) (p : Fin 256) (q : Fin 4096) :
    k0_pay2 (F := Ideal) (iblk m c 0 t) (iblk m c 1 t) (iblk m c 3 t) (iblk m c 2 t) (ix2 p q) = hAt (xArr m c) (gArr m c) (mArr m c) (rowAt t p) q := by
  rw [pay2_apply]
  simp only [iblk0_apply, iblk1_apply, iblk2_apply m c t p, iblk3_apply m c t p]
  rfl

/-- Point `t` writes back tile `t` of the normalised rows. -/
theorem flushed5_eq (c : Dev nD) (t : Fin cfg0.N) :
    (dats m 0 c).flushed 5 t = ((cfg0.win 5).blk t).view.read (Elt Ideal) (normed (xArr m c) (gArr m c) (mArr m c)) := by
  rw [Value.flushed5]
  funext y
  obtain ⟨p, q, rfl⟩ : ∃ (p : Fin 256) (q : Fin 4096), y = ix2 p q := ⟨y 0, y 1, eq_ix2 y⟩
  show out0_5 (iblk m c 0 t) (iblk m c 1 t) (iblk m c 2 t) (iblk m c 3 t) (iblk m c 4 t) (ix2 p q)
    = normed (xArr m c) (gArr m c) (mArr m c) (((cfg0.win 5).blk t).view.emb (ix2 p q))
  rw [emb5, out5_eq]
  exact tile_row m c t p q

/-- Point `t` writes back the logits of its tile's tokens, where the arguments are reals. -/
theorem flushed7_eq (c : Dev nD) (hh : ∀ r q, ∃ a : ℝ, hAt (xArr m c) (gArr m c) (mArr m c) r q = (a : EReal))
    (hw : ∀ k e, ∃ a : ℝ, wArr m c (ix2 k e) = (a : EReal)) (t : Fin cfg0.N) :
    (dats m 0 c).flushed 7 t = ((cfg0.win 7).blk t).view.read (Elt Ideal) (logits (xArr m c) (gArr m c) (mArr m c) (wArr m c)) := by
  rw [Value.flushed7]
  funext y
  obtain ⟨e, p, rfl⟩ : ∃ (e : Fin 64) (p : Fin 256), y = ix2 e p := ⟨y 0, y 1, eq_ix2 y⟩
  show out0_7 (iblk m c 0 t) (iblk m c 1 t) (iblk m c 2 t) (iblk m c 3 t) (iblk m c 4 t) (ix2 e p)
    = logits (xArr m c) (gArr m c) (mArr m c) (wArr m c) (((cfg0.win 7).blk t).view.emb (ix2 e p))
  rw [emb7, out7_eq, pay1_apply]
  simp only [tile_row, iblk4_apply]
  exact split_eq (fun k => wArr m c (ix2 k e)) (fun k => hAt (xArr m c) (gArr m c) (mArr m c) (rowAt t p) k) (fun k => hw k e) (fun k => hh _ k)

/-- The normalised rows after the run. -/
theorem final_h (c : Dev nD) : (dats m 0 c).arrAt 5 cfg0.N = normed (xArr m c) (gArr m c) (mArr m c) :=
  (dats m 0 c).arrAt_eq_of_cover 5 _ (fun t _ => flushed5_eq m c t) fun i => by
    have h0 : (i 0).val < 8192 := (i 0).isLt
    have ht : (i 0).val / 256 < cfg0.N := by rw [show cfg0.N = 32 from N_0]; omega
    refine ⟨⟨(i 0).val / 256, ht⟩, flush5 _, ?_⟩
    have := ((cfg0.win 5).blk ⟨(i 0).val / 256, ht⟩).view.emb_mem_set (ix2 (⟨(i 0).val % 256, by omega⟩ : Fin 256) (i 1 : Fin 4096))
    have he : (ix2 (rowAt ⟨(i 0).val / 256, ht⟩ ⟨(i 0).val % 256, by omega⟩) (i 1 : Fin 4096) : S8192x4096.Idx) = i := by
      funext a; apply Fin.ext
      match a with
      | ⟨0, _⟩ => show (i 0).val / 256 * 256 + (i 0).val % 256 = (i 0).val; omega
      | ⟨1, _⟩ => rfl
    exact Eq.mp (congrArg (· ∈ ((cfg0.win 5).blk ⟨(i 0).val / 256, ht⟩).view.set) ((emb5 ⟨(i 0).val / 256, ht⟩ ⟨(i 0).val % 256, by omega⟩ (i 1)).trans he)) this

/-- The logits after the run. -/
theorem final_l (c : Dev nD) (hh : ∀ r q, ∃ a : ℝ, hAt (xArr m c) (gArr m c) (mArr m c) r q = (a : EReal))
    (hw : ∀ k e, ∃ a : ℝ, wArr m c (ix2 k e) = (a : EReal)) :
    (dats m 0 c).arrAt 7 cfg0.N = logits (xArr m c) (gArr m c) (mArr m c) (wArr m c) :=
  (dats m 0 c).arrAt_eq_of_cover 7 _ (fun t _ => flushed7_eq m c hh hw t) fun i => by
    have h1 : (i 1).val < 8192 := (i 1).isLt
    have ht : (i 1).val / 256 < cfg0.N := by rw [show cfg0.N = 32 from N_0]; omega
    refine ⟨⟨(i 1).val / 256, ht⟩, flush7 _, ?_⟩
    have := ((cfg0.win 7).blk ⟨(i 1).val / 256, ht⟩).view.emb_mem_set (ix2 (i 0 : Fin 64) (⟨(i 1).val % 256, by omega⟩ : Fin 256))
    have he : (ix2 (i 0 : Fin 64) (rowAt ⟨(i 1).val / 256, ht⟩ ⟨(i 1).val % 256, by omega⟩) : S64x8192.Idx) = i := by
      funext a; apply Fin.ext
      match a with
      | ⟨0, _⟩ => rfl
      | ⟨1, _⟩ => show (i 1).val / 256 * 256 + (i 1).val % 256 = (i 1).val; omega
    exact Eq.mp (congrArg (· ∈ ((cfg0.win 7).blk ⟨(i 1).val / 256, ht⟩).view.set) ((emb7 ⟨(i 1).val / 256, ht⟩ (i 0) ⟨(i 1).val % 256, by omega⟩).trans he)) this

end Cert.FfnNormIdeal.Proved

namespace Cert.FfnNormRefIdeal.Proved

open Cert.FfnNormRefIdeal Cert.FfnNormRefIdeal.Gen
open Cert.FfnNormIdeal.Proved (hAt normed logits seqOf modCol_real)
open Cert.ModulateRefIdeal.Proved (z0 o1)
open Cert.QkvRefIdeal.Proved (real_of_abs_lt)

variable (x : Vec Ideal S8192x4096 .f32) (g : Vec Ideal S4096 .f32) (mo : Vec Ideal S4x24576 .f32) (w : Vec Ideal S4096x64 .f32)

/-- The reference's normalised rows, at an index. -/
theorem row_eq (p : Fin 8192) (q : Fin 4096) : Read.val_main_v24 (F := Ideal) x g mo (ix2 p q) = hAt x g mo p q := by
  have h24 : Read.idx_main_v24 (ix2 p q) = ix3 (seqOf p) (⟨p.val % 2048, by omega⟩ : Fin 2048) q := funext fun a => Fin.ext (by
    match a with
    | ⟨0, _⟩ => show (p.val * 4096 + q.val) / 8388608 = p.val / 2048; omega
    | ⟨1, _⟩ => show (p.val * 4096 + q.val) / 4096 % 2048 = p.val % 2048; omega
    | ⟨2, _⟩ => show (p.val * 4096 + q.val) % 4096 = q.val; omega)
  have h4 : ∀ k : Fin 4096, Read.idx_main_v4 (ix3 (seqOf p) (⟨p.val % 2048, by omega⟩ : Fin 2048) k) = ix2 p k := fun k => funext fun a => Fin.ext (by
    match a with
    | ⟨0, _⟩ => show ((p.val / 2048 * 2048 + p.val % 2048) * 4096 + k.val) / 4096 = p.val; omega
    | ⟨1, _⟩ => show ((p.val / 2048 * 2048 + p.val % 2048) * 4096 + k.val) % 4096 = k.val; omega)
  have hg : ∀ (b : Fin 4) (r : Fin 2048), Read.idx_main_v15 (Read.idx_main_v16 (ix3 b r q)) = ix1 q := fun b r => funext fun a => by match a with | ⟨0, _⟩ => rfl
  have hs : ∀ (b : Fin 4) (r : Fin 2048), Read.idx_main_v0 (Read.idx_main_v1 (Read.idx_main_v22 (ix3 b r q))) = ix2 b ⟨12288 + q.val, by omega⟩ := fun b r => funext fun a => by
    match a with | ⟨0, _⟩ => rfl | ⟨1, _⟩ => rfl
  have ha : ∀ (b : Fin 4) (r : Fin 2048), Read.idx_main_v2 (Read.idx_main_v3 (Read.idx_main_v20 (ix3 b r q))) = ix2 b ⟨16384 + q.val, by omega⟩ := fun b r => funext fun a => by
    match a with | ⟨0, _⟩ => rfl | ⟨1, _⟩ => rfl
  have hx : ∀ (b : Fin 4) (r : Fin 2048) (k : Fin 4096), Read.idx_main_v6 (Read.idx_main_v7 (Read.idx_main_v13 (ix3 b r q))) k = ix3 b r k := fun b r k => funext fun a => by
    match a with | ⟨0, _⟩ => rfl | ⟨1, _⟩ => rfl | ⟨2, _⟩ => rfl
  simp only [Read.val_main_v24_apply, h24, Read.val_main_v23_apply, Read.val_main_v22_apply, Read.val_main_v21_apply, Read.val_main_v20_apply, Read.val_main_v19_apply, Read.val_main_v18_apply,
    Read.val_main_v17_apply, Read.val_main_v16_apply, Read.val_main_v15_apply, Read.val_main_v14_apply, Read.val_main_v13_apply, Read.val_main_v12_apply, Read.val_main_v11_apply, Read.val_main_v10_apply,
    Read.val_main_v9_apply, Read.val_main_v8_apply, Read.val_main_v7_apply, Read.val_main_v6_apply, Read.val_main_v5_apply, Read.val_main_v4_apply, Read.val_main_v3_apply, Read.val_main_v2_apply,
    Read.val_main_v1_apply, Read.val_main_v0_apply, Read.val_main_cst_apply, Read.val_main_cst_0_apply, Read.val_main_cst_1_apply, Read.val_main_cst_2_apply, hg, hs, ha, hx, h4, z0, o1, zero_add]
  rfl

theorem ref_h : Read.val_main_v25 (F := Ideal) x g mo = normed x g mo := by
  funext i
  obtain ⟨p, q, rfl⟩ : ∃ (p : Fin 8192) (q : Fin 4096), i = ix2 p q := ⟨i 0, i 1, eq_ix2 i⟩
  exact (Read.val_main_v25_apply x g mo _).trans (row_eq x g mo p q)

theorem ref_l : Read.val_main_v27 (F := Ideal) x g mo w = logits x g mo w := by
  funext i
  obtain ⟨e, p, rfl⟩ : ∃ (e : Fin 64) (p : Fin 8192), i = ix2 e p := ⟨i 0, i 1, eq_ix2 i⟩
  rw [Read.val_main_v27_apply, Read.val_main_v26_apply]
  refine Finset.sum_congr rfl fun k _ => ?_
  have hl : Read.lidx_main_v26 (Read.idx_main_v27 (ix2 e p)) k = ix2 p k := funext fun a => by match a with | ⟨0, _⟩ => rfl | ⟨1, _⟩ => rfl
  have hr : Read.ridx_main_v26 (Read.idx_main_v27 (ix2 e p)) k = ix2 k e := funext fun a => by match a with | ⟨0, _⟩ => rfl | ⟨1, _⟩ => rfl
  rw [hl, hr, row_eq]
  rfl

/-- What the precondition says of the normalised rows: they are reals. -/
theorem h_real (hp : (@Cert.Pre_finite_ffn.fn Cert.Pre_finite_ffn.Gen.facts Ideal _ x g mo w).1 = fun _ => 1#1)
    (hq : (@Cert.Pre_finite_ffn.fn Cert.Pre_finite_ffn.Gen.facts Ideal _ x g mo w).2.1 = fun _ => 1#1)
    (hr : (@Cert.Pre_finite_ffn.fn Cert.Pre_finite_ffn.Gen.facts Ideal _ x g mo w).2.2.1 = fun _ => 1#1) (r : Fin 8192) (q : Fin 4096) :
    ∃ a : ℝ, hAt x g mo r q = (a : EReal) := by
  have hm : ∀ (b : Fin 4) (j : Fin 8192), ∃ a : ℝ, mo (ix2 b (⟨12288 + j.val, by omega⟩ : Fin 24576)) = (a : EReal) := fun b j => by
    have e : extractStridedSlice (⟨2, ![4, 8192]⟩ : Shape) ![0, 12288] mo Cert.Pre_finite_ffn.Gen.facts.slices_S4x24576_S4x8192_0_12288 (ix2 b j)
        = mo (ix2 b (⟨12288 + j.val, by omega⟩ : Fin 24576)) :=
      extractStridedSlice_apply _ _ _ _ _ (fun a => by match a with | ⟨0, _⟩ => (show b.val = 0 + b.val; omega) | ⟨1, _⟩ => rfl)
    rw [← e]
    exact real_of_abs_lt _ (congrFun hr (ix2 b j))
  refine modCol_real _ _ _ _ _ (fun k => real_of_abs_lt _ (congrFun hp (ix2 r k))) (real_of_abs_lt _ (congrFun hq (ix1 q))) ?_ (hm (seqOf r) ⟨q.val, by omega⟩)
  obtain ⟨a, h⟩ := hm (seqOf r) ⟨4096 + q.val, by omega⟩
  refine ⟨a, Eq.trans (congrArg (fun j : Fin 24576 => mo (ix2 (seqOf r) j)) (Fin.ext ?_)) h⟩
  show 16384 + q.val = 12288 + (4096 + q.val)
  omega

/-- What the precondition says of the router's weights: they are reals. -/
theorem w_real (hp : (@Cert.Pre_finite_ffn.fn Cert.Pre_finite_ffn.Gen.facts Ideal _ x g mo w).2.2.2 = fun _ => 1#1) (k : Fin 4096) (e : Fin 64) :
    ∃ a : ℝ, w (ix2 k e) = (a : EReal) :=
  real_of_abs_lt _ (congrFun hp (ix2 k e))

end Cert.FfnNormRefIdeal.Proved

namespace Cert.FfnNormClaim

open Cert.FfnNormIdeal.Proved (normed logits xArr gArr mArr wArr)

/-- The rewrites of the ideal program keep its meaning: the word array is its two halves, and a word's half is the packed number. -/
theorem preserves : Cert.preserves_FfnNorm_FfnNormIdeal :=
  ⟨IdealRules.bf16_pair.bufferStatement _ _, IdealRules.bf16_pair.bufferStatement _ _, IdealRules.bf16_pair.statement _ _, IdealRules.bf16_pack.statement _⟩

/-- The kernel's two results at the ideal instance are the reference's, at every index. -/
theorem algebraic : Cert.algebraic_FfnNormIdeal_FfnNormRefIdeal_pre_finite_ffn (hFfnNormIdeal := Cert.FfnNormIdeal.Gen.facts) (hFfnNormRefIdeal := Cert.FfnNormRefIdeal.Gen.facts)
    (hPre_finite_ffn := Cert.Pre_finite_ffn.Gen.facts) :=
  fun m ρ m' ρ' hpre hag =>
    ⟨fun c => normed (xArr m c) (gArr m c) (mArr m c), fun c => logits (xArr m c) (gArr m c) (mArr m c) (wArr m c),
      (θ_run (Cert.FfnNormIdeal.defs (F := Ideal)) _ _).mono
        (fun _ h c => ⟨(h c).1.trans (Cert.FfnNormIdeal.Proved.final_h m c),
          (h c).2.2.1.trans (Cert.FfnNormIdeal.Proved.final_l m c
            (Cert.FfnNormRefIdeal.Proved.h_real _ _ _ _ (hpre c).1 (hpre c).2.1 (hpre c).2.2.1)
            (Cert.FfnNormRefIdeal.Proved.w_real _ _ _ _ (hpre c).2.2.2)), (h c).2.2.2⟩) (Cert.FfnNormIdeal.Value.run_blocks m ρ),
      (θ_run (Cert.FfnNormRefIdeal.defs (F := Ideal)) _ _).mono
        (fun _ h c => by
          obtain ⟨g0, g1, g2, g3⟩ := hag c
          refine ⟨(h c).1.trans ?_, (h c).2.1.trans ?_, (h c).2.2⟩
          · rw [g0, g1, g2]
            exact (Cert.FfnNormRefIdeal.Read.val_main_v25_eq _ _ _).trans (Cert.FfnNormRefIdeal.Proved.ref_h _ _ _)
          · rw [g0, g1, g2, g3]
            exact (Cert.FfnNormRefIdeal.Read.val_main_v27_eq _ _ _ _).trans (Cert.FfnNormRefIdeal.Proved.ref_l _ _ _ _))
        (Cert.FfnNormRefIdeal.Value.run m' ρ')⟩

end Cert.FfnNormClaim
end
-- ==== Proof.lean ====
/-
  The certificate: the frames of every program, the transcriptions, and the value claims, put together. A kernel's frame is
  the run the generated modules write; a reference's is its value run, its results forgotten, with no semaphore to count;
  the value claims are proved one module to a program.
-/
module

public import proofs.«01_k».proof.Defs
public import proofs.«01_k».proof.Proof.Gen.Kernel.Frame
public import proofs.«01_k».proof.Proof.Gen.KernelIdeal.Frame
public import proofs.«01_k».proof.Proof.AttnValue
public import proofs.«01_k».proof.Proof.Gen.Qkv.Frame
public import proofs.«01_k».proof.Proof.Gen.QkvIdeal.Frame
public import proofs.«01_k».proof.Proof.QkvValue
public import proofs.«01_k».proof.Proof.Gen.Ugv.Frame
public import proofs.«01_k».proof.Proof.Gen.UgvIdeal.Frame
public import proofs.«01_k».proof.Proof.UgvValue
public import proofs.«01_k».proof.Proof.Gen.Gates.Frame
public import proofs.«01_k».proof.Proof.Gen.GatesIdeal.Frame
public import proofs.«01_k».proof.Proof.GatesValue
public import proofs.«01_k».proof.Proof.Gen.Merge.Frame
public import proofs.«01_k».proof.Proof.Gen.MergeIdeal.Frame
public import proofs.«01_k».proof.Proof.MergeValue
public import proofs.«01_k».proof.Proof.Gen.OutProj.Frame
public import proofs.«01_k».proof.Proof.Gen.OutProjIdeal.Frame
public import proofs.«01_k».proof.Proof.OutProjValue
public import proofs.«01_k».proof.Proof.Gen.SharedUp.Frame
public import proofs.«01_k».proof.Proof.Gen.SharedUpIdeal.Frame
public import proofs.«01_k».proof.Proof.SharedUpValue
public import proofs.«01_k».proof.Proof.Gen.SharedDown.Frame
public import proofs.«01_k».proof.Proof.Gen.SharedDownIdeal.Frame
public import proofs.«01_k».proof.Proof.SharedDownValue
public import proofs.«01_k».proof.Proof.Gen.Adaln.Frame
public import proofs.«01_k».proof.Proof.Gen.AdalnIdeal.Frame
public import proofs.«01_k».proof.Proof.AdalnValue
public import proofs.«01_k».proof.Proof.Gen.Modulate.Frame
public import proofs.«01_k».proof.Proof.Gen.ModulateIdeal.Frame
public import proofs.«01_k».proof.Proof.ModulateValue
public import proofs.«01_k».proof.Proof.Gen.GmlpPrompt.Frame
public import proofs.«01_k».proof.Proof.Gen.GmlpPromptIdeal.Frame
public import proofs.«01_k».proof.Proof.GmlpPromptValue
public import proofs.«01_k».proof.Proof.Gen.GmlpSample.Frame
public import proofs.«01_k».proof.Proof.Gen.GmlpSampleIdeal.Frame
public import proofs.«01_k».proof.Proof.GmlpSampleValue
public import proofs.«01_k».proof.Proof.Gen.AttnSample.Frame
public import proofs.«01_k».proof.Proof.Gen.AttnSampleIdeal.Frame
public import proofs.«01_k».proof.Proof.AttnSampleValue
public import proofs.«01_k».proof.Proof.Gen.SampleModulate.Frame
public import proofs.«01_k».proof.Proof.Gen.SampleModulateIdeal.Frame
public import proofs.«01_k».proof.Proof.SampleModulateValue
public import proofs.«01_k».proof.Proof.Gen.SampleQkv.Frame
public import proofs.«01_k».proof.Proof.Gen.SampleQkvIdeal.Frame
public import proofs.«01_k».proof.Proof.SampleQkvValue
public import proofs.«01_k».proof.Proof.Gen.SampleUgv.Frame
public import proofs.«01_k».proof.Proof.Gen.SampleUgvIdeal.Frame
public import proofs.«01_k».proof.Proof.SampleUgvValue
public import proofs.«01_k».proof.Proof.Gen.FfnNorm.Frame
public import proofs.«01_k».proof.Proof.Gen.FfnNormIdeal.Frame
public import proofs.«01_k».proof.Proof.FfnNormValue
public import proofs.«01_k».proof.Proof.Gen.Pre_finite_qk
public import proofs.«01_k».proof.Proof.Gen.Pre_finite_hw
public import proofs.«01_k».proof.Proof.Gen.Pre_finite_qkv
public import proofs.«01_k».proof.Proof.Gen.Pre_finite_hw_sample
public import proofs.«01_k».proof.Proof.Gen.Pre_finite_ffn
public import Idealize.ShloMosaic.Lib.Quiescent

@[expose] public section

noncomputable section

open Idealize.ShloMosaic Idealize.SL.Sem

namespace Cert.Proof

theorem kernel_frame : Cert.quiescent_Kernel (hKernel := Cert.Kernel.Gen.facts) := fun m ρ _ => Cert.Kernel.Gen.frame m ρ

theorem kernel_ideal_frame : Cert.quiescent_KernelIdeal (hKernelIdeal := Cert.KernelIdeal.Gen.facts) := fun m ρ _ => Cert.KernelIdeal.Gen.frame m ρ

theorem kernel_ref_frame : Cert.quiescent_ReferenceIdeal (hReferenceIdeal := Cert.ReferenceIdeal.Gen.facts) :=
  fun m ρ _ => (θ_run (Cert.ReferenceIdeal.defs (F := Ideal)) _ _).mono
    (fun r h => ⟨fun c => (h c).2, Idealize.ShloMosaic.sem_eq_zero_of_no_sems (by decide) r.2⟩) (Cert.ReferenceIdeal.Value.run (F := Ideal) m ρ)

theorem qkv_frame : Cert.quiescent_Qkv (hQkv := Cert.Qkv.Gen.facts) := fun m ρ _ => Cert.Qkv.Gen.frame m ρ

theorem qkv_ideal_frame : Cert.quiescent_QkvIdeal (hQkvIdeal := Cert.QkvIdeal.Gen.facts) := fun m ρ _ => Cert.QkvIdeal.Gen.frame m ρ

theorem qkv_ref_frame : Cert.quiescent_QkvRefIdeal (hQkvRefIdeal := Cert.QkvRefIdeal.Gen.facts) :=
  fun m ρ _ => (θ_run (Cert.QkvRefIdeal.defs (F := Ideal)) _ _).mono
    (fun r h => ⟨fun c => (h c).2, Idealize.ShloMosaic.sem_eq_zero_of_no_sems (by decide) r.2⟩) (Cert.QkvRefIdeal.Value.run (F := Ideal) m ρ)

theorem ugv_frame : Cert.quiescent_Ugv (hUgv := Cert.Ugv.Gen.facts) := fun m ρ _ => Cert.Ugv.Gen.frame m ρ

theorem ugv_ideal_frame : Cert.quiescent_UgvIdeal (hUgvIdeal := Cert.UgvIdeal.Gen.facts) := fun m ρ _ => Cert.UgvIdeal.Gen.frame m ρ

theorem ugv_ref_frame : Cert.quiescent_UgvRefIdeal (hUgvRefIdeal := Cert.UgvRefIdeal.Gen.facts) :=
  fun m ρ _ => (θ_run (Cert.UgvRefIdeal.defs (F := Ideal)) _ _).mono
    (fun r h => ⟨fun c => (h c).2, Idealize.ShloMosaic.sem_eq_zero_of_no_sems (by decide) r.2⟩) (Cert.UgvRefIdeal.Value.run (F := Ideal) m ρ)

theorem gates_frame : Cert.quiescent_Gates (hGates := Cert.Gates.Gen.facts) := fun m ρ _ => Cert.Gates.Gen.frame m ρ

theorem gates_ideal_frame : Cert.quiescent_GatesIdeal (hGatesIdeal := Cert.GatesIdeal.Gen.facts) := fun m ρ _ => Cert.GatesIdeal.Gen.frame m ρ

theorem gates_ref_frame : Cert.quiescent_GatesRefIdeal (hGatesRefIdeal := Cert.GatesRefIdeal.Gen.facts) :=
  fun m ρ _ => (θ_run (Cert.GatesRefIdeal.defs (F := Ideal)) _ _).mono
    (fun r h => ⟨fun c => (h c).2, Idealize.ShloMosaic.sem_eq_zero_of_no_sems (by decide) r.2⟩) (Cert.GatesRefIdeal.Value.run (F := Ideal) m ρ)

theorem merge_frame : Cert.quiescent_Merge (hMerge := Cert.Merge.Gen.facts) := fun m ρ _ => Cert.Merge.Gen.frame m ρ

theorem merge_ideal_frame : Cert.quiescent_MergeIdeal (hMergeIdeal := Cert.MergeIdeal.Gen.facts) := fun m ρ _ => Cert.MergeIdeal.Gen.frame m ρ

theorem merge_ref_frame : Cert.quiescent_MergeRefIdeal (hMergeRefIdeal := Cert.MergeRefIdeal.Gen.facts) :=
  fun m ρ _ => (θ_run (Cert.MergeRefIdeal.defs (F := Ideal)) _ _).mono
    (fun r h => ⟨fun c => (h c).2, Idealize.ShloMosaic.sem_eq_zero_of_no_sems (by decide) r.2⟩) (Cert.MergeRefIdeal.Value.run (F := Ideal) m ρ)

theorem outproj_frame : Cert.quiescent_OutProj (hOutProj := Cert.OutProj.Gen.facts) := fun m ρ _ => Cert.OutProj.Gen.frame m ρ

theorem outproj_ideal_frame : Cert.quiescent_OutProjIdeal (hOutProjIdeal := Cert.OutProjIdeal.Gen.facts) := fun m ρ _ => Cert.OutProjIdeal.Gen.frame m ρ

theorem outproj_ref_frame : Cert.quiescent_OutProjRefIdeal (hOutProjRefIdeal := Cert.OutProjRefIdeal.Gen.facts) :=
  fun m ρ _ => (θ_run (Cert.OutProjRefIdeal.defs (F := Ideal)) _ _).mono
    (fun r h => ⟨fun c => (h c).2, Idealize.ShloMosaic.sem_eq_zero_of_no_sems (by decide) r.2⟩) (Cert.OutProjRefIdeal.Value.run (F := Ideal) m ρ)

theorem sharedup_frame : Cert.quiescent_SharedUp (hSharedUp := Cert.SharedUp.Gen.facts) := fun m ρ _ => Cert.SharedUp.Gen.frame m ρ

theorem sharedup_ideal_frame : Cert.quiescent_SharedUpIdeal (hSharedUpIdeal := Cert.SharedUpIdeal.Gen.facts) := fun m ρ _ => Cert.SharedUpIdeal.Gen.frame m ρ

theorem sharedup_ref_frame : Cert.quiescent_SharedUpRefIdeal (hSharedUpRefIdeal := Cert.SharedUpRefIdeal.Gen.facts) :=
  fun m ρ _ => (θ_run (Cert.SharedUpRefIdeal.defs (F := Ideal)) _ _).mono
    (fun r h => ⟨fun c => (h c).2, Idealize.ShloMosaic.sem_eq_zero_of_no_sems (by decide) r.2⟩) (Cert.SharedUpRefIdeal.Value.run (F := Ideal) m ρ)

theorem shareddown_frame : Cert.quiescent_SharedDown (hSharedDown := Cert.SharedDown.Gen.facts) := fun m ρ _ => Cert.SharedDown.Gen.frame m ρ

theorem shareddown_ideal_frame : Cert.quiescent_SharedDownIdeal (hSharedDownIdeal := Cert.SharedDownIdeal.Gen.facts) := fun m ρ _ => Cert.SharedDownIdeal.Gen.frame m ρ

theorem shareddown_ref_frame : Cert.quiescent_SharedDownRefIdeal (hSharedDownRefIdeal := Cert.SharedDownRefIdeal.Gen.facts) :=
  fun m ρ _ => (θ_run (Cert.SharedDownRefIdeal.defs (F := Ideal)) _ _).mono
    (fun r h => ⟨fun c => (h c).2, Idealize.ShloMosaic.sem_eq_zero_of_no_sems (by decide) r.2⟩) (Cert.SharedDownRefIdeal.Value.run (F := Ideal) m ρ)

theorem adaln_frame : Cert.quiescent_Adaln (hAdaln := Cert.Adaln.Gen.facts) := fun m ρ _ => Cert.Adaln.Gen.frame m ρ

theorem adaln_ideal_frame : Cert.quiescent_AdalnIdeal (hAdalnIdeal := Cert.AdalnIdeal.Gen.facts) := fun m ρ _ => Cert.AdalnIdeal.Gen.frame m ρ

theorem adaln_ref_frame : Cert.quiescent_AdalnRefIdeal (hAdalnRefIdeal := Cert.AdalnRefIdeal.Gen.facts) :=
  fun m ρ _ => (θ_run (Cert.AdalnRefIdeal.defs (F := Ideal)) _ _).mono
    (fun r h => ⟨fun c => (h c).2, Idealize.ShloMosaic.sem_eq_zero_of_no_sems (by decide) r.2⟩) (Cert.AdalnRefIdeal.Value.run (F := Ideal) m ρ)

theorem modulate_frame : Cert.quiescent_Modulate (hModulate := Cert.Modulate.Gen.facts) := fun m ρ _ => Cert.Modulate.Gen.frame m ρ

theorem modulate_ideal_frame : Cert.quiescent_ModulateIdeal (hModulateIdeal := Cert.ModulateIdeal.Gen.facts) := fun m ρ _ => Cert.ModulateIdeal.Gen.frame m ρ

theorem modulate_ref_frame : Cert.quiescent_ModulateRefIdeal (hModulateRefIdeal := Cert.ModulateRefIdeal.Gen.facts) :=
  fun m ρ _ => (θ_run (Cert.ModulateRefIdeal.defs (F := Ideal)) _ _).mono
    (fun r h => ⟨fun c => (h c).2, Idealize.ShloMosaic.sem_eq_zero_of_no_sems (by decide) r.2⟩) (Cert.ModulateRefIdeal.Value.run (F := Ideal) m ρ)

theorem gmlpprompt_frame : Cert.quiescent_GmlpPrompt (hGmlpPrompt := Cert.GmlpPrompt.Gen.facts) := fun m ρ _ => Cert.GmlpPrompt.Gen.frame m ρ

theorem gmlpprompt_ideal_frame : Cert.quiescent_GmlpPromptIdeal (hGmlpPromptIdeal := Cert.GmlpPromptIdeal.Gen.facts) := fun m ρ _ => Cert.GmlpPromptIdeal.Gen.frame m ρ

theorem gmlpprompt_ref_frame : Cert.quiescent_GmlpPromptRefIdeal (hGmlpPromptRefIdeal := Cert.GmlpPromptRefIdeal.Gen.facts) :=
  fun m ρ _ => (θ_run (Cert.GmlpPromptRefIdeal.defs (F := Ideal)) _ _).mono
    (fun r h => ⟨fun c => (h c).2, Idealize.ShloMosaic.sem_eq_zero_of_no_sems (by decide) r.2⟩) (Cert.GmlpPromptRefIdeal.Value.run (F := Ideal) m ρ)

theorem gmlpsample_frame : Cert.quiescent_GmlpSample (hGmlpSample := Cert.GmlpSample.Gen.facts) := fun m ρ _ => Cert.GmlpSample.Gen.frame m ρ

theorem gmlpsample_ideal_frame : Cert.quiescent_GmlpSampleIdeal (hGmlpSampleIdeal := Cert.GmlpSampleIdeal.Gen.facts) := fun m ρ _ => Cert.GmlpSampleIdeal.Gen.frame m ρ

theorem gmlpsample_ref_frame : Cert.quiescent_GmlpSampleRefIdeal (hGmlpSampleRefIdeal := Cert.GmlpSampleRefIdeal.Gen.facts) :=
  fun m ρ _ => (θ_run (Cert.GmlpSampleRefIdeal.defs (F := Ideal)) _ _).mono
    (fun r h => ⟨fun c => (h c).2.2, Idealize.ShloMosaic.sem_eq_zero_of_no_sems (by decide) r.2⟩) (Cert.GmlpSampleRefIdeal.Value.run (F := Ideal) m ρ)

theorem attnsample_frame : Cert.quiescent_AttnSample (hAttnSample := Cert.AttnSample.Gen.facts) := fun m ρ _ => Cert.AttnSample.Gen.frame m ρ

theorem attnsample_ideal_frame : Cert.quiescent_AttnSampleIdeal (hAttnSampleIdeal := Cert.AttnSampleIdeal.Gen.facts) := fun m ρ _ => Cert.AttnSampleIdeal.Gen.frame m ρ

theorem attnsample_ref_frame : Cert.quiescent_AttnSampleRefIdeal (hAttnSampleRefIdeal := Cert.AttnSampleRefIdeal.Gen.facts) :=
  fun m ρ _ => (θ_run (Cert.AttnSampleRefIdeal.defs (F := Ideal)) _ _).mono
    (fun r h => ⟨fun c => (h c).2.2.2, Idealize.ShloMosaic.sem_eq_zero_of_no_sems (by decide) r.2⟩) (Cert.AttnSampleRefIdeal.Value.run (F := Ideal) m ρ)

theorem samplemodulate_frame : Cert.quiescent_SampleModulate (hSampleModulate := Cert.SampleModulate.Gen.facts) := fun m ρ _ => Cert.SampleModulate.Gen.frame m ρ

theorem samplemodulate_ideal_frame : Cert.quiescent_SampleModulateIdeal (hSampleModulateIdeal := Cert.SampleModulateIdeal.Gen.facts) := fun m ρ _ => Cert.SampleModulateIdeal.Gen.frame m ρ

theorem samplemodulate_ref_frame : Cert.quiescent_SampleModulateRefIdeal (hSampleModulateRefIdeal := Cert.SampleModulateRefIdeal.Gen.facts) :=
  fun m ρ _ => (θ_run (Cert.SampleModulateRefIdeal.defs (F := Ideal)) _ _).mono
    (fun r h => ⟨fun c => (h c).2, Idealize.ShloMosaic.sem_eq_zero_of_no_sems (by decide) r.2⟩) (Cert.SampleModulateRefIdeal.Value.run (F := Ideal) m ρ)

theorem sampleqkv_frame : Cert.quiescent_SampleQkv (hSampleQkv := Cert.SampleQkv.Gen.facts) := fun m ρ _ => Cert.SampleQkv.Gen.frame m ρ

theorem sampleqkv_ideal_frame : Cert.quiescent_SampleQkvIdeal (hSampleQkvIdeal := Cert.SampleQkvIdeal.Gen.facts) := fun m ρ _ => Cert.SampleQkvIdeal.Gen.frame m ρ

theorem sampleqkv_ref_frame : Cert.quiescent_SampleQkvRefIdeal (hSampleQkvRefIdeal := Cert.SampleQkvRefIdeal.Gen.facts) :=
  fun m ρ _ => (θ_run (Cert.SampleQkvRefIdeal.defs (F := Ideal)) _ _).mono
    (fun r h => ⟨fun c => (h c).2, Idealize.ShloMosaic.sem_eq_zero_of_no_sems (by decide) r.2⟩) (Cert.SampleQkvRefIdeal.Value.run (F := Ideal) m ρ)

theorem sampleugv_frame : Cert.quiescent_SampleUgv (hSampleUgv := Cert.SampleUgv.Gen.facts) := fun m ρ _ => Cert.SampleUgv.Gen.frame m ρ

theorem sampleugv_ideal_frame : Cert.quiescent_SampleUgvIdeal (hSampleUgvIdeal := Cert.SampleUgvIdeal.Gen.facts) := fun m ρ _ => Cert.SampleUgvIdeal.Gen.frame m ρ

theorem sampleugv_ref_frame : Cert.quiescent_SampleUgvRefIdeal (hSampleUgvRefIdeal := Cert.SampleUgvRefIdeal.Gen.facts) :=
  fun m ρ _ => (θ_run (Cert.SampleUgvRefIdeal.defs (F := Ideal)) _ _).mono
    (fun r h => ⟨fun c => (h c).2, Idealize.ShloMosaic.sem_eq_zero_of_no_sems (by decide) r.2⟩) (Cert.SampleUgvRefIdeal.Value.run (F := Ideal) m ρ)

theorem ffnnorm_frame : Cert.quiescent_FfnNorm (hFfnNorm := Cert.FfnNorm.Gen.facts) := fun m ρ _ => Cert.FfnNorm.Gen.frame m ρ

theorem ffnnorm_ideal_frame : Cert.quiescent_FfnNormIdeal (hFfnNormIdeal := Cert.FfnNormIdeal.Gen.facts) := fun m ρ _ => Cert.FfnNormIdeal.Gen.frame m ρ

theorem ffnnorm_ref_frame : Cert.quiescent_FfnNormRefIdeal (hFfnNormRefIdeal := Cert.FfnNormRefIdeal.Gen.facts) :=
  fun m ρ _ => (θ_run (Cert.FfnNormRefIdeal.defs (F := Ideal)) _ _).mono
    (fun r h => ⟨fun c => (h c).2.2, Idealize.ShloMosaic.sem_eq_zero_of_no_sems (by decide) r.2⟩) (Cert.FfnNormRefIdeal.Value.run (F := Ideal) m ρ)

theorem claim : Cert.Claim :=
  ⟨Cert.Kernel.Gen.facts, Cert.KernelIdeal.Gen.facts, Cert.ReferenceIdeal.Gen.facts,
    Cert.Qkv.Gen.facts, Cert.QkvIdeal.Gen.facts, Cert.QkvRefIdeal.Gen.facts,
    Cert.Ugv.Gen.facts, Cert.UgvIdeal.Gen.facts, Cert.UgvRefIdeal.Gen.facts,
    Cert.Gates.Gen.facts, Cert.GatesIdeal.Gen.facts, Cert.GatesRefIdeal.Gen.facts,
    Cert.Merge.Gen.facts, Cert.MergeIdeal.Gen.facts, Cert.MergeRefIdeal.Gen.facts,
    Cert.OutProj.Gen.facts, Cert.OutProjIdeal.Gen.facts, Cert.OutProjRefIdeal.Gen.facts,
    Cert.SharedUp.Gen.facts, Cert.SharedUpIdeal.Gen.facts, Cert.SharedUpRefIdeal.Gen.facts,
    Cert.SharedDown.Gen.facts, Cert.SharedDownIdeal.Gen.facts, Cert.SharedDownRefIdeal.Gen.facts,
    Cert.Adaln.Gen.facts, Cert.AdalnIdeal.Gen.facts, Cert.AdalnRefIdeal.Gen.facts,
    Cert.Modulate.Gen.facts, Cert.ModulateIdeal.Gen.facts, Cert.ModulateRefIdeal.Gen.facts,
    Cert.GmlpPrompt.Gen.facts, Cert.GmlpPromptIdeal.Gen.facts, Cert.GmlpPromptRefIdeal.Gen.facts,
    Cert.GmlpSample.Gen.facts, Cert.GmlpSampleIdeal.Gen.facts, Cert.GmlpSampleRefIdeal.Gen.facts,
    Cert.AttnSample.Gen.facts, Cert.AttnSampleIdeal.Gen.facts, Cert.AttnSampleRefIdeal.Gen.facts,
    Cert.SampleModulate.Gen.facts, Cert.SampleModulateIdeal.Gen.facts, Cert.SampleModulateRefIdeal.Gen.facts,
    Cert.SampleQkv.Gen.facts, Cert.SampleQkvIdeal.Gen.facts, Cert.SampleQkvRefIdeal.Gen.facts,
    Cert.SampleUgv.Gen.facts, Cert.SampleUgvIdeal.Gen.facts, Cert.SampleUgvRefIdeal.Gen.facts,
    Cert.FfnNorm.Gen.facts, Cert.FfnNormIdeal.Gen.facts, Cert.FfnNormRefIdeal.Gen.facts,
    Cert.Pre_finite_qk.Gen.facts, Cert.Pre_finite_hw.Gen.facts, Cert.Pre_finite_qkv.Gen.facts,
    Cert.Pre_finite_hw_sample.Gen.facts, Cert.Pre_finite_ffn.Gen.facts,
    kernel_frame,
    kernel_ideal_frame,
    fun m ρ _ => kernel_ideal_frame m ρ trivial,
    kernel_ref_frame,
    fun m ρ _ => kernel_ref_frame m ρ trivial,
    qkv_frame,
    qkv_ideal_frame,
    fun m ρ _ => qkv_ideal_frame m ρ trivial,
    qkv_ref_frame,
    fun m ρ _ => qkv_ref_frame m ρ trivial,
    ugv_frame,
    ugv_ideal_frame,
    ugv_ref_frame,
    gates_frame,
    gates_ideal_frame,
    gates_ref_frame,
    merge_frame,
    merge_ideal_frame,
    merge_ref_frame,
    outproj_frame,
    outproj_ideal_frame,
    outproj_ref_frame,
    sharedup_frame,
    sharedup_ideal_frame,
    sharedup_ref_frame,
    shareddown_frame,
    shareddown_ideal_frame,
    shareddown_ref_frame,
    adaln_frame,
    adaln_ideal_frame,
    adaln_ref_frame,
    modulate_frame,
    modulate_ideal_frame,
    modulate_ref_frame,
    gmlpprompt_frame,
    gmlpprompt_ideal_frame,
    gmlpprompt_ref_frame,
    gmlpsample_frame,
    gmlpsample_ideal_frame,
    gmlpsample_ref_frame,
    attnsample_frame,
    attnsample_ideal_frame,
    fun m ρ _ => attnsample_ideal_frame m ρ trivial,
    attnsample_ref_frame,
    fun m ρ _ => attnsample_ref_frame m ρ trivial,
    samplemodulate_frame,
    samplemodulate_ideal_frame,
    samplemodulate_ref_frame,
    sampleqkv_frame,
    sampleqkv_ideal_frame,
    fun m ρ _ => sampleqkv_ideal_frame m ρ trivial,
    sampleqkv_ref_frame,
    fun m ρ _ => sampleqkv_ref_frame m ρ trivial,
    sampleugv_frame,
    sampleugv_ideal_frame,
    sampleugv_ref_frame,
    ffnnorm_frame,
    ffnnorm_ideal_frame,
    fun m ρ _ => ffnnorm_ideal_frame m ρ trivial,
    ffnnorm_ref_frame,
    fun m ρ _ => ffnnorm_ref_frame m ρ trivial,
    trivial,
    Cert.AttnClaim.algebraic,
    trivial,
    Cert.QkvClaim.algebraic,
    trivial,
    Cert.UgvClaim.algebraic,
    trivial,
    Cert.GatesClaim.algebraic,
    trivial,
    Cert.MergeClaim.algebraic,
    trivial,
    Cert.OutProjClaim.algebraic,
    trivial,
    Cert.SharedUpClaim.algebraic,
    trivial,
    Cert.SharedDownClaim.algebraic,
    trivial,
    Cert.AdalnClaim.algebraic,
    trivial,
    Cert.ModulateClaim.algebraic,
    trivial,
    Cert.GmlpPromptClaim.algebraic,
    trivial,
    Cert.GmlpSampleClaim.algebraic,
    trivial,
    Cert.AttnSampleClaim.algebraic,
    trivial,
    Cert.SampleModulateClaim.algebraic,
    trivial,
    Cert.SampleQkvClaim.algebraic,
    trivial,
    Cert.SampleUgvClaim.algebraic,
    Cert.FfnNormClaim.preserves,
    Cert.FfnNormClaim.algebraic⟩

end Cert.Proof

end
